-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v26)) (v3 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_v30) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14_11) = v0 c
          ∧ r.2.mem ((c.tc : Thread Cert.ReferenceIdeal.nD Cert.ReferenceIdeal.τ).loc Cert.ReferenceIdeal.main_v14_12) = v1 c
          ∧ r.2.mem ((c.tc : Thread Cert.ReferenceIdeal.nD Cert.ReferenceIdeal.τ).loc Cert.ReferenceIdeal.main_v14_7) = v2 c
          ∧ r.2.mem ((c.tc : Thread Cert.ReferenceIdeal.nD Cert.ReferenceIdeal.τ).loc Cert.ReferenceIdeal.main_v14_8) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)) (v1 : (c : Dev Cert.Kernel2Ideal.nD) → Buf (Elt Ideal) ((c.tc : Thread Cert.Kernel2Ideal.nD Cert.Kernel2Ideal.τ).loc Cert.Kernel2Ideal.main_v16)) (v2 : (c : Dev Cert.Kernel2Ideal.nD) → Buf (Elt Ideal) ((c.tc : Thread Cert.Kernel2Ideal.nD Cert.Kernel2Ideal.τ).loc Cert.Kernel2Ideal.main_v19)) (v3 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_v16) = v1 c
          ∧ r.2.mem ((c.tc : Thread Cert.Kernel2Ideal.nD Cert.Kernel2Ideal.τ).loc Cert.Kernel2Ideal.main_v19) = v2 c
          ∧ r.2.mem ((c.tc : Thread Cert.Kernel2Ideal.nD Cert.Kernel2Ideal.τ).loc Cert.Kernel2Ideal.main_v20) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_v11) = v2 c
          ∧ r.2.mem ((c.tc : Thread Cert.Reference2Ideal.nD Cert.Reference2Ideal.τ).loc Cert.Reference2Ideal.main_v6) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v30)) (v1 : (c : Dev Cert.Kernel4Ideal.nD) → Buf (Elt Ideal) ((c.tc : Thread Cert.Kernel4Ideal.nD Cert.Kernel4Ideal.τ).loc Cert.Kernel4Ideal.main_v41)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30) = v0 c
          ∧ r.2.mem ((c.tc : Thread Cert.Kernel4Ideal.nD Cert.Kernel4Ideal.τ).loc Cert.Kernel4Ideal.main_v41) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_v2) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v10)) (v1 : (c : Dev Cert.Kernel5Ideal.nD) → Buf (Elt Ideal) ((c.tc : Thread Cert.Kernel5Ideal.nD Cert.Kernel5Ideal.τ).loc Cert.Kernel5Ideal.main_v15)) (v2 : (c : Dev Cert.Kernel5Ideal.nD) → Buf (Elt Ideal) ((c.tc : Thread Cert.Kernel5Ideal.nD Cert.Kernel5Ideal.τ).loc Cert.Kernel5Ideal.main_v17)) (v3 : (c : Dev Cert.Kernel5Ideal.nD) → Buf (Elt Ideal) ((c.tc : Thread Cert.Kernel5Ideal.nD Cert.Kernel5Ideal.τ).loc Cert.Kernel5Ideal.main_v18)) (v4 : (c : Dev Cert.Kernel5Ideal.nD) → Buf (Elt Ideal) ((c.tc : Thread Cert.Kernel5Ideal.nD Cert.Kernel5Ideal.τ).loc Cert.Kernel5Ideal.main_v19)) (v5 : (c : Dev Cert.Kernel5Ideal.nD) → Buf (Elt Ideal) ((c.tc : Thread Cert.Kernel5Ideal.nD Cert.Kernel5Ideal.τ).loc Cert.Kernel5Ideal.main_v20)) (v6 : (c : Dev Cert.Kernel5Ideal.nD) → Buf (Elt Ideal) ((c.tc : Thread Cert.Kernel5Ideal.nD Cert.Kernel5Ideal.τ).loc Cert.Kernel5Ideal.main_v21)) (v7 : (c : Dev Cert.Kernel5Ideal.nD) → Buf (Elt Ideal) ((c.tc : Thread Cert.Kernel5Ideal.nD Cert.Kernel5Ideal.τ).loc Cert.Kernel5Ideal.main_v22)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_v15) = v1 c
          ∧ r.2.mem ((c.tc : Thread Cert.Kernel5Ideal.nD Cert.Kernel5Ideal.τ).loc Cert.Kernel5Ideal.main_v17) = v2 c
          ∧ r.2.mem ((c.tc : Thread Cert.Kernel5Ideal.nD Cert.Kernel5Ideal.τ).loc Cert.Kernel5Ideal.main_v18) = v3 c
          ∧ r.2.mem ((c.tc : Thread Cert.Kernel5Ideal.nD Cert.Kernel5Ideal.τ).loc Cert.Kernel5Ideal.main_v19) = v4 c
          ∧ r.2.mem ((c.tc : Thread Cert.Kernel5Ideal.nD Cert.Kernel5Ideal.τ).loc Cert.Kernel5Ideal.main_v20) = v5 c
          ∧ r.2.mem ((c.tc : Thread Cert.Kernel5Ideal.nD Cert.Kernel5Ideal.τ).loc Cert.Kernel5Ideal.main_v21) = v6 c
          ∧ r.2.mem ((c.tc : Thread Cert.Kernel5Ideal.nD Cert.Kernel5Ideal.τ).loc Cert.Kernel5Ideal.main_v22) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_v35) = v2 c
          ∧ r.2.mem ((c.tc : Thread Cert.Reference5Ideal.nD Cert.Reference5Ideal.τ).loc Cert.Reference5Ideal.main_v32) = v3 c
          ∧ r.2.mem ((c.tc : Thread Cert.Reference5Ideal.nD Cert.Reference5Ideal.τ).loc Cert.Reference5Ideal.main_v29) = v4 c
          ∧ r.2.mem ((c.tc : Thread Cert.Reference5Ideal.nD Cert.Reference5Ideal.τ).loc Cert.Reference5Ideal.main_v37) = v5 c
          ∧ r.2.mem ((c.tc : Thread Cert.Reference5Ideal.nD Cert.Reference5Ideal.τ).loc Cert.Reference5Ideal.main_v34) = v6 c
          ∧ r.2.mem ((c.tc : Thread Cert.Reference5Ideal.nD Cert.Reference5Ideal.τ).loc Cert.Reference5Ideal.main_v25) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v8)) (v1 : (c : Dev Cert.Kernel6Ideal.nD) → Buf (Elt Ideal) ((c.tc : Thread Cert.Kernel6Ideal.nD Cert.Kernel6Ideal.τ).loc Cert.Kernel6Ideal.main_v7)) (v2 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_v7) = v1 c
          ∧ r.2.mem ((c.tc : Thread Cert.Kernel6Ideal.nD Cert.Kernel6Ideal.τ).loc Cert.Kernel6Ideal.main_v10) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_v18) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v21)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v21) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v30)) (v1 : (c : Dev Cert.Kernel8Ideal.nD) → Buf (Elt Ideal) ((c.tc : Thread Cert.Kernel8Ideal.nD Cert.Kernel8Ideal.τ).loc Cert.Kernel8Ideal.main_v32)) (v2 : (c : Dev Cert.Kernel8Ideal.nD) → Buf (Elt Ideal) ((c.tc : Thread Cert.Kernel8Ideal.nD Cert.Kernel8Ideal.τ).loc Cert.Kernel8Ideal.main_v37)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v30) = v0 c
          ∧ r.2.mem ((c.tc : Thread Cert.Kernel8Ideal.nD Cert.Kernel8Ideal.τ).loc Cert.Kernel8Ideal.main_v32) = v1 c
          ∧ r.2.mem ((c.tc : Thread Cert.Kernel8Ideal.nD Cert.Kernel8Ideal.τ).loc Cert.Kernel8Ideal.main_v37) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v12) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v15)) (v1 : (c : Dev Cert.Kernel9Ideal.nD) → Buf (Elt Ideal) ((c.tc : Thread Cert.Kernel9Ideal.nD Cert.Kernel9Ideal.τ).loc Cert.Kernel9Ideal.main_v26)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v15) = v0 c
          ∧ r.2.mem ((c.tc : Thread Cert.Kernel9Ideal.nD Cert.Kernel9Ideal.τ).loc Cert.Kernel9Ideal.main_v26) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_v7) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v37)) (v1 : (c : Dev Cert.Kernel10Ideal.nD) → Buf (Elt Ideal) ((c.tc : Thread Cert.Kernel10Ideal.nD Cert.Kernel10Ideal.τ).loc Cert.Kernel10Ideal.main_v42)) (v2 : (c : Dev Cert.Kernel10Ideal.nD) → Buf (Elt Ideal) ((c.tc : Thread Cert.Kernel10Ideal.nD Cert.Kernel10Ideal.τ).loc Cert.Kernel10Ideal.main_v44)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v37) = v0 c
          ∧ r.2.mem ((c.tc : Thread Cert.Kernel10Ideal.nD Cert.Kernel10Ideal.τ).loc Cert.Kernel10Ideal.main_v42) = v1 c
          ∧ r.2.mem ((c.tc : Thread Cert.Kernel10Ideal.nD Cert.Kernel10Ideal.τ).loc Cert.Kernel10Ideal.main_v44) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v13) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v19)) (v1 : (c : Dev Cert.Kernel11Ideal.nD) → Buf (Elt Ideal) ((c.tc : Thread Cert.Kernel11Ideal.nD Cert.Kernel11Ideal.τ).loc Cert.Kernel11Ideal.main_v33)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v19) = v0 c
          ∧ r.2.mem ((c.tc : Thread Cert.Kernel11Ideal.nD Cert.Kernel11Ideal.τ).loc Cert.Kernel11Ideal.main_v33) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_v10) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_v26) = v1 c
          ∧ r.2.mem ((c.tc : Thread Cert.Reference12Ideal.nD Cert.Reference12Ideal.τ).loc Cert.Reference12Ideal.main_v7) = v2 c
          ∧ r.2.mem ((c.tc : Thread Cert.Reference12Ideal.nD Cert.Reference12Ideal.τ).loc Cert.Reference12Ideal.main_v13) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v26) = v1 c
          ∧ r.2.mem ((c.tc : Thread Cert.Reference13Ideal.nD Cert.Reference13Ideal.τ).loc Cert.Reference13Ideal.main_v7) = v2 c
          ∧ r.2.mem ((c.tc : Thread Cert.Reference13Ideal.nD Cert.Reference13Ideal.τ).loc Cert.Reference13Ideal.main_v13) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v26) = v1 c
          ∧ r.2.mem ((c.tc : Thread Cert.Reference14Ideal.nD Cert.Reference14Ideal.τ).loc Cert.Reference14Ideal.main_v7) = v2 c
          ∧ r.2.mem ((c.tc : Thread Cert.Reference14Ideal.nD Cert.Reference14Ideal.τ).loc Cert.Reference14Ideal.main_v13) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v13) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite2 : Cert.Pre_finite2.Facts) (hPre_finite10 : Cert.Pre_finite10.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S2048x64x64 : Shape := ⟨3, ![2048, 64, 64]⟩
abbrev S64x64 : Shape := ⟨2, ![64, 64]⟩
abbrev S_ : Shape := ⟨0, ![]⟩

class Facts : Prop where
  bcast_S_S2048x64x64 : S_.BroadcastsInDim S2048x64x64 (![] : Fin 0 → Fin S2048x64x64.rank)
  reducesTo_S2048x64x64_S_d0_1_2 : S2048x64x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S2048x64x64 .f32) (main_arg5 : FVec F S2048x64x64 .f32) (main_v3 : IVec S_ 1) (main_v7 : IVec S_ 1) (main_v11 : IVec S_ 1) (main_v15 : IVec S_ 1) : IVec S_ 1 :=
  let main_v16 : FVec F S2048x64x64 .f32 := Host.absf main_arg4
  let main_cst_6 : FVec F S_ .f32 := constant S_ .f32 0x7F800000#32
  let main_v17 : FVec F S2048x64x64 .f32 := broadcastInDim S2048x64x64 ![] bcast_S_S2048x64x64 main_cst_6
  let main_v18 : IVec S2048x64x64 1 := cmpf .olt main_v16 main_v17
  let main_c_7 : IVec S_ 1 := constantI S_ 1 1#1
  let main_v19 : IVec S_ 1 := (fun x v => Host.reduce IntOp.andi x v reducesTo_S2048x64x64_S_d0_1_2 h_S_) main_v18 main_c_7
  let main_v20 : FVec F S2048x64x64 .f32 := Host.absf main_arg5
  let main_cst_8 : FVec F S_ .f32 := constant S_ .f32 0x7F800000#32
  let main_v21 : FVec F S2048x64x64 .f32 := broadcastInDim S2048x64x64 ![] bcast_S_S2048x64x64 main_cst_8
  let main_v22 : IVec S2048x64x64 1 := cmpf .olt main_v20 main_v21
  let main_c_9 : IVec S_ 1 := constantI S_ 1 1#1
  let main_v23 : IVec S_ 1 := (fun x v => Host.reduce IntOp.andi x v reducesTo_S2048x64x64_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2048x64x64 .f32) (main_arg1 : FVec F S2048x64x64 .f32) (main_arg2 : FVec F S64x64 .f32) (main_arg3 : FVec F S64x64 .f32) (main_arg4 : FVec F S2048x64x64 .f32) (main_arg5 : FVec F S2048x64x64 .f32) : IVec S_ 1 :=
  let main_v0 : FVec F S2048x64x64 .f32 := Host.absf main_arg0
  let main_cst : FVec F S_ .f32 := constant S_ .f32 0x7F800000#32
  let main_v1 : FVec F S2048x64x64 .f32 := broadcastInDim S2048x64x64 ![] bcast_S_S2048x64x64 main_cst
  let main_v2 : IVec S2048x64x64 1 := cmpf .olt main_v0 main_v1
  let main_c : IVec S_ 1 := constantI S_ 1 1#1
  let main_v3 : IVec S_ 1 := (fun x v => Host.reduce IntOp.andi x v reducesTo_S2048x64x64_S_d0_1_2 h_S_) main_v2 main_c
  let main_v4 : FVec F S2048x64x64 .f32 := Host.absf main_arg1
  let main_cst_0 : FVec F S_ .f32 := constant S_ .f32 0x7F800000#32
  let main_v5 : FVec F S2048x64x64 .f32 := broadcastInDim S2048x64x64 ![] bcast_S_S2048x64x64 main_cst_0
  let main_v6 : IVec S2048x64x64 1 := cmpf .olt main_v4 main_v5
  let main_c_1 : IVec S_ 1 := constantI S_ 1 1#1
  let main_v7 : IVec S_ 1 := (fun x v => Host.reduce IntOp.andi x v reducesTo_S2048x64x64_S_d0_1_2 h_S_) main_v6 main_c_1
  let main_v8 : FVec F S64x64 .f32 := Host.absf main_arg2
  let main_cst_2 : FVec F S_ .f32 := constant S_ .f32 0x7F800000#32
  let main_v9 : FVec F S64x64 .f32 := broadcastInDim S64x64 ![] bcast_S_S64x64 main_cst_2
  let main_v10 : IVec S64x64 1 := cmpf .olt main_v8 main_v9
  let main_c_3 : IVec S_ 1 := constantI S_ 1 1#1
  let main_v11 : IVec S_ 1 := (fun x v => Host.reduce IntOp.andi x v reducesTo_S64x64_S_d0_1 h_S_) main_v10 main_c_3
  let main_v12 : FVec F S64x64 .f32 := Host.absf main_arg3
  let main_cst_4 : FVec F S_ .f32 := constant S_ .f32 0x7F800000#32
  let main_v13 : FVec F S64x64 .f32 := broadcastInDim S64x64 ![] bcast_S_S64x64 main_cst_4
  let main_v14 : IVec S64x64 1 := cmpf .olt main_v12 main_v13
  let main_c_5 : IVec S_ 1 := constantI S_ 1 1#1
  let main_v15 : IVec S_ 1 := (fun x v => Host.reduce IntOp.andi x v reducesTo_S64x64_S_d0_1 h_S_) main_v14 main_c_5
  fn_part1 (F := F) main_arg4 main_arg5 main_v3 main_v7 main_v11 main_v15
-- ==== Pre_finite10.lean ====
abbrev S2048x64x64 : Shape := ⟨3, ![2048, 64, 64]⟩
abbrev S64x16x64 : Shape := ⟨3, ![64, 16, 64]⟩
abbrev S2048x1024 : Shape := ⟨2, ![2048, 1024]⟩
abbrev S_ : Shape := ⟨0, ![]⟩

class Facts : Prop where
  bcast_S_S2048x64x64 : S_.BroadcastsInDim S2048x64x64 (![] : Fin 0 → Fin S2048x64x64.rank)
  reducesTo_S2048x64x64_S_d0_1_2 : S2048x64x64.ReducesTo [0, 1, 2] S_
  h_S_ : 0 < S_.numel
  bcast_S_S64x16x64 : S_.BroadcastsInDim S64x16x64 (![] : Fin 0 → Fin S64x16x64.rank)
  reducesTo_S64x16x64_S_d0_1_2 : S64x16x64.ReducesTo [0, 1, 2] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S2048x1024 .f32) (main_v3 : IVec S_ 1) (main_v7 : IVec S_ 1) (main_v11 : IVec S_ 1) (main_v15 : IVec S_ 1) : IVec S_ 1 :=
  let main_v16 : FVec F S2048x1024 .f32 := Host.absf main_arg4
  let main_cst_6 : FVec F S_ .f32 := constant S_ .f32 0x7F800000#32
  let main_v17 : FVec F S2048x1024 .f32 := broadcastInDim S2048x1024 ![] bcast_S_S2048x1024 main_cst_6
  let main_v18 : IVec S2048x1024 1 := cmpf .olt main_v16 main_v17
  let main_c_7 : IVec S_ 1 := constantI S_ 1 1#1
  let main_v19 : IVec S_ 1 := (fun x v => Host.reduce IntOp.andi x v reducesTo_S2048x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2048x64x64 .f32) (main_arg1 : FVec F S2048x64x64 .f32) (main_arg2 : FVec F S64x16x64 .f32) (main_arg3 : FVec F S64x16x64 .f32) (main_arg4 : FVec F S2048x1024 .f32) : IVec S_ 1 :=
  let main_v0 : FVec F S2048x64x64 .f32 := Host.absf main_arg0
  let main_cst : FVec F S_ .f32 := constant S_ .f32 0x7F800000#32
  let main_v1 : FVec F S2048x64x64 .f32 := broadcastInDim S2048x64x64 ![] bcast_S_S2048x64x64 main_cst
  let main_v2 : IVec S2048x64x64 1 := cmpf .olt main_v0 main_v1
  let main_c : IVec S_ 1 := constantI S_ 1 1#1
  let main_v3 : IVec S_ 1 := (fun x v => Host.reduce IntOp.andi x v reducesTo_S2048x64x64_S_d0_1_2 h_S_) main_v2 main_c
  let main_v4 : FVec F S2048x64x64 .f32 := Host.absf main_arg1
  let main_cst_0 : FVec F S_ .f32 := constant S_ .f32 0x7F800000#32
  let main_v5 : FVec F S2048x64x64 .f32 := broadcastInDim S2048x64x64 ![] bcast_S_S2048x64x64 main_cst_0
  let main_v6 : IVec S2048x64x64 1 := cmpf .olt main_v4 main_v5
  let main_c_1 : IVec S_ 1 := constantI S_ 1 1#1
  let main_v7 : IVec S_ 1 := (fun x v => Host.reduce IntOp.andi x v reducesTo_S2048x64x64_S_d0_1_2 h_S_) main_v6 main_c_1
  let main_v8 : FVec F S64x16x64 .f32 := Host.absf main_arg2
  let main_cst_2 : FVec F S_ .f32 := constant S_ .f32 0x7F800000#32
  let main_v9 : FVec F S64x16x64 .f32 := broadcastInDim S64x16x64 ![] bcast_S_S64x16x64 main_cst_2
  let main_v10 : IVec S64x16x64 1 := cmpf .olt main_v8 main_v9
  let main_c_3 : IVec S_ 1 := constantI S_ 1 1#1
  let main_v11 : IVec S_ 1 := (fun x v => Host.reduce IntOp.andi x v reducesTo_S64x16x64_S_d0_1_2 h_S_) main_v10 main_c_3
  let main_v12 : FVec F S64x16x64 .f32 := Host.absf main_arg3
  let main_cst_4 : FVec F S_ .f32 := constant S_ .f32 0x7F800000#32
  let main_v13 : FVec F S64x16x64 .f32 := broadcastInDim S64x16x64 ![] bcast_S_S64x16x64 main_cst_4
  let main_v14 : IVec S64x16x64 1 := cmpf .olt main_v12 main_v13
  let main_c_5 : IVec S_ 1 := constantI S_ 1 1#1
  let main_v15 : IVec S_ 1 := (fun x v => Host.reduce IntOp.andi x v reducesTo_S64x16x64_S_d0_1_2 h_S_) main_v14 main_c_5
  fn_part1 (F := F) main_arg4 main_v3 main_v7 main_v11 main_v15
-- ==== Pre_finite11.lean ====
abbrev S2048x64x64 : Shape := ⟨3, ![2048, 64, 64]⟩
abbrev S2048x1024 : Shape := ⟨2, ![2048, 1024]⟩
abbrev S_ : Shape := ⟨0, ![]⟩

class Facts : Prop where
  bcast_S_S2048x64x64 : S_.BroadcastsInDim S2048x64x64 (![] : Fin 0 → Fin S2048x64x64.rank)
  reducesTo_S2048x64x64_S_d0_1_2 : S2048x64x64.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x64x64 .f32) (main_arg1 : FVec F S2048x64x64 .f32) (main_arg2 : FVec F S2048x1024 .f32) : IVec S_ 1 :=
  let main_v0 : FVec F S2048x64x64 .f32 := Host.absf main_arg0
  let main_cst : FVec F S_ .f32 := constant S_ .f32 0x7F800000#32
  let main_v1 : FVec F S2048x64x64 .f32 := broadcastInDim S2048x64x64 ![] bcast_S_S2048x64x64 main_cst
  let main_v2 : IVec S2048x64x64 1 := cmpf .olt main_v0 main_v1
  let main_c : IVec S_ 1 := constantI S_ 1 1#1
  let main_v3 : IVec S_ 1 := (fun x v => Host.reduce IntOp.andi x v reducesTo_S2048x64x64_S_d0_1_2 h_S_) main_v2 main_c
  let main_v4 : FVec F S2048x64x64 .f32 := Host.absf main_arg1
  let main_cst_0 : FVec F S_ .f32 := constant S_ .f32 0x7F800000#32
  let main_v5 : FVec F S2048x64x64 .f32 := broadcastInDim S2048x64x64 ![] bcast_S_S2048x64x64 main_cst_0
  let main_v6 : IVec S2048x64x64 1 := cmpf .olt main_v4 main_v5
  let main_c_1 : IVec S_ 1 := constantI S_ 1 1#1
  let main_v7 : IVec S_ 1 := (fun x v => Host.reduce IntOp.andi x v reducesTo_S2048x64x64_S_d0_1_2 h_S_) main_v6 main_c_1
  let main_v8 : FVec F S2048x1024 .f32 := Host.absf main_arg2
  let main_cst_2 : FVec F S_ .f32 := constant S_ .f32 0x7F800000#32
  let main_v9 : FVec F S2048x1024 .f32 := broadcastInDim S2048x1024 ![] bcast_S_S2048x1024 main_cst_2
  let main_v10 : IVec S2048x1024 1 := cmpf .olt main_v8 main_v9
  let main_c_3 : IVec S_ 1 := constantI S_ 1 1#1
  let main_v11 : IVec S_ 1 := (fun x v => Host.reduce IntOp.andi x v reducesTo_S2048x1024_S_d0_1 h_S_) main_v10 main_c_3
  let main_v12 : IVec S_ 1 := andi main_v3 main_v7
  let main_v13 : IVec S_ 1 := andi main_v12 main_v11
  main_v13
-- ==== Pre_finite2.lean ====
abbrev S2048x1024 : Shape := ⟨2, ![2048, 1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2048x1024 .f32) (main_v3 : IVec S_ 1) (main_v7 : IVec S_ 1) (main_v11 : IVec S_ 1) (main_v15 : IVec S_ 1) : IVec S_ 1 :=
  let main_v16 : FVec F S2048x1024 .f32 := Host.absf main_arg4
  let main_cst_6 : FVec F S_ .f32 := constant S_ .f32 0x7F800000#32
  let main_v17 : FVec F S2048x1024 .f32 := broadcastInDim S2048x1024 ![] bcast_S_S2048x1024 main_cst_6
  let main_v18 : IVec S2048x1024 1 := cmpf .olt main_v16 main_v17
  let main_c_7 : IVec S_ 1 := constantI S_ 1 1#1
  let main_v19 : IVec S_ 1 := (fun x v => Host.reduce IntOp.andi x v reducesTo_S2048x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2048x1024 .f32) (main_arg1 : FVec F S1024x2816 .f32) (main_arg2 : FVec F S1024x2816 .f32) (main_arg3 : FVec F S2816x1024 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S2816x1024 .f32 := Host.absf main_arg3
  let main_cst_4 : FVec F S_ .f32 := constant S_ .f32 0x7F800000#32
  let main_v13 : FVec F S2816x1024 .f32 := broadcastInDim S2816x1024 ![] bcast_S_S2816x1024 main_cst_4
  let main_v14 : IVec S2816x1024 1 := cmpf .olt main_v12 main_v13
  let main_c_5 : IVec S_ 1 := constantI S_ 1 1#1
  let main_v15 : IVec S_ 1 := (fun x v => Host.reduce IntOp.andi x v reducesTo_S2816x1024_S_d0_1 h_S_) main_v14 main_c_5
  fn_part1 (F := F) main_arg4 main_v3 main_v7 main_v11 main_v15
-- ==== Kernel.lean ====
abbrev S2048x64x64 : Shape := ⟨3, ![2048, 64, 64]⟩
abbrev S64x64 : Shape := ⟨2, ![64, 64]⟩
abbrev S4x1x1024 : Shape := ⟨3, ![4, 1, 1024]⟩
abbrev S4x8x1024 : Shape := ⟨3, ![4, 8, 1024]⟩
abbrev S32x1024 : Shape := ⟨2, ![32, 1024]⟩
abbrev S2048x4x1024 : Shape := ⟨3, ![2048, 4, 1024]⟩
abbrev S2048x4x2048 : Shape := ⟨3, ![2048, 4, 2048]⟩
abbrev S2048x8192 : Shape := ⟨2, ![2048, 8192]⟩
abbrev S512x2048 : Shape := ⟨2, ![512, 2048]⟩
abbrev S8x1024 : Shape := ⟨2, ![8, 1024]⟩
abbrev S1x1024 : Shape := ⟨2, ![1, 1024]⟩
abbrev S8x2048 : Shape := ⟨2, ![8, 2048]⟩
abbrev S16x1024 : Shape := ⟨2, ![16, 1024]⟩
abbrev S1024 : Shape := ⟨1, ![1024]⟩
abbrev S2048x4x2x1024 : Shape := ⟨4, ![2048, 4, 2, 1024]⟩
abbrev S2048x4x1x1024 : Shape := ⟨4, ![2048, 4, 1, 1024]⟩
abbrev S4x1024 : Shape := ⟨2, ![4, 1024]⟩

abbrev nBuf : Space → Nat
  | .hbm => 39
  | .vmem => 27
  | .smem => 0
  | _ => 0

abbrev bufTy : (tb : Table) → Fin (tcTables nBuf tb) → BufTy
  | .hbm, ⟨0, _⟩ => ⟨S2048x64x64, .f32⟩
  | .hbm, ⟨1, _⟩ => ⟨S2048x64x64, .f32⟩
  | .hbm, ⟨2, _⟩ => ⟨S64x64, .f32⟩
  | .hbm, ⟨3, _⟩ => ⟨S64x64, .f32⟩
  | .hbm, ⟨4, _⟩ => ⟨S2048x64x64, .f32⟩
  | .hbm, ⟨5, _⟩ => ⟨S2048x64x64, .f32⟩
  | .hbm, ⟨6, _⟩ => ⟨S4x1x1024, .f32⟩
  | .hbm, ⟨7, _⟩ => ⟨S4x8x1024, .f32⟩
  | .hbm, ⟨8, _⟩ => ⟨S32x1024, .f32⟩
  | .hbm, ⟨9, _⟩ => ⟨S4x1x1024, .f32⟩
  | .hbm, ⟨10, _⟩ => ⟨S4x8x1024, .f32⟩
  | .hbm, ⟨11, _⟩ => ⟨S32x1024, .f32⟩
  | .hbm, ⟨12, _⟩ => ⟨S2048x4x1024, .f32⟩
  | .hbm, ⟨13, _⟩ => ⟨S2048x4x1024, .f32⟩
  | .hbm, ⟨14, _⟩ => ⟨S2048x4x2048, .f32⟩
  | .hbm, ⟨15, _⟩ => ⟨S2048x8192, .f32⟩
  | .hbm, ⟨16, _⟩ => ⟨S2048x8192, .f32⟩
  | .hbm, ⟨17, _⟩ => ⟨S2048x4x1024, .f32⟩
  | .hbm, ⟨18, _⟩ => ⟨S2048x4x1024, .f32⟩
  | .hbm, ⟨19, _⟩ => ⟨S2048x4x2048, .f32⟩
  | .hbm, ⟨20, _⟩ => ⟨S2048x8192, .f32⟩
  | .hbm, ⟨21, _⟩ => ⟨S2048x8192, .f32⟩
  | .hbm, ⟨22, _⟩ => ⟨S32x1024, .f32⟩
  | .hbm, ⟨23, _⟩ => ⟨S32x1024, .f32⟩
  | .hbm, ⟨24, _⟩ => ⟨S2048x4x2x1024, .f32⟩
  | .hbm, ⟨25, _⟩ => ⟨S2048x4x1x1024, .f32⟩
  | .hbm, ⟨26, _⟩ => ⟨S2048x4x1024, .f32⟩
  | .hbm, ⟨27, _⟩ => ⟨S2048x64x64, .f32⟩
  | .hbm, ⟨28, _⟩ => ⟨S2048x4x1x1024, .f32⟩
  | .hbm, ⟨29, _⟩ => ⟨S2048x4x1024, .f32⟩
  | .hbm, ⟨30, _⟩ => ⟨S2048x64x64, .f32⟩
  | .hbm, ⟨31, _⟩ => ⟨S4x8x1024, .f32⟩
  | .hbm, ⟨32, _⟩ => ⟨S4x1x1024, .f32⟩
  | .hbm, ⟨33, _⟩ => ⟨S4x1024, .f32⟩
  | .hbm, ⟨34, _⟩ => ⟨S64x64, .f32⟩
  | .hbm, ⟨35, _⟩ => ⟨S4x8x1024, .f32⟩
  | .hbm, ⟨36, _⟩ => ⟨S4x1x1024, .f32⟩
  | .hbm, ⟨37, _⟩ => ⟨S4x1024, .f32⟩
  | .hbm, ⟨38, _⟩ => ⟨S64x64, .f32⟩
  | .local _ .vmem, ⟨0, _⟩ => ⟨S512x2048, .f32⟩
  | .local _ .vmem, ⟨1, _⟩ => ⟨S512x2048, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S512x2048, .f32⟩
  | .local _ .vmem, ⟨7, _⟩ => ⟨S512x2048, .f32⟩
  | .local _ .vmem, ⟨8, _⟩ => ⟨S8x1024, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S8x1024, .f32⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | .local _ .vmem, ⟨19, _⟩ => ⟨S512x2048, .f32⟩
  | .local _ .vmem, ⟨20, _⟩ => ⟨S512x2048, .f32⟩
  | .local _ .vmem, ⟨21, _⟩ => ⟨S8x1024, .f32⟩
  | .local _ .vmem, ⟨22, _⟩ => ⟨S8x1024, .f32⟩
  | .local _ .vmem, ⟨23, _⟩ => ⟨S8x1024, .f32⟩
  | .local _ .vmem, ⟨24, _⟩ => ⟨S8x1024, .f32⟩
  | .local _ .vmem, ⟨25, _⟩ => ⟨S8x1024, .f32⟩
  | .local _ .vmem, ⟨26, _⟩ => ⟨S16x1024, .f32⟩
  | _, _ => ⟨S2048x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_scratch0 : Ref sig .tc := ⟨.vmem, 25, rfl⟩
abbrev cc1_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_7 : BitVec 32 := 0#32
  let c64_i32 : BitVec 32 := 64#32
  let v53 : BitVec 32 := Scalar.addi c0_i32_7 c64_i32
  let c1_i32 : BitVec 32 := 1#32
  ⟨c0_i32_7, v53, c1_i32⟩
def k0_mult1 (k0_t1 : Fin k0_t1_loop.trips) : BitVec 32 :=
  let c0_i32_7 : BitVec 32 := 0#32
  let c1_i32 : BitVec 32 := 1#32
  let arg7 : BitVec 32 := Scf.iv c0_i32_7 c1_i32 k0_t1
  let c8_i32 : BitVec 32 := 8#32
  let v61 : BitVec 32 := Scalar.muli arg7 c8_i32
  v61
def k0_off1 (k0_t1 : Fin k0_t1_loop.trips) : Fin 2 → Nat :=
  let c0_i32_7 : BitVec 32 := 0#32
  let c1_i32 : BitVec 32 := 1#32
  let arg7 : BitVec 32 := Scf.iv c0_i32_7 c1_i32 k0_t1
  let c8_i32 : BitVec 32 := 8#32
  let v61 : BitVec 32 := Scalar.muli arg7 c8_i32
  let v62 : BitVec 32 := v61
  let v63 : Index := Scalar.indexCast v62
  let c0_13 : Index := 0#32
  ![v63.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

@[reducible] def k1_t1_loop : Scf.Loop 32 :=
  let c0_i32_21 : BitVec 32 := 0#32
  let c64_i32 : BitVec 32 := 64#32
  let v157 : BitVec 32 := Scalar.addi c0_i32_21 c64_i32
  let c1_i32_22 : BitVec 32 := 1#32
  ⟨c0_i32_21, v157, c1_i32_22⟩
def k1_mult1 (k1_t1 : Fin k1_t1_loop.trips) : BitVec 32 :=
  let c63_i32 : BitVec 32 := 63#32
  let c0_i32_21 : BitVec 32 := 0#32
  let c1_i32_22 : BitVec 32 := 1#32
  let arg12 : BitVec 32 := Scf.iv c0_i32_21 c1_i32_22 k1_t1
  let v181 : BitVec 32 := Scalar.subi c63_i32 arg12
  let c8_i32 : BitVec 32 := 8#32
  let v182 : BitVec 32 := Scalar.muli v181 c8_i32
  v182
def k1_off1 (k1_t1 : Fin k1_t1_loop.trips) : Fin 2 → Nat :=
  let c63_i32 : BitVec 32 := 63#32
  let c0_i32_21 : BitVec 32 := 0#32
  let c1_i32_22 : BitVec 32 := 1#32
  let arg12 : BitVec 32 := Scf.iv c0_i32_21 c1_i32_22 k1_t1
  let v181 : BitVec 32 := Scalar.subi c63_i32 arg12
  let c8_i32 : BitVec 32 := 8#32
  let v182 : BitVec 32 := Scalar.muli v181 c8_i32
  let v183 : BitVec 32 := v182
  let v184 : Index := Scalar.indexCast v183
  let c0_38 : Index := 0#32
  ![v184.toNat, 0]
def k1_mult2 (k1_t1 : Fin k1_t1_loop.trips) : BitVec 32 :=
  let c63_i32 : BitVec 32 := 63#32
  let c0_i32_21 : BitVec 32 := 0#32
  let c1_i32_22 : BitVec 32 := 1#32
  let arg12 : BitVec 32 := Scf.iv c0_i32_21 c1_i32_22 k1_t1
  let v181 : BitVec 32 := Scalar.subi c63_i32 arg12
  let c1_i32_56 : BitVec 32 := 1#32
  let v266 : BitVec 32 := Scalar.subi v181 c1_i32_56
  let c0_i32_57 : BitVec 32 := 0#32
  let v267 : BitVec 32 := Scalar.maxsi v266 c0_i32_57
  let c8_i32_58 : BitVec 32 := 8#32
  let v268 : BitVec 32 := Scalar.muli v267 c8_i32_58
  v268
def k1_off2 (k1_t1 : Fin k1_t1_loop.trips) : Fin 2 → Nat :=
  let c63_i32 : BitVec 32 := 63#32
  let c0_i32_21 : BitVec 32 := 0#32
  let c1_i32_22 : BitVec 32 := 1#32
  let arg12 : BitVec 32 := Scf.iv c0_i32_21 c1_i32_22 k1_t1
  let v181 : BitVec 32 := Scalar.subi c63_i32 arg12
  let c1_i32_56 : BitVec 32 := 1#32
  let v266 : BitVec 32 := Scalar.subi v181 c1_i32_56
  let c0_i32_57 : BitVec 32 := 0#32
  let v267 : BitVec 32 := Scalar.maxsi v266 c0_i32_57
  let c8_i32_58 : BitVec 32 := 8#32
  let v268 : BitVec 32 := Scalar.muli v267 c8_i32_58
  let v269 : BitVec 32 := v268
  let v270 : Index := Scalar.indexCast v269
  let c0_59 : Index := 0#32
  ![v270.toNat, 0]
def cc1_transform_0 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi c2_i32 arg1
  let c0_i32 : BitVec 32 := 0#32
  let v1 : BitVec 32 := Scalar.maxsi v0 c0_i32
  let c0_i32_0 : BitVec 32 := 0#32
  ![v1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S8x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S8x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S2048x64x64 : Shape := ⟨3, ![2048, 64, 64]⟩
abbrev S64x64 : Shape := ⟨2, ![64, 64]⟩
abbrev S_ : Shape := ⟨0, ![]⟩
abbrev S1x64x64 : Shape := ⟨3, ![1, 64, 64]⟩

abbrev nBuf : Space → Nat
  | .hbm => 143
  | .vmem => 0
  | .smem => 0
  | _ => 0

abbrev hbmTy0_0 (i : Nat) : BufTy := match i % 128 with
  | 0 => ⟨S2048x64x64, .f32⟩
  | 1 => ⟨S2048x64x64, .f32⟩
  | 2 => ⟨S64x64, .f32⟩
  | 3 => ⟨S64x64, .f32⟩
  | 4 => ⟨S2048x64x64, .f32⟩
  | 5 => ⟨S2048x64x64, .f32⟩
  | 6 => ⟨S_, .f32⟩
  | 7 => ⟨S64x64, .f32⟩
  | 8 => ⟨S_, .f32⟩
  | 9 => ⟨S2048x64x64, .f32⟩
  | 10 => ⟨S_, .f32⟩
  | 11 => ⟨S2048x64x64, .f32⟩
  | 12 => ⟨S_, .f32⟩
  | 13 => ⟨S2048x64x64, .f32⟩
  | 14 => ⟨S_, .f32⟩
  | 15 => ⟨S2048x64x64, .f32⟩
  | 16 => ⟨S_, .i32⟩
  | 17 => ⟨S2048x64x64, .f32⟩
  | 18 => ⟨S2048x64x64, .f32⟩
  | 19 => ⟨S64x64, .f32⟩
  | 20 => ⟨S64x64, .f32⟩
  | 21 => ⟨S_, .i32⟩
  | 22 => ⟨S64x64, .f32⟩
  | 23 => ⟨S64x64, .f32⟩
  | 24 => ⟨S2048x64x64, .f32⟩
  | 25 => ⟨S2048x64x64, .f32⟩
  | 26 => ⟨S2048x64x64, .f32⟩
  | 27 => ⟨S2048x64x64, .f32⟩
  | 28 => ⟨S_, .i32⟩
  | 29 => ⟨S_, .i1⟩
  | 30 => ⟨S_, .i32⟩
  | 31 => ⟨S_, .i32⟩
  | 32 => ⟨S1x64x64, .f32⟩
  | 33 => ⟨S64x64, .f32⟩
  | 34 => ⟨S_, .i32⟩
  | 35 => ⟨S_, .i32⟩
  | 36 => ⟨S1x64x64, .f32⟩
  | 37 => ⟨S64x64, .f32⟩
  | 38 => ⟨S64x64, .f32⟩
  | 39 => ⟨S64x64, .f32⟩
  | 40 => ⟨S64x64, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S1x64x64, .f32⟩
  | 47 => ⟨S_, .i32⟩
  | 48 => ⟨S_, .i32⟩
  | 49 => ⟨S2048x64x64, .f32⟩
  | 50 => ⟨S1x64x64, .f32⟩
  | 51 => ⟨S_, .i32⟩
  | 52 => ⟨S_, .i32⟩
  | 53 => ⟨S2048x64x64, .f32⟩
  | 54 => ⟨S1x64x64, .f32⟩
  | 55 => ⟨S_, .i32⟩
  | 56 => ⟨S_, .i32⟩
  | 57 => ⟨S2048x64x64, .f32⟩
  | 58 => ⟨S1x64x64, .f32⟩
  | 59 => ⟨S_, .i32⟩
  | 60 => ⟨S_, .i32⟩
  | 61 => ⟨S2048x64x64, .f32⟩
  | 62 => ⟨S_, .i32⟩
  | 63 => ⟨S_, .i32⟩
  | 64 => ⟨S_, .f32⟩
  | 65 => ⟨S64x64, .f32⟩
  | 66 => ⟨S_, .f32⟩
  | 67 => ⟨S64x64, .f32⟩
  | 68 => ⟨S_, .f32⟩
  | 69 => ⟨S64x64, .f32⟩
  | 70 => ⟨S_, .f32⟩
  | 71 => ⟨S64x64, .f32⟩
  | 72 => ⟨S_, .f32⟩
  | 73 => ⟨S64x64, .f32⟩
  | 74 => ⟨S_, .f32⟩
  | 75 => ⟨S64x64, .f32⟩
  | 76 => ⟨S_, .f32⟩
  | 77 => ⟨S2048x64x64, .f32⟩
  | 78 => ⟨S_, .f32⟩
  | 79 => ⟨S2048x64x64, .f32⟩
  | 80 => ⟨S_, .i32⟩
  | 81 => ⟨S2048x64x64, .f32⟩
  | 82 => ⟨S2048x64x64, .f32⟩
  | 83 => ⟨S2048x64x64, .f32⟩
  | 84 => ⟨S2048x64x64, .f32⟩
  | 85 => ⟨S64x64, .f32⟩
  | 86 => ⟨S64x64, .f32⟩
  | 87 => ⟨S_, .i32⟩
  | 88 => ⟨S64x64, .f32⟩
  | 89 => ⟨S64x64, .f32⟩
  | 90 => ⟨S64x64, .f32⟩
  | 91 => ⟨S64x64, .f32⟩
  | 92 => ⟨S2048x64x64, .f32⟩
  | 93 => ⟨S2048x64x64, .f32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S1x64x64, .f32⟩
  | 103 => ⟨S64x64, .f32⟩
  | 104 => ⟨S_, .i32⟩
  | 105 => ⟨S_, .i32⟩
  | 106 => ⟨S1x64x64, .f32⟩
  | 107 => ⟨S64x64, .f32⟩
  | 108 => ⟨S_, .i32⟩
  | 109 => ⟨S_, .i32⟩
  | 110 => ⟨S1x64x64, .f32⟩
  | 111 => ⟨S64x64, .f32⟩
  | 112 => ⟨S_, .i32⟩
  | 113 => ⟨S_, .i32⟩
  | 114 => ⟨S1x64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S2048x64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S1x64x64, .f32⟩
  | 6 => ⟨S_, .i32⟩
  | 7 => ⟨S_, .i32⟩
  | 8 => ⟨S2048x64x64, .f32⟩
  | 9 => ⟨S1x64x64, .f32⟩
  | 10 => ⟨S_, .i32⟩
  | 11 => ⟨S_, .i32⟩
  | 12 => ⟨S2048x64x64, .f32⟩
  | 13 => ⟨S_, .i32⟩
  | 14 => ⟨S_, .i32⟩
  | _ => ⟨S2048x64x64, .f32⟩

abbrev hbmTy (i : Nat) : BufTy := match i / 128 with
  | 0 => hbmTy0_0 i
  | 1 => hbmTy0_1 i
  | _ => ⟨S2048x64x64, .f32⟩

abbrev bufTy : (tb : Table) → Fin (tcTables nBuf tb) → BufTy
  | .hbm, ⟨i, _⟩ => hbmTy i
  | _, _ => ⟨S2048x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_cst_3 : Ref sig .tc := ⟨.hbm, 14, rfl⟩
abbrev main_v4 : Ref sig .tc := ⟨.hbm, 15, rfl⟩
abbrev main_c : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev main_v5_5 : Ref sig .tc := ⟨.hbm, 22, rfl⟩
abbrev main_v5_6 : Ref sig .tc := ⟨.hbm, 23, rfl⟩
abbrev main_v5_7 : Ref sig .tc := ⟨.hbm, 24, rfl⟩
abbrev main_v5_8 : Ref sig .tc := ⟨.hbm, 25, rfl⟩
abbrev main_v5_9 : Ref sig .tc := ⟨.hbm, 26, rfl⟩
abbrev main_v5_10 : Ref sig .tc := ⟨.hbm, 27, rfl⟩
abbrev main_while0c_c_23 : Ref sig .tc := ⟨.hbm, 28, rfl⟩
abbrev main_while0c_v15 : Ref sig .tc := ⟨.hbm, 29, rfl⟩
abbrev main_while0b_call0_c : Ref sig .tc := ⟨.hbm, 30, rfl⟩
abbrev main_while0b_call0_c_0 : Ref sig .tc := ⟨.hbm, 31, rfl⟩
abbrev main_while0b_call0_v0 : Ref sig .tc := ⟨.hbm, 32, rfl⟩
abbrev main_while0b_v15 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_call1_v0 : Ref sig .tc := ⟨.hbm, 36, rfl⟩
abbrev main_while0b_v16 : Ref sig .tc := ⟨.hbm, 37, rfl⟩
abbrev main_while0b_v17 : Ref sig .tc := ⟨.hbm, 38, rfl⟩
abbrev main_while0b_v18 : Ref sig .tc := ⟨.hbm, 39, rfl⟩
abbrev main_while0b_v19 : Ref sig .tc := ⟨.hbm, 40, rfl⟩
abbrev main_while0b_v20 : Ref sig .tc := ⟨.hbm, 41, rfl⟩
abbrev main_while0b_v21 : Ref sig .tc := ⟨.hbm, 42, rfl⟩
abbrev main_while0b_v22 : Ref sig .tc := ⟨.hbm, 43, rfl⟩
abbrev main_while0b_v23 : Ref sig .tc := ⟨.hbm, 44, rfl⟩
abbrev main_while0b_v24 : Ref sig .tc := ⟨.hbm, 45, rfl⟩
abbrev main_while0b_call2_v0 : Ref sig .tc := ⟨.hbm, 46, rfl⟩
abbrev main_while0b_call2_c : Ref sig .tc := ⟨.hbm, 47, rfl⟩
abbrev main_while0b_call2_c_0 : Ref sig .tc := ⟨.hbm, 48, rfl⟩
abbrev main_while0b_v25 : Ref sig .tc := ⟨.hbm, 49, rfl⟩
abbrev main_while0b_call3_v0 : Ref sig .tc := ⟨.hbm, 50, rfl⟩
abbrev main_while0b_call3_c : Ref sig .tc := ⟨.hbm, 51, rfl⟩
abbrev main_while0b_call3_c_0 : Ref sig .tc := ⟨.hbm, 52, rfl⟩
abbrev main_while0b_v26 : Ref sig .tc := ⟨.hbm, 53, rfl⟩
abbrev main_while0b_call4_v0 : Ref sig .tc := ⟨.hbm, 54, rfl⟩
abbrev main_while0b_call4_c : Ref sig .tc := ⟨.hbm, 55, rfl⟩
abbrev main_while0b_call4_c_0 : Ref sig .tc := ⟨.hbm, 56, rfl⟩
abbrev main_while0b_v27 : Ref sig .tc := ⟨.hbm, 57, rfl⟩
abbrev main_while0b_call5_v0 : Ref sig .tc := ⟨.hbm, 58, rfl⟩
abbrev main_while0b_call5_c : Ref sig .tc := ⟨.hbm, 59, rfl⟩
abbrev main_while0b_call5_c_0 : Ref sig .tc := ⟨.hbm, 60, rfl⟩
abbrev main_while0b_v28 : Ref sig .tc := ⟨.hbm, 61, rfl⟩
abbrev main_while0b_c_23 : Ref sig .tc := ⟨.hbm, 62, rfl⟩
abbrev main_while0b_v29 : Ref sig .tc := ⟨.hbm, 63, rfl⟩
abbrev main_cst_4 : Ref sig .tc := ⟨.hbm, 64, rfl⟩
abbrev main_v6 : Ref sig .tc := ⟨.hbm, 65, rfl⟩
abbrev main_cst_5 : Ref sig .tc := ⟨.hbm, 66, rfl⟩
abbrev main_v7 : Ref sig .tc := ⟨.hbm, 67, rfl⟩
abbrev main_cst_6 : Ref sig .tc := ⟨.hbm, 68, rfl⟩
abbrev main_v8 : Ref sig .tc := ⟨.hbm, 69, rfl⟩
abbrev main_cst_7 : Ref sig .tc := ⟨.hbm, 70, rfl⟩
abbrev main_v9 : Ref sig .tc := ⟨.hbm, 71, rfl⟩
abbrev main_cst_8 : Ref sig .tc := ⟨.hbm, 72, rfl⟩
abbrev main_v10 : Ref sig .tc := ⟨.hbm, 73, rfl⟩
abbrev main_cst_9 : Ref sig .tc := ⟨.hbm, 74, rfl⟩
abbrev main_v11 : Ref sig .tc := ⟨.hbm, 75, rfl⟩
abbrev main_cst_10 : Ref sig .tc := ⟨.hbm, 76, rfl⟩
abbrev main_v12 : Ref sig .tc := ⟨.hbm, 77, rfl⟩
abbrev main_cst_11 : Ref sig .tc := ⟨.hbm, 78, rfl⟩
abbrev main_v13 : Ref sig .tc := ⟨.hbm, 79, rfl⟩
abbrev main_c_12 : Ref sig .tc := ⟨.hbm, 80, rfl⟩
abbrev main_v14_0 : Ref sig .tc := ⟨.hbm, 81, rfl⟩
abbrev main_v14_1 : Ref sig .tc := ⟨.hbm, 82, rfl⟩
abbrev main_v14_2 : Ref sig .tc := ⟨.hbm, 83, rfl⟩
abbrev main_v14_3 : Ref sig .tc := ⟨.hbm, 84, rfl⟩
abbrev main_v14_4 : Ref sig .tc := ⟨.hbm, 85, rfl⟩
abbrev main_v14_5 : Ref sig .tc := ⟨.hbm, 86, rfl⟩
abbrev main_v14_6 : Ref sig .tc := ⟨.hbm, 87, rfl⟩
abbrev main_v14_7 : Ref sig .tc := ⟨.hbm, 88, rfl⟩
abbrev main_v14_8 : Ref sig .tc := ⟨.hbm, 89, rfl⟩
abbrev main_v14_9 : Ref sig .tc := ⟨.hbm, 90, rfl⟩
abbrev main_v14_10 : Ref sig .tc := ⟨.hbm, 91, rfl⟩
abbrev main_v14_11 : Ref sig .tc := ⟨.hbm, 92, rfl⟩
abbrev main_v14_12 : Ref sig .tc := ⟨.hbm, 93, rfl⟩
abbrev main_while1c_c_25 : Ref sig .tc := ⟨.hbm, 94, rfl⟩
abbrev main_while1c_v15 : Ref sig .tc := ⟨.hbm, 95, rfl⟩
abbrev main_while1b_c_25 : Ref sig .tc := ⟨.hbm, 96, rfl⟩
abbrev main_while1b_v15 : Ref sig .tc := ⟨.hbm, 97, rfl⟩
abbrev main_while1b_c_26 : Ref sig .tc := ⟨.hbm, 98, rfl⟩
abbrev main_while1b_v16 : Ref sig .tc := ⟨.hbm, 99, rfl⟩
abbrev main_while1b_call6_c : Ref sig .tc := ⟨.hbm, 100, rfl⟩
abbrev main_while1b_call6_c_0 : Ref sig .tc := ⟨.hbm, 101, rfl⟩
abbrev main_while1b_call6_v0 : Ref sig .tc := ⟨.hbm, 102, rfl⟩
abbrev main_while1b_v17 : Ref sig .tc := ⟨.hbm, 103, rfl⟩
abbrev main_while1b_call7_c : Ref sig .tc := ⟨.hbm, 104, rfl⟩
abbrev main_while1b_call7_c_0 : Ref sig .tc := ⟨.hbm, 105, rfl⟩
abbrev main_while1b_call7_v0 : Ref sig .tc := ⟨.hbm, 106, rfl⟩
abbrev main_while1b_v18 : Ref sig .tc := ⟨.hbm, 107, rfl⟩
abbrev main_while1b_call8_c : Ref sig .tc := ⟨.hbm, 108, rfl⟩
abbrev main_while1b_call8_c_0 : Ref sig .tc := ⟨.hbm, 109, rfl⟩
abbrev main_while1b_call8_v0 : Ref sig .tc := ⟨.hbm, 110, rfl⟩
abbrev main_while1b_v19 : Ref sig .tc := ⟨.hbm, 111, rfl⟩
abbrev main_while1b_call9_c : Ref sig .tc := ⟨.hbm, 112, rfl⟩
abbrev main_while1b_call9_c_0 : Ref sig .tc := ⟨.hbm, 113, rfl⟩
abbrev main_while1b_call9_v0 : Ref sig .tc := ⟨.hbm, 114, rfl⟩
abbrev main_while1b_v20 : Ref sig .tc := ⟨.hbm, 115, rfl⟩
abbrev main_while1b_v21 : Ref sig .tc := ⟨.hbm, 116, rfl⟩
abbrev main_while1b_v22 : Ref sig .tc := ⟨.hbm, 117, rfl⟩
abbrev main_while1b_v23 : Ref sig .tc := ⟨.hbm, 118, rfl⟩
abbrev main_while1b_v24 : Ref sig .tc := ⟨.hbm, 119, rfl⟩
abbrev main_while1b_v25 : Ref sig .tc := ⟨.hbm, 120, rfl⟩
abbrev main_while1b_v26 : Ref sig .tc := ⟨.hbm, 121, rfl⟩
abbrev main_while1b_v27 : Ref sig .tc := ⟨.hbm, 122, rfl⟩
abbrev main_while1b_v28 : Ref sig .tc := ⟨.hbm, 123, rfl⟩
abbrev main_while1b_v29 : Ref sig .tc := ⟨.hbm, 124, rfl⟩
abbrev main_while1b_v30 : Ref sig .tc := ⟨.hbm, 125, rfl⟩
abbrev main_while1b_v31 : Ref sig .tc := ⟨.hbm, 126, rfl⟩
abbrev main_while1b_v32 : Ref sig .tc := ⟨.hbm, 127, rfl⟩
abbrev main_while1b_v33 : Ref sig .tc := ⟨.hbm, 128, rfl⟩
abbrev main_while1b_v34 : Ref sig .tc := ⟨.hbm, 129, rfl⟩
abbrev main_while1b_v35 : Ref sig .tc := ⟨.hbm, 130, rfl⟩
abbrev main_while1b_v36 : Ref sig .tc := ⟨.hbm, 131, rfl⟩
abbrev main_while1b_v37 : Ref sig .tc := ⟨.hbm, 132, rfl⟩
abbrev main_while1b_call10_v0 : Ref sig .tc := ⟨.hbm, 133, rfl⟩
abbrev main_while1b_call10_c : Ref sig .tc := ⟨.hbm, 134, rfl⟩
abbrev main_while1b_call10_c_0 : Ref sig .tc := ⟨.hbm, 135, rfl⟩
abbrev main_while1b_v38 : Ref sig .tc := ⟨.hbm, 136, rfl⟩
abbrev main_while1b_call11_v0 : Ref sig .tc := ⟨.hbm, 137, rfl⟩
abbrev main_while1b_call11_c : Ref sig .tc := ⟨.hbm, 138, rfl⟩
abbrev main_while1b_call11_c_0 : Ref sig .tc := ⟨.hbm, 139, rfl⟩
abbrev main_while1b_v39 : Ref sig .tc := ⟨.hbm, 140, rfl⟩
abbrev main_while1b_c_27 : Ref sig .tc := ⟨.hbm, 141, rfl⟩
abbrev main_while1b_v40 : Ref sig .tc := ⟨.hbm, 142, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Kernel2.lean ====
abbrev S2048x1024 : Shape := ⟨2, ![2048, 1024]⟩
abbrev S1024x2816 : Shape := ⟨2, ![1024, 2816]⟩
abbrev S2816x1024 : Shape := ⟨2, ![2816, 1024]⟩
abbrev S5632x1024 : Shape := ⟨2, ![5632, 1024]⟩
abbrev S2048x2816 : Shape := ⟨2, ![2048, 2816]⟩
abbrev S1024x1024 : Shape := ⟨2, ![1024, 1024]⟩
abbrev S256x1024 : Shape := ⟨2, ![256, 1024]⟩
abbrev S1024x256 : Shape := ⟨2, ![1024, 256]⟩
abbrev S2048x256 : Shape := ⟨2, ![2048, 256]⟩
abbrev S2048x5632 : Shape := ⟨2, ![2048, 5632]⟩
abbrev S256x2816 : Shape := ⟨2, ![256, 2816]⟩
abbrev S256x5632 : Shape := ⟨2, ![256, 5632]⟩
abbrev S2048x512 : Shape := ⟨2, ![2048, 512]⟩
abbrev S512x1024 : Shape := ⟨2, ![512, 1024]⟩

abbrev nBuf : Space → Nat
  | .hbm => 28
  | .vmem => 41
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2048x1024, .bf16⟩
  | .hbm, ⟨6, _⟩ => ⟨S2048x1024, .bf16⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S5632x1024, .bf16⟩
  | .hbm, ⟨12, _⟩ => ⟨S2816x1024, .bf16⟩
  | .hbm, ⟨13, _⟩ => ⟨S2048x2816, .bf16⟩
  | .hbm, ⟨14, _⟩ => ⟨S2048x2816, .bf16⟩
  | .hbm, ⟨15, _⟩ => ⟨S2048x2816, .bf16⟩
  | .hbm, ⟨16, _⟩ => ⟨S2048x1024, .f32⟩
  | .hbm, ⟨17, _⟩ => ⟨S2816x1024, .bf16⟩
  | .hbm, ⟨18, _⟩ => ⟨S2048x2816, .bf16⟩
  | .hbm, ⟨19, _⟩ => ⟨S2048x5632, .bf16⟩
  | .hbm, ⟨20, _⟩ => ⟨S5632x1024, .bf16⟩
  | .hbm, ⟨21, _⟩ => ⟨S2816x1024, .bf16⟩
  | .hbm, ⟨22, _⟩ => ⟨S1024x2816, .bf16⟩
  | .hbm, ⟨23, _⟩ => ⟨S1024x2816, .f32⟩
  | .hbm, ⟨24, _⟩ => ⟨S2816x1024, .bf16⟩
  | .hbm, ⟨25, _⟩ => ⟨S1024x2816, .bf16⟩
  | .hbm, ⟨26, _⟩ => ⟨S1024x2816, .f32⟩
  | .hbm, ⟨27, _⟩ => ⟨S2816x1024, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1024x1024, .f32⟩
  | .local _ .vmem, ⟨16, _⟩ => ⟨S1024x1024, .f32⟩
  | .local _ .vmem, ⟨17, _⟩ => ⟨S2048x256, .bf16⟩
  | .local _ .vmem, ⟨18, _⟩ => ⟨S2048x256, .bf16⟩
  | .local _ .vmem, ⟨19, _⟩ => ⟨S2048x1024, .bf16⟩
  | .local _ .vmem, ⟨20, _⟩ => ⟨S256x1024, .bf16⟩
  | .local _ .vmem, ⟨21, _⟩ => ⟨S256x1024, .bf16⟩
  | .local _ .vmem, ⟨22, _⟩ => ⟨S1024x1024, .bf16⟩
  | .local _ .vmem, ⟨23, _⟩ => ⟨S1024x1024, .bf16⟩
  | .local _ .vmem, ⟨24, _⟩ => ⟨S256x1024, .bf16⟩
  | .local _ .vmem, ⟨25, _⟩ => ⟨S256x1024, .bf16⟩
  | .local _ .vmem, ⟨26, _⟩ => ⟨S1024x256, .bf16⟩
  | .local _ .vmem, ⟨27, _⟩ => ⟨S1024x256, .bf16⟩
  | .local _ .vmem, ⟨28, _⟩ => ⟨S256x2816, .bf16⟩
  | .local _ .vmem, ⟨29, _⟩ => ⟨S256x2816, .bf16⟩
  | .local _ .vmem, ⟨30, _⟩ => ⟨S256x2816, .bf16⟩
  | .local _ .vmem, ⟨31, _⟩ => ⟨S256x2816, .bf16⟩
  | .local _ .vmem, ⟨32, _⟩ => ⟨S256x2816, .bf16⟩
  | .local _ .vmem, ⟨33, _⟩ => ⟨S256x2816, .bf16⟩
  | .local _ .vmem, ⟨34, _⟩ => ⟨S256x5632, .bf16⟩
  | .local _ .vmem, ⟨35, _⟩ => ⟨S256x5632, .bf16⟩
  | .local _ .vmem, ⟨36, _⟩ => ⟨S2048x512, .bf16⟩
  | .local _ .vmem, ⟨37, _⟩ => ⟨S2048x512, .bf16⟩
  | .local _ .vmem, ⟨38, _⟩ => ⟨S2048x1024, .bf16⟩
  | .local _ .vmem, ⟨39, _⟩ => ⟨S512x1024, .bf16⟩
  | .local _ .vmem, ⟨40, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![11, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S256x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 11, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S256x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x2816 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x2816 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x2816 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x5632 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨3, ![11, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference2Ideal.lean ====
abbrev S2048x1024 : Shape := ⟨2, ![2048, 1024]⟩
abbrev S1024x2816 : Shape := ⟨2, ![1024, 2816]⟩
abbrev S2816x1024 : Shape := ⟨2, ![2816, 1024]⟩
abbrev S2048x2816 : Shape := ⟨2, ![2048, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x1024, .f32⟩
  | .hbm, ⟨22, _⟩ => ⟨S1024x2816, .f32⟩
  | .hbm, ⟨23, _⟩ => ⟨S2816x1024, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2816x1024, .f32⟩
  | .hbm, ⟨28, _⟩ => ⟨S1024x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2816x1024, .f32⟩
  | .hbm, ⟨34, _⟩ => ⟨S1024x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Kernel3.lean ====
abbrev S1024x2816 : Shape := ⟨2, ![1024, 2816]⟩
abbrev S2048x2816 : Shape := ⟨2, ![2048, 2816]⟩
abbrev S2816x1024 : Shape := ⟨2, ![2816, 1024]⟩
abbrev S5632x1024 : Shape := ⟨2, ![5632, 1024]⟩
abbrev S2048x5632 : Shape := ⟨2, ![2048, 5632]⟩
abbrev S2048x1024 : Shape := ⟨2, ![2048, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S1024x2816, .f32⟩
  | .hbm, ⟨1, _⟩ => ⟨S1024x2816, .f32⟩
  | .hbm, ⟨2, _⟩ => ⟨S2048x2816, .f32⟩
  | .hbm, ⟨3, _⟩ => ⟨S2048x2816, .f32⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S5632x1024, .bf16⟩
  | .hbm, ⟨9, _⟩ => ⟨S2048x5632, .f32⟩
  | .hbm, ⟨10, _⟩ => ⟨S2048x5632, .bf16⟩
  | .hbm, ⟨11, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S1024x2816 : Shape := ⟨2, ![1024, 2816]⟩
abbrev S2048x2816 : Shape := ⟨2, ![2048, 2816]⟩
abbrev S_ : Shape := ⟨0, ![]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x2816, .f32⟩
  | .hbm, ⟨1, _⟩ => ⟨S1024x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x1024, .f32⟩
  | .hbm, ⟨6, _⟩ => ⟨S2048x2816, .f32⟩
  | .hbm, ⟨7, _⟩ => ⟨S2048x2816, .f32⟩
  | .hbm, ⟨8, _⟩ => ⟨S2048x1024, .f32⟩
  | .hbm, ⟨9, _⟩ => ⟨S2048x1024, .f32⟩
  | .hbm, ⟨10, _⟩ => ⟨S2048x1024, .f32⟩
  | _, _ => ⟨S1024x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel4.lean ====
abbrev S2048x1024 : Shape := ⟨2, ![2048, 1024]⟩
abbrev S1024x8224 : Shape := ⟨2, ![1024, 8224]⟩
abbrev S2048x8224 : Shape := ⟨2, ![2048, 8224]⟩
abbrev S8224x1024 : Shape := ⟨2, ![8224, 1024]⟩
abbrev S32x1024 : Shape := ⟨2, ![32, 1024]⟩
abbrev S1024x32 : Shape := ⟨2, ![1024, 32]⟩
abbrev S1024x4x8 : Shape := ⟨3, ![1024, 4, 8]⟩
abbrev S_ : Shape := ⟨0, ![]⟩
abbrev S1024x4x120 : Shape := ⟨3, ![1024, 4, 120]⟩
abbrev S1024x4x128 : Shape := ⟨3, ![1024, 4, 128]⟩
abbrev S1024x512 : Shape := ⟨2, ![1024, 512]⟩
abbrev S512x1024 : Shape := ⟨2, ![512, 1024]⟩
abbrev S5120x1024 : Shape := ⟨2, ![5120, 1024]⟩
abbrev S3072x1024 : Shape := ⟨2, ![3072, 1024]⟩
abbrev S8704x1024 : Shape := ⟨2, ![8704, 1024]⟩
abbrev S2048x8704 : Shape := ⟨2, ![2048, 8704]⟩
abbrev S1024x1024 : Shape := ⟨2, ![1024, 1024]⟩
abbrev S2048x5120 : Shape := ⟨2, ![2048, 5120]⟩
abbrev S2048x3072 : Shape := ⟨2, ![2048, 3072]⟩
abbrev S2048x32 : Shape := ⟨2, ![2048, 32]⟩
abbrev S2048x4x8 : Shape := ⟨3, ![2048, 4, 8]⟩
abbrev S2048x4x120 : Shape := ⟨3, ![2048, 4, 120]⟩
abbrev S2048x4x128 : Shape := ⟨3, ![2048, 4, 128]⟩
abbrev S2048x512 : Shape := ⟨2, ![2048, 512]⟩

abbrev nBuf : Space → Nat
  | .hbm => 47
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024x8224, .f32⟩
  | .hbm, ⟨2, _⟩ => ⟨S2048x8224, .f32⟩
  | .hbm, ⟨3, _⟩ => ⟨S2048x1024, .bf16⟩
  | .hbm, ⟨4, _⟩ => ⟨S8224x1024, .f32⟩
  | .hbm, ⟨5, _⟩ => ⟨S8224x1024, .bf16⟩
  | .hbm, ⟨6, _⟩ => ⟨S32x1024, .bf16⟩
  | .hbm, ⟨7, _⟩ => ⟨S1024x32, .bf16⟩
  | .hbm, ⟨8, _⟩ => ⟨S1024x4x8, .bf16⟩
  | .hbm, ⟨9, _⟩ => ⟨S_, .bf16⟩
  | .hbm, ⟨10, _⟩ => ⟨S1024x4x120, .bf16⟩
  | .hbm, ⟨11, _⟩ => ⟨S1024x4x128, .bf16⟩
  | .hbm, ⟨12, _⟩ => ⟨S1024x512, .bf16⟩
  | .hbm, ⟨13, _⟩ => ⟨S512x1024, .bf16⟩
  | .hbm, ⟨14, _⟩ => ⟨S5120x1024, .bf16⟩
  | .hbm, ⟨15, _⟩ => ⟨S3072x1024, .bf16⟩
  | .hbm, ⟨16, _⟩ => ⟨S8704x1024, .bf16⟩
  | .hbm, ⟨17, _⟩ => ⟨S2048x8704, .f32⟩
  | .hbm, ⟨18, _⟩ => ⟨S2048x5120, .f32⟩
  | .hbm, ⟨19, _⟩ => ⟨S2048x3072, .f32⟩
  | .hbm, ⟨20, _⟩ => ⟨S2048x32, .f32⟩
  | .hbm, ⟨21, _⟩ => ⟨S2048x4x8, .f32⟩
  | .hbm, ⟨22, _⟩ => ⟨S_, .f32⟩
  | .hbm, ⟨23, _⟩ => ⟨S2048x4x120, .f32⟩
  | .hbm, ⟨24, _⟩ => ⟨S2048x4x128, .f32⟩
  | .hbm, ⟨25, _⟩ => ⟨S2048x512, .f32⟩
  | .hbm, ⟨26, _⟩ => ⟨S2048x8704, .f32⟩
  | .hbm, ⟨27, _⟩ => ⟨S2048x8704, .bf16⟩
  | .hbm, ⟨28, _⟩ => ⟨S8704x1024, .bf16⟩
  | .hbm, ⟨29, _⟩ => ⟨S2048x5120, .f32⟩
  | .hbm, ⟨30, _⟩ => ⟨S2048x512, .f32⟩
  | .hbm, ⟨31, _⟩ => ⟨S2048x4x128, .f32⟩
  | .hbm, ⟨32, _⟩ => ⟨S2048x4x8, .f32⟩
  | .hbm, ⟨33, _⟩ => ⟨S2048x32, .f32⟩
  | .hbm, ⟨34, _⟩ => ⟨S2048x3072, .f32⟩
  | .hbm, ⟨35, _⟩ => ⟨S2048x8224, .f32⟩
  | .hbm, ⟨36, _⟩ => ⟨S5120x1024, .bf16⟩
  | .hbm, ⟨37, _⟩ => ⟨S512x1024, .bf16⟩
  | .hbm, ⟨38, _⟩ => ⟨S1024x512, .bf16⟩
  | .hbm, ⟨39, _⟩ => ⟨S1024x4x128, .bf16⟩
  | .hbm, ⟨40, _⟩ => ⟨S1024x4x8, .bf16⟩
  | .hbm, ⟨41, _⟩ => ⟨S1024x32, .bf16⟩
  | .hbm, ⟨42, _⟩ => ⟨S32x1024, .bf16⟩
  | .hbm, ⟨43, _⟩ => ⟨S3072x1024, .bf16⟩
  | .hbm, ⟨44, _⟩ => ⟨S8224x1024, .bf16⟩
  | .hbm, ⟨45, _⟩ => ⟨S1024x8224, .bf16⟩
  | .hbm, ⟨46, _⟩ => ⟨S1024x8224, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | .local _ .vmem, ⟨7, _⟩ => ⟨S2048x512, .bf16⟩
  | .local _ .vmem, ⟨8, _⟩ => ⟨S2048x1024, .bf16⟩
  | .local _ .vmem, ⟨9, _⟩ => ⟨S512x1024, .bf16⟩
  | .local _ .vmem, ⟨10, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨3, ![2, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![17, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference4Ideal.lean ====
abbrev S2048x1024 : Shape := ⟨2, ![2048, 1024]⟩
abbrev S1024x8224 : Shape := ⟨2, ![1024, 8224]⟩
abbrev S2048x8224 : Shape := ⟨2, ![2048, 8224]⟩
abbrev S8224x1024 : Shape := ⟨2, ![8224, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8224, .f32⟩
  | .hbm, ⟨2, _⟩ => ⟨S2048x8224, .f32⟩
  | .hbm, ⟨3, _⟩ => ⟨S2048x8224, .f32⟩
  | .hbm, ⟨4, _⟩ => ⟨S8224x1024, .f32⟩
  | .hbm, ⟨5, _⟩ => ⟨S1024x8224, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S2048x2048 : Shape := ⟨2, ![2048, 2048]⟩
abbrev S2048x1024 : Shape := ⟨2, ![2048, 1024]⟩
abbrev S1024x1024 : Shape := ⟨2, ![1024, 1024]⟩
abbrev S1024x2048 : Shape := ⟨2, ![1024, 2048]⟩
abbrev S512x1024 : Shape := ⟨2, ![512, 1024]⟩

abbrev nBuf : Space → Nat
  | .hbm => 34
  | .vmem => 70
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S2048x2048, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S1024x1024, .bf16⟩
  | .hbm, ⟨13, _⟩ => ⟨S1024x1024, .bf16⟩
  | .hbm, ⟨14, _⟩ => ⟨S2048x2048, .f32⟩
  | .hbm, ⟨15, _⟩ => ⟨S2048x1024, .f32⟩
  | .hbm, ⟨16, _⟩ => ⟨S2048x1024, .f32⟩
  | .hbm, ⟨17, _⟩ => ⟨S2048x1024, .bf16⟩
  | .hbm, ⟨18, _⟩ => ⟨S2048x1024, .f32⟩
  | .hbm, ⟨19, _⟩ => ⟨S1024x1024, .bf16⟩
  | .hbm, ⟨20, _⟩ => ⟨S2048x1024, .f32⟩
  | .hbm, ⟨21, _⟩ => ⟨S2048x1024, .bf16⟩
  | .hbm, ⟨22, _⟩ => ⟨S2048x1024, .bf16⟩
  | .hbm, ⟨23, _⟩ => ⟨S2048x1024, .bf16⟩
  | .hbm, ⟨24, _⟩ => ⟨S2048x1024, .bf16⟩
  | .hbm, ⟨25, _⟩ => ⟨S2048x1024, .bf16⟩
  | .hbm, ⟨26, _⟩ => ⟨S2048x2048, .f32⟩
  | .hbm, ⟨27, _⟩ => ⟨S1024x1024, .bf16⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S1024x1024, .f32⟩
  | .hbm, ⟨33, _⟩ => ⟨S1024x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .f32⟩
  | .local _ .vmem, ⟨24, _⟩ => ⟨S1024x1024, .f32⟩
  | .local _ .vmem, ⟨25, _⟩ => ⟨S2048x1024, .bf16⟩
  | .local _ .vmem, ⟨26, _⟩ => ⟨S2048x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024x1024, .f32⟩
  | .local _ .vmem, ⟨32, _⟩ => ⟨S1024x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S512x1024, .f32⟩
  | .local _ .vmem, ⟨43, _⟩ => ⟨S512x1024, .bf16⟩
  | .local _ .vmem, ⟨44, _⟩ => ⟨S512x1024, .bf16⟩
  | .local _ .vmem, ⟨45, _⟩ => ⟨S512x1024, .bf16⟩
  | .local _ .vmem, ⟨46, _⟩ => ⟨S512x1024, .bf16⟩
  | .local _ .vmem, ⟨47, _⟩ => ⟨S512x1024, .bf16⟩
  | .local _ .vmem, ⟨48, _⟩ => ⟨S512x1024, .bf16⟩
  | .local _ .vmem, ⟨49, _⟩ => ⟨S512x1024, .bf16⟩
  | .local _ .vmem, ⟨50, _⟩ => ⟨S512x1024, .bf16⟩
  | .local _ .vmem, ⟨51, _⟩ => ⟨S2048x1024, .bf16⟩
  | .local _ .vmem, ⟨52, _⟩ => ⟨S2048x1024, .bf16⟩
  | .local _ .vmem, ⟨53, _⟩ => ⟨S2048x1024, .bf16⟩
  | .local _ .vmem, ⟨54, _⟩ => ⟨S1024x1024, .bf16⟩
  | .local _ .vmem, ⟨55, _⟩ => ⟨S1024x1024, .bf16⟩
  | .local _ .vmem, ⟨56, _⟩ => ⟨S1024x1024, .bf16⟩
  | .local _ .vmem, ⟨57, _⟩ => ⟨S1024x1024, .bf16⟩
  | .local _ .vmem, ⟨58, _⟩ => ⟨S1024x1024, .bf16⟩
  | .local _ .vmem, ⟨59, _⟩ => ⟨S1024x1024, .bf16⟩
  | .local _ .vmem, ⟨60, _⟩ => ⟨S1024x1024, .f32⟩
  | .local _ .vmem, ⟨61, _⟩ => ⟨S1024x1024, .f32⟩
  | .local _ .vmem, ⟨62, _⟩ => ⟨S2048x1024, .bf16⟩
  | .local _ .vmem, ⟨63, _⟩ => ⟨S2048x1024, .bf16⟩
  | .local _ .vmem, ⟨64, _⟩ => ⟨S1024x1024, .bf16⟩
  | .local _ .vmem, ⟨65, _⟩ => ⟨S1024x1024, .bf16⟩
  | .local _ .vmem, ⟨66, _⟩ => ⟨S1024x1024, .bf16⟩
  | .local _ .vmem, ⟨67, _⟩ => ⟨S1024x1024, .bf16⟩
  | .local _ .vmem, ⟨68, _⟩ => ⟨S1024x1024, .f32⟩
  | .local _ .vmem, ⟨69, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg1_0 : Ref sig .tc := ⟨.vmem, 26, rfl⟩
abbrev cc4_stg2_0 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg1_1 : Ref sig .tc := ⟨.vmem, 36, rfl⟩
abbrev cc6_stg2_0 : Ref sig .tc := ⟨.vmem, 37, rfl⟩
abbrev cc6_stg2_1 : Ref sig .tc := ⟨.vmem, 38, rfl⟩
abbrev cc6_stg3_0 : Ref sig .tc := ⟨.vmem, 39, rfl⟩
abbrev cc6_stg3_1 : Ref sig .tc := ⟨.vmem, 40, rfl⟩
abbrev cc6_stg4_0 : Ref sig .tc := ⟨.vmem, 41, rfl⟩
abbrev cc6_stg4_1 : Ref sig .tc := ⟨.vmem, 42, rfl⟩
abbrev cc6_stg5_0 : Ref sig .tc := ⟨.vmem, 43, rfl⟩
abbrev cc6_stg5_1 : Ref sig .tc := ⟨.vmem, 44, rfl⟩
abbrev cc6_stg6_0 : Ref sig .tc := ⟨.vmem, 45, rfl⟩
abbrev cc6_stg6_1 : Ref sig .tc := ⟨.vmem, 46, rfl⟩
abbrev cc6_stg7_0 : Ref sig .tc := ⟨.vmem, 47, rfl⟩
abbrev cc6_stg7_1 : Ref sig .tc := ⟨.vmem, 48, rfl⟩
abbrev cc6_stg8_0 : Ref sig .tc := ⟨.vmem, 49, rfl⟩
abbrev cc6_stg8_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg2_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg2_1 : Ref sig .tc := ⟨.vmem, 61, rfl⟩
abbrev cc9_stg0_0 : Ref sig .tc := ⟨.vmem, 62, rfl⟩
abbrev cc9_stg1_0 : Ref sig .tc := ⟨.vmem, 63, rfl⟩
abbrev cc9_stg2_0 : Ref sig .tc := ⟨.vmem, 64, rfl⟩
abbrev cc10_stg0_0 : Ref sig .tc := ⟨.vmem, 65, rfl⟩
abbrev cc10_stg0_1 : Ref sig .tc := ⟨.vmem, 66, rfl⟩
abbrev cc10_stg1_0 : Ref sig .tc := ⟨.vmem, 67, rfl⟩
abbrev cc10_stg2_0 : Ref sig .tc := ⟨.vmem, 68, rfl⟩
abbrev cc10_stg2_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem1_0 : DmaSem sig := 26
abbrev cc4_sem2_0 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem1_1 : DmaSem sig := 36
abbrev cc6_sem2_0 : DmaSem sig := 37
abbrev cc6_sem2_1 : DmaSem sig := 38
abbrev cc6_sem3_0 : DmaSem sig := 39
abbrev cc6_sem3_1 : DmaSem sig := 40
abbrev cc6_sem4_0 : DmaSem sig := 41
abbrev cc6_sem4_1 : DmaSem sig := 42
abbrev cc6_sem5_0 : DmaSem sig := 43
abbrev cc6_sem5_1 : DmaSem sig := 44
abbrev cc6_sem6_0 : DmaSem sig := 45
abbrev cc6_sem6_1 : DmaSem sig := 46
abbrev cc6_sem7_0 : DmaSem sig := 47
abbrev cc6_sem7_1 : DmaSem sig := 48
abbrev cc6_sem8_0 : DmaSem sig := 49
abbrev cc6_sem8_1 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem2_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem2_1 : DmaSem sig := 61
abbrev cc9_sem0_0 : DmaSem sig := 62
abbrev cc9_sem1_0 : DmaSem sig := 63
abbrev cc9_sem2_0 : DmaSem sig := 64
abbrev cc10_sem0_0 : DmaSem sig := 65
abbrev cc10_sem0_1 : DmaSem sig := 66
abbrev cc10_sem1_0 : DmaSem sig := 67
abbrev cc10_sem2_0 : DmaSem sig := 68
abbrev cc10_sem2_1 : DmaSem sig := 69

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨3, ![2, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2048x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S1024x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]

abbrev grid5 : Pipeline.Grid := ⟨3, ![2, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c1_i32 : BitVec 32 := 1#32
  let c0_i32 : BitVec 32 := 0#32
  ![arg0.toNat, c1_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S512x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S512x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S512x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S512x1024 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S512x1024 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S512x1024 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S512x1024 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨3, ![2, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S2048x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S2048x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S1024x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 2, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S1024x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![1, 1, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 1 → Memref sig .tc .vmem S2048x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false, true]

abbrev stage9_1 : Fin 1 → Memref sig .tc .vmem S2048x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true, true]

abbrev stage9_2 : Fin 1 → Memref sig .tc .vmem S1024x1024 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true, true, false]

abbrev grid10 : Pipeline.Grid := ⟨3, ![2, 1, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S1024x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 1 → Memref sig .tc .vmem S1024x1024 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true, true]

abbrev stage10_2 : Fin 2 → Memref sig .tc .vmem S1024x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]
-- ==== Reference5Ideal.lean ====
abbrev S2048x2048 : Shape := ⟨2, ![2048, 2048]⟩
abbrev S2048x1024 : Shape := ⟨2, ![2048, 1024]⟩
abbrev S1024x1024 : Shape := ⟨2, ![1024, 1024]⟩
abbrev S_ : Shape := ⟨0, ![]⟩
abbrev S1024x2048 : Shape := ⟨2, ![1024, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S1024x1024, .f32⟩
  | .hbm, ⟨39, _⟩ => ⟨S1024x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S1024x1024, .f32⟩
  | .hbm, ⟨48, _⟩ => ⟨S1024x1024, .f32⟩
  | .hbm, ⟨49, _⟩ => ⟨S2048x1024, .f32⟩
  | .hbm, ⟨50, _⟩ => ⟨S1024x2048, .f32⟩
  | .hbm, ⟨51, _⟩ => ⟨S2048x1024, .f32⟩
  | .hbm, ⟨52, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel6.lean ====
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩
abbrev S256x2048 : Shape := ⟨2, ![256, 2048]⟩
abbrev S256x1024 : Shape := ⟨2, ![256, 1024]⟩

abbrev nBuf : Space → Nat
  | .hbm => 14
  | .vmem => 26
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x1024, .f32⟩
  | .hbm, ⟨3, _⟩ => ⟨S2048x1024, .bf16⟩
  | .hbm, ⟨4, _⟩ => ⟨S2048x1024, .f32⟩
  | .hbm, ⟨5, _⟩ => ⟨S2048x1024, .bf16⟩
  | .hbm, ⟨6, _⟩ => ⟨S2048x2048, .bf16⟩
  | .hbm, ⟨7, _⟩ => ⟨S2048x1024, .bf16⟩
  | .hbm, ⟨8, _⟩ => ⟨S2048x2048, .bf16⟩
  | .hbm, ⟨9, _⟩ => ⟨S2048x1024, .bf16⟩
  | .hbm, ⟨10, _⟩ => ⟨S2048x1024, .f32⟩
  | .hbm, ⟨11, _⟩ => ⟨S2048x1024, .f32⟩
  | .hbm, ⟨12, _⟩ => ⟨S1024x2048, .bf16⟩
  | .hbm, ⟨13, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S256x2048, .bf16⟩
  | .local _ .vmem, ⟨7, _⟩ => ⟨S256x2048, .bf16⟩
  | .local _ .vmem, ⟨8, _⟩ => ⟨S256x1024, .bf16⟩
  | .local _ .vmem, ⟨9, _⟩ => ⟨S256x1024, .bf16⟩
  | .local _ .vmem, ⟨10, _⟩ => ⟨S256x2048, .bf16⟩
  | .local _ .vmem, ⟨11, _⟩ => ⟨S256x2048, .bf16⟩
  | .local _ .vmem, ⟨12, _⟩ => ⟨S256x1024, .f32⟩
  | .local _ .vmem, ⟨13, _⟩ => ⟨S256x1024, .f32⟩
  | .local _ .vmem, ⟨14, _⟩ => ⟨S256x2048, .bf16⟩
  | .local _ .vmem, ⟨15, _⟩ => ⟨S256x2048, .bf16⟩
  | .local _ .vmem, ⟨16, _⟩ => ⟨S2048x1024, .bf16⟩
  | .local _ .vmem, ⟨17, _⟩ => ⟨S2048x1024, .bf16⟩
  | .local _ .vmem, ⟨18, _⟩ => ⟨S2048x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x2048, .bf16⟩
  | .local _ .vmem, ⟨22, _⟩ => ⟨S1024x2048, .bf16⟩
  | .local _ .vmem, ⟨23, _⟩ => ⟨S2048x1024, .bf16⟩
  | .local _ .vmem, ⟨24, _⟩ => ⟨S1024x1024, .f32⟩
  | .local _ .vmem, ⟨25, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![2, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference6Ideal.lean ====
abbrev S2048x1024 : Shape := ⟨2, ![2048, 1024]⟩
abbrev S1024x2048 : Shape := ⟨2, ![1024, 2048]⟩
abbrev S2048x2048 : Shape := ⟨2, ![2048, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x1024, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x2048, .f32⟩
  | .hbm, ⟨23, _⟩ => ⟨S2048x1024, .f32⟩
  | .hbm, ⟨24, _⟩ => ⟨S1024x2048, .f32⟩
  | .hbm, ⟨25, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel7.lean ====
abbrev S1024x8224 : Shape := ⟨2, ![1024, 8224]⟩
abbrev S2048x8224 : Shape := ⟨2, ![2048, 8224]⟩
abbrev S8224x1024 : Shape := ⟨2, ![8224, 1024]⟩
abbrev S32x1024 : Shape := ⟨2, ![32, 1024]⟩
abbrev S1024x32 : Shape := ⟨2, ![1024, 32]⟩
abbrev S1024x4x8 : Shape := ⟨3, ![1024, 4, 8]⟩
abbrev S_ : Shape := ⟨0, ![]⟩
abbrev S1024x4x120 : Shape := ⟨3, ![1024, 4, 120]⟩
abbrev S1024x4x128 : Shape := ⟨3, ![1024, 4, 128]⟩
abbrev S1024x512 : Shape := ⟨2, ![1024, 512]⟩
abbrev S512x1024 : Shape := ⟨2, ![512, 1024]⟩
abbrev S5120x1024 : Shape := ⟨2, ![5120, 1024]⟩
abbrev S3072x1024 : Shape := ⟨2, ![3072, 1024]⟩
abbrev S8704x1024 : Shape := ⟨2, ![8704, 1024]⟩
abbrev S2048x5120 : Shape := ⟨2, ![2048, 5120]⟩
abbrev S2048x3072 : Shape := ⟨2, ![2048, 3072]⟩
abbrev S2048x32 : Shape := ⟨2, ![2048, 32]⟩
abbrev S2048x4x8 : Shape := ⟨3, ![2048, 4, 8]⟩
abbrev S2048x4x120 : Shape := ⟨3, ![2048, 4, 120]⟩
abbrev S2048x4x128 : Shape := ⟨3, ![2048, 4, 128]⟩
abbrev S2048x512 : Shape := ⟨2, ![2048, 512]⟩
abbrev S2048x8704 : Shape := ⟨2, ![2048, 8704]⟩
abbrev S2048x1024 : Shape := ⟨2, ![2048, 1024]⟩
abbrev S1024x2176 : Shape := ⟨2, ![1024, 2176]⟩
abbrev S2176x1024 : Shape := ⟨2, ![2176, 1024]⟩
abbrev S1024x1024 : Shape := ⟨2, ![1024, 1024]⟩

abbrev nBuf : Space → Nat
  | .hbm => 26
  | .vmem => 7
  | .smem => 0
  | _ => 0

abbrev bufTy : (tb : Table) → Fin (tcTables nBuf tb) → BufTy
  | .hbm, ⟨0, _⟩ => ⟨S1024x8224, .f32⟩
  | .hbm, ⟨1, _⟩ => ⟨S2048x8224, .f32⟩
  | .hbm, ⟨2, _⟩ => ⟨S8224x1024, .f32⟩
  | .hbm, ⟨3, _⟩ => ⟨S8224x1024, .bf16⟩
  | .hbm, ⟨4, _⟩ => ⟨S32x1024, .bf16⟩
  | .hbm, ⟨5, _⟩ => ⟨S1024x32, .bf16⟩
  | .hbm, ⟨6, _⟩ => ⟨S1024x4x8, .bf16⟩
  | .hbm, ⟨7, _⟩ => ⟨S_, .bf16⟩
  | .hbm, ⟨8, _⟩ => ⟨S1024x4x120, .bf16⟩
  | .hbm, ⟨9, _⟩ => ⟨S1024x4x128, .bf16⟩
  | .hbm, ⟨10, _⟩ => ⟨S1024x512, .bf16⟩
  | .hbm, ⟨11, _⟩ => ⟨S512x1024, .bf16⟩
  | .hbm, ⟨12, _⟩ => ⟨S5120x1024, .bf16⟩
  | .hbm, ⟨13, _⟩ => ⟨S3072x1024, .bf16⟩
  | .hbm, ⟨14, _⟩ => ⟨S8704x1024, .bf16⟩
  | .hbm, ⟨15, _⟩ => ⟨S2048x5120, .f32⟩
  | .hbm, ⟨16, _⟩ => ⟨S2048x3072, .f32⟩
  | .hbm, ⟨17, _⟩ => ⟨S2048x32, .f32⟩
  | .hbm, ⟨18, _⟩ => ⟨S2048x4x8, .f32⟩
  | .hbm, ⟨19, _⟩ => ⟨S_, .f32⟩
  | .hbm, ⟨20, _⟩ => ⟨S2048x4x120, .f32⟩
  | .hbm, ⟨21, _⟩ => ⟨S2048x4x128, .f32⟩
  | .hbm, ⟨22, _⟩ => ⟨S2048x512, .f32⟩
  | .hbm, ⟨23, _⟩ => ⟨S2048x8704, .f32⟩
  | .hbm, ⟨24, _⟩ => ⟨S2048x8704, .bf16⟩
  | .hbm, ⟨25, _⟩ => ⟨S2048x1024, .f32⟩
  | .local _ .vmem, ⟨0, _⟩ => ⟨S1024x2176, .bf16⟩
  | .local _ .vmem, ⟨1, _⟩ => ⟨S1024x2176, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x8224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S1024x8224 : Shape := ⟨2, ![1024, 8224]⟩
abbrev S2048x8224 : Shape := ⟨2, ![2048, 8224]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x8224, .f32⟩
  | .hbm, ⟨1, _⟩ => ⟨S2048x8224, .f32⟩
  | .hbm, ⟨2, _⟩ => ⟨S_, .f32⟩
  | .hbm, ⟨3, _⟩ => ⟨S2048x1024, .f32⟩
  | .hbm, ⟨4, _⟩ => ⟨S2048x8224, .f32⟩
  | .hbm, ⟨5, _⟩ => ⟨S2048x1024, .f32⟩
  | _, _ => ⟨S1024x8224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S2048x1024 : Shape := ⟨2, ![2048, 1024]⟩
abbrev S64x64x16 : Shape := ⟨3, ![64, 64, 16]⟩
abbrev S2048x64x64 : Shape := ⟨3, ![2048, 64, 64]⟩
abbrev S64x16x64 : Shape := ⟨3, ![64, 16, 64]⟩
abbrev S1024x1024 : Shape := ⟨2, ![1024, 1024]⟩
abbrev S_ : Shape := ⟨0, ![]⟩
abbrev S1024x64 : Shape := ⟨2, ![1024, 64]⟩
abbrev S1x1024x1x64 : Shape := ⟨4, ![1, 1024, 1, 64]⟩
abbrev S1x1024x16x64 : Shape := ⟨4, ![1, 1024, 16, 64]⟩
abbrev S1024x2048 : Shape := ⟨2, ![1024, 2048]⟩
abbrev S2048x8192 : Shape := ⟨2, ![2048, 8192]⟩
abbrev S1024x256 : Shape := ⟨2, ![1024, 256]⟩
abbrev S256x2048 : Shape := ⟨2, ![256, 2048]⟩
abbrev S2048x4x2048 : Shape := ⟨3, ![2048, 4, 2048]⟩
abbrev S2048x4x1024 : Shape := ⟨3, ![2048, 4, 1024]⟩

abbrev nBuf : Space → Nat
  | .hbm => 159
  | .vmem => 12
  | .smem => 0
  | _ => 0

abbrev hbmTy0_0 (i : Nat) : BufTy := match i % 128 with
  | 0 => ⟨S2048x1024, .f32⟩
  | 1 => ⟨S64x64x16, .f32⟩
  | 2 => ⟨S64x64x16, .f32⟩
  | 3 => ⟨S2048x64x64, .f32⟩
  | 4 => ⟨S2048x64x64, .f32⟩
  | 5 => ⟨S64x64x16, .bf16⟩
  | 6 => ⟨S64x16x64, .bf16⟩
  | 7 => ⟨S1024x1024, .i32⟩
  | 8 => ⟨S_, .i32⟩
  | 9 => ⟨S_, .i32⟩
  | 10 => ⟨S1024x1024, .i32⟩
  | 11 => ⟨S1024x1024, .i32⟩
  | 12 => ⟨S1024x1024, .i32⟩
  | 13 => ⟨S_, .i32⟩
  | 14 => ⟨S1024x1024, .i32⟩
  | 15 => ⟨S1024x1024, .i1⟩
  | 16 => ⟨S1024x1024, .i32⟩
  | 17 => ⟨S1024x1024, .i32⟩
  | 18 => ⟨S_, .i32⟩
  | 19 => ⟨S1024x1024, .i32⟩
  | 20 => ⟨S1024x1024, .i1⟩
  | 21 => ⟨S1024x1024, .i1⟩
  | 22 => ⟨S_, .i32⟩
  | 23 => ⟨S1024x1024, .i32⟩
  | 24 => ⟨S1024x1024, .i32⟩
  | 25 => ⟨S1024x1024, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S1024x1024, .i32⟩
  | 33 => ⟨S1024x1024, .i32⟩
  | 34 => ⟨S_, .i32⟩
  | 35 => ⟨S1024x1024, .i32⟩
  | 36 => ⟨S1024x1024, .i1⟩
  | 37 => ⟨S_, .i32⟩
  | 38 => ⟨S1024x1024, .i32⟩
  | 39 => ⟨S1024x1024, .i1⟩
  | 40 => ⟨S_, .i32⟩
  | 41 => ⟨S_, .i1⟩
  | 42 => ⟨S1024x1024, .i1⟩
  | 43 => ⟨S1024x1024, .i1⟩
  | 44 => ⟨S1024x1024, .i1⟩
  | 45 => ⟨S1024x1024, .i32⟩
  | 46 => ⟨S1024x1024, .i32⟩
  | 47 => ⟨S1024x1024, .i32⟩
  | 48 => ⟨S1024x1024, .i32⟩
  | 49 => ⟨S_, .i32⟩
  | 50 => ⟨S_, .i32⟩
  | 51 => ⟨S1024x1024, .i32⟩
  | 52 => ⟨S1024x1024, .i32⟩
  | 53 => ⟨S1024x1024, .i32⟩
  | 54 => ⟨S_, .i32⟩
  | 55 => ⟨S1024x1024, .i32⟩
  | 56 => ⟨S1024x1024, .i1⟩
  | 57 => ⟨S1024x1024, .i32⟩
  | 58 => ⟨S1024x1024, .i32⟩
  | 59 => ⟨S_, .i32⟩
  | 60 => ⟨S1024x1024, .i32⟩
  | 61 => ⟨S1024x1024, .i1⟩
  | 62 => ⟨S1024x1024, .i1⟩
  | 63 => ⟨S_, .i32⟩
  | 64 => ⟨S1024x1024, .i32⟩
  | 65 => ⟨S1024x1024, .i32⟩
  | 66 => ⟨S1024x1024, .i32⟩
  | 67 => ⟨S1024x1024, .i1⟩
  | 68 => ⟨S1024x64, .bf16⟩
  | 69 => ⟨S1x1024x1x64, .bf16⟩
  | 70 => ⟨S1x1024x16x64, .bf16⟩
  | 71 => ⟨S1024x1024, .bf16⟩
  | 72 => ⟨S_, .i32⟩
  | 73 => ⟨S_, .bf16⟩
  | 74 => ⟨S1024x1024, .bf16⟩
  | 75 => ⟨S1024x1024, .bf16⟩
  | 76 => ⟨S64x64x16, .bf16⟩
  | 77 => ⟨S64x16x64, .bf16⟩
  | 78 => ⟨S1024x1024, .i32⟩
  | 79 => ⟨S_, .i32⟩
  | 80 => ⟨S_, .i32⟩
  | 81 => ⟨S1024x1024, .i32⟩
  | 82 => ⟨S1024x1024, .i32⟩
  | 83 => ⟨S1024x1024, .i32⟩
  | 84 => ⟨S_, .i32⟩
  | 85 => ⟨S1024x1024, .i32⟩
  | 86 => ⟨S1024x1024, .i1⟩
  | 87 => ⟨S1024x1024, .i32⟩
  | 88 => ⟨S1024x1024, .i32⟩
  | 89 => ⟨S_, .i32⟩
  | 90 => ⟨S1024x1024, .i32⟩
  | 91 => ⟨S1024x1024, .i1⟩
  | 92 => ⟨S1024x1024, .i1⟩
  | 93 => ⟨S_, .i32⟩
  | 94 => ⟨S1024x1024, .i32⟩
  | 95 => ⟨S1024x1024, .i32⟩
  | 96 => ⟨S1024x1024, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S1024x1024, .i32⟩
  | 104 => ⟨S1024x1024, .i32⟩
  | 105 => ⟨S_, .i32⟩
  | 106 => ⟨S1024x1024, .i32⟩
  | 107 => ⟨S1024x1024, .i1⟩
  | 108 => ⟨S_, .i32⟩
  | 109 => ⟨S1024x1024, .i32⟩
  | 110 => ⟨S1024x1024, .i1⟩
  | 111 => ⟨S_, .i32⟩
  | 112 => ⟨S_, .i1⟩
  | 113 => ⟨S1024x1024, .i1⟩
  | 114 => ⟨S1024x1024, .i1⟩
  | 115 => ⟨S1024x1024, .i1⟩
  | 116 => ⟨S1024x1024, .i32⟩
  | 117 => ⟨S1024x1024, .i32⟩
  | 118 => ⟨S1024x1024, .i32⟩
  | 119 => ⟨S1024x1024, .i32⟩
  | 120 => ⟨S_, .i32⟩
  | 121 => ⟨S_, .i32⟩
  | 122 => ⟨S1024x1024, .i32⟩
  | 123 => ⟨S1024x1024, .i32⟩
  | 124 => ⟨S1024x1024, .i32⟩
  | 125 => ⟨S_, .i32⟩
  | 126 => ⟨S1024x1024, .i32⟩
  | 127 => ⟨S1024x1024, .i1⟩
  | _ => ⟨S2048x1024, .f32⟩

abbrev hbmTy0_1 (i : Nat) : BufTy := match i % 128 with
  | 0 => ⟨S1024x1024, .i32⟩
  | 1 => ⟨S1024x1024, .i32⟩
  | 2 => ⟨S_, .i32⟩
  | 3 => ⟨S1024x1024, .i32⟩
  | 4 => ⟨S1024x1024, .i1⟩
  | 5 => ⟨S1024x1024, .i1⟩
  | 6 => ⟨S_, .i32⟩
  | 7 => ⟨S1024x1024, .i32⟩
  | 8 => ⟨S1024x1024, .i32⟩
  | 9 => ⟨S1024x1024, .i32⟩
  | 10 => ⟨S1024x1024, .i1⟩
  | 11 => ⟨S1024x64, .bf16⟩
  | 12 => ⟨S1x1024x1x64, .bf16⟩
  | 13 => ⟨S1x1024x16x64, .bf16⟩
  | 14 => ⟨S1024x1024, .bf16⟩
  | 15 => ⟨S_, .i32⟩
  | 16 => ⟨S_, .bf16⟩
  | 17 => ⟨S1024x1024, .bf16⟩
  | 18 => ⟨S1024x1024, .bf16⟩
  | 19 => ⟨S1024x2048, .bf16⟩
  | 20 => ⟨S2048x8192, .f32⟩
  | 21 => ⟨S2048x4x2048, .f32⟩
  | 22 => ⟨S2048x4x1024, .f32⟩
  | 23 => ⟨S2048x64x64, .f32⟩
  | 24 => ⟨S2048x4x1024, .f32⟩
  | 25 => ⟨S2048x64x64, .f32⟩
  | 26 => ⟨S2048x4x1024, .f32⟩
  | 27 => ⟨S2048x4x1024, .f32⟩
  | 28 => ⟨S2048x4x2048, .f32⟩
  | 29 => ⟨S2048x8192, .f32⟩
  | 30 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S256x2048, .bf16⟩
  | .local _ .vmem, ⟨3, _⟩ => ⟨S256x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | .local _ .vmem, ⟨8, _⟩ => ⟨S256x2048, .bf16⟩
  | .local _ .vmem, ⟨9, _⟩ => ⟨S256x2048, .bf16⟩
  | .local _ .vmem, ⟨10, _⟩ => ⟨S1024x256, .f32⟩
  | .local _ .vmem, ⟨11, _⟩ => ⟨S1024x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v4 : Ref sig .tc := ⟨.hbm, 47, rfl⟩
abbrev main_v5 : Ref sig .tc := ⟨.hbm, 48, rfl⟩
abbrev main_c_1 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_c : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_0 : Ref sig .tc := ⟨.hbm, 63, rfl⟩
abbrev main_call2_v12 : Ref sig .tc := ⟨.hbm, 64, rfl⟩
abbrev main_call2_v13 : Ref sig .tc := ⟨.hbm, 65, rfl⟩
abbrev main_v6 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_v1 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_c_3 : Ref sig .tc := ⟨.hbm, 79, rfl⟩
abbrev main_call4_v0 : Ref sig .tc := ⟨.hbm, 80, rfl⟩
abbrev main_call4_v1 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_v5 : Ref sig .tc := ⟨.hbm, 85, rfl⟩
abbrev main_call4_v6 : Ref sig .tc := ⟨.hbm, 86, rfl⟩
abbrev main_call4_v7 : Ref sig .tc := ⟨.hbm, 87, rfl⟩
abbrev main_call4_v8 : Ref sig .tc := ⟨.hbm, 88, rfl⟩
abbrev main_call4_c : Ref sig .tc := ⟨.hbm, 89, rfl⟩
abbrev main_call4_v9 : Ref sig .tc := ⟨.hbm, 90, rfl⟩
abbrev main_call4_v10 : Ref sig .tc := ⟨.hbm, 91, rfl⟩
abbrev main_call4_v11 : Ref sig .tc := ⟨.hbm, 92, rfl⟩
abbrev main_call4_c_0 : Ref sig .tc := ⟨.hbm, 93, rfl⟩
abbrev main_call4_v12 : Ref sig .tc := ⟨.hbm, 94, rfl⟩
abbrev main_call4_v13 : Ref sig .tc := ⟨.hbm, 95, rfl⟩
abbrev main_v16 : Ref sig .tc := ⟨.hbm, 96, rfl⟩
abbrev main_c_4 : Ref sig .tc := ⟨.hbm, 97, rfl⟩
abbrev main_call5_v0 : Ref sig .tc := ⟨.hbm, 98, rfl⟩
abbrev main_call5_c : Ref sig .tc := ⟨.hbm, 99, rfl⟩
abbrev main_call5_v1 : Ref sig .tc := ⟨.hbm, 100, rfl⟩
abbrev main_call5_c_0 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_call5_c_1 : Ref sig .tc := ⟨.hbm, 105, rfl⟩
abbrev main_call5_v5 : Ref sig .tc := ⟨.hbm, 106, rfl⟩
abbrev main_call5_v6 : Ref sig .tc := ⟨.hbm, 107, rfl⟩
abbrev main_call5_c_2 : Ref sig .tc := ⟨.hbm, 108, rfl⟩
abbrev main_call5_v7 : Ref sig .tc := ⟨.hbm, 109, rfl⟩
abbrev main_call5_v8 : Ref sig .tc := ⟨.hbm, 110, rfl⟩
abbrev main_call5_c_3 : Ref sig .tc := ⟨.hbm, 111, rfl⟩
abbrev main_call5_v9 : Ref sig .tc := ⟨.hbm, 112, rfl⟩
abbrev main_call5_v10 : Ref sig .tc := ⟨.hbm, 113, rfl⟩
abbrev main_call5_v11 : Ref sig .tc := ⟨.hbm, 114, rfl⟩
abbrev main_call5_v12 : Ref sig .tc := ⟨.hbm, 115, rfl⟩
abbrev main_call5_v13 : Ref sig .tc := ⟨.hbm, 116, rfl⟩
abbrev main_call5_v14 : Ref sig .tc := ⟨.hbm, 117, rfl⟩
abbrev main_v17 : Ref sig .tc := ⟨.hbm, 118, rfl⟩
abbrev main_v18 : Ref sig .tc := ⟨.hbm, 119, rfl⟩
abbrev main_c_5 : Ref sig .tc := ⟨.hbm, 120, rfl⟩
abbrev main_call6_v0 : Ref sig .tc := ⟨.hbm, 121, rfl⟩
abbrev main_call6_v1 : Ref sig .tc := ⟨.hbm, 122, rfl⟩
abbrev main_call6_v2 : Ref sig .tc := ⟨.hbm, 123, rfl⟩
abbrev main_call6_v3 : Ref sig .tc := ⟨.hbm, 124, rfl⟩
abbrev main_call6_v4 : Ref sig .tc := ⟨.hbm, 125, rfl⟩
abbrev main_call6_v5 : Ref sig .tc := ⟨.hbm, 126, rfl⟩
abbrev main_call6_v6 : Ref sig .tc := ⟨.hbm, 127, rfl⟩
abbrev main_call6_v7 : Ref sig .tc := ⟨.hbm, 128, rfl⟩
abbrev main_call6_v8 : Ref sig .tc := ⟨.hbm, 129, rfl⟩
abbrev main_call6_c : Ref sig .tc := ⟨.hbm, 130, rfl⟩
abbrev main_call6_v9 : Ref sig .tc := ⟨.hbm, 131, rfl⟩
abbrev main_call6_v10 : Ref sig .tc := ⟨.hbm, 132, rfl⟩
abbrev main_call6_v11 : Ref sig .tc := ⟨.hbm, 133, rfl⟩
abbrev main_call6_c_0 : Ref sig .tc := ⟨.hbm, 134, rfl⟩
abbrev main_call6_v12 : Ref sig .tc := ⟨.hbm, 135, rfl⟩
abbrev main_call6_v13 : Ref sig .tc := ⟨.hbm, 136, rfl⟩
abbrev main_v19 : Ref sig .tc := ⟨.hbm, 137, rfl⟩
abbrev main_v20 : Ref sig .tc := ⟨.hbm, 138, rfl⟩
abbrev main_v21 : Ref sig .tc := ⟨.hbm, 139, rfl⟩
abbrev main_v22 : Ref sig .tc := ⟨.hbm, 140, rfl⟩
abbrev main_v23 : Ref sig .tc := ⟨.hbm, 141, rfl⟩
abbrev main_v24 : Ref sig .tc := ⟨.hbm, 142, rfl⟩
abbrev main_c_6 : Ref sig .tc := ⟨.hbm, 143, rfl⟩
abbrev main_call7_v0 : Ref sig .tc := ⟨.hbm, 144, rfl⟩
abbrev main_call7_v1 : Ref sig .tc := ⟨.hbm, 145, rfl⟩
abbrev main_v25 : Ref sig .tc := ⟨.hbm, 146, rfl⟩
abbrev main_v26 : Ref sig .tc := ⟨.hbm, 147, rfl⟩
abbrev main_v27 : Ref sig .tc := ⟨.hbm, 148, rfl⟩
abbrev main_v28 : Ref sig .tc := ⟨.hbm, 149, rfl⟩
abbrev main_v29 : Ref sig .tc := ⟨.hbm, 150, rfl⟩
abbrev main_v30 : Ref sig .tc := ⟨.hbm, 151, rfl⟩
abbrev main_v31 : Ref sig .tc := ⟨.hbm, 152, rfl⟩
abbrev main_v32 : Ref sig .tc := ⟨.hbm, 153, rfl⟩
abbrev main_v33 : Ref sig .tc := ⟨.hbm, 154, rfl⟩
abbrev main_v34 : Ref sig .tc := ⟨.hbm, 155, rfl⟩
abbrev main_v35 : Ref sig .tc := ⟨.hbm, 156, rfl⟩
abbrev main_v36 : Ref sig .tc := ⟨.hbm, 157, rfl⟩
abbrev main_v37 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference8Ideal.lean ====
abbrev S2048x1024 : Shape := ⟨2, ![2048, 1024]⟩
abbrev S64x64x16 : Shape := ⟨3, ![64, 64, 16]⟩
abbrev S2048x64x64 : Shape := ⟨3, ![2048, 64, 64]⟩
abbrev S2048x64x16 : Shape := ⟨3, ![2048, 64, 16]⟩
abbrev S64x64x2048 : Shape := ⟨3, ![64, 64, 2048]⟩
abbrev S64x2048x16 : Shape := ⟨3, ![64, 2048, 16]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S64x64x16, .f32⟩
  | .hbm, ⟨2, _⟩ => ⟨S64x64x16, .f32⟩
  | .hbm, ⟨3, _⟩ => ⟨S2048x64x64, .f32⟩
  | .hbm, ⟨4, _⟩ => ⟨S2048x64x64, .f32⟩
  | .hbm, ⟨5, _⟩ => ⟨S2048x64x16, .f32⟩
  | .hbm, ⟨6, _⟩ => ⟨S64x64x2048, .f32⟩
  | .hbm, ⟨7, _⟩ => ⟨S2048x64x64, .f32⟩
  | .hbm, ⟨8, _⟩ => ⟨S64x64x2048, .f32⟩
  | .hbm, ⟨9, _⟩ => ⟨S2048x64x64, .f32⟩
  | .hbm, ⟨10, _⟩ => ⟨S64x64x2048, .f32⟩
  | .hbm, ⟨11, _⟩ => ⟨S64x2048x16, .f32⟩
  | .hbm, ⟨12, _⟩ => ⟨S2048x64x16, .f32⟩
  | .hbm, ⟨13, _⟩ => ⟨S64x64x2048, .f32⟩
  | .hbm, ⟨14, _⟩ => ⟨S64x2048x16, .f32⟩
  | .hbm, ⟨15, _⟩ => ⟨S2048x64x16, .f32⟩
  | .hbm, ⟨16, _⟩ => ⟨S2048x64x16, .f32⟩
  | .hbm, ⟨17, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel9.lean ====
abbrev S2048x1024 : Shape := ⟨2, ![2048, 1024]⟩
abbrev S2048x64x64 : Shape := ⟨3, ![2048, 64, 64]⟩
abbrev S2048x4x1024 : Shape := ⟨3, ![2048, 4, 1024]⟩
abbrev S2048x4x2048 : Shape := ⟨3, ![2048, 4, 2048]⟩
abbrev S2048x8192 : Shape := ⟨2, ![2048, 8192]⟩
abbrev S1024x2048 : Shape := ⟨2, ![1024, 2048]⟩
abbrev S1024x256 : Shape := ⟨2, ![1024, 256]⟩
abbrev S256x2048 : Shape := ⟨2, ![256, 2048]⟩
abbrev S1024x1024 : Shape := ⟨2, ![1024, 1024]⟩
abbrev S1024x16x64 : Shape := ⟨3, ![1024, 16, 64]⟩
abbrev S1024x16x1 : Shape := ⟨3, ![1024, 16, 1]⟩
abbrev S_ : Shape := ⟨0, ![]⟩
abbrev S1024x64 : Shape := ⟨2, ![1024, 64]⟩
abbrev S64x16x64 : Shape := ⟨3, ![64, 16, 64]⟩
abbrev S64x64x16 : Shape := ⟨3, ![64, 64, 16]⟩

abbrev nBuf : Space → Nat
  | .hbm => 116
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x64x64, .f32⟩
  | .hbm, ⟨2, _⟩ => ⟨S2048x64x64, .f32⟩
  | .hbm, ⟨3, _⟩ => ⟨S2048x4x1024, .f32⟩
  | .hbm, ⟨4, _⟩ => ⟨S2048x4x1024, .f32⟩
  | .hbm, ⟨5, _⟩ => ⟨S2048x4x2048, .f32⟩
  | .hbm, ⟨6, _⟩ => ⟨S2048x8192, .f32⟩
  | .hbm, ⟨7, _⟩ => ⟨S1024x2048, .f32⟩
  | .hbm, ⟨8, _⟩ => ⟨S1024x1024, .f32⟩
  | .hbm, ⟨9, _⟩ => ⟨S1024x16x64, .f32⟩
  | .hbm, ⟨10, _⟩ => ⟨S1024x16x1, .i32⟩
  | .hbm, ⟨11, _⟩ => ⟨S_, .i32⟩
  | .hbm, ⟨12, _⟩ => ⟨S_, .i32⟩
  | .hbm, ⟨13, _⟩ => ⟨S1024x16x1, .i32⟩
  | .hbm, ⟨14, _⟩ => ⟨S1024x16x1, .i32⟩
  | .hbm, ⟨15, _⟩ => ⟨S1024x16x1, .i32⟩
  | .hbm, ⟨16, _⟩ => ⟨S_, .i32⟩
  | .hbm, ⟨17, _⟩ => ⟨S1024x16x1, .i32⟩
  | .hbm, ⟨18, _⟩ => ⟨S1024x16x1, .i1⟩
  | .hbm, ⟨19, _⟩ => ⟨S1024x16x1, .i32⟩
  | .hbm, ⟨20, _⟩ => ⟨S1024x16x1, .i32⟩
  | .hbm, ⟨21, _⟩ => ⟨S_, .i32⟩
  | .hbm, ⟨22, _⟩ => ⟨S1024x16x1, .i32⟩
  | .hbm, ⟨23, _⟩ => ⟨S1024x16x1, .i1⟩
  | .hbm, ⟨24, _⟩ => ⟨S1024x16x1, .i1⟩
  | .hbm, ⟨25, _⟩ => ⟨S_, .i32⟩
  | .hbm, ⟨26, _⟩ => ⟨S1024x16x1, .i32⟩
  | .hbm, ⟨27, _⟩ => ⟨S1024x16x1, .i32⟩
  | .hbm, ⟨28, _⟩ => ⟨S1024x16x1, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S1024x16x1, .i32⟩
  | .hbm, ⟨36, _⟩ => ⟨S1024x16x1, .i32⟩
  | .hbm, ⟨37, _⟩ => ⟨S_, .i32⟩
  | .hbm, ⟨38, _⟩ => ⟨S1024x16x1, .i32⟩
  | .hbm, ⟨39, _⟩ => ⟨S1024x16x1, .i1⟩
  | .hbm, ⟨40, _⟩ => ⟨S_, .i32⟩
  | .hbm, ⟨41, _⟩ => ⟨S1024x16x1, .i32⟩
  | .hbm, ⟨42, _⟩ => ⟨S1024x16x1, .i1⟩
  | .hbm, ⟨43, _⟩ => ⟨S_, .i32⟩
  | .hbm, ⟨44, _⟩ => ⟨S_, .i1⟩
  | .hbm, ⟨45, _⟩ => ⟨S1024x16x1, .i1⟩
  | .hbm, ⟨46, _⟩ => ⟨S1024x16x1, .i1⟩
  | .hbm, ⟨47, _⟩ => ⟨S1024x16x1, .i1⟩
  | .hbm, ⟨48, _⟩ => ⟨S1024x16x1, .i32⟩
  | .hbm, ⟨49, _⟩ => ⟨S1024x16x1, .i32⟩
  | .hbm, ⟨50, _⟩ => ⟨S1024x16x1, .i32⟩
  | .hbm, ⟨51, _⟩ => ⟨S1024x16x1, .i32⟩
  | .hbm, ⟨52, _⟩ => ⟨S1024x16x1, .i1⟩
  | .hbm, ⟨53, _⟩ => ⟨S_, .i32⟩
  | .hbm, ⟨54, _⟩ => ⟨S_, .f32⟩
  | .hbm, ⟨55, _⟩ => ⟨S1024x16x64, .i1⟩
  | .hbm, ⟨56, _⟩ => ⟨S1024x16x64, .f32⟩
  | .hbm, ⟨57, _⟩ => ⟨S1024x16x64, .f32⟩
  | .hbm, ⟨58, _⟩ => ⟨S_, .f32⟩
  | .hbm, ⟨59, _⟩ => ⟨S1024x64, .f32⟩
  | .hbm, ⟨60, _⟩ => ⟨S64x16x64, .f32⟩
  | .hbm, ⟨61, _⟩ => ⟨S64x64x16, .f32⟩
  | .hbm, ⟨62, _⟩ => ⟨S1024x1024, .f32⟩
  | .hbm, ⟨63, _⟩ => ⟨S1024x16x64, .f32⟩
  | .hbm, ⟨64, _⟩ => ⟨S1024x16x1, .i32⟩
  | .hbm, ⟨65, _⟩ => ⟨S_, .i32⟩
  | .hbm, ⟨66, _⟩ => ⟨S_, .i32⟩
  | .hbm, ⟨67, _⟩ => ⟨S1024x16x1, .i32⟩
  | .hbm, ⟨68, _⟩ => ⟨S1024x16x1, .i32⟩
  | .hbm, ⟨69, _⟩ => ⟨S1024x16x1, .i32⟩
  | .hbm, ⟨70, _⟩ => ⟨S_, .i32⟩
  | .hbm, ⟨71, _⟩ => ⟨S1024x16x1, .i32⟩
  | .hbm, ⟨72, _⟩ => ⟨S1024x16x1, .i1⟩
  | .hbm, ⟨73, _⟩ => ⟨S1024x16x1, .i32⟩
  | .hbm, ⟨74, _⟩ => ⟨S1024x16x1, .i32⟩
  | .hbm, ⟨75, _⟩ => ⟨S_, .i32⟩
  | .hbm, ⟨76, _⟩ => ⟨S1024x16x1, .i32⟩
  | .hbm, ⟨77, _⟩ => ⟨S1024x16x1, .i1⟩
  | .hbm, ⟨78, _⟩ => ⟨S1024x16x1, .i1⟩
  | .hbm, ⟨79, _⟩ => ⟨S_, .i32⟩
  | .hbm, ⟨80, _⟩ => ⟨S1024x16x1, .i32⟩
  | .hbm, ⟨81, _⟩ => ⟨S1024x16x1, .i32⟩
  | .hbm, ⟨82, _⟩ => ⟨S1024x16x1, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S1024x16x1, .i32⟩
  | .hbm, ⟨90, _⟩ => ⟨S1024x16x1, .i32⟩
  | .hbm, ⟨91, _⟩ => ⟨S_, .i32⟩
  | .hbm, ⟨92, _⟩ => ⟨S1024x16x1, .i32⟩
  | .hbm, ⟨93, _⟩ => ⟨S1024x16x1, .i1⟩
  | .hbm, ⟨94, _⟩ => ⟨S_, .i32⟩
  | .hbm, ⟨95, _⟩ => ⟨S1024x16x1, .i32⟩
  | .hbm, ⟨96, _⟩ => ⟨S1024x16x1, .i1⟩
  | .hbm, ⟨97, _⟩ => ⟨S_, .i32⟩
  | .hbm, ⟨98, _⟩ => ⟨S_, .i1⟩
  | .hbm, ⟨99, _⟩ => ⟨S1024x16x1, .i1⟩
  | .hbm, ⟨100, _⟩ => ⟨S1024x16x1, .i1⟩
  | .hbm, ⟨101, _⟩ => ⟨S1024x16x1, .i1⟩
  | .hbm, ⟨102, _⟩ => ⟨S1024x16x1, .i32⟩
  | .hbm, ⟨103, _⟩ => ⟨S1024x16x1, .i32⟩
  | .hbm, ⟨104, _⟩ => ⟨S1024x16x1, .i32⟩
  | .hbm, ⟨105, _⟩ => ⟨S1024x16x1, .i32⟩
  | .hbm, ⟨106, _⟩ => ⟨S1024x16x1, .i1⟩
  | .hbm, ⟨107, _⟩ => ⟨S_, .i32⟩
  | .hbm, ⟨108, _⟩ => ⟨S_, .f32⟩
  | .hbm, ⟨109, _⟩ => ⟨S1024x16x64, .i1⟩
  | .hbm, ⟨110, _⟩ => ⟨S1024x16x64, .f32⟩
  | .hbm, ⟨111, _⟩ => ⟨S1024x16x64, .f32⟩
  | .hbm, ⟨112, _⟩ => ⟨S_, .f32⟩
  | .hbm, ⟨113, _⟩ => ⟨S1024x64, .f32⟩
  | .hbm, ⟨114, _⟩ => ⟨S64x16x64, .f32⟩
  | .hbm, ⟨115, _⟩ => ⟨S64x64x16, .f32⟩
  | .local _ .vmem, ⟨0, _⟩ => ⟨S1024x256, .f32⟩
  | .local _ .vmem, ⟨1, _⟩ => ⟨S1024x256, .f32⟩
  | .local _ .vmem, ⟨2, _⟩ => ⟨S1024x2048, .f32⟩
  | .local _ .vmem, ⟨3, _⟩ => ⟨S1024x2048, .f32⟩
  | .local _ .vmem, ⟨4, _⟩ => ⟨S256x2048, .f32⟩
  | .local _ .vmem, ⟨5, _⟩ => ⟨S256x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v8 : Ref sig .tc := ⟨.hbm, 28, rfl⟩
abbrev main_c_0 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_c_1 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v12 : Ref sig .tc := ⟨.hbm, 57, rfl⟩
abbrev main_cst : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_c_2 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_v6 : Ref sig .tc := ⟨.hbm, 72, rfl⟩
abbrev main_call3_v7 : Ref sig .tc := ⟨.hbm, 73, rfl⟩
abbrev main_call3_v8 : Ref sig .tc := ⟨.hbm, 74, rfl⟩
abbrev main_call3_c : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_0 : Ref sig .tc := ⟨.hbm, 79, rfl⟩
abbrev main_call3_v12 : Ref sig .tc := ⟨.hbm, 80, rfl⟩
abbrev main_call3_v13 : Ref sig .tc := ⟨.hbm, 81, rfl⟩
abbrev main_v19 : Ref sig .tc := ⟨.hbm, 82, rfl⟩
abbrev main_c_3 : Ref sig .tc := ⟨.hbm, 83, rfl⟩
abbrev main_call4_v0 : Ref sig .tc := ⟨.hbm, 84, rfl⟩
abbrev main_call4_c : Ref sig .tc := ⟨.hbm, 85, rfl⟩
abbrev main_call4_v1 : Ref sig .tc := ⟨.hbm, 86, rfl⟩
abbrev main_call4_c_0 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_call4_c_1 : Ref sig .tc := ⟨.hbm, 91, rfl⟩
abbrev main_call4_v5 : Ref sig .tc := ⟨.hbm, 92, rfl⟩
abbrev main_call4_v6 : Ref sig .tc := ⟨.hbm, 93, rfl⟩
abbrev main_call4_c_2 : Ref sig .tc := ⟨.hbm, 94, rfl⟩
abbrev main_call4_v7 : Ref sig .tc := ⟨.hbm, 95, rfl⟩
abbrev main_call4_v8 : Ref sig .tc := ⟨.hbm, 96, rfl⟩
abbrev main_call4_c_3 : Ref sig .tc := ⟨.hbm, 97, rfl⟩
abbrev main_call4_v9 : Ref sig .tc := ⟨.hbm, 98, rfl⟩
abbrev main_call4_v10 : Ref sig .tc := ⟨.hbm, 99, rfl⟩
abbrev main_call4_v11 : Ref sig .tc := ⟨.hbm, 100, rfl⟩
abbrev main_call4_v12 : Ref sig .tc := ⟨.hbm, 101, rfl⟩
abbrev main_call4_v13 : Ref sig .tc := ⟨.hbm, 102, rfl⟩
abbrev main_call4_v14 : Ref sig .tc := ⟨.hbm, 103, rfl⟩
abbrev main_v20 : Ref sig .tc := ⟨.hbm, 104, rfl⟩
abbrev main_v21 : Ref sig .tc := ⟨.hbm, 105, rfl⟩
abbrev main_v22 : Ref sig .tc := ⟨.hbm, 106, rfl⟩
abbrev main_c_4 : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_v23 : Ref sig .tc := ⟨.hbm, 111, rfl⟩
abbrev main_cst_5 : Ref sig .tc := ⟨.hbm, 112, rfl⟩
abbrev main_v24 : Ref sig .tc := ⟨.hbm, 113, rfl⟩
abbrev main_v25 : Ref sig .tc := ⟨.hbm, 114, rfl⟩
abbrev main_v26 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg1 : BitVec 32 := BitVec.ofNat 32 (i 1).val
  let c0_i32_4 : BitVec 32 := 0#32
  let v9 : BitVec 1 := Scalar.cmpi .sgt arg1 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S2048x1024 : Shape := ⟨2, ![2048, 1024]⟩
abbrev S2048x64x64 : Shape := ⟨3, ![2048, 64, 64]⟩
abbrev S_ : Shape := ⟨0, ![]⟩
abbrev S64x64x16 : Shape := ⟨3, ![64, 64, 16]⟩
abbrev S2048x64x16 : Shape := ⟨3, ![2048, 64, 16]⟩
abbrev S64x64x2048 : Shape := ⟨3, ![64, 64, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x64x64, .f32⟩
  | .hbm, ⟨2, _⟩ => ⟨S2048x64x64, .f32⟩
  | .hbm, ⟨3, _⟩ => ⟨S_, .f32⟩
  | .hbm, ⟨4, _⟩ => ⟨S64x64x16, .f32⟩
  | .hbm, ⟨5, _⟩ => ⟨S2048x64x16, .f32⟩
  | .hbm, ⟨6, _⟩ => ⟨S64x64x2048, .f32⟩
  | .hbm, ⟨7, _⟩ => ⟨S2048x64x64, .f32⟩
  | .hbm, ⟨8, _⟩ => ⟨S64x64x2048, .f32⟩
  | .hbm, ⟨9, _⟩ => ⟨S2048x64x64, .f32⟩
  | .hbm, ⟨10, _⟩ => ⟨S64x64x2048, .f32⟩
  | .hbm, ⟨11, _⟩ => ⟨S64x64x16, .f32⟩
  | .hbm, ⟨12, _⟩ => ⟨S64x64x2048, .f32⟩
  | .hbm, ⟨13, _⟩ => ⟨S64x64x16, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel10.lean ====
abbrev S2048x64x64 : Shape := ⟨3, ![2048, 64, 64]⟩
abbrev S64x16x64 : Shape := ⟨3, ![64, 16, 64]⟩
abbrev S2048x1024 : Shape := ⟨2, ![2048, 1024]⟩
abbrev S64x64x16 : Shape := ⟨3, ![64, 64, 16]⟩
abbrev S4096x256 : Shape := ⟨2, ![4096, 256]⟩
abbrev S_ : Shape := ⟨0, ![]⟩
abbrev S4096x16 : Shape := ⟨2, ![4096, 16]⟩
abbrev S1x4096x1x16 : Shape := ⟨4, ![1, 4096, 1, 16]⟩
abbrev S1x4096x16x16 : Shape := ⟨4, ![1, 4096, 16, 16]⟩
abbrev S4x1024x256 : Shape := ⟨3, ![4, 1024, 256]⟩
abbrev S4x1x1024x256 : Shape := ⟨4, ![4, 1, 1024, 256]⟩
abbrev S4x2x1024x256 : Shape := ⟨4, ![4, 2, 1024, 256]⟩
abbrev S8192x256 : Shape := ⟨2, ![8192, 256]⟩
abbrev S2048x4x1024 : Shape := ⟨3, ![2048, 4, 1024]⟩
abbrev S2048x4x2048 : Shape := ⟨3, ![2048, 4, 2048]⟩
abbrev S2048x8192 : Shape := ⟨2, ![2048, 8192]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 166
  | .vmem => 12
  | .smem => 0
  | _ => 0

abbrev hbmTy0_0 (i : Nat) : BufTy := match i % 128 with
  | 0 => ⟨S2048x64x64, .f32⟩
  | 1 => ⟨S2048x64x64, .f32⟩
  | 2 => ⟨S64x16x64, .f32⟩
  | 3 => ⟨S64x16x64, .f32⟩
  | 4 => ⟨S2048x1024, .f32⟩
  | 5 => ⟨S64x16x64, .bf16⟩
  | 6 => ⟨S64x64x16, .bf16⟩
  | 7 => ⟨S64x16x64, .bf16⟩
  | 8 => ⟨S64x64x16, .bf16⟩
  | 9 => ⟨S4096x256, .i32⟩
  | 10 => ⟨S_, .i32⟩
  | 11 => ⟨S_, .i32⟩
  | 12 => ⟨S4096x256, .i32⟩
  | 13 => ⟨S4096x256, .i32⟩
  | 14 => ⟨S4096x256, .i32⟩
  | 15 => ⟨S_, .i32⟩
  | 16 => ⟨S4096x256, .i32⟩
  | 17 => ⟨S4096x256, .i1⟩
  | 18 => ⟨S4096x256, .i32⟩
  | 19 => ⟨S4096x256, .i32⟩
  | 20 => ⟨S_, .i32⟩
  | 21 => ⟨S4096x256, .i32⟩
  | 22 => ⟨S4096x256, .i1⟩
  | 23 => ⟨S4096x256, .i1⟩
  | 24 => ⟨S_, .i32⟩
  | 25 => ⟨S4096x256, .i32⟩
  | 26 => ⟨S4096x256, .i32⟩
  | 27 => ⟨S4096x256, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S4096x256, .i32⟩
  | 35 => ⟨S4096x256, .i32⟩
  | 36 => ⟨S_, .i32⟩
  | 37 => ⟨S4096x256, .i32⟩
  | 38 => ⟨S4096x256, .i1⟩
  | 39 => ⟨S_, .i32⟩
  | 40 => ⟨S4096x256, .i32⟩
  | 41 => ⟨S4096x256, .i1⟩
  | 42 => ⟨S_, .i32⟩
  | 43 => ⟨S_, .i1⟩
  | 44 => ⟨S4096x256, .i1⟩
  | 45 => ⟨S4096x256, .i1⟩
  | 46 => ⟨S4096x256, .i1⟩
  | 47 => ⟨S4096x256, .i32⟩
  | 48 => ⟨S4096x256, .i32⟩
  | 49 => ⟨S4096x256, .i32⟩
  | 50 => ⟨S4096x256, .i32⟩
  | 51 => ⟨S_, .i32⟩
  | 52 => ⟨S_, .i32⟩
  | 53 => ⟨S4096x256, .i32⟩
  | 54 => ⟨S4096x256, .i32⟩
  | 55 => ⟨S4096x256, .i32⟩
  | 56 => ⟨S_, .i32⟩
  | 57 => ⟨S4096x256, .i32⟩
  | 58 => ⟨S4096x256, .i1⟩
  | 59 => ⟨S4096x256, .i32⟩
  | 60 => ⟨S4096x256, .i32⟩
  | 61 => ⟨S_, .i32⟩
  | 62 => ⟨S4096x256, .i32⟩
  | 63 => ⟨S4096x256, .i1⟩
  | 64 => ⟨S4096x256, .i1⟩
  | 65 => ⟨S_, .i32⟩
  | 66 => ⟨S4096x256, .i32⟩
  | 67 => ⟨S4096x256, .i32⟩
  | 68 => ⟨S4096x256, .i32⟩
  | 69 => ⟨S4096x256, .i1⟩
  | 70 => ⟨S4096x16, .bf16⟩
  | 71 => ⟨S1x4096x1x16, .bf16⟩
  | 72 => ⟨S1x4096x16x16, .bf16⟩
  | 73 => ⟨S4096x256, .bf16⟩
  | 74 => ⟨S_, .i32⟩
  | 75 => ⟨S_, .bf16⟩
  | 76 => ⟨S4096x256, .bf16⟩
  | 77 => ⟨S4096x256, .bf16⟩
  | 78 => ⟨S4x1024x256, .bf16⟩
  | 79 => ⟨S64x64x16, .bf16⟩
  | 80 => ⟨S4096x256, .i32⟩
  | 81 => ⟨S_, .i32⟩
  | 82 => ⟨S_, .i32⟩
  | 83 => ⟨S4096x256, .i32⟩
  | 84 => ⟨S4096x256, .i32⟩
  | 85 => ⟨S4096x256, .i32⟩
  | 86 => ⟨S_, .i32⟩
  | 87 => ⟨S4096x256, .i32⟩
  | 88 => ⟨S4096x256, .i1⟩
  | 89 => ⟨S4096x256, .i32⟩
  | 90 => ⟨S4096x256, .i32⟩
  | 91 => ⟨S_, .i32⟩
  | 92 => ⟨S4096x256, .i32⟩
  | 93 => ⟨S4096x256, .i1⟩
  | 94 => ⟨S4096x256, .i1⟩
  | 95 => ⟨S_, .i32⟩
  | 96 => ⟨S4096x256, .i32⟩
  | 97 => ⟨S4096x256, .i32⟩
  | 98 => ⟨S4096x256, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S4096x256, .i32⟩
  | 106 => ⟨S4096x256, .i32⟩
  | 107 => ⟨S_, .i32⟩
  | 108 => ⟨S4096x256, .i32⟩
  | 109 => ⟨S4096x256, .i1⟩
  | 110 => ⟨S_, .i32⟩
  | 111 => ⟨S4096x256, .i32⟩
  | 112 => ⟨S4096x256, .i1⟩
  | 113 => ⟨S_, .i32⟩
  | 114 => ⟨S_, .i1⟩
  | 115 => ⟨S4096x256, .i1⟩
  | 116 => ⟨S4096x256, .i1⟩
  | 117 => ⟨S4096x256, .i1⟩
  | 118 => ⟨S4096x256, .i32⟩
  | 119 => ⟨S4096x256, .i32⟩
  | 120 => ⟨S4096x256, .i32⟩
  | 121 => ⟨S4096x256, .i32⟩
  | 122 => ⟨S_, .i32⟩
  | 123 => ⟨S_, .i32⟩
  | 124 => ⟨S4096x256, .i32⟩
  | 125 => ⟨S4096x256, .i32⟩
  | 126 => ⟨S4096x256, .i32⟩
  | 127 => ⟨S_, .i32⟩
  | _ => ⟨S2048x64x64, .f32⟩

abbrev hbmTy0_1 (i : Nat) : BufTy := match i % 128 with
  | 0 => ⟨S4096x256, .i32⟩
  | 1 => ⟨S4096x256, .i1⟩
  | 2 => ⟨S4096x256, .i32⟩
  | 3 => ⟨S4096x256, .i32⟩
  | 4 => ⟨S_, .i32⟩
  | 5 => ⟨S4096x256, .i32⟩
  | 6 => ⟨S4096x256, .i1⟩
  | 7 => ⟨S4096x256, .i1⟩
  | 8 => ⟨S_, .i32⟩
  | 9 => ⟨S4096x256, .i32⟩
  | 10 => ⟨S4096x256, .i32⟩
  | 11 => ⟨S4096x256, .i32⟩
  | 12 => ⟨S4096x256, .i1⟩
  | 13 => ⟨S4096x16, .bf16⟩
  | 14 => ⟨S1x4096x1x16, .bf16⟩
  | 15 => ⟨S1x4096x16x16, .bf16⟩
  | 16 => ⟨S4096x256, .bf16⟩
  | 17 => ⟨S_, .i32⟩
  | 18 => ⟨S_, .bf16⟩
  | 19 => ⟨S4096x256, .bf16⟩
  | 20 => ⟨S4096x256, .bf16⟩
  | 21 => ⟨S4x1024x256, .bf16⟩
  | 22 => ⟨S4x1x1024x256, .bf16⟩
  | 23 => ⟨S4x1x1024x256, .bf16⟩
  | 24 => ⟨S4x2x1024x256, .bf16⟩
  | 25 => ⟨S8192x256, .bf16⟩
  | 26 => ⟨S2048x4x1024, .f32⟩
  | 27 => ⟨S2048x4x1024, .f32⟩
  | 28 => ⟨S2048x4x2048, .f32⟩
  | 29 => ⟨S2048x8192, .f32⟩
  | 30 => ⟨S2048x1024, .f32⟩
  | 31 => ⟨S2048x1024, .bf16⟩
  | 32 => ⟨S2048x8192, .f32⟩
  | 33 => ⟨S2048x4x2048, .f32⟩
  | 34 => ⟨S2048x4x1024, .f32⟩
  | 35 => ⟨S2048x64x64, .f32⟩
  | 36 => ⟨S2048x4x1024, .f32⟩
  | 37 => ⟨S2048x64x64, .f32⟩
  | _ => ⟨S2048x64x64, .f32⟩

abbrev hbmTy (i : Nat) : BufTy := match i / 128 with
  | 0 => hbmTy0_0 i
  | 1 => hbmTy0_1 i
  | _ => ⟨S2048x64x64, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S2048x256, .bf16⟩
  | .local _ .vmem, ⟨3, _⟩ => ⟨S2048x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .bf16⟩
  | .local _ .vmem, ⟨7, _⟩ => ⟨S1024x256, .bf16⟩
  | .local _ .vmem, ⟨8, _⟩ => ⟨S2048x256, .bf16⟩
  | .local _ .vmem, ⟨9, _⟩ => ⟨S2048x256, .bf16⟩
  | .local _ .vmem, ⟨10, _⟩ => ⟨S1024x2048, .f32⟩
  | .local _ .vmem, ⟨11, _⟩ => ⟨S1024x2048, .f32⟩
  | _, _ => ⟨S2048x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v6 : Ref sig .tc := ⟨.hbm, 49, rfl⟩
abbrev main_v7 : Ref sig .tc := ⟨.hbm, 50, rfl⟩
abbrev main_c_1 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_c_2 : Ref sig .tc := ⟨.hbm, 74, rfl⟩
abbrev main_call3_v0 : Ref sig .tc := ⟨.hbm, 75, rfl⟩
abbrev main_call3_v1 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_c_3 : Ref sig .tc := ⟨.hbm, 81, rfl⟩
abbrev main_call4_v0 : Ref sig .tc := ⟨.hbm, 82, rfl⟩
abbrev main_call4_v1 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_v5 : Ref sig .tc := ⟨.hbm, 87, rfl⟩
abbrev main_call4_v6 : Ref sig .tc := ⟨.hbm, 88, rfl⟩
abbrev main_call4_v7 : Ref sig .tc := ⟨.hbm, 89, rfl⟩
abbrev main_call4_v8 : Ref sig .tc := ⟨.hbm, 90, rfl⟩
abbrev main_call4_c : Ref sig .tc := ⟨.hbm, 91, rfl⟩
abbrev main_call4_v9 : Ref sig .tc := ⟨.hbm, 92, rfl⟩
abbrev main_call4_v10 : Ref sig .tc := ⟨.hbm, 93, rfl⟩
abbrev main_call4_v11 : Ref sig .tc := ⟨.hbm, 94, rfl⟩
abbrev main_call4_c_0 : Ref sig .tc := ⟨.hbm, 95, rfl⟩
abbrev main_call4_v12 : Ref sig .tc := ⟨.hbm, 96, rfl⟩
abbrev main_call4_v13 : Ref sig .tc := ⟨.hbm, 97, rfl⟩
abbrev main_v18 : Ref sig .tc := ⟨.hbm, 98, rfl⟩
abbrev main_c_4 : Ref sig .tc := ⟨.hbm, 99, rfl⟩
abbrev main_call5_v0 : Ref sig .tc := ⟨.hbm, 100, rfl⟩
abbrev main_call5_c : Ref sig .tc := ⟨.hbm, 101, rfl⟩
abbrev main_call5_v1 : Ref sig .tc := ⟨.hbm, 102, rfl⟩
abbrev main_call5_c_0 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_call5_c_1 : Ref sig .tc := ⟨.hbm, 107, rfl⟩
abbrev main_call5_v5 : Ref sig .tc := ⟨.hbm, 108, rfl⟩
abbrev main_call5_v6 : Ref sig .tc := ⟨.hbm, 109, rfl⟩
abbrev main_call5_c_2 : Ref sig .tc := ⟨.hbm, 110, rfl⟩
abbrev main_call5_v7 : Ref sig .tc := ⟨.hbm, 111, rfl⟩
abbrev main_call5_v8 : Ref sig .tc := ⟨.hbm, 112, rfl⟩
abbrev main_call5_c_3 : Ref sig .tc := ⟨.hbm, 113, rfl⟩
abbrev main_call5_v9 : Ref sig .tc := ⟨.hbm, 114, rfl⟩
abbrev main_call5_v10 : Ref sig .tc := ⟨.hbm, 115, rfl⟩
abbrev main_call5_v11 : Ref sig .tc := ⟨.hbm, 116, rfl⟩
abbrev main_call5_v12 : Ref sig .tc := ⟨.hbm, 117, rfl⟩
abbrev main_call5_v13 : Ref sig .tc := ⟨.hbm, 118, rfl⟩
abbrev main_call5_v14 : Ref sig .tc := ⟨.hbm, 119, rfl⟩
abbrev main_v19 : Ref sig .tc := ⟨.hbm, 120, rfl⟩
abbrev main_v20 : Ref sig .tc := ⟨.hbm, 121, rfl⟩
abbrev main_c_5 : Ref sig .tc := ⟨.hbm, 122, rfl⟩
abbrev main_call6_v0 : Ref sig .tc := ⟨.hbm, 123, rfl⟩
abbrev main_call6_v1 : Ref sig .tc := ⟨.hbm, 124, rfl⟩
abbrev main_call6_v2 : Ref sig .tc := ⟨.hbm, 125, rfl⟩
abbrev main_call6_v3 : Ref sig .tc := ⟨.hbm, 126, rfl⟩
abbrev main_call6_v4 : Ref sig .tc := ⟨.hbm, 127, rfl⟩
abbrev main_call6_v5 : Ref sig .tc := ⟨.hbm, 128, rfl⟩
abbrev main_call6_v6 : Ref sig .tc := ⟨.hbm, 129, rfl⟩
abbrev main_call6_v7 : Ref sig .tc := ⟨.hbm, 130, rfl⟩
abbrev main_call6_v8 : Ref sig .tc := ⟨.hbm, 131, rfl⟩
abbrev main_call6_c : Ref sig .tc := ⟨.hbm, 132, rfl⟩
abbrev main_call6_v9 : Ref sig .tc := ⟨.hbm, 133, rfl⟩
abbrev main_call6_v10 : Ref sig .tc := ⟨.hbm, 134, rfl⟩
abbrev main_call6_v11 : Ref sig .tc := ⟨.hbm, 135, rfl⟩
abbrev main_call6_c_0 : Ref sig .tc := ⟨.hbm, 136, rfl⟩
abbrev main_call6_v12 : Ref sig .tc := ⟨.hbm, 137, rfl⟩
abbrev main_call6_v13 : Ref sig .tc := ⟨.hbm, 138, rfl⟩
abbrev main_v21 : Ref sig .tc := ⟨.hbm, 139, rfl⟩
abbrev main_v22 : Ref sig .tc := ⟨.hbm, 140, rfl⟩
abbrev main_v23 : Ref sig .tc := ⟨.hbm, 141, rfl⟩
abbrev main_v24 : Ref sig .tc := ⟨.hbm, 142, rfl⟩
abbrev main_v25 : Ref sig .tc := ⟨.hbm, 143, rfl⟩
abbrev main_v26 : Ref sig .tc := ⟨.hbm, 144, rfl⟩
abbrev main_c_6 : Ref sig .tc := ⟨.hbm, 145, rfl⟩
abbrev main_call7_v0 : Ref sig .tc := ⟨.hbm, 146, rfl⟩
abbrev main_call7_v1 : Ref sig .tc := ⟨.hbm, 147, rfl⟩
abbrev main_v27 : Ref sig .tc := ⟨.hbm, 148, rfl⟩
abbrev main_v28 : Ref sig .tc := ⟨.hbm, 149, rfl⟩
abbrev main_v29 : Ref sig .tc := ⟨.hbm, 150, rfl⟩
abbrev main_v30 : Ref sig .tc := ⟨.hbm, 151, rfl⟩
abbrev main_v31 : Ref sig .tc := ⟨.hbm, 152, rfl⟩
abbrev main_v32 : Ref sig .tc := ⟨.hbm, 153, rfl⟩
abbrev main_v33 : Ref sig .tc := ⟨.hbm, 154, rfl⟩
abbrev main_v34 : Ref sig .tc := ⟨.hbm, 155, rfl⟩
abbrev main_v35 : Ref sig .tc := ⟨.hbm, 156, rfl⟩
abbrev main_v36 : Ref sig .tc := ⟨.hbm, 157, rfl⟩
abbrev main_v37 : Ref sig .tc := ⟨.hbm, 158, rfl⟩
abbrev main_v38 : Ref sig .tc := ⟨.hbm, 159, rfl⟩
abbrev main_v39 : Ref sig .tc := ⟨.hbm, 160, rfl⟩
abbrev main_v40 : Ref sig .tc := ⟨.hbm, 161, rfl⟩
abbrev main_v41 : Ref sig .tc := ⟨.hbm, 162, rfl⟩
abbrev main_v42 : Ref sig .tc := ⟨.hbm, 163, rfl⟩
abbrev main_v43 : Ref sig .tc := ⟨.hbm, 164, rfl⟩
abbrev main_v44 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference10Ideal.lean ====
abbrev S2048x64x64 : Shape := ⟨3, ![2048, 64, 64]⟩
abbrev S64x16x64 : Shape := ⟨3, ![64, 16, 64]⟩
abbrev S2048x1024 : Shape := ⟨2, ![2048, 1024]⟩
abbrev S64x16x2048 : Shape := ⟨3, ![64, 16, 2048]⟩
abbrev S2048x64x16 : Shape := ⟨3, ![2048, 64, 16]⟩
abbrev S64x2048x64 : Shape := ⟨3, ![64, 2048, 64]⟩

abbrev nBuf : Space → Nat
  | .hbm => 19
  | .vmem => 0
  | .smem => 0
  | _ => 0

abbrev bufTy : (tb : Table) → Fin (tcTables nBuf tb) → BufTy
  | .hbm, ⟨0, _⟩ => ⟨S2048x64x64, .f32⟩
  | .hbm, ⟨1, _⟩ => ⟨S2048x64x64, .f32⟩
  | .hbm, ⟨2, _⟩ => ⟨S64x16x64, .f32⟩
  | .hbm, ⟨3, _⟩ => ⟨S64x16x64, .f32⟩
  | .hbm, ⟨4, _⟩ => ⟨S2048x1024, .f32⟩
  | .hbm, ⟨5, _⟩ => ⟨S64x16x2048, .f32⟩
  | .hbm, ⟨6, _⟩ => ⟨S2048x64x16, .f32⟩
  | .hbm, ⟨7, _⟩ => ⟨S64x16x2048, .f32⟩
  | .hbm, ⟨8, _⟩ => ⟨S2048x64x16, .f32⟩
  | .hbm, ⟨9, _⟩ => ⟨S2048x64x16, .f32⟩
  | .hbm, ⟨10, _⟩ => ⟨S2048x1024, .f32⟩
  | .hbm, ⟨11, _⟩ => ⟨S2048x64x16, .f32⟩
  | .hbm, ⟨12, _⟩ => ⟨S2048x64x16, .f32⟩
  | .hbm, ⟨13, _⟩ => ⟨S64x16x2048, .f32⟩
  | .hbm, ⟨14, _⟩ => ⟨S64x2048x64, .f32⟩
  | .hbm, ⟨15, _⟩ => ⟨S2048x64x64, .f32⟩
  | .hbm, ⟨16, _⟩ => ⟨S64x16x2048, .f32⟩
  | .hbm, ⟨17, _⟩ => ⟨S64x2048x64, .f32⟩
  | .hbm, ⟨18, _⟩ => ⟨S2048x64x64, .f32⟩
  | _, _ => ⟨S2048x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel11.lean ====
abbrev S2048x64x64 : Shape := ⟨3, ![2048, 64, 64]⟩
abbrev S2048x1024 : Shape := ⟨2, ![2048, 1024]⟩
abbrev S2048x4x1024 : Shape := ⟨3, ![2048, 4, 1024]⟩
abbrev S2048x4x2048 : Shape := ⟨3, ![2048, 4, 2048]⟩
abbrev S2048x8192 : Shape := ⟨2, ![2048, 8192]⟩
abbrev S8192x256 : Shape := ⟨2, ![8192, 256]⟩
abbrev S1024x2048 : Shape := ⟨2, ![1024, 2048]⟩
abbrev S1024x256 : Shape := ⟨2, ![1024, 256]⟩
abbrev S2048x256 : Shape := ⟨2, ![2048, 256]⟩
abbrev S4x2x1024x256 : Shape := ⟨4, ![4, 2, 1024, 256]⟩
abbrev S4x1x1024x256 : Shape := ⟨4, ![4, 1, 1024, 256]⟩
abbrev S4x1024x256 : Shape := ⟨3, ![4, 1024, 256]⟩
abbrev S4096x256 : Shape := ⟨2, ![4096, 256]⟩
abbrev S4096x16x16 : Shape := ⟨3, ![4096, 16, 16]⟩
abbrev S4096x16x1 : Shape := ⟨3, ![4096, 16, 1]⟩
abbrev S_ : Shape := ⟨0, ![]⟩
abbrev S4096x16 : Shape := ⟨2, ![4096, 16]⟩
abbrev S64x64x16 : Shape := ⟨3, ![64, 64, 16]⟩
abbrev S64x16x64 : Shape := ⟨3, ![64, 16, 64]⟩

abbrev nBuf : Space → Nat
  | .hbm => 123
  | .vmem => 6
  | .smem => 0
  | _ => 0

abbrev bufTy : (tb : Table) → Fin (tcTables nBuf tb) → BufTy
  | .hbm, ⟨0, _⟩ => ⟨S2048x64x64, .f32⟩
  | .hbm, ⟨1, _⟩ => ⟨S2048x64x64, .f32⟩
  | .hbm, ⟨2, _⟩ => ⟨S2048x1024, .f32⟩
  | .hbm, ⟨3, _⟩ => ⟨S2048x4x1024, .f32⟩
  | .hbm, ⟨4, _⟩ => ⟨S2048x4x1024, .f32⟩
  | .hbm, ⟨5, _⟩ => ⟨S2048x4x2048, .f32⟩
  | .hbm, ⟨6, _⟩ => ⟨S2048x8192, .f32⟩
  | .hbm, ⟨7, _⟩ => ⟨S2048x1024, .bf16⟩
  | .hbm, ⟨8, _⟩ => ⟨S8192x256, .f32⟩
  | .hbm, ⟨9, _⟩ => ⟨S4x2x1024x256, .f32⟩
  | .hbm, ⟨10, _⟩ => ⟨S4x1x1024x256, .f32⟩
  | .hbm, ⟨11, _⟩ => ⟨S4x1024x256, .f32⟩
  | .hbm, ⟨12, _⟩ => ⟨S4096x256, .f32⟩
  | .hbm, ⟨13, _⟩ => ⟨S4096x16x16, .f32⟩
  | .hbm, ⟨14, _⟩ => ⟨S4096x16x1, .i32⟩
  | .hbm, ⟨15, _⟩ => ⟨S_, .i32⟩
  | .hbm, ⟨16, _⟩ => ⟨S_, .i32⟩
  | .hbm, ⟨17, _⟩ => ⟨S4096x16x1, .i32⟩
  | .hbm, ⟨18, _⟩ => ⟨S4096x16x1, .i32⟩
  | .hbm, ⟨19, _⟩ => ⟨S4096x16x1, .i32⟩
  | .hbm, ⟨20, _⟩ => ⟨S_, .i32⟩
  | .hbm, ⟨21, _⟩ => ⟨S4096x16x1, .i32⟩
  | .hbm, ⟨22, _⟩ => ⟨S4096x16x1, .i1⟩
  | .hbm, ⟨23, _⟩ => ⟨S4096x16x1, .i32⟩
  | .hbm, ⟨24, _⟩ => ⟨S4096x16x1, .i32⟩
  | .hbm, ⟨25, _⟩ => ⟨S_, .i32⟩
  | .hbm, ⟨26, _⟩ => ⟨S4096x16x1, .i32⟩
  | .hbm, ⟨27, _⟩ => ⟨S4096x16x1, .i1⟩
  | .hbm, ⟨28, _⟩ => ⟨S4096x16x1, .i1⟩
  | .hbm, ⟨29, _⟩ => ⟨S_, .i32⟩
  | .hbm, ⟨30, _⟩ => ⟨S4096x16x1, .i32⟩
  | .hbm, ⟨31, _⟩ => ⟨S4096x16x1, .i32⟩
  | .hbm, ⟨32, _⟩ => ⟨S4096x16x1, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S4096x16x1, .i32⟩
  | .hbm, ⟨40, _⟩ => ⟨S4096x16x1, .i32⟩
  | .hbm, ⟨41, _⟩ => ⟨S_, .i32⟩
  | .hbm, ⟨42, _⟩ => ⟨S4096x16x1, .i32⟩
  | .hbm, ⟨43, _⟩ => ⟨S4096x16x1, .i1⟩
  | .hbm, ⟨44, _⟩ => ⟨S_, .i32⟩
  | .hbm, ⟨45, _⟩ => ⟨S4096x16x1, .i32⟩
  | .hbm, ⟨46, _⟩ => ⟨S4096x16x1, .i1⟩
  | .hbm, ⟨47, _⟩ => ⟨S_, .i32⟩
  | .hbm, ⟨48, _⟩ => ⟨S_, .i1⟩
  | .hbm, ⟨49, _⟩ => ⟨S4096x16x1, .i1⟩
  | .hbm, ⟨50, _⟩ => ⟨S4096x16x1, .i1⟩
  | .hbm, ⟨51, _⟩ => ⟨S4096x16x1, .i1⟩
  | .hbm, ⟨52, _⟩ => ⟨S4096x16x1, .i32⟩
  | .hbm, ⟨53, _⟩ => ⟨S4096x16x1, .i32⟩
  | .hbm, ⟨54, _⟩ => ⟨S4096x16x1, .i32⟩
  | .hbm, ⟨55, _⟩ => ⟨S4096x16x1, .i32⟩
  | .hbm, ⟨56, _⟩ => ⟨S4096x16x1, .i1⟩
  | .hbm, ⟨57, _⟩ => ⟨S_, .i32⟩
  | .hbm, ⟨58, _⟩ => ⟨S_, .f32⟩
  | .hbm, ⟨59, _⟩ => ⟨S4096x16x16, .i1⟩
  | .hbm, ⟨60, _⟩ => ⟨S4096x16x16, .f32⟩
  | .hbm, ⟨61, _⟩ => ⟨S4096x16x16, .f32⟩
  | .hbm, ⟨62, _⟩ => ⟨S_, .f32⟩
  | .hbm, ⟨63, _⟩ => ⟨S4096x16, .f32⟩
  | .hbm, ⟨64, _⟩ => ⟨S64x64x16, .f32⟩
  | .hbm, ⟨65, _⟩ => ⟨S64x16x64, .f32⟩
  | .hbm, ⟨66, _⟩ => ⟨S4x1x1024x256, .f32⟩
  | .hbm, ⟨67, _⟩ => ⟨S4x1024x256, .f32⟩
  | .hbm, ⟨68, _⟩ => ⟨S4096x256, .f32⟩
  | .hbm, ⟨69, _⟩ => ⟨S4096x16x16, .f32⟩
  | .hbm, ⟨70, _⟩ => ⟨S4096x16x1, .i32⟩
  | .hbm, ⟨71, _⟩ => ⟨S_, .i32⟩
  | .hbm, ⟨72, _⟩ => ⟨S_, .i32⟩
  | .hbm, ⟨73, _⟩ => ⟨S4096x16x1, .i32⟩
  | .hbm, ⟨74, _⟩ => ⟨S4096x16x1, .i32⟩
  | .hbm, ⟨75, _⟩ => ⟨S4096x16x1, .i32⟩
  | .hbm, ⟨76, _⟩ => ⟨S_, .i32⟩
  | .hbm, ⟨77, _⟩ => ⟨S4096x16x1, .i32⟩
  | .hbm, ⟨78, _⟩ => ⟨S4096x16x1, .i1⟩
  | .hbm, ⟨79, _⟩ => ⟨S4096x16x1, .i32⟩
  | .hbm, ⟨80, _⟩ => ⟨S4096x16x1, .i32⟩
  | .hbm, ⟨81, _⟩ => ⟨S_, .i32⟩
  | .hbm, ⟨82, _⟩ => ⟨S4096x16x1, .i32⟩
  | .hbm, ⟨83, _⟩ => ⟨S4096x16x1, .i1⟩
  | .hbm, ⟨84, _⟩ => ⟨S4096x16x1, .i1⟩
  | .hbm, ⟨85, _⟩ => ⟨S_, .i32⟩
  | .hbm, ⟨86, _⟩ => ⟨S4096x16x1, .i32⟩
  | .hbm, ⟨87, _⟩ => ⟨S4096x16x1, .i32⟩
  | .hbm, ⟨88, _⟩ => ⟨S4096x16x1, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i1⟩
  | .hbm, ⟨93, _⟩ => ⟨S_, .i32⟩
  | .hbm, ⟨94, _⟩ => ⟨S_, .i32⟩
  | .hbm, ⟨95, _⟩ => ⟨S4096x16x1, .i32⟩
  | .hbm, ⟨96, _⟩ => ⟨S4096x16x1, .i32⟩
  | .hbm, ⟨97, _⟩ => ⟨S_, .i32⟩
  | .hbm, ⟨98, _⟩ => ⟨S4096x16x1, .i32⟩
  | .hbm, ⟨99, _⟩ => ⟨S4096x16x1, .i1⟩
  | .hbm, ⟨100, _⟩ => ⟨S_, .i32⟩
  | .hbm, ⟨101, _⟩ => ⟨S4096x16x1, .i32⟩
  | .hbm, ⟨102, _⟩ => ⟨S4096x16x1, .i1⟩
  | .hbm, ⟨103, _⟩ => ⟨S_, .i32⟩
  | .hbm, ⟨104, _⟩ => ⟨S_, .i1⟩
  | .hbm, ⟨105, _⟩ => ⟨S4096x16x1, .i1⟩
  | .hbm, ⟨106, _⟩ => ⟨S4096x16x1, .i1⟩
  | .hbm, ⟨107, _⟩ => ⟨S4096x16x1, .i1⟩
  | .hbm, ⟨108, _⟩ => ⟨S4096x16x1, .i32⟩
  | .hbm, ⟨109, _⟩ => ⟨S4096x16x1, .i32⟩
  | .hbm, ⟨110, _⟩ => ⟨S4096x16x1, .i32⟩
  | .hbm, ⟨111, _⟩ => ⟨S4096x16x1, .i32⟩
  | .hbm, ⟨112, _⟩ => ⟨S4096x16x1, .i1⟩
  | .hbm, ⟨113, _⟩ => ⟨S_, .i32⟩
  | .hbm, ⟨114, _⟩ => ⟨S_, .f32⟩
  | .hbm, ⟨115, _⟩ => ⟨S4096x16x16, .i1⟩
  | .hbm, ⟨116, _⟩ => ⟨S4096x16x16, .f32⟩
  | .hbm, ⟨117, _⟩ => ⟨S4096x16x16, .f32⟩
  | .hbm, ⟨118, _⟩ => ⟨S_, .f32⟩
  | .hbm, ⟨119, _⟩ => ⟨S4096x16, .f32⟩
  | .hbm, ⟨120, _⟩ => ⟨S64x64x16, .f32⟩
  | .hbm, ⟨121, _⟩ => ⟨S64x16x64, .f32⟩
  | .hbm, ⟨122, _⟩ => ⟨S64x16x64, .f32⟩
  | .local _ .vmem, ⟨0, _⟩ => ⟨S1024x2048, .f32⟩
  | .local _ .vmem, ⟨1, _⟩ => ⟨S1024x2048, .f32⟩
  | .local _ .vmem, ⟨2, _⟩ => ⟨S1024x256, .bf16⟩
  | .local _ .vmem, ⟨3, _⟩ => ⟨S1024x256, .bf16⟩
  | .local _ .vmem, ⟨4, _⟩ => ⟨S2048x256, .f32⟩
  | .local _ .vmem, ⟨5, _⟩ => ⟨S2048x256, .f32⟩
  | _, _ => ⟨S2048x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v12 : Ref sig .tc := ⟨.hbm, 32, rfl⟩
abbrev main_c_0 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_c_1 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v16 : Ref sig .tc := ⟨.hbm, 61, rfl⟩
abbrev main_cst : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_c_2 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_c : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_c_0 : Ref sig .tc := ⟨.hbm, 85, rfl⟩
abbrev main_call3_v12 : Ref sig .tc := ⟨.hbm, 86, rfl⟩
abbrev main_call3_v13 : Ref sig .tc := ⟨.hbm, 87, rfl⟩
abbrev main_v25 : Ref sig .tc := ⟨.hbm, 88, rfl⟩
abbrev main_c_3 : Ref sig .tc := ⟨.hbm, 89, rfl⟩
abbrev main_call4_v0 : Ref sig .tc := ⟨.hbm, 90, rfl⟩
abbrev main_call4_c : Ref sig .tc := ⟨.hbm, 91, rfl⟩
abbrev main_call4_v1 : Ref sig .tc := ⟨.hbm, 92, rfl⟩
abbrev main_call4_c_0 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_call4_c_1 : Ref sig .tc := ⟨.hbm, 97, rfl⟩
abbrev main_call4_v5 : Ref sig .tc := ⟨.hbm, 98, rfl⟩
abbrev main_call4_v6 : Ref sig .tc := ⟨.hbm, 99, rfl⟩
abbrev main_call4_c_2 : Ref sig .tc := ⟨.hbm, 100, rfl⟩
abbrev main_call4_v7 : Ref sig .tc := ⟨.hbm, 101, rfl⟩
abbrev main_call4_v8 : Ref sig .tc := ⟨.hbm, 102, rfl⟩
abbrev main_call4_c_3 : Ref sig .tc := ⟨.hbm, 103, rfl⟩
abbrev main_call4_v9 : Ref sig .tc := ⟨.hbm, 104, rfl⟩
abbrev main_call4_v10 : Ref sig .tc := ⟨.hbm, 105, rfl⟩
abbrev main_call4_v11 : Ref sig .tc := ⟨.hbm, 106, rfl⟩
abbrev main_call4_v12 : Ref sig .tc := ⟨.hbm, 107, rfl⟩
abbrev main_call4_v13 : Ref sig .tc := ⟨.hbm, 108, rfl⟩
abbrev main_call4_v14 : Ref sig .tc := ⟨.hbm, 109, rfl⟩
abbrev main_v26 : Ref sig .tc := ⟨.hbm, 110, rfl⟩
abbrev main_v27 : Ref sig .tc := ⟨.hbm, 111, rfl⟩
abbrev main_v28 : Ref sig .tc := ⟨.hbm, 112, rfl⟩
abbrev main_c_4 : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_v29 : Ref sig .tc := ⟨.hbm, 117, rfl⟩
abbrev main_cst_5 : Ref sig .tc := ⟨.hbm, 118, rfl⟩
abbrev main_v30 : Ref sig .tc := ⟨.hbm, 119, rfl⟩
abbrev main_v31 : Ref sig .tc := ⟨.hbm, 120, rfl⟩
abbrev main_v32 : Ref sig .tc := ⟨.hbm, 121, rfl⟩
abbrev main_v33 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg1 : BitVec 32 := BitVec.ofNat 32 (i 1).val
  let c0_i32_4 : BitVec 32 := 0#32
  let v9 : BitVec 1 := Scalar.cmpi .sgt arg1 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S2048x64x64 : Shape := ⟨3, ![2048, 64, 64]⟩
abbrev S2048x1024 : Shape := ⟨2, ![2048, 1024]⟩
abbrev S_ : Shape := ⟨0, ![]⟩
abbrev S64x16x64 : Shape := ⟨3, ![64, 16, 64]⟩
abbrev S64x16x2048 : Shape := ⟨3, ![64, 16, 2048]⟩
abbrev S2048x64x16 : Shape := ⟨3, ![2048, 64, 16]⟩

abbrev nBuf : Space → Nat
  | .hbm => 17
  | .vmem => 0
  | .smem => 0
  | _ => 0

abbrev bufTy : (tb : Table) → Fin (tcTables nBuf tb) → BufTy
  | .hbm, ⟨0, _⟩ => ⟨S2048x64x64, .f32⟩
  | .hbm, ⟨1, _⟩ => ⟨S2048x64x64, .f32⟩
  | .hbm, ⟨2, _⟩ => ⟨S2048x1024, .f32⟩
  | .hbm, ⟨3, _⟩ => ⟨S_, .f32⟩
  | .hbm, ⟨4, _⟩ => ⟨S64x16x64, .f32⟩
  | .hbm, ⟨5, _⟩ => ⟨S64x16x2048, .f32⟩
  | .hbm, ⟨6, _⟩ => ⟨S2048x64x16, .f32⟩
  | .hbm, ⟨7, _⟩ => ⟨S64x16x2048, .f32⟩
  | .hbm, ⟨8, _⟩ => ⟨S2048x64x16, .f32⟩
  | .hbm, ⟨9, _⟩ => ⟨S2048x64x16, .f32⟩
  | .hbm, ⟨10, _⟩ => ⟨S2048x1024, .f32⟩
  | .hbm, ⟨11, _⟩ => ⟨S2048x64x16, .f32⟩
  | .hbm, ⟨12, _⟩ => ⟨S2048x64x16, .f32⟩
  | .hbm, ⟨13, _⟩ => ⟨S64x16x2048, .f32⟩
  | .hbm, ⟨14, _⟩ => ⟨S64x16x64, .f32⟩
  | .hbm, ⟨15, _⟩ => ⟨S64x16x2048, .f32⟩
  | .hbm, ⟨16, _⟩ => ⟨S64x16x64, .f32⟩
  | _, _ => ⟨S2048x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel12.lean ====
abbrev S2x704x1024 : Shape := ⟨3, ![2, 704, 1024]⟩
abbrev S704x1024 : Shape := ⟨2, ![704, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel12Ideal.lean ====
abbrev S2x704x1024 : Shape := ⟨3, ![2, 704, 1024]⟩
abbrev S704x1024 : Shape := ⟨2, ![704, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference12Ideal.lean ====
abbrev S2x704x1024 : Shape := ⟨3, ![2, 704, 1024]⟩
abbrev S704x1024 : Shape := ⟨2, ![704, 1024]⟩
abbrev S1x704x1024 : Shape := ⟨3, ![1, 704, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S2x704x1024, .f32⟩
  | .hbm, ⟨4, _⟩ => ⟨S2x704x1024, .f32⟩
  | .hbm, ⟨5, _⟩ => ⟨S1x704x1024, .f32⟩
  | .hbm, ⟨6, _⟩ => ⟨S1x704x1024, .f32⟩
  | .hbm, ⟨7, _⟩ => ⟨S2x704x1024, .f32⟩
  | .hbm, ⟨8, _⟩ => ⟨S_, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel13.lean ====
abbrev S2x512x1024 : Shape := ⟨3, ![2, 512, 1024]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x512x1024, .f32⟩
  | .hbm, ⟨1, _⟩ => ⟨S512x1024, .f32⟩
  | .hbm, ⟨2, _⟩ => ⟨S512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel13Ideal.lean ====
abbrev S2x512x1024 : Shape := ⟨3, ![2, 512, 1024]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x512x1024, .f32⟩
  | .hbm, ⟨1, _⟩ => ⟨S512x1024, .f32⟩
  | .hbm, ⟨2, _⟩ => ⟨S512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference13Ideal.lean ====
abbrev S2x512x1024 : Shape := ⟨3, ![2, 512, 1024]⟩
abbrev S512x1024 : Shape := ⟨2, ![512, 1024]⟩
abbrev S1x512x1024 : Shape := ⟨3, ![1, 512, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S512x1024, .f32⟩
  | .hbm, ⟨2, _⟩ => ⟨S512x1024, .f32⟩
  | .hbm, ⟨3, _⟩ => ⟨S2x512x1024, .f32⟩
  | .hbm, ⟨4, _⟩ => ⟨S2x512x1024, .f32⟩
  | .hbm, ⟨5, _⟩ => ⟨S1x512x1024, .f32⟩
  | .hbm, ⟨6, _⟩ => ⟨S1x512x1024, .f32⟩
  | .hbm, ⟨7, _⟩ => ⟨S2x512x1024, .f32⟩
  | .hbm, ⟨8, _⟩ => ⟨S_, .f32⟩
  | .hbm, ⟨9, _⟩ => ⟨S2x512x1024, .f32⟩
  | .hbm, ⟨10, _⟩ => ⟨S2x512x1024, .f32⟩
  | .hbm, ⟨11, _⟩ => ⟨S_, .f32⟩
  | .hbm, ⟨12, _⟩ => ⟨S2x512x1024, .f32⟩
  | .hbm, ⟨13, _⟩ => ⟨S2x512x1024, .f32⟩
  | .hbm, ⟨14, _⟩ => ⟨S2x512x1024, .f32⟩
  | .hbm, ⟨15, _⟩ => ⟨S_, .f32⟩
  | .hbm, ⟨16, _⟩ => ⟨S2x512x1024, .f32⟩
  | .hbm, ⟨17, _⟩ => ⟨S2x512x1024, .f32⟩
  | .hbm, ⟨18, _⟩ => ⟨S2x512x1024, .f32⟩
  | .hbm, ⟨19, _⟩ => ⟨S_, .f32⟩
  | .hbm, ⟨20, _⟩ => ⟨S2x512x1024, .f32⟩
  | .hbm, ⟨21, _⟩ => ⟨S2x512x1024, .f32⟩
  | .hbm, ⟨22, _⟩ => ⟨S2x512x1024, .f32⟩
  | .hbm, ⟨23, _⟩ => ⟨S_, .f32⟩
  | .hbm, ⟨24, _⟩ => ⟨S2x512x1024, .f32⟩
  | .hbm, ⟨25, _⟩ => ⟨S2x512x1024, .f32⟩
  | .hbm, ⟨26, _⟩ => ⟨S_, .f32⟩
  | .hbm, ⟨27, _⟩ => ⟨S2x512x1024, .f32⟩
  | .hbm, ⟨28, _⟩ => ⟨S2x512x1024, .f32⟩
  | .hbm, ⟨29, _⟩ => ⟨S2x512x1024, .f32⟩
  | .hbm, ⟨30, _⟩ => ⟨S_, .f32⟩
  | .hbm, ⟨31, _⟩ => ⟨S2x512x1024, .f32⟩
  | .hbm, ⟨32, _⟩ => ⟨S2x512x1024, .f32⟩
  | .hbm, ⟨33, _⟩ => ⟨S2x512x1024, .f32⟩
  | .hbm, ⟨34, _⟩ => ⟨S_, .f32⟩
  | .hbm, ⟨35, _⟩ => ⟨S2x512x1024, .f32⟩
  | .hbm, ⟨36, _⟩ => ⟨S2x512x1024, .f32⟩
  | .hbm, ⟨37, _⟩ => ⟨S2x512x1024, .f32⟩
  | .hbm, ⟨38, _⟩ => ⟨S_, .f32⟩
  | .hbm, ⟨39, _⟩ => ⟨S2x512x1024, .f32⟩
  | .hbm, ⟨40, _⟩ => ⟨S2x512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel14.lean ====
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 9
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel14Ideal.lean ====
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 9
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference14Ideal.lean ====
abbrev S2x256x1024 : Shape := ⟨3, ![2, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S1x256x1024, .f32⟩
  | .hbm, ⟨6, _⟩ => ⟨S1x256x1024, .f32⟩
  | .hbm, ⟨7, _⟩ => ⟨S2x256x1024, .f32⟩
  | .hbm, ⟨8, _⟩ => ⟨S_, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel15.lean ====
abbrev S2x2056x1024 : Shape := ⟨3, ![2, 2056, 1024]⟩
abbrev S2056x1024 : Shape := ⟨2, ![2056, 1024]⟩
abbrev S1x2056x128 : Shape := ⟨3, ![1, 2056, 128]⟩
abbrev S2056x128 : Shape := ⟨2, ![2056, 128]⟩

abbrev nBuf : Space → Nat
  | .hbm => 9
  | .vmem => 18
  | .smem => 0
  | _ => 0

abbrev bufTy : (tb : Table) → Fin (tcTables nBuf tb) → BufTy
  | .hbm, ⟨0, _⟩ => ⟨S2x2056x1024, .f32⟩
  | .hbm, ⟨1, _⟩ => ⟨S2056x1024, .f32⟩
  | .hbm, ⟨2, _⟩ => ⟨S2056x1024, .f32⟩
  | .hbm, ⟨3, _⟩ => ⟨S2x2056x1024, .f32⟩
  | .hbm, ⟨4, _⟩ => ⟨S2x2056x1024, .f32⟩
  | .hbm, ⟨5, _⟩ => ⟨S2x2056x1024, .f32⟩
  | .hbm, ⟨6, _⟩ => ⟨S2x2056x1024, .f32⟩
  | .hbm, ⟨7, _⟩ => ⟨S2x2056x1024, .f32⟩
  | .hbm, ⟨8, _⟩ => ⟨S2x2056x1024, .f32⟩
  | .local _ .vmem, ⟨0, _⟩ => ⟨S1x2056x128, .f32⟩
  | .local _ .vmem, ⟨1, _⟩ => ⟨S1x2056x128, .f32⟩
  | .local _ .vmem, ⟨2, _⟩ => ⟨S2056x128, .f32⟩
  | .local _ .vmem, ⟨3, _⟩ => ⟨S2056x128, .f32⟩
  | .local _ .vmem, ⟨4, _⟩ => ⟨S2056x128, .f32⟩
  | .local _ .vmem, ⟨5, _⟩ => ⟨S2056x128, .f32⟩
  | .local _ .vmem, ⟨6, _⟩ => ⟨S1x2056x128, .f32⟩
  | .local _ .vmem, ⟨7, _⟩ => ⟨S1x2056x128, .f32⟩
  | .local _ .vmem, ⟨8, _⟩ => ⟨S1x2056x128, .f32⟩
  | .local _ .vmem, ⟨9, _⟩ => ⟨S1x2056x128, .f32⟩
  | .local _ .vmem, ⟨10, _⟩ => ⟨S1x2056x128, .f32⟩
  | .local _ .vmem, ⟨11, _⟩ => ⟨S1x2056x128, .f32⟩
  | .local _ .vmem, ⟨12, _⟩ => ⟨S1x2056x128, .f32⟩
  | .local _ .vmem, ⟨13, _⟩ => ⟨S1x2056x128, .f32⟩
  | .local _ .vmem, ⟨14, _⟩ => ⟨S1x2056x128, .f32⟩
  | .local _ .vmem, ⟨15, _⟩ => ⟨S1x2056x128, .f32⟩
  | .local _ .vmem, ⟨16, _⟩ => ⟨S1x2056x128, .f32⟩
  | .local _ .vmem, ⟨17, _⟩ => ⟨S1x2056x128, .f32⟩
  | _, _ => ⟨S2x2056x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2056x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2056x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2056x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2056x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2056x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2056x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2056x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2056x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x2056x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference15Ideal.lean ====
abbrev S2x2056x1024 : Shape := ⟨3, ![2, 2056, 1024]⟩
abbrev S2056x1024 : Shape := ⟨2, ![2056, 1024]⟩
abbrev S1x2056x1024 : Shape := ⟨3, ![1, 2056, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2056x1024, .f32⟩
  | .hbm, ⟨1, _⟩ => ⟨S2056x1024, .f32⟩
  | .hbm, ⟨2, _⟩ => ⟨S2056x1024, .f32⟩
  | .hbm, ⟨3, _⟩ => ⟨S2x2056x1024, .f32⟩
  | .hbm, ⟨4, _⟩ => ⟨S2x2056x1024, .f32⟩
  | .hbm, ⟨5, _⟩ => ⟨S1x2056x1024, .f32⟩
  | .hbm, ⟨6, _⟩ => ⟨S1x2056x1024, .f32⟩
  | .hbm, ⟨7, _⟩ => ⟨S2x2056x1024, .f32⟩
  | .hbm, ⟨8, _⟩ => ⟨S_, .f32⟩
  | .hbm, ⟨9, _⟩ => ⟨S2x2056x1024, .f32⟩
  | .hbm, ⟨10, _⟩ => ⟨S2x2056x1024, .f32⟩
  | .hbm, ⟨11, _⟩ => ⟨S_, .f32⟩
  | .hbm, ⟨12, _⟩ => ⟨S2x2056x1024, .f32⟩
  | .hbm, ⟨13, _⟩ => ⟨S2x2056x1024, .f32⟩
  | .hbm, ⟨14, _⟩ => ⟨S2x2056x1024, .f32⟩
  | .hbm, ⟨15, _⟩ => ⟨S_, .f32⟩
  | .hbm, ⟨16, _⟩ => ⟨S2x2056x1024, .f32⟩
  | .hbm, ⟨17, _⟩ => ⟨S2x2056x1024, .f32⟩
  | .hbm, ⟨18, _⟩ => ⟨S2x2056x1024, .f32⟩
  | .hbm, ⟨19, _⟩ => ⟨S_, .f32⟩
  | .hbm, ⟨20, _⟩ => ⟨S2x2056x1024, .f32⟩
  | .hbm, ⟨21, _⟩ => ⟨S2x2056x1024, .f32⟩
  | .hbm, ⟨22, _⟩ => ⟨S2x2056x1024, .f32⟩
  | .hbm, ⟨23, _⟩ => ⟨S_, .f32⟩
  | .hbm, ⟨24, _⟩ => ⟨S2x2056x1024, .f32⟩
  | .hbm, ⟨25, _⟩ => ⟨S2x2056x1024, .f32⟩
  | .hbm, ⟨26, _⟩ => ⟨S_, .f32⟩
  | .hbm, ⟨27, _⟩ => ⟨S2x2056x1024, .f32⟩
  | .hbm, ⟨28, _⟩ => ⟨S2x2056x1024, .f32⟩
  | .hbm, ⟨29, _⟩ => ⟨S2x2056x1024, .f32⟩
  | .hbm, ⟨30, _⟩ => ⟨S_, .f32⟩
  | .hbm, ⟨31, _⟩ => ⟨S2x2056x1024, .f32⟩
  | .hbm, ⟨32, _⟩ => ⟨S2x2056x1024, .f32⟩
  | .hbm, ⟨33, _⟩ => ⟨S2x2056x1024, .f32⟩
  | .hbm, ⟨34, _⟩ => ⟨S_, .f32⟩
  | .hbm, ⟨35, _⟩ => ⟨S2x2056x1024, .f32⟩
  | .hbm, ⟨36, _⟩ => ⟨S2x2056x1024, .f32⟩
  | .hbm, ⟨37, _⟩ => ⟨S2x2056x1024, .f32⟩
  | .hbm, ⟨38, _⟩ => ⟨S_, .f32⟩
  | .hbm, ⟨39, _⟩ => ⟨S2x2056x1024, .f32⟩
  | .hbm, ⟨40, _⟩ => ⟨S2x2056x1024, .f32⟩
  | _, _ => ⟨S2x2056x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel16.lean ====
abbrev S4608x128 : Shape := ⟨2, ![4608, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S4608x128, .f32⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S4608x128, .f32⟩
  | .hbm, ⟨5, _⟩ => ⟨S4608x128, .f32⟩
  | .hbm, ⟨6, _⟩ => ⟨S4608x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S4608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![18, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel16Ideal.lean ====
abbrev S4608x128 : Shape := ⟨2, ![4608, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S4608x128, .f32⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S4608x128, .f32⟩
  | .hbm, ⟨5, _⟩ => ⟨S4608x128, .f32⟩
  | .hbm, ⟨6, _⟩ => ⟨S4608x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S4608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![18, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference16Ideal.lean ====
abbrev S4608x128 : Shape := ⟨2, ![4608, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4608x128, .f32⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S_, .f32⟩
  | .hbm, ⟨5, _⟩ => ⟨S4608x128, .f32⟩
  | .hbm, ⟨6, _⟩ => ⟨S4608x128, .f32⟩
  | .hbm, ⟨7, _⟩ => ⟨S_, .f32⟩
  | .hbm, ⟨8, _⟩ => ⟨S4608x128, .f32⟩
  | .hbm, ⟨9, _⟩ => ⟨S4608x128, .f32⟩
  | .hbm, ⟨10, _⟩ => ⟨S4608x128, .f32⟩
  | .hbm, ⟨11, _⟩ => ⟨S_, .f32⟩
  | .hbm, ⟨12, _⟩ => ⟨S4608x128, .f32⟩
  | .hbm, ⟨13, _⟩ => ⟨S4608x128, .f32⟩
  | .hbm, ⟨14, _⟩ => ⟨S4608x128, .f32⟩
  | .hbm, ⟨15, _⟩ => ⟨S_, .f32⟩
  | .hbm, ⟨16, _⟩ => ⟨S4608x128, .f32⟩
  | .hbm, ⟨17, _⟩ => ⟨S4608x128, .f32⟩
  | .hbm, ⟨18, _⟩ => ⟨S4608x128, .f32⟩
  | .hbm, ⟨19, _⟩ => ⟨S_, .f32⟩
  | .hbm, ⟨20, _⟩ => ⟨S4608x128, .f32⟩
  | .hbm, ⟨21, _⟩ => ⟨S4608x128, .f32⟩
  | .hbm, ⟨22, _⟩ => ⟨S_, .f32⟩
  | .hbm, ⟨23, _⟩ => ⟨S4608x128, .f32⟩
  | .hbm, ⟨24, _⟩ => ⟨S4608x128, .f32⟩
  | .hbm, ⟨25, _⟩ => ⟨S4608x128, .f32⟩
  | .hbm, ⟨26, _⟩ => ⟨S_, .f32⟩
  | .hbm, ⟨27, _⟩ => ⟨S4608x128, .f32⟩
  | .hbm, ⟨28, _⟩ => ⟨S4608x128, .f32⟩
  | .hbm, ⟨29, _⟩ => ⟨S4608x128, .f32⟩
  | .hbm, ⟨30, _⟩ => ⟨S_, .f32⟩
  | .hbm, ⟨31, _⟩ => ⟨S4608x128, .f32⟩
  | .hbm, ⟨32, _⟩ => ⟨S4608x128, .f32⟩
  | .hbm, ⟨33, _⟩ => ⟨S4608x128, .f32⟩
  | .hbm, ⟨34, _⟩ => ⟨S_, .f32⟩
  | .hbm, ⟨35, _⟩ => ⟨S4608x128, .f32⟩
  | .hbm, ⟨36, _⟩ => ⟨S4608x128, .f32⟩
  | _, _ => ⟨S4608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S8x768 : Shape := ⟨2, ![8, 768]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S8x768, .f32⟩
  | .hbm, ⟨5, _⟩ => ⟨S8x768, .f32⟩
  | .hbm, ⟨6, _⟩ => ⟨S8x768, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference17Ideal.lean ====
abbrev S8x768 : Shape := ⟨2, ![8, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S_, .f32⟩
  | .hbm, ⟨5, _⟩ => ⟨S8x768, .f32⟩
  | .hbm, ⟨6, _⟩ => ⟨S8x768, .f32⟩
  | .hbm, ⟨7, _⟩ => ⟨S_, .f32⟩
  | .hbm, ⟨8, _⟩ => ⟨S8x768, .f32⟩
  | .hbm, ⟨9, _⟩ => ⟨S8x768, .f32⟩
  | .hbm, ⟨10, _⟩ => ⟨S8x768, .f32⟩
  | .hbm, ⟨11, _⟩ => ⟨S_, .f32⟩
  | .hbm, ⟨12, _⟩ => ⟨S8x768, .f32⟩
  | .hbm, ⟨13, _⟩ => ⟨S8x768, .f32⟩
  | .hbm, ⟨14, _⟩ => ⟨S8x768, .f32⟩
  | .hbm, ⟨15, _⟩ => ⟨S_, .f32⟩
  | .hbm, ⟨16, _⟩ => ⟨S8x768, .f32⟩
  | .hbm, ⟨17, _⟩ => ⟨S8x768, .f32⟩
  | .hbm, ⟨18, _⟩ => ⟨S8x768, .f32⟩
  | .hbm, ⟨19, _⟩ => ⟨S_, .f32⟩
  | .hbm, ⟨20, _⟩ => ⟨S8x768, .f32⟩
  | .hbm, ⟨21, _⟩ => ⟨S8x768, .f32⟩
  | .hbm, ⟨22, _⟩ => ⟨S_, .f32⟩
  | .hbm, ⟨23, _⟩ => ⟨S8x768, .f32⟩
  | .hbm, ⟨24, _⟩ => ⟨S8x768, .f32⟩
  | .hbm, ⟨25, _⟩ => ⟨S8x768, .f32⟩
  | .hbm, ⟨26, _⟩ => ⟨S_, .f32⟩
  | .hbm, ⟨27, _⟩ => ⟨S8x768, .f32⟩
  | .hbm, ⟨28, _⟩ => ⟨S8x768, .f32⟩
  | .hbm, ⟨29, _⟩ => ⟨S8x768, .f32⟩
  | .hbm, ⟨30, _⟩ => ⟨S_, .f32⟩
  | .hbm, ⟨31, _⟩ => ⟨S8x768, .f32⟩
  | .hbm, ⟨32, _⟩ => ⟨S8x768, .f32⟩
  | .hbm, ⟨33, _⟩ => ⟨S8x768, .f32⟩
  | .hbm, ⟨34, _⟩ => ⟨S_, .f32⟩
  | .hbm, ⟨35, _⟩ => ⟨S8x768, .f32⟩
  | .hbm, ⟨36, _⟩ => ⟨S8x768, .f32⟩
  | _, _ => ⟨S8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Fwd0.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.WritesUnit
public import Idealize.ShloMosaic.Lib.VecWindow
public import Idealize.ShloMosaic.Lib.Pointwise.Index
public import Idealize.ShloMosaic.Lib.Pointwise.Reshape
public import Idealize.ShloMosaic.Lib.Tactic

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The first row of an eight-row buffer. -/
abbrev row0 (x : Vec F S8x1024 .f32) : Vec F S1x1024 .f32 :=
  View.ld x (Rect.unit (s := S8x1024) ![0, 0] S1x1024.size inb_S8x1024_S1x1024_0_0)
/-- The second row of an eight-row buffer. -/
abbrev row1 (x : Vec F S8x1024 .f32) : Vec F S1x1024 .f32 :=
  View.ld x (Rect.unit (s := S8x1024) ![1, 0] S1x1024.size inb_S8x1024_S1x1024_1_0)
/-- Eight rows of a chunk, the tile a trip of the forward loop reads. -/
abbrev oct0 (x : Vec F S512x2048 .f32) (k : Fin k0_t1_loop.trips) : Vec F S8x2048 .f32 :=
  View.ld x (Rect.unit (s := S512x2048) (k0_off1 k) S8x2048.size (k0_off1_inb k))

/-- The states of a tile from its inputs and the carried state. -/
def fTile (r i : Vec F S1x1024 .f32) (x : Vec F S8x2048 .f32) (c : Vec F S1x1024 .f32 × Vec F S1x1024 .f32) : FVec F S8x2048 .f32 :=
  k0_pay7 (k0_pay32 r i) (k0_pay33 r i) (k0_pay40 r i) (k0_pay41 r i) c.1 c.2
    (iota .tc S8x1024 32 [0] iota_S8x1024_d0_w32) (k0_pay19 (k0_pay26 r) (k0_pay27 i) x)
    (k0_pay23 (k0_pay26 r) (k0_pay27 i) (k0_pay28 r i) (k0_pay29 r i) x)
    (k0_pay24 (k0_pay26 r) (k0_pay27 i) (k0_pay28 r i) (k0_pay29 r i) x)
/-- The state a tile hands to the next. -/
def fNext (r i : Vec F S1x1024 .f32) (x : Vec F S8x2048 .f32) (c : Vec F S1x1024 .f32 × Vec F S1x1024 .f32) :
    Vec F S1x1024 .f32 × Vec F S1x1024 .f32 :=
  (k0_pay8 (k0_pay32 r i) (k0_pay33 r i) (k0_pay40 r i) (k0_pay41 r i) c.1 c.2
    (iota .tc S8x1024 32 [0] iota_S8x1024_d0_w32) (k0_pay19 (k0_pay26 r) (k0_pay27 i) x)
    (k0_pay23 (k0_pay26 r) (k0_pay27 i) (k0_pay28 r i) (k0_pay29 r i) x)
    (k0_pay24 (k0_pay26 r) (k0_pay27 i) (k0_pay28 r i) (k0_pay29 r i) x),
   k0_pay9 (k0_pay32 r i) (k0_pay33 r i) (k0_pay40 r i) (k0_pay41 r i) c.1 c.2
    (iota .tc S8x1024 32 [0] iota_S8x1024_d0_w32) (k0_pay19 (k0_pay26 r) (k0_pay27 i) x)
    (k0_pay23 (k0_pay26 r) (k0_pay27 i) (k0_pay28 r i) (k0_pay29 r i) x)
    (k0_pay24 (k0_pay26 r) (k0_pay27 i) (k0_pay28 r i) (k0_pay29 r i) x))

/-- The carried state before tile `k` of a chunk. -/
def fCar (r i : Vec F S1x1024 .f32) (x : Vec F S512x2048 .f32) (c : Vec F S1x1024 .f32 × Vec F S1x1024 .f32) :
    ℕ → Vec F S1x1024 .f32 × Vec F S1x1024 .f32
  | 0 => c
  | k + 1 => if h : k < k0_t1_loop.trips then fNext r i (oct0 x ⟨k, h⟩) (fCar r i x c k) else fCar r i x c k

theorem trips0 : k0_t1_loop.trips = 64 := by decide +kernel

/-- The states of a chunk. -/
def fOut (r i : Vec F S1x1024 .f32) (x : Vec F S512x2048 .f32) (c : Vec F S1x1024 .f32 × Vec F S1x1024 .f32) :
    Vec F S512x2048 .f32 := fun y =>
  fTile r i (oct0 x ⟨(y 0).val / 8, by
      have : (y 0).val < 512 := (y 0).isLt
      rw [trips0]; omega⟩) (fCar r i x c ((y 0).val / 8))
    (ix2 (n0 := 8) (n1 := 2048) ⟨(y 0).val % 8, Nat.mod_lt _ (by omega)⟩ ⟨(y 1).val, (y 1).isLt⟩)

section Trip
variable (𝒱 : Variants) (c : Dev nD) (bd : Option 𝒱.V) (j : grid0.Coords) (arg2 : Memref sig .tc .vmem S512x2048 .f32) (harg2 : arg2.IsWhole)
  (arg3 : Memref sig .tc .vmem S8x1024 .f32) (harg3 : arg3.IsWhole) (arg4 : Memref sig .tc .vmem S8x1024 .f32) (harg4 : arg4.IsWhole)
  (arg5 : Memref sig .tc .vmem S512x2048 .f32) (harg5 : arg5.IsWhole) (arg6 : Memref sig .tc .vmem S8x1024 .f32) (harg6 : arg6.IsWhole)
  (r i : Vec F S1x1024 .f32) (X : BufTy.Contents (Elt F) arg2.view.ty)

theorem tripR0 (k : Fin k0_t1_loop.trips) (acc : Vec F S1x1024 .f32 × Vec F S1x1024 .f32) :
    tripR_k0_t1 (F := F) 𝒱 c bd j arg2 harg2 arg3 harg3 arg4 harg4 arg5 harg5 arg6 harg6 (k0_pay26 r) (k0_pay27 i) (k0_pay28 r i) (k0_pay29 r i)
      (k0_pay32 r i) (k0_pay33 r i) (k0_pay40 r i) (k0_pay41 r i) X k acc = fNext r i (oct0 (arg2.view.read (Elt F) X) k) acc := by
  unfold tripR_k0_t1 trip_k0_t1; rfl

theorem tripL0 (k : Fin k0_t1_loop.trips) (acc : Vec F S1x1024 .f32 × Vec F S1x1024 .f32) :
    tripL_k0_t1 (F := F) 𝒱 c bd j arg2 harg2 arg3 harg3 arg4 harg4 arg5 harg5 arg6 harg6 (k0_pay26 r) (k0_pay27 i) (k0_pay28 r i) (k0_pay29 r i)
      (k0_pay32 r i) (k0_pay33 r i) (k0_pay40 r i) (k0_pay41 r i) X k acc
      = [⟨Rect.unit (s := S512x2048) (k0_off1 k) S8x2048.size (k0_off1_inb k), fTile r i (oct0 (arg2.view.read (Elt F) X) k) acc⟩] := by
  unfold tripL_k0_t1 trip_k0_t1; rfl

/-- The loop's state before tile `k`: the carried state, and the tiles written so far. -/
theorem st0 (init : Vec F S1x1024 .f32 × Vec F S1x1024 .f32) (f : BufTy.Contents (Elt F) arg5.view.ty) :
    ∀ k : ℕ, k ≤ k0_t1_loop.trips →
      (st_k0_t1 (F := F) 𝒱 c bd j arg2 harg2 arg3 harg3 arg4 harg4 arg5 harg5 arg6 harg6 (k0_pay26 r) (k0_pay27 i) (k0_pay28 r i)
        (k0_pay29 r i) (k0_pay32 r i) (k0_pay33 r i) (k0_pay40 r i) (k0_pay41 r i) X init k).1
        = fCar r i (arg2.view.read (Elt F) X) init k
      ∧ ∀ y : S512x2048.Idx, (y 0).val < 8 * k → arg5.view.read (Elt F) (arg5.view.writes (Elt F) f
        (st_k0_t1 (F := F) 𝒱 c bd j arg2 harg2 arg3 harg3 arg4 harg4 arg5 harg5 arg6 harg6 (k0_pay26 r) (k0_pay27 i) (k0_pay28 r i)
          (k0_pay29 r i) (k0_pay32 r i) (k0_pay33 r i) (k0_pay40 r i) (k0_pay41 r i) X init k).2) y
        = fOut r i (arg2.view.read (Elt F) X) init y
  | 0, _ => ⟨rfl, fun y hy => absurd hy (by omega)⟩
  | k + 1, hk => by
    obtain ⟨h1, h2⟩ := st0 init f k (by omega)
    have hk' : k < k0_t1_loop.trips := hk
    rw [st_k0_t1_succ 𝒱 c bd j arg2 harg2 arg3 harg3 arg4 harg4 arg5 harg5 arg6 harg6 _ _ _ _ _ _ _ _ X init ⟨k, hk'⟩]
    rw [tripR0, tripL0, h1]
    refine ⟨by rw [fCar, dif_pos hk'], fun y hy => ?_⟩
    rw [List.singleton_append]
    by_cases hy' : (y 0).val < 8 * k
    · exact (View.read_writes_cons_rows_of_not_mem arg5.view f (o := 8 * k) (W := 8) _ _ _ y (k0_off1_eq ⟨k, hk'⟩) rfl (Or.inl hy')).trans (h2 y hy')
    · have e : (y 0).val / 8 = k := by omega
      refine (View.read_writes_cons_rows_of_mem arg5.view f (o := 8 * k) _ _ _ y
        (ix2 (n0 := 8) (n1 := 2048) ⟨(y 0).val % 8, Nat.mod_lt _ (by omega)⟩ ⟨(y 1).val, (y 1).isLt⟩) (k0_off1_eq ⟨k, hk'⟩) ?_ ?_).trans ?_
      · show (y 0).val = 8 * k + (y 0).val % 8
        omega
      · rfl
      · unfold fOut
        subst e
        rfl

theorem st0_out (init : Vec F S1x1024 .f32 × Vec F S1x1024 .f32) (f : BufTy.Contents (Elt F) arg5.view.ty) :
    arg5.view.read (Elt F) (arg5.view.writes (Elt F) f
        (st_k0_t1 (F := F) 𝒱 c bd j arg2 harg2 arg3 harg3 arg4 harg4 arg5 harg5 arg6 harg6 (k0_pay26 r) (k0_pay27 i) (k0_pay28 r i)
          (k0_pay29 r i) (k0_pay32 r i) (k0_pay33 r i) (k0_pay40 r i) (k0_pay41 r i) X init k0_t1_loop.trips).2)
      = fOut r i (arg2.view.read (Elt F) X) init :=
  funext fun y => (st0 𝒱 c bd j arg2 harg2 arg3 harg3 arg4 harg4 arg5 harg5 arg6 harg6 r i X init f k0_t1_loop.trips le_rfl).2 y (by
    have : (y 0).val < 512 := (y 0).isLt
    rw [trips0]; omega)
end Trip

local notation "𝕄" => MT nD τ sig Unit (Elt F) ℕ (UR sig nD τ) ℕ

/-- The condition of the forward call's zeroing of its carry. -/
def cond0 (i : grid0.Coords) : Prop := Scalar.cmpi .ne (Scalar.extui (Scalar.cmpi .eq (BitVec.ofNat 32 (i 1).val) 0#32)) 0#32 = 1#1
theorem cond0_iff : ∀ t : Fin cfg0.N, cond0 (grid0.coords t) ↔ t.val % 4 = 0 := by
  unfold cond0; decide +kernel

/-- After the two rows of the carry are stored, they read as stored. -/
theorem rows_store {κ : Kind} {sp : Space} (v : View sig κ sp S8x1024 .f32) (f : v.ty.Contents (Elt F)) (p : Vec F S1x1024 .f32 × Vec F S1x1024 .f32)
    (L : List (View.Piece (Elt F) S8x1024 .f32)) :
    (row0 (v.read (Elt F) (v.writes (Elt F) f (⟨Rect.unit (s := S8x1024) ![1, 0] S1x1024.size inb_S8x1024_S1x1024_1_0, k0_pay11 p.2⟩
        :: ⟨Rect.unit (s := S8x1024) ![0, 0] S1x1024.size inb_S8x1024_S1x1024_0_0, k0_pay10 p.1⟩ :: L))),
      row1 (v.read (Elt F) (v.writes (Elt F) f (⟨Rect.unit (s := S8x1024) ![1, 0] S1x1024.size inb_S8x1024_S1x1024_1_0, k0_pay11 p.2⟩
        :: ⟨Rect.unit (s := S8x1024) ![0, 0] S1x1024.size inb_S8x1024_S1x1024_0_0, k0_pay10 p.1⟩ :: L)))) = p := by
  have e10 : k0_pay10 p.1 = p.1 := by unfold k0_pay10; simp only [shapeCast_id]
  have e11 : k0_pay11 p.2 = p.2 := by unfold k0_pay11; simp only [shapeCast_id]
  rw [e10, e11]
  refine Prod.ext (funext fun y => ?_) (funext fun y => ?_)
  · refine (View.read_writes_cons_rows_of_not_mem v f (o := 1) (W := 1) _ _ _ _ rfl rfl (Or.inl ?_)).trans
      (View.read_writes_cons_rows_of_mem v f (o := 0) _ _ _ _ y rfl ?_ ?_)
    · show 0 + 1 * (y 0).val < 1
      have : (y 0).val < 1 := (y 0).isLt
      omega
    · show 0 + 1 * (y 0).val = 0 + (y 0).val
      omega
    · show 0 + 1 * (y 1).val = (y 1).val
      omega
  · refine View.read_writes_cons_rows_of_mem v f (o := 1) _ _ _ _ y rfl ?_ ?_
    · show 1 + 1 * (y 0).val = 1 + (y 0).val
      omega
    · show 0 + 1 * (y 1).val = (y 1).val
      omega

section Run
variable (c : Dev nD) (j : grid0.Coords) (arg2 : Memref sig .tc .vmem S512x2048 .f32) (harg2 : arg2.IsWhole)
  (arg3 : Memref sig .tc .vmem S8x1024 .f32) (harg3 : arg3.IsWhole) (arg4 : Memref sig .tc .vmem S8x1024 .f32) (harg4 : arg4.IsWhole)
  (arg5 : Memref sig .tc .vmem S512x2048 .f32) (harg5 : arg5.IsWhole) (arg6 : Memref sig .tc .vmem S8x1024 .f32) (harg6 : arg6.IsWhole)
  (x0 : Vec F S512x2048 .f32) (x1 x2 xs : Vec F S8x1024 .f32)

set_option maxHeartbeats 1000000 in
theorem run0_B (hc : ¬ cond0 j) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
          ∗ owns (c : Thread nD τ) arg5 fullShare (fOut (row0 x1) (row0 x2) x0 (row0 xs, row1 xs))
          ∗ (∃ d, owns (c : Thread nD τ) arg6 fullShare d ∗ ⌜(row0 d, row1 d) = fCar (row0 x1) (row0 x2) x0 (row0 xs, row1 xs) 64⌝)) -∗ K ⟨⟩))
      ⊢ wp frame (wpE (defs₀ (F := F)) Variants.none c none) E (cc0_s5_scan j arg2 harg2 arg3 harg3 arg4 harg4 arg5 harg5 arg6 harg6) K := by
  have hc0 := hc
  unfold cond0 at hc0
  simp only [cc0_s5_scan_eq_skeleton]; unfold cc0_s5_scan_skel
  simp only [k0_part2_eq_skeleton]
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2; obtain rfl := harg6.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have e1 : arg3.view.readAt (Elt F) (Rect.unit (s := S8x1024) ![0, 0] S1x1024.size inb_S8x1024_S1x1024_0_0).toLoadRect (harg3.unread x1) = row0 x1 :=
    congrArg row0 (harg3.read_unread x1)
  have e2 : arg4.view.readAt (Elt F) (Rect.unit (s := S8x1024) ![0, 0] S1x1024.size inb_S8x1024_S1x1024_0_0).toLoadRect (harg4.unread x2) = row0 x2 :=
    congrArg row0 (harg4.read_unread x2)
  have e3 : arg6.view.readAt (Elt F) (Rect.unit (s := S8x1024) ![0, 0] S1x1024.size inb_S8x1024_S1x1024_0_0).toLoadRect (harg6.unread xs) = row0 xs :=
    congrArg row0 (harg6.read_unread xs)
  have e4 : arg6.view.readAt (Elt F) (Rect.unit (s := S8x1024) ![1, 0] S1x1024.size inb_S8x1024_S1x1024_1_0).toLoadRect (harg6.unread xs) = row1 xs :=
    congrArg row1 (harg6.read_unread xs)
  isplitl [H3]
  · iexists _; isplitr; swap; · iexact H3
    ipureintro
    refine (st0_out Variants.none c none j arg2 harg2 arg3 harg3 arg4 harg4 arg5 harg5 arg6 harg6
      (arg3.view.readAt (Elt F) (Rect.unit (s := S8x1024) ![0, 0] S1x1024.size inb_S8x1024_S1x1024_0_0).toLoadRect (harg3.unread x1))
      (arg4.view.readAt (Elt F) (Rect.unit (s := S8x1024) ![0, 0] S1x1024.size inb_S8x1024_S1x1024_0_0).toLoadRect (harg4.unread x2))
      (harg2.unread x0) _ f3).trans ?_
    rw [e1, e2, e3, e4, harg2.read_unread]
  iexists _; isplitl [HS0]
  · iexists _; isplitr; swap; · iexact HS0
    ipureintro; rfl
  ipureintro
  have h := (st0 Variants.none c none j arg2 harg2 arg3 harg3 arg4 harg4 arg5 harg5 arg6 harg6
      (arg3.view.readAt (Elt F) (Rect.unit (s := S8x1024) ![0, 0] S1x1024.size inb_S8x1024_S1x1024_0_0).toLoadRect (harg3.unread x1))
      (arg4.view.readAt (Elt F) (Rect.unit (s := S8x1024) ![0, 0] S1x1024.size inb_S8x1024_S1x1024_0_0).toLoadRect (harg4.unread x2))
      (harg2.unread x0) (arg6.view.readAt (Elt F) (Rect.unit (s := S8x1024) ![0, 0] S1x1024.size inb_S8x1024_S1x1024_0_0).toLoadRect (harg6.unread xs),
        arg6.view.readAt (Elt F) (Rect.unit (s := S8x1024) ![1, 0] S1x1024.size inb_S8x1024_S1x1024_1_0).toLoadRect (harg6.unread xs)) (harg5.unread fun _ => FloatOps.ofBits .f32 0#32) k0_t1_loop.trips le_rfl).1
  refine (rows_store arg6.view _ _ _).trans (h.trans ?_)
  rw [e1, e2, e3, e4, harg2.read_unread, trips0]
set_option maxHeartbeats 1000000 in
theorem run0_A (hc : cond0 j) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
          ∗ owns (c : Thread nD τ) arg5 fullShare (fOut (row0 x1) (row0 x2) x0 (row0 (k0_pay25 (F := F)), row1 (k0_pay25 (F := F))))
          ∗ (∃ d, owns (c : Thread nD τ) arg6 fullShare d ∗ ⌜(row0 d, row1 d) = fCar (row0 x1) (row0 x2) x0 (row0 (k0_pay25 (F := F)), row1 (k0_pay25 (F := F))) 64⌝)) -∗ K ⟨⟩))
      ⊢ wp frame (wpE (defs₀ (F := F)) Variants.none c none) E (cc0_s5_scan j arg2 harg2 arg3 harg3 arg4 harg4 arg5 harg5 arg6 harg6) K := by
  have hc0 := hc
  unfold cond0 at hc0
  simp only [cc0_s5_scan_eq_skeleton]; unfold cc0_s5_scan_skel
  simp only [k0_part2_eq_skeleton]
  unfold owns
  iintro ⟨⟨%f0, %hf0, H0⟩, ⟨%f1, %hf1, H1⟩, ⟨%f2, %hf2, H2⟩, ⟨%d3, %f3, -, H3⟩, ⟨%ds0, %fs0, -, HS0⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have e1 : arg3.view.readAt (Elt F) (Rect.unit (s := S8x1024) ![0, 0] S1x1024.size inb_S8x1024_S1x1024_0_0).toLoadRect (harg3.unread x1) = row0 x1 :=
    congrArg row0 (harg3.read_unread x1)
  have e2 : arg4.view.readAt (Elt F) (Rect.unit (s := S8x1024) ![0, 0] S1x1024.size inb_S8x1024_S1x1024_0_0).toLoadRect (harg4.unread x2) = row0 x2 :=
    congrArg row0 (harg4.read_unread x2)
  have e3 : arg6.view.readCov ([⟨Rect.unit (s := S8x1024) ![0, 0] S8x1024.size inb_S8x1024_S8x1024_0_0, k0_pay25 (F := F)⟩] : List (View.Piece (Elt F) S8x1024 .f32)) (Rect.unit (s := S8x1024) ![0, 0] S1x1024.size inb_S8x1024_S1x1024_0_0).toLoadRect = row0 (k0_pay25 (F := F)) :=
    congrArg (fun z => row0 z) (View.read_writes_full arg6.view _ _ _ _)
  have e4 : arg6.view.readCov ([⟨Rect.unit (s := S8x1024) ![0, 0] S8x1024.size inb_S8x1024_S8x1024_0_0, k0_pay25 (F := F)⟩] : List (View.Piece (Elt F) S8x1024 .f32)) (Rect.unit (s := S8x1024) ![1, 0] S1x1024.size inb_S8x1024_S1x1024_1_0).toLoadRect = row1 (k0_pay25 (F := F)) :=
    congrArg (fun z => row1 z) (View.read_writes_full arg6.view _ _ _ _)
  isplitl [H3]
  · iexists _; isplitr; swap; · iexact H3
    ipureintro
    refine (st0_out Variants.none c none j arg2 harg2 arg3 harg3 arg4 harg4 arg5 harg5 arg6 harg6
      (arg3.view.readAt (Elt F) (Rect.unit (s := S8x1024) ![0, 0] S1x1024.size inb_S8x1024_S1x1024_0_0).toLoadRect (harg3.unread x1))
      (arg4.view.readAt (Elt F) (Rect.unit (s := S8x1024) ![0, 0] S1x1024.size inb_S8x1024_S1x1024_0_0).toLoadRect (harg4.unread x2))
      (harg2.unread x0) (arg6.view.readCov ([⟨Rect.unit (s := S8x1024) ![0, 0] S8x1024.size inb_S8x1024_S8x1024_0_0, k0_pay25 (F := F)⟩] : List (View.Piece (Elt F) S8x1024 .f32)) (Rect.unit (s := S8x1024) ![0, 0] S1x1024.size inb_S8x1024_S1x1024_0_0).toLoadRect,
        arg6.view.readCov ([⟨Rect.unit (s := S8x1024) ![0, 0] S8x1024.size inb_S8x1024_S8x1024_0_0, k0_pay25 (F := F)⟩] : List (View.Piece (Elt F) S8x1024 .f32)) (Rect.unit (s := S8x1024) ![1, 0] S1x1024.size inb_S8x1024_S1x1024_1_0).toLoadRect) f3).trans ?_
    rw [e1, e2, e3, e4, harg2.read_unread]
  iexists _; isplitl [HS0]
  · iexists _; isplitr; swap; · iexact HS0
    ipureintro; rfl
  ipureintro
  have h := (st0 Variants.none c none j arg2 harg2 arg3 harg3 arg4 harg4 arg5 harg5 arg6 harg6
      (arg3.view.readAt (Elt F) (Rect.unit (s := S8x1024) ![0, 0] S1x1024.size inb_S8x1024_S1x1024_0_0).toLoadRect (harg3.unread x1))
      (arg4.view.readAt (Elt F) (Rect.unit (s := S8x1024) ![0, 0] S1x1024.size inb_S8x1024_S1x1024_0_0).toLoadRect (harg4.unread x2))
      (harg2.unread x0) (arg6.view.readCov ([⟨Rect.unit (s := S8x1024) ![0, 0] S8x1024.size inb_S8x1024_S8x1024_0_0, k0_pay25 (F := F)⟩] : List (View.Piece (Elt F) S8x1024 .f32)) (Rect.unit (s := S8x1024) ![0, 0] S1x1024.size inb_S8x1024_S1x1024_0_0).toLoadRect,
        arg6.view.readCov ([⟨Rect.unit (s := S8x1024) ![0, 0] S8x1024.size inb_S8x1024_S8x1024_0_0, k0_pay25 (F := F)⟩] : List (View.Piece (Elt F) S8x1024 .f32)) (Rect.unit (s := S8x1024) ![1, 0] S1x1024.size inb_S8x1024_S1x1024_1_0).toLoadRect) (harg5.unread fun _ => FloatOps.ofBits .f32 0#32) k0_t1_loop.trips le_rfl).1
  refine (rows_store arg6.view _ _ _).trans (h.trans ?_)
  rw [e1, e2, e3, e4, harg2.read_unread, trips0]
end Run

end Cert.KernelIdeal.Own
-- ==== Proof.Bwd0.lean ====
module

public import proofs.«01_k».proof.Proof.Fwd0
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.WritesUnit
public import Idealize.ShloMosaic.Lib.VecWindow
public import Idealize.ShloMosaic.Lib.Pointwise.Index
public import Idealize.ShloMosaic.Lib.Pointwise.Reshape
public import Idealize.ShloMosaic.Lib.Tactic

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- What the backward loop carries: the two rows of the carried cotangent and the two partial sums of the decay's gradient. -/
abbrev Acc (F : FTy → Type) : Type := Vec F S1x1024 .f32 × Vec F S1x1024 .f32 × Vec F S8x1024 .f32 × Vec F S8x1024 .f32

/-- The eight rows of a chunk a trip of the backward loop works on. -/
abbrev oct1 (x : Vec F S512x2048 .f32) (k : Fin k1_t1_loop.trips) : Vec F S8x2048 .f32 :=
  View.ld x (Rect.unit (s := S512x2048) (k1_off1 k) S8x2048.size (k1_off1_inb k))
/-- The eight rows before them in the chunk. -/
abbrev oct2 (x : Vec F S512x2048 .f32) (k : Fin k1_t1_loop.trips) : Vec F S8x2048 .f32 :=
  View.ld x (Rect.unit (s := S512x2048) (k1_off2 k) S8x2048.size (k1_off2_inb k))
/-- The last eight rows of a chunk. -/
abbrev octL (x : Vec F S512x2048 .f32) : Vec F S8x2048 .f32 :=
  View.ld x (Rect.unit (s := S512x2048) ![504, 0] S8x2048.size inb_S512x2048_S8x2048_504_0)
/-- The upper half of the sums. -/
abbrev half0 (x : Vec F S16x1024 .f32) : Vec F S8x1024 .f32 := View.ld x (Rect.unit (s := S16x1024) ![0, 0] S8x1024.size inb_S16x1024_S8x1024_0_0)
/-- The lower half of the sums. -/
abbrev half1 (x : Vec F S16x1024 .f32) : Vec F S8x1024 .f32 := View.ld x (Rect.unit (s := S16x1024) ![8, 0] S8x1024.size inb_S16x1024_S8x1024_8_0)

/-- The powers of the decay in reversed order, real part. -/
def bRevR (r i : Vec F S1x1024 .f32) : FVec F S8x1024 .f32 :=
  k1_pay48 (k1_pay43 (k1_pay26 r) (k1_pay28 r i) (k1_pay30 r i) (k1_pay32 r i) (k1_pay34 r i) (k1_pay36 r i) (k1_pay38 r i) (k1_pay40 r i))
    (iota .tc S8x1024 32 [0] iota_S8x1024_d0_w32)
    (k1_pay46 (k1_pay26 r) (k1_pay28 r i) (k1_pay30 r i) (k1_pay32 r i) (k1_pay34 r i) (k1_pay36 r i) (k1_pay38 r i) (k1_pay40 r i))
/-- The powers of the decay in reversed order, imaginary part. -/
def bRevI (r i : Vec F S1x1024 .f32) : FVec F S8x1024 .f32 :=
  k1_pay49 (k1_pay44 (k1_pay27 i) (k1_pay29 r i) (k1_pay31 r i) (k1_pay33 r i) (k1_pay35 r i) (k1_pay37 r i) (k1_pay39 r i) (k1_pay41 r i) (k1_pay42 r i))
    (iota .tc S8x1024 32 [0] iota_S8x1024_d0_w32)
    (k1_pay45 (k1_pay27 i) (k1_pay29 r i) (k1_pay31 r i) (k1_pay33 r i) (k1_pay35 r i) (k1_pay37 r i) (k1_pay39 r i) (k1_pay41 r i) (k1_pay42 r i))
    k1_pay47

/-- The cotangents of a tile, from the incoming ones and the carried cotangent. -/
def bTile (r i : Vec F S1x1024 .f32) (x : Vec F S8x2048 .f32) (c : Acc F) : FVec F S8x2048 .f32 :=
  k1_pay22 (k1_pay32 r i) (k1_pay33 r i) (bRevR r i) (bRevI r i) c.1 c.2.1 (iota .tc S8x1024 32 [0] iota_S8x1024_d0_w32) (k1_pay7 (k1_pay26 r) (k1_pay27 i) x) (k1_pay8 (k1_pay26 r) (k1_pay27 i) x)
    (k1_pay12 (k1_pay26 r) (k1_pay27 i) (k1_pay28 r i) (k1_pay29 r i) x) (k1_pay13 (k1_pay26 r) (k1_pay27 i) (k1_pay29 r i) x)
    (k1_pay14 (k1_pay26 r) (k1_pay27 i) (k1_pay28 r i) x)
/-- Their real part. -/
def bRe (r i : Vec F S1x1024 .f32) (x : Vec F S8x2048 .f32) (c : Acc F) : FVec F S8x1024 .f32 :=
  k1_pay20 (k1_pay32 r i) (k1_pay33 r i) (bRevR r i) (bRevI r i) c.1 c.2.1 (iota .tc S8x1024 32 [0] iota_S8x1024_d0_w32) (k1_pay7 (k1_pay26 r) (k1_pay27 i) x) (k1_pay8 (k1_pay26 r) (k1_pay27 i) x)
    (k1_pay12 (k1_pay26 r) (k1_pay27 i) (k1_pay28 r i) (k1_pay29 r i) x) (k1_pay13 (k1_pay26 r) (k1_pay27 i) (k1_pay29 r i) x)
    (k1_pay14 (k1_pay26 r) (k1_pay27 i) (k1_pay28 r i) x)
/-- Their imaginary part. -/
def bIm (r i : Vec F S1x1024 .f32) (x : Vec F S8x2048 .f32) (c : Acc F) : FVec F S8x1024 .f32 :=
  k1_pay21 (k1_pay32 r i) (k1_pay33 r i) (bRevR r i) (bRevI r i) c.1 c.2.1 (iota .tc S8x1024 32 [0] iota_S8x1024_d0_w32) (k1_pay7 (k1_pay26 r) (k1_pay27 i) x) (k1_pay8 (k1_pay26 r) (k1_pay27 i) x)
    (k1_pay12 (k1_pay26 r) (k1_pay27 i) (k1_pay28 r i) (k1_pay29 r i) x) (k1_pay13 (k1_pay26 r) (k1_pay27 i) (k1_pay29 r i) x)
    (k1_pay14 (k1_pay26 r) (k1_pay27 i) (k1_pay28 r i) x)
/-- Whether trip `k` has a tile of its own chunk before it. -/
def bHas (k : Fin k1_t1_loop.trips) : BitVec 1 := Scalar.cmpi .sgt (Scalar.subi 63#32 (Scf.iv 0#32 1#32 k)) 0#32
/-- What a trip carries on. -/
def bNext (q : BitVec 32) (r i : Vec F S1x1024 .f32) (g s sp : Vec F S512x2048 .f32) (k : Fin k1_t1_loop.trips) (c : Acc F) : Acc F :=
  (k1_pay53 (bRe r i (oct1 g k) c), k1_pay54 (bIm r i (oct1 g k) c),
    k1_pay55 q c.2.2.1 (bRe r i (oct1 g k) c) (bIm r i (oct1 g k) c) (bHas k) (k1_pay23 (oct2 s k)) (octL sp) (oct1 s k),
    k1_pay56 q c.2.2.2 (bRe r i (oct1 g k) c) (bIm r i (oct1 g k) c) (bHas k) (k1_pay23 (oct2 s k)) (octL sp) (oct1 s k))
/-- What is carried before trip `k` of a chunk. -/
def bCar (q : BitVec 32) (r i : Vec F S1x1024 .f32) (g s sp : Vec F S512x2048 .f32) (c : Acc F) : ℕ → Acc F
  | 0 => c
  | k + 1 => if h : k < k1_t1_loop.trips then bNext q r i g s sp ⟨k, h⟩ (bCar q r i g s sp c k) else bCar q r i g s sp c k

theorem trips1 : k1_t1_loop.trips = 64 := by decide +kernel

/-- The cotangents of a chunk. -/
def bOut (q : BitVec 32) (r i : Vec F S1x1024 .f32) (g s sp : Vec F S512x2048 .f32) (c : Acc F) : Vec F S512x2048 .f32 := fun y =>
  bTile r i (oct1 g ⟨63 - (y 0).val / 8, by rw [trips1]; omega⟩) (bCar q r i g s sp c (63 - (y 0).val / 8))
    (ix2 (n0 := 8) (n1 := 2048) ⟨(y 0).val % 8, Nat.mod_lt _ (by omega)⟩ ⟨(y 1).val, (y 1).isLt⟩)

section Trip
variable (𝒱 : Variants) (c : Dev nD) (bd : Option 𝒱.V) (j : grid1.Coords)
  (arg2 : Memref sig .tc .vmem S512x2048 .f32) (harg2 : arg2.IsWhole)
  (arg3 : Memref sig .tc .vmem S512x2048 .f32) (harg3 : arg3.IsWhole)
  (arg4 : Memref sig .tc .vmem S512x2048 .f32) (harg4 : arg4.IsWhole)
  (arg5 : Memref sig .tc .vmem S8x1024 .f32) (harg5 : arg5.IsWhole)
  (arg6 : Memref sig .tc .vmem S8x1024 .f32) (harg6 : arg6.IsWhole)
  (arg7 : Memref sig .tc .vmem S512x2048 .f32) (harg7 : arg7.IsWhole)
  (arg8 : Memref sig .tc .vmem S8x1024 .f32) (harg8 : arg8.IsWhole)
  (arg9 : Memref sig .tc .vmem S8x1024 .f32) (harg9 : arg9.IsWhole)
  (arg10 : Memref sig .tc .vmem S8x1024 .f32) (harg10 : arg10.IsWhole)
  (arg11 : Memref sig .tc .vmem S16x1024 .f32) (harg11 : arg11.IsWhole)
  (q : BitVec 32) (r i : Vec F S1x1024 .f32) (X : BufTy.Contents (Elt F) arg2.view.ty) (Y : BufTy.Contents (Elt F) arg3.view.ty)
  (Z : BufTy.Contents (Elt F) arg4.view.ty)

theorem tripR1 (k : Fin k1_t1_loop.trips) (acc : Acc F) :
    tripR_k1_t1 (F := F) 𝒱 c bd j arg2 harg2 arg3 harg3 arg4 harg4 arg5 harg5 arg6 harg6 arg7 harg7 arg8 harg8 arg9 harg9 arg10 harg10 arg11 harg11 q
      (k1_pay26 r) (k1_pay27 i) (k1_pay28 r i) (k1_pay29 r i) (k1_pay32 r i) (k1_pay33 r i) (bRevR r i) (bRevI r i) X Y Z k acc
      = bNext q r i (arg2.view.read (Elt F) X) (arg3.view.read (Elt F) Y) (arg4.view.read (Elt F) Z) k acc := by
  unfold tripR_k1_t1 trip_k1_t1; rfl

theorem tripL1 (k : Fin k1_t1_loop.trips) (acc : Acc F) :
    tripL_k1_t1 (F := F) 𝒱 c bd j arg2 harg2 arg3 harg3 arg4 harg4 arg5 harg5 arg6 harg6 arg7 harg7 arg8 harg8 arg9 harg9 arg10 harg10 arg11 harg11 q
      (k1_pay26 r) (k1_pay27 i) (k1_pay28 r i) (k1_pay29 r i) (k1_pay32 r i) (k1_pay33 r i) (bRevR r i) (bRevI r i) X Y Z k acc
      = [⟨Rect.unit (s := S512x2048) (k1_off1 k) S8x2048.size (k1_off1_inb k), bTile r i (oct1 (arg2.view.read (Elt F) X) k) acc⟩] := by
  unfold tripL_k1_t1 trip_k1_t1; rfl

/-- The loop's state before trip `k`: what is carried, and the tiles written so far, the last rows first. -/
theorem st1 (init : Acc F) (f : BufTy.Contents (Elt F) arg7.view.ty) :
    ∀ k : ℕ, k ≤ k1_t1_loop.trips →
      (st_k1_t1 (F := F) 𝒱 c bd j arg2 harg2 arg3 harg3 arg4 harg4 arg5 harg5 arg6 harg6 arg7 harg7 arg8 harg8 arg9 harg9 arg10 harg10 arg11 harg11 q
        (k1_pay26 r) (k1_pay27 i) (k1_pay28 r i) (k1_pay29 r i) (k1_pay32 r i) (k1_pay33 r i) (bRevR r i) (bRevI r i) X Y Z init k).1
        = bCar q r i (arg2.view.read (Elt F) X) (arg3.view.read (Elt F) Y) (arg4.view.read (Elt F) Z) init k
      ∧ ∀ y : S512x2048.Idx, 512 ≤ (y 0).val + 8 * k → arg7.view.read (Elt F) (arg7.view.writes (Elt F) f
        (st_k1_t1 (F := F) 𝒱 c bd j arg2 harg2 arg3 harg3 arg4 harg4 arg5 harg5 arg6 harg6 arg7 harg7 arg8 harg8 arg9 harg9 arg10 harg10 arg11 harg11 q
          (k1_pay26 r) (k1_pay27 i) (k1_pay28 r i) (k1_pay29 r i) (k1_pay32 r i) (k1_pay33 r i) (bRevR r i) (bRevI r i) X Y Z init k).2) y
        = bOut q r i (arg2.view.read (Elt F) X) (arg3.view.read (Elt F) Y) (arg4.view.read (Elt F) Z) init y
  | 0, _ => ⟨rfl, fun y hy => by
      have : (y 0).val < 512 := (y 0).isLt
      omega⟩
  | k + 1, hk => by
    obtain ⟨h1, h2⟩ := st1 init f k (by omega)
    have hk' : k < k1_t1_loop.trips := hk
    have h64 : k < 64 := by rw [← trips1]; exact hk'
    rw [st_k1_t1_succ 𝒱 c bd j arg2 harg2 arg3 harg3 arg4 harg4 arg5 harg5 arg6 harg6 arg7 harg7 arg8 harg8 arg9 harg9 arg10 harg10 arg11 harg11 q _ _ _ _ _ _ _ _ X Y Z init ⟨k, hk'⟩]
    rw [tripR1, tripL1, h1]
    refine ⟨by rw [bCar, dif_pos hk'], fun y hy => ?_⟩
    have hlt : (y 0).val < 512 := (y 0).isLt
    rw [List.singleton_append]
    by_cases hy' : 512 ≤ (y 0).val + 8 * k
    · exact (View.read_writes_cons_rows_of_not_mem arg7.view f (o := 504 - 8 * k) (W := 8) _ _ _ y (k1_off1_eq ⟨k, hk'⟩) rfl (Or.inr (by omega))).trans (h2 y hy')
    · have e : k = 63 - (y 0).val / 8 := by omega
      refine (View.read_writes_cons_rows_of_mem arg7.view f (o := 504 - 8 * k) _ _ _ y
        (ix2 (n0 := 8) (n1 := 2048) ⟨(y 0).val % 8, Nat.mod_lt _ (by omega)⟩ ⟨(y 1).val, (y 1).isLt⟩) (k1_off1_eq ⟨k, hk'⟩) ?_ ?_).trans ?_
      · show (y 0).val = 504 - 8 * k + (y 0).val % 8
        omega
      · rfl
      · unfold bOut
        subst e
        rfl

theorem st1_out (init : Acc F) (f : BufTy.Contents (Elt F) arg7.view.ty) :
    arg7.view.read (Elt F) (arg7.view.writes (Elt F) f
        (st_k1_t1 (F := F) 𝒱 c bd j arg2 harg2 arg3 harg3 arg4 harg4 arg5 harg5 arg6 harg6 arg7 harg7 arg8 harg8 arg9 harg9 arg10 harg10 arg11 harg11 q
          (k1_pay26 r) (k1_pay27 i) (k1_pay28 r i) (k1_pay29 r i) (k1_pay32 r i) (k1_pay33 r i) (bRevR r i) (bRevI r i) X Y Z init k1_t1_loop.trips).2)
      = bOut q r i (arg2.view.read (Elt F) X) (arg3.view.read (Elt F) Y) (arg4.view.read (Elt F) Z) init :=
  funext fun y => (st1 𝒱 c bd j arg2 harg2 arg3 harg3 arg4 harg4 arg5 harg5 arg6 harg6 arg7 harg7 arg8 harg8 arg9 harg9 arg10 harg10 arg11 harg11 q r i X Y Z init f k1_t1_loop.trips le_rfl).2 y (by
    rw [trips1]; omega)
end Trip

local notation "𝕄" => MT nD τ sig Unit (Elt F) ℕ (UR sig nD τ) ℕ

/-- The condition of the backward call's zeroing of its carries. -/
def cond1 (i : grid1.Coords) : Prop := Scalar.cmpi .ne (Scalar.extui (Scalar.cmpi .eq (BitVec.ofNat 32 (i 1).val) 0#32)) 0#32 = 1#1
theorem cond1_iff : ∀ t : Fin cfg1.N, cond1 (grid1.coords t) ↔ t.val % 4 = 0 := by
  unfold cond1; decide +kernel

/-- After the two rows of the carry are stored, they read as stored. -/
theorem rows_store1 {κ : Kind} {sp : Space} (v : View sig κ sp S8x1024 .f32) (f : v.ty.Contents (Elt F)) (p q : Vec F S1x1024 .f32)
    (L : List (View.Piece (Elt F) S8x1024 .f32)) :
    row0 (v.read (Elt F) (v.writes (Elt F) f (⟨(Rect.unit (s := S8x1024) ![1, 0] S1x1024.size inb_S8x1024_S1x1024_1_0), k1_pay58 q⟩ :: ⟨(Rect.unit (s := S8x1024) ![0, 0] S1x1024.size inb_S8x1024_S1x1024_0_0), k1_pay57 p⟩ :: L))) = p
    ∧ row1 (v.read (Elt F) (v.writes (Elt F) f (⟨(Rect.unit (s := S8x1024) ![1, 0] S1x1024.size inb_S8x1024_S1x1024_1_0), k1_pay58 q⟩ :: ⟨(Rect.unit (s := S8x1024) ![0, 0] S1x1024.size inb_S8x1024_S1x1024_0_0), k1_pay57 p⟩ :: L))) = q := by
  have e10 : k1_pay57 p = p := by unfold k1_pay57; simp only [shapeCast_id]
  have e11 : k1_pay58 q = q := by unfold k1_pay58; simp only [shapeCast_id]
  rw [e10, e11]
  refine ⟨funext fun y => ?_, funext fun y => ?_⟩
  · refine (View.read_writes_cons_rows_of_not_mem v f (o := 1) (W := 1) _ _ _ _ rfl rfl (Or.inl ?_)).trans
      (View.read_writes_cons_rows_of_mem v f (o := 0) _ _ _ _ y rfl ?_ ?_)
    · show 0 + 1 * (y 0).val < 1
      have : (y 0).val < 1 := (y 0).isLt
      omega
    · show 0 + 1 * (y 0).val = 0 + (y 0).val
      omega
    · show 0 + 1 * (y 1).val = (y 1).val
      omega
  · refine View.read_writes_cons_rows_of_mem v f (o := 1) _ _ _ _ y rfl ?_ ?_
    · show 1 + 1 * (y 0).val = 1 + (y 0).val
      omega
    · show 0 + 1 * (y 1).val = (y 1).val
      omega

/-- After the two halves of the sums are stored, they read as stored. -/
theorem halves_store {κ : Kind} {sp : Space} (v : View sig κ sp S16x1024 .f32) (f : v.ty.Contents (Elt F)) (p q : Vec F S8x1024 .f32)
    (L : List (View.Piece (Elt F) S16x1024 .f32)) :
    half0 (v.read (Elt F) (v.writes (Elt F) f (⟨(Rect.unit (s := S16x1024) ![8, 0] S8x1024.size inb_S16x1024_S8x1024_8_0), k1_pay60 q⟩ :: ⟨(Rect.unit (s := S16x1024) ![0, 0] S8x1024.size inb_S16x1024_S8x1024_0_0), k1_pay59 p⟩ :: L))) = p
    ∧ half1 (v.read (Elt F) (v.writes (Elt F) f (⟨(Rect.unit (s := S16x1024) ![8, 0] S8x1024.size inb_S16x1024_S8x1024_8_0), k1_pay60 q⟩ :: ⟨(Rect.unit (s := S16x1024) ![0, 0] S8x1024.size inb_S16x1024_S8x1024_0_0), k1_pay59 p⟩ :: L))) = q := by
  have e10 : k1_pay59 p = p := by unfold k1_pay59; simp only [shapeCast_id]
  have e11 : k1_pay60 q = q := by unfold k1_pay60; simp only [shapeCast_id]
  rw [e10, e11]
  refine ⟨funext fun y => ?_, funext fun y => ?_⟩
  · refine (View.read_writes_cons_rows_of_not_mem v f (o := 8) (W := 8) _ _ _ _ rfl rfl (Or.inl ?_)).trans
      (View.read_writes_cons_rows_of_mem v f (o := 0) _ _ _ _ y rfl ?_ ?_)
    · show 0 + 1 * (y 0).val < 8
      have : (y 0).val < 8 := (y 0).isLt
      omega
    · show 0 + 1 * (y 0).val = 0 + (y 0).val
      omega
    · show 0 + 1 * (y 1).val = (y 1).val
      omega
  · refine View.read_writes_cons_rows_of_mem v f (o := 8) _ _ _ _ y rfl ?_ ?_
    · show 8 + 1 * (y 0).val = 8 + (y 0).val
      omega
    · show 0 + 1 * (y 1).val = (y 1).val
      omega

section Run
variable (c : Dev nD) (j : grid1.Coords)
  (arg2 : Memref sig .tc .vmem S512x2048 .f32) (harg2 : arg2.IsWhole)
  (arg3 : Memref sig .tc .vmem S512x2048 .f32) (harg3 : arg3.IsWhole)
  (arg4 : Memref sig .tc .vmem S512x2048 .f32) (harg4 : arg4.IsWhole)
  (arg5 : Memref sig .tc .vmem S8x1024 .f32) (harg5 : arg5.IsWhole)
  (arg6 : Memref sig .tc .vmem S8x1024 .f32) (harg6 : arg6.IsWhole)
  (arg7 : Memref sig .tc .vmem S512x2048 .f32) (harg7 : arg7.IsWhole)
  (arg8 : Memref sig .tc .vmem S8x1024 .f32) (harg8 : arg8.IsWhole)
  (arg9 : Memref sig .tc .vmem S8x1024 .f32) (harg9 : arg9.IsWhole)
  (arg10 : Memref sig .tc .vmem S8x1024 .f32) (harg10 : arg10.IsWhole)
  (arg11 : Memref sig .tc .vmem S16x1024 .f32) (harg11 : arg11.IsWhole)
  (x0 x1 x2 : Vec F S512x2048 .f32) (x3 x4 xs : Vec F S8x1024 .f32) (xa : Vec F S16x1024 .f32)

set_option maxHeartbeats 2000000 in
theorem run1_B (hc : ¬ cond1 j) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare xs ∗ owns (c : Thread nD τ) arg11 fullShare xa
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ owns (c : Thread nD τ) arg7 fullShare (bOut (BitVec.ofNat 32 (j 1).val) (row0 x3) (row0 x4) x0 x1 x2 (row0 xs, row1 xs, half0 xa, half1 xa))
          ∗ owns (c : Thread nD τ) arg8 fullShare (k1_pay61 (bCar (BitVec.ofNat 32 (j 1).val) (row0 x3) (row0 x4) x0 x1 x2 (row0 xs, row1 xs, half0 xa, half1 xa) 64).2.2.1)
          ∗ owns (c : Thread nD τ) arg9 fullShare (k1_pay62 (bCar (BitVec.ofNat 32 (j 1).val) (row0 x3) (row0 x4) x0 x1 x2 (row0 xs, row1 xs, half0 xa, half1 xa) 64).2.2.2)
          ∗ (∃ d, owns (c : Thread nD τ) arg10 fullShare d ∗ ⌜row0 d = (bCar (BitVec.ofNat 32 (j 1).val) (row0 x3) (row0 x4) x0 x1 x2 (row0 xs, row1 xs, half0 xa, half1 xa) 64).1 ∧ row1 d = (bCar (BitVec.ofNat 32 (j 1).val) (row0 x3) (row0 x4) x0 x1 x2 (row0 xs, row1 xs, half0 xa, half1 xa) 64).2.1⌝)
          ∗ (∃ d, owns (c : Thread nD τ) arg11 fullShare d ∗ ⌜half0 d = (bCar (BitVec.ofNat 32 (j 1).val) (row0 x3) (row0 x4) x0 x1 x2 (row0 xs, row1 xs, half0 xa, half1 xa) 64).2.2.1 ∧ half1 d = (bCar (BitVec.ofNat 32 (j 1).val) (row0 x3) (row0 x4) x0 x1 x2 (row0 xs, row1 xs, half0 xa, half1 xa) 64).2.2.2⌝)) -∗ K ⟨⟩))
      ⊢ wp frame (wpE (defs₀ (F := F)) Variants.none c none) E (cc1_s5_scan_bwd j arg2 harg2 arg3 harg3 arg4 harg4 arg5 harg5 arg6 harg6 arg7 harg7 arg8 harg8 arg9 harg9 arg10 harg10 arg11 harg11) K := by
  have hc0 := hc
  unfold cond1 at hc0
  simp only [cc1_s5_scan_bwd_eq_skeleton]; unfold cc1_s5_scan_bwd_skel
  simp only [k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg10.eq_unread hfs0; obtain rfl := harg11.eq_unread hfs1
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  have e1 : arg5.view.readAt (Elt F) (Rect.unit (s := S8x1024) ![0, 0] S1x1024.size inb_S8x1024_S1x1024_0_0).toLoadRect (harg5.unread x3) = row0 x3 :=
    congrArg row0 (harg5.read_unread x3)
  have e2 : arg6.view.readAt (Elt F) (Rect.unit (s := S8x1024) ![0, 0] S1x1024.size inb_S8x1024_S1x1024_0_0).toLoadRect (harg6.unread x4) = row0 x4 :=
    congrArg row0 (harg6.read_unread x4)
  have e3 : arg10.view.readAt (Elt F) (Rect.unit (s := S8x1024) ![0, 0] S1x1024.size inb_S8x1024_S1x1024_0_0).toLoadRect (harg10.unread xs) = row0 xs := congrArg row0 (harg10.read_unread xs)
  have e4 : arg10.view.readAt (Elt F) (Rect.unit (s := S8x1024) ![1, 0] S1x1024.size inb_S8x1024_S1x1024_1_0).toLoadRect (harg10.unread xs) = row1 xs := congrArg row1 (harg10.read_unread xs)
  have e5 : arg11.view.readAt (Elt F) (Rect.unit (s := S16x1024) ![0, 0] S8x1024.size inb_S16x1024_S8x1024_0_0).toLoadRect (harg11.unread xa) = half0 xa := congrArg half0 (harg11.read_unread xa)
  have e6 : arg11.view.readAt (Elt F) (Rect.unit (s := S16x1024) ![8, 0] S8x1024.size inb_S16x1024_S8x1024_8_0).toLoadRect (harg11.unread xa) = half1 xa := congrArg half1 (harg11.read_unread xa)
  have h : (st_k1_t1 (F := F) Variants.none c none j arg2 harg2 arg3 harg3 arg4 harg4 arg5 harg5 arg6 harg6 arg7 harg7 arg8 harg8 arg9 harg9 arg10 harg10 arg11 harg11 (BitVec.ofNat 32 (j 1).val) (k1_pay26 (arg5.view.readAt (Elt F) (Rect.unit (s := S8x1024) ![0, 0] S1x1024.size inb_S8x1024_S1x1024_0_0).toLoadRect (harg5.unread x3))) (k1_pay27 (arg6.view.readAt (Elt F) (Rect.unit (s := S8x1024) ![0, 0] S1x1024.size inb_S8x1024_S1x1024_0_0).toLoadRect (harg6.unread x4))) (k1_pay28 (arg5.view.readAt (Elt F) (Rect.unit (s := S8x1024) ![0, 0] S1x1024.size inb_S8x1024_S1x1024_0_0).toLoadRect (harg5.unread x3)) (arg6.view.readAt (Elt F) (Rect.unit (s := S8x1024) ![0, 0] S1x1024.size inb_S8x1024_S1x1024_0_0).toLoadRect (harg6.unread x4))) (k1_pay29 (arg5.view.readAt (Elt F) (Rect.unit (s := S8x1024) ![0, 0] S1x1024.size inb_S8x1024_S1x1024_0_0).toLoadRect (harg5.unread x3)) (arg6.view.readAt (Elt F) (Rect.unit (s := S8x1024) ![0, 0] S1x1024.size inb_S8x1024_S1x1024_0_0).toLoadRect (harg6.unread x4))) (k1_pay32 (arg5.view.readAt (Elt F) (Rect.unit (s := S8x1024) ![0, 0] S1x1024.size inb_S8x1024_S1x1024_0_0).toLoadRect (harg5.unread x3)) (arg6.view.readAt (Elt F) (Rect.unit (s := S8x1024) ![0, 0] S1x1024.size inb_S8x1024_S1x1024_0_0).toLoadRect (harg6.unread x4))) (k1_pay33 (arg5.view.readAt (Elt F) (Rect.unit (s := S8x1024) ![0, 0] S1x1024.size inb_S8x1024_S1x1024_0_0).toLoadRect (harg5.unread x3)) (arg6.view.readAt (Elt F) (Rect.unit (s := S8x1024) ![0, 0] S1x1024.size inb_S8x1024_S1x1024_0_0).toLoadRect (harg6.unread x4))) (bRevR (arg5.view.readAt (Elt F) (Rect.unit (s := S8x1024) ![0, 0] S1x1024.size inb_S8x1024_S1x1024_0_0).toLoadRect (harg5.unread x3)) (arg6.view.readAt (Elt F) (Rect.unit (s := S8x1024) ![0, 0] S1x1024.size inb_S8x1024_S1x1024_0_0).toLoadRect (harg6.unread x4))) (bRevI (arg5.view.readAt (Elt F) (Rect.unit (s := S8x1024) ![0, 0] S1x1024.size inb_S8x1024_S1x1024_0_0).toLoadRect (harg5.unread x3)) (arg6.view.readAt (Elt F) (Rect.unit (s := S8x1024) ![0, 0] S1x1024.size inb_S8x1024_S1x1024_0_0).toLoadRect (harg6.unread x4)))
      (harg2.unread x0) (harg3.unread x1) (harg4.unread x2) (arg10.view.readAt (Elt F) (Rect.unit (s := S8x1024) ![0, 0] S1x1024.size inb_S8x1024_S1x1024_0_0).toLoadRect (harg10.unread xs), arg10.view.readAt (Elt F) (Rect.unit (s := S8x1024) ![1, 0] S1x1024.size inb_S8x1024_S1x1024_1_0).toLoadRect (harg10.unread xs), arg11.view.readAt (Elt F) (Rect.unit (s := S16x1024) ![0, 0] S8x1024.size inb_S16x1024_S8x1024_0_0).toLoadRect (harg11.unread xa), arg11.view.readAt (Elt F) (Rect.unit (s := S16x1024) ![8, 0] S8x1024.size inb_S16x1024_S8x1024_8_0).toLoadRect (harg11.unread xa)) k1_t1_loop.trips).1 = bCar (BitVec.ofNat 32 (j 1).val) (row0 x3) (row0 x4) x0 x1 x2 (row0 xs, row1 xs, half0 xa, half1 xa) 64 :=
    ((st1 Variants.none c none j arg2 harg2 arg3 harg3 arg4 harg4 arg5 harg5 arg6 harg6 arg7 harg7 arg8 harg8 arg9 harg9 arg10 harg10 arg11 harg11 (BitVec.ofNat 32 (j 1).val) (arg5.view.readAt (Elt F) (Rect.unit (s := S8x1024) ![0, 0] S1x1024.size inb_S8x1024_S1x1024_0_0).toLoadRect (harg5.unread x3)) (arg6.view.readAt (Elt F) (Rect.unit (s := S8x1024) ![0, 0] S1x1024.size inb_S8x1024_S1x1024_0_0).toLoadRect (harg6.unread x4)) (harg2.unread x0) (harg3.unread x1) (harg4.unread x2)
      (arg10.view.readAt (Elt F) (Rect.unit (s := S8x1024) ![0, 0] S1x1024.size inb_S8x1024_S1x1024_0_0).toLoadRect (harg10.unread xs), arg10.view.readAt (Elt F) (Rect.unit (s := S8x1024) ![1, 0] S1x1024.size inb_S8x1024_S1x1024_1_0).toLoadRect (harg10.unread xs), arg11.view.readAt (Elt F) (Rect.unit (s := S16x1024) ![0, 0] S8x1024.size inb_S16x1024_S8x1024_0_0).toLoadRect (harg11.unread xa), arg11.view.readAt (Elt F) (Rect.unit (s := S16x1024) ![8, 0] S8x1024.size inb_S16x1024_S8x1024_8_0).toLoadRect (harg11.unread xa)) (harg7.unread x0) k1_t1_loop.trips le_rfl).1).trans (by rw [e1, e2, e3, e4, e5, e6, harg2.read_unread, harg3.read_unread, harg4.read_unread, trips1])
  isplitl [H5]
  · iexists _; isplitr; swap; · iexact H5
    ipureintro
    refine (st1_out Variants.none c none j arg2 harg2 arg3 harg3 arg4 harg4 arg5 harg5 arg6 harg6 arg7 harg7 arg8 harg8 arg9 harg9 arg10 harg10 arg11 harg11 (BitVec.ofNat 32 (j 1).val) (arg5.view.readAt (Elt F) (Rect.unit (s := S8x1024) ![0, 0] S1x1024.size inb_S8x1024_S1x1024_0_0).toLoadRect (harg5.unread x3)) (arg6.view.readAt (Elt F) (Rect.unit (s := S8x1024) ![0, 0] S1x1024.size inb_S8x1024_S1x1024_0_0).toLoadRect (harg6.unread x4)) (harg2.unread x0) (harg3.unread x1) (harg4.unread x2)
      (arg10.view.readAt (Elt F) (Rect.unit (s := S8x1024) ![0, 0] S1x1024.size inb_S8x1024_S1x1024_0_0).toLoadRect (harg10.unread xs), arg10.view.readAt (Elt F) (Rect.unit (s := S8x1024) ![1, 0] S1x1024.size inb_S8x1024_S1x1024_1_0).toLoadRect (harg10.unread xs), arg11.view.readAt (Elt F) (Rect.unit (s := S16x1024) ![0, 0] S8x1024.size inb_S16x1024_S8x1024_0_0).toLoadRect (harg11.unread xa), arg11.view.readAt (Elt F) (Rect.unit (s := S16x1024) ![8, 0] S8x1024.size inb_S16x1024_S8x1024_8_0).toLoadRect (harg11.unread xa)) f5).trans ?_
    rw [e1, e2, e3, e4, e5, e6, harg2.read_unread, harg3.read_unread, harg4.read_unread]
  isplitl [H6]
  · iexists _; isplitr; swap; · iexact H6
    ipureintro
    exact (View.read_writes_full arg8.view _ _ _ _).trans (congrArg (fun z : Acc F => k1_pay61 z.2.2.1) h)
  isplitl [H7]
  · iexists _; isplitr; swap; · iexact H7
    ipureintro
    exact (View.read_writes_full arg9.view _ _ _ _).trans (congrArg (fun z : Acc F => k1_pay62 z.2.2.2) h)
  isplitl [HS0]
  · iexists _; isplitl [HS0]
    · iexists _; isplitr; swap; · iexact HS0
      ipureintro; rfl
    ipureintro
    exact ⟨(rows_store1 arg10.view _ _ _ _).1.trans (congrArg (fun z : Acc F => z.1) h), (rows_store1 arg10.view _ _ _ _).2.trans (congrArg (fun z : Acc F => z.2.1) h)⟩
  iexists _; isplitl [HS1]
  · iexists _; isplitr; swap; · iexact HS1
    ipureintro; rfl
  ipureintro
  exact ⟨(halves_store arg11.view _ _ _ _).1.trans (congrArg (fun z : Acc F => z.2.2.1) h), (halves_store arg11.view _ _ _ _).2.trans (congrArg (fun z : Acc F => z.2.2.2) h)⟩

set_option maxHeartbeats 2000000 in
theorem run1_A (hc : cond1 j) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ owns (c : Thread nD τ) arg7 fullShare (bOut (BitVec.ofNat 32 (j 1).val) (row0 x3) (row0 x4) x0 x1 x2 (row0 (k1_pay24 (F := F)), row1 (k1_pay24 (F := F)), half0 (k1_pay25 (F := F)), half1 (k1_pay25 (F := F))))
          ∗ owns (c : Thread nD τ) arg8 fullShare (k1_pay61 (bCar (BitVec.ofNat 32 (j 1).val) (row0 x3) (row0 x4) x0 x1 x2 (row0 (k1_pay24 (F := F)), row1 (k1_pay24 (F := F)), half0 (k1_pay25 (F := F)), half1 (k1_pay25 (F := F))) 64).2.2.1)
          ∗ owns (c : Thread nD τ) arg9 fullShare (k1_pay62 (bCar (BitVec.ofNat 32 (j 1).val) (row0 x3) (row0 x4) x0 x1 x2 (row0 (k1_pay24 (F := F)), row1 (k1_pay24 (F := F)), half0 (k1_pay25 (F := F)), half1 (k1_pay25 (F := F))) 64).2.2.2)
          ∗ (∃ d, owns (c : Thread nD τ) arg10 fullShare d ∗ ⌜row0 d = (bCar (BitVec.ofNat 32 (j 1).val) (row0 x3) (row0 x4) x0 x1 x2 (row0 (k1_pay24 (F := F)), row1 (k1_pay24 (F := F)), half0 (k1_pay25 (F := F)), half1 (k1_pay25 (F := F))) 64).1 ∧ row1 d = (bCar (BitVec.ofNat 32 (j 1).val) (row0 x3) (row0 x4) x0 x1 x2 (row0 (k1_pay24 (F := F)), row1 (k1_pay24 (F := F)), half0 (k1_pay25 (F := F)), half1 (k1_pay25 (F := F))) 64).2.1⌝)
          ∗ (∃ d, owns (c : Thread nD τ) arg11 fullShare d ∗ ⌜half0 d = (bCar (BitVec.ofNat 32 (j 1).val) (row0 x3) (row0 x4) x0 x1 x2 (row0 (k1_pay24 (F := F)), row1 (k1_pay24 (F := F)), half0 (k1_pay25 (F := F)), half1 (k1_pay25 (F := F))) 64).2.2.1 ∧ half1 d = (bCar (BitVec.ofNat 32 (j 1).val) (row0 x3) (row0 x4) x0 x1 x2 (row0 (k1_pay24 (F := F)), row1 (k1_pay24 (F := F)), half0 (k1_pay25 (F := F)), half1 (k1_pay25 (F := F))) 64).2.2.2⌝)) -∗ K ⟨⟩))
      ⊢ wp frame (wpE (defs₀ (F := F)) Variants.none c none) E (cc1_s5_scan_bwd j arg2 harg2 arg3 harg3 arg4 harg4 arg5 harg5 arg6 harg6 arg7 harg7 arg8 harg8 arg9 harg9 arg10 harg10 arg11 harg11) K := by
  have hc0 := hc
  unfold cond1 at hc0
  simp only [cc1_s5_scan_bwd_eq_skeleton]; unfold cc1_s5_scan_bwd_skel
  simp only [k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  have e1 : arg5.view.readAt (Elt F) (Rect.unit (s := S8x1024) ![0, 0] S1x1024.size inb_S8x1024_S1x1024_0_0).toLoadRect (harg5.unread x3) = row0 x3 :=
    congrArg row0 (harg5.read_unread x3)
  have e2 : arg6.view.readAt (Elt F) (Rect.unit (s := S8x1024) ![0, 0] S1x1024.size inb_S8x1024_S1x1024_0_0).toLoadRect (harg6.unread x4) = row0 x4 :=
    congrArg row0 (harg6.read_unread x4)
  have e3 : arg10.view.readCov ([⟨Rect.unit (s := S8x1024) ![0, 0] S8x1024.size inb_S8x1024_S8x1024_0_0, k1_pay24 (F := F)⟩] : List (View.Piece (Elt F) S8x1024 .f32)) (Rect.unit (s := S8x1024) ![0, 0] S1x1024.size inb_S8x1024_S1x1024_0_0).toLoadRect = row0 (k1_pay24 (F := F)) := congrArg (fun z => row0 z) (View.read_writes_full arg10.view _ _ _ _)
  have e4 : arg10.view.readCov ([⟨Rect.unit (s := S8x1024) ![0, 0] S8x1024.size inb_S8x1024_S8x1024_0_0, k1_pay24 (F := F)⟩] : List (View.Piece (Elt F) S8x1024 .f32)) (Rect.unit (s := S8x1024) ![1, 0] S1x1024.size inb_S8x1024_S1x1024_1_0).toLoadRect = row1 (k1_pay24 (F := F)) := congrArg (fun z => row1 z) (View.read_writes_full arg10.view _ _ _ _)
  have e5 : arg11.view.readCov ([⟨Rect.unit (s := S16x1024) ![0, 0] S16x1024.size inb_S16x1024_S16x1024_0_0, k1_pay25 (F := F)⟩] : List (View.Piece (Elt F) S16x1024 .f32)) (Rect.unit (s := S16x1024) ![0, 0] S8x1024.size inb_S16x1024_S8x1024_0_0).toLoadRect = half0 (k1_pay25 (F := F)) := congrArg (fun z => half0 z) (View.read_writes_full arg11.view _ _ _ _)
  have e6 : arg11.view.readCov ([⟨Rect.unit (s := S16x1024) ![0, 0] S16x1024.size inb_S16x1024_S16x1024_0_0, k1_pay25 (F := F)⟩] : List (View.Piece (Elt F) S16x1024 .f32)) (Rect.unit (s := S16x1024) ![8, 0] S8x1024.size inb_S16x1024_S8x1024_8_0).toLoadRect = half1 (k1_pay25 (F := F)) := congrArg (fun z => half1 z) (View.read_writes_full arg11.view _ _ _ _)
  have h : (st_k1_t1 (F := F) Variants.none c none j arg2 harg2 arg3 harg3 arg4 harg4 arg5 harg5 arg6 harg6 arg7 harg7 arg8 harg8 arg9 harg9 arg10 harg10 arg11 harg11 (BitVec.ofNat 32 (j 1).val) (k1_pay26 (arg5.view.readAt (Elt F) (Rect.unit (s := S8x1024) ![0, 0] S1x1024.size inb_S8x1024_S1x1024_0_0).toLoadRect (harg5.unread x3))) (k1_pay27 (arg6.view.readAt (Elt F) (Rect.unit (s := S8x1024) ![0, 0] S1x1024.size inb_S8x1024_S1x1024_0_0).toLoadRect (harg6.unread x4))) (k1_pay28 (arg5.view.readAt (Elt F) (Rect.unit (s := S8x1024) ![0, 0] S1x1024.size inb_S8x1024_S1x1024_0_0).toLoadRect (harg5.unread x3)) (arg6.view.readAt (Elt F) (Rect.unit (s := S8x1024) ![0, 0] S1x1024.size inb_S8x1024_S1x1024_0_0).toLoadRect (harg6.unread x4))) (k1_pay29 (arg5.view.readAt (Elt F) (Rect.unit (s := S8x1024) ![0, 0] S1x1024.size inb_S8x1024_S1x1024_0_0).toLoadRect (harg5.unread x3)) (arg6.view.readAt (Elt F) (Rect.unit (s := S8x1024) ![0, 0] S1x1024.size inb_S8x1024_S1x1024_0_0).toLoadRect (harg6.unread x4))) (k1_pay32 (arg5.view.readAt (Elt F) (Rect.unit (s := S8x1024) ![0, 0] S1x1024.size inb_S8x1024_S1x1024_0_0).toLoadRect (harg5.unread x3)) (arg6.view.readAt (Elt F) (Rect.unit (s := S8x1024) ![0, 0] S1x1024.size inb_S8x1024_S1x1024_0_0).toLoadRect (harg6.unread x4))) (k1_pay33 (arg5.view.readAt (Elt F) (Rect.unit (s := S8x1024) ![0, 0] S1x1024.size inb_S8x1024_S1x1024_0_0).toLoadRect (harg5.unread x3)) (arg6.view.readAt (Elt F) (Rect.unit (s := S8x1024) ![0, 0] S1x1024.size inb_S8x1024_S1x1024_0_0).toLoadRect (harg6.unread x4))) (bRevR (arg5.view.readAt (Elt F) (Rect.unit (s := S8x1024) ![0, 0] S1x1024.size inb_S8x1024_S1x1024_0_0).toLoadRect (harg5.unread x3)) (arg6.view.readAt (Elt F) (Rect.unit (s := S8x1024) ![0, 0] S1x1024.size inb_S8x1024_S1x1024_0_0).toLoadRect (harg6.unread x4))) (bRevI (arg5.view.readAt (Elt F) (Rect.unit (s := S8x1024) ![0, 0] S1x1024.size inb_S8x1024_S1x1024_0_0).toLoadRect (harg5.unread x3)) (arg6.view.readAt (Elt F) (Rect.unit (s := S8x1024) ![0, 0] S1x1024.size inb_S8x1024_S1x1024_0_0).toLoadRect (harg6.unread x4)))
      (harg2.unread x0) (harg3.unread x1) (harg4.unread x2) (arg10.view.readCov ([⟨Rect.unit (s := S8x1024) ![0, 0] S8x1024.size inb_S8x1024_S8x1024_0_0, k1_pay24 (F := F)⟩] : List (View.Piece (Elt F) S8x1024 .f32)) (Rect.unit (s := S8x1024) ![0, 0] S1x1024.size inb_S8x1024_S1x1024_0_0).toLoadRect, arg10.view.readCov ([⟨Rect.unit (s := S8x1024) ![0, 0] S8x1024.size inb_S8x1024_S8x1024_0_0, k1_pay24 (F := F)⟩] : List (View.Piece (Elt F) S8x1024 .f32)) (Rect.unit (s := S8x1024) ![1, 0] S1x1024.size inb_S8x1024_S1x1024_1_0).toLoadRect, arg11.view.readCov ([⟨Rect.unit (s := S16x1024) ![0, 0] S16x1024.size inb_S16x1024_S16x1024_0_0, k1_pay25 (F := F)⟩] : List (View.Piece (Elt F) S16x1024 .f32)) (Rect.unit (s := S16x1024) ![0, 0] S8x1024.size inb_S16x1024_S8x1024_0_0).toLoadRect, arg11.view.readCov ([⟨Rect.unit (s := S16x1024) ![0, 0] S16x1024.size inb_S16x1024_S16x1024_0_0, k1_pay25 (F := F)⟩] : List (View.Piece (Elt F) S16x1024 .f32)) (Rect.unit (s := S16x1024) ![8, 0] S8x1024.size inb_S16x1024_S8x1024_8_0).toLoadRect) k1_t1_loop.trips).1 = bCar (BitVec.ofNat 32 (j 1).val) (row0 x3) (row0 x4) x0 x1 x2 (row0 (k1_pay24 (F := F)), row1 (k1_pay24 (F := F)), half0 (k1_pay25 (F := F)), half1 (k1_pay25 (F := F))) 64 :=
    ((st1 Variants.none c none j arg2 harg2 arg3 harg3 arg4 harg4 arg5 harg5 arg6 harg6 arg7 harg7 arg8 harg8 arg9 harg9 arg10 harg10 arg11 harg11 (BitVec.ofNat 32 (j 1).val) (arg5.view.readAt (Elt F) (Rect.unit (s := S8x1024) ![0, 0] S1x1024.size inb_S8x1024_S1x1024_0_0).toLoadRect (harg5.unread x3)) (arg6.view.readAt (Elt F) (Rect.unit (s := S8x1024) ![0, 0] S1x1024.size inb_S8x1024_S1x1024_0_0).toLoadRect (harg6.unread x4)) (harg2.unread x0) (harg3.unread x1) (harg4.unread x2)
      (arg10.view.readCov ([⟨Rect.unit (s := S8x1024) ![0, 0] S8x1024.size inb_S8x1024_S8x1024_0_0, k1_pay24 (F := F)⟩] : List (View.Piece (Elt F) S8x1024 .f32)) (Rect.unit (s := S8x1024) ![0, 0] S1x1024.size inb_S8x1024_S1x1024_0_0).toLoadRect, arg10.view.readCov ([⟨Rect.unit (s := S8x1024) ![0, 0] S8x1024.size inb_S8x1024_S8x1024_0_0, k1_pay24 (F := F)⟩] : List (View.Piece (Elt F) S8x1024 .f32)) (Rect.unit (s := S8x1024) ![1, 0] S1x1024.size inb_S8x1024_S1x1024_1_0).toLoadRect, arg11.view.readCov ([⟨Rect.unit (s := S16x1024) ![0, 0] S16x1024.size inb_S16x1024_S16x1024_0_0, k1_pay25 (F := F)⟩] : List (View.Piece (Elt F) S16x1024 .f32)) (Rect.unit (s := S16x1024) ![0, 0] S8x1024.size inb_S16x1024_S8x1024_0_0).toLoadRect, arg11.view.readCov ([⟨Rect.unit (s := S16x1024) ![0, 0] S16x1024.size inb_S16x1024_S16x1024_0_0, k1_pay25 (F := F)⟩] : List (View.Piece (Elt F) S16x1024 .f32)) (Rect.unit (s := S16x1024) ![8, 0] S8x1024.size inb_S16x1024_S8x1024_8_0).toLoadRect) (harg7.unread x0) k1_t1_loop.trips le_rfl).1).trans (by rw [e1, e2, e3, e4, e5, e6, harg2.read_unread, harg3.read_unread, harg4.read_unread, trips1])
  isplitl [H5]
  · iexists _; isplitr; swap; · iexact H5
    ipureintro
    refine (st1_out Variants.none c none j arg2 harg2 arg3 harg3 arg4 harg4 arg5 harg5 arg6 harg6 arg7 harg7 arg8 harg8 arg9 harg9 arg10 harg10 arg11 harg11 (BitVec.ofNat 32 (j 1).val) (arg5.view.readAt (Elt F) (Rect.unit (s := S8x1024) ![0, 0] S1x1024.size inb_S8x1024_S1x1024_0_0).toLoadRect (harg5.unread x3)) (arg6.view.readAt (Elt F) (Rect.unit (s := S8x1024) ![0, 0] S1x1024.size inb_S8x1024_S1x1024_0_0).toLoadRect (harg6.unread x4)) (harg2.unread x0) (harg3.unread x1) (harg4.unread x2)
      (arg10.view.readCov ([⟨Rect.unit (s := S8x1024) ![0, 0] S8x1024.size inb_S8x1024_S8x1024_0_0, k1_pay24 (F := F)⟩] : List (View.Piece (Elt F) S8x1024 .f32)) (Rect.unit (s := S8x1024) ![0, 0] S1x1024.size inb_S8x1024_S1x1024_0_0).toLoadRect, arg10.view.readCov ([⟨Rect.unit (s := S8x1024) ![0, 0] S8x1024.size inb_S8x1024_S8x1024_0_0, k1_pay24 (F := F)⟩] : List (View.Piece (Elt F) S8x1024 .f32)) (Rect.unit (s := S8x1024) ![1, 0] S1x1024.size inb_S8x1024_S1x1024_1_0).toLoadRect, arg11.view.readCov ([⟨Rect.unit (s := S16x1024) ![0, 0] S16x1024.size inb_S16x1024_S16x1024_0_0, k1_pay25 (F := F)⟩] : List (View.Piece (Elt F) S16x1024 .f32)) (Rect.unit (s := S16x1024) ![0, 0] S8x1024.size inb_S16x1024_S8x1024_0_0).toLoadRect, arg11.view.readCov ([⟨Rect.unit (s := S16x1024) ![0, 0] S16x1024.size inb_S16x1024_S16x1024_0_0, k1_pay25 (F := F)⟩] : List (View.Piece (Elt F) S16x1024 .f32)) (Rect.unit (s := S16x1024) ![8, 0] S8x1024.size inb_S16x1024_S8x1024_8_0).toLoadRect) f5).trans ?_
    rw [e1, e2, e3, e4, e5, e6, harg2.read_unread, harg3.read_unread, harg4.read_unread]
  isplitl [H6]
  · iexists _; isplitr; swap; · iexact H6
    ipureintro
    exact (View.read_writes_full arg8.view _ _ _ _).trans (congrArg (fun z : Acc F => k1_pay61 z.2.2.1) h)
  isplitl [H7]
  · iexists _; isplitr; swap; · iexact H7
    ipureintro
    exact (View.read_writes_full arg9.view _ _ _ _).trans (congrArg (fun z : Acc F => k1_pay62 z.2.2.2) h)
  isplitl [HS0]
  · iexists _; isplitl [HS0]
    · iexists _; isplitr; swap; · iexact HS0
      ipureintro; rfl
    ipureintro
    exact ⟨(rows_store1 arg10.view _ _ _ _).1.trans (congrArg (fun z : Acc F => z.1) h), (rows_store1 arg10.view _ _ _ _).2.trans (congrArg (fun z : Acc F => z.2.1) h)⟩
  iexists _; isplitl [HS1]
  · iexists _; isplitr; swap; · iexact HS1
    ipureintro; rfl
  ipureintro
  exact ⟨(halves_store arg11.view _ _ _ _).1.trans (congrArg (fun z : Acc F => z.2.2.1) h), (halves_store arg11.view _ _ _ _).2.trans (congrArg (fun z : Acc F => z.2.2.2) h)⟩

end Run

end Cert.KernelIdeal.Own
-- ==== Proof.Dats.lean ====
module

public import proofs.«01_k».proof.Proof.Fwd0
public import proofs.«01_k».proof.Proof.Bwd0
public import Idealize.ShloMosaic.Lib.Pipeline.Regions
public import Idealize.ShloMosaic.Lib.Pipeline.RegionsLoop
public import Idealize.ShloMosaic.Lib.Pipeline.FrameSuffix
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.WritesUnit
public import Idealize.ShloMosaic.Lib.VecWindow
public import Idealize.ShloMosaic.Lib.Pointwise.Index
public import Idealize.ShloMosaic.Lib.Pointwise.Reshape
public import Idealize.ShloMosaic.Lib.Tactic

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The contents a region finds in the unscoped buffers. -/
abbrev Vals (F : FTy → Type) : Type := (c : Dev nD) → (b : Ref sig .tc) → Buf (Elt F) ((c : Thread nD τ).loc b)

variable (V : Vals F)

/-! ## Region 0 -/

/-- Window `w`'s block at point `t`, of the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The zero carry. -/
abbrev zero0 : Vec F S1x1024 .f32 × Vec F S1x1024 .f32 := (row0 (k0_pay25 (F := F)), row1 (k0_pay25 (F := F)))
/-- The carry before point `n`. -/
def car0 (c : Dev nD) : ℕ → Vec F S1x1024 .f32 × Vec F S1x1024 .f32
  | 0 => zero0
  | n + 1 => if h : n < cfg0.N then
      fCar (row0 (iblk0 V c 1 ⟨n, h⟩)) (row0 (iblk0 V c 2 ⟨n, h⟩)) (iblk0 V c 0 ⟨n, h⟩) (if n % 4 = 0 then zero0 else car0 c n) 64
    else car0 c n
/-- The carry a point starts from. -/
abbrev cin0 (c : Dev nD) (t : Fin cfg0.N) : Vec F S1x1024 .f32 × Vec F S1x1024 .f32 := if t.val % 4 = 0 then zero0 else car0 V c t.val
theorem car0_succ (c : Dev nD) (t : Fin cfg0.N) : car0 V c (t.val + 1)
    = fCar (row0 (iblk0 V c 1 t)) (row0 (iblk0 V c 2 t)) (iblk0 V c 0 t) (cin0 V c t) 64 := by
  rw [car0, dif_pos t.isLt]
/-- The states a point leaves. -/
def out0 (c : Dev nD) (t : Fin cfg0.N) : Vec F S512x2048 .f32 :=
  fOut (row0 (iblk0 V c 1 t)) (row0 (iblk0 V c 2 t)) (iblk0 V c 0 t) (cin0 V c t)
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem rest0_ex (c : Dev nD) : ∃ P : sProp 𝕄, (Pipeline.scopedRest spec0 c : sProp 𝕄)
    = iprop((∃ d, owns (c : Thread nD τ) (Memref.whole cc0_scratch0) fullShare d) ∗ P) :=
  ⟨_, by
    rw [Pipeline.scopedRest_eq_of_list spec0 c [cc0_scratch0, cc1_stg0_0, cc1_stg0_1, cc1_stg1_0, cc1_stg1_1, cc1_stg2_0, cc1_stg2_1, cc1_stg3_0, cc1_stg3_1, cc1_stg4_0, cc1_stg4_1, cc1_stg5_0, cc1_stg5_1, cc1_stg6_0, cc1_stg6_1, cc1_stg7_0, cc1_stg7_1, cc1_scratch0, cc1_scratch1] (by decide) (by decide)]
    simp only [owns_whole]; rfl⟩
/-- The scoped buffers the body never touches. -/
def rest0 (c : Dev nD) : sProp 𝕄 := Classical.choose (rest0_ex c)
theorem rest0_eq (c : Dev nD) : (Pipeline.scopedRest spec0 c : sProp 𝕄) = iprop((∃ d, owns (c : Thread nD τ) (Memref.whole cc0_scratch0) fullShare d) ∗ rest0 c) :=
  Classical.choose_spec (rest0_ex c)

/-- What holds before point `n`: the carried scratch at the carry. -/
def inv0 (c : Dev nD) (n : ℕ) : sProp 𝕄 :=
  iprop((∃ d, owns (c : Thread nD τ) (Memref.whole cc0_scratch0) fullShare d ∗ ⌜n ≠ 0 → (row0 d, row1 d) = car0 V c n⌝)
      ∗ rest0 c ∗ ∃ r, prngReg c r)

/-- The region's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := inv0 V c t.val
  q w := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d)))
def bodyPost0 (c : Dev nD) (t : Fin cfg0.N) : sProp 𝕄 :=
  iprop((dat0 V c).Φ t.succ ∗ (dat0 V c).owesAt () t.succ
    ∗ owns (c : Thread nD τ) (win0_0.stage (cfg0.slots t 0)) fullShare ((dat0 V c).after 0 t)
    ∗ owns (c : Thread nD τ) (win0_1.stage (cfg0.slots t 1)) fullShare ((dat0 V c).after 1 t)
    ∗ owns (c : Thread nD τ) (win0_2.stage (cfg0.slots t 2)) fullShare ((dat0 V c).after 2 t)
    ∗ owns (c : Thread nD τ) (win0_3.stage (cfg0.slots t 3)) fullShare ((dat0 V c).after 3 t))

set_option maxHeartbeats 3200000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl, after0_0, after0_1, after0_2, after0_3]
  rw [show (dat0 V c).Φ t.succ = inv0 V c (t.val + 1) from rfl, show (dat0 V c).Φ t.castSucc = inv0 V c t.val from rfl]
  unfold inv0
  rw [car0_succ]
  unfold out0
  by_cases h0 : t.val % 4 = 0
  · rw [show cin0 V c t = zero0 from if_pos h0]
    iintro ⟨⟨⟨%s0, HS0, %hs0⟩, Hr, Hg⟩, Ho, ⟨%d0, H0⟩, ⟨%d1, H1⟩, ⟨%d2, H2⟩, ⟨%d3, H3⟩⟩
    iapply (run0_A c (grid0.coords t) _ _ _ _ _ _ _ _ _ _ (iblk0 V c 0 t) (iblk0 V c 1 t) (iblk0 V c 2 t) ((cond0_iff t).mpr h0) Set.univ _)
    isplitl [H0]; · iexact H0
    isplitl [H1]; · iexact H1
    isplitl [H2]; · iexact H2
    isplitl [H3]; · iexists _; iexact H3
    isplitl [HS0]; · iexists _; iexact HS0
    iintro ⟨H0, H1, H2, H3, ⟨%s1, HS0, %hs1⟩⟩
    isplitl [HS0 Hr Hg]
    · isplitl [HS0]
      · iexists s1; isplitl [HS0]; · iexact HS0
        ipureintro; exact fun _ => hs1
      isplitl [Hr]; · iexact Hr
      iexact Hg
    isplitl [Ho]; · iexact Ho
    isplitl [H0]; · iexact H0
    isplitl [H1]; · iexact H1
    isplitl [H2]; · iexact H2
    iexact H3
  · rw [show cin0 V c t = car0 V c t.val from if_neg h0]
    iintro ⟨⟨⟨%s0, HS0, %hs0⟩, Hr, Hg⟩, Ho, ⟨%d0, H0⟩, ⟨%d1, H1⟩, ⟨%d2, H2⟩, ⟨%d3, H3⟩⟩
    rw [← hs0 (by omega)]
    iapply (run0_B c (grid0.coords t) _ _ _ _ _ _ _ _ _ _ (iblk0 V c 0 t) (iblk0 V c 1 t) (iblk0 V c 2 t) s0 (fun h => h0 ((cond0_iff t).mp h)) Set.univ _)
    isplitl [H0]; · iexact H0
    isplitl [H1]; · iexact H1
    isplitl [H2]; · iexact H2
    isplitl [H3]; · iexists _; iexact H3
    isplitl [HS0]; · iexact HS0
    iintro ⟨H0, H1, H2, H3, ⟨%s1, HS0, %hs1⟩⟩
    isplitl [HS0 Hr Hg]
    · isplitl [HS0]
      · iexists s1; isplitl [HS0]; · iexact HS0
        ipureintro; exact fun _ => hs1
      isplitl [Hr]; · iexact Hr
      iexact Hg
    isplitl [Ho]; · iexact Ho
    isplitl [H0]; · iexact H0
    isplitl [H1]; · iexact H1
    isplitl [H2]; · iexact H2
    iexact H3

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

theorem hin0 (c : Dev nD) : iprop((∃ r, prngReg c r) ∗ (Pipeline.scopedRest spec0 c : sProp 𝕄)) ⊢ (dat0 V c).Φ 0 := by
  rw [show (dat0 V c).Φ 0 = inv0 V c 0 from rfl, rest0_eq]; unfold inv0
  iintro ⟨Hg, ⟨%d, HS⟩, Hr⟩
  isplitl [HS]
  · iexists d; isplitl [HS]; · iexact HS
    ipureintro; exact fun h => absurd rfl h
  isplitl [Hr]; · iexact Hr
  iexact Hg
theorem hout0 (c : Dev nD) : (dat0 V c).Φ (Fin.last cfg0.N) ⊢ iprop((∃ r, prngReg c r) ∗ (Pipeline.scopedRest spec0 c : sProp 𝕄)) := by
  rw [show (dat0 V c).Φ (Fin.last cfg0.N) = inv0 V c cfg0.N from rfl, rest0_eq]; unfold inv0
  iintro ⟨⟨%d, HS, -⟩, Hr, Hg⟩
  isplitl [Hg]; · iexact Hg
  isplitl [HS]; · iexists d; iexact HS
  iexact Hr

/-! ## Region 1 -/

/-- Window `w`'s block at point `t`, of the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The zero carries. -/
abbrev zero1 : Acc F := (row0 (k1_pay24 (F := F)), row1 (k1_pay24 (F := F)), half0 (k1_pay25 (F := F)), half1 (k1_pay25 (F := F)))
/-- The chunk's number as a word. -/
abbrev qw (t : Fin cfg1.N) : BitVec 32 := BitVec.ofNat 32 ((grid1.coords t) 1).val
/-- The carries before point `n`. -/
def car1 (c : Dev nD) : ℕ → Acc F
  | 0 => zero1
  | n + 1 => if h : n < cfg1.N then
      bCar (qw ⟨n, h⟩) (row0 (iblk1 V c 3 ⟨n, h⟩)) (row0 (iblk1 V c 4 ⟨n, h⟩)) (iblk1 V c 0 ⟨n, h⟩) (iblk1 V c 1 ⟨n, h⟩) (iblk1 V c 2 ⟨n, h⟩)
        (if n % 4 = 0 then zero1 else car1 c n) 64
    else car1 c n
/-- The carries a point starts from. -/
abbrev cin1 (c : Dev nD) (t : Fin cfg1.N) : Acc F := if t.val % 4 = 0 then zero1 else car1 V c t.val
theorem car1_succ (c : Dev nD) (t : Fin cfg1.N) : car1 V c (t.val + 1)
    = bCar (qw t) (row0 (iblk1 V c 3 t)) (row0 (iblk1 V c 4 t)) (iblk1 V c 0 t) (iblk1 V c 1 t) (iblk1 V c 2 t) (cin1 V c t) 64 := by
  rw [car1, dif_pos t.isLt]
/-- The cotangents a point leaves. -/
def out1 (c : Dev nD) (t : Fin cfg1.N) : Vec F S512x2048 .f32 :=
  bOut (qw t) (row0 (iblk1 V c 3 t)) (row0 (iblk1 V c 4 t)) (iblk1 V c 0 t) (iblk1 V c 1 t) (iblk1 V c 2 t) (cin1 V c t)
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem rest1_ex (c : Dev nD) : ∃ P : sProp 𝕄, (Pipeline.scopedRest spec1 c : sProp 𝕄)
    = iprop((∃ d, owns (c : Thread nD τ) (Memref.whole cc1_scratch0) fullShare d) ∗ (∃ d, owns (c : Thread nD τ) (Memref.whole cc1_scratch1) fullShare d) ∗ P) :=
  ⟨_, by
    rw [Pipeline.scopedRest_eq_of_list spec1 c [cc1_scratch0, cc1_scratch1, cc0_stg0_0, cc0_stg0_1, cc0_stg1_0, cc0_stg1_1, cc0_stg2_0, cc0_stg2_1, cc0_stg3_0, cc0_stg3_1, cc0_scratch0] (by decide) (by decide)]
    simp only [owns_whole]; rfl⟩
/-- The scoped buffers the body never touches. -/
def rest1 (c : Dev nD) : sProp 𝕄 := Classical.choose (rest1_ex c)
theorem rest1_eq (c : Dev nD) : (Pipeline.scopedRest spec1 c : sProp 𝕄) = iprop((∃ d, owns (c : Thread nD τ) (Memref.whole cc1_scratch0) fullShare d) ∗ (∃ d, owns (c : Thread nD τ) (Memref.whole cc1_scratch1) fullShare d) ∗ rest1 c) :=
  Classical.choose_spec (rest1_ex c)

/-- What holds before point `n`: the carried scratch at the carry. -/
def inv1 (c : Dev nD) (n : ℕ) : sProp 𝕄 :=
  iprop((∃ d, owns (c : Thread nD τ) (Memref.whole cc1_scratch0) fullShare d ∗ ⌜n ≠ 0 → row0 d = (car1 V c n).1 ∧ row1 d = (car1 V c n).2.1⌝)
      ∗ (∃ d, owns (c : Thread nD τ) (Memref.whole cc1_scratch1) fullShare d ∗ ⌜n ≠ 0 → half0 d = (car1 V c n).2.2.1 ∧ half1 d = (car1 V c n).2.2.2⌝)
      ∗ rest1 c ∗ ∃ r, prngReg c r)

/-- The region's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
    | ⟨6, _⟩ => k1_pay61 (car1 V c (t.val + 1)).2.2.1
    | ⟨7, _⟩ => k1_pay62 (car1 V c (t.val + 1)).2.2.2
  Φ t := inv1 V c t.val
  q w := Pipeline.shareOf spec1 w
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 V c t := by dsimp only [dat1]
theorem after1_6 (c : Dev nD) (t : Fin cfg1.N) : (dat1 V c).after 6 t = k1_pay61 (car1 V c (t.val + 1)).2.2.1 := by dsimp only [dat1]
theorem after1_7 (c : Dev nD) (t : Fin cfg1.N) : (dat1 V c).after 7 t = k1_pay62 (car1 V c (t.val + 1)).2.2.2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d))
    ∗ (∃ d, owns (c : Thread nD τ) (win1_6.stage (cfg1.slots t 6)) fullShare ((dat1 V c).before 6 t d))
    ∗ (∃ d, owns (c : Thread nD τ) (win1_7.stage (cfg1.slots t 7)) fullShare ((dat1 V c).before 7 t d)))
def bodyPost1 (c : Dev nD) (t : Fin cfg1.N) : sProp 𝕄 :=
  iprop((dat1 V c).Φ t.succ ∗ (dat1 V c).owesAt () t.succ
    ∗ owns (c : Thread nD τ) (win1_0.stage (cfg1.slots t 0)) fullShare ((dat1 V c).after 0 t)
    ∗ owns (c : Thread nD τ) (win1_1.stage (cfg1.slots t 1)) fullShare ((dat1 V c).after 1 t)
    ∗ owns (c : Thread nD τ) (win1_2.stage (cfg1.slots t 2)) fullShare ((dat1 V c).after 2 t)
    ∗ owns (c : Thread nD τ) (win1_3.stage (cfg1.slots t 3)) fullShare ((dat1 V c).after 3 t)
    ∗ owns (c : Thread nD τ) (win1_4.stage (cfg1.slots t 4)) fullShare ((dat1 V c).after 4 t)
    ∗ owns (c : Thread nD τ) (win1_5.stage (cfg1.slots t 5)) fullShare ((dat1 V c).after 5 t)
    ∗ owns (c : Thread nD τ) (win1_6.stage (cfg1.slots t 6)) fullShare ((dat1 V c).after 6 t)
    ∗ owns (c : Thread nD τ) (win1_7.stage (cfg1.slots t 7)) fullShare ((dat1 V c).after 7 t))

set_option maxHeartbeats 3200000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl, after1_0, after1_1, after1_2, after1_3, after1_4, after1_5, after1_6, after1_7]
  rw [show (dat1 V c).Φ t.succ = inv1 V c (t.val + 1) from rfl, show (dat1 V c).Φ t.castSucc = inv1 V c t.val from rfl]
  unfold inv1
  rw [car1_succ]
  unfold out1
  by_cases h0 : t.val % 4 = 0
  · rw [show cin1 V c t = zero1 from if_pos h0]
    iintro ⟨⟨⟨%s0, HS0, %hs0⟩, ⟨%u0, HS1, %hu0⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_A c (grid1.coords t) _ _ _ _ _ _ _ _ _ _ _ _ _ _ _ _ _ _ _ _ (iblk1 V c 0 t) (iblk1 V c 1 t) (iblk1 V c 2 t) (iblk1 V c 3 t) (iblk1 V c 4 t) ((cond1_iff t).mpr h0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexists _; iexact HS0
    isplitl [HS1]; · iexists _; iexact HS1
    iintro ⟨H0, H1, H2, H3, H4, H5, H6, H7, ⟨%s1, HS0, %hs1⟩, ⟨%u1, HS1, %hu1⟩⟩
    isplitl [HS0 HS1 Hr Hg]
    · isplitl [HS0]
      · iexists s1; isplitl [HS0]; · iexact HS0
        ipureintro; exact fun _ => hs1
      isplitl [HS1]
      · iexists u1; isplitl [HS1]; · iexact HS1
        ipureintro; exact fun _ => hu1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show cin1 V c t = car1 V c t.val from if_neg h0]
    iintro ⟨⟨⟨%s0, HS0, %hs0⟩, ⟨%u0, HS1, %hu0⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    rw [show car1 V c t.val = (row0 s0, row1 s0, half0 u0, half1 u0) from
      (Prod.ext (hs0 (by omega)).1 (Prod.ext (hs0 (by omega)).2 (Prod.ext (hu0 (by omega)).1 (hu0 (by omega)).2))).symm]
    iapply (run1_B c (grid1.coords t) _ _ _ _ _ _ _ _ _ _ _ _ _ _ _ _ _ _ _ _ (iblk1 V c 0 t) (iblk1 V c 1 t) (iblk1 V c 2 t) (iblk1 V c 3 t) (iblk1 V c 4 t) s0 u0 (fun h => h0 ((cond1_iff t).mp h)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, ⟨%s1, HS0, %hs1⟩, ⟨%u1, HS1, %hu1⟩⟩
    isplitl [HS0 HS1 Hr Hg]
    · isplitl [HS0]
      · iexists s1; isplitl [HS0]; · iexact HS0
        ipureintro; exact fun _ => hs1
      isplitl [HS1]
      · iexists u1; isplitl [HS1]; · iexact HS1
        ipureintro; exact fun _ => hu1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem hin1 (c : Dev nD) : iprop((∃ r, prngReg c r) ∗ (Pipeline.scopedRest spec1 c : sProp 𝕄)) ⊢ (dat1 V c).Φ 0 := by
  rw [show (dat1 V c).Φ 0 = inv1 V c 0 from rfl, rest1_eq]; unfold inv1
  iintro ⟨Hg, ⟨%d, HS⟩, ⟨%e, HT⟩, Hr⟩
  isplitl [HS]
  · iexists d; isplitl [HS]; · iexact HS
    ipureintro; exact fun h => absurd rfl h
  isplitl [HT]
  · iexists e; isplitl [HT]; · iexact HT
    ipureintro; exact fun h => absurd rfl h
  isplitl [Hr]; · iexact Hr
  iexact Hg
theorem hout1 (c : Dev nD) : (dat1 V c).Φ (Fin.last cfg1.N) ⊢ iprop((∃ r, prngReg c r) ∗ (Pipeline.scopedRest spec1 c : sProp 𝕄)) := by
  rw [show (dat1 V c).Φ (Fin.last cfg1.N) = inv1 V c cfg1.N from rfl, rest1_eq]; unfold inv1
  iintro ⟨⟨%d, HS, -⟩, ⟨%e, HT, -⟩, Hr, Hg⟩
  isplitl [Hg]; · iexact Hg
  isplitl [HS]; · iexists d; iexact HS
  isplitl [HT]; · iexists e; iexact HT
  iexact Hr

end Cert.KernelIdeal.Own
-- ==== Proof.Run.lean ====
module

public import proofs.«01_k».proof.Proof.Dats
public import proofs.«01_k».proof.Proof.Gen.KernelIdeal.Regions
public import proofs.«01_k».proof.Proof.Bwd0
public import Idealize.ShloMosaic.Lib.Pipeline.Regions
public import Idealize.ShloMosaic.Lib.Pipeline.RegionsLoop
public import Idealize.ShloMosaic.Lib.Pipeline.FrameSuffix
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.WritesUnit
public import Idealize.ShloMosaic.Lib.VecWindow
public import Idealize.ShloMosaic.Lib.Pointwise.Index
public import Idealize.ShloMosaic.Lib.Pointwise.Reshape
public import Idealize.ShloMosaic.Lib.Tactic

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays. -/
abbrev argRefs : List (Ref sig .tc) := [main_arg0, main_arg1, main_arg2, main_arg3, main_arg4, main_arg5]

/-! ## The contents at each boundary of @main -/

/-- The buffers at launch. -/
abbrev E0 : Dev nD → Valuation τ sig (Elt F) := fun c b => m ((c : Dev nD), b)
/-- After the lines before the first region. -/
abbrev E1 : Dev nD → Valuation τ sig (Elt F) := fun c => StableHlo.after hostOps0 (E0 m c)
abbrev U1 : Vals F := fun c b => E1 m c b
/-- At the first region's exit. -/
def E2 (c : Dev nD) : Valuation τ sig (Elt F) :=
  Pipeline.withArrays spec0 c (E1 m c) fun w => (dat0 (U1 m) c).arrAt w cfg0.N
abbrev U2 : Vals F := fun c b => E2 m c b
/-- After the lines between the regions. -/
abbrev E3 : Dev nD → Valuation τ sig (Elt F) := fun c => StableHlo.after hostOps1 (E2 m c)
abbrev U3 : Vals F := fun c b => E3 m c b
/-- At the second region's exit. -/
def E4 (c : Dev nD) : Valuation τ sig (Elt F) :=
  Pipeline.withArrays spec1 c (E3 m c) fun w => (dat1 (U3 m) c).arrAt w cfg1.N
abbrev U4 : Vals F := fun c b => E4 m c b
/-- At the return. -/
abbrev E5 : Dev nD → Valuation τ sig (Elt F) := fun c => StableHlo.after hostOps2 (E4 m c)

theorem E2_arr (c : Dev nD) (w : Fin cfg0.W) : E2 m c (Proc.devRef .tc (Pipeline.arrRef spec0 w)) = (dat0 (U1 m) c).arrAt w cfg0.N := by
  unfold E2; exact Pipeline.withArrays_arr spec0 launch0.win.arr_inj c _ _ w
theorem E2_of_ne (c : Dev nD) (b : Ref sig .tc) (hb : ∀ w, Pipeline.arrRef spec0 w ≠ b) :
    E2 m c (Proc.devRef .tc b) = E1 m c (Proc.devRef .tc b) := by
  unfold E2; exact Pipeline.withArrays_of_ne spec0 c _ _ b hb
theorem E2_of (c : Dev nD) (r : Ref sig .tc) (h : ∀ w : Fin cfg0.W, Pipeline.arrRef spec0 w = r → (cfg0.win w).isOut = false) :
    E2 m c (Proc.devRef .tc r) = E1 m c (Proc.devRef .tc r) := by
  by_cases hw : ∃ w : Fin cfg0.W, Pipeline.arrRef spec0 w = r
  · obtain ⟨w, rfl⟩ := hw
    exact (E2_arr m c w).trans (((dat0 (U1 m) c).arrAt_in w (h w rfl) _).trans (A_eq0 (U1 m) c w))
  · exact E2_of_ne m c r fun w e => hw ⟨w, e⟩
theorem hF0 (c : Dev nD) (w : Fin cfg0.W) : (dat0 (U1 m) c).arrAt w cfg0.N = U2 m c (Pipeline.arrRef spec0 w) := (E2_arr m c w).symm
theorem hrest0 (c : Dev nD) : ∀ b, b ∉ Finset.univ.image (Pipeline.arrRef spec0) → U2 m c b = U1 m c b :=
  fun b hb => E2_of_ne m c b fun w e => hb (Finset.mem_image.mpr ⟨w, Finset.mem_univ _, e⟩)

theorem E4_arr (c : Dev nD) (w : Fin cfg1.W) : E4 m c (Proc.devRef .tc (Pipeline.arrRef spec1 w)) = (dat1 (U3 m) c).arrAt w cfg1.N := by
  unfold E4; exact (dat1 (U3 m) c).withArrays_arrAt launch₀1.sharedIn _ (A_eq1 (U3 m) c) w
theorem E4_of_ne (c : Dev nD) (b : Ref sig .tc) (hb : ∀ w, Pipeline.arrRef spec1 w ≠ b) :
    E4 m c (Proc.devRef .tc b) = E3 m c (Proc.devRef .tc b) := by
  unfold E4; exact Pipeline.withArrays_of_ne spec1 c _ _ b hb
theorem E4_of (c : Dev nD) (r : Ref sig .tc) (h : ∀ w : Fin cfg1.W, Pipeline.arrRef spec1 w = r → (cfg1.win w).isOut = false) :
    E4 m c (Proc.devRef .tc r) = E3 m c (Proc.devRef .tc r) := by
  by_cases hw : ∃ w : Fin cfg1.W, Pipeline.arrRef spec1 w = r
  · obtain ⟨w, rfl⟩ := hw
    exact (E4_arr m c w).trans (((dat1 (U3 m) c).arrAt_in w (h w rfl) _).trans (A_eq1 (U3 m) c w))
  · exact E4_of_ne m c r fun w e => hw ⟨w, e⟩
theorem hF1 (c : Dev nD) (w : Fin cfg1.W) : (dat1 (U3 m) c).arrAt w cfg1.N = U4 m c (Pipeline.arrRef spec1 w) := (E4_arr m c w).symm
theorem hrest1 (c : Dev nD) : ∀ b, b ∉ Finset.univ.image (Pipeline.arrRef spec1) → U4 m c b = U3 m c b :=
  fun b hb => E4_of_ne m c b fun w e => hb (Finset.mem_image.mpr ⟨w, Finset.mem_univ _, e⟩)

theorem argsIn0 : ∀ a ∈ argRefs, ∀ w : Fin cfg0.W, Pipeline.arrRef spec0 w = a → (cfg0.win w).isOut = false :=
  ListAll.forall_mem_of_all_decide (by decide +kernel)
theorem argsIn1 : ∀ a ∈ argRefs, ∀ w : Fin cfg1.W, Pipeline.arrRef spec1 w = a → (cfg1.win w).isOut = false :=
  ListAll.forall_mem_of_all_decide (by decide +kernel)
theorem args0 : ∀ a ∈ argRefs, a ∉ hostOps0_W := ListAll.forall_mem_of_all_decide (by decide +kernel)
theorem args1 : ∀ a ∈ argRefs, a ∉ hostOps1_W := ListAll.forall_mem_of_all_decide (by decide +kernel)
theorem args2 : ∀ a ∈ argRefs, a ∉ hostOps2_W := ListAll.forall_mem_of_all_decide (by decide +kernel)

theorem E1_of (c : Dev nD) (r : Ref sig .tc) (h : r ∉ hostOps0_W) : E1 m c (Proc.devRef .tc r) = E0 m c (Proc.devRef .tc r) :=
  StableHlo.after_of_writes_sub hostOps0 _ hostOps0_writes h
theorem E3_of (c : Dev nD) (r : Ref sig .tc) (h : r ∉ hostOps1_W) : E3 m c (Proc.devRef .tc r) = E2 m c (Proc.devRef .tc r) :=
  StableHlo.after_of_writes_sub hostOps1 _ hostOps1_writes h
theorem E5_of (c : Dev nD) (r : Ref sig .tc) (h : r ∉ hostOps2_W) : E5 m c (Proc.devRef .tc r) = E4 m c (Proc.devRef .tc r) :=
  StableHlo.after_of_writes_sub hostOps2 _ hostOps2_writes h
/-- The arguments end as launched. -/
theorem E5_args (c : Dev nD) (a : Ref sig .tc) (ha : a ∈ argRefs) : E5 m c (Proc.devRef .tc a) = m ((c : Thread nD τ).loc a) :=
  (E5_of m c a (args2 a ha)).trans <| (E4_of m c a (argsIn1 a ha)).trans <| (E3_of m c a (args1 a ha)).trans <|
    (E2_of m c a (argsIn0 a ha)).trans (E1_of m c a (args0 a ha))

/-! ## The launch -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (E5 m c) ∗ ∃ r, prngReg c r)

set_option backward.isDefEq.respectTransparency.types false in
/-- The region of call 0 as a segment, entered at `E1` and left at `E2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (E1 m c) ∗ R c)
  post c := iprop(StableHlo.held (c : Thread nD τ) (Pipeline.ucRefs τ sig) (E2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) (A_eq0 (U1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (U1 m) c
    rw [show (pdats m 0 c).Φ 0 = (dat0 (U1 m) c).Φ 0 from rfl]
    iintro ⟨Hp, -, Hr⟩
    iapply h
    isplitl [Hp]; · iexact Hp
    iexact Hr
  hout c := by
    have h := hout0 (U1 m) c
    rw [Pipeline.ownSems0_none, show (pdats m 0 c).Φ (Fin.last _) = (dat0 (U1 m) c).Φ (Fin.last cfg0.N) from rfl]
    iintro H
    ihave H := h $$ H
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of call 1 as a segment, entered at `E3` and left at `E4`. -/
def reg1 : Pipeline.RegionSeg (pcfgs (F := F)) adm (pdats m) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (E3 m c) ∗ R c)
  post c := iprop(StableHlo.held (c : Thread nD τ) (Pipeline.ucRefs τ sig) (E4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs_shared (p := 1) (pcfgs (F := F)) adm (pdats m) launch₀1.win launch₀1.sharedIn launch₀1.arr_whole c
      (fun _ _ => rfl) (U3 m c) (A_eq1 (U3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (U3 m) c
    rw [show (pdats m 1 c).Φ 0 = (dat1 (U3 m) c).Φ 0 from rfl]
    iintro ⟨Hp, -, Hr⟩
    iapply h
    isplitl [Hp]; · iexact Hp
    iexact Hr
  hout c := by
    have h := hout1 (U3 m) c
    rw [Pipeline.ownSems0_none, show (pdats m 1 c).Φ (Fin.last _) = (dat1 (U3 m) c).Φ (Fin.last cfg1.N) from rfl]
    iintro H
    ihave H := h $$ H
    icases H with ⟨Hp, Hr⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m) (fun _ _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's segments in order. -/
abbrev segs : List (Pipeline.Seg (pcfgs (F := F)) adm (pdats m) () defs₀ 𝒱₀ L lv) :=
  [ .host (hseg hostOps0 hostOps0_sub hostOps0_fresh (E0 m)),
    .region (reg0 m),
    .host (hseg hostOps1 hostOps1_sub hostOps1_fresh (E2 m)),
    .region (reg1 m),
    .host (hseg hostOps2 hostOps2_sub hostOps2_fresh (E4 m)) ]
theorem main_run (c : Dev nD) : main (F := F) c = Pipeline.Seg.run (segs m) := (main_chain c).trans (by chain_rfl)

theorem no_unscoped : ∀ sm : SemLoc sig, sm.isScoped .tc = true := by decide

set_option backward.isDefEq.respectTransparency.types false in
/-- The run: every weakly fair execution terminates, every buffer ends at `E5`, every counter at zero. -/
theorem run : θ_run defs (onTc (τ := τ) (main (F := F))) ⟨m, fun _ => 0, ρ⟩ (fun r =>
      (∀ c : Dev nD, ∀ b : Ref sig .tc, ¬ (Proc.devRef .tc b : DevRef τ sig).isScoped → r.2.mem ((c.tc : Thread nD τ).loc b) = E5 m c (Proc.devRef .tc b))
      ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m c) ∗ R c)) (Tₙ := Tₙ m)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E5 m c b)
    (hfin := fun c s' => by
      iintro ⟨⟨Hh, -⟩, HSI⟩
      unfold StableHlo.held
      imodintro
      iapply (pointsTo_read_all (Pipeline.ucRefs τ sig) (fun b => (((c : Thread nD τ)).1, b)) (E5 m c) s')
      isplitl [Hh] <;> iassumption)
    (hQ := fun s h hz => ⟨fun c b hb => h c _ (mem_uc b hb), funext fun g => hz g (.inr (no_unscoped g.2))⟩)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(h.1 c main_arg0 (by decide)).trans (E5_args m c main_arg0 (by decide)), (h.1 c main_arg1 (by decide)).trans (E5_args m c main_arg1 (by decide)),
      (h.1 c main_arg2 (by decide)).trans (E5_args m c main_arg2 (by decide)), (h.1 c main_arg3 (by decide)).trans (E5_args m c main_arg3 (by decide)),
      (h.1 c main_arg4 (by decide)).trans (E5_args m c main_arg4 (by decide)), (h.1 c main_arg5 (by decide)).trans (E5_args m c main_arg5 (by decide))⟩, h.2⟩) (run m ρ)

end Cert.KernelIdeal.Own
-- ==== Proof.Same.lean ====
module

public import proofs.«01_k».proof.Proof.Run
public import proofs.«01_k».proof.Proof.Gen.Kernel
public import proofs.«01_k».proof.Defs

@[expose] public section

set_option maxRecDepth 200000
set_option maxHeartbeats 4000000

/-! The scan kernel over the bits and the scan kernel over the reals are one text, read at two
    kinds of number: the body tables and the programs agree at every kind.  What is proved of the
    one at every kind of number is so proved of the other. -/

noncomputable section

namespace Cert.Proof

open Idealize.ShloMosaic Idealize.ShloMosaic.TcCoe Idealize.SL.Sem

variable {F : FTy → Type} [FloatOps F]

/-- The two kernels' bodies agree label by label. -/
theorem defs₀_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl
  | 1, (t, s) => rfl
  | ⟨_ + 2, h⟩, _ => exact absurd h (Nat.not_lt.2 (Nat.le_add_left _ _))

/-- So do the body tables with the pipelines. -/
theorem defs_eq : Cert.Kernel.defs (F := F) = Cert.KernelIdeal.defs (F := F) :=
  congrArg (Idealize.ShloMosaic.Pipeline.defs (Cert.KernelIdeal.pcfgs (F := F))) defs₀_eq

/-- So do the programs. -/
theorem main_eq : Cert.Kernel.main (F := F) = Cert.KernelIdeal.main (F := F) := rfl

/-- The kernel runs to its end, keeps its arguments and leaves every counter at zero. -/
theorem frame_kernel : Cert.quiescent_Kernel := fun m ρ _ => by
  have h := Cert.KernelIdeal.Own.frame m ρ
  rw [← defs_eq, ← main_eq] at h
  exact h

end Cert.Proof

end
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.StableHlo.RunClose
public import Idealize.ShloMosaic.Lib.Scf.ExitTest
public import Idealize.ShloMosaic.Lib.Scf.Counter

@[expose] public section

set_option maxRecDepth 16384

noncomputable section

namespace Cert.ReferenceIdeal.Own
open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg)

variable {F : FTy → Type} [FloatOps F]

/-- What a buffer of a shape and an element type holds. -/
abbrev C (F : FTy → Type) (s : Shape) (e : EltTy := .f32) := (⟨s, e⟩ : BufTy).Contents (Elt F)

/-! The host operations of the reference, stretch by stretch: before the first loop, between the loops, and the body of each loop. -/

/-- Before the first loop. -/
abbrev pre : List (HloOp τ sig (Elt F)) :=
  [ nullary main_cst (constant S_ .f32 0x00000000#32),
    unary main_cst main_v0 (broadcastInDim S64x64 ![] bcast_S_S64x64 : C F S_ → C F S64x64),
    nullary main_cst_0 (constant S_ .f32 0x00000000#32),
    unary main_cst_0 main_v1 (broadcastInDim S2048x64x64 ![] bcast_S_S2048x64x64 : C F S_ → C F S2048x64x64),
    nullary main_cst_1 (constant S_ .f32 0x00000000#32),
    unary main_cst_1 main_v2 (broadcastInDim S2048x64x64 ![] bcast_S_S2048x64x64 : C F S_ → C F S2048x64x64),
    nullary main_cst_2 (constant S_ .f32 0x00000000#32),
    unary main_cst_2 main_v3 (broadcastInDim S2048x64x64 ![] bcast_S_S2048x64x64 : C F S_ → C F S2048x64x64),
    nullary main_cst_3 (constant S_ .f32 0x00000000#32),
    unary main_cst_3 main_v4 (broadcastInDim S2048x64x64 ![] bcast_S_S2048x64x64 : C F S_ → C F S2048x64x64),
    nullary main_c (constantI S_ 32 0#32),
    unary main_arg0 main_v5_0 id,
    unary main_arg1 main_v5_1 id,
    unary main_arg2 main_v5_2 id,
    unary main_arg3 main_v5_3 id,
    unary main_c main_v5_4 id,
    unary main_v0 main_v5_5 id,
    unary main_v0 main_v5_6 id,
    unary main_v1 main_v5_7 id,
    unary main_v2 main_v5_8 id,
    unary main_v3 main_v5_9 id,
    unary main_v4 main_v5_10 id ]
theorem pre_sub : (pre : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem pre_fresh : (pre : List (HloOp τ sig (Elt F))).Forall fun op => op.fresh = ∅ := forall_fresh_of_map rfl
/-- What `pre` writes. -/
abbrev pre_W : List (Ref sig .tc) := [main_cst, main_v0, main_cst_0, main_v1, main_cst_1, main_v2, main_cst_2, main_v3, main_cst_3, main_v4, main_c, main_v5_0, main_v5_1, main_v5_2, main_v5_3, main_v5_4, main_v5_5, main_v5_6, main_v5_7, main_v5_8, main_v5_9, main_v5_10]
theorem pre_writes : (pre : List (HloOp τ sig (Elt F))).Forall fun op => op.writes ⊆ (pre_W.map (Proc.devRef (τ := τ) .tc)).toFinset := forall_writes_sub_of_map rfl
theorem pre_keep (V : Valuation τ sig (Elt F)) (r : Ref sig .tc) (h : r ∉ pre_W) : after pre V (Proc.devRef .tc r) = V (Proc.devRef .tc r) :=
  after_of_writes_sub pre V pre_writes h

/-- Between the loops. -/
abbrev mid : List (HloOp τ sig (Elt F)) :=
  [ nullary main_cst_4 (constant S_ .f32 0x00000000#32),
    unary main_cst_4 main_v6 (broadcastInDim S64x64 ![] bcast_S_S64x64 : C F S_ → C F S64x64),
    nullary main_cst_5 (constant S_ .f32 0x00000000#32),
    unary main_cst_5 main_v7 (broadcastInDim S64x64 ![] bcast_S_S64x64 : C F S_ → C F S64x64),
    nullary main_cst_6 (constant S_ .f32 0x00000000#32),
    unary main_cst_6 main_v8 (broadcastInDim S64x64 ![] bcast_S_S64x64 : C F S_ → C F S64x64),
    nullary main_cst_7 (constant S_ .f32 0x00000000#32),
    unary main_cst_7 main_v9 (broadcastInDim S64x64 ![] bcast_S_S64x64 : C F S_ → C F S64x64),
    nullary main_cst_8 (constant S_ .f32 0x00000000#32),
    unary main_cst_8 main_v10 (broadcastInDim S64x64 ![] bcast_S_S64x64 : C F S_ → C F S64x64),
    nullary main_cst_9 (constant S_ .f32 0x00000000#32),
    unary main_cst_9 main_v11 (broadcastInDim S64x64 ![] bcast_S_S64x64 : C F S_ → C F S64x64),
    nullary main_cst_10 (constant S_ .f32 0x00000000#32),
    unary main_cst_10 main_v12 (broadcastInDim S2048x64x64 ![] bcast_S_S2048x64x64 : C F S_ → C F S2048x64x64),
    nullary main_cst_11 (constant S_ .f32 0x00000000#32),
    unary main_cst_11 main_v13 (broadcastInDim S2048x64x64 ![] bcast_S_S2048x64x64 : C F S_ → C F S2048x64x64),
    nullary main_c_12 (constantI S_ 32 0#32),
    unary main_arg4 main_v14_0 id,
    unary main_arg5 main_v14_1 id,
    unary main_v5_9 main_v14_2 id,
    unary main_v5_10 main_v14_3 id,
    unary main_arg2 main_v14_4 id,
    unary main_arg3 main_v14_5 id,
    unary main_c_12 main_v14_6 id,
    unary main_v10 main_v14_7 id,
    unary main_v11 main_v14_8 id,
    unary main_v8 main_v14_9 id,
    unary main_v9 main_v14_10 id,
    unary main_v12 main_v14_11 id,
    unary main_v13 main_v14_12 id ]
theorem mid_sub : (mid : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem mid_fresh : (mid : List (HloOp τ sig (Elt F))).Forall fun op => op.fresh = ∅ := forall_fresh_of_map rfl
/-- What `mid` writes. -/
abbrev mid_W : List (Ref sig .tc) := [main_cst_4, main_v6, main_cst_5, main_v7, main_cst_6, main_v8, main_cst_7, main_v9, main_cst_8, main_v10, main_cst_9, main_v11, main_cst_10, main_v12, main_cst_11, main_v13, main_c_12, main_v14_0, main_v14_1, main_v14_2, main_v14_3, main_v14_4, main_v14_5, main_v14_6, main_v14_7, main_v14_8, main_v14_9, main_v14_10, main_v14_11, main_v14_12]
theorem mid_writes : (mid : List (HloOp τ sig (Elt F))).Forall fun op => op.writes ⊆ (mid_W.map (Proc.devRef (τ := τ) .tc)).toFinset := forall_writes_sub_of_map rfl
theorem mid_keep (V : Valuation τ sig (Elt F)) (r : Ref sig .tc) (h : r ∉ mid_W) : after mid V (Proc.devRef .tc r) = V (Proc.devRef .tc r) :=
  after_of_writes_sub mid V mid_writes h

/-- The test of loop 0: the bound, and the counter compared with it. -/
abbrev cond0 : List (HloOp τ sig (Elt F)) :=
  [ nullary main_while0c_c_23 (constantI S_ 32 2048#32),
    binary main_v5_4 main_while0c_c_23 main_while0c_v15 (cmpi .slt) ]
/-- What `cond0` writes. -/
abbrev cond0_W : List (Ref sig .tc) := [main_while0c_c_23, main_while0c_v15]
theorem cond0_writes : (cond0 : List (HloOp τ sig (Elt F))).Forall fun op => op.writes ⊆ (cond0_W.map (Proc.devRef (τ := τ) .tc)).toFinset := forall_writes_sub_of_map rfl
theorem cond0_keep (V : Valuation τ sig (Elt F)) (r : Ref sig .tc) (h : r ∉ cond0_W) : after cond0 V (Proc.devRef .tc r) = V (Proc.devRef .tc r) :=
  after_of_writes_sub cond0 V cond0_writes h

/-- Stretch 0 of the body of loop 0. -/
abbrev b0_0 : List (HloOp τ sig (Elt F)) :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.unaryIndexed (.of main_v5_0 : TRef sig ⟨S2048x64x64, .f32⟩) ![(.of main_v5_4 : TRef sig ⟨S_, .i32⟩), (.of main_while0b_call0_c : TRef sig ⟨S_, .i32⟩), (.of main_while0b_call0_c_0 : TRef sig ⟨S_, .i32⟩)] (.of main_while0b_call0_v0 : TRef sig ⟨S1x64x64, .f32⟩) (fun x i => Host.dynamicSlice S1x64x64 x (fun k => (i k (Shape.Idx.first h_S_)).toInt) sliceFits_S2048x64x64_S1x64x64),
    TRef.reshape (.of main_while0b_call0_v0 : TRef sig ⟨S1x64x64, .f32⟩) (.of main_while0b_v15 : TRef sig ⟨S64x64, .f32⟩) (rfl : (.f32 : EltTy) = .f32) shapeCasts_S1x64x64_S64x64 ]
theorem b0_0_sub : (b0_0 : List (HloOp τ sig (Elt F))).Forall fun op => op.bufs ⊆ tcRefs τ sig :=
  ⟨nullary_bufs_sub .., nullary_bufs_sub .., unaryIndexed_bufs_sub .., reshape_bufs_sub ..⟩
theorem b0_0_fresh : (b0_0 : List (HloOp τ sig (Elt F))).Forall fun op => op.fresh = ∅ := forall_fresh_of_map rfl
/-- What `b0_0` writes. -/
abbrev b0_0_W : List (Ref sig .tc) := [main_while0b_call0_c, main_while0b_call0_c_0, main_while0b_call0_v0, main_while0b_v15]
theorem b0_0_writes : (b0_0 : List (HloOp τ sig (Elt F))).Forall fun op => op.writes ⊆ (b0_0_W.map (Proc.devRef (τ := τ) .tc)).toFinset := forall_writes_sub_of_map rfl
theorem b0_0_keep (V : Valuation τ sig (Elt F)) (r : Ref sig .tc) (h : r ∉ b0_0_W) : after b0_0 V (Proc.devRef .tc r) = V (Proc.devRef .tc r) :=
  after_of_writes_sub b0_0 V b0_0_writes h

/-- Stretch 1 of the body of loop 0. -/
abbrev b0_1 : List (HloOp τ sig (Elt F)) :=
  [ TRef.nullary (.of main_while0b_call1_c : TRef sig ⟨S_, .i32⟩) (constantI S_ 32 0#32),
    TRef.nullary (.of main_while0b_call1_c_0 : TRef sig ⟨S_, .i32⟩) (constantI S_ 32 0#32),
    TRef.unaryIndexed (.of main_v5_1 : TRef sig ⟨S2048x64x64, .f32⟩) ![(.of main_v5_4 : TRef sig ⟨S_, .i32⟩), (.of main_while0b_call1_c : TRef sig ⟨S_, .i32⟩), (.of main_while0b_call1_c_0 : TRef sig ⟨S_, .i32⟩)] (.of main_while0b_call1_v0 : TRef sig ⟨S1x64x64, .f32⟩) (fun x i => Host.dynamicSlice S1x64x64 x (fun k => (i k (Shape.Idx.first h_S_)).toInt) sliceFits_S2048x64x64_S1x64x64),
    TRef.reshape (.of main_while0b_call1_v0 : TRef sig ⟨S1x64x64, .f32⟩) (.of main_while0b_v16 : TRef sig ⟨S64x64, .f32⟩) (rfl : (.f32 : EltTy) = .f32) shapeCasts_S1x64x64_S64x64 ]
theorem b0_1_sub : (b0_1 : List (HloOp τ sig (Elt F))).Forall fun op => op.bufs ⊆ tcRefs τ sig :=
  ⟨nullary_bufs_sub .., nullary_bufs_sub .., unaryIndexed_bufs_sub .., reshape_bufs_sub ..⟩
theorem b0_1_fresh : (b0_1 : List (HloOp τ sig (Elt F))).Forall fun op => op.fresh = ∅ := forall_fresh_of_map rfl
/-- What `b0_1` writes. -/
abbrev b0_1_W : List (Ref sig .tc) := [main_while0b_call1_c, main_while0b_call1_c_0, main_while0b_call1_v0, main_while0b_v16]
theorem b0_1_writes : (b0_1 : List (HloOp τ sig (Elt F))).Forall fun op => op.writes ⊆ (b0_1_W.map (Proc.devRef (τ := τ) .tc)).toFinset := forall_writes_sub_of_map rfl
theorem b0_1_keep (V : Valuation τ sig (Elt F)) (r : Ref sig .tc) (h : r ∉ b0_1_W) : after b0_1 V (Proc.devRef .tc r) = V (Proc.devRef .tc r) :=
  after_of_writes_sub b0_1 V b0_1_writes h

/-- Stretch 2 of the body of loop 0. -/
abbrev b0_2 : List (HloOp τ sig (Elt F)) :=
  [ binary main_v5_2 main_v5_5 main_while0b_v17 (mulf : C F S64x64 → C F S64x64 → C F S64x64),
    binary main_v5_3 main_v5_6 main_while0b_v18 (mulf : C F S64x64 → C F S64x64 → C F S64x64),
    binary main_while0b_v17 main_while0b_v18 main_while0b_v19 (subf : C F S64x64 → C F S64x64 → C F S64x64),
    binary main_while0b_v19 main_while0b_v15 main_while0b_v20 (addf : C F S64x64 → C F S64x64 → C F S64x64),
    binary main_v5_2 main_v5_6 main_while0b_v21 (mulf : C F S64x64 → C F S64x64 → C F S64x64),
    binary main_v5_3 main_v5_5 main_while0b_v22 (mulf : C F S64x64 → C F S64x64 → C F S64x64),
    binary main_while0b_v21 main_while0b_v22 main_while0b_v23 (addf : C F S64x64 → C F S64x64 → C F S64x64),
    binary main_while0b_v23 main_while0b_v16 main_while0b_v24 (addf : C F S64x64 → C F S64x64 → C F S64x64) ]
theorem b0_2_sub : (b0_2 : List (HloOp τ sig (Elt F))).Forall fun op => op.bufs ⊆ tcRefs τ sig :=
  ⟨binary_bufs_sub .., binary_bufs_sub .., binary_bufs_sub .., binary_bufs_sub .., binary_bufs_sub .., binary_bufs_sub .., binary_bufs_sub .., binary_bufs_sub ..⟩
theorem b0_2_fresh : (b0_2 : List (HloOp τ sig (Elt F))).Forall fun op => op.fresh = ∅ := forall_fresh_of_map rfl
/-- What `b0_2` writes. -/
abbrev b0_2_W : List (Ref sig .tc) := [main_while0b_v17, main_while0b_v18, main_while0b_v19, main_while0b_v20, main_while0b_v21, main_while0b_v22, main_while0b_v23, main_while0b_v24]
theorem b0_2_writes : (b0_2 : List (HloOp τ sig (Elt F))).Forall fun op => op.writes ⊆ (b0_2_W.map (Proc.devRef (τ := τ) .tc)).toFinset := forall_writes_sub_of_map rfl
theorem b0_2_keep (V : Valuation τ sig (Elt F)) (r : Ref sig .tc) (h : r ∉ b0_2_W) : after b0_2 V (Proc.devRef .tc r) = V (Proc.devRef .tc r) :=
  after_of_writes_sub b0_2 V b0_2_writes h

/-- Stretch 3 of the body of loop 0. -/
abbrev b0_3 : List (HloOp τ sig (Elt F)) :=
  [ TRef.unary (.of main_while0b_v20 : TRef sig ⟨S64x64, .f32⟩) (.of main_while0b_call2_v0 : TRef sig ⟨S1x64x64, .f32⟩) (broadcastInDim S1x64x64 ![1, 2] bcast_S64x64_S1x64x64_1_2),
    TRef.nullary (.of main_while0b_call2_c : TRef sig ⟨S_, .i32⟩) (constantI S_ 32 0#32),
    TRef.nullary (.of main_while0b_call2_c_0 : TRef sig ⟨S_, .i32⟩) (constantI S_ 32 0#32),
    TRef.binaryIndexed (.of main_v5_7 : TRef sig ⟨S2048x64x64, .f32⟩) (.of main_while0b_call2_v0 : TRef sig ⟨S1x64x64, .f32⟩) ![(.of main_v5_4 : TRef sig ⟨S_, .i32⟩), (.of main_while0b_call2_c : TRef sig ⟨S_, .i32⟩), (.of main_while0b_call2_c_0 : TRef sig ⟨S_, .i32⟩)] (.of main_while0b_v25 : TRef sig ⟨S2048x64x64, .f32⟩) (fun x u i => Host.dynamicUpdateSlice x u (fun k => (i k (Shape.Idx.first h_S_)).toInt) updateFits_S2048x64x64_S1x64x64) ]
theorem b0_3_sub : (b0_3 : List (HloOp τ sig (Elt F))).Forall fun op => op.bufs ⊆ tcRefs τ sig :=
  ⟨unary_bufs_sub .., nullary_bufs_sub .., nullary_bufs_sub .., binaryIndexed_bufs_sub ..⟩
theorem b0_3_fresh : (b0_3 : List (HloOp τ sig (Elt F))).Forall fun op => op.fresh = ∅ := forall_fresh_of_map rfl
/-- What `b0_3` writes. -/
abbrev b0_3_W : List (Ref sig .tc) := [main_while0b_call2_v0, main_while0b_call2_c, main_while0b_call2_c_0, main_while0b_v25]
theorem b0_3_writes : (b0_3 : List (HloOp τ sig (Elt F))).Forall fun op => op.writes ⊆ (b0_3_W.map (Proc.devRef (τ := τ) .tc)).toFinset := forall_writes_sub_of_map rfl
theorem b0_3_keep (V : Valuation τ sig (Elt F)) (r : Ref sig .tc) (h : r ∉ b0_3_W) : after b0_3 V (Proc.devRef .tc r) = V (Proc.devRef .tc r) :=
  after_of_writes_sub b0_3 V b0_3_writes h

/-- Stretch 4 of the body of loop 0. -/
abbrev b0_4 : List (HloOp τ sig (Elt F)) :=
  [ TRef.unary (.of main_while0b_v24 : TRef sig ⟨S64x64, .f32⟩) (.of main_while0b_call3_v0 : TRef sig ⟨S1x64x64, .f32⟩) (broadcastInDim S1x64x64 ![1, 2] bcast_S64x64_S1x64x64_1_2),
    TRef.nullary (.of main_while0b_call3_c : TRef sig ⟨S_, .i32⟩) (constantI S_ 32 0#32),
    TRef.nullary (.of main_while0b_call3_c_0 : TRef sig ⟨S_, .i32⟩) (constantI S_ 32 0#32),
    TRef.binaryIndexed (.of main_v5_8 : TRef sig ⟨S2048x64x64, .f32⟩) (.of main_while0b_call3_v0 : TRef sig ⟨S1x64x64, .f32⟩) ![(.of main_v5_4 : TRef sig ⟨S_, .i32⟩), (.of main_while0b_call3_c : TRef sig ⟨S_, .i32⟩), (.of main_while0b_call3_c_0 : TRef sig ⟨S_, .i32⟩)] (.of main_while0b_v26 : TRef sig ⟨S2048x64x64, .f32⟩) (fun x u i => Host.dynamicUpdateSlice x u (fun k => (i k (Shape.Idx.first h_S_)).toInt) updateFits_S2048x64x64_S1x64x64) ]
theorem b0_4_sub : (b0_4 : List (HloOp τ sig (Elt F))).Forall fun op => op.bufs ⊆ tcRefs τ sig :=
  ⟨unary_bufs_sub .., nullary_bufs_sub .., nullary_bufs_sub .., binaryIndexed_bufs_sub ..⟩
theorem b0_4_fresh : (b0_4 : List (HloOp τ sig (Elt F))).Forall fun op => op.fresh = ∅ := forall_fresh_of_map rfl
/-- What `b0_4` writes. -/
abbrev b0_4_W : List (Ref sig .tc) := [main_while0b_call3_v0, main_while0b_call3_c, main_while0b_call3_c_0, main_while0b_v26]
theorem b0_4_writes : (b0_4 : List (HloOp τ sig (Elt F))).Forall fun op => op.writes ⊆ (b0_4_W.map (Proc.devRef (τ := τ) .tc)).toFinset := forall_writes_sub_of_map rfl
theorem b0_4_keep (V : Valuation τ sig (Elt F)) (r : Ref sig .tc) (h : r ∉ b0_4_W) : after b0_4 V (Proc.devRef .tc r) = V (Proc.devRef .tc r) :=
  after_of_writes_sub b0_4 V b0_4_writes h

/-- Stretch 5 of the body of loop 0. -/
abbrev b0_5 : List (HloOp τ sig (Elt F)) :=
  [ TRef.unary (.of main_v5_5 : TRef sig ⟨S64x64, .f32⟩) (.of main_while0b_call4_v0 : TRef sig ⟨S1x64x64, .f32⟩) (broadcastInDim S1x64x64 ![1, 2] bcast_S64x64_S1x64x64_1_2),
    TRef.nullary (.of main_while0b_call4_c : TRef sig ⟨S_, .i32⟩) (constantI S_ 32 0#32),
    TRef.nullary (.of main_while0b_call4_c_0 : TRef sig ⟨S_, .i32⟩) (constantI S_ 32 0#32),
    TRef.binaryIndexed (.of main_v5_9 : TRef sig ⟨S2048x64x64, .f32⟩) (.of main_while0b_call4_v0 : TRef sig ⟨S1x64x64, .f32⟩) ![(.of main_v5_4 : TRef sig ⟨S_, .i32⟩), (.of main_while0b_call4_c : TRef sig ⟨S_, .i32⟩), (.of main_while0b_call4_c_0 : TRef sig ⟨S_, .i32⟩)] (.of main_while0b_v27 : TRef sig ⟨S2048x64x64, .f32⟩) (fun x u i => Host.dynamicUpdateSlice x u (fun k => (i k (Shape.Idx.first h_S_)).toInt) updateFits_S2048x64x64_S1x64x64) ]
theorem b0_5_sub : (b0_5 : List (HloOp τ sig (Elt F))).Forall fun op => op.bufs ⊆ tcRefs τ sig :=
  ⟨unary_bufs_sub .., nullary_bufs_sub .., nullary_bufs_sub .., binaryIndexed_bufs_sub ..⟩
theorem b0_5_fresh : (b0_5 : List (HloOp τ sig (Elt F))).Forall fun op => op.fresh = ∅ := forall_fresh_of_map rfl
/-- What `b0_5` writes. -/
abbrev b0_5_W : List (Ref sig .tc) := [main_while0b_call4_v0, main_while0b_call4_c, main_while0b_call4_c_0, main_while0b_v27]
theorem b0_5_writes : (b0_5 : List (HloOp τ sig (Elt F))).Forall fun op => op.writes ⊆ (b0_5_W.map (Proc.devRef (τ := τ) .tc)).toFinset := forall_writes_sub_of_map rfl
theorem b0_5_keep (V : Valuation τ sig (Elt F)) (r : Ref sig .tc) (h : r ∉ b0_5_W) : after b0_5 V (Proc.devRef .tc r) = V (Proc.devRef .tc r) :=
  after_of_writes_sub b0_5 V b0_5_writes h

/-- Stretch 6 of the body of loop 0. -/
abbrev b0_6 : List (HloOp τ sig (Elt F)) :=
  [ TRef.unary (.of main_v5_6 : TRef sig ⟨S64x64, .f32⟩) (.of main_while0b_call5_v0 : TRef sig ⟨S1x64x64, .f32⟩) (broadcastInDim S1x64x64 ![1, 2] bcast_S64x64_S1x64x64_1_2),
    TRef.nullary (.of main_while0b_call5_c : TRef sig ⟨S_, .i32⟩) (constantI S_ 32 0#32),
    TRef.nullary (.of main_while0b_call5_c_0 : TRef sig ⟨S_, .i32⟩) (constantI S_ 32 0#32),
    TRef.binaryIndexed (.of main_v5_10 : TRef sig ⟨S2048x64x64, .f32⟩) (.of main_while0b_call5_v0 : TRef sig ⟨S1x64x64, .f32⟩) ![(.of main_v5_4 : TRef sig ⟨S_, .i32⟩), (.of main_while0b_call5_c : TRef sig ⟨S_, .i32⟩), (.of main_while0b_call5_c_0 : TRef sig ⟨S_, .i32⟩)] (.of main_while0b_v28 : TRef sig ⟨S2048x64x64, .f32⟩) (fun x u i => Host.dynamicUpdateSlice x u (fun k => (i k (Shape.Idx.first h_S_)).toInt) updateFits_S2048x64x64_S1x64x64) ]
theorem b0_6_sub : (b0_6 : List (HloOp τ sig (Elt F))).Forall fun op => op.bufs ⊆ tcRefs τ sig :=
  ⟨unary_bufs_sub .., nullary_bufs_sub .., nullary_bufs_sub .., binaryIndexed_bufs_sub ..⟩
theorem b0_6_fresh : (b0_6 : List (HloOp τ sig (Elt F))).Forall fun op => op.fresh = ∅ := forall_fresh_of_map rfl
/-- What `b0_6` writes. -/
abbrev b0_6_W : List (Ref sig .tc) := [main_while0b_call5_v0, main_while0b_call5_c, main_while0b_call5_c_0, main_while0b_v28]
theorem b0_6_writes : (b0_6 : List (HloOp τ sig (Elt F))).Forall fun op => op.writes ⊆ (b0_6_W.map (Proc.devRef (τ := τ) .tc)).toFinset := forall_writes_sub_of_map rfl
theorem b0_6_keep (V : Valuation τ sig (Elt F)) (r : Ref sig .tc) (h : r ∉ b0_6_W) : after b0_6 V (Proc.devRef .tc r) = V (Proc.devRef .tc r) :=
  after_of_writes_sub b0_6 V b0_6_writes h

/-- Stretch 7 of the body of loop 0. -/
abbrev b0_7 : List (HloOp τ sig (Elt F)) :=
  [ nullary main_while0b_c_23 (constantI S_ 32 1#32),
    binary main_v5_4 main_while0b_c_23 main_while0b_v29 (addi : C F S_ .i32 → C F S_ .i32 → C F S_ .i32),
    unary main_while0b_v29 main_v5_4 id,
    unary main_while0b_v20 main_v5_5 id,
    unary main_while0b_v24 main_v5_6 id,
    unary main_while0b_v25 main_v5_7 id,
    unary main_while0b_v26 main_v5_8 id,
    unary main_while0b_v27 main_v5_9 id,
    unary main_while0b_v28 main_v5_10 id ]
theorem b0_7_sub : (b0_7 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub ..⟩
theorem b0_7_fresh : (b0_7 : List (HloOp τ sig (Elt F))).Forall fun op => op.fresh = ∅ := forall_fresh_of_map rfl
/-- What `b0_7` writes. -/
abbrev b0_7_W : List (Ref sig .tc) := [main_while0b_c_23, main_while0b_v29, main_v5_4, main_v5_5, main_v5_6, main_v5_7, main_v5_8, main_v5_9, main_v5_10]
theorem b0_7_writes : (b0_7 : List (HloOp τ sig (Elt F))).Forall fun op => op.writes ⊆ (b0_7_W.map (Proc.devRef (τ := τ) .tc)).toFinset := forall_writes_sub_of_map rfl
theorem b0_7_keep (V : Valuation τ sig (Elt F)) (r : Ref sig .tc) (h : r ∉ b0_7_W) : after b0_7 V (Proc.devRef .tc r) = V (Proc.devRef .tc r) :=
  after_of_writes_sub b0_7 V b0_7_writes h

/-- The body of loop 0. -/
abbrev body0 : List (List (HloOp τ sig (Elt F))) := [b0_0, b0_1, b0_2, b0_3, b0_4, b0_5, b0_6, b0_7]
theorem hbody0 : Plain (body0 (F := F)) := .cons b0_0_sub (hf := List.forall_iff_forall_mem.mp b0_0_fresh) (.cons b0_1_sub (hf := List.forall_iff_forall_mem.mp b0_1_fresh) (.cons b0_2_sub (hf := List.forall_iff_forall_mem.mp b0_2_fresh) (.cons b0_3_sub (hf := List.forall_iff_forall_mem.mp b0_3_fresh) (.cons b0_4_sub (hf := List.forall_iff_forall_mem.mp b0_4_fresh) (.cons b0_5_sub (hf := List.forall_iff_forall_mem.mp b0_5_fresh) (.cons b0_6_sub (hf := List.forall_iff_forall_mem.mp b0_6_fresh) (.cons b0_7_sub (hf := List.forall_iff_forall_mem.mp b0_7_fresh) (.nil))))))))

theorem body0_chain : main_while0_body (F := F) = (Pipeline.chain (body0.map fun ops => (seq ops : Prog (TpuEff nD τ sig (Elt F) (HostLoop.Sig (Pipeline.Sig Λ₀ (Fin 0) fun p => (pcfgs (F := F) p).Adm) 2) .tc) PUnit)) : Prog (TpuEff nD τ sig (Elt F) (HostLoop.Sig (Pipeline.Sig Λ₀ (Fin 0) fun p => (pcfgs (F := F) p).Adm) 2) .tc) PUnit) := by
  show _ = Pipeline.chain [seq b0_0, seq b0_1, seq b0_2, seq b0_3, seq b0_4, seq b0_5, seq b0_6, seq b0_7]
  rewrite [Pipeline.chain_cons, Pipeline.chain_cons, StableHlo.chain_seq_cons, Pipeline.chain_cons, Pipeline.chain_cons, Pipeline.chain_cons, Pipeline.chain_cons, StableHlo.chain_seq_cons]
  chain_rfl

/-- The test of loop 1: the bound, and the counter compared with it. -/
abbrev cond1 : List (HloOp τ sig (Elt F)) :=
  [ nullary main_while1c_c_25 (constantI S_ 32 2048#32),
    binary main_v14_6 main_while1c_c_25 main_while1c_v15 (cmpi .slt) ]
/-- What `cond1` writes. -/
abbrev cond1_W : List (Ref sig .tc) := [main_while1c_c_25, main_while1c_v15]
theorem cond1_writes : (cond1 : List (HloOp τ sig (Elt F))).Forall fun op => op.writes ⊆ (cond1_W.map (Proc.devRef (τ := τ) .tc)).toFinset := forall_writes_sub_of_map rfl
theorem cond1_keep (V : Valuation τ sig (Elt F)) (r : Ref sig .tc) (h : r ∉ cond1_W) : after cond1 V (Proc.devRef .tc r) = V (Proc.devRef .tc r) :=
  after_of_writes_sub cond1 V cond1_writes h

/-- Stretch 0 of the body of loop 1. -/
abbrev b1_0 : List (HloOp τ sig (Elt F)) :=
  [ nullary main_while1b_c_25 (constantI S_ 32 2048#32),
    binary main_while1b_c_25 main_v14_6 main_while1b_v15 (subi : C F S_ .i32 → C F S_ .i32 → C F S_ .i32),
    nullary main_while1b_c_26 (constantI S_ 32 1#32),
    binary main_while1b_v15 main_while1b_c_26 main_while1b_v16 (subi : C F S_ .i32 → C F S_ .i32 → C F S_ .i32) ]
theorem b1_0_sub : (b1_0 : List (HloOp τ sig (Elt F))).Forall fun op => op.bufs ⊆ tcRefs τ sig :=
  ⟨nullary_bufs_sub .., binary_bufs_sub .., nullary_bufs_sub .., binary_bufs_sub ..⟩
theorem b1_0_fresh : (b1_0 : List (HloOp τ sig (Elt F))).Forall fun op => op.fresh = ∅ := forall_fresh_of_map rfl
/-- What `b1_0` writes. -/
abbrev b1_0_W : List (Ref sig .tc) := [main_while1b_c_25, main_while1b_v15, main_while1b_c_26, main_while1b_v16]
theorem b1_0_writes : (b1_0 : List (HloOp τ sig (Elt F))).Forall fun op => op.writes ⊆ (b1_0_W.map (Proc.devRef (τ := τ) .tc)).toFinset := forall_writes_sub_of_map rfl
theorem b1_0_keep (V : Valuation τ sig (Elt F)) (r : Ref sig .tc) (h : r ∉ b1_0_W) : after b1_0 V (Proc.devRef .tc r) = V (Proc.devRef .tc r) :=
  after_of_writes_sub b1_0 V b1_0_writes h

/-- Stretch 1 of the body of loop 1. -/
abbrev b1_1 : List (HloOp τ sig (Elt F)) :=
  [ TRef.nullary (.of main_while1b_call6_c : TRef sig ⟨S_, .i32⟩) (constantI S_ 32 0#32),
    TRef.nullary (.of main_while1b_call6_c_0 : TRef sig ⟨S_, .i32⟩) (constantI S_ 32 0#32),
    TRef.unaryIndexed (.of main_v14_0 : TRef sig ⟨S2048x64x64, .f32⟩) ![(.of main_while1b_v16 : TRef sig ⟨S_, .i32⟩), (.of main_while1b_call6_c : TRef sig ⟨S_, .i32⟩), (.of main_while1b_call6_c_0 : TRef sig ⟨S_, .i32⟩)] (.of main_while1b_call6_v0 : TRef sig ⟨S1x64x64, .f32⟩) (fun x i => Host.dynamicSlice S1x64x64 x (fun k => (i k (Shape.Idx.first h_S_)).toInt) sliceFits_S2048x64x64_S1x64x64),
    TRef.reshape (.of main_while1b_call6_v0 : TRef sig ⟨S1x64x64, .f32⟩) (.of main_while1b_v17 : TRef sig ⟨S64x64, .f32⟩) (rfl : (.f32 : EltTy) = .f32) shapeCasts_S1x64x64_S64x64 ]
theorem b1_1_sub : (b1_1 : List (HloOp τ sig (Elt F))).Forall fun op => op.bufs ⊆ tcRefs τ sig :=
  ⟨nullary_bufs_sub .., nullary_bufs_sub .., unaryIndexed_bufs_sub .., reshape_bufs_sub ..⟩
theorem b1_1_fresh : (b1_1 : List (HloOp τ sig (Elt F))).Forall fun op => op.fresh = ∅ := forall_fresh_of_map rfl
/-- What `b1_1` writes. -/
abbrev b1_1_W : List (Ref sig .tc) := [main_while1b_call6_c, main_while1b_call6_c_0, main_while1b_call6_v0, main_while1b_v17]
theorem b1_1_writes : (b1_1 : List (HloOp τ sig (Elt F))).Forall fun op => op.writes ⊆ (b1_1_W.map (Proc.devRef (τ := τ) .tc)).toFinset := forall_writes_sub_of_map rfl
theorem b1_1_keep (V : Valuation τ sig (Elt F)) (r : Ref sig .tc) (h : r ∉ b1_1_W) : after b1_1 V (Proc.devRef .tc r) = V (Proc.devRef .tc r) :=
  after_of_writes_sub b1_1 V b1_1_writes h

/-- Stretch 2 of the body of loop 1. -/
abbrev b1_2 : List (HloOp τ sig (Elt F)) :=
  [ TRef.nullary (.of main_while1b_call7_c : TRef sig ⟨S_, .i32⟩) (constantI S_ 32 0#32),
    TRef.nullary (.of main_while1b_call7_c_0 : TRef sig ⟨S_, .i32⟩) (constantI S_ 32 0#32),
    TRef.unaryIndexed (.of main_v14_1 : TRef sig ⟨S2048x64x64, .f32⟩) ![(.of main_while1b_v16 : TRef sig ⟨S_, .i32⟩), (.of main_while1b_call7_c : TRef sig ⟨S_, .i32⟩), (.of main_while1b_call7_c_0 : TRef sig ⟨S_, .i32⟩)] (.of main_while1b_call7_v0 : TRef sig ⟨S1x64x64, .f32⟩) (fun x i => Host.dynamicSlice S1x64x64 x (fun k => (i k (Shape.Idx.first h_S_)).toInt) sliceFits_S2048x64x64_S1x64x64),
    TRef.reshape (.of main_while1b_call7_v0 : TRef sig ⟨S1x64x64, .f32⟩) (.of main_while1b_v18 : TRef sig ⟨S64x64, .f32⟩) (rfl : (.f32 : EltTy) = .f32) shapeCasts_S1x64x64_S64x64 ]
theorem b1_2_sub : (b1_2 : List (HloOp τ sig (Elt F))).Forall fun op => op.bufs ⊆ tcRefs τ sig :=
  ⟨nullary_bufs_sub .., nullary_bufs_sub .., unaryIndexed_bufs_sub .., reshape_bufs_sub ..⟩
theorem b1_2_fresh : (b1_2 : List (HloOp τ sig (Elt F))).Forall fun op => op.fresh = ∅ := forall_fresh_of_map rfl
/-- What `b1_2` writes. -/
abbrev b1_2_W : List (Ref sig .tc) := [main_while1b_call7_c, main_while1b_call7_c_0, main_while1b_call7_v0, main_while1b_v18]
theorem b1_2_writes : (b1_2 : List (HloOp τ sig (Elt F))).Forall fun op => op.writes ⊆ (b1_2_W.map (Proc.devRef (τ := τ) .tc)).toFinset := forall_writes_sub_of_map rfl
theorem b1_2_keep (V : Valuation τ sig (Elt F)) (r : Ref sig .tc) (h : r ∉ b1_2_W) : after b1_2 V (Proc.devRef .tc r) = V (Proc.devRef .tc r) :=
  after_of_writes_sub b1_2 V b1_2_writes h

/-- Stretch 3 of the body of loop 1. -/
abbrev b1_3 : List (HloOp τ sig (Elt F)) :=
  [ TRef.nullary (.of main_while1b_call8_c : TRef sig ⟨S_, .i32⟩) (constantI S_ 32 0#32),
    TRef.nullary (.of main_while1b_call8_c_0 : TRef sig ⟨S_, .i32⟩) (constantI S_ 32 0#32),
    TRef.unaryIndexed (.of main_v14_2 : TRef sig ⟨S2048x64x64, .f32⟩) ![(.of main_while1b_v16 : TRef sig ⟨S_, .i32⟩), (.of main_while1b_call8_c : TRef sig ⟨S_, .i32⟩), (.of main_while1b_call8_c_0 : TRef sig ⟨S_, .i32⟩)] (.of main_while1b_call8_v0 : TRef sig ⟨S1x64x64, .f32⟩) (fun x i => Host.dynamicSlice S1x64x64 x (fun k => (i k (Shape.Idx.first h_S_)).toInt) sliceFits_S2048x64x64_S1x64x64),
    TRef.reshape (.of main_while1b_call8_v0 : TRef sig ⟨S1x64x64, .f32⟩) (.of main_while1b_v19 : TRef sig ⟨S64x64, .f32⟩) (rfl : (.f32 : EltTy) = .f32) shapeCasts_S1x64x64_S64x64 ]
theorem b1_3_sub : (b1_3 : List (HloOp τ sig (Elt F))).Forall fun op => op.bufs ⊆ tcRefs τ sig :=
  ⟨nullary_bufs_sub .., nullary_bufs_sub .., unaryIndexed_bufs_sub .., reshape_bufs_sub ..⟩
theorem b1_3_fresh : (b1_3 : List (HloOp τ sig (Elt F))).Forall fun op => op.fresh = ∅ := forall_fresh_of_map rfl
/-- What `b1_3` writes. -/
abbrev b1_3_W : List (Ref sig .tc) := [main_while1b_call8_c, main_while1b_call8_c_0, main_while1b_call8_v0, main_while1b_v19]
theorem b1_3_writes : (b1_3 : List (HloOp τ sig (Elt F))).Forall fun op => op.writes ⊆ (b1_3_W.map (Proc.devRef (τ := τ) .tc)).toFinset := forall_writes_sub_of_map rfl
theorem b1_3_keep (V : Valuation τ sig (Elt F)) (r : Ref sig .tc) (h : r ∉ b1_3_W) : after b1_3 V (Proc.devRef .tc r) = V (Proc.devRef .tc r) :=
  after_of_writes_sub b1_3 V b1_3_writes h

/-- Stretch 4 of the body of loop 1. -/
abbrev b1_4 : List (HloOp τ sig (Elt F)) :=
  [ TRef.nullary (.of main_while1b_call9_c : TRef sig ⟨S_, .i32⟩) (constantI S_ 32 0#32),
    TRef.nullary (.of main_while1b_call9_c_0 : TRef sig ⟨S_, .i32⟩) (constantI S_ 32 0#32),
    TRef.unaryIndexed (.of main_v14_3 : TRef sig ⟨S2048x64x64, .f32⟩) ![(.of main_while1b_v16 : TRef sig ⟨S_, .i32⟩), (.of main_while1b_call9_c : TRef sig ⟨S_, .i32⟩), (.of main_while1b_call9_c_0 : TRef sig ⟨S_, .i32⟩)] (.of main_while1b_call9_v0 : TRef sig ⟨S1x64x64, .f32⟩) (fun x i => Host.dynamicSlice S1x64x64 x (fun k => (i k (Shape.Idx.first h_S_)).toInt) sliceFits_S2048x64x64_S1x64x64),
    TRef.reshape (.of main_while1b_call9_v0 : TRef sig ⟨S1x64x64, .f32⟩) (.of main_while1b_v20 : TRef sig ⟨S64x64, .f32⟩) (rfl : (.f32 : EltTy) = .f32) shapeCasts_S1x64x64_S64x64 ]
theorem b1_4_sub : (b1_4 : List (HloOp τ sig (Elt F))).Forall fun op => op.bufs ⊆ tcRefs τ sig :=
  ⟨nullary_bufs_sub .., nullary_bufs_sub .., unaryIndexed_bufs_sub .., reshape_bufs_sub ..⟩
theorem b1_4_fresh : (b1_4 : List (HloOp τ sig (Elt F))).Forall fun op => op.fresh = ∅ := forall_fresh_of_map rfl
/-- What `b1_4` writes. -/
abbrev b1_4_W : List (Ref sig .tc) := [main_while1b_call9_c, main_while1b_call9_c_0, main_while1b_call9_v0, main_while1b_v20]
theorem b1_4_writes : (b1_4 : List (HloOp τ sig (Elt F))).Forall fun op => op.writes ⊆ (b1_4_W.map (Proc.devRef (τ := τ) .tc)).toFinset := forall_writes_sub_of_map rfl
theorem b1_4_keep (V : Valuation τ sig (Elt F)) (r : Ref sig .tc) (h : r ∉ b1_4_W) : after b1_4 V (Proc.devRef .tc r) = V (Proc.devRef .tc r) :=
  after_of_writes_sub b1_4 V b1_4_writes h

/-- Stretch 5 of the body of loop 1. -/
abbrev b1_5 : List (HloOp τ sig (Elt F)) :=
  [ binary main_v14_9 main_while1b_v17 main_while1b_v21 (addf : C F S64x64 → C F S64x64 → C F S64x64),
    binary main_v14_10 main_while1b_v18 main_while1b_v22 (addf : C F S64x64 → C F S64x64 → C F S64x64),
    binary main_v14_5 main_while1b_v22 main_while1b_v23 (mulf : C F S64x64 → C F S64x64 → C F S64x64),
    binary main_while1b_v22 main_while1b_v19 main_while1b_v24 (mulf : C F S64x64 → C F S64x64 → C F S64x64),
    binary main_v14_8 main_while1b_v24 main_while1b_v25 (addf : C F S64x64 → C F S64x64 → C F S64x64),
    binary main_v14_4 main_while1b_v22 main_while1b_v26 (mulf : C F S64x64 → C F S64x64 → C F S64x64),
    binary main_while1b_v22 main_while1b_v20 main_while1b_v27 (mulf : C F S64x64 → C F S64x64 → C F S64x64),
    binary main_v14_7 main_while1b_v27 main_while1b_v28 (addf : C F S64x64 → C F S64x64 → C F S64x64),
    unary main_while1b_v21 main_while1b_v29 (Host.negf : C F S64x64 → C F S64x64),
    binary main_v14_5 main_while1b_v29 main_while1b_v30 (mulf : C F S64x64 → C F S64x64 → C F S64x64),
    binary main_while1b_v26 main_while1b_v30 main_while1b_v31 (addf : C F S64x64 → C F S64x64 → C F S64x64),
    binary main_while1b_v29 main_while1b_v20 main_while1b_v32 (mulf : C F S64x64 → C F S64x64 → C F S64x64),
    binary main_while1b_v25 main_while1b_v32 main_while1b_v33 (addf : C F S64x64 → C F S64x64 → C F S64x64),
    binary main_v14_4 main_while1b_v21 main_while1b_v34 (mulf : C F S64x64 → C F S64x64 → C F S64x64),
    binary main_while1b_v23 main_while1b_v34 main_while1b_v35 (addf : C F S64x64 → C F S64x64 → C F S64x64),
    binary main_while1b_v21 main_while1b_v19 main_while1b_v36 (mulf : C F S64x64 → C F S64x64 → C F S64x64),
    binary main_while1b_v28 main_while1b_v36 main_while1b_v37 (addf : C F S64x64 → C F S64x64 → C F S64x64) ]
theorem b1_5_sub : (b1_5 : List (HloOp τ sig (Elt F))).Forall fun op => op.bufs ⊆ tcRefs τ sig :=
  ⟨binary_bufs_sub .., binary_bufs_sub .., binary_bufs_sub .., binary_bufs_sub .., binary_bufs_sub .., binary_bufs_sub .., binary_bufs_sub .., binary_bufs_sub .., unary_bufs_sub .., binary_bufs_sub .., binary_bufs_sub .., binary_bufs_sub .., binary_bufs_sub .., binary_bufs_sub .., binary_bufs_sub .., binary_bufs_sub .., binary_bufs_sub ..⟩
theorem b1_5_fresh : (b1_5 : List (HloOp τ sig (Elt F))).Forall fun op => op.fresh = ∅ := forall_fresh_of_map rfl
/-- What `b1_5` writes. -/
abbrev b1_5_W : List (Ref sig .tc) := [main_while1b_v21, main_while1b_v22, main_while1b_v23, main_while1b_v24, main_while1b_v25, main_while1b_v26, main_while1b_v27, main_while1b_v28, main_while1b_v29, main_while1b_v30, main_while1b_v31, main_while1b_v32, main_while1b_v33, main_while1b_v34, main_while1b_v35, main_while1b_v36, main_while1b_v37]
theorem b1_5_writes : (b1_5 : List (HloOp τ sig (Elt F))).Forall fun op => op.writes ⊆ (b1_5_W.map (Proc.devRef (τ := τ) .tc)).toFinset := forall_writes_sub_of_map rfl
theorem b1_5_keep (V : Valuation τ sig (Elt F)) (r : Ref sig .tc) (h : r ∉ b1_5_W) : after b1_5 V (Proc.devRef .tc r) = V (Proc.devRef .tc r) :=
  after_of_writes_sub b1_5 V b1_5_writes h

/-- Stretch 6 of the body of loop 1. -/
abbrev b1_6 : List (HloOp τ sig (Elt F)) :=
  [ TRef.unary (.of main_while1b_v21 : TRef sig ⟨S64x64, .f32⟩) (.of main_while1b_call10_v0 : TRef sig ⟨S1x64x64, .f32⟩) (broadcastInDim S1x64x64 ![1, 2] bcast_S64x64_S1x64x64_1_2),
    TRef.nullary (.of main_while1b_call10_c : TRef sig ⟨S_, .i32⟩) (constantI S_ 32 0#32),
    TRef.nullary (.of main_while1b_call10_c_0 : TRef sig ⟨S_, .i32⟩) (constantI S_ 32 0#32),
    TRef.binaryIndexed (.of main_v14_11 : TRef sig ⟨S2048x64x64, .f32⟩) (.of main_while1b_call10_v0 : TRef sig ⟨S1x64x64, .f32⟩) ![(.of main_while1b_v16 : TRef sig ⟨S_, .i32⟩), (.of main_while1b_call10_c : TRef sig ⟨S_, .i32⟩), (.of main_while1b_call10_c_0 : TRef sig ⟨S_, .i32⟩)] (.of main_while1b_v38 : TRef sig ⟨S2048x64x64, .f32⟩) (fun x u i => Host.dynamicUpdateSlice x u (fun k => (i k (Shape.Idx.first h_S_)).toInt) updateFits_S2048x64x64_S1x64x64) ]
theorem b1_6_sub : (b1_6 : List (HloOp τ sig (Elt F))).Forall fun op => op.bufs ⊆ tcRefs τ sig :=
  ⟨unary_bufs_sub .., nullary_bufs_sub .., nullary_bufs_sub .., binaryIndexed_bufs_sub ..⟩
theorem b1_6_fresh : (b1_6 : List (HloOp τ sig (Elt F))).Forall fun op => op.fresh = ∅ := forall_fresh_of_map rfl
/-- What `b1_6` writes. -/
abbrev b1_6_W : List (Ref sig .tc) := [main_while1b_call10_v0, main_while1b_call10_c, main_while1b_call10_c_0, main_while1b_v38]
theorem b1_6_writes : (b1_6 : List (HloOp τ sig (Elt F))).Forall fun op => op.writes ⊆ (b1_6_W.map (Proc.devRef (τ := τ) .tc)).toFinset := forall_writes_sub_of_map rfl
theorem b1_6_keep (V : Valuation τ sig (Elt F)) (r : Ref sig .tc) (h : r ∉ b1_6_W) : after b1_6 V (Proc.devRef .tc r) = V (Proc.devRef .tc r) :=
  after_of_writes_sub b1_6 V b1_6_writes h

/-- Stretch 7 of the body of loop 1. -/
abbrev b1_7 : List (HloOp τ sig (Elt F)) :=
  [ TRef.unary (.of main_while1b_v22 : TRef sig ⟨S64x64, .f32⟩) (.of main_while1b_call11_v0 : TRef sig ⟨S1x64x64, .f32⟩) (broadcastInDim S1x64x64 ![1, 2] bcast_S64x64_S1x64x64_1_2),
    TRef.nullary (.of main_while1b_call11_c : TRef sig ⟨S_, .i32⟩) (constantI S_ 32 0#32),
    TRef.nullary (.of main_while1b_call11_c_0 : TRef sig ⟨S_, .i32⟩) (constantI S_ 32 0#32),
    TRef.binaryIndexed (.of main_v14_12 : TRef sig ⟨S2048x64x64, .f32⟩) (.of main_while1b_call11_v0 : TRef sig ⟨S1x64x64, .f32⟩) ![(.of main_while1b_v16 : TRef sig ⟨S_, .i32⟩), (.of main_while1b_call11_c : TRef sig ⟨S_, .i32⟩), (.of main_while1b_call11_c_0 : TRef sig ⟨S_, .i32⟩)] (.of main_while1b_v39 : TRef sig ⟨S2048x64x64, .f32⟩) (fun x u i => Host.dynamicUpdateSlice x u (fun k => (i k (Shape.Idx.first h_S_)).toInt) updateFits_S2048x64x64_S1x64x64) ]
theorem b1_7_sub : (b1_7 : List (HloOp τ sig (Elt F))).Forall fun op => op.bufs ⊆ tcRefs τ sig :=
  ⟨unary_bufs_sub .., nullary_bufs_sub .., nullary_bufs_sub .., binaryIndexed_bufs_sub ..⟩
theorem b1_7_fresh : (b1_7 : List (HloOp τ sig (Elt F))).Forall fun op => op.fresh = ∅ := forall_fresh_of_map rfl
/-- What `b1_7` writes. -/
abbrev b1_7_W : List (Ref sig .tc) := [main_while1b_call11_v0, main_while1b_call11_c, main_while1b_call11_c_0, main_while1b_v39]
theorem b1_7_writes : (b1_7 : List (HloOp τ sig (Elt F))).Forall fun op => op.writes ⊆ (b1_7_W.map (Proc.devRef (τ := τ) .tc)).toFinset := forall_writes_sub_of_map rfl
theorem b1_7_keep (V : Valuation τ sig (Elt F)) (r : Ref sig .tc) (h : r ∉ b1_7_W) : after b1_7 V (Proc.devRef .tc r) = V (Proc.devRef .tc r) :=
  after_of_writes_sub b1_7 V b1_7_writes h

/-- Stretch 8 of the body of loop 1. -/
abbrev b1_8 : List (HloOp τ sig (Elt F)) :=
  [ nullary main_while1b_c_27 (constantI S_ 32 1#32),
    binary main_v14_6 main_while1b_c_27 main_while1b_v40 (addi : C F S_ .i32 → C F S_ .i32 → C F S_ .i32),
    unary main_while1b_v40 main_v14_6 id,
    unary main_while1b_v37 main_v14_7 id,
    unary main_while1b_v33 main_v14_8 id,
    unary main_while1b_v35 main_v14_9 id,
    unary main_while1b_v31 main_v14_10 id,
    unary main_while1b_v38 main_v14_11 id,
    unary main_while1b_v39 main_v14_12 id ]
theorem b1_8_sub : (b1_8 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub ..⟩
theorem b1_8_fresh : (b1_8 : List (HloOp τ sig (Elt F))).Forall fun op => op.fresh = ∅ := forall_fresh_of_map rfl
/-- What `b1_8` writes. -/
abbrev b1_8_W : List (Ref sig .tc) := [main_while1b_c_27, main_while1b_v40, main_v14_6, main_v14_7, main_v14_8, main_v14_9, main_v14_10, main_v14_11, main_v14_12]
theorem b1_8_writes : (b1_8 : List (HloOp τ sig (Elt F))).Forall fun op => op.writes ⊆ (b1_8_W.map (Proc.devRef (τ := τ) .tc)).toFinset := forall_writes_sub_of_map rfl
theorem b1_8_keep (V : Valuation τ sig (Elt F)) (r : Ref sig .tc) (h : r ∉ b1_8_W) : after b1_8 V (Proc.devRef .tc r) = V (Proc.devRef .tc r) :=
  after_of_writes_sub b1_8 V b1_8_writes h

/-- The body of loop 1. -/
abbrev body1 : List (List (HloOp τ sig (Elt F))) := [b1_0, b1_1, b1_2, b1_3, b1_4, b1_5, b1_6, b1_7, b1_8]
theorem hbody1 : Plain (body1 (F := F)) := .cons b1_0_sub (hf := List.forall_iff_forall_mem.mp b1_0_fresh) (.cons b1_1_sub (hf := List.forall_iff_forall_mem.mp b1_1_fresh) (.cons b1_2_sub (hf := List.forall_iff_forall_mem.mp b1_2_fresh) (.cons b1_3_sub (hf := List.forall_iff_forall_mem.mp b1_3_fresh) (.cons b1_4_sub (hf := List.forall_iff_forall_mem.mp b1_4_fresh) (.cons b1_5_sub (hf := List.forall_iff_forall_mem.mp b1_5_fresh) (.cons b1_6_sub (hf := List.forall_iff_forall_mem.mp b1_6_fresh) (.cons b1_7_sub (hf := List.forall_iff_forall_mem.mp b1_7_fresh) (.cons b1_8_sub (hf := List.forall_iff_forall_mem.mp b1_8_fresh) (.nil)))))))))

theorem body1_chain : main_while1_body (F := F) = (Pipeline.chain (body1.map fun ops => (seq ops : Prog (TpuEff nD τ sig (Elt F) (HostLoop.Sig (Pipeline.Sig Λ₀ (Fin 0) fun p => (pcfgs (F := F) p).Adm) 2) .tc) PUnit)) : Prog (TpuEff nD τ sig (Elt F) (HostLoop.Sig (Pipeline.Sig Λ₀ (Fin 0) fun p => (pcfgs (F := F) p).Adm) 2) .tc) PUnit) := by
  show _ = Pipeline.chain [seq b1_0, seq b1_1, seq b1_2, seq b1_3, seq b1_4, seq b1_5, seq b1_6, seq b1_7, seq b1_8]
  rewrite [StableHlo.chain_seq_cons, Pipeline.chain_cons, Pipeline.chain_cons, Pipeline.chain_cons, Pipeline.chain_cons, StableHlo.chain_seq_cons, Pipeline.chain_cons, Pipeline.chain_cons, StableHlo.chain_seq_cons]
  chain_rfl

theorem hpre : Plain ([pre] : List (List (HloOp τ sig (Elt F)))) := .cons pre_sub (hf := List.forall_iff_forall_mem.mp pre_fresh) .nil
theorem hmid : Plain ([mid] : List (List (HloOp τ sig (Elt F)))) := .cons mid_sub (hf := List.forall_iff_forall_mem.mp mid_fresh) .nil

theorem main_chain (c : Dev nD) : main (F := F) c = (Pipeline.chain [seq pre, HostLoop.enter 0, seq mid, HostLoop.enter 1] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons]
  chain_rfl

end Cert.ReferenceIdeal.Own
-- ==== Proof.RefRun.lean ====
module

public import proofs.«01_k».proof.Proof.RefOps
public import Idealize.ShloMosaic.Lib.Pipeline.Regions
public import Idealize.ShloMosaic.Lib.StableHlo.RunLoop
public import Idealize.ShloMosaic.Lib.StableHlo.RunRead
public import Idealize.ShloMosaic.Lib.StableHlo.RunClose
public import Idealize.ShloMosaic.Lib.Scf.ExitTest
public import Idealize.ShloMosaic.Lib.Scf.Counter

@[expose] public section

set_option maxRecDepth 16384

noncomputable section

namespace Cert.ReferenceIdeal.Own
open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg)

variable {F : FTy → Type} [FloatOps F]

local notation "𝕄" => MT nD τ sig Unit (Elt F) ℕ (Option PUnit) ℕ

abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) (adm (F := F)) := fun j => j.elim0
abbrev L : GSem nD τ sig → Finset Unit := fun _ => ∅
abbrev lv : GSem nD τ sig → Unit → ℕ := fun _ _ => 0
theorem cellOf_inj : Function.Injective (Pipeline.cellOf (nD := nD) (τ := τ) (Pipeline.pin (pcfgs (F := F)) (adm (F := F)))) := fun k => k.1.elim0
/-- What rides along beside the buffers. -/
abbrev Rw (c : Dev nD) : sProp 𝕄 := iprop(∃ W, owes (c : Thread nD τ) (0 : CellTallies nD τ sig Unit) W)

variable (m : (ℓ : Loc nD τ sig) → Buf (Elt F) ℓ) (ρ : Dev nD → PrngReg)

/-! ## The contents along @main -/

/-- At the entry of the first loop. -/
abbrev A0 (c : Dev nD) : Valuation τ sig (Elt F) := after pre (launchContents m c)
/-- Before the `k`-th test of the first loop. -/
abbrev At0 (k : ℕ) (c : Dev nD) : Valuation τ sig (Elt F) := atTrip cond0 body0 (A0 m) k c
/-- At the exit of the first loop. -/
abbrev A1 (c : Dev nD) : Valuation τ sig (Elt F) := after cond0 (At0 m 2048 c)
/-- At the entry of the second loop. -/
abbrev B0 (c : Dev nD) : Valuation τ sig (Elt F) := after mid (A1 m c)
/-- Before the `k`-th test of the second loop. -/
abbrev At1 (k : ℕ) (c : Dev nD) : Valuation τ sig (Elt F) := atTrip cond1 body1 (B0 m) k c
/-- At the return. -/
abbrev B1 (c : Dev nD) : Valuation τ sig (Elt F) := after cond1 (At1 m 2048 c)

/-! ## The counters -/

theorem ctr0_step (X : Valuation τ sig (Elt F)) :
    after b0_7 X (Proc.devRef .tc main_v5_4) = addi (X (Proc.devRef .tc main_v5_4)) (constantI S_ 32 1#32) := by
  after_results
  rfl
theorem ctr0_entry (X : Valuation τ sig (Elt F)) : after pre X (Proc.devRef .tc main_v5_4) = fun _ => (0#32 : BitVec 32) := by
  after_reads_simp
  rfl
/-- The counter of loop 0 before its `k`-th test is `k`. -/
theorem ctr0 (c : Dev nD) : ∀ k, At0 m k c (Proc.devRef .tc main_v5_4) = fun _ => Scf.iv 0#32 1#32 k
  | 0 => by rw [show At0 m 0 c = after pre (launchContents m c) from rfl, ctr0_entry, Scf.iv_zero]
  | k + 1 => by
    rw [show At0 m (k + 1) c = afterL body0 (after cond0 (At0 m k c)) from rfl]
    simp only [afterL_cons, afterL_nil]
    rw [ctr0_step, b0_6_keep _ main_v5_4 (by decide), b0_5_keep _ main_v5_4 (by decide), b0_4_keep _ main_v5_4 (by decide), b0_3_keep _ main_v5_4 (by decide), b0_2_keep _ main_v5_4 (by decide), b0_1_keep _ main_v5_4 (by decide), b0_0_keep _ main_v5_4 (by decide), cond0_keep _ main_v5_4 (by decide), ctr0 c k, Scf.iv_succ]
    rfl

set_option backward.isDefEq.respectTransparency.types false in
/-- The test of loop 0 holds exactly at the first 2048 trips and touches nothing but its two words. -/
theorem test0 : LoopCond (pcfgs (F := F)) defs₀ Variants.none loops Rw (main_while0_cond (F := F)) cond0 body0 (A0 m) 2048 := by
  intro k hk c bd
  have hctr := ctr0 m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (At0 m k c) main_v5_4 HostLoop.idx0)
        (HloOp.result _ (At0 m k c) main_while0c_c_23 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]
  · rw [after_cons, after_cons, after_nil]; iexact Hh
  iexact HR

theorem ctr1_step (X : Valuation τ sig (Elt F)) :
    after b1_8 X (Proc.devRef .tc main_v14_6) = addi (X (Proc.devRef .tc main_v14_6)) (constantI S_ 32 1#32) := by
  after_results
  rfl
theorem ctr1_entry (X : Valuation τ sig (Elt F)) : after mid X (Proc.devRef .tc main_v14_6) = fun _ => (0#32 : BitVec 32) := by
  after_reads_simp
  rfl
/-- The counter of loop 1 before its `k`-th test is `k`. -/
theorem ctr1 (c : Dev nD) : ∀ k, At1 m k c (Proc.devRef .tc main_v14_6) = fun _ => Scf.iv 0#32 1#32 k
  | 0 => by rw [show At1 m 0 c = after mid (A1 m c) from rfl, ctr1_entry, Scf.iv_zero]
  | k + 1 => by
    rw [show At1 m (k + 1) c = afterL body1 (after cond1 (At1 m k c)) from rfl]
    simp only [afterL_cons, afterL_nil]
    rw [ctr1_step, b1_7_keep _ main_v14_6 (by decide), b1_6_keep _ main_v14_6 (by decide), b1_5_keep _ main_v14_6 (by decide), b1_4_keep _ main_v14_6 (by decide), b1_3_keep _ main_v14_6 (by decide), b1_2_keep _ main_v14_6 (by decide), b1_1_keep _ main_v14_6 (by decide), b1_0_keep _ main_v14_6 (by decide), cond1_keep _ main_v14_6 (by decide), ctr1 c k, Scf.iv_succ]
    rfl

set_option backward.isDefEq.respectTransparency.types false in
/-- The test of loop 1 holds exactly at the first 2048 trips and touches nothing but its two words. -/
theorem test1 : LoopCond (pcfgs (F := F)) defs₀ Variants.none loops Rw (main_while1_cond (F := F)) cond1 body1 (B0 m) 2048 := by
  intro k hk c bd
  have hctr := ctr1 m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (At1 m k c) main_v14_6 HostLoop.idx0)
        (HloOp.result _ (At1 m k c) main_while1c_c_25 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]
  · rw [after_cons, after_cons, after_nil]; iexact Hh
  iexact HR

/-! ## The run -/

/-- @main's segments in order. -/
abbrev segs : List (CSeg (pcfgs (F := F)) adm defs₀ Variants.none L lv loops tk) :=
  segsOf _ _ _ _ _ _ _ _ Rw [pre] hpre (launchContents m)
    ++ (loopSeg _ _ _ _ _ _ _ _ 0 main_while0_cond main_while0_body rfl cond0 body0 hbody0 body0_chain 2048 (A0 m) Rw (test0 m)
      :: (segsOf _ _ _ _ _ _ _ _ Rw [mid] hmid (A1 m)
        ++ [loopSeg _ _ _ _ _ _ _ _ 1 main_while1_cond main_while1_body rfl cond1 body1 hbody1 body1_chain 2048 (B0 m) Rw (test1 m)]))

theorem segs_prog : (segs m).map CSeg.prog = ([seq pre, HostLoop.enter 0, seq mid, HostLoop.enter 1] :
    List (Prog (TpuEff nD τ sig (Elt F) (HostLoop.Sig (Pipeline.Sig Λ₀ (Fin 0) fun p => (pcfgs (F := F) p).Adm) 2) .tc) PUnit)) := by
  unfold segs
  rw [List.map_append, List.map_cons, List.map_append, segsOf_prog, segsOf_prog]
  rfl

theorem segs_chains : CSeg.Chains (fun c => iprop(held (c : Thread nD τ) (ucRefs τ sig) (launchContents m c) ∗ Rw c)) (segs m)
    (fun c => iprop(iprop(held (c : Thread nD τ) (ucRefs τ sig) (B1 m c)) ∗ ∃ W, owes (c : Thread nD τ) (0 : CellTallies nD τ sig Unit) W)) := by
  unfold segs
  exact CSeg.Chains.append (segsOf_chains _ _ _ _ _ _ _ _ Rw [pre] hpre _)
    ⟨fun _ => .rfl, CSeg.Chains.append (segsOf_chains _ _ _ _ _ _ _ _ Rw [mid] hmid _) ⟨fun _ => .rfl, fun _ => .rfl⟩⟩

theorem no_unscoped : ∀ sm : SemLoc sig, sm.isScoped .tc = true := by decide

/-- The run: every weakly fair execution terminates, every buffer ends at `B1`, every counter at zero. -/
theorem run : θ_run (defs (F := F)) (onTc (τ := τ) (main (F := F))) ⟨m, fun _ => 0, ρ⟩ (fun r =>
      (∀ (c : Dev nD) (b : Ref sig .tc), (Proc.devRef .tc b : DevRef τ sig).isScoped = false →
        r.2.mem ((c.tc : Thread nD τ).loc b) = B1 m c (Proc.devRef .tc b))
      ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cellOf_inj defs₀ Variants.none L lv loops tk m ρ main (segs m)
    (fun c Q => by
      rw [main_chain c]
      show wp _ _ _ (Pipeline.chain ((segs m).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (B1 m c)))
    (hch := segs_chains m)
    (hinit := by
      refine Pipeline.initEach L lv fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = B1 m c b)
    (hfin := fun c s' => by
      unfold held
      iintro ⟨Hh, HSI⟩
      ihave Hr := (pointsTo_read_all (ucRefs τ sig) (fun b => ((c : Dev nD), b)) (fun b => B1 m c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (no_unscoped g.2))⟩)

/-! ## The arguments -/

abbrev argRefs : List (Ref sig .tc) := [main_arg0, main_arg1, main_arg2, main_arg3, main_arg4, main_arg5]
theorem pre_args : ∀ a ∈ argRefs, a ∉ pre_W := ListAll.forall_mem_of_all_decide (by decide +kernel)
theorem mid_args : ∀ a ∈ argRefs, a ∉ mid_W := ListAll.forall_mem_of_all_decide (by decide +kernel)
theorem cond0_args : ∀ a ∈ argRefs, a ∉ cond0_W := ListAll.forall_mem_of_all_decide (by decide +kernel)
theorem cond1_args : ∀ a ∈ argRefs, a ∉ cond1_W := ListAll.forall_mem_of_all_decide (by decide +kernel)
theorem b0_0_args : ∀ a ∈ argRefs, a ∉ b0_0_W := ListAll.forall_mem_of_all_decide (by decide +kernel)
theorem b0_1_args : ∀ a ∈ argRefs, a ∉ b0_1_W := ListAll.forall_mem_of_all_decide (by decide +kernel)
theorem b0_2_args : ∀ a ∈ argRefs, a ∉ b0_2_W := ListAll.forall_mem_of_all_decide (by decide +kernel)
theorem b0_3_args : ∀ a ∈ argRefs, a ∉ b0_3_W := ListAll.forall_mem_of_all_decide (by decide +kernel)
theorem b0_4_args : ∀ a ∈ argRefs, a ∉ b0_4_W := ListAll.forall_mem_of_all_decide (by decide +kernel)
theorem b0_5_args : ∀ a ∈ argRefs, a ∉ b0_5_W := ListAll.forall_mem_of_all_decide (by decide +kernel)
theorem b0_6_args : ∀ a ∈ argRefs, a ∉ b0_6_W := ListAll.forall_mem_of_all_decide (by decide +kernel)
theorem b0_7_args : ∀ a ∈ argRefs, a ∉ b0_7_W := ListAll.forall_mem_of_all_decide (by decide +kernel)
theorem b1_0_args : ∀ a ∈ argRefs, a ∉ b1_0_W := ListAll.forall_mem_of_all_decide (by decide +kernel)
theorem b1_1_args : ∀ a ∈ argRefs, a ∉ b1_1_W := ListAll.forall_mem_of_all_decide (by decide +kernel)
theorem b1_2_args : ∀ a ∈ argRefs, a ∉ b1_2_W := ListAll.forall_mem_of_all_decide (by decide +kernel)
theorem b1_3_args : ∀ a ∈ argRefs, a ∉ b1_3_W := ListAll.forall_mem_of_all_decide (by decide +kernel)
theorem b1_4_args : ∀ a ∈ argRefs, a ∉ b1_4_W := ListAll.forall_mem_of_all_decide (by decide +kernel)
theorem b1_5_args : ∀ a ∈ argRefs, a ∉ b1_5_W := ListAll.forall_mem_of_all_decide (by decide +kernel)
theorem b1_6_args : ∀ a ∈ argRefs, a ∉ b1_6_W := ListAll.forall_mem_of_all_decide (by decide +kernel)
theorem b1_7_args : ∀ a ∈ argRefs, a ∉ b1_7_W := ListAll.forall_mem_of_all_decide (by decide +kernel)
theorem b1_8_args : ∀ a ∈ argRefs, a ∉ b1_8_W := ListAll.forall_mem_of_all_decide (by decide +kernel)
theorem At0_arg (c : Dev nD) (a : Ref sig .tc) (ha : a ∈ argRefs) : ∀ k, At0 m k c (Proc.devRef .tc a) = m ((c : Thread nD τ).loc a)
  | 0 => (pre_keep _ a (pre_args a ha))
  | k + 1 => by
    rw [show At0 m (k + 1) c = afterL body0 (after cond0 (At0 m k c)) from rfl]
    simp only [afterL_cons, afterL_nil]
    rw [b0_7_keep _ a (b0_7_args a ha), b0_6_keep _ a (b0_6_args a ha), b0_5_keep _ a (b0_5_args a ha), b0_4_keep _ a (b0_4_args a ha), b0_3_keep _ a (b0_3_args a ha), b0_2_keep _ a (b0_2_args a ha), b0_1_keep _ a (b0_1_args a ha), b0_0_keep _ a (b0_0_args a ha), cond0_keep _ a (cond0_args a ha), At0_arg c a ha k]
theorem At1_arg (c : Dev nD) (a : Ref sig .tc) (ha : a ∈ argRefs) : ∀ k, At1 m k c (Proc.devRef .tc a) = m ((c : Thread nD τ).loc a)
  | 0 => (mid_keep _ a (mid_args a ha)).trans ((cond0_keep _ a (cond0_args a ha)).trans (At0_arg m c a ha 2048))
  | k + 1 => by
    rw [show At1 m (k + 1) c = afterL body1 (after cond1 (At1 m k c)) from rfl]
    simp only [afterL_cons, afterL_nil]
    rw [b1_8_keep _ a (b1_8_args a ha), b1_7_keep _ a (b1_7_args a ha), b1_6_keep _ a (b1_6_args a ha), b1_5_keep _ a (b1_5_args a ha), b1_4_keep _ a (b1_4_args a ha), b1_3_keep _ a (b1_3_args a ha), b1_2_keep _ a (b1_2_args a ha), b1_1_keep _ a (b1_1_args a ha), b1_0_keep _ a (b1_0_args a ha), cond1_keep _ a (cond1_args a ha), At1_arg c a ha k]
theorem B1_arg (c : Dev nD) (a : Ref sig .tc) (ha : a ∈ argRefs) : B1 m c (Proc.devRef .tc a) = m ((c : Thread nD τ).loc a) :=
  (cond1_keep _ a (cond1_args a ha)).trans (At1_arg m c a ha 2048)

/-- The frame: the arguments end as launched, every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c main_arg0 rfl).trans (B1_arg m c main_arg0 (by decide)), (h.1 c main_arg1 rfl).trans (B1_arg m c main_arg1 (by decide)), (h.1 c main_arg2 rfl).trans (B1_arg m c main_arg2 (by decide)), (h.1 c main_arg3 rfl).trans (B1_arg m c main_arg3 (by decide)), (h.1 c main_arg4 rfl).trans (B1_arg m c main_arg4 (by decide)), (h.1 c main_arg5 rfl).trans (B1_arg m c main_arg5 (by decide))⟩, h.2⟩) (run m ρ)

end Cert.ReferenceIdeal.Own
-- ==== Proof.Rep.lean ====
module

public import proofs.«01_k».proof.Proof.Bwd0
public import Idealize.ShloMosaic.Lib.Pointwise
public import Mathlib.Data.Complex.Basic
public import Mathlib.Tactic.Ring
public import Mathlib.Tactic.IntervalCases

@[expose] public section

set_option maxRecDepth 16384

noncomputable section

namespace Cert.KernelIdeal.Own

open Idealize.ShloMosaic Idealize.ShloMosaic.TcCoe Idealize.ShloMosaic.Tactic
open Cert.KernelIdeal.Gen

/-- The state of the recurrence `s ↦ L * s + u n` after `n` steps from `c`. -/
def sc (L c : ℂ) (u : ℕ → ℂ) : ℕ → ℂ
  | 0 => c
  | n + 1 => L * sc L c u n + u n

theorem sc_add (L c : ℂ) (u : ℕ → ℂ) (m n : ℕ) : sc L (sc L c u m) (fun j => u (m + j)) n = sc L c u (m + n) := by
  induction n with
  | zero => rfl
  | succ n ih => show L * sc L (sc L c u m) (fun j => u (m + j)) n + u (m + n) = L * sc L c u (m + n) + u (m + n); rw [ih]

theorem sc_congr (L c : ℂ) {u v : ℕ → ℂ} (n : ℕ) (h : ∀ j, j < n → u j = v j) : sc L c u n = sc L c v n := by
  induction n with
  | zero => rfl
  | succ n ih =>
    show L * sc L c u n + u n = L * sc L c v n + v n
    rw [ih (fun j hj => h j (Nat.lt_succ_of_lt hj)), h n (Nat.lt_succ_self n)]

variable {a b : ℕ}

/-- Two arrays that hold the real and the imaginary parts of the numbers `z`. -/
def Rp (vr vi : FVec Ideal (⟨2, ![a, b]⟩ : Shape) .f32) (z : ℕ → ℕ → ℂ) : Prop :=
  ∀ y : (⟨2, ![a, b]⟩ : Shape).Idx, vr y = (((z (y 0).val (y 1).val).re : ℝ) : EReal) ∧ vi y = (((z (y 0).val (y 1).val).im : ℝ) : EReal)

variable {vr vi wr wi : FVec Ideal (⟨2, ![a, b]⟩ : Shape) .f32} {z w : ℕ → ℕ → ℂ}

theorem Rp.mul (h : Rp vr vi z) (k : Rp wr wi w) :
    Rp (subf (mulf vr wr) (mulf vi wi)) (addf (mulf vr wi) (mulf vi wr)) (fun r l => z r l * w r l) := by
  intro y
  constructor
  · show vr y * wr y - vi y * wi y = _
    rw [(h y).1, (h y).2, (k y).1, (k y).2, Complex.mul_re, ← EReal.coe_mul, ← EReal.coe_mul, ← EReal.coe_sub]
  · show vr y * wi y + vi y * wr y = _
    rw [(h y).1, (h y).2, (k y).1, (k y).2, Complex.mul_im, ← EReal.coe_mul, ← EReal.coe_mul, ← EReal.coe_add]

theorem Rp.add (h : Rp vr vi z) (k : Rp wr wi w) : Rp (addf vr wr) (addf vi wi) (fun r l => z r l + w r l) := by
  intro y
  constructor
  · show vr y + wr y = _
    rw [(h y).1, (k y).1, Complex.add_re, ← EReal.coe_add]
  · show vi y + wi y = _
    rw [(h y).2, (k y).2, Complex.add_im, ← EReal.coe_add]

theorem Rp.congr (h : Rp vr vi z) (e : ∀ r l, r < a → l < b → z r l = w r l) : Rp vr vi w := by
  intro y
  have := e (y 0).val (y 1).val (y 0).isLt (y 1).isLt
  rw [← this]; exact h y

/-- One row spread over eight. -/
theorem Rp.row {vr vi : FVec Ideal S1x1024 .f32} (h : Rp vr vi z) :
    Rp (broadcastTo S8x1024 vr broadcasts_S1x1024_S8x1024) (broadcastTo S8x1024 vi broadcasts_S1x1024_S8x1024) (fun _ l => z 0 l) := by
  intro y
  constructor
  · pointwise
    exact (h _).1
  · pointwise
    exact (h _).2

/-- A selection by a mask that is one or zero as `p` says. -/
theorem sel_if {α : Type} (p : Prop) [Decidable p] (m : BitVec 1) (hm : m = if p then 1#1 else 0#1) (x y : α) :
    Scalar.select m x y = if p then x else y := by
  subst hm
  by_cases h : p
  · rw [if_pos h, if_pos h]; rfl
  · rw [if_neg h, if_neg h]; rfl

theorem ge_mask : ∀ n : Fin 8, ∀ d : Fin 8, IntOp.cmpi .sge (BitVec.ofNat 32 n.val) (BitVec.ofNat 32 d.val) = if d.val ≤ n.val then 1#1 else 0#1 := by
  decide +kernel
theorem lt_mask : ∀ n : Fin 8, ∀ d : Fin 8, IntOp.cmpi .slt (BitVec.ofNat 32 n.val) (BitVec.ofNat 32 d.val) = if n.val < d.val then 1#1 else 0#1 := by
  decide +kernel
theorem eq_mask : ∀ n : Fin 8, ∀ d : Fin 8, IntOp.cmpi .eq (BitVec.ofNat 32 n.val) (BitVec.ofNat 32 d.val) = if n.val = d.val then 1#1 else 0#1 := by
  decide +kernel

/-- What a selection leaves at an index, once its source is known. -/
theorem sel_at {p : Prop} [Decidable p] {m : BitVec 1} (hm : m = if p then 1#1 else 0#1) {x : EReal} {u : ℝ} (hx : p → x = (u : EReal)) :
    Scalar.select m x (0 : EReal) = ((if p then u else 0 : ℝ) : EReal) := by
  rw [sel_if p m hm]
  by_cases h : p
  · rw [if_pos h, if_pos h, hx h]
  · rw [if_neg h, if_neg h, EReal.coe_zero]

/-- The rows moved down by one, zero coming in. -/
theorem Rp.down1 {vr vi : FVec Ideal S8x1024 .f32} (h : Rp vr vi z) :
    Rp (select k0_pay15 (dynamicRotate 0 1#32 none vr rotates_S8x1024_d0) (broadcast S8x1024 (Scalar.ofBits .f32 0x00000000#32)))
      (select k0_pay15 (dynamicRotate 0 1#32 none vi rotates_S8x1024_d0) (broadcast S8x1024 (Scalar.ofBits .f32 0x00000000#32)))
      (fun r l => if 1 ≤ r then z (r - 1) l else 0) := by
  intro y
  have hb : (y 0).val < 8 := (y 0).isLt
  have hi : 1 ≤ (y 0).val → ((y 0).val + 8 - 1) % 8 = (y 0).val - 1 := by omega
  constructor
  · pointwise [k0_pay15]
    refine (sel_at (p := 1 ≤ (y 0).val) (u := (z ((y 0).val - 1) (y 1).val).re) (ge_mask ⟨(y 0).val, hb⟩ ⟨1, by omega⟩) (fun hp => ?_)).trans ?_
    · rw [(h _).1]
      simp only [hi hp]; rfl
    · split <;> simp
  · pointwise [k0_pay15]
    refine (sel_at (p := 1 ≤ (y 0).val) (u := (z ((y 0).val - 1) (y 1).val).im) (ge_mask ⟨(y 0).val, hb⟩ ⟨1, by omega⟩) (fun hp => ?_)).trans ?_
    · rw [(h _).2]
      simp only [hi hp]; rfl
    · split <;> simp

/-- The rows moved down by two, zero coming in. -/
theorem Rp.down2 {vr vi : FVec Ideal S8x1024 .f32} (h : Rp vr vi z) :
    Rp (select k0_pay20 (dynamicRotate 0 2#32 none vr rotates_S8x1024_d0) (broadcast S8x1024 (Scalar.ofBits .f32 0x00000000#32)))
      (select k0_pay20 (dynamicRotate 0 2#32 none vi rotates_S8x1024_d0) (broadcast S8x1024 (Scalar.ofBits .f32 0x00000000#32)))
      (fun r l => if 2 ≤ r then z (r - 2) l else 0) := by
  intro y
  have hb : (y 0).val < 8 := (y 0).isLt
  have hi : 2 ≤ (y 0).val → ((y 0).val + 8 - 2) % 8 = (y 0).val - 2 := by omega
  constructor
  · pointwise [k0_pay20]
    refine (sel_at (p := 2 ≤ (y 0).val) (u := (z ((y 0).val - 2) (y 1).val).re) (ge_mask ⟨(y 0).val, hb⟩ ⟨2, by omega⟩) (fun hp => ?_)).trans ?_
    · rw [(h _).1]
      simp only [hi hp]; rfl
    · split <;> simp
  · pointwise [k0_pay20]
    refine (sel_at (p := 2 ≤ (y 0).val) (u := (z ((y 0).val - 2) (y 1).val).im) (ge_mask ⟨(y 0).val, hb⟩ ⟨2, by omega⟩) (fun hp => ?_)).trans ?_
    · rw [(h _).2]
      simp only [hi hp]; rfl
    · split <;> simp

/-- The rows moved down by four, zero coming in. -/
theorem Rp.down4 {vr vi : FVec Ideal S8x1024 .f32} (h : Rp vr vi z) :
    Rp (select (k0_pay2 (iota .tc S8x1024 32 [0] iota_S8x1024_d0_w32)) (dynamicRotate 0 4#32 none vr rotates_S8x1024_d0) (broadcast S8x1024 (Scalar.ofBits .f32 0x00000000#32)))
      (select (k0_pay2 (iota .tc S8x1024 32 [0] iota_S8x1024_d0_w32)) (dynamicRotate 0 4#32 none vi rotates_S8x1024_d0) (broadcast S8x1024 (Scalar.ofBits .f32 0x00000000#32)))
      (fun r l => if 4 ≤ r then z (r - 4) l else 0) := by
  intro y
  have hb : (y 0).val < 8 := (y 0).isLt
  have hi : 4 ≤ (y 0).val → ((y 0).val + 8 - 4) % 8 = (y 0).val - 4 := by omega
  constructor
  · pointwise [k0_pay2]
    refine (sel_at (p := 4 ≤ (y 0).val) (u := (z ((y 0).val - 4) (y 1).val).re) (ge_mask ⟨(y 0).val, hb⟩ ⟨4, by omega⟩) (fun hp => ?_)).trans ?_
    · rw [(h _).1]
      simp only [hi hp]; rfl
    · split <;> simp
  · pointwise [k0_pay2]
    refine (sel_at (p := 4 ≤ (y 0).val) (u := (z ((y 0).val - 4) (y 1).val).im) (ge_mask ⟨(y 0).val, hb⟩ ⟨4, by omega⟩) (fun hp => ?_)).trans ?_
    · rw [(h _).2]
      simp only [hi hp]; rfl
    · split <;> simp

/-- The rows moved up by one, zero coming in. -/
theorem Rp.up1 {vr vi : FVec Ideal S8x1024 .f32} (h : Rp vr vi z) :
    Rp (select k1_pay4 (dynamicRotate 0 7#32 none vr rotates_S8x1024_d0) (broadcast S8x1024 (Scalar.ofBits .f32 0x00000000#32)))
      (select k1_pay4 (dynamicRotate 0 7#32 none vi rotates_S8x1024_d0) (broadcast S8x1024 (Scalar.ofBits .f32 0x00000000#32)))
      (fun r l => if r < 7 then z (r + 1) l else 0) := by
  intro y
  have hb : (y 0).val < 8 := (y 0).isLt
  have hi : (y 0).val < 7 → ((y 0).val + 8 - 7) % 8 = (y 0).val + 1 := by omega
  constructor
  · pointwise [k1_pay4]
    refine (sel_at (p := (y 0).val < 7) (u := (z ((y 0).val + 1) (y 1).val).re) (lt_mask ⟨(y 0).val, hb⟩ ⟨7, by omega⟩) (fun hp => ?_)).trans ?_
    · rw [(h _).1]
      simp only [hi hp]; rfl
    · split <;> simp
  · pointwise [k1_pay4]
    refine (sel_at (p := (y 0).val < 7) (u := (z ((y 0).val + 1) (y 1).val).im) (lt_mask ⟨(y 0).val, hb⟩ ⟨7, by omega⟩) (fun hp => ?_)).trans ?_
    · rw [(h _).2]
      simp only [hi hp]; rfl
    · split <;> simp

/-- The rows moved up by two, zero coming in. -/
theorem Rp.up2 {vr vi : FVec Ideal S8x1024 .f32} (h : Rp vr vi z) :
    Rp (select k1_pay9 (dynamicRotate 0 6#32 none vr rotates_S8x1024_d0) (broadcast S8x1024 (Scalar.ofBits .f32 0x00000000#32)))
      (select k1_pay9 (dynamicRotate 0 6#32 none vi rotates_S8x1024_d0) (broadcast S8x1024 (Scalar.ofBits .f32 0x00000000#32)))
      (fun r l => if r < 6 then z (r + 2) l else 0) := by
  intro y
  have hb : (y 0).val < 8 := (y 0).isLt
  have hi : (y 0).val < 6 → ((y 0).val + 8 - 6) % 8 = (y 0).val + 2 := by omega
  constructor
  · pointwise [k1_pay9]
    refine (sel_at (p := (y 0).val < 6) (u := (z ((y 0).val + 2) (y 1).val).re) (lt_mask ⟨(y 0).val, hb⟩ ⟨6, by omega⟩) (fun hp => ?_)).trans ?_
    · rw [(h _).1]
      simp only [hi hp]; rfl
    · split <;> simp
  · pointwise [k1_pay9]
    refine (sel_at (p := (y 0).val < 6) (u := (z ((y 0).val + 2) (y 1).val).im) (lt_mask ⟨(y 0).val, hb⟩ ⟨6, by omega⟩) (fun hp => ?_)).trans ?_
    · rw [(h _).2]
      simp only [hi hp]; rfl
    · split <;> simp

/-- The rows moved up by four, zero coming in. -/
theorem Rp.up4 {vr vi : FVec Ideal S8x1024 .f32} (h : Rp vr vi z) :
    Rp (select (k1_pay17 (iota .tc S8x1024 32 [0] iota_S8x1024_d0_w32)) (dynamicRotate 0 4#32 none vr rotates_S8x1024_d0) (broadcast S8x1024 (Scalar.ofBits .f32 0x00000000#32)))
      (select (k1_pay17 (iota .tc S8x1024 32 [0] iota_S8x1024_d0_w32)) (dynamicRotate 0 4#32 none vi rotates_S8x1024_d0) (broadcast S8x1024 (Scalar.ofBits .f32 0x00000000#32)))
      (fun r l => if r < 4 then z (r + 4) l else 0) := by
  intro y
  have hb : (y 0).val < 8 := (y 0).isLt
  have hi : (y 0).val < 4 → ((y 0).val + 8 - 4) % 8 = (y 0).val + 4 := by omega
  constructor
  · pointwise [k1_pay17]
    refine (sel_at (p := (y 0).val < 4) (u := (z ((y 0).val + 4) (y 1).val).re) (lt_mask ⟨(y 0).val, hb⟩ ⟨4, by omega⟩) (fun hp => ?_)).trans ?_
    · rw [(h _).1]
      simp only [hi hp]; rfl
    · split <;> simp
  · pointwise [k1_pay17]
    refine (sel_at (p := (y 0).val < 4) (u := (z ((y 0).val + 4) (y 1).val).im) (lt_mask ⟨(y 0).val, hb⟩ ⟨4, by omega⟩) (fun hp => ?_)).trans ?_
    · rw [(h _).2]
      simp only [hi hp]; rfl
    · split <;> simp

theorem Rp.re_at (h : Rp vr vi z) (p : Fin a) (q : Fin b) : vr (ix2 p q) = (((z p.val q.val).re : ℝ) : EReal) := (h _).1
theorem Rp.im_at (h : Rp vr vi z) (p : Fin a) (q : Fin b) : vi (ix2 p q) = (((z p.val q.val).im : ℝ) : EReal) := (h _).2

/-- Two arrays side by side in one, real parts in the left half of the lanes, imaginary parts in the right. -/
def Pk (v : FVec Ideal (⟨2, ![a, 2048]⟩ : Shape) .f32) (z : ℕ → ℕ → ℂ) : Prop :=
  ∀ y : (⟨2, ![a, 2048]⟩ : Shape).Idx, v y = if (y 1).val < 1024 then (((z (y 0).val (y 1).val).re : ℝ) : EReal) else (((z (y 0).val ((y 1).val - 1024)).im : ℝ) : EReal)

theorem Pk.congr {v : FVec Ideal (⟨2, ![a, 2048]⟩ : Shape) .f32} {z w : ℕ → ℕ → ℂ} (h : Pk v z) (e : ∀ r l, r < a → l < 1024 → z r l = w r l) : Pk v w := by
  intro y
  have h1 : (y 1).val < 2048 := (y 1).isLt
  rw [h y]
  by_cases hl : (y 1).val < 1024
  · rw [if_pos hl, if_pos hl, e _ _ (y 0).isLt hl]
  · rw [if_neg hl, if_neg hl, e _ _ (y 0).isLt (by omega)]

theorem Pk.split {v : FVec Ideal S8x2048 .f32} {z : ℕ → ℕ → ℂ} (h : Pk v z) :
    Rp (extractStridedSlice S8x1024 ![0, 0] v slices_S8x2048_o0_0_S8x1024) (extractStridedSlice S8x1024 ![0, 1024] v slices_S8x2048_o0_1024_S8x1024) z := by
  intro y
  have h1 : (y 1).val < 1024 := (y 1).isLt
  constructor
  · pointwise
    rw [h _]
    exact (if_pos h1)
  · pointwise
    rw [h _]
    exact (if_neg (by show ¬ 1024 + (y 1).val < 1024; omega)).trans (by congr 3; exact Nat.add_sub_cancel_left _ _)

theorem Rp.join {vr vi : FVec Ideal S8x1024 .f32} {z : ℕ → ℕ → ℂ} (h : Rp vr vi z) :
    Pk (concatenate S8x2048 1 [⟨S8x1024, vr⟩, ⟨S8x1024, vi⟩] concatenates_S8x1024_S8x1024_S8x2048_d1) z := by
  intro y
  pointwise
  split
  · exact (h _).1
  · exact (h _).2

/-- One row of eight. -/
theorem Rp.row7 {vr vi : FVec Ideal S8x1024 .f32} {z : ℕ → ℕ → ℂ} (h : Rp vr vi z) :
    Rp (extractStridedSlice S1x1024 ![7, 0] vr slices_S8x1024_o7_0_S1x1024) (extractStridedSlice S1x1024 ![7, 0] vi slices_S8x1024_o7_0_S1x1024) (fun _ l => z 7 l) := by
  intro y
  have h0 : (y 0).val < 1 := (y 0).isLt
  have e0 : (y 0).val = 0 := by omega
  constructor
  · pointwise
    refine (h _).1.trans ?_
    rfl
  · pointwise
    refine (h _).2.trans ?_
    rfl
theorem Rp.row0 {vr vi : FVec Ideal S8x1024 .f32} {z : ℕ → ℕ → ℂ} (h : Rp vr vi z) :
    Rp (extractStridedSlice S1x1024 ![0, 0] vr slices_S8x1024_o0_0_S1x1024) (extractStridedSlice S1x1024 ![0, 0] vi slices_S8x1024_o0_0_S1x1024) (fun _ l => z 0 l) := by
  intro y
  have h0 : (y 0).val < 1 := (y 0).isLt
  have e0 : (y 0).val = 0 := by omega
  constructor
  · pointwise
    refine (h _).1.trans ?_
    rfl
  · pointwise
    refine (h _).2.trans ?_
    rfl

/-- Eight rows stacked. -/
theorem Rp.stack {v0 v1 v2 v3 v4 v5 v6 v7 w0 w1 w2 w3 w4 w5 w6 w7 : FVec Ideal S1x1024 .f32} {z0 z1 z2 z3 z4 z5 z6 z7 : ℕ → ℕ → ℂ}
    (h0 : Rp v0 w0 z0) (h1 : Rp v1 w1 z1) (h2 : Rp v2 w2 z2) (h3 : Rp v3 w3 z3) (h4 : Rp v4 w4 z4) (h5 : Rp v5 w5 z5) (h6 : Rp v6 w6 z6) (h7 : Rp v7 w7 z7)
    (hc : Shape.Concatenates [S1x1024, S1x1024, S1x1024, S1x1024, S1x1024, S1x1024, S1x1024, S1x1024] S8x1024 0) {z : ℕ → ℕ → ℂ}
    (e : ∀ l, l < 1024 → z 0 l = z0 0 l ∧ z 1 l = z1 0 l ∧ z 2 l = z2 0 l ∧ z 3 l = z3 0 l ∧ z 4 l = z4 0 l ∧ z 5 l = z5 0 l ∧ z 6 l = z6 0 l ∧ z 7 l = z7 0 l) :
    Rp (concatenate S8x1024 0 [⟨S1x1024, v0⟩, ⟨S1x1024, v1⟩, ⟨S1x1024, v2⟩, ⟨S1x1024, v3⟩, ⟨S1x1024, v4⟩, ⟨S1x1024, v5⟩, ⟨S1x1024, v6⟩, ⟨S1x1024, v7⟩] hc)
      (concatenate S8x1024 0 [⟨S1x1024, w0⟩, ⟨S1x1024, w1⟩, ⟨S1x1024, w2⟩, ⟨S1x1024, w3⟩, ⟨S1x1024, w4⟩, ⟨S1x1024, w5⟩, ⟨S1x1024, w6⟩, ⟨S1x1024, w7⟩] hc) z := by
  intro y
  have hb : (y 0).val < 8 := (y 0).isLt
  obtain ⟨e0, e1, e2, e3, e4, e5, e6, e7⟩ := e (y 1).val (y 1).isLt
  constructor
  · pointwise
    rcases (by omega : (y 0).val = 0 ∨ (y 0).val = 1 ∨ (y 0).val = 2 ∨ (y 0).val = 3 ∨ (y 0).val = 4 ∨ (y 0).val = 5 ∨ (y 0).val = 6 ∨ (y 0).val = 7) with e | e | e | e | e | e | e | e
    · rw [dif_pos (by omega)]
      refine (h0 _).1.trans ?_
      show (((z0 ((y 0).val) (y 1).val).re : ℝ) : EReal) = _
      rw [e, e0]
    · rw [dif_neg (by omega), dif_pos (by omega)]
      refine (h1 _).1.trans ?_
      show (((z1 ((y 0).val - 1) (y 1).val).re : ℝ) : EReal) = _
      rw [e, e1]
    · rw [dif_neg (by omega), dif_neg (by omega), dif_pos (by omega)]
      refine (h2 _).1.trans ?_
      show (((z2 ((y 0).val - 1 - 1) (y 1).val).re : ℝ) : EReal) = _
      rw [e, e2]
    · rw [dif_neg (by omega), dif_neg (by omega), dif_neg (by omega), dif_pos (by omega)]
      refine (h3 _).1.trans ?_
      show (((z3 ((y 0).val - 1 - 1 - 1) (y 1).val).re : ℝ) : EReal) = _
      rw [e, e3]
    · rw [dif_neg (by omega), dif_neg (by omega), dif_neg (by omega), dif_neg (by omega), dif_pos (by omega)]
      refine (h4 _).1.trans ?_
      show (((z4 ((y 0).val - 1 - 1 - 1 - 1) (y 1).val).re : ℝ) : EReal) = _
      rw [e, e4]
    · rw [dif_neg (by omega), dif_neg (by omega), dif_neg (by omega), dif_neg (by omega), dif_neg (by omega), dif_pos (by omega)]
      refine (h5 _).1.trans ?_
      show (((z5 ((y 0).val - 1 - 1 - 1 - 1 - 1) (y 1).val).re : ℝ) : EReal) = _
      rw [e, e5]
    · rw [dif_neg (by omega), dif_neg (by omega), dif_neg (by omega), dif_neg (by omega), dif_neg (by omega), dif_neg (by omega), dif_pos (by omega)]
      refine (h6 _).1.trans ?_
      show (((z6 ((y 0).val - 1 - 1 - 1 - 1 - 1 - 1) (y 1).val).re : ℝ) : EReal) = _
      rw [e, e6]
    · rw [dif_neg (by omega), dif_neg (by omega), dif_neg (by omega), dif_neg (by omega), dif_neg (by omega), dif_neg (by omega), dif_neg (by omega)]
      refine (h7 _).1.trans ?_
      show (((z7 ((y 0).val - 1 - 1 - 1 - 1 - 1 - 1 - 1) (y 1).val).re : ℝ) : EReal) = _
      rw [e, e7]
  · pointwise
    rcases (by omega : (y 0).val = 0 ∨ (y 0).val = 1 ∨ (y 0).val = 2 ∨ (y 0).val = 3 ∨ (y 0).val = 4 ∨ (y 0).val = 5 ∨ (y 0).val = 6 ∨ (y 0).val = 7) with e | e | e | e | e | e | e | e
    · rw [dif_pos (by omega)]
      refine (h0 _).2.trans ?_
      show (((z0 ((y 0).val) (y 1).val).im : ℝ) : EReal) = _
      rw [e, e0]
    · rw [dif_neg (by omega), dif_pos (by omega)]
      refine (h1 _).2.trans ?_
      show (((z1 ((y 0).val - 1) (y 1).val).im : ℝ) : EReal) = _
      rw [e, e1]
    · rw [dif_neg (by omega), dif_neg (by omega), dif_pos (by omega)]
      refine (h2 _).2.trans ?_
      show (((z2 ((y 0).val - 1 - 1) (y 1).val).im : ℝ) : EReal) = _
      rw [e, e2]
    · rw [dif_neg (by omega), dif_neg (by omega), dif_neg (by omega), dif_pos (by omega)]
      refine (h3 _).2.trans ?_
      show (((z3 ((y 0).val - 1 - 1 - 1) (y 1).val).im : ℝ) : EReal) = _
      rw [e, e3]
    · rw [dif_neg (by omega), dif_neg (by omega), dif_neg (by omega), dif_neg (by omega), dif_pos (by omega)]
      refine (h4 _).2.trans ?_
      show (((z4 ((y 0).val - 1 - 1 - 1 - 1) (y 1).val).im : ℝ) : EReal) = _
      rw [e, e4]
    · rw [dif_neg (by omega), dif_neg (by omega), dif_neg (by omega), dif_neg (by omega), dif_neg (by omega), dif_pos (by omega)]
      refine (h5 _).2.trans ?_
      show (((z5 ((y 0).val - 1 - 1 - 1 - 1 - 1) (y 1).val).im : ℝ) : EReal) = _
      rw [e, e5]
    · rw [dif_neg (by omega), dif_neg (by omega), dif_neg (by omega), dif_neg (by omega), dif_neg (by omega), dif_neg (by omega), dif_pos (by omega)]
      refine (h6 _).2.trans ?_
      show (((z6 ((y 0).val - 1 - 1 - 1 - 1 - 1 - 1) (y 1).val).im : ℝ) : EReal) = _
      rw [e, e6]
    · rw [dif_neg (by omega), dif_neg (by omega), dif_neg (by omega), dif_neg (by omega), dif_neg (by omega), dif_neg (by omega), dif_neg (by omega)]
      refine (h7 _).2.trans ?_
      show (((z7 ((y 0).val - 1 - 1 - 1 - 1 - 1 - 1 - 1) (y 1).val).im : ℝ) : EReal) = _
      rw [e, e7]

end Cert.KernelIdeal.Own

end
-- ==== Proof.Tile.lean ====
module

public import proofs.«01_k».proof.Proof.Rep

@[expose] public section

set_option maxRecDepth 16384

noncomputable section

namespace Cert.KernelIdeal.Own

open Idealize.ShloMosaic Idealize.ShloMosaic.TcCoe Idealize.ShloMosaic.Tactic
open Cert.KernelIdeal.Gen
open scoped ComplexConjugate

variable {a b : ℕ}

theorem Rp.id {vr vi : FVec Ideal (⟨2, ![a, b]⟩ : Shape) .f32} {z : ℕ → ℕ → ℂ} (h : Rp vr vi z)
    (e : (⟨2, ![a, b]⟩ : Shape).ShapeCasts ⟨2, ![a, b]⟩) (e' : (⟨2, ![a, b]⟩ : Shape).ShapeCasts ⟨2, ![a, b]⟩) : Rp (shapeCast _ vr e) (shapeCast _ vi e') z := by
  rw [shapeCast_id, shapeCast_id]; exact h

/-- The powers of the decay, one a row. -/
theorem fPow {r i : FVec Ideal S1x1024 .f32} {L : ℕ → ℂ} (h : Rp r i (fun _ l => L l)) :
    Rp (k0_pay40 r i) (k0_pay41 r i) (fun n l => L l ^ (n + 1)) := by
  have p1 : Rp (k0_pay26 r) (k0_pay27 i) (fun _ l => L l) := h.id _ _
  have p2 : Rp (k0_pay28 r i) (k0_pay29 r i) _ := p1.mul p1
  have p3 : Rp (k0_pay30 r i) (k0_pay31 r i) _ := p2.mul p1
  have p4 : Rp (k0_pay32 r i) (k0_pay33 r i) _ := p3.mul p1
  have p5 : Rp (k0_pay34 r i) (k0_pay35 r i) _ := p4.mul p1
  have p6 : Rp (k0_pay36 r i) (k0_pay37 r i) _ := p5.mul p1
  have p7 : Rp (k0_pay38 r i) (k0_pay39 r i) _ := p6.mul p1
  have p8 := p7.mul p1
  exact Rp.stack p1 p2 p3 p4 p5 p6 p7 p8 concatenates_S1x1024_S1x1024_S1x1024_S1x1024_S1x1024_S1x1024_S1x1024_S1x1024_S8x1024_d0 (fun l _ => ⟨by ring, by ring, by ring, by ring, by ring, by ring, by ring, by ring⟩)

variable {L C : ℕ → ℂ} {u : ℕ → ℕ → ℂ}

/-- The states of a tile before they are split and joined. -/
theorem fTile_rp {r i : Vec Ideal S1x1024 .f32} {x : Vec Ideal S8x2048 .f32} {c : Vec Ideal S1x1024 .f32 × Vec Ideal S1x1024 .f32}
    (h : Rp r i (fun _ l => L l)) (hx : Pk x u) (hc : Rp c.1 c.2 (fun _ l => C l)) :
    Rp (k0_pay5 (k0_pay32 r i) (k0_pay33 r i) (k0_pay40 r i) (k0_pay41 r i) c.1 c.2
        (iota .tc S8x1024 32 [0] iota_S8x1024_d0_w32) (k0_pay19 (k0_pay26 r) (k0_pay27 i) x)
        (k0_pay23 (k0_pay26 r) (k0_pay27 i) (k0_pay28 r i) (k0_pay29 r i) x)
        (k0_pay24 (k0_pay26 r) (k0_pay27 i) (k0_pay28 r i) (k0_pay29 r i) x))
      (k0_pay6 (k0_pay32 r i) (k0_pay33 r i) (k0_pay40 r i) (k0_pay41 r i) c.1 c.2
        (iota .tc S8x1024 32 [0] iota_S8x1024_d0_w32) (k0_pay19 (k0_pay26 r) (k0_pay27 i) x)
        (k0_pay23 (k0_pay26 r) (k0_pay27 i) (k0_pay28 r i) (k0_pay29 r i) x)
        (k0_pay24 (k0_pay26 r) (k0_pay27 i) (k0_pay28 r i) (k0_pay29 r i) x))
      (fun n l => sc (L l) (C l) (fun j => u j l) (n + 1)) := by
  have p1 : Rp (k0_pay26 r) (k0_pay27 i) (fun _ l => L l) := h.id _ _
  have p2 : Rp (k0_pay28 r i) (k0_pay29 r i) _ := p1.mul p1
  have p3 : Rp (k0_pay30 r i) (k0_pay31 r i) _ := p2.mul p1
  have p4 : Rp (k0_pay32 r i) (k0_pay33 r i) _ := p3.mul p1
  have x0 : Rp (k0_pay13 x) (k0_pay14 x) u := by
    unfold k0_pay13 k0_pay14 k0_pay12
    rw [shapeCast_id]; exact hx.split
  have x1 : Rp (k0_pay18 (k0_pay26 r) (k0_pay27 i) x) (k0_pay19 (k0_pay26 r) (k0_pay27 i) x) _ := x0.add (x0.down1.mul p1.row)
  have x2 : Rp (k0_pay24 (k0_pay26 r) (k0_pay27 i) (k0_pay28 r i) (k0_pay29 r i) x)
      (k0_pay1 (k0_pay19 (k0_pay26 r) (k0_pay27 i) x) (k0_pay23 (k0_pay26 r) (k0_pay27 i) (k0_pay28 r i) (k0_pay29 r i) x)) _ :=
    x1.add (x1.down2.mul p2.row)
  have x3 := x2.add (x2.down4.mul p4.row)
  have x4 := x3.add ((fPow h).mul hc.row)
  refine Rp.congr x4 (fun n l hn hl => ?_)
  interval_cases n <;> simp [sc] <;> ring

theorem fTile_pk {r i : Vec Ideal S1x1024 .f32} {x : Vec Ideal S8x2048 .f32} {c : Vec Ideal S1x1024 .f32 × Vec Ideal S1x1024 .f32}
    (h : Rp r i (fun _ l => L l)) (hx : Pk x u) (hc : Rp c.1 c.2 (fun _ l => C l)) :
    Pk (fTile r i x c) (fun n l => sc (L l) (C l) (fun j => u j l) (n + 1)) := (fTile_rp h hx hc).join

theorem fNext_rp {r i : Vec Ideal S1x1024 .f32} {x : Vec Ideal S8x2048 .f32} {c : Vec Ideal S1x1024 .f32 × Vec Ideal S1x1024 .f32}
    (h : Rp r i (fun _ l => L l)) (hx : Pk x u) (hc : Rp c.1 c.2 (fun _ l => C l)) :
    Rp (fNext r i x c).1 (fNext r i x c).2 (fun _ l => sc (L l) (C l) (fun j => u j l) 8) := (fTile_rp h hx hc).row7

theorem Rp.conj0 {i r : FVec Ideal S1x1024 .f32} {L : ℕ → ℂ} (h : Rp r i (fun _ l => L l)) :
    Rp (k1_pay26 r) (k1_pay27 i) (fun _ l => conj (L l)) := by
  intro y
  constructor
  · unfold k1_pay26
    rw [shapeCast_id, (h y).1, Complex.conj_re]
  · unfold k1_pay27
    rw [shapeCast_id]
    pointwise
    rw [(h y).2, Complex.conj_im, zero_sub, EReal.coe_neg]

/-- The powers of the conjugate decay, one a row. -/
theorem bPow {r i : FVec Ideal S1x1024 .f32} {L : ℕ → ℂ} (p1 : Rp (k1_pay26 r) (k1_pay27 i) (fun _ l => L l)) :
    Rp (k1_pay43 (k1_pay26 r) (k1_pay28 r i) (k1_pay30 r i) (k1_pay32 r i) (k1_pay34 r i) (k1_pay36 r i) (k1_pay38 r i) (k1_pay40 r i))
      (k1_pay44 (k1_pay27 i) (k1_pay29 r i) (k1_pay31 r i) (k1_pay33 r i) (k1_pay35 r i) (k1_pay37 r i) (k1_pay39 r i) (k1_pay41 r i) (k1_pay42 r i))
      (fun n l => L l ^ (n + 1)) := by
  have p2 : Rp (k1_pay28 r i) (k1_pay29 r i) _ := p1.mul p1
  have p3 : Rp (k1_pay30 r i) (k1_pay31 r i) _ := p2.mul p1
  have p4 : Rp (k1_pay32 r i) (k1_pay33 r i) _ := p3.mul p1
  have p5 : Rp (k1_pay34 r i) (k1_pay35 r i) _ := p4.mul p1
  have p6 : Rp (k1_pay36 r i) (k1_pay37 r i) _ := p5.mul p1
  have p7 : Rp (k1_pay38 r i) (k1_pay39 r i) _ := p6.mul p1
  have p8 : Rp (k1_pay40 r i) (addf (k1_pay41 r i) (k1_pay42 r i)) _ := p7.mul p1
  exact Rp.stack p1 p2 p3 p4 p5 p6 p7 p8 concatenates_S1x1024_S1x1024_S1x1024_S1x1024_S1x1024_S1x1024_S1x1024_S1x1024_S8x1024_d0 (fun l _ => ⟨by ring, by ring, by ring, by ring, by ring, by ring, by ring, by ring⟩)

/-- Eight selections by the row's number, one inside the other. -/
theorem sel8 {n : ℕ} (hn : n < 8) (f : ℕ → EReal) {x0 x1 x2 x3 x4 x5 x6 x7 : EReal}
    (h0 : x0 = f 0) (h1 : x1 = f 1) (h2 : x2 = f 2) (h3 : x3 = f 3) (h4 : x4 = f 4) (h5 : x5 = f 5) (h6 : x6 = f 6) (h7 : x7 = f 7) :
    (Scalar.select (IntOp.cmpi CmpIPredicate.eq (BitVec.ofNat 32 n) 7#32) x7 (Scalar.select (IntOp.cmpi CmpIPredicate.eq (BitVec.ofNat 32 n) 6#32) x6 (Scalar.select (IntOp.cmpi CmpIPredicate.eq (BitVec.ofNat 32 n) 5#32) x5 (Scalar.select (IntOp.cmpi CmpIPredicate.eq (BitVec.ofNat 32 n) 4#32) x4 (Scalar.select (IntOp.cmpi CmpIPredicate.eq (BitVec.ofNat 32 n) 3#32) x3 (Scalar.select (IntOp.cmpi CmpIPredicate.eq (BitVec.ofNat 32 n) 2#32) x2 (Scalar.select (IntOp.cmpi CmpIPredicate.eq (BitVec.ofNat 32 n) 1#32) x1 (Scalar.select (IntOp.cmpi CmpIPredicate.eq (BitVec.ofNat 32 n) 0#32) x0 (0 : EReal))))))))) = f n := by
  interval_cases n
  exacts [h0, h1, h2, h3, h4, h5, h6, h7]

/-- The same in reversed order. -/
theorem bRev_rp {r i : FVec Ideal S1x1024 .f32} {L : ℕ → ℂ} (p1 : Rp (k1_pay26 r) (k1_pay27 i) (fun _ l => L l)) :
    Rp (bRevR r i) (bRevI r i) (fun n l => L l ^ (8 - n)) := by
  have h := bPow p1
  intro y
  have hb : (y 0).val < 8 := (y 0).isLt
  constructor
  · unfold bRevR k1_pay48 k1_pay46
    simp only [shapeCast_id]
    pointwise
    exact sel8 hb (fun n => (((L (y 1).val ^ (8 - n)).re : ℝ) : EReal)) (h.re_at 7 (y 1)) (h.re_at 6 (y 1)) (h.re_at 5 (y 1)) (h.re_at 4 (y 1))
      (h.re_at 3 (y 1)) (h.re_at 2 (y 1)) (h.re_at 1 (y 1)) (h.re_at 0 (y 1))
  · unfold bRevI k1_pay49 k1_pay45 k1_pay47
    simp only [shapeCast_id]
    pointwise
    exact sel8 hb (fun n => (((L (y 1).val ^ (8 - n)).im : ℝ) : EReal)) (h.im_at 7 (y 1)) (h.im_at 6 (y 1)) (h.im_at 5 (y 1)) (h.im_at 4 (y 1))
      (h.im_at 3 (y 1)) (h.im_at 2 (y 1)) (h.im_at 1 (y 1)) (h.im_at 0 (y 1))

/-- The cotangents of a tile. -/
theorem bTile_rp {r i : Vec Ideal S1x1024 .f32} {x : Vec Ideal S8x2048 .f32} {c : Acc Ideal}
    (h : Rp r i (fun _ l => L l)) (hx : Pk x u) (hc : Rp c.1 c.2.1 (fun _ l => C l)) :
    Rp (bRe r i x c) (bIm r i x c) (fun n l => sc (conj (L l)) (C l) (fun j => u (7 - j) l) (8 - n)) := by
  have p1 : Rp (k1_pay26 r) (k1_pay27 i) (fun _ l => conj (L l)) := h.conj0
  have p2 : Rp (k1_pay28 r i) (k1_pay29 r i) _ := p1.mul p1
  have p3 : Rp (k1_pay30 r i) (k1_pay31 r i) _ := p2.mul p1
  have p4 : Rp (k1_pay32 r i) (k1_pay33 r i) _ := p3.mul p1
  have x0 : Rp (k1_pay2 x) (k1_pay3 x) u := by
    unfold k1_pay2 k1_pay3 k1_pay1
    rw [shapeCast_id]; exact hx.split
  have x1 : Rp (k1_pay7 (k1_pay26 r) (k1_pay27 i) x) (k1_pay8 (k1_pay26 r) (k1_pay27 i) x) _ := x0.add (x0.up1.mul p1.row)
  have x2 : Rp (k1_pay15 (k1_pay7 (k1_pay26 r) (k1_pay27 i) x) (k1_pay12 (k1_pay26 r) (k1_pay27 i) (k1_pay28 r i) (k1_pay29 r i) x))
      (k1_pay16 (k1_pay8 (k1_pay26 r) (k1_pay27 i) x) (k1_pay13 (k1_pay26 r) (k1_pay27 i) (k1_pay29 r i) x) (k1_pay14 (k1_pay26 r) (k1_pay27 i) (k1_pay28 r i) x)) _ :=
    x1.add (x1.up2.mul p2.row)
  have x3 := x2.add (x2.up4.mul p4.row)
  have x4 := x3.add ((bRev_rp p1).mul hc.row)
  refine Rp.congr x4 (fun n l hn hl => ?_)
  interval_cases n <;> simp [sc] <;> ring

theorem bTile_pk {r i : Vec Ideal S1x1024 .f32} {x : Vec Ideal S8x2048 .f32} {c : Acc Ideal}
    (h : Rp r i (fun _ l => L l)) (hx : Pk x u) (hc : Rp c.1 c.2.1 (fun _ l => C l)) :
    Pk (bTile r i x c) (fun n l => sc (conj (L l)) (C l) (fun j => u (7 - j) l) (8 - n)) := (bTile_rp h hx hc).join

/-- The states one row back: the first row from the tile before. -/
theorem prev_pk {B S : FVec Ideal S8x2048 .f32} {P : ℕ → ℂ} {s : ℕ → ℕ → ℂ} (hB : ∀ l : Fin 2048, B (ix2 (7 : Fin 8) l) = if l.val < 1024 then (((P l.val).re : ℝ) : EReal) else (((P (l.val - 1024)).im : ℝ) : EReal))
    (hS : Pk S s) :
    Pk (select (cmpi .eq (iota .tc S8x2048 32 [0] iota_S8x2048_d0_w32) (broadcast S8x2048 0#32)) (dynamicRotate 0 1#32 none B rotates_S8x2048_d0)
      (dynamicRotate 0 1#32 none S rotates_S8x2048_d0)) (fun n l => if n = 0 then P l else s (n - 1) l) := by
  intro y
  have hb : (y 0).val < 8 := (y 0).isLt
  pointwise
  refine (sel_if _ _ (eq_mask ⟨(y 0).val, hb⟩ ⟨0, by omega⟩) _ _).trans ?_
  show (if (y 0).val = 0 then _ else _) = _
  by_cases h0 : (y 0).val = 0
  · rw [if_pos h0]
    have e : ((y 0).val + 8 - 1) % 8 = 7 := by omega
    simp only [e, if_pos h0]
    exact hB (y 1)
  · rw [if_neg h0]
    have e : ((y 0).val + 8 - 1) % 8 = (y 0).val - 1 := by omega
    simp only [e, if_neg h0]
    exact hS _

/-- The two partial sums after a trip. -/
theorem bAcc_rp {q : BitVec 32} {re im d e : FVec Ideal S8x1024 .f32} {hb : BitVec 1} {v w S : Vec Ideal S8x2048 .f32} {A D s : ℕ → ℕ → ℂ} {P : ℕ → ℂ}
    (hA : Rp re im A) (hD : Rp d e D) (hS : Pk S s)
    (hB : ∀ l : Fin 2048, (Scalar.select hb v (mulf (shapeCast S8x2048 w shapeCasts_S8x2048_S8x2048) (broadcast S8x2048 (Scalar.sitofp .f32 (Scalar.extui (Scalar.cmpi .slt q 3#32) : BitVec 32) : Ideal .f32)))) (ix2 (7 : Fin 8) l)
      = if l.val < 1024 then (((P l.val).re : ℝ) : EReal) else (((P (l.val - 1024)).im : ℝ) : EReal)) :
    Rp (k1_pay55 q d re im hb v w S) (k1_pay56 q e re im hb v w S) (fun n l => D n l + conj (if n = 0 then P l else s (n - 1) l) * A n l) := by
  have hp : Rp (k1_pay51 q hb v w S) (k1_pay52 q hb v w S) (fun n l => if n = 0 then P l else s (n - 1) l) := by
    have := prev_pk hB (S := shapeCast S8x2048 S shapeCasts_S8x2048_S8x2048) (s := s) (by rw [shapeCast_id]; exact hS)
    exact this.split
  intro y
  obtain ⟨a1, a2⟩ := hA y
  obtain ⟨d1, d2⟩ := hD y
  obtain ⟨p1, p2⟩ := hp y
  constructor
  · show d y + re y * k1_pay51 q hb v w S y + im y * k1_pay52 q hb v w S y = _
    rw [a1, a2, d1, p1, p2, ← EReal.coe_mul, ← EReal.coe_mul, ← EReal.coe_add, ← EReal.coe_add]
    congr 1
    simp only [Complex.add_re, Complex.mul_re, Complex.conj_re, Complex.conj_im]
    ring
  · show e y - re y * k1_pay52 q hb v w S y + im y * k1_pay51 q hb v w S y = _
    rw [a1, a2, d2, p1, p2, ← EReal.coe_mul, ← EReal.coe_mul, ← EReal.coe_sub, ← EReal.coe_add]
    congr 1
    simp only [Complex.add_im, Complex.mul_im, Complex.conj_re, Complex.conj_im]
    ring

end Cert.KernelIdeal.Own

end
-- ==== Proof.Chunk.lean ====
module

public import proofs.«01_k».proof.Proof.Tile
public import Idealize.ShloMosaic.Lib.Pipeline.ValueKit.Tiles

@[expose] public section

set_option maxRecDepth 16384

noncomputable section

namespace Cert.KernelIdeal.Own

open Idealize.ShloMosaic Idealize.ShloMosaic.TcCoe Idealize.ShloMosaic.Tactic
open Cert.KernelIdeal.Gen
open scoped ComplexConjugate

theorem off0 : ∀ k : Fin k0_t1_loop.trips, k0_off1 k 0 = 8 * k.val ∧ k0_off1 k 1 = 0 := by decide +kernel
theorem off1 : ∀ k : Fin k1_t1_loop.trips, k1_off1 k 0 = 504 - 8 * k.val ∧ k1_off1 k 1 = 0 := by decide +kernel
theorem off2 : ∀ k : Fin k1_t1_loop.trips, k.val < 63 → k1_off2 k 0 = 496 - 8 * k.val ∧ k1_off2 k 1 = 0 := by decide +kernel
theorem has_eq : ∀ k : Fin k1_t1_loop.trips, bHas k = if k.val < 63 then 1#1 else 0#1 := by decide +kernel

/-- Eight rows read out of a chunk. -/
theorem ld_pk {X : Vec Ideal S512x2048 .f32} {U : ℕ → ℕ → ℂ} (h : Pk X U) {off : Fin 2 → ℕ} {o : ℕ} (h0 : off 0 = o) (h1 : off 1 = 0)
    (inb : ∀ a, off a + S8x2048.size a ≤ S512x2048.size a) :
    Pk (View.ld X (Rect.unit (s := S512x2048) off S8x2048.size inb)) (fun n l => U (o + n) l) := by
  intro y
  have e0 : ((Rect.unit (s := S512x2048) off S8x2048.size inb).idx y 0).val = o + (y 0).val := by
    rw [Rect.idx_unit_val, h0]
  have e1 : ((Rect.unit (s := S512x2048) off S8x2048.size inb).idx y 1).val = (y 1).val := by
    rw [Rect.idx_unit_val, h1, Nat.zero_add]
  refine (h _).trans ?_
  rw [e0, e1]

variable {L : ℕ → ℂ}

/-- The carried state before a tile of the forward chunk. -/
theorem fCar_rp {r i : Vec Ideal S1x1024 .f32} {X : Vec Ideal S512x2048 .f32} {c : Vec Ideal S1x1024 .f32 × Vec Ideal S1x1024 .f32}
    {C : ℕ → ℂ} {U : ℕ → ℕ → ℂ} (h : Rp r i (fun _ l => L l)) (hX : Pk X U) (hc : Rp c.1 c.2 (fun _ l => C l)) (k : ℕ) (hk : k ≤ 64) :
    Rp (fCar r i X c k).1 (fCar r i X c k).2 (fun _ l => sc (L l) (C l) (fun j => U j l) (8 * k)) := by
  induction k with
  | zero => exact hc
  | succ k ih =>
    have hk' : k < k0_t1_loop.trips := by rw [trips0]; omega
    have e : fCar r i X c (k + 1) = fNext r i (oct0 X ⟨k, hk'⟩) (fCar r i X c k) := by rw [fCar, dif_pos hk']
    rw [e]
    refine (fNext_rp h (ld_pk hX (off0 ⟨k, hk'⟩).1 (off0 ⟨k, hk'⟩).2 _) (ih (by omega))).congr (fun _ l _ _ => ?_)
    rw [sc_add (L l) (C l) (fun j => U j l) (8 * k) 8]
    rfl

/-- The states of a chunk. -/
theorem fOut_pk {r i : Vec Ideal S1x1024 .f32} {X : Vec Ideal S512x2048 .f32} {c : Vec Ideal S1x1024 .f32 × Vec Ideal S1x1024 .f32}
    {C : ℕ → ℂ} {U : ℕ → ℕ → ℂ} (h : Rp r i (fun _ l => L l)) (hX : Pk X U) (hc : Rp c.1 c.2 (fun _ l => C l)) :
    Pk (fOut r i X c) (fun n l => sc (L l) (C l) (fun j => U j l) (n + 1)) := by
  intro y
  have hb : (y 0).val < 512 := (y 0).isLt
  have hk' : (y 0).val / 8 < k0_t1_loop.trips := by rw [trips0]; omega
  have key := fTile_pk h (ld_pk hX (off0 ⟨(y 0).val / 8, hk'⟩).1 (off0 ⟨(y 0).val / 8, hk'⟩).2 (k0_off1_inb _)) (fCar_rp h hX hc ((y 0).val / 8) (by omega))
  have e : ∀ l, sc (L l) (sc (L l) (C l) (fun j => U j l) (8 * ((y 0).val / 8))) (fun j => U (8 * ((y 0).val / 8) + j) l) ((y 0).val % 8 + 1)
      = sc (L l) (C l) (fun j => U j l) ((y 0).val + 1) := fun l => by
    rw [sc_add (L l) (C l) (fun j => U j l) (8 * ((y 0).val / 8)) ((y 0).val % 8 + 1)]
    congr 1
    omega
  have k2 := key (ix2 (n0 := 8) (n1 := 2048) ⟨(y 0).val % 8, Nat.mod_lt _ (by omega)⟩ ⟨(y 1).val, (y 1).isLt⟩)
  beta_reduce
  rw [← e, ← e]
  exact k2

/-- The partial sums of the decay's gradient, by row within a tile, after `m` tiles from the end. -/
def dd (L : ℕ → ℂ) (g St : ℕ → ℕ → ℂ) : ℕ → ℕ → ℕ → ℂ
  | 0, _, _ => 0
  | m + 1, n, l => dd L g St m n l + conj (St (2040 - 8 * m + n) l) * sc (conj (L l)) 0 (fun j => g (2047 - j) l) (8 * m + 8 - n)

theorem sel_one {α : Type} (x y : α) : Scalar.select 1#1 x y = x := rfl
theorem sel_zero {α : Type} (x y : α) : Scalar.select 0#1 x y = y := rfl

section Back
variable {r i : Vec Ideal S1x1024 .f32} {G S Sp : Vec Ideal S512x2048 .f32} {g St : ℕ → ℕ → ℂ} {q : ℕ} (hq : q < 4)
  (h : Rp r i (fun _ l => L l)) (hG : Pk G (fun n l => g (512 * (3 - q) + n) l)) (hS : Pk S (fun n l => St (512 * (3 - q) + n + 1) l))
  (hSp : q < 3 → Pk Sp (fun n l => St (512 * (2 - q) + n + 1) l)) (h0 : ∀ l, St 0 l = 0)

/-- What a carry holds after `m` tiles. -/
def Bk (L : ℕ → ℂ) (g St : ℕ → ℕ → ℂ) (m : ℕ) (c : Acc Ideal) : Prop :=
  Rp c.1 c.2.1 (fun _ l => sc (conj (L l)) 0 (fun j => g (2047 - j) l) (8 * m)) ∧ Rp c.2.2.1 c.2.2.2 (fun n l => dd L g St m n l)

include hq hS hSp h0 in
theorem before_at (k : Fin k1_t1_loop.trips) (l : Fin 2048) :
    (Scalar.select (bHas k) (k1_pay23 (oct2 S k)) (mulf (shapeCast S8x2048 (octL Sp) shapeCasts_S8x2048_S8x2048)
      (broadcast S8x2048 (Scalar.sitofp .f32 (Scalar.extui (Scalar.cmpi .slt (BitVec.ofNat 32 q) 3#32) : BitVec 32) : Ideal .f32)))) (ix2 (7 : Fin 8) l)
      = if l.val < 1024 then (((St (2040 - 8 * (64 * q + k.val)) l.val).re : ℝ) : EReal) else (((St (2040 - 8 * (64 * q + k.val)) (l.val - 1024)).im : ℝ) : EReal) := by
  have hk : k.val < 64 := lt_of_lt_of_eq k.isLt trips1
  rw [has_eq k]
  by_cases hk3 : k.val < 63
  · rw [if_pos hk3, sel_one]
    unfold k1_pay23
    rw [shapeCast_id]
    refine (ld_pk hS (off2 k hk3).1 (off2 k hk3).2 (k1_off2_inb k) _).trans ?_
    have e : 512 * (3 - q) + (496 - 8 * k.val + 7) + 1 = 2040 - 8 * (64 * q + k.val) := by omega
    show (if l.val < 1024 then (((St (512 * (3 - q) + (496 - 8 * k.val + 7) + 1) l.val).re : ℝ) : EReal) else (((St (512 * (3 - q) + (496 - 8 * k.val + 7) + 1) (l.val - 1024)).im : ℝ) : EReal)) = _
    rw [e]
  · rw [if_neg hk3, sel_zero, shapeCast_id]
    by_cases hq3 : q < 3
    · have e1 : (Scalar.sitofp .f32 (Scalar.extui (Scalar.cmpi .slt (BitVec.ofNat 32 q) 3#32) : BitVec 32) : Ideal .f32) = (1 : EReal) := by
        have : (Scalar.extui (Scalar.cmpi .slt (BitVec.ofNat 32 q) 3#32) : BitVec 32) = 1#32 := by
          interval_cases q <;> rfl
        rw [this]
        show (((1#32 : BitVec 32).toInt : ℝ) : EReal) = 1
        simp
      rw [e1]
      show octL Sp (ix2 (7 : Fin 8) l) * (1 : EReal) = _
      rw [mul_one]
      refine (ld_pk (hSp hq3) (off := ![504, 0]) rfl rfl inb_S512x2048_S8x2048_504_0 _).trans ?_
      have e : 512 * (2 - q) + (504 + 7) + 1 = 2040 - 8 * (64 * q + k.val) := by omega
      show (if l.val < 1024 then (((St (512 * (2 - q) + (504 + 7) + 1) l.val).re : ℝ) : EReal) else (((St (512 * (2 - q) + (504 + 7) + 1) (l.val - 1024)).im : ℝ) : EReal)) = _
      rw [e]
    · have e1 : (Scalar.sitofp .f32 (Scalar.extui (Scalar.cmpi .slt (BitVec.ofNat 32 q) 3#32) : BitVec 32) : Ideal .f32) = (0 : EReal) := by
        have : (Scalar.extui (Scalar.cmpi .slt (BitVec.ofNat 32 q) 3#32) : BitVec 32) = 0#32 := by
          interval_cases q <;> first | rfl | omega
        rw [this]
        show (((0#32 : BitVec 32).toInt : ℝ) : EReal) = 0
        simp
      rw [e1]
      show octL Sp (ix2 (7 : Fin 8) l) * (0 : EReal) = _
      have e : 2040 - 8 * (64 * q + k.val) = 0 := by omega
      rw [mul_zero, e, h0, h0]
      simp

include hq h hG hS hSp h0 in
theorem bNext_bk (k : Fin k1_t1_loop.trips) {c : Acc Ideal} (hc : Bk L g St (64 * q + k.val) c) :
    Bk L g St (64 * q + k.val + 1) (bNext (BitVec.ofNat 32 q) r i G S Sp k c) := by
  have hk : k.val < 64 := lt_of_lt_of_eq k.isLt trips1
  have hg := ld_pk hG (off1 k).1 (off1 k).2 (k1_off1_inb k)
  have hs := ld_pk hS (off1 k).1 (off1 k).2 (k1_off1_inb k)
  have hA := bTile_rp h hg hc.1
  have eA : ∀ n l, sc (conj (L l)) (sc (conj (L l)) 0 (fun j => g (2047 - j) l) (8 * (64 * q + k.val))) (fun j => g (512 * (3 - q) + (504 - 8 * k.val + (7 - j))) l) (8 - n)
      = sc (conj (L l)) 0 (fun j => g (2047 - j) l) (8 * (64 * q + k.val) + (8 - n)) := fun n l => by
    rw [← sc_add (conj (L l)) 0 (fun j => g (2047 - j) l) (8 * (64 * q + k.val)) (8 - n)]
    refine sc_congr _ _ _ (fun j hj => ?_)
    show g _ l = g _ l
    congr 1
    omega
  constructor
  · refine (hA.row0).congr (fun n l _ _ => ?_)
    refine (eA 0 l).trans ?_
    rfl
  · refine (bAcc_rp hA hc.2 hs (before_at hq hS hSp h0 k)).congr (fun n l hn hl => ?_)
    show dd L g St (64 * q + k.val) n l + conj _ * _ = dd L g St (64 * q + k.val) n l + conj (St (2040 - 8 * (64 * q + k.val) + n) l) * sc (conj (L l)) 0 (fun j => g (2047 - j) l) (8 * (64 * q + k.val) + 8 - n)
    have e2 : 8 * (64 * q + k.val) + 8 - n = 8 * (64 * q + k.val) + (8 - n) := by omega
    rw [e2, ← eA]
    congr 3
    by_cases hn0 : n = 0
    · rw [if_pos hn0, hn0]; rfl
    · rw [if_neg hn0]
      congr 1
      omega

include hq h hG hS hSp h0 in
theorem bCar_bk {c : Acc Ideal} (hc : Bk L g St (64 * q) c) (k : ℕ) (hk : k ≤ 64) : Bk L g St (64 * q + k) (bCar (BitVec.ofNat 32 q) r i G S Sp c k) := by
  induction k with
  | zero => exact hc
  | succ k ih =>
    have hk' : k < k1_t1_loop.trips := by rw [trips1]; omega
    have e : bCar (BitVec.ofNat 32 q) r i G S Sp c (k + 1) = bNext (BitVec.ofNat 32 q) r i G S Sp ⟨k, hk'⟩ (bCar (BitVec.ofNat 32 q) r i G S Sp c k) := by rw [bCar, dif_pos hk']
    rw [e]
    exact bNext_bk hq h hG hS hSp h0 ⟨k, hk'⟩ (ih (by omega))

include hq h hG hS hSp h0 in
theorem bOut_pk {c : Acc Ideal} (hc : Bk L g St (64 * q) c) :
    Pk (bOut (BitVec.ofNat 32 q) r i G S Sp c) (fun n l => sc (conj (L l)) 0 (fun j => g (2047 - j) l) (2048 - (512 * (3 - q) + n))) := by
  intro y
  have hb : (y 0).val < 512 := (y 0).isLt
  have hk' : 63 - (y 0).val / 8 < k1_t1_loop.trips := by rw [trips1]; omega
  have key := bTile_pk h (ld_pk hG (off1 ⟨63 - (y 0).val / 8, hk'⟩).1 (off1 ⟨63 - (y 0).val / 8, hk'⟩).2 (k1_off1_inb _)) (bCar_bk hq h hG hS hSp h0 hc (63 - (y 0).val / 8) (by omega)).1
  have e : ∀ l, sc (conj (L l)) (sc (conj (L l)) 0 (fun j => g (2047 - j) l) (8 * (64 * q + (63 - (y 0).val / 8)))) (fun j => g (512 * (3 - q) + (504 - 8 * (63 - (y 0).val / 8) + (7 - j))) l) (8 - (y 0).val % 8)
      = sc (conj (L l)) 0 (fun j => g (2047 - j) l) (2048 - (512 * (3 - q) + (y 0).val)) := fun l => by
    have e2 : 2048 - (512 * (3 - q) + (y 0).val) = 8 * (64 * q + (63 - (y 0).val / 8)) + (8 - (y 0).val % 8) := by omega
    rw [e2, ← sc_add (conj (L l)) 0 (fun j => g (2047 - j) l) (8 * (64 * q + (63 - (y 0).val / 8))) (8 - (y 0).val % 8)]
    refine sc_congr _ _ _ (fun j hj => ?_)
    show g _ l = g _ l
    congr 1
    omega
  have k2 := key (ix2 (n0 := 8) (n1 := 2048) ⟨(y 0).val % 8, Nat.mod_lt _ (by omega)⟩ ⟨(y 1).val, (y 1).isLt⟩)
  beta_reduce
  rw [← e, ← e]
  exact k2
end Back

end Cert.KernelIdeal.Own

end
-- ==== Proof.Grid.lean ====
module

public import proofs.«01_k».proof.Proof.Chunk
public import proofs.«01_k».proof.Proof.Run
public import Idealize.ShloMosaic.Lib.Pipeline.ValueKit

@[expose] public section

set_option maxRecDepth 16384

noncomputable section

namespace Cert.KernelIdeal.Own

open Idealize.ShloMosaic Idealize.ShloMosaic.TcCoe Idealize.ShloMosaic.Tactic
open Cert.KernelIdeal.Gen
open scoped ComplexConjugate

/-- A packed array of whole rows: strip `j` holds the real parts of its 1024 lanes and then the imaginary parts. -/
def Wide (v : Vec Ideal S2048x8192 .f32) (z : ℕ → ℕ → ℂ) : Prop :=
  ∀ i, v i = if (i 1).val % 2048 < 1024 then (((z (i 0).val (1024 * ((i 1).val / 2048) + (i 1).val % 2048)).re : ℝ) : EReal)
    else (((z (i 0).val (1024 * ((i 1).val / 2048) + ((i 1).val % 2048 - 1024))).im : ℝ) : EReal)
/-- The coefficient rows: eight equal rows a strip. -/
def Rows (vr vi : Vec Ideal S32x1024 .f32) (L : ℕ → ℂ) : Prop := Rp vr vi (fun n l => L (1024 * (n / 8) + l))

variable (V : Vals Ideal) (c : Dev nD)

theorem x0_0 : ∀ t : Fin cfg0.N, win0_0.index t = ![t.val % 4, t.val / 4] := (by decide +kernel : ∀ t : Fin grid0.N, _)
theorem x0_1 : ∀ t : Fin cfg0.N, win0_1.index t = ![t.val / 4, 0] := (by decide +kernel : ∀ t : Fin grid0.N, _)
theorem x0_2 : ∀ t : Fin cfg0.N, win0_2.index t = ![t.val / 4, 0] := (by decide +kernel : ∀ t : Fin grid0.N, _)
theorem x0_3 : ∀ t : Fin cfg0.N, win0_3.index t = ![t.val % 4, t.val / 4] := (by decide +kernel : ∀ t : Fin grid0.N, _)

section Fwd
variable {u : ℕ → ℕ → ℂ} {L : ℕ → ℂ}

theorem iblk0_pk (h : Wide (V c main_v9) u) (t : Fin cfg0.N) :
    Pk (iblk0 V c 0 t) (fun n l => u (512 * (t.val % 4) + n) (1024 * (t.val / 4) + l)) := by
  intro y
  have h0 : (y 0).val < 512 := (y 0).isLt
  have h1 : (y 1).val < 2048 := (y 1).isLt
  refine (h (((cfg0.win 0).blk t).view.emb y)).trans ?_
  blk_simp [x0_0]
  have e1 : (t.val / 4 * 2048 + (y 1).val) % 2048 = (y 1).val := by omega
  have e2 : (t.val / 4 * 2048 + (y 1).val) / 2048 = t.val / 4 := by omega
  simp [e1, e2, Nat.mul_comm]
theorem iblk0_rp8 (h : Rows (V c main_v2) (V c main_v5) L) (t : Fin cfg0.N) :
    Rp (a := 8) (b := 1024) (iblk0 V c 1 t) (iblk0 V c 2 t) (fun _ l => L (1024 * (t.val / 4) + l)) := by
  intro y
  have h0 : (y 0).val < 8 := (y 0).isLt
  refine ⟨((h (((cfg0.win 1).blk t).view.emb y)).1).trans ?_, ((h (((cfg0.win 2).blk t).view.emb y)).2).trans ?_⟩
  · blk_simp [x0_1]
    have e1 : (t.val / 4 * 8 + (y 0).val) / 8 = t.val / 4 := by omega
    simp [e1]
  · blk_simp [x0_2]
    have e1 : (t.val / 4 * 8 + (y 0).val) / 8 = t.val / 4 := by omega
    simp [e1]
end Fwd

theorem row0_rp {vr vi : Vec Ideal S8x1024 .f32} {z : ℕ → ℕ → ℂ} (h : Rp vr vi z) : Rp (row0 vr) (row0 vi) z := by
  intro y
  have e0 : ((Rect.unit (s := S8x1024) ![0, 0] S1x1024.size inb_S8x1024_S1x1024_0_0).idx y 0).val = (y 0).val := by
    rw [Rect.idx_unit_val]; exact Nat.zero_add _
  have e1 : ((Rect.unit (s := S8x1024) ![0, 0] S1x1024.size inb_S8x1024_S1x1024_0_0).idx y 1).val = (y 1).val := by
    rw [Rect.idx_unit_val]; exact Nat.zero_add _
  rw [← e0, ← e1]
  exact h _

theorem zc0 (y : S8x1024.Idx) : k0_pay25 (F := Ideal) y = ((0 : ℝ) : EReal) := by
  unfold k0_pay25
  pointwise
  simp
theorem zc1 (y : S8x1024.Idx) : k1_pay24 (F := Ideal) y = ((0 : ℝ) : EReal) := by
  unfold k1_pay24
  pointwise
  simp
theorem zc2 (y : S16x1024.Idx) : k1_pay25 (F := Ideal) y = ((0 : ℝ) : EReal) := by
  unfold k1_pay25
  pointwise
  simp
theorem zero0_rp : Rp (zero0 (F := Ideal)).1 (zero0 (F := Ideal)).2 (fun _ _ => 0) :=
  fun y => ⟨zc0 ((Rect.unit (s := S8x1024) ![0, 0] S1x1024.size inb_S8x1024_S1x1024_0_0).idx y), zc0 ((Rect.unit (s := S8x1024) ![1, 0] S1x1024.size inb_S8x1024_S1x1024_1_0).idx y)⟩
theorem zero1_bk (L : ℕ → ℂ) (g St : ℕ → ℕ → ℂ) : Bk L g St (64 * 0) (zero1 (F := Ideal)) :=
  ⟨fun y => ⟨zc1 ((Rect.unit (s := S8x1024) ![0, 0] S1x1024.size inb_S8x1024_S1x1024_0_0).idx y), zc1 ((Rect.unit (s := S8x1024) ![1, 0] S1x1024.size inb_S8x1024_S1x1024_1_0).idx y)⟩,
   fun y => ⟨zc2 ((Rect.unit (s := S16x1024) ![0, 0] S8x1024.size inb_S16x1024_S8x1024_0_0).idx y), zc2 ((Rect.unit (s := S16x1024) ![8, 0] S8x1024.size inb_S16x1024_S8x1024_8_0).idx y)⟩⟩

theorem pay61_at (v : Vec Ideal S8x1024 .f32) (y : S8x1024.Idx) : k1_pay61 v y = ∑ n : Fin 8, v (ix2 (n0 := 8) (n1 := 1024) n (y 1)) := by
  unfold k1_pay61
  pointwise
theorem pay62_at (v : Vec Ideal S8x1024 .f32) (y : S8x1024.Idx) : k1_pay62 v y = ∑ n : Fin 8, v (ix2 (n0 := 8) (n1 := 1024) n (y 1)) := by
  unfold k1_pay62
  pointwise
theorem re_sum (z : Fin 8 → ℂ) : (∑ n : Fin 8, (((z n).re : ℝ) : EReal)) = (((∑ n : Fin 8, z n).re : ℝ) : EReal) := by
  rw [Complex.re_sum, Fin.sum_univ_eight, Fin.sum_univ_eight]
  simp only [EReal.coe_add]
theorem im_sum (z : Fin 8 → ℂ) : (∑ n : Fin 8, (((z n).im : ℝ) : EReal)) = (((∑ n : Fin 8, z n).im : ℝ) : EReal) := by
  rw [Complex.im_sum, Fin.sum_univ_eight, Fin.sum_univ_eight]
  simp only [EReal.coe_add]
/-- The eight partial sums of a lane added up and put in every row. -/
theorem pay_rp {vr vi : Vec Ideal S8x1024 .f32} {z : ℕ → ℕ → ℂ} (h : Rp vr vi z) :
    Rp (k1_pay61 vr) (k1_pay62 vi) (fun _ l => ∑ n : Fin 8, z n.val l) := by
  intro y
  constructor
  · rw [pay61_at]
    exact (Finset.sum_congr rfl fun n _ => (h (ix2 (n0 := 8) (n1 := 1024) n (y 1))).1).trans (re_sum _)
  · rw [pay62_at]
    exact (Finset.sum_congr rfl fun n _ => (h (ix2 (n0 := 8) (n1 := 1024) n (y 1))).2).trans (im_sum _)

section Fwd
variable {u : ℕ → ℕ → ℂ} {L : ℕ → ℂ} (hu : Wide (V c main_v9) u) (hL : Rows (V c main_v2) (V c main_v5) L)

/-- The states of a lane from zero. -/
abbrev St (L : ℕ → ℂ) (u : ℕ → ℕ → ℂ) (t f : ℕ) : ℂ := sc (L f) 0 (fun j => u j f) t

include hu hL in
theorem cin0_rp (t : ℕ) (ht : t < cfg0.N) :
    Rp (cin0 V c ⟨t, ht⟩).1 (cin0 V c ⟨t, ht⟩).2 (fun _ l => St L u (512 * (t % 4)) (1024 * (t / 4) + l)) := by
  induction t with
  | zero => exact zero0_rp
  | succ t ih =>
    by_cases h : (t + 1) % 4 = 0
    · rw [show cin0 V c ⟨t + 1, ht⟩ = zero0 from if_pos h]
      refine zero0_rp.congr (fun _ l _ _ => ?_)
      rw [h]; rfl
    · rw [show cin0 V c ⟨t + 1, ht⟩ = car0 V c (t + 1) from if_neg h]
      have ht' : t < cfg0.N := by omega
      rw [car0_succ V c ⟨t, ht'⟩]
      refine (fCar_rp (row0_rp (iblk0_rp8 V c hL ⟨t, ht'⟩)) (iblk0_pk V c hu ⟨t, ht'⟩) ((ih ht').congr (fun _ _ _ _ => rfl)) 64 le_rfl).congr (fun _ l _ _ => ?_)
      have e1 : (t + 1) / 4 = t / 4 := by omega
      have e2 : 512 * ((t + 1) % 4) = 512 * (t % 4) + 8 * 64 := by omega
      rw [e1, e2]
      exact sc_add _ _ (fun j => u j (1024 * (t / 4) + l)) (512 * (t % 4)) (8 * 64)
include hu hL in
theorem out0_pk (t : Fin cfg0.N) :
    Pk (out0 V c t) (fun n l => St L u (512 * (t.val % 4) + (n + 1)) (1024 * (t.val / 4) + l)) :=
  (fOut_pk (row0_rp (iblk0_rp8 V c hL t)) (iblk0_pk V c hu t) ((cin0_rp V c hu hL t.val t.isLt).congr (fun _ _ _ _ => rfl))).congr
    (fun n l _ _ => sc_add _ _ (fun j => u j (1024 * (t.val / 4) + l)) (512 * (t.val % 4)) (n + 1))
include hu hL in
/-- The forward call's array holds, at row `t`, the state after step `t`. -/
theorem arr0 : Wide ((dat0 V c).arrAt 3 cfg0.N) (fun n f => St L u (n + 1) f) := by
  refine (dat0 V c).arrAt_forall_of_covers 3 (fun i v => v = if (i 1).val % 2048 < 1024 then (((St L u ((i 0).val + 1) (1024 * ((i 1).val / 2048) + (i 1).val % 2048)).re : ℝ) : EReal)
    else (((St L u ((i 0).val + 1) (1024 * ((i 1).val / 2048) + ((i 1).val % 2048 - 1024))).im : ℝ) : EReal)) (by decide +kernel) (fun t hf y => ?_)
  blk_simp [x0_3]
  rw [after0_3]
  have h0 : (y 0).val < 512 := (y 0).isLt
  have h1 : (y 1).val < 2048 := (y 1).isLt
  have e1 : (t.val / 4 * 2048 + (y 1).val) % 2048 = (y 1).val := by omega
  have e2 : (t.val / 4 * 2048 + (y 1).val) / 2048 = t.val / 4 := by omega
  have e3 : t.val % 4 * 512 + (y 0).val + 1 = 512 * (t.val % 4) + ((y 0).val + 1) := by omega
  rw [e1, e2, e3]
  exact out0_pk V c hu hL t y
end Fwd

/-! ## The backward call -/

theorem x1_0 : ∀ t : Fin cfg1.N, win1_0.index t = ![3 - t.val % 4, t.val / 4] := (by decide +kernel : ∀ t : Fin grid1.N, _)
theorem x1_1 : ∀ t : Fin cfg1.N, win1_1.index t = ![3 - t.val % 4, t.val / 4] := (by decide +kernel : ∀ t : Fin grid1.N, _)
theorem x1_2 : ∀ t : Fin cfg1.N, win1_2.index t = ![2 - t.val % 4, t.val / 4] := (by decide +kernel : ∀ t : Fin grid1.N, _)
theorem x1_3 : ∀ t : Fin cfg1.N, win1_3.index t = ![t.val / 4, 0] := (by decide +kernel : ∀ t : Fin grid1.N, _)
theorem x1_4 : ∀ t : Fin cfg1.N, win1_4.index t = ![t.val / 4, 0] := (by decide +kernel : ∀ t : Fin grid1.N, _)
theorem x1_5 : ∀ t : Fin cfg1.N, win1_5.index t = ![3 - t.val % 4, t.val / 4] := (by decide +kernel : ∀ t : Fin grid1.N, _)
theorem x1_6 : ∀ t : Fin cfg1.N, win1_6.index t = ![t.val / 4, 0] := (by decide +kernel : ∀ t : Fin grid1.N, _)
theorem x1_7 : ∀ t : Fin cfg1.N, win1_7.index t = ![t.val / 4, 0] := (by decide +kernel : ∀ t : Fin grid1.N, _)
theorem last6 : ∀ t : Fin cfg1.N, (cfg1.win 6).flush t = true → t.val % 4 = 3 := by decide +kernel
theorem last7 : ∀ t : Fin cfg1.N, (cfg1.win 7).flush t = true → t.val % 4 = 3 := by decide +kernel
theorem qw_eq : ∀ t : Fin cfg1.N, qw t = BitVec.ofNat 32 (t.val % 4) := by decide +kernel

theorem dd_off (L : ℕ → ℂ) (g S : ℕ → ℕ → ℂ) (o m n l : ℕ) :
    dd (fun l => L (o + l)) (fun t l => g t (o + l)) (fun t l => S t (o + l)) m n l = dd L g S m n (o + l) := by
  induction m with
  | zero => rfl
  | succ m ih => rw [dd, dd, ih]

section Bwd
variable {g S : ℕ → ℕ → ℂ} {L : ℕ → ℂ} (hg : Wide (V c main_v14) g) (hS : Wide (V c main_v10) (fun n f => S (n + 1) f))
  (hL : Rows (V c main_v2) (V c main_v5) L) (hS0 : ∀ f, S 0 f = 0)

include hg in
theorem iblk1_g (t : Fin cfg1.N) : Pk (iblk1 V c 0 t) (fun n l => g (512 * (3 - t.val % 4) + n) (1024 * (t.val / 4) + l)) := by
  intro y
  have h0 : (y 0).val < 512 := (y 0).isLt
  have h1 : (y 1).val < 2048 := (y 1).isLt
  refine (hg (((cfg1.win 0).blk t).view.emb y)).trans ?_
  blk_simp [x1_0]
  have e1 : (t.val / 4 * 2048 + (y 1).val) % 2048 = (y 1).val := by omega
  have e2 : (t.val / 4 * 2048 + (y 1).val) / 2048 = t.val / 4 := by omega
  simp [e1, e2, Nat.mul_comm]
include hS in
theorem iblk1_s (t : Fin cfg1.N) : Pk (iblk1 V c 1 t) (fun n l => S (512 * (3 - t.val % 4) + n + 1) (1024 * (t.val / 4) + l)) := by
  intro y
  have h0 : (y 0).val < 512 := (y 0).isLt
  have h1 : (y 1).val < 2048 := (y 1).isLt
  refine (hS (((cfg1.win 1).blk t).view.emb y)).trans ?_
  blk_simp [x1_1]
  have e1 : (t.val / 4 * 2048 + (y 1).val) % 2048 = (y 1).val := by omega
  have e2 : (t.val / 4 * 2048 + (y 1).val) / 2048 = t.val / 4 := by omega
  simp [e1, e2, Nat.mul_comm]
include hS in
theorem iblk1_p (t : Fin cfg1.N) : Pk (iblk1 V c 2 t) (fun n l => S (512 * (2 - t.val % 4) + n + 1) (1024 * (t.val / 4) + l)) := by
  intro y
  have h0 : (y 0).val < 512 := (y 0).isLt
  have h1 : (y 1).val < 2048 := (y 1).isLt
  refine (hS (((cfg1.win 2).blk t).view.emb y)).trans ?_
  blk_simp [x1_2]
  have e1 : (t.val / 4 * 2048 + (y 1).val) % 2048 = (y 1).val := by omega
  have e2 : (t.val / 4 * 2048 + (y 1).val) / 2048 = t.val / 4 := by omega
  simp [e1, e2, Nat.mul_comm]
include hL in
theorem iblk1_rp8 (t : Fin cfg1.N) :
    Rp (a := 8) (b := 1024) (iblk1 V c 3 t) (iblk1 V c 4 t) (fun _ l => L (1024 * (t.val / 4) + l)) := by
  intro y
  have h0 : (y 0).val < 8 := (y 0).isLt
  refine ⟨((hL (((cfg1.win 3).blk t).view.emb y)).1).trans ?_, ((hL (((cfg1.win 4).blk t).view.emb y)).2).trans ?_⟩
  · blk_simp [x1_3]
    have e1 : (t.val / 4 * 8 + (y 0).val) / 8 = t.val / 4 := by omega
    simp [e1]
  · blk_simp [x1_4]
    have e1 : (t.val / 4 * 8 + (y 0).val) / 8 = t.val / 4 := by omega
    simp [e1]

/-- The carries before a chunk, on the lanes of strip `j`. -/
abbrev Bs (L : ℕ → ℂ) (g S : ℕ → ℕ → ℂ) (j m : ℕ) (a : Acc Ideal) : Prop :=
  Bk (fun l => L (1024 * j + l)) (fun t l => g t (1024 * j + l)) (fun t l => S t (1024 * j + l)) m a

include hg hS hL hS0 in
theorem step1 (t : Fin cfg1.N) {a : Acc Ideal} (h : Bs L g S (t.val / 4) (64 * (t.val % 4)) a) :
    Bs L g S (t.val / 4) (64 * (t.val % 4) + 64) (bCar (qw t) (row0 (iblk1 V c 3 t)) (row0 (iblk1 V c 4 t)) (iblk1 V c 0 t) (iblk1 V c 1 t) (iblk1 V c 2 t) a 64) := by
  rw [qw_eq]
  exact bCar_bk (q := t.val % 4) (L := fun l => L (1024 * (t.val / 4) + l)) (g := fun n l => g n (1024 * (t.val / 4) + l)) (St := fun n l => S n (1024 * (t.val / 4) + l)) (Nat.mod_lt _ (by omega)) (row0_rp (iblk1_rp8 V c hL t)) (iblk1_g V c hg t) (iblk1_s V c hS t) (fun _ => iblk1_p V c hS t) (fun l => hS0 _) h 64 le_rfl
include hg hS hL hS0 in
theorem cin1_bk (t : ℕ) (ht : t < cfg1.N) : Bs L g S (t / 4) (64 * (t % 4)) (cin1 V c ⟨t, ht⟩) := by
  induction t with
  | zero => exact zero1_bk _ _ _
  | succ t ih =>
    by_cases h : (t + 1) % 4 = 0
    · rw [show cin1 V c ⟨t + 1, ht⟩ = zero1 from if_pos h, h]
      exact zero1_bk _ _ _
    · rw [show cin1 V c ⟨t + 1, ht⟩ = car1 V c (t + 1) from if_neg h]
      have ht' : t < cfg1.N := by omega
      rw [car1_succ V c ⟨t, ht'⟩]
      have e1 : (t + 1) / 4 = t / 4 := by omega
      have e2 : 64 * ((t + 1) % 4) = 64 * (t % 4) + 64 := by omega
      rw [e1, e2]
      exact step1 V c hg hS hL hS0 ⟨t, ht'⟩ (ih ht')
include hg hS hL hS0 in
theorem car1_end (t : Fin cfg1.N) (h : t.val % 4 = 3) : Bs L g S (t.val / 4) 256 (car1 V c (t.val + 1)) := by
  rw [car1_succ V c t]
  have k := step1 V c hg hS hL hS0 t (cin1_bk V c hg hS hL hS0 t.val t.isLt)
  rw [show (256 : ℕ) = 64 * (t.val % 4) + 64 by rw [h]]
  exact k
/-- The cotangent of the state at row `n`. -/
abbrev Ct (L : ℕ → ℂ) (g : ℕ → ℕ → ℂ) (n f : ℕ) : ℂ := sc (conj (L f)) 0 (fun j => g (2047 - j) f) n

include hg hS hL hS0 in
theorem out1_pk (t : Fin cfg1.N) :
    Pk (out1 V c t) (fun n l => Ct L g (2048 - (512 * (3 - t.val % 4) + n)) (1024 * (t.val / 4) + l)) := by
  unfold out1
  rw [qw_eq]
  exact bOut_pk (q := t.val % 4) (L := fun l => L (1024 * (t.val / 4) + l)) (g := fun n l => g n (1024 * (t.val / 4) + l)) (St := fun n l => S n (1024 * (t.val / 4) + l)) (Nat.mod_lt _ (by omega)) (row0_rp (iblk1_rp8 V c hL t)) (iblk1_g V c hg t) (iblk1_s V c hS t) (fun _ => iblk1_p V c hS t) (fun l => hS0 _) (cin1_bk V c hg hS hL hS0 t.val t.isLt)
include hg hS hL hS0 in
/-- The backward call's first array holds, at row `t`, the cotangent of the input of step `t`. -/
theorem arr5 : Wide ((dat1 V c).arrAt 5 cfg1.N) (fun n f => Ct L g (2048 - n) f) := by
  refine (dat1 V c).arrAt_forall_of_covers 5 (fun i v => v = if (i 1).val % 2048 < 1024 then (((Ct L g (2048 - (i 0).val) (1024 * ((i 1).val / 2048) + (i 1).val % 2048)).re : ℝ) : EReal)
    else (((Ct L g (2048 - (i 0).val) (1024 * ((i 1).val / 2048) + ((i 1).val % 2048 - 1024))).im : ℝ) : EReal)) (by decide +kernel) (fun t hf y => ?_)
  blk_simp [x1_5]
  rw [after1_5]
  have h0 : (y 0).val < 512 := (y 0).isLt
  have h1 : (y 1).val < 2048 := (y 1).isLt
  have e1 : (t.val / 4 * 2048 + (y 1).val) % 2048 = (y 1).val := by omega
  have e2 : (t.val / 4 * 2048 + (y 1).val) / 2048 = t.val / 4 := by omega
  have e3 : (3 - t.val % 4) * 512 + (y 0).val = 512 * (3 - t.val % 4) + (y 0).val := by omega
  rw [e1, e2, e3]
  exact out1_pk V c hg hS hL hS0 t y
/-- The cotangent of a coefficient. -/
@[irreducible] def Dl (L : ℕ → ℂ) (g S : ℕ → ℕ → ℂ) (f : ℕ) : ℂ := ∑ n : Fin 8, dd L g S 256 n.val f
theorem Dl_def (L : ℕ → ℂ) (g S : ℕ → ℕ → ℂ) (f : ℕ) : Dl L g S f = ∑ n : Fin 8, dd L g S 256 n.val f := by rw [Dl]
include hg hS hL hS0 in
theorem pay1 (t : Fin cfg1.N) (h : t.val % 4 = 3) :
    Rp (k1_pay61 (car1 V c (t.val + 1)).2.2.1) (k1_pay62 (car1 V c (t.val + 1)).2.2.2) (fun _ l => Dl L g S (1024 * (t.val / 4) + l)) :=
  (pay_rp (car1_end V c hg hS hL hS0 t h).2).congr (fun _ l _ _ => by
    rw [Dl_def]
    exact Finset.sum_congr rfl fun n _ => dd_off L g S _ _ _ _)
include hg hS hL hS0 in
theorem arr6 (i : S32x1024.Idx) : (dat1 V c).arrAt 6 cfg1.N i = (((Dl L g S (1024 * ((i 0).val / 8) + (i 1).val)).re : ℝ) : EReal) := by
  refine (dat1 V c).arrAt_forall_of_covers 6 (fun i v => v = (((Dl L g S (1024 * ((i 0).val / 8) + (i 1).val)).re : ℝ) : EReal)) (by decide +kernel) (fun t hf y => ?_) i
  blk_simp [x1_6]
  rw [after1_6]
  have h0 : (y 0).val < 8 := (y 0).isLt
  have e1 : (t.val / 4 * 8 + (y 0).val) / 8 = t.val / 4 := by omega
  have e2 : 0 * 1024 + (y 1).val = (y 1).val := by omega
  rw [e1]
  exact (pay1 V c hg hS hL hS0 t (last6 t hf) y).1
include hg hS hL hS0 in
theorem arr7 (i : S32x1024.Idx) : (dat1 V c).arrAt 7 cfg1.N i = (((Dl L g S (1024 * ((i 0).val / 8) + (i 1).val)).im : ℝ) : EReal) := by
  refine (dat1 V c).arrAt_forall_of_covers 7 (fun i v => v = (((Dl L g S (1024 * ((i 0).val / 8) + (i 1).val)).im : ℝ) : EReal)) (by decide +kernel) (fun t hf y => ?_) i
  blk_simp [x1_7]
  rw [after1_7]
  have h0 : (y 0).val < 8 := (y 0).isLt
  have e1 : (t.val / 4 * 8 + (y 0).val) / 8 = t.val / 4 := by omega
  rw [e1]
  exact (pay1 V c hg hS hL hS0 t (last7 t hf) y).2
include hg hS hL hS0 in
theorem arr67 : Rows ((dat1 V c).arrAt 6 cfg1.N) ((dat1 V c).arrAt 7 cfg1.N) (Dl L g S) :=
  fun i => ⟨arr6 V c hg hS hL hS0 i, arr7 V c hg hS hL hS0 i⟩
end Bwd

/-- The eight partial sums together run over all steps, last step first. -/
theorem dd_sum (L : ℕ → ℂ) (g S : ℕ → ℕ → ℂ) (f : ℕ) (m : ℕ) (hm : m ≤ 256) :
    ∑ n : Fin 8, dd L g S m n.val f = ∑ j ∈ Finset.range (8 * m), conj (S (2047 - j) f) * Ct L g (j + 1) f := by
  induction m with
  | zero => simp [dd]
  | succ m ih =>
    rw [show 8 * (m + 1) = 8 * m + 8 by ring, Finset.sum_range_add, ← ih (by omega)]
    simp only [dd, Finset.sum_add_distrib]
    congr 1
    rw [Finset.sum_range, ← Equiv.sum_comp Fin.revPerm]
    refine Finset.sum_congr rfl fun n _ => ?_
    have hn : (Fin.revPerm n).val = 7 - n.val := by simp [Fin.val_rev]
    have h8 : n.val < 8 := n.isLt
    rw [hn]
    congr 3
    · omega
    · omega
theorem Dl_eq (L : ℕ → ℂ) (g S : ℕ → ℕ → ℂ) (f : ℕ) : Dl L g S f = ∑ j ∈ Finset.range 2048, conj (S (2047 - j) f) * Ct L g (j + 1) f := by
  rw [Dl_def, dd_sum L g S f 256 le_rfl]

end Cert.KernelIdeal.Own

end
-- ==== Proof.KVal.lean ====
module

public import proofs.«01_k».proof.Proof.Grid
public import Idealize.ShloMosaic.Lib.StableHlo.ReadAt

@[expose] public section

set_option maxRecDepth 16384

noncomputable section

namespace Cert.KernelIdeal.Own

open Idealize.ShloMosaic Idealize.ShloMosaic.TcCoe Idealize.ShloMosaic.Tactic
open Cert.KernelIdeal.Gen
open scoped ComplexConjugate

open Idealize.ShloMosaic.StableHlo

/-! ## Arrays as complex numbers on lanes: element `(t, p, q)` is row `t` of lane `64 p + q` -/

/-- The real number at row `t` of lane `f`. -/
def q3 (v : Vec Ideal S2048x64x64 .f32) (t f : ℕ) : ℝ :=
  (v (ix3 (n0 := 2048) (n1 := 64) (n2 := 64) ⟨t % 2048, Nat.mod_lt _ (by omega)⟩ ⟨f / 64 % 64, Nat.mod_lt _ (by omega)⟩ ⟨f % 64, Nat.mod_lt _ (by omega)⟩) : EReal).toReal
def q2 (v : Vec Ideal S64x64 .f32) (f : ℕ) : ℝ :=
  (v (ix2 (n0 := 64) (n1 := 64) ⟨f / 64 % 64, Nat.mod_lt _ (by omega)⟩ ⟨f % 64, Nat.mod_lt _ (by omega)⟩) : EReal).toReal
/-- Every element is a real number. -/
def Re {s : Shape} (v : Vec Ideal s .f32) : Prop := ∀ i, v i = (((v i : EReal).toReal : ℝ) : EReal)

theorem q3_at {v : Vec Ideal S2048x64x64 .f32} (h : Re v) (i : S2048x64x64.Idx) {t f : ℕ} (h0 : (i 0).val = t) (h1 : (i 1).val = f / 64) (h2 : (i 2).val = f % 64) :
    v i = ((q3 v t f : ℝ) : EReal) := by
  have b0 : (i 0).val < 2048 := (i 0).isLt
  have b1 : (i 1).val < 64 := (i 1).isLt
  have e : i = ix3 (n0 := 2048) (n1 := 64) (n2 := 64) ⟨t % 2048, Nat.mod_lt _ (by omega)⟩ ⟨f / 64 % 64, Nat.mod_lt _ (by omega)⟩ ⟨f % 64, Nat.mod_lt _ (by omega)⟩ := by
    funext a
    fin_cases a
    · exact Fin.ext (by show (i 0).val = t % 2048; omega)
    · exact Fin.ext (by show (i 1).val = f / 64 % 64; omega)
    · exact Fin.ext (by show (i 2).val = f % 64; omega)
  rw [q3, ← e]
  exact h i
theorem q2_at {v : Vec Ideal S64x64 .f32} (h : Re v) (i : S64x64.Idx) {f : ℕ} (h1 : (i 0).val = f / 64) (h2 : (i 1).val = f % 64) :
    v i = ((q2 v f : ℝ) : EReal) := by
  have b1 : (i 0).val < 64 := (i 0).isLt
  have e : i = ix2 (n0 := 64) (n1 := 64) ⟨f / 64 % 64, Nat.mod_lt _ (by omega)⟩ ⟨f % 64, Nat.mod_lt _ (by omega)⟩ := by
    funext a
    fin_cases a
    · exact Fin.ext (by show (i 0).val = f / 64 % 64; omega)
    · exact Fin.ext (by show (i 1).val = f % 64; omega)
  rw [q2, ← e]
  exact h i

/-- Two arrays as one complex array. -/
def z3 (a b : Vec Ideal S2048x64x64 .f32) (t f : ℕ) : ℂ := ⟨q3 a t f, q3 b t f⟩
def z2 (a b : Vec Ideal S64x64 .f32) (f : ℕ) : ℂ := ⟨q2 a f, q2 b f⟩

/-! ## The host lines -/

theorem Wide.re_at {v : Vec Ideal S2048x8192 .f32} {z : ℕ → ℕ → ℂ} (h : Wide v z) (i : S2048x8192.Idx) {t k f : ℕ} (h0 : (i 0).val = t) (h1 : (i 1).val = k)
    (hk : k % 2048 < 1024) (hf : 1024 * (k / 2048) + k % 2048 = f) : v i = (((z t f).re : ℝ) : EReal) := by
  rw [h i, h0, h1, if_pos hk, hf]
theorem Wide.im_at {v : Vec Ideal S2048x8192 .f32} {z : ℕ → ℕ → ℂ} (h : Wide v z) (i : S2048x8192.Idx) {t k f : ℕ} (h0 : (i 0).val = t) (h1 : (i 1).val = k)
    (hk : ¬ k % 2048 < 1024) (hf : 1024 * (k / 2048) + (k % 2048 - 1024) = f) : v i = (((z t f).im : ℝ) : EReal) := by
  rw [h i, h0, h1, if_neg hk, hf]
theorem Rows.at' {a b : Vec Ideal S32x1024 .f32} {L : ℕ → ℂ} (h : Rows a b L) (i : S32x1024.Idx) {n l f : ℕ} (h0 : (i 0).val = n) (h1 : (i 1).val = l)
    (hf : 1024 * (n / 8) + l = f) : a i = (((L f).re : ℝ) : EReal) ∧ b i = (((L f).im : ℝ) : EReal) := by
  have k := h i
  beta_reduce at k
  rw [h0, h1, hf] at k
  exact k
theorem q3_ix {v : Vec Ideal S2048x64x64 .f32} (h : Re v) (a : Fin 2048) (b c : Fin 64) {f : ℕ} (hf : 64 * b.val + c.val = f) :
    v (ix3 a b c) = ((q3 v a.val f : ℝ) : EReal) :=
  q3_at h _ rfl (by show b.val = f / 64; omega) (by show c.val = f % 64; omega)
theorem q2_ix {v : Vec Ideal S64x64 .f32} (h : Re v) (b c : Fin 64) {f : ℕ} (hf : 64 * b.val + c.val = f) :
    v (ix2 b c) = ((q2 v f : ℝ) : EReal) :=
  q2_at h _ (by show b.val = f / 64; omega) (by show c.val = f % 64; omega)

section Host
variable (V : Valuation τ sig (Elt Ideal))

theorem v9_wide {a b : Vec Ideal S2048x64x64 .f32} (ha : V (Proc.devRef .tc main_arg0) = a) (hb : V (Proc.devRef .tc main_arg1) = b) (ra : Re a) (rb : Re b) :
    Wide (after hostOps0 V (Proc.devRef .tc main_v9)) (z3 a b) := by
  intro i
  have b1 : (i 1).val < 8192 := (i 1).isLt
  after_reads_at
  by_cases h : (i 1).val % 2048 < 1024
  · rw [dif_pos h, if_pos h]
    after_reads_at
    rw [ha]
    exact q3_ix ra _ _ _ (by dsimp only; omega)
  · rw [dif_neg h, if_neg h]
    after_reads_at
    rw [hb]
    exact q3_ix rb _ _ _ (by dsimp only; omega)
theorem v14_wide {a b : Vec Ideal S2048x64x64 .f32} (ha : V (Proc.devRef .tc main_arg4) = a) (hb : V (Proc.devRef .tc main_arg5) = b) (ra : Re a) (rb : Re b) :
    Wide (after hostOps1 V (Proc.devRef .tc main_v14)) (z3 a b) := by
  intro i
  have b1 : (i 1).val < 8192 := (i 1).isLt
  after_reads_at
  by_cases h : (i 1).val % 2048 < 1024
  · rw [dif_pos h, if_pos h]
    after_reads_at
    rw [ha]
    exact q3_ix ra _ _ _ (by dsimp only; omega)
  · rw [dif_neg h, if_neg h]
    after_reads_at
    rw [hb]
    exact q3_ix rb _ _ _ (by dsimp only; omega)
theorem lam_re {a : Vec Ideal S64x64 .f32} (ha : V (Proc.devRef .tc main_arg2) = a) (ra : Re a) (i : S32x1024.Idx) :
    after hostOps0 V (Proc.devRef .tc main_v2) i = ((q2 a (1024 * ((i 0).val / 8) + (i 1).val) : ℝ) : EReal) := by
  after_reads_at
  have b0 : (i 0).val < 32 := (i 0).isLt
  have b1 : (i 1).val < 1024 := (i 1).isLt
  refine (congrFun ha _).trans (q2_ix ra _ _ ?_)
  dsimp only
  omega
theorem lam_im {a : Vec Ideal S64x64 .f32} (ha : V (Proc.devRef .tc main_arg3) = a) (ra : Re a) (i : S32x1024.Idx) :
    after hostOps0 V (Proc.devRef .tc main_v5) i = ((q2 a (1024 * ((i 0).val / 8) + (i 1).val) : ℝ) : EReal) := by
  after_reads_at
  have b0 : (i 0).val < 32 := (i 0).isLt
  have b1 : (i 1).val < 1024 := (i 1).isLt
  refine (congrFun ha _).trans (q2_ix ra _ _ ?_)
  dsimp only
  omega
theorem lam_rows {a b : Vec Ideal S64x64 .f32} (ha : V (Proc.devRef .tc main_arg2) = a) (hb : V (Proc.devRef .tc main_arg3) = b) (ra : Re a) (rb : Re b) :
    Rows (after hostOps0 V (Proc.devRef .tc main_v2)) (after hostOps0 V (Proc.devRef .tc main_v5)) (z2 a b) :=
  fun i => ⟨lam_re V ha ra i, lam_im V hb rb i⟩
theorem v19_at {v : Vec Ideal S2048x8192 .f32} {z : ℕ → ℕ → ℂ} (hv : V (Proc.devRef .tc main_v15_0) = v) (h : Wide v z) (i : S2048x64x64.Idx) :
    after hostOps2 V (Proc.devRef .tc main_v19) i = (((z (i 0).val (64 * (i 1).val + (i 2).val)).re : ℝ) : EReal) := by
  have b1 : (i 1).val < 64 := (i 1).isLt
  have b2 : (i 2).val < 64 := (i 2).isLt
  after_reads_at
  rw [hv]
  exact h.re_at _ (t := (i 0).val) (k := (i 1).val / 16 * 2048 + ((i 1).val % 16 * 64 + (i 2).val)) rfl rfl (by omega) (by omega)
theorem v22_at {v : Vec Ideal S2048x8192 .f32} {z : ℕ → ℕ → ℂ} (hv : V (Proc.devRef .tc main_v15_0) = v) (h : Wide v z) (i : S2048x64x64.Idx) :
    after hostOps2 V (Proc.devRef .tc main_v22) i = (((z (i 0).val (64 * (i 1).val + (i 2).val)).im : ℝ) : EReal) := by
  have b1 : (i 1).val < 64 := (i 1).isLt
  have b2 : (i 2).val < 64 := (i 2).isLt
  after_reads_at
  rw [hv]
  exact h.im_at _ (t := (i 0).val) (k := (i 1).val / 16 * 2048 + 1024 + ((i 1).val % 16 * 64 + (i 2).val)) rfl rfl (by omega) (by omega)
theorem v26_at {a b : Vec Ideal S32x1024 .f32} {L : ℕ → ℂ} (ha : V (Proc.devRef .tc main_v15_1) = a) (h : Rows a b L) (i : S64x64.Idx) :
    after hostOps2 V (Proc.devRef .tc main_v26) i = (((L (64 * (i 0).val + (i 1).val)).re : ℝ) : EReal) := by
  have b0 : (i 0).val < 64 := (i 0).isLt
  have b1 : (i 1).val < 64 := (i 1).isLt
  after_reads_at
  rw [ha]
  exact (h.at' _ (n := (i 0).val / 16 * 8) (l := (i 0).val % 16 * 64 + (i 1).val) rfl rfl (by omega)).1
theorem v30_at {a b : Vec Ideal S32x1024 .f32} {L : ℕ → ℂ} (ha : V (Proc.devRef .tc main_v15_2) = b) (h : Rows a b L) (i : S64x64.Idx) :
    after hostOps2 V (Proc.devRef .tc main_v30) i = (((L (64 * (i 0).val + (i 1).val)).im : ℝ) : EReal) := by
  have b0 : (i 0).val < 64 := (i 0).isLt
  have b1 : (i 1).val < 64 := (i 1).isLt
  after_reads_at
  rw [ha]
  exact (h.at' _ (n := (i 0).val / 16 * 8) (l := (i 0).val % 16 * 64 + (i 1).val) rfl rfl (by omega)).2
end Host

/-! ## The kernel's results -/

section Results
variable (m : (ℓ : Loc nD τ sig) → Buf (Elt Ideal) ℓ) (c : Dev nD)

def bu : ℕ → ℕ → ℂ := z3 (m ((c.tc).loc main_arg0)) (m ((c.tc).loc main_arg1))
def lam : ℕ → ℂ := z2 (m ((c.tc).loc main_arg2)) (m ((c.tc).loc main_arg3))
def ct : ℕ → ℕ → ℂ := z3 (m ((c.tc).loc main_arg4)) (m ((c.tc).loc main_arg5))
/-- The arguments are real numbers. -/
structure Reals : Prop where
  a0 : Re (s := S2048x64x64) (m ((c.tc).loc main_arg0))
  a1 : Re (s := S2048x64x64) (m ((c.tc).loc main_arg1))
  a2 : Re (s := S64x64) (m ((c.tc).loc main_arg2))
  a3 : Re (s := S64x64) (m ((c.tc).loc main_arg3))
  a4 : Re (s := S2048x64x64) (m ((c.tc).loc main_arg4))
  a5 : Re (s := S2048x64x64) (m ((c.tc).loc main_arg5))

variable (h : Reals m c)
include h

theorem E1_v9 : Wide (U1 m c main_v9) (bu m c) := v9_wide (E0 m c) rfl rfl h.a0 h.a1
theorem E1_lam : Rows (U1 m c main_v2) (U1 m c main_v5) (lam m c) := lam_rows (E0 m c) rfl rfl h.a2 h.a3
theorem E3_v14 : Wide (U3 m c main_v14) (ct m c) :=
  v14_wide (E2 m c) ((E2_of m c main_arg4 (argsIn0 main_arg4 (by decide))).trans (E1_of m c main_arg4 (by decide)))
    ((E2_of m c main_arg5 (argsIn0 main_arg5 (by decide))).trans (E1_of m c main_arg5 (by decide))) h.a4 h.a5
theorem E3_v10 : Wide (U3 m c main_v10) (fun n f => St (lam m c) (bu m c) (n + 1) f) := by
  have e : U3 m c main_v10 = (dat0 (U1 m) c).arrAt 3 cfg0.N := (E3_of m c main_v10 (by decide)).trans (E2_arr m c 3)
  rw [e]
  exact arr0 (U1 m) c (E1_v9 m c h) (E1_lam m c h)
theorem E3_lam : Rows (U3 m c main_v2) (U3 m c main_v5) (lam m c) := by
  have e2 : U3 m c main_v2 = U1 m c main_v2 := (E3_of m c main_v2 (by decide)).trans (E2_of m c main_v2 (by decide +kernel))
  have e5 : U3 m c main_v5 = U1 m c main_v5 := (E3_of m c main_v5 (by decide)).trans (E2_of m c main_v5 (by decide +kernel))
  rw [e2, e5]
  exact E1_lam m c h
theorem res0 (i : S2048x64x64.Idx) : E5 m c (Proc.devRef .tc main_v19) i = (((Ct (lam m c) (ct m c) (2048 - (i 0).val) (64 * (i 1).val + (i 2).val)).re : ℝ) : EReal) := by
  exact v19_at (E4 m c) (E4_arr m c 5) (z := fun n f => Ct (lam m c) (ct m c) (2048 - n) f) (arr5 (U3 m) c (E3_v14 m c h) (S := St (lam m c) (bu m c)) (E3_v10 m c h) (E3_lam m c h) (fun _ => rfl)) i
theorem res1 (i : S2048x64x64.Idx) : E5 m c (Proc.devRef .tc main_v22) i = (((Ct (lam m c) (ct m c) (2048 - (i 0).val) (64 * (i 1).val + (i 2).val)).im : ℝ) : EReal) := by
  exact v22_at (E4 m c) (E4_arr m c 5) (z := fun n f => Ct (lam m c) (ct m c) (2048 - n) f) (arr5 (U3 m) c (E3_v14 m c h) (S := St (lam m c) (bu m c)) (E3_v10 m c h) (E3_lam m c h) (fun _ => rfl)) i
theorem res2 (i : S64x64.Idx) : E5 m c (Proc.devRef .tc main_v26) i = (((Dl (lam m c) (ct m c) (St (lam m c) (bu m c)) (64 * (i 0).val + (i 1).val)).re : ℝ) : EReal) :=
  v26_at (E4 m c) (E4_arr m c 6) (arr67 (U3 m) c (E3_v14 m c h) (S := St (lam m c) (bu m c)) (E3_v10 m c h) (E3_lam m c h) (fun _ => rfl)) i
theorem res3 (i : S64x64.Idx) : E5 m c (Proc.devRef .tc main_v30) i = (((Dl (lam m c) (ct m c) (St (lam m c) (bu m c)) (64 * (i 0).val + (i 1).val)).im : ℝ) : EReal) :=
  v30_at (E4 m c) (E4_arr m c 7) (arr67 (U3 m) c (E3_v14 m c h) (S := St (lam m c) (bu m c)) (E3_v10 m c h) (E3_lam m c h) (fun _ => rfl)) i
end Results

end Cert.KernelIdeal.Own

end
-- ==== Proof.Fin.lean ====
module

public import proofs.«01_k».proof.Defs
public import proofs.«01_k».proof.Proof.Gen.Pre_finite
public import proofs.«01_k».proof.Proof.KVal
public import Idealize.ShloMosaic.Lib.ReduceAll

@[expose] public section

noncomputable section

namespace Cert.Proof

open Idealize.ShloMosaic Idealize.ShloMosaic.TcCoe Idealize.ShloMosaic.Tactic Cert.Pre_finite

/-- An element whose absolute value is below infinity is a real number. -/
theorem real_of_lt {s : Shape} {v : FVec Ideal s .f32} {w : FVec Ideal s .f32} (hw : ∀ i, (w i : EReal) = ⊤) {i : s.Idx} (h : cmpf .olt (Host.absf v) w i = 1#1) :
    v i = (((v i : EReal).toReal : ℝ) : EReal) := by
  have h' : max (v i : EReal) (-(v i : EReal)) < ⊤ := by
    have := h
    pointwise at this
    rw [hw i] at this
    by_contra hn
    exact absurd (this.symm.trans (congrArg BitVec.ofBool (decide_eq_false hn))) (by decide)
  refine (EReal.coe_toReal ?_ ?_).symm
  · intro e
    rw [e] at h'
    exact absurd h' (by simp)
  · intro e
    rw [e] at h'
    exact absurd h' (by simp)

instance : Subsingleton S_.Idx := ⟨fun a b => funext fun k => k.elim0⟩

theorem inf3 (i : S2048x64x64.Idx) : (broadcastInDim S2048x64x64 ![] Cert.Pre_finite.Gen.facts.bcast_S_S2048x64x64 (constant (F := Ideal) S_ .f32 0x7F800000#32) i : EReal) = ⊤ := by
  pointwise
  simp [Ideal.ofBits, Ideal.ieee]
theorem inf2 (i : S64x64.Idx) : (broadcastInDim S64x64 ![] Cert.Pre_finite.Gen.facts.bcast_S_S64x64 (constant (F := Ideal) S_ .f32 0x7F800000#32) i : EReal) = ⊤ := by
  pointwise
  simp [Ideal.ofBits, Ideal.ieee]

/-- The precondition says that every argument is real. -/
theorem reals {a0 a1 : FVec Ideal S2048x64x64 .f32} {a2 a3 : FVec Ideal S64x64 .f32} {a4 a5 : FVec Ideal S2048x64x64 .f32}
    (h : @Cert.Pre_finite.fn Cert.Pre_finite.Gen.facts Ideal _ a0 a1 a2 a3 a4 a5 = fun _ => 1#1) :
    Cert.KernelIdeal.Own.Re a0 ∧ Cert.KernelIdeal.Own.Re a1 ∧ Cert.KernelIdeal.Own.Re a2 ∧ Cert.KernelIdeal.Own.Re a3 ∧ Cert.KernelIdeal.Own.Re a4 ∧ Cert.KernelIdeal.Own.Re a5 := by
  have e := congrFun h (Shape.Idx.first Cert.Pre_finite.Gen.facts.h_S_)
  simp only [Cert.Pre_finite.fn, Cert.Pre_finite.fn_part1, andi_apply, IntOp.andi_eq_one] at e
  obtain ⟨⟨⟨⟨⟨h0, h1⟩, h2⟩, h3⟩, h4⟩, h5⟩ := e
  exact ⟨fun i => real_of_lt inf3 (Host.reduce_andi_all _ _ _ _ _ h0 i), fun i => real_of_lt inf3 (Host.reduce_andi_all _ _ _ _ _ h1 i),
    fun i => real_of_lt inf2 (Host.reduce_andi_all _ _ _ _ _ h2 i), fun i => real_of_lt inf2 (Host.reduce_andi_all _ _ _ _ _ h3 i),
    fun i => real_of_lt inf3 (Host.reduce_andi_all _ _ _ _ _ h4 i), fun i => real_of_lt inf3 (Host.reduce_andi_all _ _ _ _ _ h5 i)⟩

end Cert.Proof

end
-- ==== Proof.RVal0.lean ====
module

public import proofs.«01_k».proof.Proof.RefRun
public import proofs.«01_k».proof.Proof.Rep
public import Idealize.ShloMosaic.Lib.StableHlo.ReadAt
public import Idealize.ShloMosaic.Lib.Pointwise.Index
public import Idealize.ShloMosaic.Lib.Pointwise.Reshape
public import Idealize.ShloMosaic.Lib.Tactic

@[expose] public section

set_option maxRecDepth 16384

noncomputable section

namespace Cert.ReferenceIdeal.Own

open Idealize.ShloMosaic Idealize.ShloMosaic.TcCoe Idealize.ShloMosaic.Tactic
open Idealize.ShloMosaic.StableHlo
open Cert.ReferenceIdeal.Gen
open scoped ComplexConjugate

theorem clamp_at (start : Fin 3 → Int) (k : ℕ) (h0 : start 0 = k) (h1 : start 1 = 0) (h2 : start 2 = 0) (hk : k < 2048) :
    Host.clampedStart S2048x64x64 S1x64x64 rfl start 0 = k ∧ Host.clampedStart S2048x64x64 S1x64x64 rfl start 1 = 0 ∧ Host.clampedStart S2048x64x64 S1x64x64 rfl start 2 = 0 := by
  refine ⟨?_, ?_, ?_⟩
  · unfold Host.clampedStart
    rw [h0]
    show (min (max (k : ℤ) 0) ((2047 : ℕ) : ℤ)).toNat = k
    omega
  · unfold Host.clampedStart
    rw [h1]
    rfl
  · unfold Host.clampedStart
    rw [h2]
    rfl
theorem ds_at (x : Vec Ideal S2048x64x64 .f32) (start : Fin 3 → Int) {k : ℕ} (h0 : start 0 = k) (h1 : start 1 = 0) (h2 : start 2 = 0) (hk : k < 2048)
    (hs : S2048x64x64.Slices (fun _ => 0) S1x64x64) (p q : Fin 64) :
    Host.dynamicSlice S1x64x64 x start hs (ix3 (n0 := 1) (n1 := 64) (n2 := 64) 0 p q) = x (ix3 (n0 := 2048) (n1 := 64) (n2 := 64) ⟨k, hk⟩ p q) := by
  obtain ⟨e0, e1, e2⟩ := clamp_at start k h0 h1 h2 hk
  rw [Host.dynamicSlice_apply]
  congr 1
  funext a
  fin_cases a
  · refine Fin.ext ?_
    show Host.clampedStart S2048x64x64 S1x64x64 rfl start 0 + 0 = k
    omega
  · refine Fin.ext ?_
    show Host.clampedStart S2048x64x64 S1x64x64 rfl start 1 + p.val = p.val
    omega
  · refine Fin.ext ?_
    show Host.clampedStart S2048x64x64 S1x64x64 rfl start 2 + q.val = q.val
    omega
theorem dus_at (x : Vec Ideal S2048x64x64 .f32) (u : Vec Ideal S1x64x64 .f32) (start : Fin 3 → Int) {k : ℕ} (h0 : start 0 = k) (h1 : start 1 = 0) (h2 : start 2 = 0) (hk : k < 2048)
    (hs : S2048x64x64.Slices (fun _ => 0) S1x64x64) (i : S2048x64x64.Idx) :
    Host.dynamicUpdateSlice x u start hs i = if (i 0).val = k then u (ix3 (n0 := 1) (n1 := 64) (n2 := 64) 0 (i 1) (i 2)) else x i := by
  obtain ⟨e0, e1, e2⟩ := clamp_at start k h0 h1 h2 hk
  rw [Host.dynamicUpdateSlice_apply]
  have b1 : (i 1).val < 64 := (i 1).isLt
  have b2 : (i 2).val < 64 := (i 2).isLt
  by_cases hi : (i 0).val = k
  · rw [if_pos hi, dif_pos]
    · refine congrArg (fun z => (u : S1x64x64.Idx → EReal) z) (?_ : (_ : S1x64x64.Idx) = _)
      funext a
      fin_cases a
      · refine Fin.ext ?_
        show (i 0).val - Host.clampedStart S2048x64x64 S1x64x64 rfl start 0 = 0
        omega
      · refine Fin.ext ?_
        show (i 1).val - Host.clampedStart S2048x64x64 S1x64x64 rfl start 1 = (i 1).val
        omega
      · refine Fin.ext ?_
        show (i 2).val - Host.clampedStart S2048x64x64 S1x64x64 rfl start 2 = (i 2).val
        omega
    · intro a
      fin_cases a
      · show Host.clampedStart S2048x64x64 S1x64x64 rfl start 0 ≤ (i 0).val ∧ (i 0).val < Host.clampedStart S2048x64x64 S1x64x64 rfl start 0 + 1
        omega
      · show Host.clampedStart S2048x64x64 S1x64x64 rfl start 1 ≤ (i 1).val ∧ (i 1).val < Host.clampedStart S2048x64x64 S1x64x64 rfl start 1 + 64
        omega
      · show Host.clampedStart S2048x64x64 S1x64x64 rfl start 2 ≤ (i 2).val ∧ (i 2).val < Host.clampedStart S2048x64x64 S1x64x64 rfl start 2 + 64
        omega
  · rw [if_neg hi, dif_neg]
    intro h
    have : Host.clampedStart S2048x64x64 S1x64x64 rfl start 0 ≤ (i 0).val ∧ (i 0).val < Host.clampedStart S2048x64x64 S1x64x64 rfl start 0 + 1 := h 0
    omega

theorem b0_0_val (V : Valuation τ sig (Elt Ideal)) {k : ℕ} {w : BitVec 32} (hw : w.toInt = k) (hk : k < 2048) (hc : V (Proc.devRef .tc main_v5_4) = fun _ => w) (i : S64x64.Idx) :
    after b0_0 V (Proc.devRef .tc main_while0b_v15) i = V (Proc.devRef .tc main_v5_0) (ix3 (n0 := 2048) (n1 := 64) (n2 := 64) ⟨k, hk⟩ (i 0) (i 1)) := by
  after_results
  pointwise
  refine ds_at (V (Proc.devRef .tc main_v5_0)) _ ?_ rfl rfl hk sliceFits_S2048x64x64_S1x64x64 (i 0) (i 1)
  exact (congrArg BitVec.toInt (congrFun hc _)).trans hw
theorem b0_1_val (V : Valuation τ sig (Elt Ideal)) {k : ℕ} {w : BitVec 32} (hw : w.toInt = k) (hk : k < 2048) (hc : V (Proc.devRef .tc main_v5_4) = fun _ => w) (i : S64x64.Idx) :
    after b0_1 V (Proc.devRef .tc main_while0b_v16) i = V (Proc.devRef .tc main_v5_1) (ix3 (n0 := 2048) (n1 := 64) (n2 := 64) ⟨k, hk⟩ (i 0) (i 1)) := by
  after_results
  pointwise
  refine ds_at (V (Proc.devRef .tc main_v5_1)) _ ?_ rfl rfl hk sliceFits_S2048x64x64_S1x64x64 (i 0) (i 1)
  exact (congrArg BitVec.toInt (congrFun hc _)).trans hw
theorem b1_1_val (V : Valuation τ sig (Elt Ideal)) {k : ℕ} {w : BitVec 32} (hw : w.toInt = k) (hk : k < 2048) (hc : V (Proc.devRef .tc main_while1b_v16) = fun _ => w) (i : S64x64.Idx) :
    after b1_1 V (Proc.devRef .tc main_while1b_v17) i = V (Proc.devRef .tc main_v14_0) (ix3 (n0 := 2048) (n1 := 64) (n2 := 64) ⟨k, hk⟩ (i 0) (i 1)) := by
  after_results
  pointwise
  refine ds_at (V (Proc.devRef .tc main_v14_0)) _ ?_ rfl rfl hk sliceFits_S2048x64x64_S1x64x64 (i 0) (i 1)
  exact (congrArg BitVec.toInt (congrFun hc _)).trans hw
theorem b1_2_val (V : Valuation τ sig (Elt Ideal)) {k : ℕ} {w : BitVec 32} (hw : w.toInt = k) (hk : k < 2048) (hc : V (Proc.devRef .tc main_while1b_v16) = fun _ => w) (i : S64x64.Idx) :
    after b1_2 V (Proc.devRef .tc main_while1b_v18) i = V (Proc.devRef .tc main_v14_1) (ix3 (n0 := 2048) (n1 := 64) (n2 := 64) ⟨k, hk⟩ (i 0) (i 1)) := by
  after_results
  pointwise
  refine ds_at (V (Proc.devRef .tc main_v14_1)) _ ?_ rfl rfl hk sliceFits_S2048x64x64_S1x64x64 (i 0) (i 1)
  exact (congrArg BitVec.toInt (congrFun hc _)).trans hw
theorem b1_3_val (V : Valuation τ sig (Elt Ideal)) {k : ℕ} {w : BitVec 32} (hw : w.toInt = k) (hk : k < 2048) (hc : V (Proc.devRef .tc main_while1b_v16) = fun _ => w) (i : S64x64.Idx) :
    after b1_3 V (Proc.devRef .tc main_while1b_v19) i = V (Proc.devRef .tc main_v14_2) (ix3 (n0 := 2048) (n1 := 64) (n2 := 64) ⟨k, hk⟩ (i 0) (i 1)) := by
  after_results
  pointwise
  refine ds_at (V (Proc.devRef .tc main_v14_2)) _ ?_ rfl rfl hk sliceFits_S2048x64x64_S1x64x64 (i 0) (i 1)
  exact (congrArg BitVec.toInt (congrFun hc _)).trans hw
theorem b1_4_val (V : Valuation τ sig (Elt Ideal)) {k : ℕ} {w : BitVec 32} (hw : w.toInt = k) (hk : k < 2048) (hc : V (Proc.devRef .tc main_while1b_v16) = fun _ => w) (i : S64x64.Idx) :
    after b1_4 V (Proc.devRef .tc main_while1b_v20) i = V (Proc.devRef .tc main_v14_3) (ix3 (n0 := 2048) (n1 := 64) (n2 := 64) ⟨k, hk⟩ (i 0) (i 1)) := by
  after_results
  pointwise
  refine ds_at (V (Proc.devRef .tc main_v14_3)) _ ?_ rfl rfl hk sliceFits_S2048x64x64_S1x64x64 (i 0) (i 1)
  exact (congrArg BitVec.toInt (congrFun hc _)).trans hw
theorem b0_5_val (V : Valuation τ sig (Elt Ideal)) {k : ℕ} {w : BitVec 32} (hw : w.toInt = k) (hk : k < 2048) (hc : V (Proc.devRef .tc main_v5_4) = fun _ => w) (i : S2048x64x64.Idx) :
    after b0_5 V (Proc.devRef .tc main_while0b_v27) i = if (i 0).val = k then V (Proc.devRef .tc main_v5_5) (ix2 (n0 := 64) (n1 := 64) (i 1) (i 2)) else V (Proc.devRef .tc main_v5_9) i := by
  after_results
  refine (dus_at (V (Proc.devRef .tc main_v5_9)) (broadcastInDim S1x64x64 ![1, 2] bcast_S64x64_S1x64x64_1_2 (V (Proc.devRef .tc main_v5_5) : Vec Ideal S64x64 .f32)) _ (k := k) ?_ ?_ ?_ hk updateFits_S2048x64x64_S1x64x64 i).trans ?_
  · exact (congrArg BitVec.toInt (congrFun hc _)).trans hw
  · rfl
  · rfl
  · pointwise
theorem b0_6_val (V : Valuation τ sig (Elt Ideal)) {k : ℕ} {w : BitVec 32} (hw : w.toInt = k) (hk : k < 2048) (hc : V (Proc.devRef .tc main_v5_4) = fun _ => w) (i : S2048x64x64.Idx) :
    after b0_6 V (Proc.devRef .tc main_while0b_v28) i = if (i 0).val = k then V (Proc.devRef .tc main_v5_6) (ix2 (n0 := 64) (n1 := 64) (i 1) (i 2)) else V (Proc.devRef .tc main_v5_10) i := by
  after_results
  refine (dus_at (V (Proc.devRef .tc main_v5_10)) (broadcastInDim S1x64x64 ![1, 2] bcast_S64x64_S1x64x64_1_2 (V (Proc.devRef .tc main_v5_6) : Vec Ideal S64x64 .f32)) _ (k := k) ?_ ?_ ?_ hk updateFits_S2048x64x64_S1x64x64 i).trans ?_
  · exact (congrArg BitVec.toInt (congrFun hc _)).trans hw
  · rfl
  · rfl
  · pointwise
theorem b1_6_val (V : Valuation τ sig (Elt Ideal)) {k : ℕ} {w : BitVec 32} (hw : w.toInt = k) (hk : k < 2048) (hc : V (Proc.devRef .tc main_while1b_v16) = fun _ => w) (i : S2048x64x64.Idx) :
    after b1_6 V (Proc.devRef .tc main_while1b_v38) i = if (i 0).val = k then V (Proc.devRef .tc main_while1b_v21) (ix2 (n0 := 64) (n1 := 64) (i 1) (i 2)) else V (Proc.devRef .tc main_v14_11) i := by
  after_results
  refine (dus_at (V (Proc.devRef .tc main_v14_11)) (broadcastInDim S1x64x64 ![1, 2] bcast_S64x64_S1x64x64_1_2 (V (Proc.devRef .tc main_while1b_v21) : Vec Ideal S64x64 .f32)) _ (k := k) ?_ ?_ ?_ hk updateFits_S2048x64x64_S1x64x64 i).trans ?_
  · exact (congrArg BitVec.toInt (congrFun hc _)).trans hw
  · rfl
  · rfl
  · pointwise
theorem b1_7_val (V : Valuation τ sig (Elt Ideal)) {k : ℕ} {w : BitVec 32} (hw : w.toInt = k) (hk : k < 2048) (hc : V (Proc.devRef .tc main_while1b_v16) = fun _ => w) (i : S2048x64x64.Idx) :
    after b1_7 V (Proc.devRef .tc main_while1b_v39) i = if (i 0).val = k then V (Proc.devRef .tc main_while1b_v22) (ix2 (n0 := 64) (n1 := 64) (i 1) (i 2)) else V (Proc.devRef .tc main_v14_12) i := by
  after_results
  refine (dus_at (V (Proc.devRef .tc main_v14_12)) (broadcastInDim S1x64x64 ![1, 2] bcast_S64x64_S1x64x64_1_2 (V (Proc.devRef .tc main_while1b_v22) : Vec Ideal S64x64 .f32)) _ (k := k) ?_ ?_ ?_ hk updateFits_S2048x64x64_S1x64x64 i).trans ?_
  · exact (congrArg BitVec.toInt (congrFun hc _)).trans hw
  · rfl
  · rfl
  · pointwise
/-- An element, as an extended real. -/
abbrev at2 (v : Vec Ideal S64x64 .f32) (i : S64x64.Idx) : EReal := v i
theorem v20_val (V : Valuation τ sig (Elt Ideal)) (i : S64x64.Idx) : at2 (after b0_2 V (Proc.devRef .tc main_while0b_v20)) i = at2 (V (Proc.devRef .tc main_v5_2)) i * at2 (V (Proc.devRef .tc main_v5_5)) i - at2 (V (Proc.devRef .tc main_v5_3)) i * at2 (V (Proc.devRef .tc main_v5_6)) i + at2 (V (Proc.devRef .tc main_while0b_v15)) i := by
  unfold at2
  after_reads_at
  try rfl
theorem v24_val (V : Valuation τ sig (Elt Ideal)) (i : S64x64.Idx) : at2 (after b0_2 V (Proc.devRef .tc main_while0b_v24)) i = at2 (V (Proc.devRef .tc main_v5_2)) i * at2 (V (Proc.devRef .tc main_v5_6)) i + at2 (V (Proc.devRef .tc main_v5_3)) i * at2 (V (Proc.devRef .tc main_v5_5)) i + at2 (V (Proc.devRef .tc main_while0b_v16)) i := by
  unfold at2
  after_reads_at
  try rfl
theorem v21_val (V : Valuation τ sig (Elt Ideal)) (i : S64x64.Idx) : at2 (after b1_5 V (Proc.devRef .tc main_while1b_v21)) i = at2 (V (Proc.devRef .tc main_v14_9)) i + at2 (V (Proc.devRef .tc main_while1b_v17)) i := by
  unfold at2
  after_reads_at
  try rfl
theorem v22_val (V : Valuation τ sig (Elt Ideal)) (i : S64x64.Idx) : at2 (after b1_5 V (Proc.devRef .tc main_while1b_v22)) i = at2 (V (Proc.devRef .tc main_v14_10)) i + at2 (V (Proc.devRef .tc main_while1b_v18)) i := by
  unfold at2
  after_reads_at
  try rfl
theorem v31_val (V : Valuation τ sig (Elt Ideal)) (i : S64x64.Idx) : at2 (after b1_5 V (Proc.devRef .tc main_while1b_v31)) i = at2 (V (Proc.devRef .tc main_v14_4)) i * (at2 (V (Proc.devRef .tc main_v14_10)) i + at2 (V (Proc.devRef .tc main_while1b_v18)) i) + at2 (V (Proc.devRef .tc main_v14_5)) i * -(at2 (V (Proc.devRef .tc main_v14_9)) i + at2 (V (Proc.devRef .tc main_while1b_v17)) i) := by
  unfold at2
  after_reads_at
  try rfl
theorem v35_val (V : Valuation τ sig (Elt Ideal)) (i : S64x64.Idx) : at2 (after b1_5 V (Proc.devRef .tc main_while1b_v35)) i = at2 (V (Proc.devRef .tc main_v14_5)) i * (at2 (V (Proc.devRef .tc main_v14_10)) i + at2 (V (Proc.devRef .tc main_while1b_v18)) i) + at2 (V (Proc.devRef .tc main_v14_4)) i * (at2 (V (Proc.devRef .tc main_v14_9)) i + at2 (V (Proc.devRef .tc main_while1b_v17)) i) := by
  unfold at2
  after_reads_at
  try rfl
theorem v37_val (V : Valuation τ sig (Elt Ideal)) (i : S64x64.Idx) : at2 (after b1_5 V (Proc.devRef .tc main_while1b_v37)) i = at2 (V (Proc.devRef .tc main_v14_7)) i + (at2 (V (Proc.devRef .tc main_v14_10)) i + at2 (V (Proc.devRef .tc main_while1b_v18)) i) * at2 (V (Proc.devRef .tc main_while1b_v20)) i + (at2 (V (Proc.devRef .tc main_v14_9)) i + at2 (V (Proc.devRef .tc main_while1b_v17)) i) * at2 (V (Proc.devRef .tc main_while1b_v19)) i := by
  unfold at2
  after_reads_at
  try rfl
theorem v33_val (V : Valuation τ sig (Elt Ideal)) (i : S64x64.Idx) : at2 (after b1_5 V (Proc.devRef .tc main_while1b_v33)) i = at2 (V (Proc.devRef .tc main_v14_8)) i + (at2 (V (Proc.devRef .tc main_v14_10)) i + at2 (V (Proc.devRef .tc main_while1b_v18)) i) * at2 (V (Proc.devRef .tc main_while1b_v19)) i + -(at2 (V (Proc.devRef .tc main_v14_9)) i + at2 (V (Proc.devRef .tc main_while1b_v17)) i) * at2 (V (Proc.devRef .tc main_while1b_v20)) i := by
  unfold at2
  after_reads_at
  try rfl

end Cert.ReferenceIdeal.Own

end
-- ==== Proof.RVal.lean ====
module

public import proofs.«01_k».proof.Proof.RVal0
public import proofs.«01_k».proof.Proof.KVal

@[expose] public section

set_option maxRecDepth 16384

noncomputable section

namespace Cert.ReferenceIdeal.Own

open Idealize.ShloMosaic Idealize.ShloMosaic.TcCoe Idealize.ShloMosaic.Tactic
open Idealize.ShloMosaic.StableHlo
open Cert.ReferenceIdeal.Gen
open scoped ComplexConjugate

open Cert.KernelIdeal.Own (sc St Ct z3 z2 q3 q2 q3_ix q2_at q3_at Re)

/-! ## Complex arithmetic written out -/

theorem mre (l s u : ℂ) : ((l.re : ℝ) : EReal) * ((s.re : ℝ) : EReal) - ((l.im : ℝ) : EReal) * ((s.im : ℝ) : EReal) + ((u.re : ℝ) : EReal) = (((l * s + u).re : ℝ) : EReal) := by
  rw [← EReal.coe_mul, ← EReal.coe_mul, ← EReal.coe_sub, ← EReal.coe_add, Complex.add_re, Complex.mul_re]
theorem mim (l s u : ℂ) : ((l.re : ℝ) : EReal) * ((s.im : ℝ) : EReal) + ((l.im : ℝ) : EReal) * ((s.re : ℝ) : EReal) + ((u.im : ℝ) : EReal) = (((l * s + u).im : ℝ) : EReal) := by
  rw [← EReal.coe_mul, ← EReal.coe_mul, ← EReal.coe_add, ← EReal.coe_add, Complex.add_im, Complex.mul_im]
theorem are (c g : ℂ) : ((c.re : ℝ) : EReal) + ((g.re : ℝ) : EReal) = (((c + g).re : ℝ) : EReal) := by
  rw [← EReal.coe_add, Complex.add_re]
theorem aim (c g : ℂ) : ((c.im : ℝ) : EReal) + ((g.im : ℝ) : EReal) = (((c + g).im : ℝ) : EReal) := by
  rw [← EReal.coe_add, Complex.add_im]
theorem cim (l a : ℂ) : ((l.re : ℝ) : EReal) * ((a.im : ℝ) : EReal) + ((l.im : ℝ) : EReal) * -((a.re : ℝ) : EReal) = (((conj l * a).im : ℝ) : EReal) := by
  rw [← EReal.coe_neg, ← EReal.coe_mul, ← EReal.coe_mul, ← EReal.coe_add, Complex.mul_im, Complex.conj_re, Complex.conj_im]
  congr 1; ring
theorem cre (l a : ℂ) : ((l.im : ℝ) : EReal) * ((a.im : ℝ) : EReal) + ((l.re : ℝ) : EReal) * ((a.re : ℝ) : EReal) = (((conj l * a).re : ℝ) : EReal) := by
  rw [← EReal.coe_mul, ← EReal.coe_mul, ← EReal.coe_add, Complex.mul_re, Complex.conj_re, Complex.conj_im]
  congr 1; ring
theorem dre (d p a : ℂ) : ((d.re : ℝ) : EReal) + ((a.im : ℝ) : EReal) * ((p.im : ℝ) : EReal) + ((a.re : ℝ) : EReal) * ((p.re : ℝ) : EReal) = (((d + conj p * a).re : ℝ) : EReal) := by
  rw [← EReal.coe_mul, ← EReal.coe_mul, ← EReal.coe_add, ← EReal.coe_add, Complex.add_re, Complex.mul_re, Complex.conj_re, Complex.conj_im]
  congr 1; ring
theorem dim (d p a : ℂ) : ((d.im : ℝ) : EReal) + ((a.im : ℝ) : EReal) * ((p.re : ℝ) : EReal) + -((a.re : ℝ) : EReal) * ((p.im : ℝ) : EReal) = (((d + conj p * a).im : ℝ) : EReal) := by
  rw [← EReal.coe_neg, ← EReal.coe_mul, ← EReal.coe_mul, ← EReal.coe_add, ← EReal.coe_add, Complex.add_im, Complex.mul_im, Complex.conj_re, Complex.conj_im]
  congr 1; ring

theorem iv_toInt (k : ℕ) (hk : k < 2048) : (Scf.iv 0#32 1#32 k).toInt = k := by
  have e : Scf.iv 0#32 1#32 k = BitVec.ofNat 32 k := by rw [Scf.iv]; simp
  rw [e, BitVec.toInt_eq_toNat_cond, BitVec.toNat_ofNat]
  have : k % 2 ^ 32 = k := by omega
  rw [this, if_pos (by omega)]
theorem rev_toInt (k : ℕ) (hk : k < 2048) : (2048#32 - Scf.iv 0#32 1#32 k - 1#32).toInt = ((2047 - k : ℕ) : ℤ) := by
  have e : Scf.iv 0#32 1#32 k = BitVec.ofNat 32 k := by rw [Scf.iv]; simp
  rw [e]
  have e2 : 2048#32 - BitVec.ofNat 32 k - 1#32 = BitVec.ofNat 32 (2047 - k) := by
    apply BitVec.eq_of_toNat_eq
    simp only [BitVec.toNat_sub, BitVec.toNat_ofNat]
    omega
  rw [e2, BitVec.toInt_eq_toNat_cond, BitVec.toNat_ofNat]
  have : (2047 - k) % 2 ^ 32 = 2047 - k := by omega
  rw [this, if_pos (by omega)]

/-- A lane's number. -/
abbrev ln (i : S64x64.Idx) : ℕ := 64 * (i 0).val + (i 1).val

section Step
variable {a0 a1 : Vec Ideal S2048x64x64 .f32} {a2 a3 : Vec Ideal S64x64 .f32} {a4 a5 : Vec Ideal S2048x64x64 .f32}
  (r0 : Re a0) (r1 : Re a1) (r2 : Re a2) (r3 : Re a3) (r4 : Re a4) (r5 : Re a5)

theorem lam_at {a : Vec Ideal S64x64 .f32} (r : Re a) (i : S64x64.Idx) : at2 a i = ((q2 a (ln i) : ℝ) : EReal) := by
  have b1 : (i 1).val < 64 := (i 1).isLt
  exact q2_at r i (by unfold ln; omega) (by unfold ln; omega)
theorem row_at {a : Vec Ideal S2048x64x64 .f32} (r : Re a) (i : S64x64.Idx) (k : ℕ) (hk : k < 2048) :
    a (ix3 (n0 := 2048) (n1 := 64) (n2 := 64) ⟨k, hk⟩ (i 0) (i 1)) = ((q3 a k (ln i) : ℝ) : EReal) :=
  q3_ix r _ _ _ rfl

/-- What holds before trip `k` of the forward loop. -/
structure Inv0 (a0 a1 : Vec Ideal S2048x64x64 .f32) (a2 a3 : Vec Ideal S64x64 .f32) (k : ℕ) (V : Valuation τ sig (Elt Ideal)) : Prop where
  c0 : V (Proc.devRef .tc main_v5_0) = a0
  c1 : V (Proc.devRef .tc main_v5_1) = a1
  c2 : V (Proc.devRef .tc main_v5_2) = a2
  c3 : V (Proc.devRef .tc main_v5_3) = a3
  ctr : V (Proc.devRef .tc main_v5_4) = fun _ => Scf.iv 0#32 1#32 k
  sr : ∀ i, at2 (V (Proc.devRef .tc main_v5_5)) i = (((St (z2 a2 a3) (z3 a0 a1) k (ln i)).re : ℝ) : EReal)
  si : ∀ i, at2 (V (Proc.devRef .tc main_v5_6)) i = (((St (z2 a2 a3) (z3 a0 a1) k (ln i)).im : ℝ) : EReal)
  pr : ∀ i : S2048x64x64.Idx, (i 0).val < k → V (Proc.devRef .tc main_v5_9) i = (((St (z2 a2 a3) (z3 a0 a1) (i 0).val (64 * (i 1).val + (i 2).val)).re : ℝ) : EReal)
  pi : ∀ i : S2048x64x64.Idx, (i 0).val < k → V (Proc.devRef .tc main_v5_10) i = (((St (z2 a2 a3) (z3 a0 a1) (i 0).val (64 * (i 1).val + (i 2).val)).im : ℝ) : EReal)

theorem cp_v5_5 (X : Valuation τ sig (Elt Ideal)) : after b0_7 X (Proc.devRef .tc main_v5_5) = X (Proc.devRef .tc main_while0b_v20) := by
  after_results
  rfl
theorem cp_v5_6 (X : Valuation τ sig (Elt Ideal)) : after b0_7 X (Proc.devRef .tc main_v5_6) = X (Proc.devRef .tc main_while0b_v24) := by
  after_results
  rfl
theorem cp_v5_9 (X : Valuation τ sig (Elt Ideal)) : after b0_7 X (Proc.devRef .tc main_v5_9) = X (Proc.devRef .tc main_while0b_v27) := by
  after_results
  rfl
theorem cp_v5_10 (X : Valuation τ sig (Elt Ideal)) : after b0_7 X (Proc.devRef .tc main_v5_10) = X (Proc.devRef .tc main_while0b_v28) := by
  after_results
  rfl
theorem cp_v14_7 (X : Valuation τ sig (Elt Ideal)) : after b1_8 X (Proc.devRef .tc main_v14_7) = X (Proc.devRef .tc main_while1b_v37) := by
  after_results
  rfl
theorem cp_v14_8 (X : Valuation τ sig (Elt Ideal)) : after b1_8 X (Proc.devRef .tc main_v14_8) = X (Proc.devRef .tc main_while1b_v33) := by
  after_results
  rfl
theorem cp_v14_9 (X : Valuation τ sig (Elt Ideal)) : after b1_8 X (Proc.devRef .tc main_v14_9) = X (Proc.devRef .tc main_while1b_v35) := by
  after_results
  rfl
theorem cp_v14_10 (X : Valuation τ sig (Elt Ideal)) : after b1_8 X (Proc.devRef .tc main_v14_10) = X (Proc.devRef .tc main_while1b_v31) := by
  after_results
  rfl
theorem cp_v14_11 (X : Valuation τ sig (Elt Ideal)) : after b1_8 X (Proc.devRef .tc main_v14_11) = X (Proc.devRef .tc main_while1b_v38) := by
  after_results
  rfl
theorem cp_v14_12 (X : Valuation τ sig (Elt Ideal)) : after b1_8 X (Proc.devRef .tc main_v14_12) = X (Proc.devRef .tc main_while1b_v39) := by
  after_results
  rfl
include r0 r1 r2 r3 in
theorem step0 (V : Valuation τ sig (Elt Ideal)) {k : ℕ} (hk : k < 2048) (h : Inv0 a0 a1 a2 a3 k V)
    (hn : (afterL body0 (after cond0 V)) (Proc.devRef .tc main_v5_4) = fun _ => Scf.iv 0#32 1#32 (k + 1)) :
    Inv0 a0 a1 a2 a3 (k + 1) (afterL body0 (after cond0 V)) := by
  obtain ⟨X0, h0⟩ : ∃ X, X = after cond0 V := ⟨_, rfl⟩
  have k0 : ∀ r, r ∉ cond0_W → X0 (Proc.devRef .tc r) = V (Proc.devRef .tc r) := by
    rw [h0]
    exact cond0_keep V
  obtain ⟨X1, h1⟩ : ∃ X, X = after b0_0 X0 := ⟨_, rfl⟩
  have k1 : ∀ r, r ∉ b0_0_W → X1 (Proc.devRef .tc r) = X0 (Proc.devRef .tc r) := by
    rw [h1]
    exact b0_0_keep X0
  obtain ⟨X2, h2⟩ : ∃ X, X = after b0_1 X1 := ⟨_, rfl⟩
  have k2 : ∀ r, r ∉ b0_1_W → X2 (Proc.devRef .tc r) = X1 (Proc.devRef .tc r) := by
    rw [h2]
    exact b0_1_keep X1
  obtain ⟨X3, h3⟩ : ∃ X, X = after b0_2 X2 := ⟨_, rfl⟩
  have k3 : ∀ r, r ∉ b0_2_W → X3 (Proc.devRef .tc r) = X2 (Proc.devRef .tc r) := by
    rw [h3]
    exact b0_2_keep X2
  obtain ⟨X4, h4⟩ : ∃ X, X = after b0_3 X3 := ⟨_, rfl⟩
  have k4 : ∀ r, r ∉ b0_3_W → X4 (Proc.devRef .tc r) = X3 (Proc.devRef .tc r) := by
    rw [h4]
    exact b0_3_keep X3
  obtain ⟨X5, h5⟩ : ∃ X, X = after b0_4 X4 := ⟨_, rfl⟩
  have k5 : ∀ r, r ∉ b0_4_W → X5 (Proc.devRef .tc r) = X4 (Proc.devRef .tc r) := by
    rw [h5]
    exact b0_4_keep X4
  obtain ⟨X6, h6⟩ : ∃ X, X = after b0_5 X5 := ⟨_, rfl⟩
  have k6 : ∀ r, r ∉ b0_5_W → X6 (Proc.devRef .tc r) = X5 (Proc.devRef .tc r) := by
    rw [h6]
    exact b0_5_keep X5
  obtain ⟨X7, h7⟩ : ∃ X, X = after b0_6 X6 := ⟨_, rfl⟩
  have k7 : ∀ r, r ∉ b0_6_W → X7 (Proc.devRef .tc r) = X6 (Proc.devRef .tc r) := by
    rw [h7]
    exact b0_6_keep X6
  obtain ⟨X8, h8⟩ : ∃ X, X = after b0_7 X7 := ⟨_, rfl⟩
  have k8 : ∀ r, r ∉ b0_7_W → X8 (Proc.devRef .tc r) = X7 (Proc.devRef .tc r) := by
    rw [h8]
    exact b0_7_keep X7
  have e : afterL body0 (after cond0 V) = X8 := by
    rw [h8, h7, h6, h5, h4, h3, h2, h1, h0]; rfl
  rw [e] at hn ⊢
  have hw := iv_toInt k hk
  have g0 : ∀ i, at2 (X2 (Proc.devRef .tc main_while0b_v15)) i = (((z3 a0 a1 k (ln i)).re : ℝ) : EReal) := fun i => by
    rw [(k2 main_while0b_v15 (by decide)), h1]
    refine (b0_0_val X0 hw hk (((k0 main_v5_4 (by decide))).trans h.ctr) i).trans ?_
    rw [(k0 main_v5_0 (by decide)), h.c0]
    exact row_at r0 i k hk
  have g1 : ∀ i, at2 (X2 (Proc.devRef .tc main_while0b_v16)) i = (((z3 a0 a1 k (ln i)).im : ℝ) : EReal) := fun i => by
    rw [h2]
    refine (b0_1_val X1 hw hk (((k1 main_v5_4 (by decide)).trans ((k0 main_v5_4 (by decide)))).trans h.ctr) i).trans ?_
    rw [(k1 main_v5_1 (by decide)).trans ((k0 main_v5_1 (by decide))), h.c1]
    exact row_at r1 i k hk
  have l0 : ∀ i, at2 (X2 (Proc.devRef .tc main_v5_2)) i = (((z2 a2 a3 (ln i)).re : ℝ) : EReal) := fun i => by
    rw [(k2 main_v5_2 (by decide)).trans ((k1 main_v5_2 (by decide)).trans ((k0 main_v5_2 (by decide)))), h.c2]; exact lam_at r2 i
  have l1 : ∀ i, at2 (X2 (Proc.devRef .tc main_v5_3)) i = (((z2 a2 a3 (ln i)).im : ℝ) : EReal) := fun i => by
    rw [(k2 main_v5_3 (by decide)).trans ((k1 main_v5_3 (by decide)).trans ((k0 main_v5_3 (by decide)))), h.c3]; exact lam_at r3 i
  have s0 : ∀ i, at2 (X2 (Proc.devRef .tc main_v5_5)) i = (((St (z2 a2 a3) (z3 a0 a1) k (ln i)).re : ℝ) : EReal) := fun i => by
    rw [(k2 main_v5_5 (by decide)).trans ((k1 main_v5_5 (by decide)).trans ((k0 main_v5_5 (by decide))))]; exact h.sr i
  have s1 : ∀ i, at2 (X2 (Proc.devRef .tc main_v5_6)) i = (((St (z2 a2 a3) (z3 a0 a1) k (ln i)).im : ℝ) : EReal) := fun i => by
    rw [(k2 main_v5_6 (by decide)).trans ((k1 main_v5_6 (by decide)).trans ((k0 main_v5_6 (by decide))))]; exact h.si i
  refine ⟨((k8 main_v5_0 (by decide)).trans ((k7 main_v5_0 (by decide)).trans ((k6 main_v5_0 (by decide)).trans ((k5 main_v5_0 (by decide)).trans ((k4 main_v5_0 (by decide)).trans ((k3 main_v5_0 (by decide)).trans ((k2 main_v5_0 (by decide)).trans ((k1 main_v5_0 (by decide)).trans ((k0 main_v5_0 (by decide))))))))))).trans h.c0, ((k8 main_v5_1 (by decide)).trans ((k7 main_v5_1 (by decide)).trans ((k6 main_v5_1 (by decide)).trans ((k5 main_v5_1 (by decide)).trans ((k4 main_v5_1 (by decide)).trans ((k3 main_v5_1 (by decide)).trans ((k2 main_v5_1 (by decide)).trans ((k1 main_v5_1 (by decide)).trans ((k0 main_v5_1 (by decide))))))))))).trans h.c1, ((k8 main_v5_2 (by decide)).trans ((k7 main_v5_2 (by decide)).trans ((k6 main_v5_2 (by decide)).trans ((k5 main_v5_2 (by decide)).trans ((k4 main_v5_2 (by decide)).trans ((k3 main_v5_2 (by decide)).trans ((k2 main_v5_2 (by decide)).trans ((k1 main_v5_2 (by decide)).trans ((k0 main_v5_2 (by decide))))))))))).trans h.c2, ((k8 main_v5_3 (by decide)).trans ((k7 main_v5_3 (by decide)).trans ((k6 main_v5_3 (by decide)).trans ((k5 main_v5_3 (by decide)).trans ((k4 main_v5_3 (by decide)).trans ((k3 main_v5_3 (by decide)).trans ((k2 main_v5_3 (by decide)).trans ((k1 main_v5_3 (by decide)).trans ((k0 main_v5_3 (by decide))))))))))).trans h.c3, hn, fun i => ?_, fun i => ?_, fun i hi => ?_, fun i hi => ?_⟩
  · rw [h8, cp_v5_5, (k7 main_while0b_v20 (by decide)).trans ((k6 main_while0b_v20 (by decide)).trans ((k5 main_while0b_v20 (by decide)).trans ((k4 main_while0b_v20 (by decide))))), h3, v20_val, l0, l1, s0, s1, g0]
    exact mre _ _ _
  · rw [h8, cp_v5_6, (k7 main_while0b_v24 (by decide)).trans ((k6 main_while0b_v24 (by decide)).trans ((k5 main_while0b_v24 (by decide)).trans ((k4 main_while0b_v24 (by decide))))), h3, v24_val, l0, l1, s0, s1, g1]
    exact mim _ _ _
  · rw [h8, cp_v5_9, (k7 main_while0b_v27 (by decide)), h6]
    refine (b0_5_val X5 hw hk (((k5 main_v5_4 (by decide)).trans ((k4 main_v5_4 (by decide)).trans ((k3 main_v5_4 (by decide)).trans ((k2 main_v5_4 (by decide)).trans ((k1 main_v5_4 (by decide)).trans ((k0 main_v5_4 (by decide)))))))).trans h.ctr) i).trans ?_
    by_cases hik : (i 0).val = k
    · rw [if_pos hik, (k5 main_v5_5 (by decide)).trans ((k4 main_v5_5 (by decide)).trans ((k3 main_v5_5 (by decide)).trans ((k2 main_v5_5 (by decide)).trans ((k1 main_v5_5 (by decide)).trans ((k0 main_v5_5 (by decide))))))), hik]
      exact h.sr (ix2 (n0 := 64) (n1 := 64) (i 1) (i 2))
    · rw [if_neg hik, (k5 main_v5_9 (by decide)).trans ((k4 main_v5_9 (by decide)).trans ((k3 main_v5_9 (by decide)).trans ((k2 main_v5_9 (by decide)).trans ((k1 main_v5_9 (by decide)).trans ((k0 main_v5_9 (by decide)))))))]
      exact h.pr i (by omega)
  · rw [h8, cp_v5_10, h7]
    refine (b0_6_val X6 hw hk (((k6 main_v5_4 (by decide)).trans ((k5 main_v5_4 (by decide)).trans ((k4 main_v5_4 (by decide)).trans ((k3 main_v5_4 (by decide)).trans ((k2 main_v5_4 (by decide)).trans ((k1 main_v5_4 (by decide)).trans ((k0 main_v5_4 (by decide))))))))).trans h.ctr) i).trans ?_
    by_cases hik : (i 0).val = k
    · rw [if_pos hik, (k6 main_v5_6 (by decide)).trans ((k5 main_v5_6 (by decide)).trans ((k4 main_v5_6 (by decide)).trans ((k3 main_v5_6 (by decide)).trans ((k2 main_v5_6 (by decide)).trans ((k1 main_v5_6 (by decide)).trans ((k0 main_v5_6 (by decide)))))))), hik]
      exact h.si (ix2 (n0 := 64) (n1 := 64) (i 1) (i 2))
    · rw [if_neg hik, (k6 main_v5_10 (by decide)).trans ((k5 main_v5_10 (by decide)).trans ((k4 main_v5_10 (by decide)).trans ((k3 main_v5_10 (by decide)).trans ((k2 main_v5_10 (by decide)).trans ((k1 main_v5_10 (by decide)).trans ((k0 main_v5_10 (by decide))))))))]
      exact h.pi i (by omega)

/-- The cotangent of the coefficients after `k` trips of the backward loop. -/
def Ds (L : ℕ → ℂ) (u g : ℕ → ℕ → ℂ) (k f : ℕ) : ℂ := ∑ j ∈ Finset.range k, conj (St L u (2047 - j) f) * Ct L g (j + 1) f
/-- What holds before trip `k` of the backward loop. -/
structure Inv1 (a0 a1 : Vec Ideal S2048x64x64 .f32) (a2 a3 : Vec Ideal S64x64 .f32) (a4 a5 : Vec Ideal S2048x64x64 .f32) (k : ℕ) (V : Valuation τ sig (Elt Ideal)) : Prop where
  c0 : V (Proc.devRef .tc main_v14_0) = a4
  c1 : V (Proc.devRef .tc main_v14_1) = a5
  c2 : ∀ i : S2048x64x64.Idx, V (Proc.devRef .tc main_v14_2) i = (((St (z2 a2 a3) (z3 a0 a1) (i 0).val (64 * (i 1).val + (i 2).val)).re : ℝ) : EReal)
  c3 : ∀ i : S2048x64x64.Idx, V (Proc.devRef .tc main_v14_3) i = (((St (z2 a2 a3) (z3 a0 a1) (i 0).val (64 * (i 1).val + (i 2).val)).im : ℝ) : EReal)
  c4 : V (Proc.devRef .tc main_v14_4) = a2
  c5 : V (Proc.devRef .tc main_v14_5) = a3
  ctr : V (Proc.devRef .tc main_v14_6) = fun _ => Scf.iv 0#32 1#32 k
  dr : ∀ i, at2 (V (Proc.devRef .tc main_v14_7)) i = (((Ds (z2 a2 a3) (z3 a0 a1) (z3 a4 a5) k (ln i)).re : ℝ) : EReal)
  di : ∀ i, at2 (V (Proc.devRef .tc main_v14_8)) i = (((Ds (z2 a2 a3) (z3 a0 a1) (z3 a4 a5) k (ln i)).im : ℝ) : EReal)
  cr : ∀ i, at2 (V (Proc.devRef .tc main_v14_9)) i = (((conj (z2 a2 a3 (ln i)) * Ct (z2 a2 a3) (z3 a4 a5) k (ln i)).re : ℝ) : EReal)
  ci : ∀ i, at2 (V (Proc.devRef .tc main_v14_10)) i = (((conj (z2 a2 a3 (ln i)) * Ct (z2 a2 a3) (z3 a4 a5) k (ln i)).im : ℝ) : EReal)
  br : ∀ i : S2048x64x64.Idx, 2048 ≤ (i 0).val + k → V (Proc.devRef .tc main_v14_11) i = (((Ct (z2 a2 a3) (z3 a4 a5) (2048 - (i 0).val) (64 * (i 1).val + (i 2).val)).re : ℝ) : EReal)
  bi : ∀ i : S2048x64x64.Idx, 2048 ≤ (i 0).val + k → V (Proc.devRef .tc main_v14_12) i = (((Ct (z2 a2 a3) (z3 a4 a5) (2048 - (i 0).val) (64 * (i 1).val + (i 2).val)).im : ℝ) : EReal)

theorem rev_word (X : Valuation τ sig (Elt Ideal)) {w : BitVec 32} (hc : X (Proc.devRef .tc main_v14_6) = fun _ => w) :
    after b1_0 X (Proc.devRef .tc main_while1b_v16) = fun _ => 2048#32 - w - 1#32 := by
  after_results
  rw [hc]
  rfl
include r2 r3 r4 r5 in
theorem step1 (V : Valuation τ sig (Elt Ideal)) {k : ℕ} (hk : k < 2048) (h : Inv1 a0 a1 a2 a3 a4 a5 k V)
    (hn : (afterL body1 (after cond1 V)) (Proc.devRef .tc main_v14_6) = fun _ => Scf.iv 0#32 1#32 (k + 1)) :
    Inv1 a0 a1 a2 a3 a4 a5 (k + 1) (afterL body1 (after cond1 V)) := by
  obtain ⟨X0, h0⟩ : ∃ X, X = after cond1 V := ⟨_, rfl⟩
  have k0 : ∀ r, r ∉ cond1_W → X0 (Proc.devRef .tc r) = V (Proc.devRef .tc r) := by
    rw [h0]
    exact cond1_keep V
  obtain ⟨X1, h1⟩ : ∃ X, X = after b1_0 X0 := ⟨_, rfl⟩
  have k1 : ∀ r, r ∉ b1_0_W → X1 (Proc.devRef .tc r) = X0 (Proc.devRef .tc r) := by
    rw [h1]
    exact b1_0_keep X0
  obtain ⟨X2, h2⟩ : ∃ X, X = after b1_1 X1 := ⟨_, rfl⟩
  have k2 : ∀ r, r ∉ b1_1_W → X2 (Proc.devRef .tc r) = X1 (Proc.devRef .tc r) := by
    rw [h2]
    exact b1_1_keep X1
  obtain ⟨X3, h3⟩ : ∃ X, X = after b1_2 X2 := ⟨_, rfl⟩
  have k3 : ∀ r, r ∉ b1_2_W → X3 (Proc.devRef .tc r) = X2 (Proc.devRef .tc r) := by
    rw [h3]
    exact b1_2_keep X2
  obtain ⟨X4, h4⟩ : ∃ X, X = after b1_3 X3 := ⟨_, rfl⟩
  have k4 : ∀ r, r ∉ b1_3_W → X4 (Proc.devRef .tc r) = X3 (Proc.devRef .tc r) := by
    rw [h4]
    exact b1_3_keep X3
  obtain ⟨X5, h5⟩ : ∃ X, X = after b1_4 X4 := ⟨_, rfl⟩
  have k5 : ∀ r, r ∉ b1_4_W → X5 (Proc.devRef .tc r) = X4 (Proc.devRef .tc r) := by
    rw [h5]
    exact b1_4_keep X4
  obtain ⟨X6, h6⟩ : ∃ X, X = after b1_5 X5 := ⟨_, rfl⟩
  have k6 : ∀ r, r ∉ b1_5_W → X6 (Proc.devRef .tc r) = X5 (Proc.devRef .tc r) := by
    rw [h6]
    exact b1_5_keep X5
  obtain ⟨X7, h7⟩ : ∃ X, X = after b1_6 X6 := ⟨_, rfl⟩
  have k7 : ∀ r, r ∉ b1_6_W → X7 (Proc.devRef .tc r) = X6 (Proc.devRef .tc r) := by
    rw [h7]
    exact b1_6_keep X6
  obtain ⟨X8, h8⟩ : ∃ X, X = after b1_7 X7 := ⟨_, rfl⟩
  have k8 : ∀ r, r ∉ b1_7_W → X8 (Proc.devRef .tc r) = X7 (Proc.devRef .tc r) := by
    rw [h8]
    exact b1_7_keep X7
  obtain ⟨X9, h9⟩ : ∃ X, X = after b1_8 X8 := ⟨_, rfl⟩
  have k9 : ∀ r, r ∉ b1_8_W → X9 (Proc.devRef .tc r) = X8 (Proc.devRef .tc r) := by
    rw [h9]
    exact b1_8_keep X8
  have e : afterL body1 (after cond1 V) = X9 := by
    rw [h9, h8, h7, h6, h5, h4, h3, h2, h1, h0]; rfl
  rw [e] at hn ⊢
  have hw := rev_toInt k hk
  have hk' : 2047 - k < 2048 := by omega
  have hv : X1 (Proc.devRef .tc main_while1b_v16) = fun _ => 2048#32 - Scf.iv 0#32 1#32 k - 1#32 := by
    rw [h1]
    exact rev_word X0 (((k0 main_v14_6 (by decide))).trans h.ctr)
  have g0 : ∀ i, at2 (X5 (Proc.devRef .tc main_while1b_v17)) i = (((z3 a4 a5 (2047 - k) (ln i)).re : ℝ) : EReal) := fun i => by
    rw [(k5 main_while1b_v17 (by decide)).trans ((k4 main_while1b_v17 (by decide)).trans ((k3 main_while1b_v17 (by decide)))), h2]
    refine (b1_1_val X1 hw hk' (hv) i).trans ?_
    rw [(k1 main_v14_0 (by decide)).trans ((k0 main_v14_0 (by decide))), h.c0]
    exact row_at r4 i (2047 - k) hk'
  have g1 : ∀ i, at2 (X5 (Proc.devRef .tc main_while1b_v18)) i = (((z3 a4 a5 (2047 - k) (ln i)).im : ℝ) : EReal) := fun i => by
    rw [(k5 main_while1b_v18 (by decide)).trans ((k4 main_while1b_v18 (by decide))), h3]
    refine (b1_2_val X2 hw hk' (((k2 main_while1b_v16 (by decide))).trans hv) i).trans ?_
    rw [(k2 main_v14_1 (by decide)).trans ((k1 main_v14_1 (by decide)).trans ((k0 main_v14_1 (by decide)))), h.c1]
    exact row_at r5 i (2047 - k) hk'
  have p0 : ∀ i, at2 (X5 (Proc.devRef .tc main_while1b_v19)) i = (((St (z2 a2 a3) (z3 a0 a1) (2047 - k) (ln i)).re : ℝ) : EReal) := fun i => by
    rw [(k5 main_while1b_v19 (by decide)), h4]
    refine (b1_3_val X3 hw hk' (((k3 main_while1b_v16 (by decide)).trans ((k2 main_while1b_v16 (by decide)))).trans hv) i).trans ?_
    rw [(k3 main_v14_2 (by decide)).trans ((k2 main_v14_2 (by decide)).trans ((k1 main_v14_2 (by decide)).trans ((k0 main_v14_2 (by decide)))))]
    exact h.c2 _
  have p1 : ∀ i, at2 (X5 (Proc.devRef .tc main_while1b_v20)) i = (((St (z2 a2 a3) (z3 a0 a1) (2047 - k) (ln i)).im : ℝ) : EReal) := fun i => by
    rw [h5]
    refine (b1_4_val X4 hw hk' (((k4 main_while1b_v16 (by decide)).trans ((k3 main_while1b_v16 (by decide)).trans ((k2 main_while1b_v16 (by decide))))).trans hv) i).trans ?_
    rw [(k4 main_v14_3 (by decide)).trans ((k3 main_v14_3 (by decide)).trans ((k2 main_v14_3 (by decide)).trans ((k1 main_v14_3 (by decide)).trans ((k0 main_v14_3 (by decide))))))]
    exact h.c3 _
  have l0 : ∀ i, at2 (X5 (Proc.devRef .tc main_v14_4)) i = (((z2 a2 a3 (ln i)).re : ℝ) : EReal) := fun i => by
    rw [(k5 main_v14_4 (by decide)).trans ((k4 main_v14_4 (by decide)).trans ((k3 main_v14_4 (by decide)).trans ((k2 main_v14_4 (by decide)).trans ((k1 main_v14_4 (by decide)).trans ((k0 main_v14_4 (by decide))))))), h.c4]; exact lam_at r2 i
  have l1 : ∀ i, at2 (X5 (Proc.devRef .tc main_v14_5)) i = (((z2 a2 a3 (ln i)).im : ℝ) : EReal) := fun i => by
    rw [(k5 main_v14_5 (by decide)).trans ((k4 main_v14_5 (by decide)).trans ((k3 main_v14_5 (by decide)).trans ((k2 main_v14_5 (by decide)).trans ((k1 main_v14_5 (by decide)).trans ((k0 main_v14_5 (by decide))))))), h.c5]; exact lam_at r3 i
  have d0 := fun i => (congrArg (fun z => at2 z i) ((k5 main_v14_7 (by decide)).trans ((k4 main_v14_7 (by decide)).trans ((k3 main_v14_7 (by decide)).trans ((k2 main_v14_7 (by decide)).trans ((k1 main_v14_7 (by decide)).trans ((k0 main_v14_7 (by decide))))))))).trans (h.dr i)
  have d1 := fun i => (congrArg (fun z => at2 z i) ((k5 main_v14_8 (by decide)).trans ((k4 main_v14_8 (by decide)).trans ((k3 main_v14_8 (by decide)).trans ((k2 main_v14_8 (by decide)).trans ((k1 main_v14_8 (by decide)).trans ((k0 main_v14_8 (by decide))))))))).trans (h.di i)
  have s0 := fun i => (congrArg (fun z => at2 z i) ((k5 main_v14_9 (by decide)).trans ((k4 main_v14_9 (by decide)).trans ((k3 main_v14_9 (by decide)).trans ((k2 main_v14_9 (by decide)).trans ((k1 main_v14_9 (by decide)).trans ((k0 main_v14_9 (by decide))))))))).trans (h.cr i)
  have s1 := fun i => (congrArg (fun z => at2 z i) ((k5 main_v14_10 (by decide)).trans ((k4 main_v14_10 (by decide)).trans ((k3 main_v14_10 (by decide)).trans ((k2 main_v14_10 (by decide)).trans ((k1 main_v14_10 (by decide)).trans ((k0 main_v14_10 (by decide))))))))).trans (h.ci i)
  have ar : ∀ i, at2 (X5 (Proc.devRef .tc main_v14_9)) i + at2 (X5 (Proc.devRef .tc main_while1b_v17)) i = (((Ct (z2 a2 a3) (z3 a4 a5) (k + 1) (ln i)).re : ℝ) : EReal) := fun i => by
    rw [s0 i, g0 i]; exact are _ _
  have ai : ∀ i, at2 (X5 (Proc.devRef .tc main_v14_10)) i + at2 (X5 (Proc.devRef .tc main_while1b_v18)) i = (((Ct (z2 a2 a3) (z3 a4 a5) (k + 1) (ln i)).im : ℝ) : EReal) := fun i => by
    rw [s1 i, g1 i]; exact aim _ _
  have ds : ∀ f, Ds (z2 a2 a3) (z3 a0 a1) (z3 a4 a5) (k + 1) f = Ds (z2 a2 a3) (z3 a0 a1) (z3 a4 a5) k f + conj (St (z2 a2 a3) (z3 a0 a1) (2047 - k) f) * Ct (z2 a2 a3) (z3 a4 a5) (k + 1) f := fun f => by
    unfold Ds; exact Finset.sum_range_succ _ _
  refine ⟨((k9 main_v14_0 (by decide)).trans ((k8 main_v14_0 (by decide)).trans ((k7 main_v14_0 (by decide)).trans ((k6 main_v14_0 (by decide)).trans ((k5 main_v14_0 (by decide)).trans ((k4 main_v14_0 (by decide)).trans ((k3 main_v14_0 (by decide)).trans ((k2 main_v14_0 (by decide)).trans ((k1 main_v14_0 (by decide)).trans ((k0 main_v14_0 (by decide)))))))))))).trans h.c0, ((k9 main_v14_1 (by decide)).trans ((k8 main_v14_1 (by decide)).trans ((k7 main_v14_1 (by decide)).trans ((k6 main_v14_1 (by decide)).trans ((k5 main_v14_1 (by decide)).trans ((k4 main_v14_1 (by decide)).trans ((k3 main_v14_1 (by decide)).trans ((k2 main_v14_1 (by decide)).trans ((k1 main_v14_1 (by decide)).trans ((k0 main_v14_1 (by decide)))))))))))).trans h.c1, fun i => ?_, fun i => ?_, ((k9 main_v14_4 (by decide)).trans ((k8 main_v14_4 (by decide)).trans ((k7 main_v14_4 (by decide)).trans ((k6 main_v14_4 (by decide)).trans ((k5 main_v14_4 (by decide)).trans ((k4 main_v14_4 (by decide)).trans ((k3 main_v14_4 (by decide)).trans ((k2 main_v14_4 (by decide)).trans ((k1 main_v14_4 (by decide)).trans ((k0 main_v14_4 (by decide)))))))))))).trans h.c4, ((k9 main_v14_5 (by decide)).trans ((k8 main_v14_5 (by decide)).trans ((k7 main_v14_5 (by decide)).trans ((k6 main_v14_5 (by decide)).trans ((k5 main_v14_5 (by decide)).trans ((k4 main_v14_5 (by decide)).trans ((k3 main_v14_5 (by decide)).trans ((k2 main_v14_5 (by decide)).trans ((k1 main_v14_5 (by decide)).trans ((k0 main_v14_5 (by decide)))))))))))).trans h.c5, hn,
    fun i => ?_, fun i => ?_, fun i => ?_, fun i => ?_, fun i hi => ?_, fun i hi => ?_⟩
  · rw [(k9 main_v14_2 (by decide)).trans ((k8 main_v14_2 (by decide)).trans ((k7 main_v14_2 (by decide)).trans ((k6 main_v14_2 (by decide)).trans ((k5 main_v14_2 (by decide)).trans ((k4 main_v14_2 (by decide)).trans ((k3 main_v14_2 (by decide)).trans ((k2 main_v14_2 (by decide)).trans ((k1 main_v14_2 (by decide)).trans ((k0 main_v14_2 (by decide)))))))))))]; exact h.c2 i
  · rw [(k9 main_v14_3 (by decide)).trans ((k8 main_v14_3 (by decide)).trans ((k7 main_v14_3 (by decide)).trans ((k6 main_v14_3 (by decide)).trans ((k5 main_v14_3 (by decide)).trans ((k4 main_v14_3 (by decide)).trans ((k3 main_v14_3 (by decide)).trans ((k2 main_v14_3 (by decide)).trans ((k1 main_v14_3 (by decide)).trans ((k0 main_v14_3 (by decide)))))))))))]; exact h.c3 i
  · rw [h9, cp_v14_7, (k8 main_while1b_v37 (by decide)).trans ((k7 main_while1b_v37 (by decide))), h6, v37_val, d0, ar, ai, p0, p1, ds]
    exact dre _ _ _
  · rw [h9, cp_v14_8, (k8 main_while1b_v33 (by decide)).trans ((k7 main_while1b_v33 (by decide))), h6, v33_val, d1, ar, ai, p0, p1, ds]
    exact dim _ _ _
  · rw [h9, cp_v14_9, (k8 main_while1b_v35 (by decide)).trans ((k7 main_while1b_v35 (by decide))), h6, v35_val, ar, ai, l0, l1]
    exact cre _ _
  · rw [h9, cp_v14_10, (k8 main_while1b_v31 (by decide)).trans ((k7 main_while1b_v31 (by decide))), h6, v31_val, ar, ai, l0, l1]
    exact cim _ _
  · rw [h9, cp_v14_11, (k8 main_while1b_v38 (by decide)), h7]
    refine (b1_6_val X6 hw hk' (((k6 main_while1b_v16 (by decide)).trans ((k5 main_while1b_v16 (by decide)).trans ((k4 main_while1b_v16 (by decide)).trans ((k3 main_while1b_v16 (by decide)).trans ((k2 main_while1b_v16 (by decide))))))).trans hv) i).trans ?_
    by_cases hik : (i 0).val = 2047 - k
    · rw [if_pos hik, h6]
      refine (v21_val X5 _).trans ?_
      rw [ar, show 2048 - (i 0).val = k + 1 by omega]
      rfl
    · rw [if_neg hik, (k6 main_v14_11 (by decide)).trans ((k5 main_v14_11 (by decide)).trans ((k4 main_v14_11 (by decide)).trans ((k3 main_v14_11 (by decide)).trans ((k2 main_v14_11 (by decide)).trans ((k1 main_v14_11 (by decide)).trans ((k0 main_v14_11 (by decide))))))))]
      exact h.br i (by omega)
  · rw [h9, cp_v14_12, h8]
    refine (b1_7_val X7 hw hk' (((k7 main_while1b_v16 (by decide)).trans ((k6 main_while1b_v16 (by decide)).trans ((k5 main_while1b_v16 (by decide)).trans ((k4 main_while1b_v16 (by decide)).trans ((k3 main_while1b_v16 (by decide)).trans ((k2 main_while1b_v16 (by decide)))))))).trans hv) i).trans ?_
    by_cases hik : (i 0).val = 2047 - k
    · rw [if_pos hik, (k7 main_while1b_v22 (by decide)), h6]
      refine (v22_val X5 _).trans ?_
      rw [ai, show 2048 - (i 0).val = k + 1 by omega]
      rfl
    · rw [if_neg hik, (k7 main_v14_12 (by decide)).trans ((k6 main_v14_12 (by decide)).trans ((k5 main_v14_12 (by decide)).trans ((k4 main_v14_12 (by decide)).trans ((k3 main_v14_12 (by decide)).trans ((k2 main_v14_12 (by decide)).trans ((k1 main_v14_12 (by decide)).trans ((k0 main_v14_12 (by decide)))))))))]
      exact h.bi i (by omega)
end Step

end Cert.ReferenceIdeal.Own

end
-- ==== Proof.RFin.lean ====
module

public import proofs.«01_k».proof.Proof.RVal

@[expose] public section

set_option maxRecDepth 16384

noncomputable section

namespace Cert.ReferenceIdeal.Own

open Idealize.ShloMosaic Idealize.ShloMosaic.TcCoe Idealize.ShloMosaic.Tactic
open Idealize.ShloMosaic.StableHlo
open Cert.ReferenceIdeal.Gen
open scoped ComplexConjugate

open Cert.KernelIdeal.Own (sc St Ct z3 z2 q3 q2 q3_ix q2_at q3_at Re)

/-! ## Before the first trips -/

theorem pre_arg0 (X : Valuation τ sig (Elt Ideal)) : after pre X (Proc.devRef .tc main_v5_0) = X (Proc.devRef .tc main_arg0) := by
  after_reads_simp
  rfl
theorem pre_arg1 (X : Valuation τ sig (Elt Ideal)) : after pre X (Proc.devRef .tc main_v5_1) = X (Proc.devRef .tc main_arg1) := by
  after_reads_simp
  rfl
theorem pre_arg2 (X : Valuation τ sig (Elt Ideal)) : after pre X (Proc.devRef .tc main_v5_2) = X (Proc.devRef .tc main_arg2) := by
  after_reads_simp
  rfl
theorem pre_arg3 (X : Valuation τ sig (Elt Ideal)) : after pre X (Proc.devRef .tc main_v5_3) = X (Proc.devRef .tc main_arg3) := by
  after_reads_simp
  rfl
theorem pre_zero5 (X : Valuation τ sig (Elt Ideal)) (i : S64x64.Idx) : at2 (after pre X (Proc.devRef .tc main_v5_5)) i = ((0 : ℝ) : EReal) := by
  after_reads_simp
  simp [at2, pointwise]
theorem pre_zero6 (X : Valuation τ sig (Elt Ideal)) (i : S64x64.Idx) : at2 (after pre X (Proc.devRef .tc main_v5_6)) i = ((0 : ℝ) : EReal) := by
  after_reads_simp
  simp [at2, pointwise]
theorem mid_arg0 (X : Valuation τ sig (Elt Ideal)) : after mid X (Proc.devRef .tc main_v14_0) = X (Proc.devRef .tc main_arg4) := by
  after_reads_simp
  rfl
theorem mid_arg1 (X : Valuation τ sig (Elt Ideal)) : after mid X (Proc.devRef .tc main_v14_1) = X (Proc.devRef .tc main_arg5) := by
  after_reads_simp
  rfl
theorem mid_arg2 (X : Valuation τ sig (Elt Ideal)) : after mid X (Proc.devRef .tc main_v14_2) = X (Proc.devRef .tc main_v5_9) := by
  after_reads_simp
  rfl
theorem mid_arg3 (X : Valuation τ sig (Elt Ideal)) : after mid X (Proc.devRef .tc main_v14_3) = X (Proc.devRef .tc main_v5_10) := by
  after_reads_simp
  rfl
theorem mid_arg4 (X : Valuation τ sig (Elt Ideal)) : after mid X (Proc.devRef .tc main_v14_4) = X (Proc.devRef .tc main_arg2) := by
  after_reads_simp
  rfl
theorem mid_arg5 (X : Valuation τ sig (Elt Ideal)) : after mid X (Proc.devRef .tc main_v14_5) = X (Proc.devRef .tc main_arg3) := by
  after_reads_simp
  rfl
theorem mid_zero7 (X : Valuation τ sig (Elt Ideal)) (i : S64x64.Idx) : at2 (after mid X (Proc.devRef .tc main_v14_7)) i = ((0 : ℝ) : EReal) := by
  after_reads_simp
  simp [at2, pointwise]
theorem mid_zero8 (X : Valuation τ sig (Elt Ideal)) (i : S64x64.Idx) : at2 (after mid X (Proc.devRef .tc main_v14_8)) i = ((0 : ℝ) : EReal) := by
  after_reads_simp
  simp [at2, pointwise]
theorem mid_zero9 (X : Valuation τ sig (Elt Ideal)) (i : S64x64.Idx) : at2 (after mid X (Proc.devRef .tc main_v14_9)) i = ((0 : ℝ) : EReal) := by
  after_reads_simp
  simp [at2, pointwise]
theorem mid_zero10 (X : Valuation τ sig (Elt Ideal)) (i : S64x64.Idx) : at2 (after mid X (Proc.devRef .tc main_v14_10)) i = ((0 : ℝ) : EReal) := by
  after_reads_simp
  simp [at2, pointwise]

/-! ## All the trips -/

variable (m : (ℓ : Loc nD τ sig) → Buf (Elt Ideal) ℓ) (c : Dev nD)
variable {a0 a1 : Vec Ideal S2048x64x64 .f32} {a2 a3 : Vec Ideal S64x64 .f32} {a4 a5 : Vec Ideal S2048x64x64 .f32}
variable (r0 : Re a0) (r1 : Re a1) (r2 : Re a2) (r3 : Re a3) (r4 : Re a4) (r5 : Re a5)
variable (e0 : m ((c : Thread nD τ).loc main_arg0) = a0) (e1 : m ((c : Thread nD τ).loc main_arg1) = a1)
  (e2 : m ((c : Thread nD τ).loc main_arg2) = a2) (e3 : m ((c : Thread nD τ).loc main_arg3) = a3)
  (e4 : m ((c : Thread nD τ).loc main_arg4) = a4) (e5 : m ((c : Thread nD τ).loc main_arg5) = a5)

include e0 e1 e2 e3 in
theorem inv0_zero : Inv0 a0 a1 a2 a3 0 (At0 m 0 c) where
  c0 := (pre_arg0 (launchContents m c)).trans e0
  c1 := (pre_arg1 (launchContents m c)).trans e1
  c2 := (pre_arg2 (launchContents m c)).trans e2
  c3 := (pre_arg3 (launchContents m c)).trans e3
  ctr := ctr0 m c 0
  sr i := pre_zero5 (launchContents m c) i
  si i := pre_zero6 (launchContents m c) i
  pr i h := absurd h (Nat.not_lt_zero _)
  pi i h := absurd h (Nat.not_lt_zero _)

include r0 r1 r2 r3 e0 e1 e2 e3 in
/-- What holds before every trip of the forward loop. -/
theorem inv0 : ∀ k, k ≤ 2048 → Inv0 a0 a1 a2 a3 k (At0 m k c)
  | 0, _ => inv0_zero m c e0 e1 e2 e3
  | k + 1, h => step0 r0 r1 r2 r3 (At0 m k c) h (inv0 k (by omega)) (ctr0 m c (k + 1))

theorem A1_arg (a : Ref sig .tc) (ha : a ∈ argRefs) : A1 m c (Proc.devRef .tc a) = m ((c : Thread nD τ).loc a) :=
  (cond0_keep _ a (cond0_args a ha)).trans (At0_arg m c a ha 2048)

include r0 r1 r2 r3 e0 e1 e2 e3 e4 e5 in
theorem inv1_zero : Inv1 a0 a1 a2 a3 a4 a5 0 (At1 m 0 c) where
  c0 := (mid_arg0 (A1 m c)).trans ((A1_arg m c main_arg4 (by decide)).trans e4)
  c1 := (mid_arg1 (A1 m c)).trans ((A1_arg m c main_arg5 (by decide)).trans e5)
  c2 i := (congrFun ((mid_arg2 (A1 m c)).trans (cond0_keep (At0 m 2048 c) main_v5_9 (by decide))) i).trans
    ((inv0 m c r0 r1 r2 r3 e0 e1 e2 e3 2048 le_rfl).pr i (i 0).isLt)
  c3 i := (congrFun ((mid_arg3 (A1 m c)).trans (cond0_keep (At0 m 2048 c) main_v5_10 (by decide))) i).trans
    ((inv0 m c r0 r1 r2 r3 e0 e1 e2 e3 2048 le_rfl).pi i (i 0).isLt)
  c4 := (mid_arg4 (A1 m c)).trans ((A1_arg m c main_arg2 (by decide)).trans e2)
  c5 := (mid_arg5 (A1 m c)).trans ((A1_arg m c main_arg3 (by decide)).trans e3)
  ctr := ctr1 m c 0
  dr i := (mid_zero7 (A1 m c) i).trans (by simp [Ds])
  di i := (mid_zero8 (A1 m c) i).trans (by simp [Ds])
  cr i := (mid_zero9 (A1 m c) i).trans (by simp [Ct, sc])
  ci i := (mid_zero10 (A1 m c) i).trans (by simp [Ct, sc])
  br i h := absurd (show (i 0).val < 2048 from (i 0).isLt) (by omega)
  bi i h := absurd (show (i 0).val < 2048 from (i 0).isLt) (by omega)

include r0 r1 r2 r3 r4 r5 e0 e1 e2 e3 e4 e5 in
/-- What holds before every trip of the backward loop. -/
theorem inv1 : ∀ k, k ≤ 2048 → Inv1 a0 a1 a2 a3 a4 a5 k (At1 m k c)
  | 0, _ => inv1_zero m c r0 r1 r2 r3 e0 e1 e2 e3 e4 e5
  | k + 1, h => step1 r2 r3 r4 r5 (At1 m k c) h (inv1 k (by omega)) (ctr1 m c (k + 1))

/-! ## The results -/

include r0 r1 r2 r3 r4 r5 e0 e1 e2 e3 e4 e5 in
theorem res0 (i : S2048x64x64.Idx) : B1 m c (Proc.devRef .tc main_v14_11) i = (((Ct (z2 a2 a3) (z3 a4 a5) (2048 - (i 0).val) (64 * (i 1).val + (i 2).val)).re : ℝ) : EReal) :=
  (congrFun (cond1_keep (At1 m 2048 c) main_v14_11 (by decide)) i).trans ((inv1 m c r0 r1 r2 r3 r4 r5 e0 e1 e2 e3 e4 e5 2048 le_rfl).br i (by omega))
include r0 r1 r2 r3 r4 r5 e0 e1 e2 e3 e4 e5 in
theorem res1 (i : S2048x64x64.Idx) : B1 m c (Proc.devRef .tc main_v14_12) i = (((Ct (z2 a2 a3) (z3 a4 a5) (2048 - (i 0).val) (64 * (i 1).val + (i 2).val)).im : ℝ) : EReal) :=
  (congrFun (cond1_keep (At1 m 2048 c) main_v14_12 (by decide)) i).trans ((inv1 m c r0 r1 r2 r3 r4 r5 e0 e1 e2 e3 e4 e5 2048 le_rfl).bi i (by omega))
include r0 r1 r2 r3 r4 r5 e0 e1 e2 e3 e4 e5 in
theorem res2 (i : S64x64.Idx) : B1 m c (Proc.devRef .tc main_v14_7) i = (((Ds (z2 a2 a3) (z3 a0 a1) (z3 a4 a5) 2048 (ln i)).re : ℝ) : EReal) :=
  (congrFun (cond1_keep (At1 m 2048 c) main_v14_7 (by decide)) i).trans ((inv1 m c r0 r1 r2 r3 r4 r5 e0 e1 e2 e3 e4 e5 2048 le_rfl).dr i)
include r0 r1 r2 r3 r4 r5 e0 e1 e2 e3 e4 e5 in
theorem res3 (i : S64x64.Idx) : B1 m c (Proc.devRef .tc main_v14_8) i = (((Ds (z2 a2 a3) (z3 a0 a1) (z3 a4 a5) 2048 (ln i)).im : ℝ) : EReal) :=
  (congrFun (cond1_keep (At1 m 2048 c) main_v14_8 (by decide)) i).trans ((inv1 m c r0 r1 r2 r3 r4 r5 e0 e1 e2 e3 e4 e5 2048 le_rfl).di i)

end Cert.ReferenceIdeal.Own

end
-- ==== Proof.Mat.lean ====
module

public import Idealize.ShloMosaic.Lib.Pipeline.ValueKit
public import Idealize.ShloMosaic.Lib.Tactic

@[expose] public section

noncomputable section

namespace Cert.Mat

open Idealize.ShloMosaic

/-- A matrix read by the numbers of its row and column. -/
def Mt {a b : ℕ} (v : (⟨2, ![a, b]⟩ : Shape).Idx → EReal) (f : ℕ → ℕ → EReal) : Prop := ∀ i, v i = f (i 0).val (i 1).val
/-- The product of two matrices over a shared axis of length `K`. -/
def mm (K : ℕ) (f g : ℕ → ℕ → EReal) (i j : ℕ) : EReal := ∑ k : Fin K, f i k.val * g k.val j
/-- The transposed matrix. -/
def tr (f : ℕ → ℕ → EReal) (i j : ℕ) : EReal := f j i
/-- The gated value. -/
def gat (a b : EReal) : EReal := a * Ideal.logistic a * b
/-- The gradient reaching the gate. -/
def dga (a b d : EReal) : EReal := d * b * (Ideal.logistic a * (1 + a * (1 - Ideal.logistic a)))
/-- The gradient reaching the other factor. -/
def dup (a d : EReal) : EReal := d * (a * Ideal.logistic a)

theorem Mt.congr {a b : ℕ} {v : (⟨2, ![a, b]⟩ : Shape).Idx → EReal} {f g : ℕ → ℕ → EReal} (h : Mt v f)
    (e : ∀ i j, i < a → j < b → f i j = g i j) : Mt v g := fun i => (h i).trans (e _ _ (i 0).isLt (i 1).isLt)
theorem mm_congr {K : ℕ} {f g f' g' : ℕ → ℕ → EReal} {i j i' j' : ℕ} (hf : ∀ k, k < K → f i k = f' i' k)
    (hg : ∀ k, k < K → g k j = g' k j') : mm K f g i j = mm K f' g' i' j' :=
  Finset.sum_congr rfl fun k _ => by rw [hf _ k.isLt, hg _ k.isLt]

theorem Mt.eqv {a b : ℕ} {v v' : (⟨2, ![a, b]⟩ : Shape).Idx → EReal} {f : ℕ → ℕ → EReal} (h : Mt v f) (e : v' = v) : Mt v' f := e ▸ h

/-- The gated values of the forward pass. -/
def hid (x p q : ℕ → ℕ → EReal) (i j : ℕ) : EReal := gat (mm 1024 x p i j) (mm 1024 x q i j)
/-- The gradients reaching the two products. -/
def gA (x p q w ct : ℕ → ℕ → EReal) (i j : ℕ) : EReal := dga (mm 1024 x p i j) (mm 1024 x q i j) (mm 1024 ct (tr w) i j)
def gB (x p q w ct : ℕ → ℕ → EReal) (i j : ℕ) : EReal := dup (mm 1024 x p i j) (mm 1024 ct (tr w) i j)

/-! ## Real matrices -/

/-- A number that is not infinite. -/
def IsR (a : EReal) : Prop := ∃ r : ℝ, a = (r : EReal)
/-- The entries of a matrix by number, and zero outside it. -/
def num {a b : ℕ} (v : (⟨2, ![a, b]⟩ : Shape).Idx → EReal) (i j : ℕ) : EReal :=
  if h : i < a ∧ j < b then v (ix2 ⟨i, h.1⟩ ⟨j, h.2⟩) else 0
theorem num_mt {a b : ℕ} (v : (⟨2, ![a, b]⟩ : Shape).Idx → EReal) : Mt v (num v) := by
  intro i
  unfold num
  rw [dif_pos ⟨(i 0).isLt, (i 1).isLt⟩]
  refine congrArg v (funext fun k => ?_)
  match k with
  | ⟨0, _⟩ => rfl
  | ⟨1, _⟩ => rfl
theorem num_real {a b : ℕ} {v : (⟨2, ![a, b]⟩ : Shape).Idx → EReal} (h : ∀ i, IsR (v i)) (i j : ℕ) (hi : i < a) (hj : j < b) : IsR (num v i j) := by
  unfold num
  rw [dif_pos ⟨hi, hj⟩]
  exact h _

theorem IsR.mul {a b : EReal} : IsR a → IsR b → IsR (a * b) := fun ⟨r, e⟩ ⟨q, f⟩ => ⟨r * q, by rw [e, f, EReal.coe_mul]⟩
theorem IsR.add {a b : EReal} : IsR a → IsR b → IsR (a + b) := fun ⟨r, e⟩ ⟨q, f⟩ => ⟨r + q, by rw [e, f, EReal.coe_add]⟩
theorem IsR.sum {ι : Type} (s : Finset ι) {f : ι → EReal} (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))
theorem mm_real {K : ℕ} {f g : ℕ → ℕ → EReal} {i j : ℕ} (hf : ∀ k, k < K → IsR (f i k)) (hg : ∀ k, k < K → IsR (g k j)) : IsR (mm K f g i j) :=
  IsR.sum _ fun k _ => (hf _ k.isLt).mul (hg _ k.isLt)
/-- The gradient reaching the gate, in the order in which the derivative of the gated value gives it. -/
theorem dga_real {a b d : EReal} (ha : IsR a) (hb : IsR b) (hd : IsR d) :
    d * b * Ideal.logistic a + a * (d * b) * (Ideal.logistic a * (1 - Ideal.logistic a)) = dga a b d := by
  obtain ⟨a, rfl⟩ := ha
  obtain ⟨b, rfl⟩ := hb
  obtain ⟨d, rfl⟩ := hd
  unfold dga
  rw [Ideal.logistic_coe]
  norm_cast
  ring
theorem dup_comm (a d : EReal) : a * Ideal.logistic a * d = dup a d := mul_comm _ _
theorem mm_tr (K : ℕ) (f g : ℕ → ℕ → EReal) (i j : ℕ) : mm K (tr f) g j i = mm K (tr g) f i j :=
  Finset.sum_congr rfl fun _ _ => mul_comm _ _

end Cert.Mat
-- ==== Proof.FVal.lean ====
module

public import proofs.«01_k».proof.Proof.Gen.Kernel2Ideal.Frame
public import proofs.«01_k».proof.Proof.Mat
public import Idealize.ShloMosaic.Lib.Pipeline.ValueKit
public import Idealize.ShloMosaic.Lib.Pointwise.Index
public import Idealize.ShloMosaic.Lib.Pointwise.Reshape
public import Idealize.ShloMosaic.Lib.VecWindow
public import Idealize.ShloMosaic.Lib.Tactic

@[expose] public section

set_option maxRecDepth 16384

noncomputable section

namespace Cert.Kernel2Ideal.Own

open Idealize.ShloMosaic Idealize.ShloMosaic.TcCoe Idealize.ShloMosaic.Tactic
open Cert.Kernel2Ideal.Gen
open Cert.Mat

/-! ## What a block's body computes -/

theorem pay2 {x : Vec Ideal S1024x1024 .bf16} {w : Vec Ideal S256x1024 .bf16} {f g : ℕ → ℕ → EReal}
    (hx : Mt x f) (hw : Mt w g) : Mt (k0_pay2 x w) (mm 1024 f (tr g)) := by
  intro i
  pointwise [k0_pay2, k0_pay1]
  exact Finset.sum_congr rfl fun k _ => congrArg₂ _ (hx _) (hw _)
theorem pay3 {x : Vec Ideal S1024x1024 .bf16} {w : Vec Ideal S256x1024 .bf16} {f g : ℕ → ℕ → EReal}
    (hx : Mt x f) (hw : Mt w g) : Mt (k0_pay3 x w) (mm 1024 f (tr g)) := by
  intro i
  pointwise [k0_pay3, k0_pay1]
  exact Finset.sum_congr rfl fun k _ => congrArg₂ _ (hx _) (hw _)
theorem pay4 {x : Vec Ideal S1024x1024 .bf16} {w w' : Vec Ideal S256x1024 .bf16} {f g g' : ℕ → ℕ → EReal}
    (hx : Mt x f) (hw : Mt w g) (hw' : Mt w' g') :
    Mt (k0_pay4 x w w') (fun i j => gat (mm 1024 f (tr g) i j) (mm 1024 f (tr g') i j)) := by
  intro i
  have e1 := pay2 hx hw i
  have e2 := pay3 hx hw' i
  exact (show _ = gat (k0_pay2 x w i) (k0_pay3 x w' i) from rfl).trans (by rw [e1, e2])
theorem pay1_1 {x : Vec Ideal S1024x2816 .bf16} {w : Vec Ideal S2816x1024 .bf16} {f g : ℕ → ℕ → EReal}
    (hx : Mt x f) (hw : Mt w g) : Mt (k1_pay1 x w) (mm 2816 f g) := by
  intro i
  pointwise [k1_pay1]
  exact Finset.sum_congr rfl fun k _ => congrArg₂ _ (hx _) (hw _)
theorem pay2_1 {x : Vec Ideal S2048x256 .bf16} {w : Vec Ideal S2048x1024 .bf16} {f g : ℕ → ℕ → EReal}
    (hx : Mt x f) (hw : Mt w g) : Mt (k2_pay1 x w) (mm 2048 (tr f) g) := by
  intro i
  pointwise [k2_pay1]
  exact Finset.sum_congr rfl fun k _ => congrArg₂ _ (hx _) (hw _)
theorem pay3_1 {x : Vec Ideal S1024x1024 .bf16} {w : Vec Ideal S256x1024 .bf16} {f g : ℕ → ℕ → EReal}
    (hx : Mt x f) (hw : Mt w g) : Mt (k3_pay1 x w) (mm 1024 f (tr g)) := by
  intro i
  pointwise [k3_pay1]
  exact Finset.sum_congr rfl fun k _ => congrArg₂ _ (hx _) (hw _)
theorem pay4_1 {x y z : Vec Ideal S256x2816 .bf16} {f g h : ℕ → ℕ → EReal} (hx : Mt x f) (hy : Mt y g) (hz : Mt z h) :
    Mt (k4_pay1 x y z) (fun i j => if j < 2816 then dga (f i j) (g i j) (h i j) else dup (f i (j - 2816)) (h i (j - 2816))) := by
  intro i
  pointwise [k4_pay1]
  split
  · exact (congrArg₂ (fun a b => dga a b _) (hx _) (hy _)).trans (congrArg (dga _ _) (hz _))
  · exact congrArg₂ dup (hx _) (hz _)
theorem pay5_1 {x : Vec Ideal S2048x512 .bf16} {w : Vec Ideal S2048x1024 .bf16} {f g : ℕ → ℕ → EReal}
    (hx : Mt x f) (hw : Mt w g) : Mt (k5_pay1 x w) (mm 2048 (tr f) g) := by
  intro i
  pointwise [k5_pay1]
  exact Finset.sum_congr rfl fun k _ => congrArg₂ _ (hx _) (hw _)

theorem o0_3 {x0} {x1} {x2} : out0_3 (F := Ideal) x0 x1 x2 = k0_pay2 x0 x1 := by
  unfold out0_3
  rw [View.canon_cons_unit_lit]
  · rw [View.ld_unit_lit, View.ld_unit_lit] <;> decide
  · decide
theorem o0_4 {x0} {x1} {x2} : out0_4 (F := Ideal) x0 x1 x2 = k0_pay3 x0 x2 := by
  unfold out0_4
  rw [View.canon_cons_unit_lit]
  · rw [View.ld_unit_lit, View.ld_unit_lit] <;> decide
  · decide
theorem o0_5 {x0} {x1} {x2} : out0_5 (F := Ideal) x0 x1 x2 = k0_pay4 x0 x1 x2 := by
  unfold out0_5
  rw [View.canon_cons_unit_lit]
  · rw [View.ld_unit_lit, View.ld_unit_lit, View.ld_unit_lit] <;> decide
  · decide
theorem o1_2 {x0} {x1} : out1_2 (F := Ideal) x0 x1 = k1_pay1 x0 x1 := by
  unfold out1_2
  rw [View.canon_cons_unit_lit]
  · rw [View.ld_unit_lit, View.ld_unit_lit] <;> decide
  · decide
theorem o2_2 {x0} {x1} : out2_2 (F := Ideal) x0 x1 = k2_pay1 x0 x1 := by
  unfold out2_2
  rw [View.canon_cons_unit_lit]
  · rw [View.ld_unit_lit, View.ld_unit_lit] <;> decide
  · decide
theorem o3_2 {x0} {x1} : out3_2 (F := Ideal) x0 x1 = k3_pay1 x0 x1 := by
  unfold out3_2
  rw [View.canon_cons_unit_lit]
  · rw [View.ld_unit_lit, View.ld_unit_lit] <;> decide
  · decide
theorem o4_3 {x0} {x1} {x2} : out4_3 (F := Ideal) x0 x1 x2 = k4_pay1 x0 x1 x2 := by
  unfold out4_3
  rw [View.canon_cons_unit_lit]
  · rw [View.ld_unit_lit, View.ld_unit_lit, View.ld_unit_lit] <;> decide
  · decide
theorem o5_2 {x0} {x1} : out5_2 (F := Ideal) x0 x1 = k5_pay1 x0 x1 := by
  unfold out5_2
  rw [View.canon_cons_unit_lit]
  · rw [View.ld_unit_lit, View.ld_unit_lit] <;> decide
  · decide

variable (V : (c : Dev nD) → (b : Ref sig .tc) → Buf (Elt Ideal) ((c : Thread nD τ).loc b)) (c : Dev nD)

/-! ## Region 0 -/

theorem x0_0 : ∀ t : Fin cfg0.N, win0_0.index t = ![t.val / 11, 0] := (by decide +kernel : ∀ t : Fin grid0.N, _)
theorem x0_1 : ∀ t : Fin cfg0.N, win0_1.index t = ![t.val % 11, 0] := (by decide +kernel : ∀ t : Fin grid0.N, _)
theorem x0_2 : ∀ t : Fin cfg0.N, win0_2.index t = ![t.val % 11 + 11, 0] := (by decide +kernel : ∀ t : Fin grid0.N, _)
theorem x0_3 : ∀ t : Fin cfg0.N, win0_3.index t = ![t.val / 11, t.val % 11] := (by decide +kernel : ∀ t : Fin grid0.N, _)
theorem x0_4 : ∀ t : Fin cfg0.N, win0_4.index t = ![t.val / 11, t.val % 11] := (by decide +kernel : ∀ t : Fin grid0.N, _)
theorem x0_5 : ∀ t : Fin cfg0.N, win0_5.index t = ![t.val / 11, t.val % 11] := (by decide +kernel : ∀ t : Fin grid0.N, _)
theorem b0_0 {f : ℕ → ℕ → EReal} (h : Mt (a := 2048) (b := 1024) (V c (Pipeline.arrRef spec0 0)) f) (t : Fin cfg0.N) :
    Mt (a := 1024) (b := 1024) (iblk0 V c 0 t) (fun i j => f (t.val / 11 * 1024 + i) (j)) := by
  intro y
  refine (h (((cfg0.win 0).blk t).view.emb y)).trans ?_
  blk_simp [x0_0]
theorem b0_1 {f : ℕ → ℕ → EReal} (h : Mt (a := 5632) (b := 1024) (V c (Pipeline.arrRef spec0 1)) f) (t : Fin cfg0.N) :
    Mt (a := 256) (b := 1024) (iblk0 V c 1 t) (fun i j => f (t.val % 11 * 256 + i) (j)) := by
  intro y
  refine (h (((cfg0.win 1).blk t).view.emb y)).trans ?_
  blk_simp [x0_1]
theorem b0_2 {f : ℕ → ℕ → EReal} (h : Mt (a := 5632) (b := 1024) (V c (Pipeline.arrRef spec0 2)) f) (t : Fin cfg0.N) :
    Mt (a := 256) (b := 1024) (iblk0 V c 2 t) (fun i j => f ((t.val % 11 + 11) * 256 + i) (j)) := by
  intro y
  refine (h (((cfg0.win 2).blk t).view.emb y)).trans ?_
  blk_simp [x0_2]
theorem arr0_3 {f g : ℕ → ℕ → EReal} (h0 : Mt (a := 2048) (b := 1024) (V c (Pipeline.arrRef spec0 0)) f)
    (h1 : Mt (a := 5632) (b := 1024) (V c (Pipeline.arrRef spec0 1)) g) (h2 : Mt (a := 5632) (b := 1024) (V c (Pipeline.arrRef spec0 2)) g) :
    Mt (a := 2048) (b := 2816) ((dat0 V c).arrAt 3 cfg0.N) (mm 1024 f (tr g)) := by
  intro i
  refine (dat0 V c).arrAt_forall_of_covers 3 (fun (i : (⟨2, ![2048, 2816]⟩ : Shape).Idx) (v : EReal) => v = (mm 1024 f (tr g)) (i 0).val (i 1).val) (by decide +kernel) (fun t hf y => ?_) i
  blk_simp [x0_3]
  rw [after0_3, o0_3]
  exact pay2 (b0_0 V c h0 t) (b0_1 V c h1 t) y
theorem arr0_4 {f g : ℕ → ℕ → EReal} (h0 : Mt (a := 2048) (b := 1024) (V c (Pipeline.arrRef spec0 0)) f)
    (h1 : Mt (a := 5632) (b := 1024) (V c (Pipeline.arrRef spec0 1)) g) (h2 : Mt (a := 5632) (b := 1024) (V c (Pipeline.arrRef spec0 2)) g) :
    Mt (a := 2048) (b := 2816) ((dat0 V c).arrAt 4 cfg0.N) (mm 1024 f (tr fun j => g (2816 + j))) := by
  intro i
  refine (dat0 V c).arrAt_forall_of_covers 4 (fun (i : (⟨2, ![2048, 2816]⟩ : Shape).Idx) (v : EReal) => v = (mm 1024 f (tr fun j => g (2816 + j))) (i 0).val (i 1).val) (by decide +kernel) (fun t hf y => ?_) i
  blk_simp [x0_4]
  rw [after0_4, o0_4]
  have e1 (n : ℕ) : (t.val % 11 + 11) * 256 + n = 2816 + (t.val % 11 * 256 + n) := by omega
  exact pay3 (b0_0 V c h0 t) ((b0_2 V c h2 t).congr fun i j _ _ => by rw [e1 i]) y
theorem arr0_5 {f g : ℕ → ℕ → EReal} (h0 : Mt (a := 2048) (b := 1024) (V c (Pipeline.arrRef spec0 0)) f)
    (h1 : Mt (a := 5632) (b := 1024) (V c (Pipeline.arrRef spec0 1)) g) (h2 : Mt (a := 5632) (b := 1024) (V c (Pipeline.arrRef spec0 2)) g) :
    Mt (a := 2048) (b := 2816) ((dat0 V c).arrAt 5 cfg0.N) (fun i j => gat (mm 1024 f (tr g) i j) (mm 1024 f (tr fun j => g (2816 + j)) i j)) := by
  intro i
  refine (dat0 V c).arrAt_forall_of_covers 5 (fun (i : (⟨2, ![2048, 2816]⟩ : Shape).Idx) (v : EReal) => v = (fun i j => gat (mm 1024 f (tr g) i j) (mm 1024 f (tr fun j => g (2816 + j)) i j)) (i 0).val (i 1).val) (by decide +kernel) (fun t hf y => ?_) i
  blk_simp [x0_5]
  rw [after0_5, o0_5]
  have e1 (n : ℕ) : (t.val % 11 + 11) * 256 + n = 2816 + (t.val % 11 * 256 + n) := by omega
  exact pay4 (b0_0 V c h0 t) (b0_1 V c h1 t) ((b0_2 V c h2 t).congr fun i j _ _ => by rw [e1 i]) y
/-! ## Region 1 -/

theorem x1_0 : ∀ t : Fin cfg1.N, win1_0.index t = ![t.val, 0] := (by decide +kernel : ∀ t : Fin grid1.N, _)
theorem x1_1 : ∀ t : Fin cfg1.N, win1_1.index t = ![0, 0] := (by decide +kernel : ∀ t : Fin grid1.N, _)
theorem x1_2 : ∀ t : Fin cfg1.N, win1_2.index t = ![t.val, 0] := (by decide +kernel : ∀ t : Fin grid1.N, _)
theorem b1_0 {f : ℕ → ℕ → EReal} (h : Mt (a := 2048) (b := 2816) (V c (Pipeline.arrRef spec1 0)) f) (t : Fin cfg1.N) :
    Mt (a := 1024) (b := 2816) (iblk1 V c 0 t) (fun i j => f (t.val * 1024 + i) (j)) := by
  intro y
  refine (h (((cfg1.win 0).blk t).view.emb y)).trans ?_
  blk_simp [x1_0]
theorem b1_1 {f : ℕ → ℕ → EReal} (h : Mt (a := 2816) (b := 1024) (V c (Pipeline.arrRef spec1 1)) f) (t : Fin cfg1.N) :
    Mt (a := 2816) (b := 1024) (iblk1 V c 1 t) (fun i j => f (i) (j)) := by
  intro y
  refine (h (((cfg1.win 1).blk t).view.emb y)).trans ?_
  blk_simp [x1_1]
theorem arr1_2 {f g : ℕ → ℕ → EReal} (h0 : Mt (a := 2048) (b := 2816) (V c (Pipeline.arrRef spec1 0)) f) (h1 : Mt (a := 2816) (b := 1024) (V c (Pipeline.arrRef spec1 1)) g) :
    Mt (a := 2048) (b := 1024) ((dat1 V c).arrAt 2 cfg1.N) (mm 2816 f g) := by
  intro i
  refine (dat1 V c).arrAt_forall_of_covers 2 (fun (i : (⟨2, ![2048, 1024]⟩ : Shape).Idx) (v : EReal) => v = (mm 2816 f g) (i 0).val (i 1).val) (by decide +kernel) (fun t hf y => ?_) i
  blk_simp [x1_2]
  rw [after1_2, o1_2]
  exact pay1_1 (b1_0 V c h0 t) (b1_1 V c h1 t) y
/-! ## Region 2 -/

theorem x2_0 : ∀ t : Fin cfg2.N, win2_0.index t = ![0, t.val] := (by decide +kernel : ∀ t : Fin grid2.N, _)
theorem x2_1 : ∀ t : Fin cfg2.N, win2_1.index t = ![0, 0] := (by decide +kernel : ∀ t : Fin grid2.N, _)
theorem x2_2 : ∀ t : Fin cfg2.N, win2_2.index t = ![t.val, 0] := (by decide +kernel : ∀ t : Fin grid2.N, _)
theorem b2_0 {f : ℕ → ℕ → EReal} (h : Mt (a := 2048) (b := 2816) (V c (Pipeline.arrRef spec2 0)) f) (t : Fin cfg2.N) :
    Mt (a := 2048) (b := 256) (iblk2 V c 0 t) (fun i j => f (i) (t.val * 256 + j)) := by
  intro y
  refine (h (((cfg2.win 0).blk t).view.emb y)).trans ?_
  blk_simp [x2_0]
theorem b2_1 {f : ℕ → ℕ → EReal} (h : Mt (a := 2048) (b := 1024) (V c (Pipeline.arrRef spec2 1)) f) (t : Fin cfg2.N) :
    Mt (a := 2048) (b := 1024) (iblk2 V c 1 t) (fun i j => f (i) (j)) := by
  intro y
  refine (h (((cfg2.win 1).blk t).view.emb y)).trans ?_
  blk_simp [x2_1]
theorem arr2_2 {f g : ℕ → ℕ → EReal} (h0 : Mt (a := 2048) (b := 2816) (V c (Pipeline.arrRef spec2 0)) f) (h1 : Mt (a := 2048) (b := 1024) (V c (Pipeline.arrRef spec2 1)) g) :
    Mt (a := 2816) (b := 1024) ((dat2 V c).arrAt 2 cfg2.N) (mm 2048 (tr f) g) := by
  intro i
  refine (dat2 V c).arrAt_forall_of_covers 2 (fun (i : (⟨2, ![2816, 1024]⟩ : Shape).Idx) (v : EReal) => v = (mm 2048 (tr f) g) (i 0).val (i 1).val) (by decide +kernel) (fun t hf y => ?_) i
  blk_simp [x2_2]
  rw [after2_2, o2_2]
  exact pay2_1 (b2_0 V c h0 t) (b2_1 V c h1 t) y
/-! ## Region 3 -/

theorem x3_0 : ∀ t : Fin cfg3.N, win3_0.index t = ![t.val / 11, 0] := (by decide +kernel : ∀ t : Fin grid3.N, _)
theorem x3_1 : ∀ t : Fin cfg3.N, win3_1.index t = ![t.val % 11, 0] := (by decide +kernel : ∀ t : Fin grid3.N, _)
theorem x3_2 : ∀ t : Fin cfg3.N, win3_2.index t = ![t.val / 11, t.val % 11] := (by decide +kernel : ∀ t : Fin grid3.N, _)
theorem b3_0 {f : ℕ → ℕ → EReal} (h : Mt (a := 2048) (b := 1024) (V c (Pipeline.arrRef spec3 0)) f) (t : Fin cfg3.N) :
    Mt (a := 1024) (b := 1024) (iblk3 V c 0 t) (fun i j => f (t.val / 11 * 1024 + i) (j)) := by
  intro y
  refine (h (((cfg3.win 0).blk t).view.emb y)).trans ?_
  blk_simp [x3_0]
theorem b3_1 {f : ℕ → ℕ → EReal} (h : Mt (a := 2816) (b := 1024) (V c (Pipeline.arrRef spec3 1)) f) (t : Fin cfg3.N) :
    Mt (a := 256) (b := 1024) (iblk3 V c 1 t) (fun i j => f (t.val % 11 * 256 + i) (j)) := by
  intro y
  refine (h (((cfg3.win 1).blk t).view.emb y)).trans ?_
  blk_simp [x3_1]
theorem arr3_2 {f g : ℕ → ℕ → EReal} (h0 : Mt (a := 2048) (b := 1024) (V c (Pipeline.arrRef spec3 0)) f) (h1 : Mt (a := 2816) (b := 1024) (V c (Pipeline.arrRef spec3 1)) g) :
    Mt (a := 2048) (b := 2816) ((dat3 V c).arrAt 2 cfg3.N) (mm 1024 f (tr g)) := by
  intro i
  refine (dat3 V c).arrAt_forall_of_covers 2 (fun (i : (⟨2, ![2048, 2816]⟩ : Shape).Idx) (v : EReal) => v = (mm 1024 f (tr g)) (i 0).val (i 1).val) (by decide +kernel) (fun t hf y => ?_) i
  blk_simp [x3_2]
  rw [after3_2, o3_2]
  exact pay3_1 (b3_0 V c h0 t) (b3_1 V c h1 t) y
/-! ## Region 4 -/

theorem x4_0 : ∀ t : Fin cfg4.N, win4_0.index t = ![t.val, 0] := (by decide +kernel : ∀ t : Fin grid4.N, _)
theorem x4_1 : ∀ t : Fin cfg4.N, win4_1.index t = ![t.val, 0] := (by decide +kernel : ∀ t : Fin grid4.N, _)
theorem x4_2 : ∀ t : Fin cfg4.N, win4_2.index t = ![t.val, 0] := (by decide +kernel : ∀ t : Fin grid4.N, _)
theorem x4_3 : ∀ t : Fin cfg4.N, win4_3.index t = ![t.val, 0] := (by decide +kernel : ∀ t : Fin grid4.N, _)
theorem b4_0 {f : ℕ → ℕ → EReal} (h : Mt (a := 2048) (b := 2816) (V c (Pipeline.arrRef spec4 0)) f) (t : Fin cfg4.N) :
    Mt (a := 256) (b := 2816) (iblk4 V c 0 t) (fun i j => f (t.val * 256 + i) (j)) := by
  intro y
  refine (h (((cfg4.win 0).blk t).view.emb y)).trans ?_
  blk_simp [x4_0]
theorem b4_1 {f : ℕ → ℕ → EReal} (h : Mt (a := 2048) (b := 2816) (V c (Pipeline.arrRef spec4 1)) f) (t : Fin cfg4.N) :
    Mt (a := 256) (b := 2816) (iblk4 V c 1 t) (fun i j => f (t.val * 256 + i) (j)) := by
  intro y
  refine (h (((cfg4.win 1).blk t).view.emb y)).trans ?_
  blk_simp [x4_1]
theorem b4_2 {f : ℕ → ℕ → EReal} (h : Mt (a := 2048) (b := 2816) (V c (Pipeline.arrRef spec4 2)) f) (t : Fin cfg4.N) :
    Mt (a := 256) (b := 2816) (iblk4 V c 2 t) (fun i j => f (t.val * 256 + i) (j)) := by
  intro y
  refine (h (((cfg4.win 2).blk t).view.emb y)).trans ?_
  blk_simp [x4_2]
theorem arr4_3 {f g h : ℕ → ℕ → EReal} (h0 : Mt (a := 2048) (b := 2816) (V c (Pipeline.arrRef spec4 0)) f) (h1 : Mt (a := 2048) (b := 2816) (V c (Pipeline.arrRef spec4 1)) g) (h2 : Mt (a := 2048) (b := 2816) (V c (Pipeline.arrRef spec4 2)) h) :
    Mt (a := 2048) (b := 5632) ((dat4 V c).arrAt 3 cfg4.N) (fun i j => if j < 2816 then dga (f i j) (g i j) (h i j) else dup (f i (j - 2816)) (h i (j - 2816))) := by
  intro i
  refine (dat4 V c).arrAt_forall_of_covers 3 (fun (i : (⟨2, ![2048, 5632]⟩ : Shape).Idx) (v : EReal) => v = (fun i j => if j < 2816 then dga (f i j) (g i j) (h i j) else dup (f i (j - 2816)) (h i (j - 2816))) (i 0).val (i 1).val) (by decide +kernel) (fun t hf y => ?_) i
  blk_simp [x4_3]
  rw [after4_3, o4_3]
  exact pay4_1 (b4_0 V c h0 t) (b4_1 V c h1 t) (b4_2 V c h2 t) y
/-! ## Region 5 -/

theorem x5_0 : ∀ t : Fin cfg5.N, win5_0.index t = ![0, t.val] := (by decide +kernel : ∀ t : Fin grid5.N, _)
theorem x5_1 : ∀ t : Fin cfg5.N, win5_1.index t = ![0, 0] := (by decide +kernel : ∀ t : Fin grid5.N, _)
theorem x5_2 : ∀ t : Fin cfg5.N, win5_2.index t = ![t.val, 0] := (by decide +kernel : ∀ t : Fin grid5.N, _)
theorem b5_0 {f : ℕ → ℕ → EReal} (h : Mt (a := 2048) (b := 5632) (V c (Pipeline.arrRef spec5 0)) f) (t : Fin cfg5.N) :
    Mt (a := 2048) (b := 512) (iblk5 V c 0 t) (fun i j => f (i) (t.val * 512 + j)) := by
  intro y
  refine (h (((cfg5.win 0).blk t).view.emb y)).trans ?_
  blk_simp [x5_0]
theorem b5_1 {f : ℕ → ℕ → EReal} (h : Mt (a := 2048) (b := 1024) (V c (Pipeline.arrRef spec5 1)) f) (t : Fin cfg5.N) :
    Mt (a := 2048) (b := 1024) (iblk5 V c 1 t) (fun i j => f (i) (j)) := by
  intro y
  refine (h (((cfg5.win 1).blk t).view.emb y)).trans ?_
  blk_simp [x5_1]
theorem arr5_2 {f g : ℕ → ℕ → EReal} (h0 : Mt (a := 2048) (b := 5632) (V c (Pipeline.arrRef spec5 0)) f) (h1 : Mt (a := 2048) (b := 1024) (V c (Pipeline.arrRef spec5 1)) g) :
    Mt (a := 5632) (b := 1024) ((dat5 V c).arrAt 2 cfg5.N) (mm 2048 (tr f) g) := by
  intro i
  refine (dat5 V c).arrAt_forall_of_covers 2 (fun (i : (⟨2, ![5632, 1024]⟩ : Shape).Idx) (v : EReal) => v = (mm 2048 (tr f) g) (i 0).val (i 1).val) (by decide +kernel) (fun t hf y => ?_) i
  blk_simp [x5_2]
  rw [after5_2, o5_2]
  exact pay5_1 (b5_0 V c h0 t) (b5_1 V c h1 t) y

end Cert.Kernel2Ideal.Own
-- ==== Proof.FRun.lean ====
module

public import proofs.«01_k».proof.Proof.FVal
public import Idealize.ShloMosaic.Lib.StableHlo.ReadAt

@[expose] public section

set_option maxRecDepth 16384

noncomputable section

namespace Cert.Kernel2Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal.Gen
open Cert.Mat
open Idealize.ShloMosaic.Rounds
open Idealize.ShloMosaic.StableHlo (after)

section Run
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every run ends, and each array of the program then holds what the regions and the host lines leave in it. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Run

section Host
variable (V : Valuation τ sig (Elt Ideal))

theorem h_v0 {x : ℕ → ℕ → EReal} (h : Mt (a := 2048) (b := 1024) (V (Proc.devRef .tc main_arg0)) x) :
    Mt (a := 2048) (b := 1024) (after hostOps0 V (Proc.devRef .tc main_v0)) x := by
  intro i
  after_reads_at
  exact h i
theorem h_v1 {x : ℕ → ℕ → EReal} (h : Mt (a := 2048) (b := 1024) (V (Proc.devRef .tc main_arg4)) x) :
    Mt (a := 2048) (b := 1024) (after hostOps0 V (Proc.devRef .tc main_v1)) x := by
  intro i
  after_reads_at
  exact h i
theorem h_v7 {x : ℕ → ℕ → EReal} (h : Mt (a := 2816) (b := 1024) (V (Proc.devRef .tc main_arg3)) x) :
    Mt (a := 2816) (b := 1024) (after hostOps0 V (Proc.devRef .tc main_v7)) x := by
  intro i
  after_reads_at
  exact h i
/-- The two weights transposed, one above the other. -/
def both (p q : ℕ → ℕ → EReal) (i j : ℕ) : EReal := if i < 2816 then p j i else q j (i - 2816)
theorem h_v6 {p q : ℕ → ℕ → EReal} (hp : Mt (a := 1024) (b := 2816) (V (Proc.devRef .tc main_arg1)) p)
    (hq : Mt (a := 1024) (b := 2816) (V (Proc.devRef .tc main_arg2)) q) :
    Mt (a := 5632) (b := 1024) (after hostOps0 V (Proc.devRef .tc main_v6)) (both p q) := by
  intro i
  after_reads_at
  unfold both
  split
  · exact hp _
  · exact hq _
theorem h_v16 {f : ℕ → ℕ → EReal} (h : Mt (a := 5632) (b := 1024) (V (Proc.devRef .tc main_v13)) f) :
    Mt (a := 1024) (b := 2816) (after hostOps6 V (Proc.devRef .tc main_v16)) (tr f) := by
  intro i
  after_reads_at
  exact h _
theorem h_v19 {f : ℕ → ℕ → EReal} (h : Mt (a := 5632) (b := 1024) (V (Proc.devRef .tc main_v13)) f) :
    Mt (a := 1024) (b := 2816) (after hostOps6 V (Proc.devRef .tc main_v19)) (tr fun i => f (2816 + i)) := by
  intro i
  after_reads_at
  exact h _
theorem h_v20 {f : ℕ → ℕ → EReal} (h : Mt (a := 2816) (b := 1024) (V (Proc.devRef .tc main_v10)) f) :
    Mt (a := 2816) (b := 1024) (after hostOps6 V (Proc.devRef .tc main_v20)) f := by
  intro i
  after_reads_at
  exact h _
end Host

variable (m : (ℓ : Loc nD τ sig) → Buf (Elt Ideal) ℓ) (ρ : Dev nD → PrngReg) (c : Dev nD)
variable {x p q w ct : ℕ → ℕ → EReal}

theorem low (x p q : ℕ → ℕ → EReal) (i j : ℕ) : mm 1024 x (tr fun j => both p q (2816 + j)) i j = mm 1024 x q i j :=
  mm_congr (fun _ _ => rfl) (fun k _ => (if_neg (by omega)).trans (by rw [Nat.add_sub_cancel_left]))

section
variable (hx : Mt (a := 2048) (b := 1024) (m ((c : Thread nD τ).loc main_arg0)) x)
  (hp : Mt (a := 1024) (b := 2816) (m ((c : Thread nD τ).loc main_arg1)) p)
  (hq : Mt (a := 1024) (b := 2816) (m ((c : Thread nD τ).loc main_arg2)) q)
  (hw : Mt (a := 2816) (b := 1024) (m ((c : Thread nD τ).loc main_arg3)) w)
  (hc : Mt (a := 2048) (b := 1024) (m ((c : Thread nD τ).loc main_arg4)) ct)

include hx hp hq
theorem v8_0 : Mt (a := 2048) (b := 2816) (W2 m ρ c (Proc.devRef .tc main_v8_0)) (mm 1024 x p) :=
  ((arr0_3 (V1 m ρ) c (h_v0 (W0 m ρ c) hx) (h_v6 (W0 m ρ c) hp hq) (h_v6 (W0 m ρ c) hp hq)).congr
    (fun _ _ _ hj => mm_congr (fun _ _ => rfl) (fun _ _ => if_pos hj))).eqv (W2_arr m ρ c 3)
theorem v8_1 : Mt (a := 2048) (b := 2816) (W2 m ρ c (Proc.devRef .tc main_v8_1)) (mm 1024 x q) :=
  ((arr0_4 (V1 m ρ) c (h_v0 (W0 m ρ c) hx) (h_v6 (W0 m ρ c) hp hq) (h_v6 (W0 m ρ c) hp hq)).congr
    (fun i j _ _ => low x p q i j)).eqv (W2_arr m ρ c 4)
theorem v8_2 : Mt (a := 2048) (b := 2816) (W2 m ρ c (Proc.devRef .tc main_v8_2)) (hid x p q) :=
  ((arr0_5 (V1 m ρ) c (h_v0 (W0 m ρ c) hx) (h_v6 (W0 m ρ c) hp hq) (h_v6 (W0 m ρ c) hp hq)).congr
    (fun i j _ hj => congrArg₂ gat (mm_congr (fun _ _ => rfl) (fun _ _ => if_pos hj)) (low x p q i j))).eqv (W2_arr m ρ c 5)
omit hx hp hq

include hw in
theorem v7 : Mt (a := 2816) (b := 1024) (W2 m ρ c (Proc.devRef .tc main_v7)) w :=
  (h_v7 (W0 m ρ c) hw).eqv (W2_of m ρ c main_v7 (by decide +kernel))
include hx hp hq hw in
theorem v9 : Mt (a := 2048) (b := 1024) (W3 m ρ c (Proc.devRef .tc main_v9)) (mm 2816 (hid x p q) w) :=
  (arr1_2 (V2 m ρ) c (v8_2 m ρ c hx hp hq) (v7 m ρ c hw)).eqv (W3_arr m ρ c 2)
include hc in
theorem v1 : Mt (a := 2048) (b := 1024) (W3 m ρ c (Proc.devRef .tc main_v1)) ct :=
  ((h_v1 (W0 m ρ c) hc).eqv (W2_of m ρ c main_v1 (by decide +kernel))).eqv (W3_of m ρ c main_v1 (by decide +kernel))
include hx hp hq hc in
theorem v10 : Mt (a := 2816) (b := 1024) (W4 m ρ c (Proc.devRef .tc main_v10)) (mm 2048 (tr (hid x p q)) ct) :=
  (arr2_2 (V3 m ρ) c ((v8_2 m ρ c hx hp hq).eqv (W3_of m ρ c main_v8_2 (by decide +kernel))) (v1 m ρ c hc)).eqv (W4_arr m ρ c 2)
include hw hc in
theorem v11 : Mt (a := 2048) (b := 2816) (W5 m ρ c (Proc.devRef .tc main_v11)) (mm 1024 ct (tr w)) :=
  (arr3_2 (V4 m ρ) c ((v1 m ρ c hc).eqv (W4_of m ρ c main_v1 (by decide +kernel)))
    (((v7 m ρ c hw).eqv (W3_of m ρ c main_v7 (by decide +kernel))).eqv (W4_of m ρ c main_v7 (by decide +kernel)))).eqv (W5_arr m ρ c 2)
include hx hp hq hw hc in
theorem v12 : Mt (a := 2048) (b := 5632) (W6 m ρ c (Proc.devRef .tc main_v12))
    (fun i j => if j < 2816 then gA x p q w ct i j else gB x p q w ct i (j - 2816)) :=
  (arr4_3 (V5 m ρ) c
    ((((v8_0 m ρ c hx hp hq).eqv (W3_of m ρ c main_v8_0 (by decide +kernel))).eqv (W4_of m ρ c main_v8_0 (by decide +kernel))).eqv (W5_of m ρ c main_v8_0 (by decide +kernel)))
    ((((v8_1 m ρ c hx hp hq).eqv (W3_of m ρ c main_v8_1 (by decide +kernel))).eqv (W4_of m ρ c main_v8_1 (by decide +kernel))).eqv (W5_of m ρ c main_v8_1 (by decide +kernel)))
    (v11 m ρ c hw hc)).eqv (W6_arr m ρ c 3)
include hx hp hq hw hc in
theorem v13 : Mt (a := 5632) (b := 1024) (W7 m ρ c (Proc.devRef .tc main_v13))
    (mm 2048 (tr fun i j => if j < 2816 then gA x p q w ct i j else gB x p q w ct i (j - 2816)) x) :=
  (arr5_2 (V6 m ρ) c (v12 m ρ c hx hp hq hw hc)
    ((((((h_v0 (W0 m ρ c) hx).eqv (W2_of m ρ c main_v0 (by decide +kernel))).eqv (W3_of m ρ c main_v0 (by decide +kernel))).eqv
      (W4_of m ρ c main_v0 (by decide +kernel))).eqv (W5_of m ρ c main_v0 (by decide +kernel))).eqv (W6_of m ρ c main_v0 (by decide +kernel)))).eqv
    (W7_arr m ρ c 2)
include hx hp hq hw hc in
/-- The four results. -/
theorem results :
    Mt (a := 2048) (b := 1024) (W8 m ρ c (Proc.devRef .tc main_v9)) (mm 2816 (hid x p q) w)
    ∧ Mt (a := 1024) (b := 2816) (W8 m ρ c (Proc.devRef .tc main_v16)) (tr (mm 2048 (tr (gA x p q w ct)) x))
    ∧ Mt (a := 1024) (b := 2816) (W8 m ρ c (Proc.devRef .tc main_v19)) (tr (mm 2048 (tr (gB x p q w ct)) x))
    ∧ Mt (a := 2816) (b := 1024) (W8 m ρ c (Proc.devRef .tc main_v20)) (mm 2048 (tr (hid x p q)) ct) :=
  ⟨(((((((v9 m ρ c hx hp hq hw).eqv (W4_of m ρ c main_v9 (by decide +kernel))).eqv (W5_of m ρ c main_v9 (by decide +kernel))).eqv
      (W6_of m ρ c main_v9 (by decide +kernel))).eqv (W7_of m ρ c main_v9 (by decide +kernel))).eqv (W8_of m ρ c main_v9 (by decide +kernel)))),
    (h_v16 (W7 m ρ c) (v13 m ρ c hx hp hq hw hc)).congr (fun _ j _ hj => mm_congr (fun _ _ => if_pos hj) (fun _ _ => rfl)),
    (h_v19 (W7 m ρ c) (v13 m ρ c hx hp hq hw hc)).congr
      (fun _ j _ hj => mm_congr (fun k _ => (if_neg (by omega)).trans (by rw [Nat.add_sub_cancel_left]; rfl)) (fun _ _ => rfl)),
    h_v20 (W7 m ρ c) ((((v10 m ρ c hx hp hq hc).eqv (W5_of m ρ c main_v10 (by decide +kernel))).eqv (W6_of m ρ c main_v10 (by decide +kernel))).eqv
      (W7_of m ρ c main_v10 (by decide +kernel)))⟩
end

end Cert.Kernel2Ideal.Own
-- ==== Proof.FRef.lean ====
module

public import proofs.«01_k».proof.Proof.Mat
public import proofs.«01_k».proof.Proof.Gen.Reference2Ideal.Run
public import Idealize.ShloMosaic.Lib.Pointwise.Index
public import Idealize.ShloMosaic.Lib.Pointwise.Reshape

@[expose] public section

set_option maxRecDepth 16384

noncomputable section

namespace Cert.Reference2Ideal.Own

open Idealize.ShloMosaic Idealize.ShloMosaic.TcCoe Idealize.ShloMosaic.Tactic
open Cert.Reference2Ideal Cert.Reference2Ideal.Gen Cert.Mat

theorem d_up {l : FVec Ideal S2048x1024 .f32} {r : FVec Ideal S1024x2816 .f32} {f g : ℕ → ℕ → EReal} (hl : Mt l f) (hr : Mt r g) :
    Mt (Host.dotGeneral dot_S2048x1024_S1024x2816_S2048x2816_1_0_0_1_n_n none l r) (mm 1024 f g) := by
  intro i
  pointwise
  exact Finset.sum_congr rfl fun k _ => congrArg₂ _ (hl _) (hr _)
theorem d_down {l : FVec Ideal S2048x2816 .f32} {r : FVec Ideal S2816x1024 .f32} {f g : ℕ → ℕ → EReal} (hl : Mt l f) (hr : Mt r g) :
    Mt (Host.dotGeneral dot_S2048x2816_S2816x1024_S2048x1024_1_0_0_1_n_n none l r) (mm 2816 f g) := by
  intro i
  pointwise
  exact Finset.sum_congr rfl fun k _ => congrArg₂ _ (hl _) (hr _)
theorem d_h {l : FVec Ideal S2048x1024 .f32} {r : FVec Ideal S2816x1024 .f32} {f g : ℕ → ℕ → EReal} (hl : Mt l f) (hr : Mt r g) :
    Mt (Host.dotGeneral dot_S2048x1024_S2816x1024_S2048x2816_1_1_0_0_n_n none l r) (mm 1024 f (tr g)) := by
  intro i
  pointwise
  exact Finset.sum_congr rfl fun k _ => congrArg₂ _ (hl _) (hr _)
theorem d_w {l : FVec Ideal S2048x2816 .f32} {r : FVec Ideal S2048x1024 .f32} {f g : ℕ → ℕ → EReal} (hl : Mt l f) (hr : Mt r g) :
    Mt (Host.dotGeneral dot_S2048x2816_S2048x1024_S2816x1024_0_0_1_1_n_n none l r) (mm 2048 (tr f) g) := by
  intro i
  pointwise
  exact Finset.sum_congr rfl fun k _ => congrArg₂ _ (hl _) (hr _)
theorem d_d {l : FVec Ideal S2048x1024 .f32} {r : FVec Ideal S2048x2816 .f32} {f g : ℕ → ℕ → EReal} (hl : Mt l f) (hr : Mt r g) :
    Mt (Host.dotGeneral dot_S2048x1024_S2048x2816_S1024x2816_0_0_1_1_n_n none l r) (mm 2048 (tr f) g) := by
  intro i
  pointwise
  exact Finset.sum_congr rfl fun k _ => congrArg₂ _ (hl _) (hr _)
theorem t_w {l : FVec Ideal S2816x1024 .f32} {f : ℕ → ℕ → EReal} (hl : Mt l f) :
    Mt (transpose S1024x2816 [1, 0] l transposes_S2816x1024_S1024x2816_1_0) (tr f) := by
  intro i
  pointwise
  exact hl _
theorem t_d {l : FVec Ideal S1024x2816 .f32} {f : ℕ → ℕ → EReal} (hl : Mt l f) :
    Mt (transpose S2816x1024 [1, 0] l transposes_S1024x2816_S2816x1024_1_0) (tr f) := by
  intro i
  pointwise
  exact hl _

/-- The logistic function as the reference prints it. -/
abbrev sg (a : FVec Ideal S2048x2816 .f32) : FVec Ideal S2048x2816 .f32 :=
  Host.divf (broadcastInDim S2048x2816 ![] bcast_S_S2048x2816 (constant S_ .f32 0x3F800000#32)) (addf (broadcastInDim S2048x2816 ![] bcast_S_S2048x2816 (constant S_ .f32 0x3F800000#32)) (Host.exp (Host.negf a)))
theorem sg_at (a : FVec Ideal S2048x2816 .f32) (i : S2048x2816.Idx) : sg a i = Ideal.logistic (a i) := by
  pointwise [sg]
  rfl
theorem m_hid {a b : FVec Ideal S2048x2816 .f32} {f g : ℕ → ℕ → EReal} (ha : Mt a f) (hb : Mt b g) :
    Mt (mulf (mulf a (sg a)) b) (fun i j => gat (f i j) (g i j)) := fun i =>
  (show _ = (a i : EReal) * (sg a i) * b i from rfl).trans (by rw [sg_at, ha i, hb i]; rfl)
theorem m_db {a d : FVec Ideal S2048x2816 .f32} {f h : ℕ → ℕ → EReal} (ha : Mt a f) (hd : Mt d h) :
    Mt (mulf (mulf a (sg a)) d) (fun i j => dup (f i j) (h i j)) := fun i =>
  (show _ = (a i : EReal) * (sg a i) * d i from rfl).trans (by rw [sg_at, ha i, hd i]; exact dup_comm _ _)
theorem m_da {a b d : FVec Ideal S2048x2816 .f32} {f g h : ℕ → ℕ → EReal} (ha : Mt a f) (hb : Mt b g) (hd : Mt d h)
    (rf : ∀ i j, i < 2048 → j < 2816 → IsR (f i j)) (rg : ∀ i j, i < 2048 → j < 2816 → IsR (g i j)) (rh : ∀ i j, i < 2048 → j < 2816 → IsR (h i j)) :
    Mt (addf (mulf (mulf d b) (sg a)) (mulf (mulf a (mulf d b)) (mulf (sg a) (subf (broadcastInDim S2048x2816 ![] bcast_S_S2048x2816 (constant S_ .f32 0x3F800000#32)) (sg a)))))
      (fun i j => dga (f i j) (g i j) (h i j)) := by
  intro i
  have e1 : (broadcastInDim S2048x2816 ![] bcast_S_S2048x2816 (constant (F := Ideal) S_ .f32 0x3F800000#32) i : EReal) = 1 := by
    pointwise
  refine (show _ = (d i : EReal) * b i * sg a i + (a i : EReal) * (d i * b i) * (sg a i * ((broadcastInDim S2048x2816 ![] bcast_S_S2048x2816 (constant (F := Ideal) S_ .f32 0x3F800000#32) i : EReal) - sg a i)) from rfl).trans ?_
  rw [e1, sg_at, ha i, hb i, hd i]
  exact dga_real (rf _ _ (i 0).isLt (i 1).isLt) (rg _ _ (i 0).isLt (i 1).isLt) (rh _ _ (i 0).isLt (i 1).isLt)

section
variable {x ct : FVec Ideal S2048x1024 .f32} {p q : FVec Ideal S1024x2816 .f32} {w : FVec Ideal S2816x1024 .f32}
variable {fx fp fq fw fc : ℕ → ℕ → EReal} (hx : Mt x fx) (hp : Mt p fp) (hq : Mt q fq) (hw : Mt w fw) (hc : Mt ct fc)
include hx hp hq hw in
theorem r_f {o : FVec Ideal S2048x1024 .f32} (h : Mt o (mm 2816 (hid fx fp fq) fw)) :
    o = Host.dotGeneral dot_S2048x2816_S2816x1024_S2048x1024_1_0_0_1_n_n none (mulf (mulf (Host.dotGeneral dot_S2048x1024_S1024x2816_S2048x2816_1_0_0_1_n_n none x p) (sg (Host.dotGeneral dot_S2048x1024_S1024x2816_S2048x2816_1_0_0_1_n_n none x p))) (Host.dotGeneral dot_S2048x1024_S1024x2816_S2048x2816_1_0_0_1_n_n none x q)) w :=
  funext fun i => (h i).trans (d_down (m_hid (d_up hx hp) (d_up hx hq)) hw i).symm
include hx hp hq hc in
theorem r_d {o : FVec Ideal S2816x1024 .f32} (h : Mt o (mm 2048 (tr (hid fx fp fq)) fc)) :
    o = transpose S2816x1024 [1, 0] (Host.dotGeneral dot_S2048x1024_S2048x2816_S1024x2816_0_0_1_1_n_n none ct (mulf (mulf (Host.dotGeneral dot_S2048x1024_S1024x2816_S2048x2816_1_0_0_1_n_n none x p) (sg (Host.dotGeneral dot_S2048x1024_S1024x2816_S2048x2816_1_0_0_1_n_n none x p))) (Host.dotGeneral dot_S2048x1024_S1024x2816_S2048x2816_1_0_0_1_n_n none x q))) transposes_S1024x2816_S2816x1024_1_0 :=
  funext fun i => (h i).trans ((t_d (d_d hc (m_hid (d_up hx hp) (d_up hx hq))) i).trans (mm_tr _ _ _ _ _)).symm
include hx hp hq hw hc in
theorem r_u {o : FVec Ideal S1024x2816 .f32} (h : Mt o (tr (mm 2048 (tr (gB fx fp fq fw fc)) fx))) :
    o = transpose S1024x2816 [1, 0] (Host.dotGeneral dot_S2048x2816_S2048x1024_S2816x1024_0_0_1_1_n_n none (mulf (mulf (Host.dotGeneral dot_S2048x1024_S1024x2816_S2048x2816_1_0_0_1_n_n none x p) (sg (Host.dotGeneral dot_S2048x1024_S1024x2816_S2048x2816_1_0_0_1_n_n none x p))) (Host.dotGeneral dot_S2048x1024_S2816x1024_S2048x2816_1_1_0_0_n_n none ct w)) x) transposes_S2816x1024_S1024x2816_1_0 :=
  funext fun i => (h i).trans (t_w (d_w (m_db (d_up hx hp) (d_h hc hw)) hx) i).symm
include hx hp hq hw hc in
theorem r_g {o : FVec Ideal S1024x2816 .f32} (h : Mt o (tr (mm 2048 (tr (gA fx fp fq fw fc)) fx)))
    (rx : ∀ i j, i < 2048 → j < 1024 → IsR (fx i j)) (rp : ∀ i j, i < 1024 → j < 2816 → IsR (fp i j)) (rq : ∀ i j, i < 1024 → j < 2816 → IsR (fq i j))
    (rw : ∀ i j, i < 2816 → j < 1024 → IsR (fw i j)) (rc : ∀ i j, i < 2048 → j < 1024 → IsR (fc i j)) :
    o = transpose S1024x2816 [1, 0] (Host.dotGeneral dot_S2048x2816_S2048x1024_S2816x1024_0_0_1_1_n_n none
      (addf (mulf (mulf (Host.dotGeneral dot_S2048x1024_S2816x1024_S2048x2816_1_1_0_0_n_n none ct w) (Host.dotGeneral dot_S2048x1024_S1024x2816_S2048x2816_1_0_0_1_n_n none x q)) (sg (Host.dotGeneral dot_S2048x1024_S1024x2816_S2048x2816_1_0_0_1_n_n none x p)))
        (mulf (mulf (Host.dotGeneral dot_S2048x1024_S1024x2816_S2048x2816_1_0_0_1_n_n none x p) (mulf (Host.dotGeneral dot_S2048x1024_S2816x1024_S2048x2816_1_1_0_0_n_n none ct w) (Host.dotGeneral dot_S2048x1024_S1024x2816_S2048x2816_1_0_0_1_n_n none x q)))
          (mulf (sg (Host.dotGeneral dot_S2048x1024_S1024x2816_S2048x2816_1_0_0_1_n_n none x p)) (subf (broadcastInDim S2048x2816 ![] bcast_S_S2048x2816 (constant S_ .f32 0x3F800000#32)) (sg (Host.dotGeneral dot_S2048x1024_S1024x2816_S2048x2816_1_0_0_1_n_n none x p)))))) x) transposes_S2816x1024_S1024x2816_1_0 :=
  funext fun i => (h i).trans (t_w (d_w (m_da (d_up hx hp) (d_up hx hq) (d_h hc hw)
    (fun i j hi hj => mm_real (fun k hk => rx i k hi hk) (fun k hk => rp k j hk hj))
    (fun i j hi hj => mm_real (fun k hk => rx i k hi hk) (fun k hk => rq k j hk hj))
    (fun i j hi hj => mm_real (fun k hk => rc i k hi hk) (fun k hk => rw j k hj hk))) hx) i).symm
end

end Cert.Reference2Ideal.Own
-- ==== Proof.FFin.lean ====
module

public import proofs.«01_k».proof.Proof.Fin
public import proofs.«01_k».proof.Proof.FRun
public import proofs.«01_k».proof.Proof.FRef
public import proofs.«01_k».proof.Proof.Gen.Pre_finite2

@[expose] public section

set_option maxRecDepth 16384

noncomputable section

namespace Cert.Proof

open Idealize.ShloMosaic Idealize.ShloMosaic.TcCoe Idealize.ShloMosaic.Tactic Idealize.SL.Sem
open Cert.Mat

section
open Cert.Pre_finite2
instance : Subsingleton Cert.Pre_finite2.S_.Idx := ⟨fun a b => funext fun k => k.elim0⟩
theorem inf_x (i : S2048x1024.Idx) : (broadcastInDim S2048x1024 ![] Cert.Pre_finite2.Gen.facts.bcast_S_S2048x1024 (constant (F := Ideal) S_ .f32 0x7F800000#32) i : EReal) = ⊤ := by
  pointwise
  simp [Ideal.ofBits, Ideal.ieee]
theorem inf_p (i : S1024x2816.Idx) : (broadcastInDim S1024x2816 ![] Cert.Pre_finite2.Gen.facts.bcast_S_S1024x2816 (constant (F := Ideal) S_ .f32 0x7F800000#32) i : EReal) = ⊤ := by
  pointwise
  simp [Ideal.ofBits, Ideal.ieee]
theorem inf_w (i : S2816x1024.Idx) : (broadcastInDim S2816x1024 ![] Cert.Pre_finite2.Gen.facts.bcast_S_S2816x1024 (constant (F := Ideal) S_ .f32 0x7F800000#32) i : EReal) = ⊤ := by
  pointwise
  simp [Ideal.ofBits, Ideal.ieee]
/-- The precondition says that every argument is real. -/
theorem reals2 {x : FVec Ideal S2048x1024 .f32} {p q : FVec Ideal S1024x2816 .f32} {w : FVec Ideal S2816x1024 .f32} {ct : FVec Ideal S2048x1024 .f32}
    (h : @Cert.Pre_finite2.fn Cert.Pre_finite2.Gen.facts Ideal _ x p q w ct = fun _ => 1#1) :
    (∀ i, IsR (x i)) ∧ (∀ i, IsR (p i)) ∧ (∀ i, IsR (q i)) ∧ (∀ i, IsR (w i)) ∧ (∀ i, IsR (ct i)) := by
  have e := congrFun h (Shape.Idx.first Cert.Pre_finite2.Gen.facts.h_S_)
  simp only [Cert.Pre_finite2.fn, Cert.Pre_finite2.fn_part1, andi_apply, IntOp.andi_eq_one] at e
  obtain ⟨⟨⟨⟨h0, h1⟩, h2⟩, h3⟩, h4⟩ := e
  exact ⟨fun i => ⟨_, real_of_lt inf_x (Host.reduce_andi_all _ _ _ _ _ h0 i)⟩, fun i => ⟨_, real_of_lt inf_p (Host.reduce_andi_all _ _ _ _ _ h1 i)⟩,
    fun i => ⟨_, real_of_lt inf_p (Host.reduce_andi_all _ _ _ _ _ h2 i)⟩, fun i => ⟨_, real_of_lt inf_w (Host.reduce_andi_all _ _ _ _ _ h3 i)⟩,
    fun i => ⟨_, real_of_lt inf_x (Host.reduce_andi_all _ _ _ _ _ h4 i)⟩⟩
end

/-- Over the reals, and of real arguments, the gated feed-forward block and its weight gradients are the reference's. -/
theorem value2 : @Cert.algebraic_Kernel2Ideal_Reference2Ideal_pre_finite2 Cert.Kernel2Ideal.Gen.facts Cert.Reference2Ideal.Gen.facts Cert.Pre_finite2.Gen.facts := by
  intro m g m' g' hp ha
  have R c := Cert.Kernel2Ideal.Own.results m g c (num_mt _) (num_mt _) (num_mt _) (num_mt _) (num_mt _)
  refine ⟨fun c => Cert.Kernel2Ideal.Gen.W8 m g c (Proc.devRef .tc Cert.Kernel2Ideal.main_v9), fun c => Cert.Kernel2Ideal.Gen.W8 m g c (Proc.devRef .tc Cert.Kernel2Ideal.main_v16), fun c => Cert.Kernel2Ideal.Gen.W8 m g c (Proc.devRef .tc Cert.Kernel2Ideal.main_v19), fun c => Cert.Kernel2Ideal.Gen.W8 m g c (Proc.devRef .tc Cert.Kernel2Ideal.main_v20), ?_, ?_⟩
  · refine (θ_run Cert.Kernel2Ideal.defs _ _).mono (fun r h c => ?_) (Cert.Kernel2Ideal.Own.run m g)
    have k (b : Ref Cert.Kernel2Ideal.sig .tc) (hb : ¬(Proc.devRef .tc b : DevRef Cert.Kernel2Ideal.τ Cert.Kernel2Ideal.sig).isScoped = true) := h c _ (Cert.Kernel2Ideal.Gen.mem_uc b hb)
    exact ⟨k _ (by decide), k _ (by decide), k _ (by decide), k _ (by decide),
      (k _ (by decide)).trans (Cert.Kernel2Ideal.Gen.W8_main_arg0 m g c),
      (k _ (by decide)).trans (Cert.Kernel2Ideal.Gen.W8_main_arg1 m g c),
      (k _ (by decide)).trans (Cert.Kernel2Ideal.Gen.W8_main_arg2 m g c),
      (k _ (by decide)).trans (Cert.Kernel2Ideal.Gen.W8_main_arg3 m g c),
      (k _ (by decide)).trans (Cert.Kernel2Ideal.Gen.W8_main_arg4 m g c)⟩
  · refine (θ_run Cert.Reference2Ideal.defs _ _).mono (fun r h c => ?_) (Cert.Reference2Ideal.Value.run m' g')
    obtain ⟨e0, e1, e2, e3, e4⟩ := ha c
    obtain ⟨r0, r1, r2, r3, r4⟩ := reals2 (hp c)
    obtain ⟨o0, o1, o2, o3, a0, a1, a2, a3, a4⟩ := h c
    obtain ⟨k0, k1, k2, k3⟩ := R c
    rw [e0, e1, e2, e3, e4] at o1
    rw [e0, e1, e2, e3] at o0
    rw [e0, e1, e3, e4] at o2
    rw [e0, e1, e2, e4] at o3
    exact ⟨o0.trans (Cert.Reference2Ideal.Own.r_f (num_mt _) (num_mt _) (num_mt _) (num_mt _) k0).symm,
      o1.trans (Cert.Reference2Ideal.Own.r_g (num_mt _) (num_mt _) (num_mt _) (num_mt _) (num_mt _) k1 (num_real r0) (num_real r1) (num_real r2) (num_real r3) (num_real r4)).symm,
      o2.trans (Cert.Reference2Ideal.Own.r_u (num_mt _) (num_mt _) (num_mt _) (num_mt _) (num_mt _) k2).symm,
      o3.trans (Cert.Reference2Ideal.Own.r_d (num_mt _) (num_mt _) (num_mt _) (num_mt _) k3).symm, a0, a1, a2, a3, a4⟩

end Cert.Proof

end
-- ==== Proof.XVal.lean ====
module

public import proofs.«01_k».proof.Proof.Fin
public import proofs.«01_k».proof.Proof.Mat
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise.Index
public import Idealize.ShloMosaic.Lib.Pointwise.Reshape
public import Idealize.ShloMosaic.Lib.StableHlo.ReadAt
public import Idealize.ShloMosaic.Lib.Tactic

@[expose] public section

set_option maxRecDepth 16384

noncomputable section

namespace Cert.Kernel3Ideal.Own

open Idealize.ShloMosaic Idealize.ShloMosaic.TcCoe Idealize.ShloMosaic.Tactic
open Cert.Kernel3Ideal.Gen Cert.Mat
open Idealize.ShloMosaic.StableHlo (after)

theorem pay1 {x : Vec Ideal S1024x2816 .bf16} {w : Vec Ideal S2816x1024 .bf16} {f g : ℕ → ℕ → EReal}
    (hx : Mt x f) (hw : Mt w g) : Mt (k0_pay1 x w) (mm 2816 f g) := by
  intro i
  pointwise [k0_pay1]
  exact Finset.sum_congr rfl fun k _ => congrArg₂ _ (hx _) (hw _)
theorem pay2 {x : Vec Ideal S1024x2816 .bf16} {w : Vec Ideal S2816x1024 .bf16} {f g : ℕ → ℕ → EReal}
    (hx : Mt x f) (hw : Mt w g) : Mt (k0_pay2 x w) (mm 2816 f g) := fun i => by
  refine Eq.trans ?_ (pay1 hx hw i)
  pointwise [k0_pay2]
theorem pay3 {x : Vec Ideal S1024x2816 .bf16} {w : Vec Ideal S2816x1024 .bf16} {a : Vec Ideal S1024x1024 .f32} {f g h : ℕ → ℕ → EReal}
    (hx : Mt x f) (hw : Mt w g) (ha : Mt a h) : Mt (k0_pay3 x w a) (fun i j => h i j + mm 2816 f g i j) := fun i => by
  refine Eq.trans ?_ (congrArg₂ (fun a b : EReal => a + b) (ha i) (pay1 hx hw i))
  pointwise [k0_pay3]

section Host
variable (V : Valuation τ sig (Elt Ideal))
theorem h_v4 {p q : ℕ → ℕ → EReal} (hp : Mt (a := 1024) (b := 2816) (V (Proc.devRef .tc main_arg0)) p)
    (hq : Mt (a := 1024) (b := 2816) (V (Proc.devRef .tc main_arg1)) q) :
    Mt (a := 5632) (b := 1024) (after hostOps0 V (Proc.devRef .tc main_v4)) (fun i j => if i < 2816 then p j i else q j (i - 2816)) := by
  intro i
  after_reads_at
  split
  · exact hp _
  · exact hq _
theorem h_v6 {p q : ℕ → ℕ → EReal} (hp : Mt (a := 2048) (b := 2816) (V (Proc.devRef .tc main_arg2)) p)
    (hq : Mt (a := 2048) (b := 2816) (V (Proc.devRef .tc main_arg3)) q) :
    Mt (a := 2048) (b := 5632) (after hostOps0 V (Proc.devRef .tc main_v6)) (fun i j => if j < 2816 then p i j else q i (j - 2816)) := by
  intro i
  after_reads_at
  split
  · exact hp _
  · exact hq _
end Host

variable (m : (ℓ : Loc nD τ sig) → Buf (Elt Ideal) ℓ) (c : Dev nD)

theorem x0_0 : ∀ t : Fin cfg0.N, win0_0.index t = ![t.val / 2, t.val % 2] := (by decide +kernel : ∀ t : Fin grid0.N, _)
theorem x0_1 : ∀ t : Fin cfg0.N, win0_1.index t = ![t.val % 2, 0] := (by decide +kernel : ∀ t : Fin grid0.N, _)
theorem x0_2 : ∀ t : Fin cfg0.N, win0_2.index t = ![t.val / 2, 0] := (by decide +kernel : ∀ t : Fin grid0.N, _)
theorem odd2 : ∀ t : Fin cfg0.N, (cfg0.win 2).flush t = true → t.val % 2 = 1 := by decide +kernel

theorem b0_0 {f : ℕ → ℕ → EReal} (h : Mt (a := 2048) (b := 5632) (V m c (Pipeline.arrRef spec0 0)) f) (t : Fin cfg0.N) :
    Mt (a := 1024) (b := 2816) (iblk m c 0 t) (fun i j => f (t.val / 2 * 1024 + i) (t.val % 2 * 2816 + j)) := by
  intro y
  refine (h (((cfg0.win 0).blk t).view.emb y)).trans ?_
  blk_simp [x0_0]
theorem b0_1 {f : ℕ → ℕ → EReal} (h : Mt (a := 5632) (b := 1024) (V m c (Pipeline.arrRef spec0 1)) f) (t : Fin cfg0.N) :
    Mt (a := 2816) (b := 1024) (iblk m c 1 t) (fun i j => f (t.val % 2 * 2816 + i) j) := by
  intro y
  refine (h (((cfg0.win 1).blk t).view.emb y)).trans ?_
  blk_simp [x0_1]

theorem even_st {f g : ℕ → ℕ → EReal} (h0 : Mt (a := 2048) (b := 5632) (V m c (Pipeline.arrRef spec0 0)) f)
    (h1 : Mt (a := 5632) (b := 1024) (V m c (Pipeline.arrRef spec0 1)) g) (t : Fin cfg0.N) (ht : t.val % 2 = 0) :
    Mt (a := 1024) (b := 1024) (outsAt0 m c t.val t.isLt).2 (mm 2816 (fun i j => f (t.val / 2 * 1024 + i) j) g) := by
  rw [outsAt0_A m c t ht (by omega) (by omega)]
  frame_out
  refine (pay2 (b0_0 m c h0 t) (b0_1 m c h1 t)).congr fun i j _ _ => ?_
  simp [ht]
theorem odd_st {f g : ℕ → ℕ → EReal} (h0 : Mt (a := 2048) (b := 5632) (V m c (Pipeline.arrRef spec0 0)) f)
    (h1 : Mt (a := 5632) (b := 1024) (V m c (Pipeline.arrRef spec0 1)) g) (t : Fin cfg0.N) (ht : t.val % 2 = 1) :
    Mt (a := 1024) (b := 1024) (outsAt0 m c t.val t.isLt).1 (fun i j => mm 2816 (fun i j => f (t.val / 2 * 1024 + i) j) g i j
      + mm 2816 (fun i k => f (t.val / 2 * 1024 + i) (2816 + k)) (fun k j => g (2816 + k) j) i j) := by
  have e := even_st m c h0 h1 ⟨t.val - 1, by omega⟩ (by dsimp only; omega)
  rw [outsAt0_B m c t (by omega) ht ht]
  frame_out
  rw [show View.read (Elt Ideal) (View.whole cc0_scratch0) _ = (outsAt0 m c (t.val - 1) (by omega)).2 from (Memref.isWhole_whole cc0_scratch0).read_unread _]
  refine (pay3 (b0_0 m c h0 t) (b0_1 m c h1 t) e).congr fun i j _ _ => ?_
  have q : (t.val - 1) / 2 = t.val / 2 := by omega
  simp [ht, q]
theorem arr {f g : ℕ → ℕ → EReal} (h0 : Mt (a := 2048) (b := 5632) (V m c (Pipeline.arrRef spec0 0)) f)
    (h1 : Mt (a := 5632) (b := 1024) (V m c (Pipeline.arrRef spec0 1)) g) :
    Mt (a := 2048) (b := 1024) ((dats m 0 c).arrAt 2 cfg0.N) (fun i j => mm 2816 f g i j + mm 2816 (fun i k => f i (2816 + k)) (fun k j => g (2816 + k) j) i j) := by
  intro i
  refine (dats m 0 c).arrAt_forall_of_covers 2 (fun (i : (⟨2, ![2048, 1024]⟩ : Shape).Idx) (v : EReal) =>
    v = mm 2816 f g (i 0).val (i 1).val + mm 2816 (fun i k => f i (2816 + k)) (fun k j => g (2816 + k) j) (i 0).val (i 1).val) (by decide +kernel) (fun t hf y => ?_) i
  blk_simp [x0_2]
  rw [after0_2]
  exact odd_st m c h0 h1 t (odd2 t hf) y

theorem result {p q da db : ℕ → ℕ → EReal} (hp : Mt (a := 1024) (b := 2816) (m ((c : Thread nD τ).loc main_arg0)) p)
    (hq : Mt (a := 1024) (b := 2816) (m ((c : Thread nD τ).loc main_arg1)) q)
    (ha : Mt (a := 2048) (b := 2816) (m ((c : Thread nD τ).loc main_arg2)) da)
    (hb : Mt (a := 2048) (b := 2816) (m ((c : Thread nD τ).loc main_arg3)) db) :
    Mt (a := 2048) (b := 1024) ((dats m 0 c).arrAt 2 cfg0.N) (fun i j => mm 2816 da (tr p) i j + mm 2816 db (tr q) i j) := by
  refine (arr m c (h_v6 _ ha hb) (h_v4 _ hp hq)).congr fun i j _ _ => congrArg₂ (· + ·) ?_ ?_
  · exact mm_congr (fun k hk => if_pos hk) (fun k hk => if_pos hk)
  · exact mm_congr (fun k _ => (if_neg (by omega)).trans (by rw [Nat.add_sub_cancel_left])) (fun k _ => (if_neg (by omega)).trans (by rw [Nat.add_sub_cancel_left]; rfl))

end Cert.Kernel3Ideal.Own

namespace Cert.Reference3Ideal.Own
open Idealize.ShloMosaic Idealize.ShloMosaic.TcCoe Idealize.ShloMosaic.Tactic
open Cert.Reference3Ideal Cert.Reference3Ideal.Gen Cert.Mat
theorem d_x {l : FVec Ideal S2048x2816 .f32} {r : FVec Ideal S1024x2816 .f32} {f g : ℕ → ℕ → EReal} (hl : Mt l f) (hr : Mt r g) :
    Mt (Host.dotGeneral dot_S2048x2816_S1024x2816_S2048x1024_1_1_0_0_n_n none l r) (mm 2816 f (tr g)) := by
  intro i
  pointwise
  exact Finset.sum_congr rfl fun k _ => congrArg₂ _ (hl _) (hr _)
end Cert.Reference3Ideal.Own

namespace Cert.Proof
open Idealize.ShloMosaic Idealize.ShloMosaic.TcCoe Idealize.ShloMosaic.Tactic Idealize.SL.Sem
open Cert.Mat

/-- Over the reals, the call that takes the two gradients back to the block's input is the reference. -/
theorem value3 : @Cert.algebraic_Kernel3Ideal_Reference3Ideal Cert.Kernel3Ideal.Gen.facts Cert.Reference3Ideal.Gen.facts := by
  intro m g m' g' hp ha
  refine ⟨fun c => (Cert.Kernel3Ideal.Gen.dats m 0 c).arrAt 2 Cert.Kernel3Ideal.cfg0.N, ?_, ?_⟩
  · exact (θ_run Cert.Kernel3Ideal.defs _ _).mono (fun r h c => ⟨Cert.Kernel3Ideal.Value.post2 m r h c, Cert.Kernel3Ideal.Value.kept_main_arg0 m r h c,
      Cert.Kernel3Ideal.Value.kept_main_arg1 m r h c, Cert.Kernel3Ideal.Value.kept_main_arg2 m r h c, Cert.Kernel3Ideal.Value.kept_main_arg3 m r h c⟩) (Cert.Kernel3Ideal.Gen.run_main m g)
  · refine (θ_run Cert.Reference3Ideal.defs _ _).mono (fun r h c => ?_) (Cert.Reference3Ideal.Value.run m' g')
    obtain ⟨e0, e1, e2, e3⟩ := ha c
    obtain ⟨o, a0, a1, a2, a3⟩ := h c
    rw [e0, e1, e2, e3] at o
    refine ⟨o.trans (funext fun i => ?_), a0, a1, a2, a3⟩
    refine Eq.trans ?_ (Cert.Kernel3Ideal.Own.result m c (num_mt _) (num_mt _) (num_mt _) (num_mt _) i).symm
    refine Eq.trans (congrArg₂ (fun a b : EReal => a + b) (Cert.Reference3Ideal.Own.d_x (num_mt _) (num_mt _) i) (Cert.Reference3Ideal.Own.d_x (num_mt _) (num_mt _) i)) ?_
    exact add_comm _ _
end Cert.Proof
-- ==== Proof.Mix.lean ====
module

public import proofs.«01_k».proof.Proof.Mat

@[expose] public section

noncomputable section

namespace Cert.Mat

open Idealize.ShloMosaic

/-- The two branches of the mixer, each behind its gate. -/
def mrg (a y b z : EReal) : EReal := Ideal.logistic a * y + Ideal.logistic b * z
/-- The gradient reaching a gate, from the gated value and the gradient of the sum. -/
def dgt (a y d : EReal) : EReal := d * y * (Ideal.logistic a * (1 - Ideal.logistic a))
/-- The gradient reaching the gate of the gated linear unit, in the order of the kernel. -/
def dgl (v a d : EReal) : EReal := d * v * Ideal.logistic a * (1 - Ideal.logistic a)

theorem dgl_eq (v a d : EReal) : v * d * (Ideal.logistic a * (1 - Ideal.logistic a)) = dgl v a d := by
  unfold dgl
  rw [mul_comm v d, mul_assoc (d * v)]
/-- Two arrays of the same entries are the same. -/
theorem uniq {a b : ℕ} {v w : (⟨2, ![a, b]⟩ : Shape).Idx → EReal} {f : ℕ → ℕ → EReal} (h : Mt v f) (k : Mt w f) : w = v :=
  funext fun i => (k i).trans (h i).symm

/-- The columns as the kernel lays them out: four groups of eight columns go to the end, each padded with zeros to 128. -/
def pm (f : ℕ → EReal) (j : ℕ) : EReal :=
  if j < 5120 then f j else if j - 5120 < 3072 then f (5152 + (j - 5120)) else
    if (j - 5120 - 3072) % 128 < 8 then f (5120 + ((j - 5120 - 3072) / 128 * 8 + (j - 5120 - 3072) % 128)) else 0
/-- Where a column goes. -/
def pi (j : ℕ) : ℕ :=
  if j < 5120 then j else if j - 5120 < 32 then 8192 + ((j - 5120) / 8 * 128 + (j - 5120) % 8) else 5120 + (j - 5120 - 32)
theorem pm_pi (f : ℕ → EReal) {j : ℕ} (h : j < 8224) : pm f (pi j) = f j := by
  unfold pi
  split
  · exact if_pos ‹_›
  split
  · unfold pm
    rw [if_neg (by omega), if_neg (by omega), if_pos (by omega)]
    exact congrArg f (by omega)
  · unfold pm
    rw [if_neg (by omega), if_pos (by omega)]
    exact congrArg f (by omega)

end Cert.Mat
-- ==== Proof.IVal.lean ====
module

public import proofs.«01_k».proof.Proof.Gen.Kernel4Ideal.Frame
public import proofs.«01_k».proof.Proof.Mix
public import Idealize.ShloMosaic.Lib.Pipeline.ValueKit
public import Idealize.ShloMosaic.Lib.Pointwise.Index
public import Idealize.ShloMosaic.Lib.Pointwise.Reshape
public import Idealize.ShloMosaic.Lib.VecWindow
public import Idealize.ShloMosaic.Lib.Tactic

@[expose] public section

set_option maxRecDepth 16384

noncomputable section

namespace Cert.Kernel4Ideal.Own

open Idealize.ShloMosaic Idealize.ShloMosaic.TcCoe Idealize.ShloMosaic.Tactic
open Cert.Kernel4Ideal.Gen
open Cert.Mat

theorem pay0 {x : Vec Ideal S1024x1024 .bf16} {w : Vec Ideal S512x1024 .bf16} {f g : ℕ → ℕ → EReal}
    (hx : Mt x f) (hw : Mt w g) : Mt (k0_pay1 x w) (mm 1024 f (tr g)) := by
  intro i
  pointwise [k0_pay1]
  exact Finset.sum_congr rfl fun k _ => congrArg₂ _ (hx _) (hw _)
theorem o0_2 {x0} {x1} : out0_2 (F := Ideal) x0 x1 = k0_pay1 x0 x1 := by
  unfold out0_2
  rw [View.canon_cons_unit_lit]
  · rw [View.ld_unit_lit, View.ld_unit_lit] <;> decide
  · decide
theorem pay1 {x : Vec Ideal S2048x512 .bf16} {w : Vec Ideal S2048x1024 .bf16} {f g : ℕ → ℕ → EReal}
    (hx : Mt x f) (hw : Mt w g) : Mt (k1_pay1 x w) (mm 2048 (tr f) g) := by
  intro i
  pointwise [k1_pay1]
  exact Finset.sum_congr rfl fun k _ => congrArg₂ _ (hx _) (hw _)
theorem o1_2 {x0} {x1} : out1_2 (F := Ideal) x0 x1 = k1_pay1 x0 x1 := by
  unfold out1_2
  rw [View.canon_cons_unit_lit]
  · rw [View.ld_unit_lit, View.ld_unit_lit] <;> decide
  · decide
variable (V : (c : Dev nD) → (b : Ref sig .tc) → Buf (Elt Ideal) ((c : Thread nD τ).loc b)) (c : Dev nD)

/-! ## Region 0 -/

theorem x0_0 : ∀ t : Fin cfg0.N, win0_0.index t = ![t.val / 17, 0] := (by decide +kernel : ∀ t : Fin grid0.N, _)
theorem x0_1 : ∀ t : Fin cfg0.N, win0_1.index t = ![t.val % 17, 0] := (by decide +kernel : ∀ t : Fin grid0.N, _)
theorem x0_2 : ∀ t : Fin cfg0.N, win0_2.index t = ![t.val / 17, t.val % 17] := (by decide +kernel : ∀ t : Fin grid0.N, _)
theorem b0_0 {f : ℕ → ℕ → EReal} (h : Mt (a := 2048) (b := 1024) (V c (Pipeline.arrRef spec0 0)) f) (t : Fin cfg0.N) :
    Mt (a := 1024) (b := 1024) (iblk0 V c 0 t) (fun i j => f (t.val / 17 * 1024 + i) (j)) := by
  intro y
  refine (h (((cfg0.win 0).blk t).view.emb y)).trans ?_
  blk_simp [x0_0]
theorem b0_1 {f : ℕ → ℕ → EReal} (h : Mt (a := 8704) (b := 1024) (V c (Pipeline.arrRef spec0 1)) f) (t : Fin cfg0.N) :
    Mt (a := 512) (b := 1024) (iblk0 V c 1 t) (fun i j => f (t.val % 17 * 512 + i) (j)) := by
  intro y
  refine (h (((cfg0.win 1).blk t).view.emb y)).trans ?_
  blk_simp [x0_1]
theorem arr0_2 {f g : ℕ → ℕ → EReal} (h0 : Mt (a := 2048) (b := 1024) (V c (Pipeline.arrRef spec0 0)) f) (h1 : Mt (a := 8704) (b := 1024) (V c (Pipeline.arrRef spec0 1)) g) :
    Mt (a := 2048) (b := 8704) ((dat0 V c).arrAt 2 cfg0.N) (mm 1024 f (tr g)) := by
  intro i
  refine (dat0 V c).arrAt_forall_of_covers 2 (fun (i : (⟨2, ![2048, 8704]⟩ : Shape).Idx) (v : EReal) => v = (mm 1024 f (tr g)) (i 0).val (i 1).val) (by decide +kernel) (fun t hf y => ?_) i
  blk_simp [x0_2]
  rw [after0_2, o0_2]
  exact pay0 (b0_0 V c h0 t) (b0_1 V c h1 t) y
/-! ## Region 1 -/

theorem x1_0 : ∀ t : Fin cfg1.N, win1_0.index t = ![0, t.val] := (by decide +kernel : ∀ t : Fin grid1.N, _)
theorem x1_1 : ∀ t : Fin cfg1.N, win1_1.index t = ![0, 0] := (by decide +kernel : ∀ t : Fin grid1.N, _)
theorem x1_2 : ∀ t : Fin cfg1.N, win1_2.index t = ![t.val, 0] := (by decide +kernel : ∀ t : Fin grid1.N, _)
theorem b1_0 {f : ℕ → ℕ → EReal} (h : Mt (a := 2048) (b := 8704) (V c (Pipeline.arrRef spec1 0)) f) (t : Fin cfg1.N) :
    Mt (a := 2048) (b := 512) (iblk1 V c 0 t) (fun i j => f (i) (t.val * 512 + j)) := by
  intro y
  refine (h (((cfg1.win 0).blk t).view.emb y)).trans ?_
  blk_simp [x1_0]
theorem b1_1 {f : ℕ → ℕ → EReal} (h : Mt (a := 2048) (b := 1024) (V c (Pipeline.arrRef spec1 1)) f) (t : Fin cfg1.N) :
    Mt (a := 2048) (b := 1024) (iblk1 V c 1 t) (fun i j => f (i) (j)) := by
  intro y
  refine (h (((cfg1.win 1).blk t).view.emb y)).trans ?_
  blk_simp [x1_1]
theorem arr1_2 {f g : ℕ → ℕ → EReal} (h0 : Mt (a := 2048) (b := 8704) (V c (Pipeline.arrRef spec1 0)) f) (h1 : Mt (a := 2048) (b := 1024) (V c (Pipeline.arrRef spec1 1)) g) :
    Mt (a := 8704) (b := 1024) ((dat1 V c).arrAt 2 cfg1.N) (mm 2048 (tr f) g) := by
  intro i
  refine (dat1 V c).arrAt_forall_of_covers 2 (fun (i : (⟨2, ![8704, 1024]⟩ : Shape).Idx) (v : EReal) => v = (mm 2048 (tr f) g) (i 0).val (i 1).val) (by decide +kernel) (fun t hf y => ?_) i
  blk_simp [x1_2]
  rw [after1_2, o1_2]
  exact pay1 (b1_0 V c h0 t) (b1_1 V c h1 t) y

end Cert.Kernel4Ideal.Own
-- ==== Proof.IRun.lean ====
module

public import proofs.«01_k».proof.Proof.IVal
public import Idealize.ShloMosaic.Lib.StableHlo.ReadAt

@[expose] public section

set_option maxRecDepth 200000

noncomputable section

namespace Cert.Kernel4Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel4Ideal.Gen
open Cert.Mat
open Idealize.ShloMosaic.Rounds
open Idealize.ShloMosaic.StableHlo (after)

section Run
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every run ends, and each array of the program then holds what the regions and the host lines leave in it. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Run

section Host
variable (V : Valuation τ sig (Elt Ideal))

theorem h_v0 {f : ℕ → ℕ → EReal} (h : Mt (a := 2048) (b := 1024) (V (Proc.devRef .tc main_arg0)) f) :
    Mt (a := 2048) (b := 1024) (after hostOps0 V (Proc.devRef .tc main_v0)) (f) := by
  intro i
  after_reads_at
  exact h _
theorem h_v12 {f : ℕ → ℕ → EReal} (h : Mt (a := 1024) (b := 8224) (V (Proc.devRef .tc main_arg1)) f) :
    Mt (a := 8704) (b := 1024) (after hostOps0 V (Proc.devRef .tc main_v12)) (fun i k => pm (f k) i) := by
  intro i
  after_reads_at
  unfold pm
  split
  · after_reads_at
    exact h _
  · split
    · after_reads_at
      exact h _
    · after_reads_at
      split
      · after_reads_at
        exact h _
      · after_reads_at
theorem h_v22 {f : ℕ → ℕ → EReal} (h : Mt (a := 2048) (b := 8224) (V (Proc.devRef .tc main_arg2)) f) :
    Mt (a := 2048) (b := 8704) (after hostOps1 V (Proc.devRef .tc main_v22)) (fun i j => pm (f i) j) := by
  intro i
  after_reads_at
  unfold pm
  split
  · after_reads_at
    exact h _
  · split
    · after_reads_at
      exact h _
    · after_reads_at
      split
      · after_reads_at
        exact h _
      · after_reads_at
theorem h_v30 {f : ℕ → ℕ → EReal} (h : Mt (a := 2048) (b := 8704) (V (Proc.devRef .tc main_v13)) f) :
    Mt (a := 2048) (b := 8224) (after hostOps2 V (Proc.devRef .tc main_v30)) (fun i j => f i (pi j)) := by
  intro i
  after_reads_at
  unfold pi
  split
  · after_reads_at
    exact h _
  · split
    · after_reads_at
      exact h _
    · after_reads_at
      exact h _
theorem h_v41 {f : ℕ → ℕ → EReal} (h : Mt (a := 8704) (b := 1024) (V (Proc.devRef .tc main_v23)) f) :
    Mt (a := 1024) (b := 8224) (after hostOps2 V (Proc.devRef .tc main_v41)) (fun i j => f (pi j) i) := by
  intro i
  after_reads_at
  unfold pi
  split
  · after_reads_at
    exact h _
  · split
    · after_reads_at
      exact h _
    · after_reads_at
      exact h _
end Host

section
variable (m : (ℓ : Loc nD τ sig) → Buf (Elt Ideal) ℓ) (ρ : Dev nD → PrngReg) (c : Dev nD)
variable {u w d : ℕ → ℕ → EReal} (hu : Mt (a := 2048) (b := 1024) (W0 m ρ c (Proc.devRef .tc main_arg0)) u) (hw : Mt (a := 1024) (b := 8224) (W0 m ρ c (Proc.devRef .tc main_arg1)) w) (hd : Mt (a := 2048) (b := 8224) (W0 m ρ c (Proc.devRef .tc main_arg2)) d)
include hu hw hd in
theorem v13 : Mt (a := 2048) (b := 8704) (W2 m ρ c (Proc.devRef .tc main_v13)) (mm 1024 u (tr fun i k => pm (w k) i)) :=
  (arr0_2 (V1 m ρ) c (h_v0 (W0 m ρ c) hu) (h_v12 (W0 m ρ c) hw)).eqv (W2_arr m ρ c 2)
include hu hw hd in
theorem v23 : Mt (a := 8704) (b := 1024) (W4 m ρ c (Proc.devRef .tc main_v23)) (mm 2048 (tr fun i j => pm (d i) j) u) :=
  (arr1_2 (V3 m ρ) c (h_v22 (W2 m ρ c) (((((hd).eqv (W1_of m ρ c main_arg2 (by decide +kernel)))).eqv (W2_of m ρ c main_arg2 (by decide +kernel))))) (((((h_v0 (W0 m ρ c) hu).eqv (W2_of m ρ c main_v0 (by decide +kernel)))).eqv (W3_of m ρ c main_v0 (by decide +kernel))))).eqv (W4_arr m ρ c 2)
include hu hw hd in
/-- The two results. -/
theorem results :
    Mt (a := 2048) (b := 8224) (W5 m ρ c (Proc.devRef .tc main_v30)) (mm 1024 u w)
    ∧ Mt (a := 1024) (b := 8224) (W5 m ρ c (Proc.devRef .tc main_v41)) (tr (mm 2048 (tr d) u)) :=
  ⟨(h_v30 (W4 m ρ c) (((((v13 m ρ c hu hw hd).eqv (W3_of m ρ c main_v13 (by decide +kernel)))).eqv (W4_of m ρ c main_v13 (by decide +kernel))))).congr (fun _ j _ hj => mm_congr (fun _ _ => rfl) (fun k _ => pm_pi (w k) hj)),
    (h_v41 (W4 m ρ c) (v23 m ρ c hu hw hd)).congr (fun _ j _ hj => mm_congr (fun k _ => pm_pi (d k) hj) (fun _ _ => rfl))⟩
end

end Cert.Kernel4Ideal.Own
-- ==== Proof.IRef.lean ====
module

public import proofs.«01_k».proof.Proof.Mix
public import proofs.«01_k».proof.Proof.Gen.Reference4Ideal.Run
public import Idealize.ShloMosaic.Lib.Pointwise.Index
public import Idealize.ShloMosaic.Lib.Pointwise.Reshape

@[expose] public section

set_option maxRecDepth 16384

noncomputable section

namespace Cert.Reference4Ideal.Own

open Idealize.ShloMosaic Idealize.ShloMosaic.TcCoe Idealize.ShloMosaic.Tactic
open Cert.Reference4Ideal Cert.Reference4Ideal.Gen Cert.Mat

theorem d_a {l : FVec Ideal S2048x1024 .f32} {r : FVec Ideal S1024x8224 .f32} {f g : ℕ → ℕ → EReal} (hl : Mt l f) (hr : Mt r g) :
    Mt (Host.dotGeneral dot_S2048x1024_S1024x8224_S2048x8224_1_0_0_1_n_n none l r) (mm 1024 f g) := by
  intro i
  pointwise
  exact Finset.sum_congr rfl fun k _ => congrArg₂ _ (hl _) (hr _)
theorem d_b {l : FVec Ideal S2048x8224 .f32} {r : FVec Ideal S2048x1024 .f32} {f g : ℕ → ℕ → EReal} (hl : Mt l f) (hr : Mt r g) :
    Mt (Host.dotGeneral dot_S2048x8224_S2048x1024_S8224x1024_0_0_1_1_n_n none l r) (mm 2048 (tr f) g) := by
  intro i
  pointwise
  exact Finset.sum_congr rfl fun k _ => congrArg₂ _ (hl _) (hr _)
theorem t_a {l : FVec Ideal S8224x1024 .f32} {K : ℕ} {f g : ℕ → ℕ → EReal} (hl : Mt l (mm K (tr f) g)) :
    Mt (transpose S1024x8224 [1, 0] l transposes_S8224x1024_S1024x8224_1_0) (mm K (tr g) f) := by
  intro i
  refine Eq.trans ?_ (mm_tr K f g (i 0).val (i 1).val)
  pointwise
  exact hl _

end Cert.Reference4Ideal.Own
-- ==== Proof.IFin.lean ====
module

public import proofs.«01_k».proof.Proof.IRun
public import proofs.«01_k».proof.Proof.IRef
public import proofs.«01_k».proof.Defs

@[expose] public section

set_option maxRecDepth 16384

noncomputable section

namespace Cert.Proof

open Idealize.ShloMosaic Idealize.ShloMosaic.TcCoe Idealize.ShloMosaic.Tactic Idealize.SL.Sem
open Cert.Mat

/-- The input product of the mixer and its weight gradient are, over the reals, the reference's. -/
theorem value4 : @Cert.algebraic_Kernel4Ideal_Reference4Ideal Cert.Kernel4Ideal.Gen.facts Cert.Reference4Ideal.Gen.facts := by
  intro m g m' g' hp ha
  refine ⟨fun c => Cert.Kernel4Ideal.Gen.W5 m g c (Proc.devRef .tc Cert.Kernel4Ideal.main_v30), fun c => Cert.Kernel4Ideal.Gen.W5 m g c (Proc.devRef .tc Cert.Kernel4Ideal.main_v41), ?_, ?_⟩
  · refine (θ_run Cert.Kernel4Ideal.defs _ _).mono (fun r h c => ?_) (Cert.Kernel4Ideal.Own.run m g)
    have k (b : Ref Cert.Kernel4Ideal.sig .tc) (hb : ¬(Proc.devRef .tc b : DevRef Cert.Kernel4Ideal.τ Cert.Kernel4Ideal.sig).isScoped = true) := h c _ (Cert.Kernel4Ideal.Gen.mem_uc b hb)
    exact ⟨k _ (by decide), k _ (by decide),
      (k _ (by decide)).trans (Cert.Kernel4Ideal.Gen.W5_main_arg0 m g c),
      (k _ (by decide)).trans (Cert.Kernel4Ideal.Gen.W5_main_arg1 m g c),
      (k _ (by decide)).trans (Cert.Kernel4Ideal.Gen.W5_main_arg2 m g c)⟩
  · refine (θ_run Cert.Reference4Ideal.defs _ _).mono (fun r h c => ?_) (Cert.Reference4Ideal.Value.run m' g')
    obtain ⟨e0, e1, e2⟩ := ha c
    obtain ⟨o0, o1, a0, a1, a2⟩ := h c
    rw [e0, e1] at o0
    rw [e0, e2] at o1
    obtain ⟨k0, k1⟩ := Cert.Kernel4Ideal.Own.results m g c (num_mt _) (num_mt _) (num_mt _)
    exact ⟨o0.trans (uniq k0 (Cert.Reference4Ideal.Own.d_a (num_mt _) (num_mt _))),
      o1.trans (uniq (k1.congr fun i j _ _ => mm_tr _ _ _ i j) (Cert.Reference4Ideal.Own.t_a (Cert.Reference4Ideal.Own.d_b (num_mt _) (num_mt _)))),
      a0, a1, a2⟩

end Cert.Proof

end
-- ==== Proof.MVal.lean ====
module

public import proofs.«01_k».proof.Proof.Gen.Kernel5Ideal.Frame
public import proofs.«01_k».proof.Proof.Mix
public import Idealize.ShloMosaic.Lib.Pipeline.ValueKit
public import Idealize.ShloMosaic.Lib.Pointwise.Index
public import Idealize.ShloMosaic.Lib.Pointwise.Reshape
public import Idealize.ShloMosaic.Lib.VecWindow
public import Idealize.ShloMosaic.Lib.Tactic

@[expose] public section

set_option maxRecDepth 16384

noncomputable section

namespace Cert.Kernel5Ideal.Own

open Idealize.ShloMosaic Idealize.ShloMosaic.TcCoe Idealize.ShloMosaic.Tactic
open Cert.Kernel5Ideal.Gen
open Cert.Mat

theorem pay0 {x : Vec Ideal S1024x2048 .bf16} {w : Vec Ideal S2048x1024 .bf16} {f g : ℕ → ℕ → EReal}
    (hx : Mt x f) (hw : Mt w g) : Mt (k0_pay1 x w) (mm 2048 f g) := by
  intro i
  pointwise [k0_pay1]
  exact Finset.sum_congr rfl fun k _ => congrArg₂ _ (hx _) (hw _)
theorem o0_2 {x0} {x1} : out0_2 (F := Ideal) x0 x1 = k0_pay1 x0 x1 := by
  unfold out0_2
  rw [View.canon_cons_unit_lit]
  · rw [View.ld_unit_lit, View.ld_unit_lit] <;> decide
  · decide
theorem pay1 {x : Vec Ideal S1024x1024 .bf16} {w : Vec Ideal S1024x1024 .bf16} {f g : ℕ → ℕ → EReal}
    (hx : Mt x f) (hw : Mt w g) : Mt (k1_pay1 x w) (mm 1024 f g) := by
  intro i
  pointwise [k1_pay1]
  exact Finset.sum_congr rfl fun k _ => congrArg₂ _ (hx _) (hw _)
theorem o1_2 {x0} {x1} : out1_2 (F := Ideal) x0 x1 = k1_pay1 x0 x1 := by
  unfold out1_2
  rw [View.canon_cons_unit_lit]
  · rw [View.ld_unit_lit, View.ld_unit_lit] <;> decide
  · decide
theorem pay2 {x0 x1 x2 x3 : Vec Ideal S512x1024 .f32} {f g h k : ℕ → ℕ → EReal} (h0 : Mt x0 f) (h1 : Mt x1 g) (h2 : Mt x2 h) (h3 : Mt x3 k) :
    Mt (k2_pay1 x0 x1 x2 x3) (fun i j => mrg (f i j) (g i j) (h i j) (k i j)) := by
  intro i
  dsimp only
  rw [← h0 i, ← h1 i, ← h2 i, ← h3 i]
  pointwise [k2_pay1]
  rfl
theorem o2_4 {x0} {x1} {x2} {x3} : out2_4 (F := Ideal) x0 x1 x2 x3 = k2_pay1 x0 x1 x2 x3 := by
  unfold out2_4
  rw [View.canon_cons_unit_lit]
  · rw [View.ld_unit_lit, View.ld_unit_lit, View.ld_unit_lit, View.ld_unit_lit] <;> decide
  · decide
theorem pay3 {x : Vec Ideal S1024x1024 .bf16} {w : Vec Ideal S1024x1024 .bf16} {f g : ℕ → ℕ → EReal}
    (hx : Mt x f) (hw : Mt w g) : Mt (k3_pay1 x w) (mm 1024 f g) := by
  intro i
  pointwise [k3_pay1]
  exact Finset.sum_congr rfl fun k _ => congrArg₂ _ (hx _) (hw _)
theorem o3_2 {x0} {x1} : out3_2 (F := Ideal) x0 x1 = k3_pay1 x0 x1 := by
  unfold out3_2
  rw [View.canon_cons_unit_lit]
  · rw [View.ld_unit_lit, View.ld_unit_lit] <;> decide
  · decide
theorem pay4 {x : Vec Ideal S2048x1024 .bf16} {w : Vec Ideal S2048x1024 .bf16} {f g : ℕ → ℕ → EReal}
    (hx : Mt x f) (hw : Mt w g) : Mt (k4_pay1 x w) (mm 2048 (tr f) g) := by
  intro i
  pointwise [k4_pay1]
  exact Finset.sum_congr rfl fun k _ => congrArg₂ _ (hx _) (hw _)
theorem o4_2 {x0} {x1} : out4_2 (F := Ideal) x0 x1 = k4_pay1 x0 x1 := by
  unfold out4_2
  rw [View.canon_cons_unit_lit]
  · rw [View.ld_unit_lit, View.ld_unit_lit] <;> decide
  · decide
theorem pay5 {x : Vec Ideal S1024x1024 .bf16} {w : Vec Ideal S1024x1024 .bf16} {f g : ℕ → ℕ → EReal}
    (hx : Mt x f) (hw : Mt w g) : Mt (k5_pay1 x w) (mm 1024 f (tr g)) := by
  intro i
  pointwise [k5_pay1]
  exact Finset.sum_congr rfl fun k _ => congrArg₂ _ (hx _) (hw _)
theorem o5_2 {x0} {x1} : out5_2 (F := Ideal) x0 x1 = k5_pay1 x0 x1 := by
  unfold out5_2
  rw [View.canon_cons_unit_lit]
  · rw [View.ld_unit_lit, View.ld_unit_lit] <;> decide
  · decide
theorem pay6_4 {x0 x1 x4 : Vec Ideal S512x1024 .f32} {f g m : ℕ → ℕ → EReal} (h0 : Mt x0 f) (h1 : Mt x1 g) (h4 : Mt x4 m) :
    Mt (k6_pay4 x0 x1 x4) (fun i j => dgt (f i j) (g i j) (m i j)) := by
  intro i
  dsimp only
  rw [← h0 i, ← h1 i, ← h4 i]
  pointwise [k6_pay4, k6_pay1, k6_pay2]
  rfl
theorem pay6_5 {x0 x4 : Vec Ideal S512x1024 .f32} {f m : ℕ → ℕ → EReal} (h0 : Mt x0 f) (h4 : Mt x4 m) :
    Mt (k6_pay5 x0 x4) (fun i j => Ideal.logistic (f i j) * m i j) := by
  intro i
  dsimp only
  rw [← h0 i, ← h4 i]
  pointwise [k6_pay5, k6_pay1, k6_pay2]
theorem pay6_6 {x0 x1 x4 : Vec Ideal S512x1024 .f32} {f g m : ℕ → ℕ → EReal} (h0 : Mt x0 f) (h1 : Mt x1 g) (h4 : Mt x4 m) :
    Mt (k6_pay6 x0 x1 x4) (fun i j => dgt (f i j) (g i j) (m i j)) := by
  intro i
  dsimp only
  rw [← h0 i, ← h1 i, ← h4 i]
  pointwise [k6_pay6, k6_pay1, k6_pay3]
  rfl
theorem pay6_7 {x0 x4 : Vec Ideal S512x1024 .f32} {f m : ℕ → ℕ → EReal} (h0 : Mt x0 f) (h4 : Mt x4 m) :
    Mt (k6_pay7 x0 x4) (fun i j => Ideal.logistic (f i j) * m i j) := by
  intro i
  dsimp only
  rw [← h0 i, ← h4 i]
  pointwise [k6_pay7, k6_pay1, k6_pay3]
theorem o6_5 {x0} {x1} {x2} {x3} {x4} : out6_5 (F := Ideal) x0 x1 x2 x3 x4 = k6_pay4 x0 x1 x4 := by
  unfold out6_5
  rw [View.canon_cons_unit_lit]
  · rw [View.ld_unit_lit, View.ld_unit_lit, View.ld_unit_lit] <;> decide
  · decide
theorem o6_6 {x0} {x1} {x2} {x3} {x4} : out6_6 (F := Ideal) x0 x1 x2 x3 x4 = k6_pay5 x0 x4 := by
  unfold out6_6
  rw [View.canon_cons_unit_lit]
  · rw [View.ld_unit_lit, View.ld_unit_lit] <;> decide
  · decide
theorem o6_7 {x0} {x1} {x2} {x3} {x4} : out6_7 (F := Ideal) x0 x1 x2 x3 x4 = k6_pay6 x2 x3 x4 := by
  unfold out6_7
  rw [View.canon_cons_unit_lit]
  · rw [View.ld_unit_lit, View.ld_unit_lit, View.ld_unit_lit] <;> decide
  · decide
theorem o6_8 {x0} {x1} {x2} {x3} {x4} : out6_8 (F := Ideal) x0 x1 x2 x3 x4 = k6_pay7 x2 x4 := by
  unfold out6_8
  rw [View.canon_cons_unit_lit]
  · rw [View.ld_unit_lit, View.ld_unit_lit] <;> decide
  · decide
theorem pay7 {x : Vec Ideal S2048x1024 .bf16} {w : Vec Ideal S2048x1024 .bf16} {f g : ℕ → ℕ → EReal}
    (hx : Mt x f) (hw : Mt w g) : Mt (k7_pay1 x w) (mm 2048 (tr f) g) := by
  intro i
  pointwise [k7_pay1]
  exact Finset.sum_congr rfl fun k _ => congrArg₂ _ (hx _) (hw _)
theorem o7_2 {x0} {x1} : out7_2 (F := Ideal) x0 x1 = k7_pay1 x0 x1 := by
  unfold out7_2
  rw [View.canon_cons_unit_lit]
  · rw [View.ld_unit_lit, View.ld_unit_lit] <;> decide
  · decide
theorem pay8 {x : Vec Ideal S1024x1024 .bf16} {w : Vec Ideal S1024x1024 .bf16} {f g : ℕ → ℕ → EReal}
    (hx : Mt x f) (hw : Mt w g) : Mt (k8_pay1 x w) (mm 1024 f (tr g)) := by
  intro i
  pointwise [k8_pay1]
  exact Finset.sum_congr rfl fun k _ => congrArg₂ _ (hx _) (hw _)
theorem o8_2 {x0} {x1} : out8_2 (F := Ideal) x0 x1 = k8_pay1 x0 x1 := by
  unfold out8_2
  rw [View.canon_cons_unit_lit]
  · rw [View.ld_unit_lit, View.ld_unit_lit] <;> decide
  · decide
theorem pay9 {x : Vec Ideal S2048x1024 .bf16} {w : Vec Ideal S2048x1024 .bf16} {f g : ℕ → ℕ → EReal}
    (hx : Mt x f) (hw : Mt w g) : Mt (k9_pay1 x w) (mm 2048 (tr f) g) := by
  intro i
  pointwise [k9_pay1]
  exact Finset.sum_congr rfl fun k _ => congrArg₂ _ (hx _) (hw _)
theorem o9_2 {x0} {x1} : out9_2 (F := Ideal) x0 x1 = k9_pay1 x0 x1 := by
  unfold out9_2
  rw [View.canon_cons_unit_lit]
  · rw [View.ld_unit_lit, View.ld_unit_lit] <;> decide
  · decide
theorem pay10 {x : Vec Ideal S1024x1024 .bf16} {w : Vec Ideal S1024x1024 .bf16} {f g : ℕ → ℕ → EReal}
    (hx : Mt x f) (hw : Mt w g) : Mt (k10_pay1 x w) (mm 1024 f (tr g)) := by
  intro i
  pointwise [k10_pay1]
  exact Finset.sum_congr rfl fun k _ => congrArg₂ _ (hx _) (hw _)
theorem o10_2 {x0} {x1} : out10_2 (F := Ideal) x0 x1 = k10_pay1 x0 x1 := by
  unfold out10_2
  rw [View.canon_cons_unit_lit]
  · rw [View.ld_unit_lit, View.ld_unit_lit] <;> decide
  · decide
variable (V : (c : Dev nD) → (b : Ref sig .tc) → Buf (Elt Ideal) ((c : Thread nD τ).loc b)) (c : Dev nD)

/-! ## Region 0 -/

theorem x0_0 : ∀ t : Fin cfg0.N, win0_0.index t = ![t.val, 0] := (by decide +kernel : ∀ t : Fin grid0.N, _)
theorem x0_1 : ∀ t : Fin cfg0.N, win0_1.index t = ![0, 0] := (by decide +kernel : ∀ t : Fin grid0.N, _)
theorem x0_2 : ∀ t : Fin cfg0.N, win0_2.index t = ![t.val, 0] := (by decide +kernel : ∀ t : Fin grid0.N, _)
theorem b0_0 {f : ℕ → ℕ → EReal} (h : Mt (a := 2048) (b := 2048) (V c (Pipeline.arrRef spec0 0)) f) (t : Fin cfg0.N) :
    Mt (a := 1024) (b := 2048) (iblk0 V c 0 t) (fun i j => f (t.val * 1024 + i) (j)) := by
  intro y
  refine (h (((cfg0.win 0).blk t).view.emb y)).trans ?_
  blk_simp [x0_0]
theorem b0_1 {f : ℕ → ℕ → EReal} (h : Mt (a := 2048) (b := 1024) (V c (Pipeline.arrRef spec0 1)) f) (t : Fin cfg0.N) :
    Mt (a := 2048) (b := 1024) (iblk0 V c 1 t) (fun i j => f (i) (j)) := by
  intro y
  refine (h (((cfg0.win 1).blk t).view.emb y)).trans ?_
  blk_simp [x0_1]
theorem arr0_2 {f g : ℕ → ℕ → EReal} (h0 : Mt (a := 2048) (b := 2048) (V c (Pipeline.arrRef spec0 0)) f) (h1 : Mt (a := 2048) (b := 1024) (V c (Pipeline.arrRef spec0 1)) g) :
    Mt (a := 2048) (b := 1024) ((dat0 V c).arrAt 2 cfg0.N) (mm 2048 f g) := by
  intro i
  refine (dat0 V c).arrAt_forall_of_covers 2 (fun (i : (⟨2, ![2048, 1024]⟩ : Shape).Idx) (v : EReal) => v = (mm 2048 f g) (i 0).val (i 1).val) (by decide +kernel) (fun t hf y => ?_) i
  blk_simp [x0_2]
  rw [after0_2, o0_2]
  exact pay0 (b0_0 V c h0 t) (b0_1 V c h1 t) y
/-! ## Region 1 -/

theorem x1_0 : ∀ t : Fin cfg1.N, win1_0.index t = ![t.val, 0] := (by decide +kernel : ∀ t : Fin grid1.N, _)
theorem x1_1 : ∀ t : Fin cfg1.N, win1_1.index t = ![0, 0] := (by decide +kernel : ∀ t : Fin grid1.N, _)
theorem x1_2 : ∀ t : Fin cfg1.N, win1_2.index t = ![t.val, 0] := (by decide +kernel : ∀ t : Fin grid1.N, _)
theorem b1_0 {f : ℕ → ℕ → EReal} (h : Mt (a := 2048) (b := 1024) (V c (Pipeline.arrRef spec1 0)) f) (t : Fin cfg1.N) :
    Mt (a := 1024) (b := 1024) (iblk1 V c 0 t) (fun i j => f (t.val * 1024 + i) (j)) := by
  intro y
  refine (h (((cfg1.win 0).blk t).view.emb y)).trans ?_
  blk_simp [x1_0]
theorem b1_1 {f : ℕ → ℕ → EReal} (h : Mt (a := 1024) (b := 1024) (V c (Pipeline.arrRef spec1 1)) f) (t : Fin cfg1.N) :
    Mt (a := 1024) (b := 1024) (iblk1 V c 1 t) (fun i j => f (i) (j)) := by
  intro y
  refine (h (((cfg1.win 1).blk t).view.emb y)).trans ?_
  blk_simp [x1_1]
theorem arr1_2 {f g : ℕ → ℕ → EReal} (h0 : Mt (a := 2048) (b := 1024) (V c (Pipeline.arrRef spec1 0)) f) (h1 : Mt (a := 1024) (b := 1024) (V c (Pipeline.arrRef spec1 1)) g) :
    Mt (a := 2048) (b := 1024) ((dat1 V c).arrAt 2 cfg1.N) (mm 1024 f g) := by
  intro i
  refine (dat1 V c).arrAt_forall_of_covers 2 (fun (i : (⟨2, ![2048, 1024]⟩ : Shape).Idx) (v : EReal) => v = (mm 1024 f g) (i 0).val (i 1).val) (by decide +kernel) (fun t hf y => ?_) i
  blk_simp [x1_2]
  rw [after1_2, o1_2]
  exact pay1 (b1_0 V c h0 t) (b1_1 V c h1 t) y
/-! ## Region 2 -/

theorem x2_0 : ∀ t : Fin cfg2.N, win2_0.index t = ![t.val, 0] := (by decide +kernel : ∀ t : Fin grid2.N, _)
theorem x2_1 : ∀ t : Fin cfg2.N, win2_1.index t = ![t.val, 0] := (by decide +kernel : ∀ t : Fin grid2.N, _)
theorem x2_2 : ∀ t : Fin cfg2.N, win2_2.index t = ![t.val, 1] := (by decide +kernel : ∀ t : Fin grid2.N, _)
theorem x2_3 : ∀ t : Fin cfg2.N, win2_3.index t = ![t.val, 0] := (by decide +kernel : ∀ t : Fin grid2.N, _)
theorem x2_4 : ∀ t : Fin cfg2.N, win2_4.index t = ![t.val, 0] := (by decide +kernel : ∀ t : Fin grid2.N, _)
theorem b2_0 {f : ℕ → ℕ → EReal} (h : Mt (a := 2048) (b := 2048) (V c (Pipeline.arrRef spec2 0)) f) (t : Fin cfg2.N) :
    Mt (a := 512) (b := 1024) (iblk2 V c 0 t) (fun i j => f (t.val * 512 + i) (j)) := by
  intro y
  refine (h (((cfg2.win 0).blk t).view.emb y)).trans ?_
  blk_simp [x2_0]
theorem b2_1 {f : ℕ → ℕ → EReal} (h : Mt (a := 2048) (b := 1024) (V c (Pipeline.arrRef spec2 1)) f) (t : Fin cfg2.N) :
    Mt (a := 512) (b := 1024) (iblk2 V c 1 t) (fun i j => f (t.val * 512 + i) (j)) := by
  intro y
  refine (h (((cfg2.win 1).blk t).view.emb y)).trans ?_
  blk_simp [x2_1]
theorem b2_2 {f : ℕ → ℕ → EReal} (h : Mt (a := 2048) (b := 2048) (V c (Pipeline.arrRef spec2 2)) f) (t : Fin cfg2.N) :
    Mt (a := 512) (b := 1024) (iblk2 V c 2 t) (fun i j => f (t.val * 512 + i) (1024 + j)) := by
  intro y
  refine (h (((cfg2.win 2).blk t).view.emb y)).trans ?_
  blk_simp [x2_2]
theorem b2_3 {f : ℕ → ℕ → EReal} (h : Mt (a := 2048) (b := 1024) (V c (Pipeline.arrRef spec2 3)) f) (t : Fin cfg2.N) :
    Mt (a := 512) (b := 1024) (iblk2 V c 3 t) (fun i j => f (t.val * 512 + i) (j)) := by
  intro y
  refine (h (((cfg2.win 3).blk t).view.emb y)).trans ?_
  blk_simp [x2_3]
theorem arr2_4 {f g h k : ℕ → ℕ → EReal} (h0 : Mt (a := 2048) (b := 2048) (V c (Pipeline.arrRef spec2 0)) f) (h1 : Mt (a := 2048) (b := 1024) (V c (Pipeline.arrRef spec2 1)) g) (h2 : Mt (a := 2048) (b := 2048) (V c (Pipeline.arrRef spec2 2)) h) (h3 : Mt (a := 2048) (b := 1024) (V c (Pipeline.arrRef spec2 3)) k) :
    Mt (a := 2048) (b := 1024) ((dat2 V c).arrAt 4 cfg2.N) (fun i j => mrg (f i j) (g i j) (h i (1024 + j)) (k i j)) := by
  intro i
  refine (dat2 V c).arrAt_forall_of_covers 4 (fun (i : (⟨2, ![2048, 1024]⟩ : Shape).Idx) (v : EReal) => v = (fun i j => mrg (f i j) (g i j) (h i (1024 + j)) (k i j)) (i 0).val (i 1).val) (by decide +kernel) (fun t hf y => ?_) i
  blk_simp [x2_4]
  rw [after2_4, o2_4]
  exact pay2 (b2_0 V c h0 t) (b2_1 V c h1 t) (b2_2 V c h2 t) (b2_3 V c h3 t) y
/-! ## Region 3 -/

theorem x3_0 : ∀ t : Fin cfg3.N, win3_0.index t = ![t.val, 0] := (by decide +kernel : ∀ t : Fin grid3.N, _)
theorem x3_1 : ∀ t : Fin cfg3.N, win3_1.index t = ![0, 0] := (by decide +kernel : ∀ t : Fin grid3.N, _)
theorem x3_2 : ∀ t : Fin cfg3.N, win3_2.index t = ![t.val, 0] := (by decide +kernel : ∀ t : Fin grid3.N, _)
theorem b3_0 {f : ℕ → ℕ → EReal} (h : Mt (a := 2048) (b := 1024) (V c (Pipeline.arrRef spec3 0)) f) (t : Fin cfg3.N) :
    Mt (a := 1024) (b := 1024) (iblk3 V c 0 t) (fun i j => f (t.val * 1024 + i) (j)) := by
  intro y
  refine (h (((cfg3.win 0).blk t).view.emb y)).trans ?_
  blk_simp [x3_0]
theorem b3_1 {f : ℕ → ℕ → EReal} (h : Mt (a := 1024) (b := 1024) (V c (Pipeline.arrRef spec3 1)) f) (t : Fin cfg3.N) :
    Mt (a := 1024) (b := 1024) (iblk3 V c 1 t) (fun i j => f (i) (j)) := by
  intro y
  refine (h (((cfg3.win 1).blk t).view.emb y)).trans ?_
  blk_simp [x3_1]
theorem arr3_2 {f g : ℕ → ℕ → EReal} (h0 : Mt (a := 2048) (b := 1024) (V c (Pipeline.arrRef spec3 0)) f) (h1 : Mt (a := 1024) (b := 1024) (V c (Pipeline.arrRef spec3 1)) g) :
    Mt (a := 2048) (b := 1024) ((dat3 V c).arrAt 2 cfg3.N) (mm 1024 f g) := by
  intro i
  refine (dat3 V c).arrAt_forall_of_covers 2 (fun (i : (⟨2, ![2048, 1024]⟩ : Shape).Idx) (v : EReal) => v = (mm 1024 f g) (i 0).val (i 1).val) (by decide +kernel) (fun t hf y => ?_) i
  blk_simp [x3_2]
  rw [after3_2, o3_2]
  exact pay3 (b3_0 V c h0 t) (b3_1 V c h1 t) y
/-! ## Region 4 -/

theorem x4_0 : ∀ t : Fin cfg4.N, win4_0.index t = ![0, 0] := (by decide +kernel : ∀ t : Fin grid4.N, _)
theorem x4_1 : ∀ t : Fin cfg4.N, win4_1.index t = ![0, 0] := (by decide +kernel : ∀ t : Fin grid4.N, _)
theorem x4_2 : ∀ t : Fin cfg4.N, win4_2.index t = ![0, 0] := (by decide +kernel : ∀ t : Fin grid4.N, _)
theorem b4_0 {f : ℕ → ℕ → EReal} (h : Mt (a := 2048) (b := 1024) (V c (Pipeline.arrRef spec4 0)) f) (t : Fin cfg4.N) :
    Mt (a := 2048) (b := 1024) (iblk4 V c 0 t) (fun i j => f (i) (j)) := by
  intro y
  refine (h (((cfg4.win 0).blk t).view.emb y)).trans ?_
  blk_simp [x4_0]
theorem b4_1 {f : ℕ → ℕ → EReal} (h : Mt (a := 2048) (b := 1024) (V c (Pipeline.arrRef spec4 1)) f) (t : Fin cfg4.N) :
    Mt (a := 2048) (b := 1024) (iblk4 V c 1 t) (fun i j => f (i) (j)) := by
  intro y
  refine (h (((cfg4.win 1).blk t).view.emb y)).trans ?_
  blk_simp [x4_1]
theorem arr4_2 {f g : ℕ → ℕ → EReal} (h0 : Mt (a := 2048) (b := 1024) (V c (Pipeline.arrRef spec4 0)) f) (h1 : Mt (a := 2048) (b := 1024) (V c (Pipeline.arrRef spec4 1)) g) :
    Mt (a := 1024) (b := 1024) ((dat4 V c).arrAt 2 cfg4.N) (mm 2048 (tr f) g) := by
  intro i
  refine (dat4 V c).arrAt_forall_of_covers 2 (fun (i : (⟨2, ![1024, 1024]⟩ : Shape).Idx) (v : EReal) => v = (mm 2048 (tr f) g) (i 0).val (i 1).val) (by decide +kernel) (fun t hf y => ?_) i
  blk_simp [x4_2]
  rw [after4_2, o4_2]
  exact pay4 (b4_0 V c h0 t) (b4_1 V c h1 t) y
/-! ## Region 5 -/

theorem x5_0 : ∀ t : Fin cfg5.N, win5_0.index t = ![t.val, 0] := (by decide +kernel : ∀ t : Fin grid5.N, _)
theorem x5_1 : ∀ t : Fin cfg5.N, win5_1.index t = ![0, 0] := (by decide +kernel : ∀ t : Fin grid5.N, _)
theorem x5_2 : ∀ t : Fin cfg5.N, win5_2.index t = ![t.val, 0] := (by decide +kernel : ∀ t : Fin grid5.N, _)
theorem b5_0 {f : ℕ → ℕ → EReal} (h : Mt (a := 2048) (b := 1024) (V c (Pipeline.arrRef spec5 0)) f) (t : Fin cfg5.N) :
    Mt (a := 1024) (b := 1024) (iblk5 V c 0 t) (fun i j => f (t.val * 1024 + i) (j)) := by
  intro y
  refine (h (((cfg5.win 0).blk t).view.emb y)).trans ?_
  blk_simp [x5_0]
theorem b5_1 {f : ℕ → ℕ → EReal} (h : Mt (a := 1024) (b := 1024) (V c (Pipeline.arrRef spec5 1)) f) (t : Fin cfg5.N) :
    Mt (a := 1024) (b := 1024) (iblk5 V c 1 t) (fun i j => f (i) (j)) := by
  intro y
  refine (h (((cfg5.win 1).blk t).view.emb y)).trans ?_
  blk_simp [x5_1]
theorem arr5_2 {f g : ℕ → ℕ → EReal} (h0 : Mt (a := 2048) (b := 1024) (V c (Pipeline.arrRef spec5 0)) f) (h1 : Mt (a := 1024) (b := 1024) (V c (Pipeline.arrRef spec5 1)) g) :
    Mt (a := 2048) (b := 1024) ((dat5 V c).arrAt 2 cfg5.N) (mm 1024 f (tr g)) := by
  intro i
  refine (dat5 V c).arrAt_forall_of_covers 2 (fun (i : (⟨2, ![2048, 1024]⟩ : Shape).Idx) (v : EReal) => v = (mm 1024 f (tr g)) (i 0).val (i 1).val) (by decide +kernel) (fun t hf y => ?_) i
  blk_simp [x5_2]
  rw [after5_2, o5_2]
  exact pay5 (b5_0 V c h0 t) (b5_1 V c h1 t) y
/-! ## Region 6 -/

theorem x6_0 : ∀ t : Fin cfg6.N, win6_0.index t = ![t.val, 0] := (by decide +kernel : ∀ t : Fin grid6.N, _)
theorem x6_1 : ∀ t : Fin cfg6.N, win6_1.index t = ![t.val, 0] := (by decide +kernel : ∀ t : Fin grid6.N, _)
theorem x6_2 : ∀ t : Fin cfg6.N, win6_2.index t = ![t.val, 1] := (by decide +kernel : ∀ t : Fin grid6.N, _)
theorem x6_3 : ∀ t : Fin cfg6.N, win6_3.index t = ![t.val, 0] := (by decide +kernel : ∀ t : Fin grid6.N, _)
theorem x6_4 : ∀ t : Fin cfg6.N, win6_4.index t = ![t.val, 0] := (by decide +kernel : ∀ t : Fin grid6.N, _)
theorem x6_5 : ∀ t : Fin cfg6.N, win6_5.index t = ![t.val, 0] := (by decide +kernel : ∀ t : Fin grid6.N, _)
theorem x6_6 : ∀ t : Fin cfg6.N, win6_6.index t = ![t.val, 0] := (by decide +kernel : ∀ t : Fin grid6.N, _)
theorem x6_7 : ∀ t : Fin cfg6.N, win6_7.index t = ![t.val, 0] := (by decide +kernel : ∀ t : Fin grid6.N, _)
theorem x6_8 : ∀ t : Fin cfg6.N, win6_8.index t = ![t.val, 0] := (by decide +kernel : ∀ t : Fin grid6.N, _)
theorem b6_0 {f : ℕ → ℕ → EReal} (h : Mt (a := 2048) (b := 2048) (V c (Pipeline.arrRef spec6 0)) f) (t : Fin cfg6.N) :
    Mt (a := 512) (b := 1024) (iblk6 V c 0 t) (fun i j => f (t.val * 512 + i) (j)) := by
  intro y
  refine (h (((cfg6.win 0).blk t).view.emb y)).trans ?_
  blk_simp [x6_0]
theorem b6_1 {f : ℕ → ℕ → EReal} (h : Mt (a := 2048) (b := 1024) (V c (Pipeline.arrRef spec6 1)) f) (t : Fin cfg6.N) :
    Mt (a := 512) (b := 1024) (iblk6 V c 1 t) (fun i j => f (t.val * 512 + i) (j)) := by
  intro y
  refine (h (((cfg6.win 1).blk t).view.emb y)).trans ?_
  blk_simp [x6_1]
theorem b6_2 {f : ℕ → ℕ → EReal} (h : Mt (a := 2048) (b := 2048) (V c (Pipeline.arrRef spec6 2)) f) (t : Fin cfg6.N) :
    Mt (a := 512) (b := 1024) (iblk6 V c 2 t) (fun i j => f (t.val * 512 + i) (1024 + j)) := by
  intro y
  refine (h (((cfg6.win 2).blk t).view.emb y)).trans ?_
  blk_simp [x6_2]
theorem b6_3 {f : ℕ → ℕ → EReal} (h : Mt (a := 2048) (b := 1024) (V c (Pipeline.arrRef spec6 3)) f) (t : Fin cfg6.N) :
    Mt (a := 512) (b := 1024) (iblk6 V c 3 t) (fun i j => f (t.val * 512 + i) (j)) := by
  intro y
  refine (h (((cfg6.win 3).blk t).view.emb y)).trans ?_
  blk_simp [x6_3]
theorem b6_4 {f : ℕ → ℕ → EReal} (h : Mt (a := 2048) (b := 1024) (V c (Pipeline.arrRef spec6 4)) f) (t : Fin cfg6.N) :
    Mt (a := 512) (b := 1024) (iblk6 V c 4 t) (fun i j => f (t.val * 512 + i) (j)) := by
  intro y
  refine (h (((cfg6.win 4).blk t).view.emb y)).trans ?_
  blk_simp [x6_4]
theorem arr6_5 {f g h k l : ℕ → ℕ → EReal} (h0 : Mt (a := 2048) (b := 2048) (V c (Pipeline.arrRef spec6 0)) f) (h1 : Mt (a := 2048) (b := 1024) (V c (Pipeline.arrRef spec6 1)) g) (h2 : Mt (a := 2048) (b := 2048) (V c (Pipeline.arrRef spec6 2)) h) (h3 : Mt (a := 2048) (b := 1024) (V c (Pipeline.arrRef spec6 3)) k) (h4 : Mt (a := 2048) (b := 1024) (V c (Pipeline.arrRef spec6 4)) l) :
    Mt (a := 2048) (b := 1024) ((dat6 V c).arrAt 5 cfg6.N) (fun i j => dgt (f i j) (g i j) (l i j)) := by
  intro i
  refine (dat6 V c).arrAt_forall_of_covers 5 (fun (i : (⟨2, ![2048, 1024]⟩ : Shape).Idx) (v : EReal) => v = (fun i j => dgt (f i j) (g i j) (l i j)) (i 0).val (i 1).val) (by decide +kernel) (fun t hf y => ?_) i
  blk_simp [x6_5]
  rw [after6_5, o6_5]
  exact pay6_4 (b6_0 V c h0 t) (b6_1 V c h1 t) (b6_4 V c h4 t) y
theorem arr6_6 {f g h k l : ℕ → ℕ → EReal} (h0 : Mt (a := 2048) (b := 2048) (V c (Pipeline.arrRef spec6 0)) f) (h1 : Mt (a := 2048) (b := 1024) (V c (Pipeline.arrRef spec6 1)) g) (h2 : Mt (a := 2048) (b := 2048) (V c (Pipeline.arrRef spec6 2)) h) (h3 : Mt (a := 2048) (b := 1024) (V c (Pipeline.arrRef spec6 3)) k) (h4 : Mt (a := 2048) (b := 1024) (V c (Pipeline.arrRef spec6 4)) l) :
    Mt (a := 2048) (b := 1024) ((dat6 V c).arrAt 6 cfg6.N) (fun i j => Ideal.logistic (f i j) * l i j) := by
  intro i
  refine (dat6 V c).arrAt_forall_of_covers 6 (fun (i : (⟨2, ![2048, 1024]⟩ : Shape).Idx) (v : EReal) => v = (fun i j => Ideal.logistic (f i j) * l i j) (i 0).val (i 1).val) (by decide +kernel) (fun t hf y => ?_) i
  blk_simp [x6_6]
  rw [after6_6, o6_6]
  exact pay6_5 (b6_0 V c h0 t) (b6_4 V c h4 t) y
theorem arr6_7 {f g h k l : ℕ → ℕ → EReal} (h0 : Mt (a := 2048) (b := 2048) (V c (Pipeline.arrRef spec6 0)) f) (h1 : Mt (a := 2048) (b := 1024) (V c (Pipeline.arrRef spec6 1)) g) (h2 : Mt (a := 2048) (b := 2048) (V c (Pipeline.arrRef spec6 2)) h) (h3 : Mt (a := 2048) (b := 1024) (V c (Pipeline.arrRef spec6 3)) k) (h4 : Mt (a := 2048) (b := 1024) (V c (Pipeline.arrRef spec6 4)) l) :
    Mt (a := 2048) (b := 1024) ((dat6 V c).arrAt 7 cfg6.N) (fun i j => dgt (h i (1024 + j)) (k i j) (l i j)) := by
  intro i
  refine (dat6 V c).arrAt_forall_of_covers 7 (fun (i : (⟨2, ![2048, 1024]⟩ : Shape).Idx) (v : EReal) => v = (fun i j => dgt (h i (1024 + j)) (k i j) (l i j)) (i 0).val (i 1).val) (by decide +kernel) (fun t hf y => ?_) i
  blk_simp [x6_7]
  rw [after6_7, o6_7]
  exact pay6_6 (b6_2 V c h2 t) (b6_3 V c h3 t) (b6_4 V c h4 t) y
theorem arr6_8 {f g h k l : ℕ → ℕ → EReal} (h0 : Mt (a := 2048) (b := 2048) (V c (Pipeline.arrRef spec6 0)) f) (h1 : Mt (a := 2048) (b := 1024) (V c (Pipeline.arrRef spec6 1)) g) (h2 : Mt (a := 2048) (b := 2048) (V c (Pipeline.arrRef spec6 2)) h) (h3 : Mt (a := 2048) (b := 1024) (V c (Pipeline.arrRef spec6 3)) k) (h4 : Mt (a := 2048) (b := 1024) (V c (Pipeline.arrRef spec6 4)) l) :
    Mt (a := 2048) (b := 1024) ((dat6 V c).arrAt 8 cfg6.N) (fun i j => Ideal.logistic (h i (1024 + j)) * l i j) := by
  intro i
  refine (dat6 V c).arrAt_forall_of_covers 8 (fun (i : (⟨2, ![2048, 1024]⟩ : Shape).Idx) (v : EReal) => v = (fun i j => Ideal.logistic (h i (1024 + j)) * l i j) (i 0).val (i 1).val) (by decide +kernel) (fun t hf y => ?_) i
  blk_simp [x6_8]
  rw [after6_8, o6_8]
  exact pay6_7 (b6_2 V c h2 t) (b6_4 V c h4 t) y
/-! ## Region 7 -/

theorem x7_0 : ∀ t : Fin cfg7.N, win7_0.index t = ![0, t.val] := (by decide +kernel : ∀ t : Fin grid7.N, _)
theorem x7_1 : ∀ t : Fin cfg7.N, win7_1.index t = ![0, 0] := (by decide +kernel : ∀ t : Fin grid7.N, _)
theorem x7_2 : ∀ t : Fin cfg7.N, win7_2.index t = ![t.val, 0] := (by decide +kernel : ∀ t : Fin grid7.N, _)
theorem b7_0 {f : ℕ → ℕ → EReal} (h : Mt (a := 2048) (b := 2048) (V c (Pipeline.arrRef spec7 0)) f) (t : Fin cfg7.N) :
    Mt (a := 2048) (b := 1024) (iblk7 V c 0 t) (fun i j => f (i) (t.val * 1024 + j)) := by
  intro y
  refine (h (((cfg7.win 0).blk t).view.emb y)).trans ?_
  blk_simp [x7_0]
theorem b7_1 {f : ℕ → ℕ → EReal} (h : Mt (a := 2048) (b := 1024) (V c (Pipeline.arrRef spec7 1)) f) (t : Fin cfg7.N) :
    Mt (a := 2048) (b := 1024) (iblk7 V c 1 t) (fun i j => f (i) (j)) := by
  intro y
  refine (h (((cfg7.win 1).blk t).view.emb y)).trans ?_
  blk_simp [x7_1]
theorem arr7_2 {f g : ℕ → ℕ → EReal} (h0 : Mt (a := 2048) (b := 2048) (V c (Pipeline.arrRef spec7 0)) f) (h1 : Mt (a := 2048) (b := 1024) (V c (Pipeline.arrRef spec7 1)) g) :
    Mt (a := 2048) (b := 1024) ((dat7 V c).arrAt 2 cfg7.N) (mm 2048 (tr f) g) := by
  intro i
  refine (dat7 V c).arrAt_forall_of_covers 2 (fun (i : (⟨2, ![2048, 1024]⟩ : Shape).Idx) (v : EReal) => v = (mm 2048 (tr f) g) (i 0).val (i 1).val) (by decide +kernel) (fun t hf y => ?_) i
  blk_simp [x7_2]
  rw [after7_2, o7_2]
  exact pay7 (b7_0 V c h0 t) (b7_1 V c h1 t) y
/-! ## Region 8 -/

theorem x8_0 : ∀ t : Fin cfg8.N, win8_0.index t = ![t.val / 2, 0] := (by decide +kernel : ∀ t : Fin grid8.N, _)
theorem x8_1 : ∀ t : Fin cfg8.N, win8_1.index t = ![t.val % 2, 0] := (by decide +kernel : ∀ t : Fin grid8.N, _)
theorem x8_2 : ∀ t : Fin cfg8.N, win8_2.index t = ![t.val / 2, t.val % 2] := (by decide +kernel : ∀ t : Fin grid8.N, _)
theorem b8_0 {f : ℕ → ℕ → EReal} (h : Mt (a := 2048) (b := 1024) (V c (Pipeline.arrRef spec8 0)) f) (t : Fin cfg8.N) :
    Mt (a := 1024) (b := 1024) (iblk8 V c 0 t) (fun i j => f (t.val / 2 * 1024 + i) (j)) := by
  intro y
  refine (h (((cfg8.win 0).blk t).view.emb y)).trans ?_
  blk_simp [x8_0]
theorem b8_1 {f : ℕ → ℕ → EReal} (h : Mt (a := 2048) (b := 1024) (V c (Pipeline.arrRef spec8 1)) f) (t : Fin cfg8.N) :
    Mt (a := 1024) (b := 1024) (iblk8 V c 1 t) (fun i j => f (t.val % 2 * 1024 + i) (j)) := by
  intro y
  refine (h (((cfg8.win 1).blk t).view.emb y)).trans ?_
  blk_simp [x8_1]
theorem arr8_2 {f g : ℕ → ℕ → EReal} (h0 : Mt (a := 2048) (b := 1024) (V c (Pipeline.arrRef spec8 0)) f) (h1 : Mt (a := 2048) (b := 1024) (V c (Pipeline.arrRef spec8 1)) g) :
    Mt (a := 2048) (b := 2048) ((dat8 V c).arrAt 2 cfg8.N) (mm 1024 f (tr g)) := by
  intro i
  refine (dat8 V c).arrAt_forall_of_covers 2 (fun (i : (⟨2, ![2048, 2048]⟩ : Shape).Idx) (v : EReal) => v = (mm 1024 f (tr g)) (i 0).val (i 1).val) (by decide +kernel) (fun t hf y => ?_) i
  blk_simp [x8_2]
  rw [after8_2, o8_2]
  exact pay8 (b8_0 V c h0 t) (b8_1 V c h1 t) y
/-! ## Region 9 -/

theorem x9_0 : ∀ t : Fin cfg9.N, win9_0.index t = ![0, 0] := (by decide +kernel : ∀ t : Fin grid9.N, _)
theorem x9_1 : ∀ t : Fin cfg9.N, win9_1.index t = ![0, 0] := (by decide +kernel : ∀ t : Fin grid9.N, _)
theorem x9_2 : ∀ t : Fin cfg9.N, win9_2.index t = ![0, 0] := (by decide +kernel : ∀ t : Fin grid9.N, _)
theorem b9_0 {f : ℕ → ℕ → EReal} (h : Mt (a := 2048) (b := 1024) (V c (Pipeline.arrRef spec9 0)) f) (t : Fin cfg9.N) :
    Mt (a := 2048) (b := 1024) (iblk9 V c 0 t) (fun i j => f (i) (j)) := by
  intro y
  refine (h (((cfg9.win 0).blk t).view.emb y)).trans ?_
  blk_simp [x9_0]
theorem b9_1 {f : ℕ → ℕ → EReal} (h : Mt (a := 2048) (b := 1024) (V c (Pipeline.arrRef spec9 1)) f) (t : Fin cfg9.N) :
    Mt (a := 2048) (b := 1024) (iblk9 V c 1 t) (fun i j => f (i) (j)) := by
  intro y
  refine (h (((cfg9.win 1).blk t).view.emb y)).trans ?_
  blk_simp [x9_1]
theorem arr9_2 {f g : ℕ → ℕ → EReal} (h0 : Mt (a := 2048) (b := 1024) (V c (Pipeline.arrRef spec9 0)) f) (h1 : Mt (a := 2048) (b := 1024) (V c (Pipeline.arrRef spec9 1)) g) :
    Mt (a := 1024) (b := 1024) ((dat9 V c).arrAt 2 cfg9.N) (mm 2048 (tr f) g) := by
  intro i
  refine (dat9 V c).arrAt_forall_of_covers 2 (fun (i : (⟨2, ![1024, 1024]⟩ : Shape).Idx) (v : EReal) => v = (mm 2048 (tr f) g) (i 0).val (i 1).val) (by decide +kernel) (fun t hf y => ?_) i
  blk_simp [x9_2]
  rw [after9_2, o9_2]
  exact pay9 (b9_0 V c h0 t) (b9_1 V c h1 t) y
/-! ## Region 10 -/

theorem x10_0 : ∀ t : Fin cfg10.N, win10_0.index t = ![t.val, 0] := (by decide +kernel : ∀ t : Fin grid10.N, _)
theorem x10_1 : ∀ t : Fin cfg10.N, win10_1.index t = ![0, 0] := (by decide +kernel : ∀ t : Fin grid10.N, _)
theorem x10_2 : ∀ t : Fin cfg10.N, win10_2.index t = ![t.val, 0] := (by decide +kernel : ∀ t : Fin grid10.N, _)
theorem b10_0 {f : ℕ → ℕ → EReal} (h : Mt (a := 2048) (b := 1024) (V c (Pipeline.arrRef spec10 0)) f) (t : Fin cfg10.N) :
    Mt (a := 1024) (b := 1024) (iblk10 V c 0 t) (fun i j => f (t.val * 1024 + i) (j)) := by
  intro y
  refine (h (((cfg10.win 0).blk t).view.emb y)).trans ?_
  blk_simp [x10_0]
theorem b10_1 {f : ℕ → ℕ → EReal} (h : Mt (a := 1024) (b := 1024) (V c (Pipeline.arrRef spec10 1)) f) (t : Fin cfg10.N) :
    Mt (a := 1024) (b := 1024) (iblk10 V c 1 t) (fun i j => f (i) (j)) := by
  intro y
  refine (h (((cfg10.win 1).blk t).view.emb y)).trans ?_
  blk_simp [x10_1]
theorem arr10_2 {f g : ℕ → ℕ → EReal} (h0 : Mt (a := 2048) (b := 1024) (V c (Pipeline.arrRef spec10 0)) f) (h1 : Mt (a := 1024) (b := 1024) (V c (Pipeline.arrRef spec10 1)) g) :
    Mt (a := 2048) (b := 1024) ((dat10 V c).arrAt 2 cfg10.N) (mm 1024 f (tr g)) := by
  intro i
  refine (dat10 V c).arrAt_forall_of_covers 2 (fun (i : (⟨2, ![2048, 1024]⟩ : Shape).Idx) (v : EReal) => v = (mm 1024 f (tr g)) (i 0).val (i 1).val) (by decide +kernel) (fun t hf y => ?_) i
  blk_simp [x10_2]
  rw [after10_2, o10_2]
  exact pay10 (b10_0 V c h0 t) (b10_1 V c h1 t) y

end Cert.Kernel5Ideal.Own
-- ==== Proof.MRun.lean ====
module

public import proofs.«01_k».proof.Proof.MVal
public import Idealize.ShloMosaic.Lib.StableHlo.ReadAt

@[expose] public section

set_option maxRecDepth 16384

noncomputable section

namespace Cert.Kernel5Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel5Ideal.Gen
open Cert.Mat
open Idealize.ShloMosaic.Rounds
open Idealize.ShloMosaic.StableHlo (after)

section Run
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every run ends, and each array of the program then holds what the regions and the host lines leave in it. -/
theorem run : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ => h)

end Run

section Host
variable (V : Valuation τ sig (Elt Ideal))

theorem h_v0 {f : ℕ → ℕ → EReal} (h : Mt (a := 2048) (b := 2048) (V (Proc.devRef .tc main_arg0)) f) :
    Mt (a := 2048) (b := 2048) (after hostOps0 V (Proc.devRef .tc main_v0)) (f) := by
  intro i
  after_reads_at
  exact h _
theorem h_v1 {f : ℕ → ℕ → EReal} (h : Mt (a := 2048) (b := 1024) (V (Proc.devRef .tc main_arg1)) f) :
    Mt (a := 2048) (b := 1024) (after hostOps0 V (Proc.devRef .tc main_v1)) (f) := by
  intro i
  after_reads_at
  exact h _
theorem h_v2 {f : ℕ → ℕ → EReal} (h : Mt (a := 2048) (b := 1024) (V (Proc.devRef .tc main_arg7)) f) :
    Mt (a := 2048) (b := 1024) (after hostOps0 V (Proc.devRef .tc main_v2)) (f) := by
  intro i
  after_reads_at
  exact h _
theorem h_v3 {f : ℕ → ℕ → EReal} (h : Mt (a := 2048) (b := 1024) (V (Proc.devRef .tc main_arg4)) f) :
    Mt (a := 2048) (b := 1024) (after hostOps0 V (Proc.devRef .tc main_v3)) (f) := by
  intro i
  after_reads_at
  exact h _
theorem h_v4 {f : ℕ → ℕ → EReal} (h : Mt (a := 1024) (b := 1024) (V (Proc.devRef .tc main_arg5)) f) :
    Mt (a := 1024) (b := 1024) (after hostOps0 V (Proc.devRef .tc main_v4)) (f) := by
  intro i
  after_reads_at
  exact h _
theorem h_v5 {f : ℕ → ℕ → EReal} (h : Mt (a := 1024) (b := 1024) (V (Proc.devRef .tc main_arg6)) f) :
    Mt (a := 1024) (b := 1024) (after hostOps0 V (Proc.devRef .tc main_v5)) (f) := by
  intro i
  after_reads_at
  exact h _
/-- The two gates side by side. -/
def two (a b : ℕ → ℕ → EReal) (i j : ℕ) : EReal := if j < 1024 then a i j else b i (j - 1024)
theorem two_lo (a b : ℕ → ℕ → EReal) {i j : ℕ} (h : j < 1024) : two a b i j = a i j := if_pos h
theorem two_hi (a b : ℕ → ℕ → EReal) {i j : ℕ} : two a b i (1024 + j) = b i j :=
  (if_neg (by omega)).trans (by rw [Nat.add_sub_cancel_left])
theorem h_v6 {a b : ℕ → ℕ → EReal} (ha : Mt (a := 2048) (b := 1024) (V (Proc.devRef .tc main_arg2)) a)
    (hb : Mt (a := 2048) (b := 1024) (V (Proc.devRef .tc main_arg3)) b) :
    Mt (a := 2048) (b := 2048) (after hostOps0 V (Proc.devRef .tc main_v6)) (two a b) := by
  intro i
  after_reads_at
  unfold two
  split
  · exact ha _
  · exact hb _
theorem h_v18 {f : ℕ → ℕ → EReal} (h : Mt (a := 2048) (b := 1024) (V (Proc.devRef .tc main_v13_0)) f) :
    Mt (a := 2048) (b := 1024) (after hostOps11 V (Proc.devRef .tc main_v18)) (f) := by
  intro i
  after_reads_at
  exact h _
theorem h_v19 {f : ℕ → ℕ → EReal} (h : Mt (a := 2048) (b := 1024) (V (Proc.devRef .tc main_v13_2)) f) :
    Mt (a := 2048) (b := 1024) (after hostOps11 V (Proc.devRef .tc main_v19)) (f) := by
  intro i
  after_reads_at
  exact h _
theorem h_v20 {f : ℕ → ℕ → EReal} (h : Mt (a := 2048) (b := 1024) (V (Proc.devRef .tc main_v14)) f) :
    Mt (a := 2048) (b := 1024) (after hostOps11 V (Proc.devRef .tc main_v20)) (f) := by
  intro i
  after_reads_at
  exact h _
theorem h_v21 {f : ℕ → ℕ → EReal} (h : Mt (a := 1024) (b := 1024) (V (Proc.devRef .tc main_v16)) f) :
    Mt (a := 1024) (b := 1024) (after hostOps11 V (Proc.devRef .tc main_v21)) (f) := by
  intro i
  after_reads_at
  exact h _
theorem h_v22 {f : ℕ → ℕ → EReal} (h : Mt (a := 1024) (b := 1024) (V (Proc.devRef .tc main_v11)) f) :
    Mt (a := 1024) (b := 1024) (after hostOps11 V (Proc.devRef .tc main_v22)) (f) := by
  intro i
  after_reads_at
  exact h _
end Host

/-- The sum of the two gated branches `y` and `z`. -/
def mgd (a b y z : ℕ → ℕ → EReal) (i j : ℕ) : EReal := mrg (a i j) (y i j) (b i j) (z i j)
/-- The gradient of a gate. -/
def dG (a y d : ℕ → ℕ → EReal) (i j : ℕ) : EReal := dgt (a i j) (y i j) (d i j)
/-- The gradient of a gated branch. -/
def dY (a d : ℕ → ℕ → EReal) (i j : ℕ) : EReal := Ideal.logistic (a i j) * d i j

section
variable (m : (ℓ : Loc nD τ sig) → Buf (Elt Ideal) ℓ) (ρ : Dev nD → PrngReg) (c : Dev nD)
variable {x g a b p q w d : ℕ → ℕ → EReal} (hx : Mt (a := 2048) (b := 2048) (W0 m ρ c (Proc.devRef .tc main_arg0)) x) (hg : Mt (a := 2048) (b := 1024) (W0 m ρ c (Proc.devRef .tc main_arg1)) g)
  (ha : Mt (a := 2048) (b := 1024) (W0 m ρ c (Proc.devRef .tc main_arg2)) a) (hb : Mt (a := 2048) (b := 1024) (W0 m ρ c (Proc.devRef .tc main_arg3)) b)
  (hp : Mt (a := 2048) (b := 1024) (W0 m ρ c (Proc.devRef .tc main_arg4)) p) (hq : Mt (a := 1024) (b := 1024) (W0 m ρ c (Proc.devRef .tc main_arg5)) q)
  (hw : Mt (a := 1024) (b := 1024) (W0 m ρ c (Proc.devRef .tc main_arg6)) w) (hd : Mt (a := 2048) (b := 1024) (W0 m ρ c (Proc.devRef .tc main_arg7)) d)
include hx hg ha hb hp hq hw hd in
theorem v7 : Mt (a := 2048) (b := 1024) (W2 m ρ c (Proc.devRef .tc main_v7)) ((mm 2048 x p)) :=
  (arr0_2 (V1 m ρ) c (h_v0 (W0 m ρ c) hx) (h_v3 (W0 m ρ c) hp)).eqv (W2_arr m ρ c 2)
include hx hg ha hb hp hq hw hd in
theorem v8 : Mt (a := 2048) (b := 1024) (W3 m ρ c (Proc.devRef .tc main_v8)) ((mm 1024 g q)) :=
  (arr1_2 (V2 m ρ) c (((h_v1 (W0 m ρ c) hg).eqv (W2_of m ρ c main_v1 (by decide +kernel)))) (((h_v4 (W0 m ρ c) hq).eqv (W2_of m ρ c main_v4 (by decide +kernel))))).eqv (W3_arr m ρ c 2)
include hx hg ha hb hp hq hw hd in
theorem v9 : Mt (a := 2048) (b := 1024) (W4 m ρ c (Proc.devRef .tc main_v9)) ((mgd a b (mm 2048 x p) (mm 1024 g q))) :=
  Mt.congr ((arr2_4 (V3 m ρ) c (((((h_v6 (W0 m ρ c) ha hb).eqv (W2_of m ρ c main_v6 (by decide +kernel)))).eqv (W3_of m ρ c main_v6 (by decide +kernel)))) (((v7 m ρ c hx hg ha hb hp hq hw hd).eqv (W3_of m ρ c main_v7 (by decide +kernel)))) (((((h_v6 (W0 m ρ c) ha hb).eqv (W2_of m ρ c main_v6 (by decide +kernel)))).eqv (W3_of m ρ c main_v6 (by decide +kernel)))) (v8 m ρ c hx hg ha hb hp hq hw hd)).eqv (W4_arr m ρ c 4)) (fun i j hi hj => congrArg₂ (fun s t => mrg s _ t _) (two_lo a b hj) (two_hi a b))
include hx hg ha hb hp hq hw hd in
theorem v10 : Mt (a := 2048) (b := 1024) (W5 m ρ c (Proc.devRef .tc main_v10)) (mm 1024 (mgd a b (mm 2048 x p) (mm 1024 g q)) w) :=
  (arr3_2 (V4 m ρ) c (v9 m ρ c hx hg ha hb hp hq hw hd) (((((((h_v5 (W0 m ρ c) hw).eqv (W2_of m ρ c main_v5 (by decide +kernel)))).eqv (W3_of m ρ c main_v5 (by decide +kernel)))).eqv (W4_of m ρ c main_v5 (by decide +kernel))))).eqv (W5_arr m ρ c 2)
include hx hg ha hb hp hq hw hd in
theorem v11 : Mt (a := 1024) (b := 1024) (W6 m ρ c (Proc.devRef .tc main_v11)) (mm 2048 (tr (mgd a b (mm 2048 x p) (mm 1024 g q))) d) :=
  (arr4_2 (V5 m ρ) c (((v9 m ρ c hx hg ha hb hp hq hw hd).eqv (W5_of m ρ c main_v9 (by decide +kernel)))) (((((((((h_v2 (W0 m ρ c) hd).eqv (W2_of m ρ c main_v2 (by decide +kernel)))).eqv (W3_of m ρ c main_v2 (by decide +kernel)))).eqv (W4_of m ρ c main_v2 (by decide +kernel)))).eqv (W5_of m ρ c main_v2 (by decide +kernel))))).eqv (W6_arr m ρ c 2)
include hx hg ha hb hp hq hw hd in
theorem v12 : Mt (a := 2048) (b := 1024) (W7 m ρ c (Proc.devRef .tc main_v12)) ((mm 1024 d (tr w))) :=
  (arr5_2 (V6 m ρ) c (((((((((((h_v2 (W0 m ρ c) hd).eqv (W2_of m ρ c main_v2 (by decide +kernel)))).eqv (W3_of m ρ c main_v2 (by decide +kernel)))).eqv (W4_of m ρ c main_v2 (by decide +kernel)))).eqv (W5_of m ρ c main_v2 (by decide +kernel)))).eqv (W6_of m ρ c main_v2 (by decide +kernel)))) (((((((((((h_v5 (W0 m ρ c) hw).eqv (W2_of m ρ c main_v5 (by decide +kernel)))).eqv (W3_of m ρ c main_v5 (by decide +kernel)))).eqv (W4_of m ρ c main_v5 (by decide +kernel)))).eqv (W5_of m ρ c main_v5 (by decide +kernel)))).eqv (W6_of m ρ c main_v5 (by decide +kernel))))).eqv (W7_arr m ρ c 2)
include hx hg ha hb hp hq hw hd in
theorem v13_0 : Mt (a := 2048) (b := 1024) (W8 m ρ c (Proc.devRef .tc main_v13_0)) (dG a (mm 2048 x p) (mm 1024 d (tr w))) :=
  Mt.congr ((arr6_5 (V7 m ρ) c (((((((((((((h_v6 (W0 m ρ c) ha hb).eqv (W2_of m ρ c main_v6 (by decide +kernel)))).eqv (W3_of m ρ c main_v6 (by decide +kernel)))).eqv (W4_of m ρ c main_v6 (by decide +kernel)))).eqv (W5_of m ρ c main_v6 (by decide +kernel)))).eqv (W6_of m ρ c main_v6 (by decide +kernel)))).eqv (W7_of m ρ c main_v6 (by decide +kernel)))) (((((((((((v7 m ρ c hx hg ha hb hp hq hw hd).eqv (W3_of m ρ c main_v7 (by decide +kernel)))).eqv (W4_of m ρ c main_v7 (by decide +kernel)))).eqv (W5_of m ρ c main_v7 (by decide +kernel)))).eqv (W6_of m ρ c main_v7 (by decide +kernel)))).eqv (W7_of m ρ c main_v7 (by decide +kernel)))) (((((((((((((h_v6 (W0 m ρ c) ha hb).eqv (W2_of m ρ c main_v6 (by decide +kernel)))).eqv (W3_of m ρ c main_v6 (by decide +kernel)))).eqv (W4_of m ρ c main_v6 (by decide +kernel)))).eqv (W5_of m ρ c main_v6 (by decide +kernel)))).eqv (W6_of m ρ c main_v6 (by decide +kernel)))).eqv (W7_of m ρ c main_v6 (by decide +kernel)))) (((((((((v8 m ρ c hx hg ha hb hp hq hw hd).eqv (W4_of m ρ c main_v8 (by decide +kernel)))).eqv (W5_of m ρ c main_v8 (by decide +kernel)))).eqv (W6_of m ρ c main_v8 (by decide +kernel)))).eqv (W7_of m ρ c main_v8 (by decide +kernel)))) (v12 m ρ c hx hg ha hb hp hq hw hd)).eqv (W8_arr m ρ c 5)) (fun i j hi hj => congrArg (fun s => dgt s _ _) (two_lo a b hj))
include hx hg ha hb hp hq hw hd in
theorem v13_1 : Mt (a := 2048) (b := 1024) (W8 m ρ c (Proc.devRef .tc main_v13_1)) (dY a (mm 1024 d (tr w))) :=
  Mt.congr ((arr6_6 (V7 m ρ) c (((((((((((((h_v6 (W0 m ρ c) ha hb).eqv (W2_of m ρ c main_v6 (by decide +kernel)))).eqv (W3_of m ρ c main_v6 (by decide +kernel)))).eqv (W4_of m ρ c main_v6 (by decide +kernel)))).eqv (W5_of m ρ c main_v6 (by decide +kernel)))).eqv (W6_of m ρ c main_v6 (by decide +kernel)))).eqv (W7_of m ρ c main_v6 (by decide +kernel)))) (((((((((((v7 m ρ c hx hg ha hb hp hq hw hd).eqv (W3_of m ρ c main_v7 (by decide +kernel)))).eqv (W4_of m ρ c main_v7 (by decide +kernel)))).eqv (W5_of m ρ c main_v7 (by decide +kernel)))).eqv (W6_of m ρ c main_v7 (by decide +kernel)))).eqv (W7_of m ρ c main_v7 (by decide +kernel)))) (((((((((((((h_v6 (W0 m ρ c) ha hb).eqv (W2_of m ρ c main_v6 (by decide +kernel)))).eqv (W3_of m ρ c main_v6 (by decide +kernel)))).eqv (W4_of m ρ c main_v6 (by decide +kernel)))).eqv (W5_of m ρ c main_v6 (by decide +kernel)))).eqv (W6_of m ρ c main_v6 (by decide +kernel)))).eqv (W7_of m ρ c main_v6 (by decide +kernel)))) (((((((((v8 m ρ c hx hg ha hb hp hq hw hd).eqv (W4_of m ρ c main_v8 (by decide +kernel)))).eqv (W5_of m ρ c main_v8 (by decide +kernel)))).eqv (W6_of m ρ c main_v8 (by decide +kernel)))).eqv (W7_of m ρ c main_v8 (by decide +kernel)))) (v12 m ρ c hx hg ha hb hp hq hw hd)).eqv (W8_arr m ρ c 6)) (fun i j hi hj => congrArg (fun s => Ideal.logistic s * _) (two_lo a b hj))
include hx hg ha hb hp hq hw hd in
theorem v13_2 : Mt (a := 2048) (b := 1024) (W8 m ρ c (Proc.devRef .tc main_v13_2)) (dG b (mm 1024 g q) (mm 1024 d (tr w))) :=
  Mt.congr ((arr6_7 (V7 m ρ) c (((((((((((((h_v6 (W0 m ρ c) ha hb).eqv (W2_of m ρ c main_v6 (by decide +kernel)))).eqv (W3_of m ρ c main_v6 (by decide +kernel)))).eqv (W4_of m ρ c main_v6 (by decide +kernel)))).eqv (W5_of m ρ c main_v6 (by decide +kernel)))).eqv (W6_of m ρ c main_v6 (by decide +kernel)))).eqv (W7_of m ρ c main_v6 (by decide +kernel)))) (((((((((((v7 m ρ c hx hg ha hb hp hq hw hd).eqv (W3_of m ρ c main_v7 (by decide +kernel)))).eqv (W4_of m ρ c main_v7 (by decide +kernel)))).eqv (W5_of m ρ c main_v7 (by decide +kernel)))).eqv (W6_of m ρ c main_v7 (by decide +kernel)))).eqv (W7_of m ρ c main_v7 (by decide +kernel)))) (((((((((((((h_v6 (W0 m ρ c) ha hb).eqv (W2_of m ρ c main_v6 (by decide +kernel)))).eqv (W3_of m ρ c main_v6 (by decide +kernel)))).eqv (W4_of m ρ c main_v6 (by decide +kernel)))).eqv (W5_of m ρ c main_v6 (by decide +kernel)))).eqv (W6_of m ρ c main_v6 (by decide +kernel)))).eqv (W7_of m ρ c main_v6 (by decide +kernel)))) (((((((((v8 m ρ c hx hg ha hb hp hq hw hd).eqv (W4_of m ρ c main_v8 (by decide +kernel)))).eqv (W5_of m ρ c main_v8 (by decide +kernel)))).eqv (W6_of m ρ c main_v8 (by decide +kernel)))).eqv (W7_of m ρ c main_v8 (by decide +kernel)))) (v12 m ρ c hx hg ha hb hp hq hw hd)).eqv (W8_arr m ρ c 7)) (fun i j hi hj => congrArg (fun s => dgt s _ _) (two_hi a b))
include hx hg ha hb hp hq hw hd in
theorem v13_3 : Mt (a := 2048) (b := 1024) (W8 m ρ c (Proc.devRef .tc main_v13_3)) (dY b (mm 1024 d (tr w))) :=
  Mt.congr ((arr6_8 (V7 m ρ) c (((((((((((((h_v6 (W0 m ρ c) ha hb).eqv (W2_of m ρ c main_v6 (by decide +kernel)))).eqv (W3_of m ρ c main_v6 (by decide +kernel)))).eqv (W4_of m ρ c main_v6 (by decide +kernel)))).eqv (W5_of m ρ c main_v6 (by decide +kernel)))).eqv (W6_of m ρ c main_v6 (by decide +kernel)))).eqv (W7_of m ρ c main_v6 (by decide +kernel)))) (((((((((((v7 m ρ c hx hg ha hb hp hq hw hd).eqv (W3_of m ρ c main_v7 (by decide +kernel)))).eqv (W4_of m ρ c main_v7 (by decide +kernel)))).eqv (W5_of m ρ c main_v7 (by decide +kernel)))).eqv (W6_of m ρ c main_v7 (by decide +kernel)))).eqv (W7_of m ρ c main_v7 (by decide +kernel)))) (((((((((((((h_v6 (W0 m ρ c) ha hb).eqv (W2_of m ρ c main_v6 (by decide +kernel)))).eqv (W3_of m ρ c main_v6 (by decide +kernel)))).eqv (W4_of m ρ c main_v6 (by decide +kernel)))).eqv (W5_of m ρ c main_v6 (by decide +kernel)))).eqv (W6_of m ρ c main_v6 (by decide +kernel)))).eqv (W7_of m ρ c main_v6 (by decide +kernel)))) (((((((((v8 m ρ c hx hg ha hb hp hq hw hd).eqv (W4_of m ρ c main_v8 (by decide +kernel)))).eqv (W5_of m ρ c main_v8 (by decide +kernel)))).eqv (W6_of m ρ c main_v8 (by decide +kernel)))).eqv (W7_of m ρ c main_v8 (by decide +kernel)))) (v12 m ρ c hx hg ha hb hp hq hw hd)).eqv (W8_arr m ρ c 8)) (fun i j hi hj => congrArg (fun s => Ideal.logistic s * _) (two_hi a b))
include hx hg ha hb hp hq hw hd in
theorem v14 : Mt (a := 2048) (b := 1024) (W9 m ρ c (Proc.devRef .tc main_v14)) (mm 2048 (tr x) (dY a (mm 1024 d (tr w)))) :=
  (arr7_2 (V8 m ρ) c (((((((((((((((h_v0 (W0 m ρ c) hx).eqv (W2_of m ρ c main_v0 (by decide +kernel)))).eqv (W3_of m ρ c main_v0 (by decide +kernel)))).eqv (W4_of m ρ c main_v0 (by decide +kernel)))).eqv (W5_of m ρ c main_v0 (by decide +kernel)))).eqv (W6_of m ρ c main_v0 (by decide +kernel)))).eqv (W7_of m ρ c main_v0 (by decide +kernel)))).eqv (W8_of m ρ c main_v0 (by decide +kernel)))) (v13_1 m ρ c hx hg ha hb hp hq hw hd)).eqv (W9_arr m ρ c 2)
include hx hg ha hb hp hq hw hd in
theorem v15 : Mt (a := 2048) (b := 2048) (W10 m ρ c (Proc.devRef .tc main_v15)) (mm 1024 (dY a (mm 1024 d (tr w))) (tr p)) :=
  (arr8_2 (V9 m ρ) c (((v13_1 m ρ c hx hg ha hb hp hq hw hd).eqv (W9_of m ρ c main_v13_1 (by decide +kernel)))) (((((((((((((((((h_v3 (W0 m ρ c) hp).eqv (W2_of m ρ c main_v3 (by decide +kernel)))).eqv (W3_of m ρ c main_v3 (by decide +kernel)))).eqv (W4_of m ρ c main_v3 (by decide +kernel)))).eqv (W5_of m ρ c main_v3 (by decide +kernel)))).eqv (W6_of m ρ c main_v3 (by decide +kernel)))).eqv (W7_of m ρ c main_v3 (by decide +kernel)))).eqv (W8_of m ρ c main_v3 (by decide +kernel)))).eqv (W9_of m ρ c main_v3 (by decide +kernel))))).eqv (W10_arr m ρ c 2)
include hx hg ha hb hp hq hw hd in
theorem v16 : Mt (a := 1024) (b := 1024) (W11 m ρ c (Proc.devRef .tc main_v16)) (mm 2048 (tr g) (dY b (mm 1024 d (tr w)))) :=
  (arr9_2 (V10 m ρ) c (((((((((((((((((((h_v1 (W0 m ρ c) hg).eqv (W2_of m ρ c main_v1 (by decide +kernel)))).eqv (W3_of m ρ c main_v1 (by decide +kernel)))).eqv (W4_of m ρ c main_v1 (by decide +kernel)))).eqv (W5_of m ρ c main_v1 (by decide +kernel)))).eqv (W6_of m ρ c main_v1 (by decide +kernel)))).eqv (W7_of m ρ c main_v1 (by decide +kernel)))).eqv (W8_of m ρ c main_v1 (by decide +kernel)))).eqv (W9_of m ρ c main_v1 (by decide +kernel)))).eqv (W10_of m ρ c main_v1 (by decide +kernel)))) (((((v13_3 m ρ c hx hg ha hb hp hq hw hd).eqv (W9_of m ρ c main_v13_3 (by decide +kernel)))).eqv (W10_of m ρ c main_v13_3 (by decide +kernel))))).eqv (W11_arr m ρ c 2)
include hx hg ha hb hp hq hw hd in
theorem v17 : Mt (a := 2048) (b := 1024) (W12 m ρ c (Proc.devRef .tc main_v17)) (mm 1024 (dY b (mm 1024 d (tr w))) (tr q)) :=
  (arr10_2 (V11 m ρ) c (((((((v13_3 m ρ c hx hg ha hb hp hq hw hd).eqv (W9_of m ρ c main_v13_3 (by decide +kernel)))).eqv (W10_of m ρ c main_v13_3 (by decide +kernel)))).eqv (W11_of m ρ c main_v13_3 (by decide +kernel)))) (((((((((((((((((((((h_v4 (W0 m ρ c) hq).eqv (W2_of m ρ c main_v4 (by decide +kernel)))).eqv (W3_of m ρ c main_v4 (by decide +kernel)))).eqv (W4_of m ρ c main_v4 (by decide +kernel)))).eqv (W5_of m ρ c main_v4 (by decide +kernel)))).eqv (W6_of m ρ c main_v4 (by decide +kernel)))).eqv (W7_of m ρ c main_v4 (by decide +kernel)))).eqv (W8_of m ρ c main_v4 (by decide +kernel)))).eqv (W9_of m ρ c main_v4 (by decide +kernel)))).eqv (W10_of m ρ c main_v4 (by decide +kernel)))).eqv (W11_of m ρ c main_v4 (by decide +kernel))))).eqv (W12_arr m ρ c 2)
include hx hg ha hb hp hq hw hd in
theorem e_v10 : Mt (a := 2048) (b := 1024) (W13 m ρ c (Proc.devRef .tc main_v10)) (mm 1024 (mgd a b (mm 2048 x p) (mm 1024 g q)) w) :=
  (((((((((((((((((v10 m ρ c hx hg ha hb hp hq hw hd).eqv (W6_of m ρ c main_v10 (by decide +kernel)))).eqv (W7_of m ρ c main_v10 (by decide +kernel)))).eqv (W8_of m ρ c main_v10 (by decide +kernel)))).eqv (W9_of m ρ c main_v10 (by decide +kernel)))).eqv (W10_of m ρ c main_v10 (by decide +kernel)))).eqv (W11_of m ρ c main_v10 (by decide +kernel)))).eqv (W12_of m ρ c main_v10 (by decide +kernel)))).eqv (W13_of m ρ c main_v10 (by decide +kernel))))
include hx hg ha hb hp hq hw hd in
theorem e_v15 : Mt (a := 2048) (b := 2048) (W13 m ρ c (Proc.devRef .tc main_v15)) (mm 1024 (dY a (mm 1024 d (tr w))) (tr p)) :=
  (((((((v15 m ρ c hx hg ha hb hp hq hw hd).eqv (W11_of m ρ c main_v15 (by decide +kernel)))).eqv (W12_of m ρ c main_v15 (by decide +kernel)))).eqv (W13_of m ρ c main_v15 (by decide +kernel))))
include hx hg ha hb hp hq hw hd in
theorem e_v17 : Mt (a := 2048) (b := 1024) (W13 m ρ c (Proc.devRef .tc main_v17)) (mm 1024 (dY b (mm 1024 d (tr w))) (tr q)) :=
  (((v17 m ρ c hx hg ha hb hp hq hw hd).eqv (W13_of m ρ c main_v17 (by decide +kernel))))
include hx hg ha hb hp hq hw hd in
theorem e_v18 : Mt (a := 2048) (b := 1024) (W13 m ρ c (Proc.devRef .tc main_v18)) (dG a (mm 2048 x p) (mm 1024 d (tr w))) :=
  h_v18 (W12 m ρ c) (((((((((v13_0 m ρ c hx hg ha hb hp hq hw hd).eqv (W9_of m ρ c main_v13_0 (by decide +kernel)))).eqv (W10_of m ρ c main_v13_0 (by decide +kernel)))).eqv (W11_of m ρ c main_v13_0 (by decide +kernel)))).eqv (W12_of m ρ c main_v13_0 (by decide +kernel))))
include hx hg ha hb hp hq hw hd in
theorem e_v19 : Mt (a := 2048) (b := 1024) (W13 m ρ c (Proc.devRef .tc main_v19)) (dG b (mm 1024 g q) (mm 1024 d (tr w))) :=
  h_v19 (W12 m ρ c) (((((((((v13_2 m ρ c hx hg ha hb hp hq hw hd).eqv (W9_of m ρ c main_v13_2 (by decide +kernel)))).eqv (W10_of m ρ c main_v13_2 (by decide +kernel)))).eqv (W11_of m ρ c main_v13_2 (by decide +kernel)))).eqv (W12_of m ρ c main_v13_2 (by decide +kernel))))
include hx hg ha hb hp hq hw hd in
theorem e_v20 : Mt (a := 2048) (b := 1024) (W13 m ρ c (Proc.devRef .tc main_v20)) (mm 2048 (tr x) (dY a (mm 1024 d (tr w)))) :=
  h_v20 (W12 m ρ c) (((((((v14 m ρ c hx hg ha hb hp hq hw hd).eqv (W10_of m ρ c main_v14 (by decide +kernel)))).eqv (W11_of m ρ c main_v14 (by decide +kernel)))).eqv (W12_of m ρ c main_v14 (by decide +kernel))))
include hx hg ha hb hp hq hw hd in
theorem e_v21 : Mt (a := 1024) (b := 1024) (W13 m ρ c (Proc.devRef .tc main_v21)) (mm 2048 (tr g) (dY b (mm 1024 d (tr w)))) :=
  h_v21 (W12 m ρ c) (((v16 m ρ c hx hg ha hb hp hq hw hd).eqv (W12_of m ρ c main_v16 (by decide +kernel))))
include hx hg ha hb hp hq hw hd in
theorem e_v22 : Mt (a := 1024) (b := 1024) (W13 m ρ c (Proc.devRef .tc main_v22)) (mm 2048 (tr (mgd a b (mm 2048 x p) (mm 1024 g q))) d) :=
  h_v22 (W12 m ρ c) (((((((((((((v11 m ρ c hx hg ha hb hp hq hw hd).eqv (W7_of m ρ c main_v11 (by decide +kernel)))).eqv (W8_of m ρ c main_v11 (by decide +kernel)))).eqv (W9_of m ρ c main_v11 (by decide +kernel)))).eqv (W10_of m ρ c main_v11 (by decide +kernel)))).eqv (W11_of m ρ c main_v11 (by decide +kernel)))).eqv (W12_of m ρ c main_v11 (by decide +kernel))))
end

end Cert.Kernel5Ideal.Own
-- ==== Proof.MRef.lean ====
module

public import proofs.«01_k».proof.Proof.Mix
public import proofs.«01_k».proof.Proof.Gen.Reference5Ideal.Run
public import Idealize.ShloMosaic.Lib.Pointwise.Index
public import Idealize.ShloMosaic.Lib.Pointwise.Reshape

@[expose] public section

set_option maxRecDepth 16384

noncomputable section

namespace Cert.Reference5Ideal.Own

open Idealize.ShloMosaic Idealize.ShloMosaic.TcCoe Idealize.ShloMosaic.Tactic
open Cert.Reference5Ideal Cert.Reference5Ideal.Gen Cert.Mat

theorem d_a {l : FVec Ideal S2048x2048 .f32} {r : FVec Ideal S2048x1024 .f32} {f g : ℕ → ℕ → EReal} (hl : Mt l f) (hr : Mt r g) :
    Mt (Host.dotGeneral dot_S2048x2048_S2048x1024_S2048x1024_1_0_0_1_n_n none l r) (mm 2048 f g) := by
  intro i
  pointwise
  exact Finset.sum_congr rfl fun k _ => congrArg₂ _ (hl _) (hr _)
theorem d_b {l : FVec Ideal S2048x1024 .f32} {r : FVec Ideal S1024x1024 .f32} {f g : ℕ → ℕ → EReal} (hl : Mt l f) (hr : Mt r g) :
    Mt (Host.dotGeneral dot_S2048x1024_S1024x1024_S2048x1024_1_0_0_1_n_n none l r) (mm 1024 f g) := by
  intro i
  pointwise
  exact Finset.sum_congr rfl fun k _ => congrArg₂ _ (hl _) (hr _)
theorem d_c {l : FVec Ideal S2048x1024 .f32} {r : FVec Ideal S2048x1024 .f32} {f g : ℕ → ℕ → EReal} (hl : Mt l f) (hr : Mt r g) :
    Mt (Host.dotGeneral dot_S2048x1024_S2048x1024_S2048x2048_1_1_0_0_n_n none l r) (mm 1024 f (tr g)) := by
  intro i
  pointwise
  exact Finset.sum_congr rfl fun k _ => congrArg₂ _ (hl _) (hr _)
theorem d_e {l : FVec Ideal S2048x1024 .f32} {r : FVec Ideal S1024x1024 .f32} {f g : ℕ → ℕ → EReal} (hl : Mt l f) (hr : Mt r g) :
    Mt (Host.dotGeneral dot_S2048x1024_S1024x1024_S2048x1024_1_1_0_0_n_n none l r) (mm 1024 f (tr g)) := by
  intro i
  pointwise
  exact Finset.sum_congr rfl fun k _ => congrArg₂ _ (hl _) (hr _)
theorem d_f {l : FVec Ideal S2048x1024 .f32} {r : FVec Ideal S2048x2048 .f32} {f g : ℕ → ℕ → EReal} (hl : Mt l f) (hr : Mt r g) :
    Mt (Host.dotGeneral dot_S2048x1024_S2048x2048_S1024x2048_0_0_1_1_n_n none l r) (mm 2048 (tr f) g) := by
  intro i
  pointwise
  exact Finset.sum_congr rfl fun k _ => congrArg₂ _ (hl _) (hr _)
theorem d_g {l : FVec Ideal S2048x1024 .f32} {r : FVec Ideal S2048x1024 .f32} {f g : ℕ → ℕ → EReal} (hl : Mt l f) (hr : Mt r g) :
    Mt (Host.dotGeneral dot_S2048x1024_S2048x1024_S1024x1024_0_0_1_1_n_n none l r) (mm 2048 (tr f) g) := by
  intro i
  pointwise
  exact Finset.sum_congr rfl fun k _ => congrArg₂ _ (hl _) (hr _)
theorem t_a {l : FVec Ideal S1024x2048 .f32} {K : ℕ} {f g : ℕ → ℕ → EReal} (hl : Mt l (mm K (tr f) g)) :
    Mt (transpose S2048x1024 [1, 0] l transposes_S1024x2048_S2048x1024_1_0) (mm K (tr g) f) := by
  intro i
  refine Eq.trans ?_ (mm_tr K f g (i 0).val (i 1).val)
  pointwise
  exact hl _
theorem t_b {l : FVec Ideal S1024x1024 .f32} {K : ℕ} {f g : ℕ → ℕ → EReal} (hl : Mt l (mm K (tr f) g)) :
    Mt (transpose S1024x1024 [1, 0] l transposes_S1024x1024_S1024x1024_1_0) (mm K (tr g) f) := by
  intro i
  refine Eq.trans ?_ (mm_tr K f g (i 0).val (i 1).val)
  pointwise
  exact hl _
/-- The logistic function as the reference prints it. -/
abbrev sg (a : FVec Ideal S2048x1024 .f32) : FVec Ideal S2048x1024 .f32 :=
  Host.divf (broadcastInDim S2048x1024 ![] bcast_S_S2048x1024 (constant S_ .f32 0x3F800000#32)) (addf (broadcastInDim S2048x1024 ![] bcast_S_S2048x1024 (constant S_ .f32 0x3F800000#32)) (Host.exp (Host.negf a)))
theorem sg_at (a : FVec Ideal S2048x1024 .f32) (i : S2048x1024.Idx) : sg a i = Ideal.logistic (a i) := by
  pointwise [sg]
  rfl
theorem one_at (i : S2048x1024.Idx) : (broadcastInDim S2048x1024 ![] bcast_S_S2048x1024 (constant (F := Ideal) S_ .f32 0x3F800000#32) i : EReal) = 1 := by
  pointwise
/-- The derivative of the logistic function as the reference prints it. -/
abbrev sd (a : FVec Ideal S2048x1024 .f32) : FVec Ideal S2048x1024 .f32 :=
  mulf (sg a) (subf (broadcastInDim S2048x1024 ![] bcast_S_S2048x1024 (constant S_ .f32 0x3F800000#32)) (sg a))
theorem sd_at (a : FVec Ideal S2048x1024 .f32) (i : S2048x1024.Idx) : sd a i = Ideal.logistic (a i) * (1 - Ideal.logistic (a i)) :=
  (show _ = (sg a i : EReal) * ((broadcastInDim S2048x1024 ![] bcast_S_S2048x1024 (constant (F := Ideal) S_ .f32 0x3F800000#32) i : EReal) - sg a i) from rfl).trans (by rw [one_at, sg_at])
theorem m_mg {a b y z : FVec Ideal S2048x1024 .f32} {f g h k : ℕ → ℕ → EReal} (ha : Mt a f) (hb : Mt b g) (hy : Mt y h) (hz : Mt z k) :
    Mt (addf (mulf (sg a) y) (mulf (sg b) z)) (fun i j => mrg (f i j) (h i j) (g i j) (k i j)) := fun i =>
  (show _ = (sg a i : EReal) * y i + (sg b i : EReal) * z i from rfl).trans (by rw [sg_at, sg_at, ha i, hb i, hy i, hz i]; rfl)
theorem m_dy {a d : FVec Ideal S2048x1024 .f32} {f h : ℕ → ℕ → EReal} (ha : Mt a f) (hd : Mt d h) :
    Mt (mulf (sg a) d) (fun i j => Ideal.logistic (f i j) * h i j) := fun i =>
  (show _ = (sg a i : EReal) * d i from rfl).trans (by rw [sg_at, ha i, hd i])
theorem m_dg {a y d : FVec Ideal S2048x1024 .f32} {f g h : ℕ → ℕ → EReal} (ha : Mt a f) (hy : Mt y g) (hd : Mt d h) :
    Mt (mulf (mulf d y) (sd a)) (fun i j => dgt (f i j) (g i j) (h i j)) := fun i =>
  (show _ = (d i : EReal) * y i * sd a i from rfl).trans (by rw [sd_at, ha i, hy i, hd i]; rfl)

end Cert.Reference5Ideal.Own
-- ==== Proof.MFin.lean ====
module

public import proofs.«01_k».proof.Proof.MRun
public import proofs.«01_k».proof.Proof.MRef
public import proofs.«01_k».proof.Defs

@[expose] public section

set_option maxRecDepth 16384

noncomputable section

namespace Cert.Proof

open Idealize.ShloMosaic Idealize.ShloMosaic.TcCoe Idealize.ShloMosaic.Tactic Idealize.SL.Sem
open Cert.Mat

/-- The merge of the two branches, its products and all gradients are, over the reals, the reference's. -/
theorem value5 : @Cert.algebraic_Kernel5Ideal_Reference5Ideal Cert.Kernel5Ideal.Gen.facts Cert.Reference5Ideal.Gen.facts := by
  intro m g m' g' hp ha
  refine ⟨fun c => Cert.Kernel5Ideal.Gen.W13 m g c (Proc.devRef .tc Cert.Kernel5Ideal.main_v10), fun c => Cert.Kernel5Ideal.Gen.W13 m g c (Proc.devRef .tc Cert.Kernel5Ideal.main_v15), fun c => Cert.Kernel5Ideal.Gen.W13 m g c (Proc.devRef .tc Cert.Kernel5Ideal.main_v17), fun c => Cert.Kernel5Ideal.Gen.W13 m g c (Proc.devRef .tc Cert.Kernel5Ideal.main_v18), fun c => Cert.Kernel5Ideal.Gen.W13 m g c (Proc.devRef .tc Cert.Kernel5Ideal.main_v19), fun c => Cert.Kernel5Ideal.Gen.W13 m g c (Proc.devRef .tc Cert.Kernel5Ideal.main_v20), fun c => Cert.Kernel5Ideal.Gen.W13 m g c (Proc.devRef .tc Cert.Kernel5Ideal.main_v21), fun c => Cert.Kernel5Ideal.Gen.W13 m g c (Proc.devRef .tc Cert.Kernel5Ideal.main_v22), ?_, ?_⟩
  · refine (θ_run Cert.Kernel5Ideal.defs _ _).mono (fun r h c => ?_) (Cert.Kernel5Ideal.Own.run m g)
    have k (b : Ref Cert.Kernel5Ideal.sig .tc) (hb : ¬(Proc.devRef .tc b : DevRef Cert.Kernel5Ideal.τ Cert.Kernel5Ideal.sig).isScoped = true) := h c _ (Cert.Kernel5Ideal.Gen.mem_uc b hb)
    exact ⟨k _ (by decide), k _ (by decide), k _ (by decide), k _ (by decide), k _ (by decide), k _ (by decide), k _ (by decide), k _ (by decide),
      (k _ (by decide)).trans (Cert.Kernel5Ideal.Gen.W13_main_arg0 m g c),
      (k _ (by decide)).trans (Cert.Kernel5Ideal.Gen.W13_main_arg1 m g c),
      (k _ (by decide)).trans (Cert.Kernel5Ideal.Gen.W13_main_arg2 m g c),
      (k _ (by decide)).trans (Cert.Kernel5Ideal.Gen.W13_main_arg3 m g c),
      (k _ (by decide)).trans (Cert.Kernel5Ideal.Gen.W13_main_arg4 m g c),
      (k _ (by decide)).trans (Cert.Kernel5Ideal.Gen.W13_main_arg5 m g c),
      (k _ (by decide)).trans (Cert.Kernel5Ideal.Gen.W13_main_arg6 m g c),
      (k _ (by decide)).trans (Cert.Kernel5Ideal.Gen.W13_main_arg7 m g c)⟩
  · refine (θ_run Cert.Reference5Ideal.defs _ _).mono (fun r h c => ?_) (Cert.Reference5Ideal.Value.run m' g')
    obtain ⟨e0, e1, e2, e3, e4, e5, e6, e7⟩ := ha c
    obtain ⟨o0, o1, o2, o3, o4, o5, o6, o7, a0, a1, a2, a3, a4, a5, a6, a7⟩ := h c
    rw [e0, e1, e2, e3, e4, e5, e6] at o0
    rw [e2, e4, e6, e7] at o1
    rw [e3, e5, e6, e7] at o2
    rw [e0, e2, e4, e6, e7] at o3
    rw [e1, e3, e5, e6, e7] at o4
    rw [e0, e2, e6, e7] at o5
    rw [e1, e3, e6, e7] at o6
    rw [e0, e1, e2, e3, e4, e5, e7] at o7
    exact ⟨o0.trans (uniq (Cert.Kernel5Ideal.Own.e_v10 m g c (num_mt _) (num_mt _) (num_mt _) (num_mt _) (num_mt _) (num_mt _) (num_mt _) (num_mt _)) (Cert.Reference5Ideal.Own.d_b (Cert.Reference5Ideal.Own.m_mg (num_mt _) (num_mt _) (Cert.Reference5Ideal.Own.d_a (num_mt _) (num_mt _)) (Cert.Reference5Ideal.Own.d_b (num_mt _) (num_mt _))) (num_mt _))),
      o1.trans (uniq (Cert.Kernel5Ideal.Own.e_v15 m g c (num_mt _) (num_mt _) (num_mt _) (num_mt _) (num_mt _) (num_mt _) (num_mt _) (num_mt _)) (Cert.Reference5Ideal.Own.d_c (Cert.Reference5Ideal.Own.m_dy (num_mt _) (Cert.Reference5Ideal.Own.d_e (num_mt _) (num_mt _))) (num_mt _))),
      o2.trans (uniq (Cert.Kernel5Ideal.Own.e_v17 m g c (num_mt _) (num_mt _) (num_mt _) (num_mt _) (num_mt _) (num_mt _) (num_mt _) (num_mt _)) (Cert.Reference5Ideal.Own.d_e (Cert.Reference5Ideal.Own.m_dy (num_mt _) (Cert.Reference5Ideal.Own.d_e (num_mt _) (num_mt _))) (num_mt _))),
      o3.trans (uniq (Cert.Kernel5Ideal.Own.e_v18 m g c (num_mt _) (num_mt _) (num_mt _) (num_mt _) (num_mt _) (num_mt _) (num_mt _) (num_mt _)) (Cert.Reference5Ideal.Own.m_dg (num_mt _) (Cert.Reference5Ideal.Own.d_a (num_mt _) (num_mt _)) (Cert.Reference5Ideal.Own.d_e (num_mt _) (num_mt _)))),
      o4.trans (uniq (Cert.Kernel5Ideal.Own.e_v19 m g c (num_mt _) (num_mt _) (num_mt _) (num_mt _) (num_mt _) (num_mt _) (num_mt _) (num_mt _)) (Cert.Reference5Ideal.Own.m_dg (num_mt _) (Cert.Reference5Ideal.Own.d_b (num_mt _) (num_mt _)) (Cert.Reference5Ideal.Own.d_e (num_mt _) (num_mt _)))),
      o5.trans (uniq (Cert.Kernel5Ideal.Own.e_v20 m g c (num_mt _) (num_mt _) (num_mt _) (num_mt _) (num_mt _) (num_mt _) (num_mt _) (num_mt _)) (Cert.Reference5Ideal.Own.t_a (Cert.Reference5Ideal.Own.d_f (Cert.Reference5Ideal.Own.m_dy (num_mt _) (Cert.Reference5Ideal.Own.d_e (num_mt _) (num_mt _))) (num_mt _)))),
      o6.trans (uniq (Cert.Kernel5Ideal.Own.e_v21 m g c (num_mt _) (num_mt _) (num_mt _) (num_mt _) (num_mt _) (num_mt _) (num_mt _) (num_mt _)) (Cert.Reference5Ideal.Own.t_b (Cert.Reference5Ideal.Own.d_g (Cert.Reference5Ideal.Own.m_dy (num_mt _) (Cert.Reference5Ideal.Own.d_e (num_mt _) (num_mt _))) (num_mt _)))),
      o7.trans (uniq (Cert.Kernel5Ideal.Own.e_v22 m g c (num_mt _) (num_mt _) (num_mt _) (num_mt _) (num_mt _) (num_mt _) (num_mt _) (num_mt _)) (Cert.Reference5Ideal.Own.t_b (Cert.Reference5Ideal.Own.d_g (num_mt _) (Cert.Reference5Ideal.Own.m_mg (num_mt _) (num_mt _) (Cert.Reference5Ideal.Own.d_a (num_mt _) (num_mt _)) (Cert.Reference5Ideal.Own.d_b (num_mt _) (num_mt _)))))),
      a0, a1, a2, a3, a4, a5, a6, a7⟩

end Cert.Proof

end
-- ==== Proof.GVal.lean ====
module

public import proofs.«01_k».proof.Proof.Gen.Kernel6Ideal.Frame
public import proofs.«01_k».proof.Proof.Mix
public import Idealize.ShloMosaic.Lib.Pipeline.ValueKit
public import Idealize.ShloMosaic.Lib.Pointwise.Index
public import Idealize.ShloMosaic.Lib.Pointwise.Reshape
public import Idealize.ShloMosaic.Lib.VecWindow
public import Idealize.ShloMosaic.Lib.Tactic

@[expose] public section

set_option maxRecDepth 16384

noncomputable section

namespace Cert.Kernel6Ideal.Own

open Idealize.ShloMosaic Idealize.ShloMosaic.TcCoe Idealize.ShloMosaic.Tactic
open Cert.Kernel6Ideal.Gen
open Cert.Mat

theorem pay0 {x : Vec Ideal S1024x1024 .bf16} {w : Vec Ideal S1024x1024 .bf16} {f g : ℕ → ℕ → EReal}
    (hx : Mt x f) (hw : Mt w g) : Mt (k0_pay1 x w) (mm 1024 f (tr g)) := by
  intro i
  pointwise [k0_pay1]
  exact Finset.sum_congr rfl fun k _ => congrArg₂ _ (hx _) (hw _)
theorem o0_2 {x0} {x1} : out0_2 (F := Ideal) x0 x1 = k0_pay1 x0 x1 := by
  unfold out0_2
  rw [View.canon_cons_unit_lit]
  · rw [View.ld_unit_lit, View.ld_unit_lit] <;> decide
  · decide
theorem pay1 {x0 : Vec Ideal S256x2048 .bf16} {f : ℕ → ℕ → EReal} (h0 : Mt x0 f) :
    Mt (k1_pay1 x0) (fun i j => f i j * Ideal.logistic (f i (1024 + j))) := by
  intro i
  pointwise [k1_pay1]
  exact congrArg₂ (fun a b => a * Ideal.logistic b) (h0 _) (h0 _)
theorem o1_1 {x0} : out1_1 (F := Ideal) x0 = k1_pay1 x0 := by
  unfold out1_1
  rw [View.canon_cons_unit_lit]
  · rw [View.ld_unit_lit] <;> decide
  · decide
theorem pay2 {x0 : Vec Ideal S256x2048 .bf16} {x1 : Vec Ideal S256x1024 .f32} {f g : ℕ → ℕ → EReal} (h0 : Mt x0 f) (h1 : Mt x1 g) :
    Mt (k2_pay1 x0 x1) (fun i j => if j < 1024 then g i j * Ideal.logistic (f i (1024 + j)) else dgl (f i (j - 1024)) (f i (1024 + (j - 1024))) (g i (j - 1024))) := by
  intro i
  pointwise [k2_pay1]
  split
  · exact congrArg₂ (fun a b => a * Ideal.logistic b) (h1 _) (h0 _)
  · exact (congrArg₂ (fun a b => dgl a b _) (h0 _) (h0 _)).trans (congrArg (dgl _ _) (h1 _))
theorem o2_2 {x0} {x1} : out2_2 (F := Ideal) x0 x1 = k2_pay1 x0 x1 := by
  unfold out2_2
  rw [View.canon_cons_unit_lit]
  · rw [View.ld_unit_lit, View.ld_unit_lit] <;> decide
  · decide
theorem pay3 {x : Vec Ideal S2048x1024 .bf16} {w : Vec Ideal S2048x1024 .bf16} {f g : ℕ → ℕ → EReal}
    (hx : Mt x f) (hw : Mt w g) : Mt (k3_pay1 x w) (mm 2048 (tr f) g) := by
  intro i
  pointwise [k3_pay1]
  exact Finset.sum_congr rfl fun k _ => congrArg₂ _ (hx _) (hw _)
theorem o3_2 {x0} {x1} : out3_2 (F := Ideal) x0 x1 = k3_pay1 x0 x1 := by
  unfold out3_2
  rw [View.canon_cons_unit_lit]
  · rw [View.ld_unit_lit, View.ld_unit_lit] <;> decide
  · decide
theorem pay4 {x : Vec Ideal S1024x2048 .bf16} {w : Vec Ideal S2048x1024 .bf16} {f g : ℕ → ℕ → EReal}
    (hx : Mt x f) (hw : Mt w g) : Mt (k4_pay1 x w) (mm 2048 f g) := by
  intro i
  pointwise [k4_pay1]
  exact Finset.sum_congr rfl fun k _ => congrArg₂ _ (hx _) (hw _)
theorem o4_2 {x0} {x1} : out4_2 (F := Ideal) x0 x1 = k4_pay1 x0 x1 := by
  unfold out4_2
  rw [View.canon_cons_unit_lit]
  · rw [View.ld_unit_lit, View.ld_unit_lit] <;> decide
  · decide
variable (V : (c : Dev nD) → (b : Ref sig .tc) → Buf (Elt Ideal) ((c : Thread nD τ).loc b)) (c : Dev nD)

/-! ## Region 0 -/

theorem x0_0 : ∀ t : Fin cfg0.N, win0_0.index t = ![t.val / 2, 0] := (by decide +kernel : ∀ t : Fin grid0.N, _)
theorem x0_1 : ∀ t : Fin cfg0.N, win0_1.index t = ![t.val % 2, 0] := (by decide +kernel : ∀ t : Fin grid0.N, _)
theorem x0_2 : ∀ t : Fin cfg0.N, win0_2.index t = ![t.val / 2, t.val % 2] := (by decide +kernel : ∀ t : Fin grid0.N, _)
theorem b0_0 {f : ℕ → ℕ → EReal} (h : Mt (a := 2048) (b := 1024) (V c (Pipeline.arrRef spec0 0)) f) (t : Fin cfg0.N) :
    Mt (a := 1024) (b := 1024) (iblk0 V c 0 t) (fun i j => f (t.val / 2 * 1024 + i) (j)) := by
  intro y
  refine (h (((cfg0.win 0).blk t).view.emb y)).trans ?_
  blk_simp [x0_0]
theorem b0_1 {f : ℕ → ℕ → EReal} (h : Mt (a := 2048) (b := 1024) (V c (Pipeline.arrRef spec0 1)) f) (t : Fin cfg0.N) :
    Mt (a := 1024) (b := 1024) (iblk0 V c 1 t) (fun i j => f (t.val % 2 * 1024 + i) (j)) := by
  intro y
  refine (h (((cfg0.win 1).blk t).view.emb y)).trans ?_
  blk_simp [x0_1]
theorem arr0_2 {f g : ℕ → ℕ → EReal} (h0 : Mt (a := 2048) (b := 1024) (V c (Pipeline.arrRef spec0 0)) f) (h1 : Mt (a := 2048) (b := 1024) (V c (Pipeline.arrRef spec0 1)) g) :
    Mt (a := 2048) (b := 2048) ((dat0 V c).arrAt 2 cfg0.N) (mm 1024 f (tr g)) := by
  intro i
  refine (dat0 V c).arrAt_forall_of_covers 2 (fun (i : (⟨2, ![2048, 2048]⟩ : Shape).Idx) (v : EReal) => v = (mm 1024 f (tr g)) (i 0).val (i 1).val) (by decide +kernel) (fun t hf y => ?_) i
  blk_simp [x0_2]
  rw [after0_2, o0_2]
  exact pay0 (b0_0 V c h0 t) (b0_1 V c h1 t) y
/-! ## Region 1 -/

theorem x1_0 : ∀ t : Fin cfg1.N, win1_0.index t = ![t.val, 0] := (by decide +kernel : ∀ t : Fin grid1.N, _)
theorem x1_1 : ∀ t : Fin cfg1.N, win1_1.index t = ![t.val, 0] := (by decide +kernel : ∀ t : Fin grid1.N, _)
theorem b1_0 {f : ℕ → ℕ → EReal} (h : Mt (a := 2048) (b := 2048) (V c (Pipeline.arrRef spec1 0)) f) (t : Fin cfg1.N) :
    Mt (a := 256) (b := 2048) (iblk1 V c 0 t) (fun i j => f (t.val * 256 + i) (j)) := by
  intro y
  refine (h (((cfg1.win 0).blk t).view.emb y)).trans ?_
  blk_simp [x1_0]
theorem arr1_1 {f : ℕ → ℕ → EReal} (h0 : Mt (a := 2048) (b := 2048) (V c (Pipeline.arrRef spec1 0)) f) :
    Mt (a := 2048) (b := 1024) ((dat1 V c).arrAt 1 cfg1.N) (fun i j => f i j * Ideal.logistic (f i (1024 + j))) := by
  intro i
  refine (dat1 V c).arrAt_forall_of_covers 1 (fun (i : (⟨2, ![2048, 1024]⟩ : Shape).Idx) (v : EReal) => v = (fun i j => f i j * Ideal.logistic (f i (1024 + j))) (i 0).val (i 1).val) (by decide +kernel) (fun t hf y => ?_) i
  blk_simp [x1_1]
  rw [after1_1, o1_1]
  exact pay1 (b1_0 V c h0 t) y
/-! ## Region 2 -/

theorem x2_0 : ∀ t : Fin cfg2.N, win2_0.index t = ![t.val, 0] := (by decide +kernel : ∀ t : Fin grid2.N, _)
theorem x2_1 : ∀ t : Fin cfg2.N, win2_1.index t = ![t.val, 0] := (by decide +kernel : ∀ t : Fin grid2.N, _)
theorem x2_2 : ∀ t : Fin cfg2.N, win2_2.index t = ![t.val, 0] := (by decide +kernel : ∀ t : Fin grid2.N, _)
theorem b2_0 {f : ℕ → ℕ → EReal} (h : Mt (a := 2048) (b := 2048) (V c (Pipeline.arrRef spec2 0)) f) (t : Fin cfg2.N) :
    Mt (a := 256) (b := 2048) (iblk2 V c 0 t) (fun i j => f (t.val * 256 + i) (j)) := by
  intro y
  refine (h (((cfg2.win 0).blk t).view.emb y)).trans ?_
  blk_simp [x2_0]
theorem b2_1 {f : ℕ → ℕ → EReal} (h : Mt (a := 2048) (b := 1024) (V c (Pipeline.arrRef spec2 1)) f) (t : Fin cfg2.N) :
    Mt (a := 256) (b := 1024) (iblk2 V c 1 t) (fun i j => f (t.val * 256 + i) (j)) := by
  intro y
  refine (h (((cfg2.win 1).blk t).view.emb y)).trans ?_
  blk_simp [x2_1]
theorem arr2_2 {f g : ℕ → ℕ → EReal} (h0 : Mt (a := 2048) (b := 2048) (V c (Pipeline.arrRef spec2 0)) f) (h1 : Mt (a := 2048) (b := 1024) (V c (Pipeline.arrRef spec2 1)) g) :
    Mt (a := 2048) (b := 2048) ((dat2 V c).arrAt 2 cfg2.N) (fun i j => if j < 1024 then g i j * Ideal.logistic (f i (1024 + j)) else dgl (f i (j - 1024)) (f i (1024 + (j - 1024))) (g i (j - 1024))) := by
  intro i
  refine (dat2 V c).arrAt_forall_of_covers 2 (fun (i : (⟨2, ![2048, 2048]⟩ : Shape).Idx) (v : EReal) => v = (fun i j => if j < 1024 then g i j * Ideal.logistic (f i (1024 + j)) else dgl (f i (j - 1024)) (f i (1024 + (j - 1024))) (g i (j - 1024))) (i 0).val (i 1).val) (by decide +kernel) (fun t hf y => ?_) i
  blk_simp [x2_2]
  rw [after2_2, o2_2]
  exact pay2 (b2_0 V c h0 t) (b2_1 V c h1 t) y
/-! ## Region 3 -/

theorem x3_0 : ∀ t : Fin cfg3.N, win3_0.index t = ![0, t.val] := (by decide +kernel : ∀ t : Fin grid3.N, _)
theorem x3_1 : ∀ t : Fin cfg3.N, win3_1.index t = ![0, 0] := (by decide +kernel : ∀ t : Fin grid3.N, _)
theorem x3_2 : ∀ t : Fin cfg3.N, win3_2.index t = ![t.val, 0] := (by decide +kernel : ∀ t : Fin grid3.N, _)
theorem b3_0 {f : ℕ → ℕ → EReal} (h : Mt (a := 2048) (b := 2048) (V c (Pipeline.arrRef spec3 0)) f) (t : Fin cfg3.N) :
    Mt (a := 2048) (b := 1024) (iblk3 V c 0 t) (fun i j => f (i) (t.val * 1024 + j)) := by
  intro y
  refine (h (((cfg3.win 0).blk t).view.emb y)).trans ?_
  blk_simp [x3_0]
theorem b3_1 {f : ℕ → ℕ → EReal} (h : Mt (a := 2048) (b := 1024) (V c (Pipeline.arrRef spec3 1)) f) (t : Fin cfg3.N) :
    Mt (a := 2048) (b := 1024) (iblk3 V c 1 t) (fun i j => f (i) (j)) := by
  intro y
  refine (h (((cfg3.win 1).blk t).view.emb y)).trans ?_
  blk_simp [x3_1]
theorem arr3_2 {f g : ℕ → ℕ → EReal} (h0 : Mt (a := 2048) (b := 2048) (V c (Pipeline.arrRef spec3 0)) f) (h1 : Mt (a := 2048) (b := 1024) (V c (Pipeline.arrRef spec3 1)) g) :
    Mt (a := 2048) (b := 1024) ((dat3 V c).arrAt 2 cfg3.N) (mm 2048 (tr f) g) := by
  intro i
  refine (dat3 V c).arrAt_forall_of_covers 2 (fun (i : (⟨2, ![2048, 1024]⟩ : Shape).Idx) (v : EReal) => v = (mm 2048 (tr f) g) (i 0).val (i 1).val) (by decide +kernel) (fun t hf y => ?_) i
  blk_simp [x3_2]
  rw [after3_2, o3_2]
  exact pay3 (b3_0 V c h0 t) (b3_1 V c h1 t) y
/-! ## Region 4 -/

theorem x4_0 : ∀ t : Fin cfg4.N, win4_0.index t = ![t.val, 0] := (by decide +kernel : ∀ t : Fin grid4.N, _)
theorem x4_1 : ∀ t : Fin cfg4.N, win4_1.index t = ![0, 0] := (by decide +kernel : ∀ t : Fin grid4.N, _)
theorem x4_2 : ∀ t : Fin cfg4.N, win4_2.index t = ![t.val, 0] := (by decide +kernel : ∀ t : Fin grid4.N, _)
theorem b4_0 {f : ℕ → ℕ → EReal} (h : Mt (a := 2048) (b := 2048) (V c (Pipeline.arrRef spec4 0)) f) (t : Fin cfg4.N) :
    Mt (a := 1024) (b := 2048) (iblk4 V c 0 t) (fun i j => f (t.val * 1024 + i) (j)) := by
  intro y
  refine (h (((cfg4.win 0).blk t).view.emb y)).trans ?_
  blk_simp [x4_0]
theorem b4_1 {f : ℕ → ℕ → EReal} (h : Mt (a := 2048) (b := 1024) (V c (Pipeline.arrRef spec4 1)) f) (t : Fin cfg4.N) :
    Mt (a := 2048) (b := 1024) (iblk4 V c 1 t) (fun i j => f (i) (j)) := by
  intro y
  refine (h (((cfg4.win 1).blk t).view.emb y)).trans ?_
  blk_simp [x4_1]
theorem arr4_2 {f g : ℕ → ℕ → EReal} (h0 : Mt (a := 2048) (b := 2048) (V c (Pipeline.arrRef spec4 0)) f) (h1 : Mt (a := 2048) (b := 1024) (V c (Pipeline.arrRef spec4 1)) g) :
    Mt (a := 2048) (b := 1024) ((dat4 V c).arrAt 2 cfg4.N) (mm 2048 f g) := by
  intro i
  refine (dat4 V c).arrAt_forall_of_covers 2 (fun (i : (⟨2, ![2048, 1024]⟩ : Shape).Idx) (v : EReal) => v = (mm 2048 f g) (i 0).val (i 1).val) (by decide +kernel) (fun t hf y => ?_) i
  blk_simp [x4_2]
  rw [after4_2, o4_2]
  exact pay4 (b4_0 V c h0 t) (b4_1 V c h1 t) y

end Cert.Kernel6Ideal.Own
-- ==== Proof.GRun.lean ====
module

public import proofs.«01_k».proof.Proof.GVal
public import Idealize.ShloMosaic.Lib.StableHlo.ReadAt

@[expose] public section

set_option maxRecDepth 16384

noncomputable section

namespace Cert.Kernel6Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel6Ideal.Gen
open Cert.Mat
open Idealize.ShloMosaic.Rounds
open Idealize.ShloMosaic.StableHlo (after)

section Run
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every run ends, and each array of the program then holds what the regions and the host lines leave in it. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Run

section Host
variable (V : Valuation τ sig (Elt Ideal))

theorem h_v0 {f : ℕ → ℕ → EReal} (h : Mt (a := 2048) (b := 1024) (V (Proc.devRef .tc main_arg0)) f) :
    Mt (a := 2048) (b := 1024) (after hostOps0 V (Proc.devRef .tc main_v0)) (f) := by
  intro i
  after_reads_at
  exact h _
theorem h_v2 {f : ℕ → ℕ → EReal} (h : Mt (a := 1024) (b := 2048) (V (Proc.devRef .tc main_arg1)) f) :
    Mt (a := 2048) (b := 1024) (after hostOps0 V (Proc.devRef .tc main_v2)) (tr f) := by
  intro i
  after_reads_at
  exact h _
theorem h_v8 {f : ℕ → ℕ → EReal} (h : Mt (a := 2048) (b := 1024) (V (Proc.devRef .tc main_v4)) f) :
    Mt (a := 2048) (b := 1024) (after hostOps5 V (Proc.devRef .tc main_v8)) (f) := by
  intro i
  after_reads_at
  exact h _
theorem h_v10 {f : ℕ → ℕ → EReal} (h : Mt (a := 2048) (b := 1024) (V (Proc.devRef .tc main_v6)) f) :
    Mt (a := 1024) (b := 2048) (after hostOps5 V (Proc.devRef .tc main_v10)) (tr f) := by
  intro i
  after_reads_at
  exact h _
end Host

/-- The gated unit of the product `v`. -/
def un (v : ℕ → ℕ → EReal) (i j : ℕ) : EReal := v i j * Ideal.logistic (v i (1024 + j))
/-- The gradient of the product `v` under the gated unit. -/
def dun (v d : ℕ → ℕ → EReal) (i j : ℕ) : EReal :=
  if j < 1024 then d i j * Ideal.logistic (v i (1024 + j)) else dgl (v i (j - 1024)) (v i (1024 + (j - 1024))) (d i (j - 1024))

section
variable (m : (ℓ : Loc nD τ sig) → Buf (Elt Ideal) ℓ) (ρ : Dev nD → PrngReg) (c : Dev nD)
variable {x w d : ℕ → ℕ → EReal} (hx : Mt (a := 2048) (b := 1024) (W0 m ρ c (Proc.devRef .tc main_arg0)) x) (hw : Mt (a := 1024) (b := 2048) (W0 m ρ c (Proc.devRef .tc main_arg1)) w) (hd : Mt (a := 2048) (b := 1024) (W0 m ρ c (Proc.devRef .tc main_arg2)) d)
include hx hw hd in
theorem v3 : Mt (a := 2048) (b := 2048) (W2 m ρ c (Proc.devRef .tc main_v3)) (mm 1024 x w) :=
  (arr0_2 (V1 m ρ) c (h_v0 (W0 m ρ c) hx) (h_v2 (W0 m ρ c) hw)).eqv (W2_arr m ρ c 2)
include hx hw hd in
theorem v4 : Mt (a := 2048) (b := 1024) (W3 m ρ c (Proc.devRef .tc main_v4)) (un (mm 1024 x w)) :=
  (arr1_1 (V2 m ρ) c (v3 m ρ c hx hw hd)).eqv (W3_arr m ρ c 1)
include hx hw hd in
theorem v5 : Mt (a := 2048) (b := 2048) (W4 m ρ c (Proc.devRef .tc main_v5)) (dun (mm 1024 x w) d) :=
  (arr2_2 (V3 m ρ) c (((v3 m ρ c hx hw hd).eqv (W3_of m ρ c main_v3 (by decide +kernel)))) (((((((hd).eqv (W1_of m ρ c main_arg2 (by decide +kernel)))).eqv (W2_of m ρ c main_arg2 (by decide +kernel)))).eqv (W3_of m ρ c main_arg2 (by decide +kernel))))).eqv (W4_arr m ρ c 2)
include hx hw hd in
theorem v6 : Mt (a := 2048) (b := 1024) (W5 m ρ c (Proc.devRef .tc main_v6)) (mm 2048 (tr (dun (mm 1024 x w) d)) x) :=
  (arr3_2 (V4 m ρ) c (v5 m ρ c hx hw hd) (((((((h_v0 (W0 m ρ c) hx).eqv (W2_of m ρ c main_v0 (by decide +kernel)))).eqv (W3_of m ρ c main_v0 (by decide +kernel)))).eqv (W4_of m ρ c main_v0 (by decide +kernel))))).eqv (W5_arr m ρ c 2)
include hx hw hd in
theorem v7 : Mt (a := 2048) (b := 1024) (W6 m ρ c (Proc.devRef .tc main_v7)) (mm 2048 (dun (mm 1024 x w) d) (tr w)) :=
  (arr4_2 (V5 m ρ) c (((v5 m ρ c hx hw hd).eqv (W5_of m ρ c main_v5 (by decide +kernel)))) (((((((((h_v2 (W0 m ρ c) hw).eqv (W2_of m ρ c main_v2 (by decide +kernel)))).eqv (W3_of m ρ c main_v2 (by decide +kernel)))).eqv (W4_of m ρ c main_v2 (by decide +kernel)))).eqv (W5_of m ρ c main_v2 (by decide +kernel))))).eqv (W6_arr m ρ c 2)
include hx hw hd in
/-- The three results. -/
theorem results :
    Mt (a := 2048) (b := 1024) (W7 m ρ c (Proc.devRef .tc main_v8)) (un (mm 1024 x w))
    ∧ Mt (a := 2048) (b := 1024) (W7 m ρ c (Proc.devRef .tc main_v7)) (mm 2048 (dun (mm 1024 x w) d) (tr w))
    ∧ Mt (a := 1024) (b := 2048) (W7 m ρ c (Proc.devRef .tc main_v10)) (tr (mm 2048 (tr (dun (mm 1024 x w) d)) x)) :=
  ⟨h_v8 (W6 m ρ c) (((((((v4 m ρ c hx hw hd).eqv (W4_of m ρ c main_v4 (by decide +kernel)))).eqv (W5_of m ρ c main_v4 (by decide +kernel)))).eqv (W6_of m ρ c main_v4 (by decide +kernel)))),
    (((v7 m ρ c hx hw hd).eqv (W7_of m ρ c main_v7 (by decide +kernel)))),
    h_v10 (W6 m ρ c) (((v6 m ρ c hx hw hd).eqv (W6_of m ρ c main_v6 (by decide +kernel))))⟩
end

end Cert.Kernel6Ideal.Own
-- ==== Proof.GRef.lean ====
module

public import proofs.«01_k».proof.Proof.Mix
public import proofs.«01_k».proof.Proof.Gen.Reference6Ideal.Run
public import Idealize.ShloMosaic.Lib.Pointwise.Index
public import Idealize.ShloMosaic.Lib.Pointwise.Reshape

@[expose] public section

set_option maxRecDepth 16384

noncomputable section

namespace Cert.Reference6Ideal.Own

open Idealize.ShloMosaic Idealize.ShloMosaic.TcCoe Idealize.ShloMosaic.Tactic
open Cert.Reference6Ideal Cert.Reference6Ideal.Gen Cert.Mat

theorem d_a {l : FVec Ideal S2048x1024 .f32} {r : FVec Ideal S1024x2048 .f32} {f g : ℕ → ℕ → EReal} (hl : Mt l f) (hr : Mt r g) :
    Mt (Host.dotGeneral dot_S2048x1024_S1024x2048_S2048x2048_1_0_0_1_n_n none l r) (mm 1024 f g) := by
  intro i
  pointwise
  exact Finset.sum_congr rfl fun k _ => congrArg₂ _ (hl _) (hr _)
theorem d_b {l : FVec Ideal S2048x2048 .f32} {r : FVec Ideal S1024x2048 .f32} {f g : ℕ → ℕ → EReal} (hl : Mt l f) (hr : Mt r g) :
    Mt (Host.dotGeneral dot_S2048x2048_S1024x2048_S2048x1024_1_1_0_0_n_n none l r) (mm 2048 f (tr g)) := by
  intro i
  pointwise
  exact Finset.sum_congr rfl fun k _ => congrArg₂ _ (hl _) (hr _)
theorem d_c {l : FVec Ideal S2048x2048 .f32} {r : FVec Ideal S2048x1024 .f32} {f g : ℕ → ℕ → EReal} (hl : Mt l f) (hr : Mt r g) :
    Mt (Host.dotGeneral dot_S2048x2048_S2048x1024_S2048x1024_0_0_1_1_n_n none l r) (mm 2048 (tr f) g) := by
  intro i
  pointwise
  exact Finset.sum_congr rfl fun k _ => congrArg₂ _ (hl _) (hr _)
theorem t_a {l : FVec Ideal S2048x1024 .f32} {K : ℕ} {f g : ℕ → ℕ → EReal} (hl : Mt l (mm K (tr f) g)) :
    Mt (transpose S1024x2048 [1, 0] l transposes_S2048x1024_S1024x2048_1_0) (mm K (tr g) f) := by
  intro i
  refine Eq.trans ?_ (mm_tr K f g (i 0).val (i 1).val)
  pointwise
  exact hl _
/-- The logistic function as the reference prints it. -/
abbrev sg (a : FVec Ideal S2048x1024 .f32) : FVec Ideal S2048x1024 .f32 :=
  Host.divf (broadcastInDim S2048x1024 ![] bcast_S_S2048x1024 (constant S_ .f32 0x3F800000#32)) (addf (broadcastInDim S2048x1024 ![] bcast_S_S2048x1024 (constant S_ .f32 0x3F800000#32)) (Host.exp (Host.negf a)))
theorem sg_at (a : FVec Ideal S2048x1024 .f32) (i : S2048x1024.Idx) : sg a i = Ideal.logistic (a i) := by
  pointwise [sg]
  rfl
theorem one_at (i : S2048x1024.Idx) : (broadcastInDim S2048x1024 ![] bcast_S_S2048x1024 (constant (F := Ideal) S_ .f32 0x3F800000#32) i : EReal) = 1 := by
  pointwise
/-- The derivative of the logistic function as the reference prints it. -/
abbrev sd (a : FVec Ideal S2048x1024 .f32) : FVec Ideal S2048x1024 .f32 :=
  mulf (sg a) (subf (broadcastInDim S2048x1024 ![] bcast_S_S2048x1024 (constant S_ .f32 0x3F800000#32)) (sg a))
theorem sd_at (a : FVec Ideal S2048x1024 .f32) (i : S2048x1024.Idx) : sd a i = Ideal.logistic (a i) * (1 - Ideal.logistic (a i)) :=
  (show _ = (sg a i : EReal) * ((broadcastInDim S2048x1024 ![] bcast_S_S2048x1024 (constant (F := Ideal) S_ .f32 0x3F800000#32) i : EReal) - sg a i) from rfl).trans (by rw [one_at, sg_at])
theorem s_lo {v : FVec Ideal S2048x2048 .f32} {f : ℕ → ℕ → EReal} (h : Mt v f) :
    Mt (extractStridedSlice S2048x1024 ![0, 0] v slices_S2048x2048_S2048x1024_0_0) f := by
  intro i
  pointwise
  exact h _
theorem s_hi {v : FVec Ideal S2048x2048 .f32} {f : ℕ → ℕ → EReal} (h : Mt v f) :
    Mt (extractStridedSlice S2048x1024 ![0, 1024] v slices_S2048x2048_S2048x1024_0_1024) (fun i j => f i (1024 + j)) := by
  intro i
  pointwise
  exact h _
theorem c_two {v w : FVec Ideal S2048x1024 .f32} {f g : ℕ → ℕ → EReal} (h : Mt v f) (k : Mt w g) :
    Mt (concatenate S2048x2048 1 [⟨S2048x1024, v⟩, ⟨S2048x1024, w⟩] concatenates_S2048x1024_S2048x1024_S2048x2048_d1) (fun i j => if j < 1024 then f i j else g i (j - 1024)) := by
  intro i
  pointwise
  split
  · exact h _
  · exact k _
theorem m_un {a v : FVec Ideal S2048x1024 .f32} {f g : ℕ → ℕ → EReal} (ha : Mt a f) (hv : Mt v g) :
    Mt (mulf v (sg a)) (fun i j => g i j * Ideal.logistic (f i j)) := fun i =>
  (show _ = (v i : EReal) * sg a i from rfl).trans (by rw [sg_at, ha i, hv i])
theorem m_dg {a v d : FVec Ideal S2048x1024 .f32} {f g h : ℕ → ℕ → EReal} (ha : Mt a f) (hv : Mt v g) (hd : Mt d h) :
    Mt (mulf (mulf v d) (sd a)) (fun i j => dgl (g i j) (f i j) (h i j)) := fun i =>
  (show _ = (v i : EReal) * d i * sd a i from rfl).trans (by rw [sd_at, ha i, hv i, hd i]; exact dgl_eq _ _ _)

end Cert.Reference6Ideal.Own
-- ==== Proof.GFin.lean ====
module

public import proofs.«01_k».proof.Proof.GRun
public import proofs.«01_k».proof.Proof.GRef
public import proofs.«01_k».proof.Defs

@[expose] public section

set_option maxRecDepth 16384

noncomputable section

namespace Cert.Proof

open Idealize.ShloMosaic Idealize.ShloMosaic.TcCoe Idealize.ShloMosaic.Tactic Idealize.SL.Sem
open Cert.Mat

/-- The gated linear unit and its gradients are, over the reals, the reference's. -/
theorem value6 : @Cert.algebraic_Kernel6Ideal_Reference6Ideal Cert.Kernel6Ideal.Gen.facts Cert.Reference6Ideal.Gen.facts := by
  intro m g m' g' hp ha
  refine ⟨fun c => Cert.Kernel6Ideal.Gen.W7 m g c (Proc.devRef .tc Cert.Kernel6Ideal.main_v8), fun c => Cert.Kernel6Ideal.Gen.W7 m g c (Proc.devRef .tc Cert.Kernel6Ideal.main_v7), fun c => Cert.Kernel6Ideal.Gen.W7 m g c (Proc.devRef .tc Cert.Kernel6Ideal.main_v10), ?_, ?_⟩
  · refine (θ_run Cert.Kernel6Ideal.defs _ _).mono (fun r h c => ?_) (Cert.Kernel6Ideal.Own.run m g)
    have k (b : Ref Cert.Kernel6Ideal.sig .tc) (hb : ¬(Proc.devRef .tc b : DevRef Cert.Kernel6Ideal.τ Cert.Kernel6Ideal.sig).isScoped = true) := h c _ (Cert.Kernel6Ideal.Gen.mem_uc b hb)
    exact ⟨k _ (by decide), k _ (by decide), k _ (by decide),
      (k _ (by decide)).trans (Cert.Kernel6Ideal.Gen.W7_main_arg0 m g c),
      (k _ (by decide)).trans (Cert.Kernel6Ideal.Gen.W7_main_arg1 m g c),
      (k _ (by decide)).trans (Cert.Kernel6Ideal.Gen.W7_main_arg2 m g c)⟩
  · refine (θ_run Cert.Reference6Ideal.defs _ _).mono (fun r h c => ?_) (Cert.Reference6Ideal.Value.run m' g')
    obtain ⟨e0, e1, e2⟩ := ha c
    obtain ⟨o0, o1, o2, a0, a1, a2⟩ := h c
    rw [e0, e1] at o0
    rw [e0, e1, e2] at o1
    rw [e0, e1, e2] at o2
    obtain ⟨k0, k1, k2⟩ := Cert.Kernel6Ideal.Own.results m g c (num_mt _) (num_mt _) (num_mt _)
    exact ⟨o0.trans (uniq k0 (Cert.Reference6Ideal.Own.m_un (Cert.Reference6Ideal.Own.s_hi (Cert.Reference6Ideal.Own.d_a (num_mt _) (num_mt _))) (Cert.Reference6Ideal.Own.s_lo (Cert.Reference6Ideal.Own.d_a (num_mt _) (num_mt _))))),
      o1.trans (uniq k1 (Cert.Reference6Ideal.Own.d_b (Cert.Reference6Ideal.Own.c_two (Cert.Reference6Ideal.Own.m_un (Cert.Reference6Ideal.Own.s_hi (Cert.Reference6Ideal.Own.d_a (num_mt _) (num_mt _))) (num_mt _)) (Cert.Reference6Ideal.Own.m_dg (Cert.Reference6Ideal.Own.s_hi (Cert.Reference6Ideal.Own.d_a (num_mt _) (num_mt _))) (Cert.Reference6Ideal.Own.s_lo (Cert.Reference6Ideal.Own.d_a (num_mt _) (num_mt _))) (num_mt _))) (num_mt _))),
      o2.trans (uniq (k2.congr fun i j _ _ => mm_tr _ _ _ i j) (Cert.Reference6Ideal.Own.t_a (Cert.Reference6Ideal.Own.d_c (Cert.Reference6Ideal.Own.c_two (Cert.Reference6Ideal.Own.m_un (Cert.Reference6Ideal.Own.s_hi (Cert.Reference6Ideal.Own.d_a (num_mt _) (num_mt _))) (num_mt _)) (Cert.Reference6Ideal.Own.m_dg (Cert.Reference6Ideal.Own.s_hi (Cert.Reference6Ideal.Own.d_a (num_mt _) (num_mt _))) (Cert.Reference6Ideal.Own.s_lo (Cert.Reference6Ideal.Own.d_a (num_mt _) (num_mt _))) (num_mt _))) (num_mt _)))),
      a0, a1, a2⟩

end Cert.Proof

end
-- ==== Proof.DVal.lean ====
module

public import proofs.«01_k».proof.Proof.Mix
public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise.Index
public import Idealize.ShloMosaic.Lib.Pointwise.Reshape
public import Idealize.ShloMosaic.Lib.StableHlo.ReadAt
public import Idealize.ShloMosaic.Lib.Tactic

@[expose] public section

set_option maxRecDepth 200000

noncomputable section

namespace Cert.Kernel7Ideal.Own

open Idealize.ShloMosaic Idealize.ShloMosaic.TcCoe Idealize.ShloMosaic.Tactic
open Cert.Kernel7Ideal.Gen Cert.Mat
open Idealize.ShloMosaic.StableHlo (after)

theorem pay1 {x : Vec Ideal S1024x2176 .bf16} {w : Vec Ideal S2176x1024 .bf16} {f g : ℕ → ℕ → EReal}
    (hx : Mt x f) (hw : Mt w g) : Mt (k0_pay1 x w) (mm 2176 f g) := by
  intro i
  pointwise [k0_pay1]
  exact Finset.sum_congr rfl fun k _ => congrArg₂ _ (hx _) (hw _)
theorem pay2 {x : Vec Ideal S1024x2176 .bf16} {w : Vec Ideal S2176x1024 .bf16} {f g : ℕ → ℕ → EReal}
    (hx : Mt x f) (hw : Mt w g) : Mt (k0_pay2 x w) (mm 2176 f g) := fun i => by
  refine Eq.trans ?_ (pay1 hx hw i)
  pointwise [k0_pay2]
theorem pay3 {x : Vec Ideal S1024x2176 .bf16} {w : Vec Ideal S2176x1024 .bf16} {a : Vec Ideal S1024x1024 .f32} {f g h : ℕ → ℕ → EReal}
    (hx : Mt x f) (hw : Mt w g) (ha : Mt a h) : Mt (k0_pay3 x w a) (fun i j => h i j + mm 2176 f g i j) := fun i => by
  refine Eq.trans ?_ (congrArg₂ (fun a b : EReal => a + b) (ha i) (pay1 hx hw i))
  pointwise [k0_pay3]

section Host
variable (V : Valuation τ sig (Elt Ideal))
theorem h_v11 {f : ℕ → ℕ → EReal} (h : Mt (a := 1024) (b := 8224) (V (Proc.devRef .tc main_arg0)) f) :
    Mt (a := 8704) (b := 1024) (after hostOps0 V (Proc.devRef .tc main_v11)) (fun i k => pm (f k) i) := by
  intro i
  after_reads_at
  unfold pm
  split
  · after_reads_at
    exact h _
  · split
    · after_reads_at
      exact h _
    · after_reads_at
      split
      · after_reads_at
        exact h _
      · after_reads_at
theorem h_v20 {f : ℕ → ℕ → EReal} (h : Mt (a := 2048) (b := 8224) (V (Proc.devRef .tc main_arg1)) f) :
    Mt (a := 2048) (b := 8704) (after hostOps0 V (Proc.devRef .tc main_v20)) (fun i j => pm (f i) j) := by
  intro i
  after_reads_at
  unfold pm
  split
  · after_reads_at
    exact h _
  · split
    · after_reads_at
      exact h _
    · after_reads_at
      split
      · after_reads_at
        exact h _
      · after_reads_at
end Host

theorem mm_add (A B : ℕ) (f g : ℕ → ℕ → EReal) (i j : ℕ) :
    mm A f g i j + mm B (fun i k => f i (A + k)) (fun k j => g (A + k) j) i j = mm (A + B) f g i j := by
  unfold mm
  rw [Fin.sum_univ_add]
  rfl
theorem pm_mul (a b : ℕ → EReal) (p : ℕ) : pm a p * pm b p = pm (fun j => a j * b j) p := by
  unfold pm
  split
  · rfl
  split
  · rfl
  split
  · rfl
  · exact mul_zero _
theorem pi_lt {j : ℕ} (h : j < 8224) : pi j < 8704 := by
  unfold pi
  split
  · omega
  split <;> omega
theorem pi_inj {j k : ℕ} (hj : j < 8224) (hk : k < 8224) (e : pi j = pi k) : j = k := by
  unfold pi at e
  split at e <;> split at e <;> (try split at e) <;> (try split at e) <;> omega
/-- A padded column is zero. -/
theorem pm_pad (f : ℕ → EReal) {p : ℕ} (hp : p < 8704) (h : ∀ j, j < 8224 → pi j ≠ p) : pm f p = 0 := by
  unfold pm
  split
  · exact absurd (by unfold pi; rw [if_pos ‹_›]) (h p (by omega))
  split
  · exact absurd (by unfold pi; rw [if_neg (by omega), if_neg (by omega)]; omega) (h (p + 32) (by omega))
  split
  · exact absurd (by unfold pi; rw [if_neg (by omega), if_pos (by omega)]; omega)
      (h (5120 + ((p - 5120 - 3072) / 128 * 8 + (p - 5120 - 3072) % 128)) (by omega))
  · rfl
/-- The sum over the kernel's columns is the sum over the columns. -/
theorem sum_pm (f : ℕ → EReal) : ∑ p ∈ Finset.range 8704, pm f p = ∑ j ∈ Finset.range 8224, f j := by
  refine (Finset.sum_of_injOn pi (fun j hj k hk e => pi_inj (by simpa using hj) (by simpa using hk) e)
    (fun j hj => by simpa using pi_lt (by simpa using hj)) (fun p hp hn => ?_) (fun j hj => ?_)).symm
  · exact pm_pad f (by simpa using hp) (fun j hj e => hn ⟨j, by simpa using hj, e⟩)
  · exact (pm_pi f (by simpa using hj)).symm
theorem mm_pm (d w : ℕ → ℕ → EReal) (i j : ℕ) :
    mm 8704 (fun i p => pm (d i) p) (fun p j => pm (w j) p) i j = mm 8224 d (tr w) i j := by
  unfold mm
  rw [Fin.sum_univ_eq_sum_range (fun p => pm (d i) p * pm (w j) p) 8704, Fin.sum_univ_eq_sum_range (fun p => d i p * tr w p j) 8224]
  refine Eq.trans ?_ (sum_pm fun k => d i k * w j k)
  exact Finset.sum_congr rfl fun p _ => pm_mul _ _ p

variable (m : (ℓ : Loc nD τ sig) → Buf (Elt Ideal) ℓ) (c : Dev nD)

theorem x0_0 : ∀ t : Fin cfg0.N, win0_0.index t = ![t.val / 4, t.val % 4] := (by decide +kernel : ∀ t : Fin grid0.N, _)
theorem x0_1 : ∀ t : Fin cfg0.N, win0_1.index t = ![t.val % 4, 0] := (by decide +kernel : ∀ t : Fin grid0.N, _)
theorem x0_2 : ∀ t : Fin cfg0.N, win0_2.index t = ![t.val / 4, 0] := (by decide +kernel : ∀ t : Fin grid0.N, _)
theorem last2 : ∀ t : Fin cfg0.N, (cfg0.win 2).flush t = true → t.val % 4 = 3 := by decide +kernel

theorem b0_0 {f : ℕ → ℕ → EReal} (h : Mt (a := 2048) (b := 8704) (V m c (Pipeline.arrRef spec0 0)) f) (t : Fin cfg0.N) :
    Mt (a := 1024) (b := 2176) (iblk m c 0 t) (fun i j => f (t.val / 4 * 1024 + i) (t.val % 4 * 2176 + j)) := by
  intro y
  refine (h (((cfg0.win 0).blk t).view.emb y)).trans ?_
  blk_simp [x0_0]
theorem b0_1 {f : ℕ → ℕ → EReal} (h : Mt (a := 8704) (b := 1024) (V m c (Pipeline.arrRef spec0 1)) f) (t : Fin cfg0.N) :
    Mt (a := 2176) (b := 1024) (iblk m c 1 t) (fun i j => f (t.val % 4 * 2176 + i) j) := by
  intro y
  refine (h (((cfg0.win 1).blk t).view.emb y)).trans ?_
  blk_simp [x0_1]

section
variable {f g : ℕ → ℕ → EReal} (h0 : Mt (a := 2048) (b := 8704) (V m c (Pipeline.arrRef spec0 0)) f)
  (h1 : Mt (a := 8704) (b := 1024) (V m c (Pipeline.arrRef spec0 1)) g)
include h0 h1
theorem st0 (t : Fin cfg0.N) (ht : t.val % 4 = 0) :
    Mt (a := 1024) (b := 1024) (outsAt0 m c t.val t.isLt).2 (mm 2176 (fun i j => f (t.val / 4 * 1024 + i) j) g) := by
  rw [outsAt0_A m c t ht (by omega) (by omega)]
  frame_out
  refine (pay2 (b0_0 m c h0 t) (b0_1 m c h1 t)).congr fun i j _ _ => ?_
  simp [ht]
theorem st1 (t : Fin cfg0.N) (ht : t.val % 4 = 1) :
    Mt (a := 1024) (b := 1024) (outsAt0 m c t.val t.isLt).2 (mm 4352 (fun i j => f (t.val / 4 * 1024 + i) j) g) := by
  have e := st0 m c h0 h1 ⟨t.val - 1, by omega⟩ (by dsimp only; omega)
  rw [outsAt0_B m c t (by omega) (by omega) (by omega)]
  frame_out
  rw [show View.read (Elt Ideal) (View.whole cc0_scratch0) _ = (outsAt0 m c (t.val - 1) (by omega)).2 from (Memref.isWhole_whole cc0_scratch0).read_unread _]
  refine (pay3 (b0_0 m c h0 t) (b0_1 m c h1 t) e).congr fun i j _ _ => ?_
  have q : (t.val - 1) / 4 = t.val / 4 := by omega
  rw [← mm_add 2176 2176]
  simp [ht, q]
theorem st2 (t : Fin cfg0.N) (ht : t.val % 4 = 2) :
    Mt (a := 1024) (b := 1024) (outsAt0 m c t.val t.isLt).2 (mm 6528 (fun i j => f (t.val / 4 * 1024 + i) j) g) := by
  have e := st1 m c h0 h1 ⟨t.val - 1, by omega⟩ (by dsimp only; omega)
  rw [outsAt0_B m c t (by omega) (by omega) (by omega)]
  frame_out
  rw [show View.read (Elt Ideal) (View.whole cc0_scratch0) _ = (outsAt0 m c (t.val - 1) (by omega)).2 from (Memref.isWhole_whole cc0_scratch0).read_unread _]
  refine (pay3 (b0_0 m c h0 t) (b0_1 m c h1 t) e).congr fun i j _ _ => ?_
  have q : (t.val - 1) / 4 = t.val / 4 := by omega
  rw [← mm_add 4352 2176]
  simp [ht, q]
theorem st3 (t : Fin cfg0.N) (ht : t.val % 4 = 3) :
    Mt (a := 1024) (b := 1024) (outsAt0 m c t.val t.isLt).1 (mm 8704 (fun i j => f (t.val / 4 * 1024 + i) j) g) := by
  have e := st2 m c h0 h1 ⟨t.val - 1, by omega⟩ (by dsimp only; omega)
  rw [outsAt0_C m c t (by omega) (by omega) (by omega)]
  frame_out
  rw [show View.read (Elt Ideal) (View.whole cc0_scratch0) _ = (outsAt0 m c (t.val - 1) (by omega)).2 from (Memref.isWhole_whole cc0_scratch0).read_unread _]
  refine (pay3 (b0_0 m c h0 t) (b0_1 m c h1 t) e).congr fun i j _ _ => ?_
  have q : (t.val - 1) / 4 = t.val / 4 := by omega
  rw [← mm_add 6528 2176]
  simp [ht, q]
theorem arr : Mt (a := 2048) (b := 1024) ((dats m 0 c).arrAt 2 cfg0.N) (mm 8704 f g) := by
  intro i
  refine (dats m 0 c).arrAt_forall_of_covers 2 (fun (i : (⟨2, ![2048, 1024]⟩ : Shape).Idx) (v : EReal) =>
    v = mm 8704 f g (i 0).val (i 1).val) (by decide +kernel) (fun t hf y => ?_) i
  blk_simp [x0_2]
  rw [after0_2]
  exact st3 m c h0 h1 t (last2 t hf) y
end

theorem result {w d : ℕ → ℕ → EReal} (hw : Mt (a := 1024) (b := 8224) (m ((c : Thread nD τ).loc main_arg0)) w)
    (hd : Mt (a := 2048) (b := 8224) (m ((c : Thread nD τ).loc main_arg1)) d) :
    Mt (a := 2048) (b := 1024) ((dats m 0 c).arrAt 2 cfg0.N) (mm 8224 d (tr w)) :=
  (arr m c (h_v20 _ hd) (h_v11 _ hw)).congr fun i j _ _ => mm_pm d w i j

end Cert.Kernel7Ideal.Own

namespace Cert.Reference7Ideal.Own
open Idealize.ShloMosaic Idealize.ShloMosaic.TcCoe Idealize.ShloMosaic.Tactic
open Cert.Reference7Ideal Cert.Reference7Ideal.Gen Cert.Mat
theorem d_x {l : FVec Ideal S2048x8224 .f32} {r : FVec Ideal S1024x8224 .f32} {f g : ℕ → ℕ → EReal} (hl : Mt l f) (hr : Mt r g) :
    Mt (Host.dotGeneral dot_S2048x8224_S1024x8224_S2048x1024_1_1_0_0_n_n none l r) (mm 8224 f (tr g)) := by
  intro i
  pointwise
  exact Finset.sum_congr rfl fun k _ => congrArg₂ _ (hl _) (hr _)
end Cert.Reference7Ideal.Own

namespace Cert.Proof
open Idealize.ShloMosaic Idealize.ShloMosaic.TcCoe Idealize.ShloMosaic.Tactic Idealize.SL.Sem
open Cert.Mat

/-- Over the reals, the call that takes the gradient of the projection back to the mixer's input is the reference. -/
theorem value7 : @Cert.algebraic_Kernel7Ideal_Reference7Ideal Cert.Kernel7Ideal.Gen.facts Cert.Reference7Ideal.Gen.facts := by
  intro m g m' g' hp ha
  refine ⟨fun c => (Cert.Kernel7Ideal.Gen.dats m 0 c).arrAt 2 Cert.Kernel7Ideal.cfg0.N, ?_, ?_⟩
  · exact (θ_run Cert.Kernel7Ideal.defs _ _).mono (fun r h c => ⟨Cert.Kernel7Ideal.Value.post2 m r h c, Cert.Kernel7Ideal.Value.kept_main_arg0 m r h c,
      Cert.Kernel7Ideal.Value.kept_main_arg1 m r h c⟩) (Cert.Kernel7Ideal.Gen.run_main m g)
  · refine (θ_run Cert.Reference7Ideal.defs _ _).mono (fun r h c => ?_) (Cert.Reference7Ideal.Value.run m' g')
    obtain ⟨e0, e1⟩ := ha c
    obtain ⟨o, a0, a1⟩ := h c
    rw [e0, e1] at o
    exact ⟨o.trans (uniq (Cert.Kernel7Ideal.Own.result m c (num_mt _) (num_mt _)) (Cert.Reference7Ideal.Own.d_x (num_mt _) (num_mt _))), a0, a1⟩
end Cert.Proof
-- ==== Proof.Dia.lean ====
module

public import proofs.«01_k».proof.Proof.Mix
public import Idealize.ShloMosaic.Lib.Pointwise.Index
public import Idealize.ShloMosaic.Lib.Tactic

@[expose] public section

noncomputable section

namespace Cert.Mat

open Idealize.ShloMosaic

/-- An array of three axes read by numbers. -/
def T3 {a b c : ℕ} (v : (⟨3, ![a, b, c]⟩ : Shape).Idx → EReal) (f : ℕ → ℕ → ℕ → EReal) : Prop := ∀ i, v i = f (i 0).val (i 1).val (i 2).val
theorem T3.congr {a b c : ℕ} {v : (⟨3, ![a, b, c]⟩ : Shape).Idx → EReal} {f g : ℕ → ℕ → ℕ → EReal} (h : T3 v f)
    (e : ∀ i j k, i < a → j < b → k < c → f i j k = g i j k) : T3 v g := fun i => (h i).trans (e _ _ _ (i 0).isLt (i 1).isLt (i 2).isLt)
theorem T3.eqv {a b c : ℕ} {v v' : (⟨3, ![a, b, c]⟩ : Shape).Idx → EReal} {f : ℕ → ℕ → ℕ → EReal} (h : T3 v f) (e : v' = v) : T3 v' f := e ▸ h
theorem T3.uniq {a b c : ℕ} {v w : (⟨3, ![a, b, c]⟩ : Shape).Idx → EReal} {f : ℕ → ℕ → ℕ → EReal} (h : T3 v f) (k : T3 w f) : w = v :=
  funext fun i => (k i).trans (h i).symm
/-- The entries of such an array by number, and zero outside it. -/
def num3 {a b c : ℕ} (v : (⟨3, ![a, b, c]⟩ : Shape).Idx → EReal) (i j k : ℕ) : EReal :=
  if h : i < a ∧ j < b ∧ k < c then v (ix3 ⟨i, h.1⟩ ⟨j, h.2.1⟩ ⟨k, h.2.2⟩) else 0
theorem num_t3 {a b c : ℕ} (v : (⟨3, ![a, b, c]⟩ : Shape).Idx → EReal) : T3 v (num3 v) := by
  intro i
  unfold num3
  rw [dif_pos ⟨(i 0).isLt, (i 1).isLt, (i 2).isLt⟩]
  refine congrArg v (funext fun k => ?_)
  match k with
  | ⟨0, _⟩ => rfl
  | ⟨1, _⟩ => rfl
  | ⟨2, _⟩ => rfl

/-! ## Groups of rows and columns -/

/-- The sign of a number as the host takes it. -/
def sg (x : BitVec 32) : BitVec 32 := if x = 0 then 0 else if x.msb = true then -1 else 1
/-- The host's division that rounds down. -/
def fdiv (x k : BitVec 32) : BitVec 32 :=
  Scalar.select (IntOp.andi (IntOp.cmpi .ne (sg x) (sg k)) (IntOp.cmpi .ne (IntOp.remsi .host x k) 0#32))
    (IntOp.subi (IntOp.divsi .host x k) 1#32) (IntOp.divsi .host x k)
/-- The divisor of the host's remainder, one in place of zero. -/
def nz (k : BitVec 32) : BitVec 32 := Scalar.select (IntOp.cmpi .eq k 0#32) 1#32 k
/-- The host's remainder with the sign of the divisor. -/
def fmod (x k : BitVec 32) : BitVec 32 :=
  Scalar.select (IntOp.andi (IntOp.cmpi .ne (IntOp.cmpi .slt (IntOp.remsi .host x (nz k)) 0#32) (IntOp.cmpi .slt (nz k) 0#32))
      (IntOp.cmpi .ne (IntOp.remsi .host x (nz k)) 0#32))
    (IntOp.addi (IntOp.remsi .host x (nz k)) (nz k)) (IntOp.remsi .host x (nz k))
theorem fmod16 : ∀ r : Fin 1024, fmod (fdiv (BitVec.ofNat 32 r.val) 16#32) 16#32 = BitVec.ofNat 32 (r.val / 16 % 16) := by decide +kernel
theorem fmod64 : ∀ r : Fin 4096, fmod (fdiv (BitVec.ofNat 32 r.val) 64#32) 16#32 = BitVec.ofNat 32 (r.val / 64 % 16) := by decide +kernel
theorem fdiv64 : ∀ r : Fin 1024, fdiv (BitVec.ofNat 32 r.val) 64#32 = BitVec.ofNat 32 (r.val / 64) := by decide +kernel
theorem fdiv16 : ∀ r : Fin 256, fdiv (BitVec.ofNat 32 r.val) 16#32 = BitVec.ofNat 32 (r.val / 16) := by decide +kernel
theorem sel_eq {α : Type} {a b : ℕ} {s t : BitVec 32} (hs : s = BitVec.ofNat 32 a) (ht : t = BitVec.ofNat 32 b) (ha : a < 1024) (hb : b < 1024) (x y : α) :
    Scalar.select (IntOp.cmpi .eq s t) x y = if a = b then x else y := by
  subst hs ht
  have e : BitVec.ofNat 32 a = BitVec.ofNat 32 b ↔ a = b := ⟨fun h => by
    have := congrArg BitVec.toNat h
    simp only [BitVec.toNat_ofNat] at this
    omega, fun h => h ▸ rfl⟩
  simp only [Scalar.select, IntOp.cmpi]
  by_cases h : a = b
  · simp [h]
  · have n : (BitVec.ofNat 32 a == BitVec.ofNat 32 b) = false := beq_false_of_ne (mt e.1 h)
    simp [h, n]
theorem cast0 : (FloatOps.sitofp (F := Ideal) .bf16 (0#32 : BitVec 32) : EReal) = 0 := by
  simp [FloatOps.sitofp]
theorem cast0' : (FloatOps.sitofp (F := Ideal) .f32 (0#32 : BitVec 32) : EReal) = 0 := by
  simp [FloatOps.sitofp]

/-! ## Sums of which one group remains -/

theorem sum_blk {N A C a : ℕ} (hN : N = A * C) (ha : a < A) (hC : 0 < C) (f : ℕ → EReal) (h : ∀ k, k < N → k / C ≠ a → f k = 0) :
    ∑ k : Fin N, f k.val = ∑ c : Fin C, f (a * C + c.val) := by
  subst hN
  rw [Fin.sum_univ_eq_sum_range f, Fin.sum_univ_eq_sum_range fun c => f (a * C + c)]
  refine (Finset.sum_of_injOn (fun c => a * C + c) (fun _ _ _ _ e => Nat.add_left_cancel e) (fun c hc => ?_) (fun k hk hn => ?_) fun _ _ => rfl).symm
  · have hc : c < C := by simpa using hc
    have : a * C + c < A * C := by nlinarith
    simpa using this
  · have hk : k < A * C := by simpa using hk
    refine h k hk fun e => hn ⟨k % C, by simpa using Nat.mod_lt k hC, ?_⟩
    subst e
    exact Nat.div_add_mod' k C
theorem sum_split (A B : ℕ) (f : ℕ → EReal) : ∑ k : Fin (A + B), f k.val = ∑ k : Fin A, f k.val + ∑ k : Fin B, f (A + k.val) := by
  rw [Fin.sum_univ_add]
  rfl

end Cert.Mat
-- ==== Proof.B8.lean ====
module

public import proofs.«01_k».proof.Proof.Dia
public import proofs.«01_k».proof.Proof.Gen.Kernel8Ideal.Frame
public import proofs.«01_k».proof.Proof.Gen.Reference8Ideal.Run
public import proofs.«01_k».proof.Defs
public import Idealize.ShloMosaic.Lib.Pipeline.ValueKit
public import Idealize.ShloMosaic.Lib.Pointwise.Index
public import Idealize.ShloMosaic.Lib.Pointwise.Reshape
public import Idealize.ShloMosaic.Lib.VecWindow
public import Idealize.ShloMosaic.Lib.StableHlo.ReadAt
public import Idealize.ShloMosaic.Lib.Tactic

@[expose] public section

set_option maxRecDepth 200000

noncomputable section

namespace Cert.Kernel8Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel8Ideal.Gen
open Cert.Mat
open Idealize.ShloMosaic.Rounds
open Idealize.ShloMosaic.StableHlo (after)

/-! ## The two calls -/

theorem pay0 {x : Vec Ideal S1024x256 .f32} {w : Vec Ideal S256x2048 .bf16} {f g : ℕ → ℕ → EReal}
    (hx : Mt x f) (hw : Mt w g) : Mt (k0_pay1 x w) (mm 256 f g) := by
  intro i
  pointwise [k0_pay1]
  exact Finset.sum_congr rfl fun k _ => congrArg₂ _ (hx _) (hw _)
theorem o0_2 {x0} {x1} : out0_2 (F := Ideal) x0 x1 = k0_pay1 x0 x1 := by
  unfold out0_2
  rw [View.canon_cons_unit_lit]
  · rw [View.ld_unit_lit, View.ld_unit_lit] <;> decide
  · decide
theorem pay1 {x : Vec Ideal S1024x2048 .f32} {w : Vec Ideal S256x2048 .bf16} {f g : ℕ → ℕ → EReal}
    (hx : Mt x f) (hw : Mt w g) : Mt (k1_pay1 x w) (mm 2048 f (tr g)) := by
  intro i
  pointwise [k1_pay1]
  exact Finset.sum_congr rfl fun k _ => congrArg₂ _ (hx _) (hw _)
theorem o1_2 {x0} {x1} : out1_2 (F := Ideal) x0 x1 = k1_pay1 x0 x1 := by
  unfold out1_2
  rw [View.canon_cons_unit_lit]
  · rw [View.ld_unit_lit, View.ld_unit_lit] <;> decide
  · decide

section
variable (V : (c : Dev nD) → (b : Ref sig .tc) → Buf (Elt Ideal) ((c : Thread nD τ).loc b)) (c : Dev nD)
theorem x0_0 : ∀ t : Fin cfg0.N, win0_0.index t = ![t.val % 2, t.val / 2] := (by decide +kernel : ∀ t : Fin grid0.N, _)
theorem x0_1 : ∀ t : Fin cfg0.N, win0_1.index t = ![t.val / 2, 0] := (by decide +kernel : ∀ t : Fin grid0.N, _)
theorem x0_2 : ∀ t : Fin cfg0.N, win0_2.index t = ![t.val % 2, t.val / 2] := (by decide +kernel : ∀ t : Fin grid0.N, _)
theorem b0_0 {f : ℕ → ℕ → EReal} (h : Mt (a := 2048) (b := 1024) (V c (Pipeline.arrRef spec0 0)) f) (t : Fin cfg0.N) :
    Mt (a := 1024) (b := 256) (iblk0 V c 0 t) (fun i j => f (t.val % 2 * 1024 + i) (t.val / 2 * 256 + j)) := by
  intro y
  refine (h (((cfg0.win 0).blk t).view.emb y)).trans ?_
  blk_simp [x0_0]
theorem b0_1 {f : ℕ → ℕ → EReal} (h : Mt (a := 1024) (b := 2048) (V c (Pipeline.arrRef spec0 1)) f) (t : Fin cfg0.N) :
    Mt (a := 256) (b := 2048) (iblk0 V c 1 t) (fun i j => f (t.val / 2 * 256 + i) j) := by
  intro y
  refine (h (((cfg0.win 1).blk t).view.emb y)).trans ?_
  blk_simp [x0_1]
theorem arr0_2 {f g : ℕ → ℕ → EReal} (h0 : Mt (a := 2048) (b := 1024) (V c (Pipeline.arrRef spec0 0)) f)
    (h1 : Mt (a := 1024) (b := 2048) (V c (Pipeline.arrRef spec0 1)) g) :
    Mt (a := 2048) (b := 8192) ((dat0 V c).arrAt 2 cfg0.N) (fun i q => ∑ k : Fin 256, f i (q / 2048 * 256 + k.val) * g (q / 2048 * 256 + k.val) (q % 2048)) := by
  intro i
  refine (dat0 V c).arrAt_forall_of_covers 2 (fun (i : (⟨2, ![2048, 8192]⟩ : Shape).Idx) (v : EReal) =>
    v = ∑ k : Fin 256, f (i 0).val ((i 1).val / 2048 * 256 + k.val) * g ((i 1).val / 2048 * 256 + k.val) ((i 1).val % 2048)) (by decide +kernel) (fun t hf y => ?_) i
  blk_simp [x0_2]
  rw [after0_2, o0_2]
  refine (pay0 (b0_0 V c h0 t) (b0_1 V c h1 t) y).trans ?_
  have hy : (y 1).val < 2048 := (y 1).isLt
  have e1 : (t.val / 2 * 2048 + (y 1).val) / 2048 = t.val / 2 := by omega
  have e2 : (t.val / 2 * 2048 + (y 1).val) % 2048 = (y 1).val := by omega
  rw [e1, e2]
  rfl
theorem x1_0 : ∀ t : Fin cfg1.N, win1_0.index t = ![t.val % 2, t.val / 2] := (by decide +kernel : ∀ t : Fin grid1.N, _)
theorem x1_1 : ∀ t : Fin cfg1.N, win1_1.index t = ![t.val / 2, 0] := (by decide +kernel : ∀ t : Fin grid1.N, _)
theorem x1_2 : ∀ t : Fin cfg1.N, win1_2.index t = ![t.val % 2, t.val / 2] := (by decide +kernel : ∀ t : Fin grid1.N, _)
theorem b1_0 {f : ℕ → ℕ → EReal} (h : Mt (a := 2048) (b := 8192) (V c (Pipeline.arrRef spec1 0)) f) (t : Fin cfg1.N) :
    Mt (a := 1024) (b := 2048) (iblk1 V c 0 t) (fun i j => f (t.val % 2 * 1024 + i) (t.val / 2 * 2048 + j)) := by
  intro y
  refine (h (((cfg1.win 0).blk t).view.emb y)).trans ?_
  blk_simp [x1_0]
theorem b1_1 {f : ℕ → ℕ → EReal} (h : Mt (a := 1024) (b := 2048) (V c (Pipeline.arrRef spec1 1)) f) (t : Fin cfg1.N) :
    Mt (a := 256) (b := 2048) (iblk1 V c 1 t) (fun i j => f (t.val / 2 * 256 + i) j) := by
  intro y
  refine (h (((cfg1.win 1).blk t).view.emb y)).trans ?_
  blk_simp [x1_1]
theorem arr1_2 {f g : ℕ → ℕ → EReal} (h0 : Mt (a := 2048) (b := 8192) (V c (Pipeline.arrRef spec1 0)) f)
    (h1 : Mt (a := 1024) (b := 2048) (V c (Pipeline.arrRef spec1 1)) g) :
    Mt (a := 2048) (b := 1024) ((dat1 V c).arrAt 2 cfg1.N) (fun i q => ∑ k : Fin 2048, f i (q / 256 * 2048 + k.val) * g q k.val) := by
  intro i
  refine (dat1 V c).arrAt_forall_of_covers 2 (fun (i : (⟨2, ![2048, 1024]⟩ : Shape).Idx) (v : EReal) =>
    v = ∑ k : Fin 2048, f (i 0).val ((i 1).val / 256 * 2048 + k.val) * g (i 1).val k.val) (by decide +kernel) (fun t hf y => ?_) i
  blk_simp [x1_2]
  rw [after1_2, o1_2]
  refine (pay1 (b1_0 V c h0 t) (b1_1 V c h1 t) y).trans ?_
  have hy : (y 1).val < 256 := (y 1).isLt
  have e1 : (t.val / 2 * 256 + (y 1).val) / 256 = t.val / 2 := by omega
  rw [e1]
  rfl
end

/-! ## The host lines -/

/-- A group's block at its place on the diagonal. -/
def dg (b : ℕ → ℕ → ℕ → EReal) (i j : ℕ) : EReal := if i / 16 % 16 = j / 64 then b (i / 16) (j % 64) (i % 16) else 0
/-- The two parts side by side. -/
def ds (p q : ℕ → ℕ → ℕ → EReal) (i j : ℕ) : EReal := if j < 1024 then dg p i j else dg q i (j - 1024)
/-- Real and imaginary part packed by blocks. -/
def pk (p q : ℕ → ℕ → ℕ → EReal) (l j : ℕ) : EReal :=
  if j % 2048 < 1024 then p l (j / 2048 * 16 + j % 2048 / 64) (j % 2048 % 64)
  else q l (j / 2048 * 16 + (j % 2048 - 1024) / 64) ((j % 2048 - 1024) % 64)

theorem h_v12 (V : Valuation τ sig (Elt Ideal)) {b : ℕ → ℕ → ℕ → EReal} (e4 : ∀ i, V (Proc.devRef .tc main_v4) i = BitVec.ofNat 32 ((i 0).val / 16 % 16))
    (e6 : ∀ i, V (Proc.devRef .tc main_v6) i = BitVec.ofNat 32 ((i 1).val / 64))
    (e1 : T3 (a := 64) (b := 16) (c := 64) (V (Proc.devRef .tc main_v1)) (fun g a n => b g n a)) :
    Mt (a := 1024) (b := 1024) (after hostOps0_7 (after hostOps0_6 V) (Proc.devRef .tc main_v12)) (dg b) := by
  intro i
  refine Eq.trans ?_ (?_ : (if (i 0).val / 16 % 16 = (i 1).val / 64 then b ((i 0).val / 16) ((i 1).val % 64) ((i 0).val % 16) else 0) = dg b (i 0).val (i 1).val)
  after_reads_at
  have h0 : (i 0).val / 16 % 16 < 1024 := by omega
  have h1 : (i 1).val < 1024 := (i 1).isLt
  have h1 : (i 1).val / 64 < 1024 := by omega
  refine (sel_eq (e4 i) (e6 i) h0 h1 _ _).trans (if_congr Iff.rfl (e1 _) cast0)
  rfl
theorem h_v25 (V : Valuation τ sig (Elt Ideal)) {b : ℕ → ℕ → ℕ → EReal} (e4 : ∀ i, V (Proc.devRef .tc main_v17) i = BitVec.ofNat 32 ((i 0).val / 16 % 16))
    (e6 : ∀ i, V (Proc.devRef .tc main_v19) i = BitVec.ofNat 32 ((i 1).val / 64))
    (e1 : T3 (a := 64) (b := 16) (c := 64) (V (Proc.devRef .tc main_v14)) (fun g a n => b g n a)) :
    Mt (a := 1024) (b := 1024) (after hostOps0_15 (after hostOps0_14 V) (Proc.devRef .tc main_v25)) (dg b) := by
  intro i
  refine Eq.trans ?_ (?_ : (if (i 0).val / 16 % 16 = (i 1).val / 64 then b ((i 0).val / 16) ((i 1).val % 64) ((i 0).val % 16) else 0) = dg b (i 0).val (i 1).val)
  after_reads_at
  have h0 : (i 0).val / 16 % 16 < 1024 := by omega
  have h1 : (i 1).val < 1024 := (i 1).isLt
  have h1 : (i 1).val / 64 < 1024 := by omega
  refine (sel_eq (e4 i) (e6 i) h0 h1 _ _).trans (if_congr Iff.rfl (e1 _) cast0)
  rfl
theorem h_v26 (V : Valuation τ sig (Elt Ideal)) {f g : ℕ → ℕ → EReal} (hf : Mt (a := 1024) (b := 1024) (V (Proc.devRef .tc main_v12)) f)
    (hg : Mt (a := 1024) (b := 1024) (V (Proc.devRef .tc main_v25)) g) :
    Mt (a := 1024) (b := 2048) (after hostOps0_16 V (Proc.devRef .tc main_v26)) (fun i j => if j < 1024 then f i j else g i (j - 1024)) := by
  intro i
  after_reads_at
  split
  · exact hf _
  · exact hg _
theorem h_v30 (V : Valuation τ sig (Elt Ideal)) {f : ℕ → ℕ → EReal} (h : Mt (a := 2048) (b := 8192) (V (Proc.devRef .tc main_v27)) f) :
    T3 (a := 2048) (b := 64) (c := 64) (after hostOps1 V (Proc.devRef .tc main_v30)) (fun l g n => f l (g / 16 * 2048 + (g % 16 * 64 + n))) := by
  intro i
  after_reads_at
  exact h _
theorem h_v32 (V : Valuation τ sig (Elt Ideal)) {f : ℕ → ℕ → EReal} (h : Mt (a := 2048) (b := 8192) (V (Proc.devRef .tc main_v27)) f) :
    T3 (a := 2048) (b := 64) (c := 64) (after hostOps1 V (Proc.devRef .tc main_v32)) (fun l g n => f l (g / 16 * 2048 + (1024 + (g % 16 * 64 + n)))) := by
  intro i
  after_reads_at
  exact h _
theorem h_v36 (V : Valuation τ sig (Elt Ideal)) {p q : ℕ → ℕ → ℕ → EReal} (hp : T3 (a := 2048) (b := 64) (c := 64) (V (Proc.devRef .tc main_arg3)) p)
    (hq : T3 (a := 2048) (b := 64) (c := 64) (V (Proc.devRef .tc main_arg4)) q) :
    Mt (a := 2048) (b := 8192) (after hostOps1 V (Proc.devRef .tc main_v36)) (pk p q) := by
  intro i
  after_reads_at
  unfold pk
  split
  · after_reads_at
    exact hp _
  · after_reads_at
    exact hq _
section
variable (m : (ℓ : Loc nD τ sig) → Buf (Elt Ideal) ℓ) (ρ : Dev nD → PrngReg) (c : Dev nD)
theorem r4 (i) : (W4 m ρ c (Proc.devRef .tc main_v4)) i = BitVec.ofNat 32 ((i 0).val / 16 % 16) := by
  refine Eq.trans ?_ (fmod16 (i 0))
  after_reads_at
  rfl
theorem r6 (i) : (W6 m ρ c (Proc.devRef .tc main_v6)) i = BitVec.ofNat 32 ((i 1).val / 64) := by
  refine Eq.trans ?_ (fdiv64 (i 1))
  after_reads_at
  rfl
theorem r17 (i) : (W12 m ρ c (Proc.devRef .tc main_v17)) i = BitVec.ofNat 32 ((i 0).val / 16 % 16) := by
  refine Eq.trans ?_ (fmod16 (i 0))
  after_reads_at
  rfl
theorem r19 (i) : (W14 m ρ c (Proc.devRef .tc main_v19)) i = BitVec.ofNat 32 ((i 1).val / 64) := by
  refine Eq.trans ?_ (fdiv64 (i 1))
  after_reads_at
  rfl
theorem v1 {b : ℕ → ℕ → ℕ → EReal} (h : T3 (a := 64) (b := 64) (c := 16) (W0 m ρ c (Proc.devRef .tc main_arg1)) b) :
    T3 (a := 64) (b := 16) (c := 64) (W1 m ρ c (Proc.devRef .tc main_v1)) (fun g a n => b g n a) := by
  intro i
  after_reads_at
  exact h _
theorem v14 {b : ℕ → ℕ → ℕ → EReal} (h : T3 (a := 64) (b := 64) (c := 16) (W0 m ρ c (Proc.devRef .tc main_arg2)) b) :
    T3 (a := 64) (b := 16) (c := 64) (W9 m ρ c (Proc.devRef .tc main_v14)) (fun g a n => b g n a) := by
  intro i
  after_reads_at
  exact h _
theorem v12 {b : ℕ → ℕ → ℕ → EReal} (h : T3 (a := 64) (b := 64) (c := 16) (W0 m ρ c (Proc.devRef .tc main_arg1)) b) :
    Mt (a := 1024) (b := 1024) (W8 m ρ c (Proc.devRef .tc main_v12)) (dg b) :=
  h_v12 (W6 m ρ c) (fun i => (congrFun (W6_of m ρ c main_v4 (by decide +kernel)) i).trans ((congrFun (W5_of m ρ c main_v4 (by decide +kernel)) i).trans (r4 m ρ c i))) (r6 m ρ c)
    ((((((v1 m ρ c h).eqv (W2_of m ρ c main_v1 (by decide +kernel))).eqv (W3_of m ρ c main_v1 (by decide +kernel))).eqv (W4_of m ρ c main_v1 (by decide +kernel))).eqv (W5_of m ρ c main_v1 (by decide +kernel))).eqv (W6_of m ρ c main_v1 (by decide +kernel)))
theorem v25 {b : ℕ → ℕ → ℕ → EReal} (h : T3 (a := 64) (b := 64) (c := 16) (W0 m ρ c (Proc.devRef .tc main_arg2)) b) :
    Mt (a := 1024) (b := 1024) (W16 m ρ c (Proc.devRef .tc main_v25)) (dg b) :=
  h_v25 (W14 m ρ c) (fun i => (congrFun (W14_of m ρ c main_v17 (by decide +kernel)) i).trans ((congrFun (W13_of m ρ c main_v17 (by decide +kernel)) i).trans (r17 m ρ c i))) (r19 m ρ c)
    ((((((v14 m ρ c h).eqv (W10_of m ρ c main_v14 (by decide +kernel))).eqv (W11_of m ρ c main_v14 (by decide +kernel))).eqv (W12_of m ρ c main_v14 (by decide +kernel))).eqv (W13_of m ρ c main_v14 (by decide +kernel))).eqv (W14_of m ρ c main_v14 (by decide +kernel)))
theorem v26 {p q : ℕ → ℕ → ℕ → EReal} (hp : T3 (a := 64) (b := 64) (c := 16) (W0 m ρ c (Proc.devRef .tc main_arg1)) p)
    (hq : T3 (a := 64) (b := 64) (c := 16) (W0 m ρ c (Proc.devRef .tc main_arg2)) q) :
    Mt (a := 1024) (b := 2048) (W17 m ρ c (Proc.devRef .tc main_v26)) (ds p q) :=
  h_v26 (W16 m ρ c) (((((((((v12 m ρ c hp).eqv (W9_of m ρ c main_v12 (by decide +kernel))).eqv (W10_of m ρ c main_v12 (by decide +kernel))).eqv (W11_of m ρ c main_v12 (by decide +kernel))).eqv (W12_of m ρ c main_v12 (by decide +kernel))).eqv (W13_of m ρ c main_v12 (by decide +kernel))).eqv (W14_of m ρ c main_v12 (by decide +kernel))).eqv (W15_of m ρ c main_v12 (by decide +kernel))).eqv (W16_of m ρ c main_v12 (by decide +kernel))) (v25 m ρ c hq)
end

/-! ## The run -/

section Run
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every run ends, and each array of the program then holds what the regions and the host lines leave in it. -/
theorem run : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h _ => h)

end Run

/-! ## The sums -/

/-- The product of the rows of a group with its block. -/
def bu (u : ℕ → ℕ → EReal) (b : ℕ → ℕ → ℕ → EReal) (l g n : ℕ) : EReal := ∑ c : Fin 16, b g n c.val * u l (g * 16 + c.val)
/-- The product of a gradient with the transposed block. -/
def dub (d b : ℕ → ℕ → ℕ → EReal) (l x : ℕ) : EReal := ∑ n : Fin 64, d l (x / 16) n.val * b (x / 16) n.val (x % 16)
section
variable (u : ℕ → ℕ → EReal) (p q d e : ℕ → ℕ → ℕ → EReal)
theorem bu_re {l g n r : ℕ} (hg : g < 64) (hn : n < 64) (hr : r = g / 16 * 2048 + (g % 16 * 64 + n)) :
    ∑ k : Fin 256, u l (r / 2048 * 256 + k.val) * ds p q (r / 2048 * 256 + k.val) (r % 2048) = bu u p l g n := by
  rw [show r / 2048 = g / 16 by omega, show r % 2048 = g % 16 * 64 + n by omega]
  refine (sum_blk (A := 16) (C := 16) (a := g % 16) rfl (by omega) (by omega)
    (fun k => u l (g / 16 * 256 + k) * ds p q (g / 16 * 256 + k) (g % 16 * 64 + n)) fun k hk hne => ?_).trans (Finset.sum_congr rfl fun c _ => ?_)
  · unfold ds dg
    rw [if_pos (by omega), if_neg (by omega), mul_zero]
  · have hc := c.isLt
    unfold ds dg
    rw [if_pos (by omega), if_pos (by omega), mul_comm, show (g / 16 * 256 + (g % 16 * 16 + c.val)) / 16 = g by omega,
      show (g / 16 * 256 + (g % 16 * 16 + c.val)) % 16 = c.val by omega, show (g % 16 * 64 + n) % 64 = n by omega,
      show g / 16 * 256 + (g % 16 * 16 + c.val) = g * 16 + c.val by omega]
theorem bu_im {l g n r : ℕ} (hg : g < 64) (hn : n < 64) (hr : r = g / 16 * 2048 + (1024 + (g % 16 * 64 + n))) :
    ∑ k : Fin 256, u l (r / 2048 * 256 + k.val) * ds p q (r / 2048 * 256 + k.val) (r % 2048) = bu u q l g n := by
  rw [show r / 2048 = g / 16 by omega, show r % 2048 = 1024 + (g % 16 * 64 + n) by omega]
  refine (sum_blk (A := 16) (C := 16) (a := g % 16) rfl (by omega) (by omega)
    (fun k => u l (g / 16 * 256 + k) * ds p q (g / 16 * 256 + k) (1024 + (g % 16 * 64 + n))) fun k hk hne => ?_).trans (Finset.sum_congr rfl fun c _ => ?_)
  · unfold ds dg
    rw [if_neg (by omega), if_neg (by omega), mul_zero]
  · have hc := c.isLt
    unfold ds dg
    rw [if_neg (by omega), if_pos (by omega), mul_comm, show (g / 16 * 256 + (g % 16 * 16 + c.val)) / 16 = g by omega,
      show (g / 16 * 256 + (g % 16 * 16 + c.val)) % 16 = c.val by omega, show (1024 + (g % 16 * 64 + n) - 1024) % 64 = n by omega,
      show g / 16 * 256 + (g % 16 * 16 + c.val) = g * 16 + c.val by omega]
theorem du_eq {l x : ℕ} (hx : x < 1024) :
    ∑ k : Fin 2048, pk d e l (x / 256 * 2048 + k.val) * ds p q x k.val = dub d p l x + dub e q l x := by
  refine (sum_split 1024 1024 fun k => pk d e l (x / 256 * 2048 + k) * ds p q x k).trans (congrArg₂ (fun a b : EReal => a + b) ?_ ?_)
  · refine (sum_blk (A := 16) (C := 64) (a := x / 16 % 16) rfl (by omega) (by omega)
      (fun k => pk d e l (x / 256 * 2048 + k) * ds p q x k) fun k hk hne => ?_).trans (Finset.sum_congr rfl fun n _ => ?_)
    · unfold ds dg
      rw [if_pos (by omega), if_neg (by omega), mul_zero]
    · have hn := n.isLt
      unfold ds dg pk
      rw [if_pos (by omega), if_pos (by omega), if_pos (by omega),
        show (x / 256 * 2048 + (x / 16 % 16 * 64 + n.val)) / 2048 * 16 + (x / 256 * 2048 + (x / 16 % 16 * 64 + n.val)) % 2048 / 64 = x / 16 by omega,
        show (x / 256 * 2048 + (x / 16 % 16 * 64 + n.val)) % 2048 % 64 = n.val by omega, show (x / 16 % 16 * 64 + n.val) % 64 = n.val by omega]
  · refine (sum_blk (A := 16) (C := 64) (a := x / 16 % 16) rfl (by omega) (by omega)
      (fun k => pk d e l (x / 256 * 2048 + (1024 + k)) * ds p q x (1024 + k)) fun k hk hne => ?_).trans (Finset.sum_congr rfl fun n _ => ?_)
    · unfold ds dg
      rw [if_neg (by omega), if_neg (by omega), mul_zero]
    · have hn := n.isLt
      unfold ds dg pk
      rw [if_neg (by omega), if_neg (by omega), if_pos (by omega),
        show (x / 256 * 2048 + (1024 + (x / 16 % 16 * 64 + n.val))) / 2048 * 16 + ((x / 256 * 2048 + (1024 + (x / 16 % 16 * 64 + n.val))) % 2048 - 1024) / 64 = x / 16 by omega,
        show ((x / 256 * 2048 + (1024 + (x / 16 % 16 * 64 + n.val))) % 2048 - 1024) % 64 = n.val by omega,
        show (1024 + (x / 16 % 16 * 64 + n.val) - 1024) % 64 = n.val by omega]
end

section
variable (m : (ℓ : Loc nD τ sig) → Buf (Elt Ideal) ℓ) (ρ : Dev nD → PrngReg) (c : Dev nD)
variable {u : ℕ → ℕ → EReal} {p q d e : ℕ → ℕ → ℕ → EReal} (hu : Mt (a := 2048) (b := 1024) (W0 m ρ c (Proc.devRef .tc main_arg0)) u)
  (hp : T3 (a := 64) (b := 64) (c := 16) (W0 m ρ c (Proc.devRef .tc main_arg1)) p) (hq : T3 (a := 64) (b := 64) (c := 16) (W0 m ρ c (Proc.devRef .tc main_arg2)) q)
  (hd : T3 (a := 2048) (b := 64) (c := 64) (W0 m ρ c (Proc.devRef .tc main_arg3)) d) (he : T3 (a := 2048) (b := 64) (c := 64) (W0 m ρ c (Proc.devRef .tc main_arg4)) e)
include hu hp hq in
theorem v27 : Mt (a := 2048) (b := 8192) (W18 m ρ c (Proc.devRef .tc main_v27))
    (fun i r => ∑ k : Fin 256, u i (r / 2048 * 256 + k.val) * ds p q (r / 2048 * 256 + k.val) (r % 2048)) :=
  (arr0_2 (V17 m ρ) c ((((((((((((((((((hu).eqv (W1_of m ρ c main_arg0 (by decide +kernel))).eqv (W2_of m ρ c main_arg0 (by decide +kernel))).eqv (W3_of m ρ c main_arg0 (by decide +kernel))).eqv (W4_of m ρ c main_arg0 (by decide +kernel))).eqv (W5_of m ρ c main_arg0 (by decide +kernel))).eqv (W6_of m ρ c main_arg0 (by decide +kernel))).eqv (W7_of m ρ c main_arg0 (by decide +kernel))).eqv (W8_of m ρ c main_arg0 (by decide +kernel))).eqv (W9_of m ρ c main_arg0 (by decide +kernel))).eqv (W10_of m ρ c main_arg0 (by decide +kernel))).eqv (W11_of m ρ c main_arg0 (by decide +kernel))).eqv (W12_of m ρ c main_arg0 (by decide +kernel))).eqv (W13_of m ρ c main_arg0 (by decide +kernel))).eqv (W14_of m ρ c main_arg0 (by decide +kernel))).eqv (W15_of m ρ c main_arg0 (by decide +kernel))).eqv (W16_of m ρ c main_arg0 (by decide +kernel))).eqv (W17_of m ρ c main_arg0 (by decide +kernel))) (v26 m ρ c hp hq)).eqv (W18_arr m ρ c 2)
include hu hp hq hd he in
/-- The three results. -/
theorem results :
    T3 (a := 2048) (b := 64) (c := 64) (W20 m ρ c (Proc.devRef .tc main_v30)) (bu u p)
    ∧ T3 (a := 2048) (b := 64) (c := 64) (W20 m ρ c (Proc.devRef .tc main_v32)) (bu u q)
    ∧ Mt (a := 2048) (b := 1024) (W20 m ρ c (Proc.devRef .tc main_v37)) (fun l x => dub d p l x + dub e q l x) :=
  ⟨((h_v30 (W18 m ρ c) (v27 m ρ c hu hp hq)).eqv (W20_of m ρ c main_v30 (by decide +kernel))).congr fun l g n _ hg hn => bu_re u p q hg hn rfl,
    ((h_v32 (W18 m ρ c) (v27 m ρ c hu hp hq)).eqv (W20_of m ρ c main_v32 (by decide +kernel))).congr fun l g n _ hg hn => bu_im u p q hg hn rfl,
    ((arr1_2 (V19 m ρ) c (h_v36 (W18 m ρ c) (((((((((((((((((((hd).eqv (W1_of m ρ c main_arg3 (by decide +kernel))).eqv (W2_of m ρ c main_arg3 (by decide +kernel))).eqv (W3_of m ρ c main_arg3 (by decide +kernel))).eqv (W4_of m ρ c main_arg3 (by decide +kernel))).eqv (W5_of m ρ c main_arg3 (by decide +kernel))).eqv (W6_of m ρ c main_arg3 (by decide +kernel))).eqv (W7_of m ρ c main_arg3 (by decide +kernel))).eqv (W8_of m ρ c main_arg3 (by decide +kernel))).eqv (W9_of m ρ c main_arg3 (by decide +kernel))).eqv (W10_of m ρ c main_arg3 (by decide +kernel))).eqv (W11_of m ρ c main_arg3 (by decide +kernel))).eqv (W12_of m ρ c main_arg3 (by decide +kernel))).eqv (W13_of m ρ c main_arg3 (by decide +kernel))).eqv (W14_of m ρ c main_arg3 (by decide +kernel))).eqv (W15_of m ρ c main_arg3 (by decide +kernel))).eqv (W16_of m ρ c main_arg3 (by decide +kernel))).eqv (W17_of m ρ c main_arg3 (by decide +kernel))).eqv (W18_of m ρ c main_arg3 (by decide +kernel))) (((((((((((((((((((he).eqv (W1_of m ρ c main_arg4 (by decide +kernel))).eqv (W2_of m ρ c main_arg4 (by decide +kernel))).eqv (W3_of m ρ c main_arg4 (by decide +kernel))).eqv (W4_of m ρ c main_arg4 (by decide +kernel))).eqv (W5_of m ρ c main_arg4 (by decide +kernel))).eqv (W6_of m ρ c main_arg4 (by decide +kernel))).eqv (W7_of m ρ c main_arg4 (by decide +kernel))).eqv (W8_of m ρ c main_arg4 (by decide +kernel))).eqv (W9_of m ρ c main_arg4 (by decide +kernel))).eqv (W10_of m ρ c main_arg4 (by decide +kernel))).eqv (W11_of m ρ c main_arg4 (by decide +kernel))).eqv (W12_of m ρ c main_arg4 (by decide +kernel))).eqv (W13_of m ρ c main_arg4 (by decide +kernel))).eqv (W14_of m ρ c main_arg4 (by decide +kernel))).eqv (W15_of m ρ c main_arg4 (by decide +kernel))).eqv (W16_of m ρ c main_arg4 (by decide +kernel))).eqv (W17_of m ρ c main_arg4 (by decide +kernel))).eqv (W18_of m ρ c main_arg4 (by decide +kernel)))) (((v26 m ρ c hp hq).eqv (W18_of m ρ c main_v26 (by decide +kernel))).eqv (W19_of m ρ c main_v26 (by decide +kernel)))).eqv (W20_arr m ρ c 2)).congr fun l x _ hx => du_eq p q d e hx⟩
end

end Cert.Kernel8Ideal.Own

namespace Cert.Reference8Ideal.Own

open Idealize.ShloMosaic Idealize.ShloMosaic.TcCoe Idealize.ShloMosaic.Tactic
open Cert.Reference8Ideal Cert.Reference8Ideal.Gen Cert.Mat Cert.Kernel8Ideal.Own

theorem d_bu {b : FVec Ideal S64x64x16 .f32} {v : FVec Ideal S2048x1024 .f32} {p : ℕ → ℕ → ℕ → EReal} {u : ℕ → ℕ → EReal} (hb : T3 b p) (hv : Mt v u) :
    T3 (transpose S2048x64x64 [2, 0, 1] (Host.dotGeneral dot_S64x64x16_S2048x64x16_S64x64x2048_2_2_1_0_0_1 none b
      (shapeCast _ v shapeCasts_S2048x1024_S2048x64x16)) transposes_S64x64x2048_S2048x64x64_2_0_1) (bu u p) := by
  intro i
  pointwise
  exact Finset.sum_congr rfl fun k _ => congrArg₂ _ (hb _) (hv _)
theorem d_du {b b' : FVec Ideal S64x64x16 .f32} {v v' : FVec Ideal S2048x64x64 .f32} {p q d e : ℕ → ℕ → ℕ → EReal} (hb : T3 b p) (hb' : T3 b' q)
    (hv : T3 v d) (hv' : T3 v' e) :
    Mt (shapeCast S2048x1024 (addf (F := Ideal) (transpose S2048x64x16 [1, 0, 2] (Host.dotGeneral dot_S64x64x2048_S64x64x16_S64x2048x16_1_1_2_2_0_0 none
        (transpose S64x64x2048 [1, 2, 0] v' transposes_S2048x64x64_S64x64x2048_1_2_0) b') transposes_S64x2048x16_S2048x64x16_1_0_2)
      (transpose S2048x64x16 [1, 0, 2] (Host.dotGeneral dot_S64x64x2048_S64x64x16_S64x2048x16_1_1_2_2_0_0 none
        (transpose S64x64x2048 [1, 2, 0] v transposes_S2048x64x64_S64x64x2048_1_2_0) b) transposes_S64x2048x16_S2048x64x16_1_0_2))
      shapeCasts_S2048x64x16_S2048x1024) (fun l x => dub d p l x + dub e q l x) := by
  intro i
  refine Eq.trans ?_ (add_comm _ _)
  pointwise
  exact congrArg₂ _ (Finset.sum_congr rfl fun k _ => congrArg₂ _ (hv' _) (hb' _)) (Finset.sum_congr rfl fun k _ => congrArg₂ _ (hv _) (hb _))

end Cert.Reference8Ideal.Own

namespace Cert.Proof

open Idealize.ShloMosaic Idealize.ShloMosaic.TcCoe Idealize.ShloMosaic.Tactic Idealize.SL.Sem
open Cert.Mat

/-- Over the reals, the input product of the S5 branch and its gradient into the rows are the reference's. -/
theorem value8 : @Cert.algebraic_Kernel8Ideal_Reference8Ideal Cert.Kernel8Ideal.Gen.facts Cert.Reference8Ideal.Gen.facts := by
  intro m g m' g' hp ha
  refine ⟨fun c => Cert.Kernel8Ideal.Gen.W20 m g c (Proc.devRef .tc Cert.Kernel8Ideal.main_v30), fun c => Cert.Kernel8Ideal.Gen.W20 m g c (Proc.devRef .tc Cert.Kernel8Ideal.main_v32), fun c => Cert.Kernel8Ideal.Gen.W20 m g c (Proc.devRef .tc Cert.Kernel8Ideal.main_v37), ?_, ?_⟩
  · refine (θ_run Cert.Kernel8Ideal.defs _ _).mono (fun r h c => ?_) (Cert.Kernel8Ideal.Own.run m g)
    have k (b : Ref Cert.Kernel8Ideal.sig .tc) (hb : ¬(Proc.devRef .tc b : DevRef Cert.Kernel8Ideal.τ Cert.Kernel8Ideal.sig).isScoped = true) := h c _ (Cert.Kernel8Ideal.Gen.mem_uc b hb)
    exact ⟨k _ (by decide), k _ (by decide), k _ (by decide),
      (k _ (by decide)).trans (Cert.Kernel8Ideal.Gen.W20_main_arg0 m g c),
      (k _ (by decide)).trans (Cert.Kernel8Ideal.Gen.W20_main_arg1 m g c),
      (k _ (by decide)).trans (Cert.Kernel8Ideal.Gen.W20_main_arg2 m g c),
      (k _ (by decide)).trans (Cert.Kernel8Ideal.Gen.W20_main_arg3 m g c),
      (k _ (by decide)).trans (Cert.Kernel8Ideal.Gen.W20_main_arg4 m g c)⟩
  · refine (θ_run Cert.Reference8Ideal.defs _ _).mono (fun r h c => ?_) (Cert.Reference8Ideal.Value.run m' g')
    obtain ⟨e0, e1, e2, e3, e4⟩ := ha c
    obtain ⟨o0, o1, o2, a0, a1, a2, a3, a4⟩ := h c
    rw [e0, e1] at o0
    rw [e0, e2] at o1
    rw [e1, e2, e3, e4] at o2
    obtain ⟨k0, k1, k2⟩ := Cert.Kernel8Ideal.Own.results m g c (num_mt _) (num_t3 _) (num_t3 _) (num_t3 _) (num_t3 _)
    exact ⟨o0.trans (k0.uniq (Cert.Reference8Ideal.Own.d_bu (num_t3 _) (num_mt _))), o1.trans (k1.uniq (Cert.Reference8Ideal.Own.d_bu (num_t3 _) (num_mt _))),
      o2.trans (uniq k2 (Cert.Reference8Ideal.Own.d_du (num_t3 _) (num_t3 _) (num_t3 _) (num_t3 _))), a0, a1, a2, a3, a4⟩

end Cert.Proof

end
-- ==== Proof.B9.lean ====
module

public import proofs.«01_k».proof.Proof.B8
public import proofs.«01_k».proof.Proof.Gen.Kernel9Ideal.Frame
public import proofs.«01_k».proof.Proof.Gen.Reference9Ideal.Run
public import proofs.«01_k».proof.Defs
public import Idealize.ShloMosaic.Lib.Pipeline.ValueKit
public import Idealize.ShloMosaic.Lib.Pointwise.Index
public import Idealize.ShloMosaic.Lib.Pointwise.Reshape
public import Idealize.ShloMosaic.Lib.VecWindow
public import Idealize.ShloMosaic.Lib.StableHlo.ReadAt
public import Idealize.ShloMosaic.Lib.Tactic

@[expose] public section

set_option maxRecDepth 200000

noncomputable section

namespace Cert.Kernel9Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel9Ideal.Gen
open Cert.Mat
open Cert.Kernel8Ideal.Own (pk)
open Idealize.ShloMosaic.Rounds
open Idealize.ShloMosaic.StableHlo (after)

/-! ## The call -/

theorem pay1 {x : Vec Ideal S1024x256 .f32} {w : Vec Ideal S1024x2048 .f32} {f g : ℕ → ℕ → EReal}
    (hx : Mt x f) (hw : Mt w g) : Mt (k0_pay1 x w) (mm 1024 (tr f) g) := by
  intro i
  pointwise [k0_pay1]
  exact Finset.sum_congr rfl fun k _ => congrArg₂ _ (hx _) (hw _)
theorem pay2 {x : Vec Ideal S1024x256 .f32} {w : Vec Ideal S1024x2048 .f32} {a : Vec Ideal S256x2048 .f32} {f g h : ℕ → ℕ → EReal}
    (hx : Mt x f) (hw : Mt w g) (ha : Mt a h) : Mt (k0_pay2 x w a) (fun i j => h i j + mm 1024 (tr f) g i j) := fun i => by
  refine Eq.trans ?_ (congrArg₂ (fun a b : EReal => a + b) (ha i) (pay1 hx hw i))
  pointwise [k0_pay2]

section
variable (m : (ℓ : Loc nD τ sig) → Buf (Elt Ideal) ℓ) (c : Dev nD)

theorem x0_0 : ∀ t : Fin cfg0.N, win0_0.index t = ![t.val % 2, t.val / 2] := (by decide +kernel : ∀ t : Fin grid0.N, _)
theorem x0_1 : ∀ t : Fin cfg0.N, win0_1.index t = ![t.val % 2, t.val / 2] := (by decide +kernel : ∀ t : Fin grid0.N, _)
theorem x0_2 : ∀ t : Fin cfg0.N, win0_2.index t = ![t.val / 2, 0] := (by decide +kernel : ∀ t : Fin grid0.N, _)
theorem odd2 : ∀ t : Fin cfg0.N, (cfg0.win 2).flush t = true → t.val % 2 = 1 := by decide +kernel
theorem b0_0 {f : ℕ → ℕ → EReal} (h : Mt (a := 2048) (b := 1024) (V m c (Pipeline.arrRef spec0 0)) f) (t : Fin cfg0.N) :
    Mt (a := 1024) (b := 256) (iblk m c 0 t) (fun i j => f (t.val % 2 * 1024 + i) (t.val / 2 * 256 + j)) := by
  intro y
  refine (h (((cfg0.win 0).blk t).view.emb y)).trans ?_
  blk_simp [x0_0]
theorem b0_1 {f : ℕ → ℕ → EReal} (h : Mt (a := 2048) (b := 8192) (V m c (Pipeline.arrRef spec0 1)) f) (t : Fin cfg0.N) :
    Mt (a := 1024) (b := 2048) (iblk m c 1 t) (fun i j => f (t.val % 2 * 1024 + i) (t.val / 2 * 2048 + j)) := by
  intro y
  refine (h (((cfg0.win 1).blk t).view.emb y)).trans ?_
  blk_simp [x0_1]
theorem even_st {f g : ℕ → ℕ → EReal} (h0 : Mt (a := 2048) (b := 1024) (V m c (Pipeline.arrRef spec0 0)) f)
    (h1 : Mt (a := 2048) (b := 8192) (V m c (Pipeline.arrRef spec0 1)) g) (t : Fin cfg0.N) (ht : t.val % 2 = 0) :
    Mt (a := 256) (b := 2048) (outsAt0 m c t.val t.isLt) (fun i q => ∑ k : Fin 1024, f k.val (t.val / 2 * 256 + i) * g k.val (t.val / 2 * 2048 + q)) := by
  rw [outsAt0_A m c t ht (by omega)]
  frame_out
  refine (pay1 (b0_0 m c h0 t) (b0_1 m c h1 t)).congr fun i j _ _ => ?_
  simp [ht, mm, tr]
theorem odd_st {f g : ℕ → ℕ → EReal} (h0 : Mt (a := 2048) (b := 1024) (V m c (Pipeline.arrRef spec0 0)) f)
    (h1 : Mt (a := 2048) (b := 8192) (V m c (Pipeline.arrRef spec0 1)) g) (t : Fin cfg0.N) (ht : t.val % 2 = 1) :
    Mt (a := 256) (b := 2048) (outsAt0 m c t.val t.isLt) (fun i q => ∑ k : Fin 2048, f k.val (t.val / 2 * 256 + i) * g k.val (t.val / 2 * 2048 + q)) := by
  have e := even_st m c h0 h1 ⟨t.val - 1, by omega⟩ (by dsimp only; omega)
  rw [outsAt0_B m c t (by omega) ht]
  frame_out
  refine (pay2 (b0_0 m c h0 t) (b0_1 m c h1 t) e).congr fun i j _ _ => ?_
  have q : (t.val - 1) / 2 = t.val / 2 := by omega
  refine Eq.trans ?_ (sum_split 1024 1024 fun k => f k (t.val / 2 * 256 + i) * g k (t.val / 2 * 2048 + j)).symm
  simp [ht, q, mm, tr]
theorem arr {f g : ℕ → ℕ → EReal} (h0 : Mt (a := 2048) (b := 1024) (V m c (Pipeline.arrRef spec0 0)) f)
    (h1 : Mt (a := 2048) (b := 8192) (V m c (Pipeline.arrRef spec0 1)) g) :
    Mt (a := 1024) (b := 2048) ((dats m 0 c).arrAt 2 cfg0.N) (fun r q => ∑ k : Fin 2048, f k.val r * g k.val (r / 256 * 2048 + q)) := by
  intro i
  refine (dats m 0 c).arrAt_forall_of_covers 2 (fun (i : (⟨2, ![1024, 2048]⟩ : Shape).Idx) (v : EReal) =>
    v = ∑ k : Fin 2048, f k.val (i 0).val * g k.val ((i 0).val / 256 * 2048 + (i 1).val)) (by decide +kernel) (fun t hf y => ?_) i
  blk_simp [x0_2]
  rw [after0_2]
  refine (odd_st m c h0 h1 t (odd2 t hf) y).trans ?_
  have hy : (y 0).val < 256 := (y 0).isLt
  have e1 : (t.val / 2 * 256 + (y 0).val) / 256 = t.val / 2 := by omega
  rw [e1]
end

/-! ## The lines before and after it -/

section
variable (V : Valuation τ sig (Elt Ideal))
theorem h_v3 {p q : ℕ → ℕ → ℕ → EReal} (hp : T3 (a := 2048) (b := 64) (c := 64) (V (Proc.devRef .tc main_arg1)) p)
    (hq : T3 (a := 2048) (b := 64) (c := 64) (V (Proc.devRef .tc main_arg2)) q) :
    Mt (a := 2048) (b := 8192) (after hostOps0 V (Proc.devRef .tc main_v3)) (pk p q) := by
  intro i
  after_reads_at
  unfold pk
  split
  · after_reads_at
    exact hp _
  · after_reads_at
    exact hq _
abbrev Y0 : Valuation τ sig (Elt Ideal) := after hostOps1 V
abbrev Y1 : Valuation τ sig (Elt Ideal) := after hostOps1_1 (Y0 V)
abbrev Y2 : Valuation τ sig (Elt Ideal) := after hostOps1_2 (Y1 V)
abbrev Y3 : Valuation τ sig (Elt Ideal) := after hostOps1_3 (Y2 V)
abbrev Y4 : Valuation τ sig (Elt Ideal) := after hostOps1_4 (Y3 V)
abbrev Y5 : Valuation τ sig (Elt Ideal) := after hostOps1_5 (Y4 V)
abbrev Y6 : Valuation τ sig (Elt Ideal) := after hostOps1_6 (Y5 V)
abbrev Y7 : Valuation τ sig (Elt Ideal) := after hostOps1_7 (Y6 V)
abbrev Y8 : Valuation τ sig (Elt Ideal) := after hostOps1_8 (Y7 V)
abbrev Y9 : Valuation τ sig (Elt Ideal) := after hostOps1_9 (Y8 V)
abbrev Y10 : Valuation τ sig (Elt Ideal) := after hostOps1_10 (Y9 V)
abbrev Y11 : Valuation τ sig (Elt Ideal) := after hostOps1_11 (Y10 V)
abbrev Y12 : Valuation τ sig (Elt Ideal) := after hostOps1_12 (Y11 V)
theorem flat : ∀ (l : List (List (HloOp τ sig (Elt Ideal)))) (V : Valuation τ sig (Elt Ideal)), after l.flatten V = l.foldl (fun V o => after o V) V
  | [], _ => rfl
  | o :: l, V => by
    have e : ∀ (a b : List (HloOp τ sig (Elt Ideal))) (V : Valuation τ sig (Elt Ideal)), after (a ++ b) V = after b (after a V) := fun a => by
      induction a with
      | nil => exact fun _ _ => rfl
      | cons x a ih => exact fun b V => ih b _
    rw [List.flatten_cons, e, flat l]
    rfl
theorem h_v6 {f : ℕ → ℕ → EReal} (h : Mt (a := 1024) (b := 2048) (V (Proc.devRef .tc main_v4)) f) :
    T3 (a := 1024) (b := 16) (c := 64) (after hostOps1 V (Proc.devRef .tc main_v6)) (fun r a n => f r (a * 64 + n)) := by
  intro i
  after_reads_at
  exact h _
theorem r_v9 (i) : (Y3 V) (Proc.devRef .tc main_v9) i = BitVec.ofNat 32 ((i 0).val / 16 % 16) := by
  refine Eq.trans ?_ (fmod16 (i 0))
  after_reads_at
  rfl
theorem h_v12 {f : ℕ → ℕ → ℕ → EReal} (e9 : ∀ i, V (Proc.devRef .tc main_v9) i = BitVec.ofNat 32 ((i 0).val / 16 % 16))
    (e6 : T3 (a := 1024) (b := 16) (c := 64) (V (Proc.devRef .tc main_v6)) f) :
    T3 (a := 1024) (b := 16) (c := 64) (after hostOps1_5 (after hostOps1_4 V) (Proc.devRef .tc main_v12)) (fun r a n => if r / 16 % 16 = a then f r a n else 0) := by
  intro i
  after_reads_at
  have h0 : (i 0).val / 16 % 16 < 1024 := by omega
  have h1 : (i 1).val < 16 := (i 1).isLt
  have h1 : (i 1).val < 1024 := by omega
  exact (sel_eq (e9 _) rfl h0 h1 _ _).trans (if_congr Iff.rfl (e6 _) cast0')
theorem h_v15 {f : ℕ → ℕ → ℕ → EReal} (e : T3 (a := 1024) (b := 16) (c := 64) (V (Proc.devRef .tc main_v12)) f) :
    T3 (a := 64) (b := 64) (c := 16) (after hostOps1_6 V (Proc.devRef .tc main_v15)) (fun g n a => ∑ k : Fin 16, f (g * 16 + a) k.val n) := by
  intro i
  after_reads_at
  exact Finset.sum_congr rfl fun k _ => e _
theorem h_v17 {f : ℕ → ℕ → EReal} (h : Mt (a := 1024) (b := 2048) (V (Proc.devRef .tc main_v4)) f) :
    T3 (a := 1024) (b := 16) (c := 64) (after hostOps1_6 V (Proc.devRef .tc main_v17)) (fun r a n => f r (1024 + (a * 64 + n))) := by
  intro i
  after_reads_at
  exact h _
theorem r_v20 (i) : (Y9 V) (Proc.devRef .tc main_v20) i = BitVec.ofNat 32 ((i 0).val / 16 % 16) := by
  refine Eq.trans ?_ (fmod16 (i 0))
  after_reads_at
  rfl
theorem h_v23 {f : ℕ → ℕ → ℕ → EReal} (e9 : ∀ i, V (Proc.devRef .tc main_v20) i = BitVec.ofNat 32 ((i 0).val / 16 % 16))
    (e6 : T3 (a := 1024) (b := 16) (c := 64) (V (Proc.devRef .tc main_v17)) f) :
    T3 (a := 1024) (b := 16) (c := 64) (after hostOps1_11 (after hostOps1_10 V) (Proc.devRef .tc main_v23)) (fun r a n => if r / 16 % 16 = a then f r a n else 0) := by
  intro i
  after_reads_at
  have h0 : (i 0).val / 16 % 16 < 1024 := by omega
  have h1 : (i 1).val < 16 := (i 1).isLt
  have h1 : (i 1).val < 1024 := by omega
  exact (sel_eq (e9 _) rfl h0 h1 _ _).trans (if_congr Iff.rfl (e6 _) cast0')
theorem h_v26 {f : ℕ → ℕ → ℕ → EReal} (e : T3 (a := 1024) (b := 16) (c := 64) (V (Proc.devRef .tc main_v23)) f) :
    T3 (a := 64) (b := 64) (c := 16) (after hostOps1_12 V (Proc.devRef .tc main_v26)) (fun g n a => ∑ k : Fin 16, f (g * 16 + a) k.val n) := by
  intro i
  after_reads_at
  exact Finset.sum_congr rfl fun k _ => e _
theorem pick {x : ℕ} (hx : x < 16) (F : ℕ → EReal) : (∑ k : Fin 16, if x = k.val then F k.val else 0) = F x := by
  rw [Fin.sum_univ_eq_sum_range fun k => if x = k then F k else 0, Finset.sum_ite_eq, if_pos (Finset.mem_range.2 hx)]
theorem res1 {f : ℕ → ℕ → EReal} (h : Mt (a := 1024) (b := 2048) (V (Proc.devRef .tc main_v4)) f) :
    T3 (a := 64) (b := 64) (c := 16) (Y12 V (Proc.devRef .tc main_v15)) (fun g n a => f (g * 16 + a) ((g * 16 + a) / 16 % 16 * 64 + n)) :=
  (((((((h_v15 (Y5 V) (h_v12 (Y3 V) (r_v9 V) ((((h_v6 V h).eqv (StableHlo.after_of_writes_sub (r := main_v6) hostOps1_1 _ hostOps1_1_writes (by decide +kernel))).eqv (StableHlo.after_of_writes_sub (r := main_v6) hostOps1_2 _ hostOps1_2_writes (by decide +kernel))).eqv (StableHlo.after_of_writes_sub (r := main_v6) hostOps1_3 _ hostOps1_3_writes (by decide +kernel))))).eqv (StableHlo.after_of_writes_sub (r := main_v15) hostOps1_7 _ hostOps1_7_writes (by decide +kernel))).eqv (StableHlo.after_of_writes_sub (r := main_v15) hostOps1_8 _ hostOps1_8_writes (by decide +kernel))).eqv (StableHlo.after_of_writes_sub (r := main_v15) hostOps1_9 _ hostOps1_9_writes (by decide +kernel))).eqv (StableHlo.after_of_writes_sub (r := main_v15) hostOps1_10 _ hostOps1_10_writes (by decide +kernel))).eqv (StableHlo.after_of_writes_sub (r := main_v15) hostOps1_11 _ hostOps1_11_writes (by decide +kernel))).eqv (StableHlo.after_of_writes_sub (r := main_v15) hostOps1_12 _ hostOps1_12_writes (by decide +kernel))).congr
    fun g n a _ _ _ => pick (by omega) fun k => f (g * 16 + a) (k * 64 + n)
theorem res2 {f : ℕ → ℕ → EReal} (h : Mt (a := 1024) (b := 2048) (V (Proc.devRef .tc main_v4)) f) :
    T3 (a := 64) (b := 64) (c := 16) (Y12 V (Proc.devRef .tc main_v26)) (fun g n a => f (g * 16 + a) (1024 + ((g * 16 + a) / 16 % 16 * 64 + n))) :=
  (h_v26 (Y11 V) (h_v23 (Y9 V) (r_v20 V) ((((h_v17 (Y5 V) (((((((h).eqv (StableHlo.after_of_writes_sub (r := main_v4) hostOps1 _ hostOps1_writes (by decide +kernel))).eqv (StableHlo.after_of_writes_sub (r := main_v4) hostOps1_1 _ hostOps1_1_writes (by decide +kernel))).eqv (StableHlo.after_of_writes_sub (r := main_v4) hostOps1_2 _ hostOps1_2_writes (by decide +kernel))).eqv (StableHlo.after_of_writes_sub (r := main_v4) hostOps1_3 _ hostOps1_3_writes (by decide +kernel))).eqv (StableHlo.after_of_writes_sub (r := main_v4) hostOps1_4 _ hostOps1_4_writes (by decide +kernel))).eqv (StableHlo.after_of_writes_sub (r := main_v4) hostOps1_5 _ hostOps1_5_writes (by decide +kernel)))).eqv (StableHlo.after_of_writes_sub (r := main_v17) hostOps1_7 _ hostOps1_7_writes (by decide +kernel))).eqv (StableHlo.after_of_writes_sub (r := main_v17) hostOps1_8 _ hostOps1_8_writes (by decide +kernel))).eqv (StableHlo.after_of_writes_sub (r := main_v17) hostOps1_9 _ hostOps1_9_writes (by decide +kernel))))).congr
    fun g n a _ _ _ => pick (by omega) fun k => f (g * 16 + a) (1024 + (k * 64 + n))
end

/-! ## The results -/

/-- The product of a gradient of the states with the rows of a group. -/
def db (d : ℕ → ℕ → ℕ → EReal) (u : ℕ → ℕ → EReal) (g n a : ℕ) : EReal := ∑ l : Fin 2048, d l.val g n * u l.val (g * 16 + a)
section
variable (m : (ℓ : Loc nD τ sig) → Buf (Elt Ideal) ℓ) (c : Dev nD)
/-- The arrays as the region leaves them. -/
abbrev U0 : Valuation τ sig (Elt Ideal) := Pipeline.withArrays (cfgs 0).spec c (V0 m c) fun w => (dats m 0 c).arrAt w (cfgs 0).N
theorem tail (b : Ref sig .tc) : Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12] c b = Y12 (U0 m c) (Proc.devRef .tc b) := by
  unfold Pipeline.afterTail₀
  rw [flat]
  rfl
theorem u0 : U0 m c (Proc.devRef .tc main_v4) = (dats m 0 c).arrAt 2 cfg0.N :=
  Pipeline.withArrays_arr (cfgs 0).spec (by decide) c _ _ 2
/-- The two results. -/
theorem results {u : ℕ → ℕ → EReal} {d e : ℕ → ℕ → ℕ → EReal} (hu : Mt (a := 2048) (b := 1024) (m ((c : Thread nD τ).loc main_arg0)) u)
    (hd : T3 (a := 2048) (b := 64) (c := 64) (m ((c : Thread nD τ).loc main_arg1)) d) (he : T3 (a := 2048) (b := 64) (c := 64) (m ((c : Thread nD τ).loc main_arg2)) e) :
    T3 (a := 64) (b := 64) (c := 16) (Y12 (U0 m c) (Proc.devRef .tc main_v15)) (db d u)
    ∧ T3 (a := 64) (b := 64) (c := 16) (Y12 (U0 m c) (Proc.devRef .tc main_v26)) (db e u) := by
  have h : Mt (a := 1024) (b := 2048) (U0 m c (Proc.devRef .tc main_v4)) (fun r q => ∑ k : Fin 2048, u k.val r * pk d e k.val (r / 256 * 2048 + q)) :=
    (arr m c hu (h_v3 _ hd he)).eqv (u0 m c)
  exact ⟨(res1 _ h).congr fun g n a hg hn ha => Finset.sum_congr rfl fun l _ => by
        unfold pk
        rw [if_pos (by omega), mul_comm, show ((g * 16 + a) / 256 * 2048 + ((g * 16 + a) / 16 % 16 * 64 + n)) / 2048 * 16 + ((g * 16 + a) / 256 * 2048 + ((g * 16 + a) / 16 % 16 * 64 + n)) % 2048 / 64 = g by omega, show ((g * 16 + a) / 256 * 2048 + ((g * 16 + a) / 16 % 16 * 64 + n)) % 2048 % 64 = n by omega],
    (res2 _ h).congr fun g n a hg hn ha => Finset.sum_congr rfl fun l _ => by
        unfold pk
        rw [if_neg (by omega), mul_comm, show ((g * 16 + a) / 256 * 2048 + (1024 + ((g * 16 + a) / 16 % 16 * 64 + n))) / 2048 * 16 + (((g * 16 + a) / 256 * 2048 + (1024 + ((g * 16 + a) / 16 % 16 * 64 + n))) % 2048 - 1024) / 64 = g by omega, show (((g * 16 + a) / 256 * 2048 + (1024 + ((g * 16 + a) / 16 % 16 * 64 + n))) % 2048 - 1024) % 64 = n by omega]⟩
end

end Cert.Kernel9Ideal.Own

namespace Cert.Reference9Ideal.Own

open Idealize.ShloMosaic Idealize.ShloMosaic.TcCoe Idealize.ShloMosaic.Tactic
open Cert.Reference9Ideal Cert.Reference9Ideal.Gen Cert.Mat Cert.Kernel9Ideal.Own

theorem d_b {s : FVec Ideal S2048x64x64 .f32} {v : FVec Ideal S2048x1024 .f32} {d : ℕ → ℕ → ℕ → EReal} {u : ℕ → ℕ → EReal} (hs : T3 s d) (hv : Mt v u) :
    T3 (Host.dotGeneral dot_S64x64x2048_S2048x64x16_S64x64x16_2_0_1_2_0_1 none (transpose S64x64x2048 [1, 2, 0] s transposes_S2048x64x64_S64x64x2048_1_2_0)
      (shapeCast _ v shapeCasts_S2048x1024_S2048x64x16)) (db d u) := by
  intro i
  pointwise
  exact Finset.sum_congr rfl fun k _ => congrArg₂ _ (hs _) (hv _)

end Cert.Reference9Ideal.Own

namespace Cert.Proof

open Idealize.ShloMosaic Idealize.ShloMosaic.TcCoe Idealize.ShloMosaic.Tactic Idealize.SL.Sem
open Cert.Mat

/-- Over the reals, the gradient of the input matrices of the S5 branch is the reference's. -/
theorem value9 : @Cert.algebraic_Kernel9Ideal_Reference9Ideal Cert.Kernel9Ideal.Gen.facts Cert.Reference9Ideal.Gen.facts := by
  intro m g m' g' hp ha
  refine ⟨fun c => Cert.Kernel9Ideal.Own.Y12 (Cert.Kernel9Ideal.Own.U0 m c) (Proc.devRef .tc Cert.Kernel9Ideal.main_v15), fun c => Cert.Kernel9Ideal.Own.Y12 (Cert.Kernel9Ideal.Own.U0 m c) (Proc.devRef .tc Cert.Kernel9Ideal.main_v26), ?_, ?_⟩
  · refine (θ_run Cert.Kernel9Ideal.defs _ _).mono (fun r h c => ?_) (Cert.Kernel9Ideal.Gen.run_main m g)
    have k (b : Ref Cert.Kernel9Ideal.sig .tc) (hb : b ∈ Pipeline.restRefs Cert.Kernel9Ideal.sig (Cert.Kernel9Ideal.cfgs 0).spec) := ((h c).2 b hb).trans (Cert.Kernel9Ideal.Own.tail m c b)
    exact ⟨k _ (Pipeline.mem_restRefs_of _ (by decide) (by decide)), k _ (Pipeline.mem_restRefs_of _ (by decide) (by decide)), ((h c).1 0).trans (((Cert.Kernel9Ideal.Gen.dats m 0 c).arrAt_in 0 rfl _).trans ((Cert.Kernel9Ideal.Gen.A_eq m c 0).trans (Cert.Kernel9Ideal.Gen.V_main_arg0 m c))), ((h c).2 Cert.Kernel9Ideal.main_arg1 (Pipeline.mem_restRefs_of _ (by decide) (by decide))).trans (Cert.Kernel9Ideal.Gen.W_main_arg1 m (Cert.Kernel9Ideal.Gen.dats m) c), ((h c).2 Cert.Kernel9Ideal.main_arg2 (Pipeline.mem_restRefs_of _ (by decide) (by decide))).trans (Cert.Kernel9Ideal.Gen.W_main_arg2 m (Cert.Kernel9Ideal.Gen.dats m) c)⟩
  · refine (θ_run Cert.Reference9Ideal.defs _ _).mono (fun r h c => ?_) (Cert.Reference9Ideal.Value.run m' g')
    obtain ⟨e0, e1, e2⟩ := ha c
    obtain ⟨o0, o1, a0, a1, a2⟩ := h c
    obtain ⟨k0, k1⟩ := Cert.Kernel9Ideal.Own.results m c (num_mt _) (num_t3 _) (num_t3 _)
    rw [e0, e1] at o0
    rw [e0, e2] at o1
    exact ⟨o0.trans (k0.uniq (Cert.Reference9Ideal.Own.d_b (num_t3 _) (num_mt _))), o1.trans (k1.uniq (Cert.Reference9Ideal.Own.d_b (num_t3 _) (num_mt _))), a0, a1, a2⟩

end Cert.Proof

end
-- ==== Proof.B10.lean ====
module

public import proofs.«01_k».proof.Proof.B8
public import proofs.«01_k».proof.Proof.Fin
public import proofs.«01_k».proof.Proof.Gen.Pre_finite10
public import proofs.«01_k».proof.Proof.Gen.Kernel10Ideal.Frame
public import proofs.«01_k».proof.Proof.Gen.Reference10Ideal.Run
public import proofs.«01_k».proof.Defs
public import Idealize.ShloMosaic.Lib.Pipeline.ValueKit
public import Idealize.ShloMosaic.Lib.Pointwise.Index
public import Idealize.ShloMosaic.Lib.Pointwise.Reshape
public import Idealize.ShloMosaic.Lib.VecWindow
public import Idealize.ShloMosaic.Lib.StableHlo.ReadAt
public import Idealize.ShloMosaic.Lib.Tactic

@[expose] public section

set_option maxRecDepth 200000

noncomputable section

namespace Cert.Kernel10Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel10Ideal.Gen
open Cert.Mat
open Cert.Kernel8Ideal.Own (pk)
open Idealize.ShloMosaic.Rounds
open Idealize.ShloMosaic.StableHlo (after)

/-! ## The two calls -/

theorem pay0 {x : Vec Ideal S1024x2048 .f32} {w : Vec Ideal S2048x256 .bf16} {f g : ℕ → ℕ → EReal}
    (hx : Mt x f) (hw : Mt w g) : Mt (k0_pay1 x w) (mm 2048 f g) := by
  intro i
  pointwise [k0_pay1]
  exact Finset.sum_congr rfl fun k _ => congrArg₂ _ (hx _) (hw _)
theorem o0_2 {x0} {x1} : out0_2 (F := Ideal) x0 x1 = k0_pay1 x0 x1 := by
  unfold out0_2
  rw [View.canon_cons_unit_lit]
  · rw [View.ld_unit_lit, View.ld_unit_lit] <;> decide
  · decide
theorem pay1 {x : Vec Ideal S1024x256 .bf16} {w : Vec Ideal S2048x256 .bf16} {f g : ℕ → ℕ → EReal}
    (hx : Mt x f) (hw : Mt w g) : Mt (k1_pay1 x w) (mm 256 f (tr g)) := by
  intro i
  pointwise [k1_pay1]
  exact Finset.sum_congr rfl fun k _ => congrArg₂ _ (hx _) (hw _)
theorem o1_2 {x0} {x1} : out1_2 (F := Ideal) x0 x1 = k1_pay1 x0 x1 := by
  unfold out1_2
  rw [View.canon_cons_unit_lit]
  · rw [View.ld_unit_lit, View.ld_unit_lit] <;> decide
  · decide

section
variable (V : (c : Dev nD) → (b : Ref sig .tc) → Buf (Elt Ideal) ((c : Thread nD τ).loc b)) (c : Dev nD)
theorem x0_0 : ∀ t : Fin cfg0.N, win0_0.index t = ![t.val % 2, t.val / 2] := (by decide +kernel : ∀ t : Fin grid0.N, _)
theorem x0_1 : ∀ t : Fin cfg0.N, win0_1.index t = ![t.val / 2, 0] := (by decide +kernel : ∀ t : Fin grid0.N, _)
theorem x0_2 : ∀ t : Fin cfg0.N, win0_2.index t = ![t.val % 2, t.val / 2] := (by decide +kernel : ∀ t : Fin grid0.N, _)
theorem b0_0 {f : ℕ → ℕ → EReal} (h : Mt (a := 2048) (b := 8192) (V c (Pipeline.arrRef spec0 0)) f) (t : Fin cfg0.N) :
    Mt (a := 1024) (b := 2048) (iblk0 V c 0 t) (fun i j => f (t.val % 2 * 1024 + i) (t.val / 2 * 2048 + j)) := by
  intro y
  refine (h (((cfg0.win 0).blk t).view.emb y)).trans ?_
  blk_simp [x0_0]
theorem b0_1 {f : ℕ → ℕ → EReal} (h : Mt (a := 8192) (b := 256) (V c (Pipeline.arrRef spec0 1)) f) (t : Fin cfg0.N) :
    Mt (a := 2048) (b := 256) (iblk0 V c 1 t) (fun i j => f (t.val / 2 * 2048 + i) j) := by
  intro y
  refine (h (((cfg0.win 1).blk t).view.emb y)).trans ?_
  blk_simp [x0_1]
theorem arr0_2 {f g : ℕ → ℕ → EReal} (h0 : Mt (a := 2048) (b := 8192) (V c (Pipeline.arrRef spec0 0)) f)
    (h1 : Mt (a := 8192) (b := 256) (V c (Pipeline.arrRef spec0 1)) g) :
    Mt (a := 2048) (b := 1024) ((dat0 V c).arrAt 2 cfg0.N) (fun i q => ∑ k : Fin 2048, f i (q / 256 * 2048 + k.val) * g (q / 256 * 2048 + k.val) (q % 256)) := by
  intro i
  refine (dat0 V c).arrAt_forall_of_covers 2 (fun (i : (⟨2, ![2048, 1024]⟩ : Shape).Idx) (v : EReal) =>
    v = ∑ k : Fin 2048, f (i 0).val ((i 1).val / 256 * 2048 + k.val) * g ((i 1).val / 256 * 2048 + k.val) ((i 1).val % 256)) (by decide +kernel) (fun t hf y => ?_) i
  blk_simp [x0_2]
  rw [after0_2, o0_2]
  refine (pay0 (b0_0 V c h0 t) (b0_1 V c h1 t) y).trans ?_
  have hy : (y 1).val < 256 := (y 1).isLt
  have e1 : (t.val / 2 * 256 + (y 1).val) / 256 = t.val / 2 := by omega
  have e2 : (t.val / 2 * 256 + (y 1).val) % 256 = (y 1).val := by omega
  rw [e1, e2]
  rfl
theorem x1_0 : ∀ t : Fin cfg1.N, win1_0.index t = ![t.val % 2, t.val / 2] := (by decide +kernel : ∀ t : Fin grid1.N, _)
theorem x1_1 : ∀ t : Fin cfg1.N, win1_1.index t = ![t.val / 2, 0] := (by decide +kernel : ∀ t : Fin grid1.N, _)
theorem x1_2 : ∀ t : Fin cfg1.N, win1_2.index t = ![t.val % 2, t.val / 2] := (by decide +kernel : ∀ t : Fin grid1.N, _)
theorem b1_0 {f : ℕ → ℕ → EReal} (h : Mt (a := 2048) (b := 1024) (V c (Pipeline.arrRef spec1 0)) f) (t : Fin cfg1.N) :
    Mt (a := 1024) (b := 256) (iblk1 V c 0 t) (fun i j => f (t.val % 2 * 1024 + i) (t.val / 2 * 256 + j)) := by
  intro y
  refine (h (((cfg1.win 0).blk t).view.emb y)).trans ?_
  blk_simp [x1_0]
theorem b1_1 {f : ℕ → ℕ → EReal} (h : Mt (a := 8192) (b := 256) (V c (Pipeline.arrRef spec1 1)) f) (t : Fin cfg1.N) :
    Mt (a := 2048) (b := 256) (iblk1 V c 1 t) (fun i j => f (t.val / 2 * 2048 + i) j) := by
  intro y
  refine (h (((cfg1.win 1).blk t).view.emb y)).trans ?_
  blk_simp [x1_1]
theorem arr1_2 {f g : ℕ → ℕ → EReal} (h0 : Mt (a := 2048) (b := 1024) (V c (Pipeline.arrRef spec1 0)) f)
    (h1 : Mt (a := 8192) (b := 256) (V c (Pipeline.arrRef spec1 1)) g) :
    Mt (a := 2048) (b := 8192) ((dat1 V c).arrAt 2 cfg1.N) (fun i q => ∑ k : Fin 256, f i (q / 2048 * 256 + k.val) * g q k.val) := by
  intro i
  refine (dat1 V c).arrAt_forall_of_covers 2 (fun (i : (⟨2, ![2048, 8192]⟩ : Shape).Idx) (v : EReal) =>
    v = ∑ k : Fin 256, f (i 0).val ((i 1).val / 2048 * 256 + k.val) * g (i 1).val k.val) (by decide +kernel) (fun t hf y => ?_) i
  blk_simp [x1_2]
  rw [after1_2, o1_2]
  refine (pay1 (b1_0 V c h0 t) (b1_1 V c h1 t) y).trans ?_
  have hy : (y 1).val < 2048 := (y 1).isLt
  have e1 : (t.val / 2 * 2048 + (y 1).val) / 2048 = t.val / 2 := by omega
  have e2 : (t.val / 2 * 2048 + (y 1).val) % 2048 = (y 1).val := by omega
  rw [e1]
  rfl
end

/-! ## The host lines -/

/-- A group's block at its place on the diagonal. -/
def dg (b : ℕ → ℕ → ℕ → EReal) (i j : ℕ) : EReal := if i / 64 % 16 = j / 16 then b (i / 64) (j % 16) (i % 64) else 0
/-- The two parts one below the other in each block. -/
def ds (p q : ℕ → ℕ → ℕ → EReal) (i j : ℕ) : EReal :=
  if i % 2048 < 1024 then dg p (i / 2048 * 1024 + i % 2048) j else dg q (i / 2048 * 1024 + (i % 2048 - 1024)) j
theorem h_v14 (V : Valuation τ sig (Elt Ideal)) {b : ℕ → ℕ → ℕ → EReal} (e4 : ∀ i, V (Proc.devRef .tc main_v6) i = BitVec.ofNat 32 ((i 0).val / 64 % 16))
    (e6 : ∀ i, V (Proc.devRef .tc main_v8) i = BitVec.ofNat 32 ((i 1).val / 16))
    (e1 : T3 (a := 64) (b := 64) (c := 16) (V (Proc.devRef .tc main_v1)) (fun g n a => b g a n)) :
    Mt (a := 4096) (b := 256) (after hostOps0_7 (after hostOps0_6 V) (Proc.devRef .tc main_v14)) (dg b) := by
  intro i
  refine Eq.trans ?_ (?_ : (if (i 0).val / 64 % 16 = (i 1).val / 16 then b ((i 0).val / 64) ((i 1).val % 16) ((i 0).val % 64) else 0) = dg b (i 0).val (i 1).val)
  after_reads_at
  have h0 : (i 0).val / 64 % 16 < 1024 := by omega
  have h1 : (i 1).val < 256 := (i 1).isLt
  have h1 : (i 1).val / 16 < 1024 := by omega
  refine (sel_eq (e4 i) (e6 i) h0 h1 _ _).trans (if_congr Iff.rfl (e1 _) cast0)
  rfl
theorem h_v27 (V : Valuation τ sig (Elt Ideal)) {b : ℕ → ℕ → ℕ → EReal} (e4 : ∀ i, V (Proc.devRef .tc main_v19) i = BitVec.ofNat 32 ((i 0).val / 64 % 16))
    (e6 : ∀ i, V (Proc.devRef .tc main_v21) i = BitVec.ofNat 32 ((i 1).val / 16))
    (e1 : T3 (a := 64) (b := 64) (c := 16) (V (Proc.devRef .tc main_v16)) (fun g n a => b g a n)) :
    Mt (a := 4096) (b := 256) (after hostOps0_15 (after hostOps0_14 V) (Proc.devRef .tc main_v27)) (dg b) := by
  intro i
  refine Eq.trans ?_ (?_ : (if (i 0).val / 64 % 16 = (i 1).val / 16 then b ((i 0).val / 64) ((i 1).val % 16) ((i 0).val % 64) else 0) = dg b (i 0).val (i 1).val)
  after_reads_at
  have h0 : (i 0).val / 64 % 16 < 1024 := by omega
  have h1 : (i 1).val < 256 := (i 1).isLt
  have h1 : (i 1).val / 16 < 1024 := by omega
  refine (sel_eq (e4 i) (e6 i) h0 h1 _ _).trans (if_congr Iff.rfl (e1 _) cast0)
  rfl
theorem h_v32 (V : Valuation τ sig (Elt Ideal)) {f g : ℕ → ℕ → EReal} (hf : T3 (a := 4) (b := 1024) (c := 256) (V (Proc.devRef .tc main_v15)) (fun s i j => f (s * 1024 + i) j))
    (hg : Mt (a := 4096) (b := 256) (V (Proc.devRef .tc main_v27)) g) :
    Mt (a := 8192) (b := 256) (after hostOps0_16 V (Proc.devRef .tc main_v32))
      (fun i j => if i % 2048 < 1024 then f (i / 2048 * 1024 + i % 2048) j else g (i / 2048 * 1024 + (i % 2048 - 1024)) j) := by
  intro i
  after_reads_at
  refine Eq.trans (dite_congr (propext ⟨fun h => ?_, fun h => ?_⟩) (fun h => ?_) fun h => ?_) (dite_eq_ite (P := (i 0).val % 2048 < 1024))
  · omega
  · omega
  · after_reads_at
    refine (hf _).trans (congrArg (fun n => f n (i 1).val) ?_)
    show (i 0).val / 2048 * 1024 + (i 0).val % 1024 = _
    omega
  · after_reads_at
    refine (hg _).trans (congrArg (fun n => g n (i 1).val) ?_)
    show (i 0).val / 2048 * 1024 + (i 0).val % 1024 = _
    omega
theorem h_v36 (V : Valuation τ sig (Elt Ideal)) {p q : ℕ → ℕ → ℕ → EReal} (hp : T3 (a := 2048) (b := 64) (c := 64) (V (Proc.devRef .tc main_arg0)) p)
    (hq : T3 (a := 2048) (b := 64) (c := 64) (V (Proc.devRef .tc main_arg1)) q) :
    Mt (a := 2048) (b := 8192) (after hostOps0_16 V (Proc.devRef .tc main_v36)) (pk p q) := by
  intro i
  after_reads_at
  unfold pk
  split
  · after_reads_at
    exact hp _
  · after_reads_at
    exact hq _
theorem h_v15 (V : Valuation τ sig (Elt Ideal)) {f : ℕ → ℕ → EReal} (h : Mt (a := 4096) (b := 256) (V (Proc.devRef .tc main_v14)) f) :
    T3 (a := 4) (b := 1024) (c := 256) (after hostOps0_8 V (Proc.devRef .tc main_v15)) (fun s i j => f (s * 1024 + i) j) := by
  intro i
  after_reads_at
  exact h _
theorem h_v38 (V : Valuation τ sig (Elt Ideal)) {f : ℕ → ℕ → EReal} (h : Mt (a := 2048) (b := 1024) (V (Proc.devRef .tc main_arg4)) f) :
    Mt (a := 2048) (b := 1024) (after hostOps1 V (Proc.devRef .tc main_v38)) f := by
  intro i
  after_reads_at
  exact h _
theorem h_v42 (V : Valuation τ sig (Elt Ideal)) {f : ℕ → ℕ → EReal} (h : Mt (a := 2048) (b := 8192) (V (Proc.devRef .tc main_v39)) f) :
    T3 (a := 2048) (b := 64) (c := 64) (after hostOps2 V (Proc.devRef .tc main_v42)) (fun l g n => f l (g / 16 * 2048 + (g % 16 * 64 + n))) := by
  intro i
  after_reads_at
  exact h _
theorem h_v44 (V : Valuation τ sig (Elt Ideal)) {f : ℕ → ℕ → EReal} (h : Mt (a := 2048) (b := 8192) (V (Proc.devRef .tc main_v39)) f) :
    T3 (a := 2048) (b := 64) (c := 64) (after hostOps2 V (Proc.devRef .tc main_v44)) (fun l g n => f l (g / 16 * 2048 + (1024 + (g % 16 * 64 + n)))) := by
  intro i
  after_reads_at
  exact h _
section
variable (m : (ℓ : Loc nD τ sig) → Buf (Elt Ideal) ℓ) (ρ : Dev nD → PrngReg) (c : Dev nD)
theorem r6 (i) : (W4 m ρ c (Proc.devRef .tc main_v6)) i = BitVec.ofNat 32 ((i 0).val / 64 % 16) := by
  refine Eq.trans ?_ (fmod64 (i 0))
  after_reads_at
  rfl
theorem r8 (i) : (W6 m ρ c (Proc.devRef .tc main_v8)) i = BitVec.ofNat 32 ((i 1).val / 16) := by
  refine Eq.trans ?_ (fdiv16 (i 1))
  after_reads_at
  rfl
theorem r19 (i) : (W12 m ρ c (Proc.devRef .tc main_v19)) i = BitVec.ofNat 32 ((i 0).val / 64 % 16) := by
  refine Eq.trans ?_ (fmod64 (i 0))
  after_reads_at
  rfl
theorem r21 (i) : (W14 m ρ c (Proc.devRef .tc main_v21)) i = BitVec.ofNat 32 ((i 1).val / 16) := by
  refine Eq.trans ?_ (fdiv16 (i 1))
  after_reads_at
  rfl
variable {p q : ℕ → ℕ → ℕ → EReal}
theorem v1 (h : T3 (a := 64) (b := 16) (c := 64) (W0 m ρ c (Proc.devRef .tc main_arg2)) p) :
    T3 (a := 64) (b := 64) (c := 16) (W1 m ρ c (Proc.devRef .tc main_v1)) (fun g n a => p g a n) := by
  intro i
  after_reads_at
  exact h _
theorem v16 (h : T3 (a := 64) (b := 16) (c := 64) (W0 m ρ c (Proc.devRef .tc main_arg3)) q) :
    T3 (a := 64) (b := 64) (c := 16) (W9 m ρ c (Proc.devRef .tc main_v16)) (fun g n a => -q g a n) := by
  intro i
  after_reads_at
  exact congrArg Neg.neg (h _)
theorem v14 (h : T3 (a := 64) (b := 16) (c := 64) (W0 m ρ c (Proc.devRef .tc main_arg2)) p) :
    Mt (a := 4096) (b := 256) (W8 m ρ c (Proc.devRef .tc main_v14)) (dg p) :=
  h_v14 (W6 m ρ c) (fun i => (congrFun (W6_of m ρ c main_v6 (by decide +kernel)) i).trans ((congrFun (W5_of m ρ c main_v6 (by decide +kernel)) i).trans (r6 m ρ c i))) (r8 m ρ c)
    ((((((v1 m ρ c h).eqv (W2_of m ρ c main_v1 (by decide +kernel))).eqv (W3_of m ρ c main_v1 (by decide +kernel))).eqv (W4_of m ρ c main_v1 (by decide +kernel))).eqv (W5_of m ρ c main_v1 (by decide +kernel))).eqv (W6_of m ρ c main_v1 (by decide +kernel)))
theorem v27 (h : T3 (a := 64) (b := 16) (c := 64) (W0 m ρ c (Proc.devRef .tc main_arg3)) q) :
    Mt (a := 4096) (b := 256) (W16 m ρ c (Proc.devRef .tc main_v27)) (dg fun g a n => -q g a n) :=
  h_v27 (W14 m ρ c) (fun i => (congrFun (W14_of m ρ c main_v19 (by decide +kernel)) i).trans ((congrFun (W13_of m ρ c main_v19 (by decide +kernel)) i).trans (r19 m ρ c i))) (r21 m ρ c)
    ((((((v16 m ρ c h).eqv (W10_of m ρ c main_v16 (by decide +kernel))).eqv (W11_of m ρ c main_v16 (by decide +kernel))).eqv (W12_of m ρ c main_v16 (by decide +kernel))).eqv (W13_of m ρ c main_v16 (by decide +kernel))).eqv (W14_of m ρ c main_v16 (by decide +kernel)))
theorem v32 (h : T3 (a := 64) (b := 16) (c := 64) (W0 m ρ c (Proc.devRef .tc main_arg2)) p) (h' : T3 (a := 64) (b := 16) (c := 64) (W0 m ρ c (Proc.devRef .tc main_arg3)) q) :
    Mt (a := 8192) (b := 256) (W17 m ρ c (Proc.devRef .tc main_v32)) (ds p fun g a n => -q g a n) :=
  h_v32 (W16 m ρ c) ((((((((h_v15 (W8 m ρ c) (v14 m ρ c h)).eqv (W10_of m ρ c main_v15 (by decide +kernel))).eqv (W11_of m ρ c main_v15 (by decide +kernel))).eqv (W12_of m ρ c main_v15 (by decide +kernel))).eqv (W13_of m ρ c main_v15 (by decide +kernel))).eqv (W14_of m ρ c main_v15 (by decide +kernel))).eqv (W15_of m ρ c main_v15 (by decide +kernel))).eqv (W16_of m ρ c main_v15 (by decide +kernel))) (v27 m ρ c h')
end

/-! ## The run -/

section Run
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every run ends, and each array of the program then holds what the regions and the host lines leave in it. -/
theorem run : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h _ => h)

end Run

/-! ## The sums -/

/-- The product of the states of a group with its block. -/
def ys (s b : ℕ → ℕ → ℕ → EReal) (l x : ℕ) : EReal := ∑ n : Fin 64, s l (x / 16) n.val * b (x / 16) (x % 16) n.val
/-- The product of a gradient with the transposed block. -/
def gs (u : ℕ → ℕ → EReal) (b : ℕ → ℕ → ℕ → EReal) (l g n : ℕ) : EReal := ∑ a : Fin 16, u l (g * 16 + a.val) * b g a.val n
section
variable (u : ℕ → ℕ → EReal) (p q d e : ℕ → ℕ → ℕ → EReal)
theorem y_eq {l x : ℕ} (hx : x < 1024) :
    ∑ k : Fin 2048, pk d e l (x / 256 * 2048 + k.val) * ds p q (x / 256 * 2048 + k.val) (x % 256) = ys d p l x + ys e q l x := by
  refine (sum_split 1024 1024 fun k => pk d e l (x / 256 * 2048 + k) * ds p q (x / 256 * 2048 + k) (x % 256)).trans (congrArg₂ (fun a b : EReal => a + b) ?_ ?_)
  · refine (sum_blk (A := 16) (C := 64) (a := x / 16 % 16) rfl (by omega) (by omega)
      (fun k => pk d e l (x / 256 * 2048 + k) * ds p q (x / 256 * 2048 + k) (x % 256)) fun k hk hne => ?_).trans (Finset.sum_congr rfl fun n _ => ?_)
    · unfold ds dg
      rw [if_pos (by omega), if_neg (by omega), mul_zero]
    · have hn := n.isLt
      unfold ds dg pk
      generalize hk : x / 256 * 2048 + (x / 16 % 16 * 64 + n.val) = k
      rw [if_pos (by omega), if_pos (by omega), if_pos (by omega), show k / 2048 * 16 + k % 2048 / 64 = x / 16 by omega,
        show k % 2048 % 64 = n.val by omega, show (k / 2048 * 1024 + k % 2048) / 64 = x / 16 by omega,
        show (k / 2048 * 1024 + k % 2048) % 64 = n.val by omega, show x % 256 % 16 = x % 16 by omega]
  · refine (sum_blk (A := 16) (C := 64) (a := x / 16 % 16) rfl (by omega) (by omega)
      (fun k => pk d e l (x / 256 * 2048 + (1024 + k)) * ds p q (x / 256 * 2048 + (1024 + k)) (x % 256)) fun k hk hne => ?_).trans (Finset.sum_congr rfl fun n _ => ?_)
    · unfold ds dg
      rw [if_neg (by omega), if_neg (by omega), mul_zero]
    · have hn := n.isLt
      unfold ds dg pk
      generalize hk : x / 256 * 2048 + (1024 + (x / 16 % 16 * 64 + n.val)) = k
      rw [if_neg (by omega), if_neg (by omega), if_pos (by omega), show k / 2048 * 16 + (k % 2048 - 1024) / 64 = x / 16 by omega,
        show (k % 2048 - 1024) % 64 = n.val by omega, show (k / 2048 * 1024 + (k % 2048 - 1024)) / 64 = x / 16 by omega,
        show (k / 2048 * 1024 + (k % 2048 - 1024)) % 64 = n.val by omega, show x % 256 % 16 = x % 16 by omega]
theorem g_re {l g n r : ℕ} (hg : g < 64) (hn : n < 64) (hr : r = g / 16 * 2048 + (g % 16 * 64 + n)) :
    ∑ k : Fin 256, u l (r / 2048 * 256 + k.val) * ds p q r k.val = gs u p l g n := by
  refine (sum_blk (A := 16) (C := 16) (a := g % 16) rfl (by omega) (by omega)
    (fun k => u l (r / 2048 * 256 + k) * ds p q r k) fun k hk hne => ?_).trans (Finset.sum_congr rfl fun c _ => ?_)
  · unfold ds dg
    rw [if_pos (by omega), if_neg (by omega), mul_zero]
  · have hc := c.isLt
    unfold ds dg
    rw [if_pos (by omega), if_pos (by omega), show (r / 2048 * 1024 + r % 2048) / 64 = g by omega, show (r / 2048 * 1024 + r % 2048) % 64 = n by omega,
      show (g % 16 * 16 + c.val) % 16 = c.val by omega, show r / 2048 * 256 + (g % 16 * 16 + c.val) = g * 16 + c.val by omega]
theorem g_im {l g n r : ℕ} (hg : g < 64) (hn : n < 64) (hr : r = g / 16 * 2048 + (1024 + (g % 16 * 64 + n))) :
    ∑ k : Fin 256, u l (r / 2048 * 256 + k.val) * ds p q r k.val = gs u q l g n := by
  refine (sum_blk (A := 16) (C := 16) (a := g % 16) rfl (by omega) (by omega)
    (fun k => u l (r / 2048 * 256 + k) * ds p q r k) fun k hk hne => ?_).trans (Finset.sum_congr rfl fun c _ => ?_)
  · unfold ds dg
    rw [if_neg (by omega), if_neg (by omega), mul_zero]
  · have hc := c.isLt
    unfold ds dg
    rw [if_neg (by omega), if_pos (by omega), show (r / 2048 * 1024 + (r % 2048 - 1024)) / 64 = g by omega, show (r / 2048 * 1024 + (r % 2048 - 1024)) % 64 = n by omega,
      show (g % 16 * 16 + c.val) % 16 = c.val by omega, show r / 2048 * 256 + (g % 16 * 16 + c.val) = g * 16 + c.val by omega]
/-- Of real terms, the sum of the opposites is the opposite of the sum. -/
theorem sum_neg {n : ℕ} {f g : Fin n → EReal} (hf : ∀ k, IsR (f k)) (hg : ∀ k, IsR (g k)) : ∑ k, f k * -g k = -∑ k, f k * g k := by
  choose a ha using hf
  choose b hb using hg
  have h1 : ∀ s : Finset (Fin n), ∑ k ∈ s, f k * -g k = -∑ k ∈ s, f k * g k ∧ IsR (∑ k ∈ s, f k * g k) := by
    intro s
    induction s using Finset.induction_on with
    | empty => exact ⟨by simp, ⟨0, by simp⟩⟩
    | insert k s hk ih =>
      obtain ⟨r, hr⟩ := ih.2
      rw [Finset.sum_insert hk, Finset.sum_insert hk, ih.1, hr, ha, hb]
      exact ⟨by norm_cast; ring_nf, ⟨a k * b k + r, by norm_cast⟩⟩
  exact (h1 _).1
end

section
variable (m : (ℓ : Loc nD τ sig) → Buf (Elt Ideal) ℓ) (ρ : Dev nD → PrngReg) (c : Dev nD)
variable {u : ℕ → ℕ → EReal} {p q d e : ℕ → ℕ → ℕ → EReal} (hd : T3 (a := 2048) (b := 64) (c := 64) (W0 m ρ c (Proc.devRef .tc main_arg0)) d)
  (he : T3 (a := 2048) (b := 64) (c := 64) (W0 m ρ c (Proc.devRef .tc main_arg1)) e) (hp : T3 (a := 64) (b := 16) (c := 64) (W0 m ρ c (Proc.devRef .tc main_arg2)) p)
  (hq : T3 (a := 64) (b := 16) (c := 64) (W0 m ρ c (Proc.devRef .tc main_arg3)) q) (hu : Mt (a := 2048) (b := 1024) (W0 m ρ c (Proc.devRef .tc main_arg4)) u)
include hp hq hu in
theorem v39 : Mt (a := 2048) (b := 8192) (W20 m ρ c (Proc.devRef .tc main_v39))
    (fun i r => ∑ k : Fin 256, u i (r / 2048 * 256 + k.val) * ds p (fun g a n => -q g a n) r k.val) :=
  (arr1_2 (V19 m ρ) c (h_v38 (W18 m ρ c) (((((((((((((((((((hu).eqv (W1_of m ρ c main_arg4 (by decide +kernel))).eqv (W2_of m ρ c main_arg4 (by decide +kernel))).eqv (W3_of m ρ c main_arg4 (by decide +kernel))).eqv (W4_of m ρ c main_arg4 (by decide +kernel))).eqv (W5_of m ρ c main_arg4 (by decide +kernel))).eqv (W6_of m ρ c main_arg4 (by decide +kernel))).eqv (W7_of m ρ c main_arg4 (by decide +kernel))).eqv (W8_of m ρ c main_arg4 (by decide +kernel))).eqv (W9_of m ρ c main_arg4 (by decide +kernel))).eqv (W10_of m ρ c main_arg4 (by decide +kernel))).eqv (W11_of m ρ c main_arg4 (by decide +kernel))).eqv (W12_of m ρ c main_arg4 (by decide +kernel))).eqv (W13_of m ρ c main_arg4 (by decide +kernel))).eqv (W14_of m ρ c main_arg4 (by decide +kernel))).eqv (W15_of m ρ c main_arg4 (by decide +kernel))).eqv (W16_of m ρ c main_arg4 (by decide +kernel))).eqv (W17_of m ρ c main_arg4 (by decide +kernel))).eqv (W18_of m ρ c main_arg4 (by decide +kernel))))
    (((v32 m ρ c hp hq).eqv (W18_of m ρ c main_v32 (by decide +kernel))).eqv (W19_of m ρ c main_v32 (by decide +kernel)))).eqv (W20_arr m ρ c 2)
include hd he hp hq hu in
/-- The three results. -/
theorem results :
    Mt (a := 2048) (b := 1024) (W21 m ρ c (Proc.devRef .tc main_v37)) (fun l x => ys d p l x + ys e (fun g a n => -q g a n) l x)
    ∧ T3 (a := 2048) (b := 64) (c := 64) (W21 m ρ c (Proc.devRef .tc main_v42)) (gs u p)
    ∧ T3 (a := 2048) (b := 64) (c := 64) (W21 m ρ c (Proc.devRef .tc main_v44)) (gs u fun g a n => -q g a n) :=
  ⟨((((((arr0_2 (V17 m ρ) c (h_v36 (W16 m ρ c) (((((((((((((((((hd).eqv (W1_of m ρ c main_arg0 (by decide +kernel))).eqv (W2_of m ρ c main_arg0 (by decide +kernel))).eqv (W3_of m ρ c main_arg0 (by decide +kernel))).eqv (W4_of m ρ c main_arg0 (by decide +kernel))).eqv (W5_of m ρ c main_arg0 (by decide +kernel))).eqv (W6_of m ρ c main_arg0 (by decide +kernel))).eqv (W7_of m ρ c main_arg0 (by decide +kernel))).eqv (W8_of m ρ c main_arg0 (by decide +kernel))).eqv (W9_of m ρ c main_arg0 (by decide +kernel))).eqv (W10_of m ρ c main_arg0 (by decide +kernel))).eqv (W11_of m ρ c main_arg0 (by decide +kernel))).eqv (W12_of m ρ c main_arg0 (by decide +kernel))).eqv (W13_of m ρ c main_arg0 (by decide +kernel))).eqv (W14_of m ρ c main_arg0 (by decide +kernel))).eqv (W15_of m ρ c main_arg0 (by decide +kernel))).eqv (W16_of m ρ c main_arg0 (by decide +kernel)))
      (((((((((((((((((he).eqv (W1_of m ρ c main_arg1 (by decide +kernel))).eqv (W2_of m ρ c main_arg1 (by decide +kernel))).eqv (W3_of m ρ c main_arg1 (by decide +kernel))).eqv (W4_of m ρ c main_arg1 (by decide +kernel))).eqv (W5_of m ρ c main_arg1 (by decide +kernel))).eqv (W6_of m ρ c main_arg1 (by decide +kernel))).eqv (W7_of m ρ c main_arg1 (by decide +kernel))).eqv (W8_of m ρ c main_arg1 (by decide +kernel))).eqv (W9_of m ρ c main_arg1 (by decide +kernel))).eqv (W10_of m ρ c main_arg1 (by decide +kernel))).eqv (W11_of m ρ c main_arg1 (by decide +kernel))).eqv (W12_of m ρ c main_arg1 (by decide +kernel))).eqv (W13_of m ρ c main_arg1 (by decide +kernel))).eqv (W14_of m ρ c main_arg1 (by decide +kernel))).eqv (W15_of m ρ c main_arg1 (by decide +kernel))).eqv (W16_of m ρ c main_arg1 (by decide +kernel))))
      (v32 m ρ c hp hq)).eqv (W18_arr m ρ c 2)).eqv (W19_of m ρ c main_v37 (by decide +kernel))).eqv (W20_of m ρ c main_v37 (by decide +kernel))).eqv (W21_of m ρ c main_v37 (by decide +kernel)))).congr fun l x _ hx => y_eq p _ d e hx,
    (h_v42 (W20 m ρ c) (v39 m ρ c hp hq hu)).congr fun l g n _ hg hn => g_re u p _ hg hn rfl,
    (h_v44 (W20 m ρ c) (v39 m ρ c hp hq hu)).congr fun l g n _ hg hn => g_im u p _ hg hn rfl⟩
end

end Cert.Kernel10Ideal.Own

namespace Cert.Reference10Ideal.Own

open Idealize.ShloMosaic Idealize.ShloMosaic.TcCoe Idealize.ShloMosaic.Tactic
open Cert.Reference10Ideal Cert.Reference10Ideal.Gen Cert.Mat Cert.Kernel10Ideal.Own

theorem d_y {b b' : FVec Ideal S64x16x64 .f32} {v v' : FVec Ideal S2048x64x64 .f32} {p q d e : ℕ → ℕ → ℕ → EReal} (hb : T3 b p) (hb' : T3 b' q)
    (hv : T3 v d) (hv' : T3 v' e) (hr : ∀ i, IsR (b' i)) (hr' : ∀ i, IsR (v' i)) :
    Mt (shapeCast S2048x1024 (subf (F := Ideal) (transpose S2048x64x16 [2, 0, 1] (Host.dotGeneral dot_S64x16x64_S2048x64x64_S64x16x2048_2_2_1_0_0_1 none b v) transposes_S64x16x2048_S2048x64x16_2_0_1)
      (transpose S2048x64x16 [2, 0, 1] (Host.dotGeneral dot_S64x16x64_S2048x64x64_S64x16x2048_2_2_1_0_0_1 none b' v') transposes_S64x16x2048_S2048x64x16_2_0_1))
      shapeCasts_S2048x64x16_S2048x1024) (fun l x => ys d p l x + ys e (fun g a n => -q g a n) l x) := by
  intro i
  pointwise
  refine (sub_eq_add_neg _ _).trans (congrArg₂ (fun a b : EReal => a + b) ?_ ?_)
  · exact Finset.sum_congr rfl fun k _ => (mul_comm _ _).trans (congrArg₂ _ (hv _) (hb _))
  · refine (sum_neg (fun k => hr _) (fun k => hr' _)).symm.trans (Finset.sum_congr rfl fun k _ => ?_)
    rw [hb', hv', mul_neg, mul_comm, ← mul_neg]
    rfl
theorem d_re {b : FVec Ideal S64x16x64 .f32} {v : FVec Ideal S2048x1024 .f32} {p : ℕ → ℕ → ℕ → EReal} {u : ℕ → ℕ → EReal} (hb : T3 b p) (hv : Mt v u) :
    T3 (transpose S2048x64x64 [1, 0, 2] (Host.dotGeneral dot_S64x16x2048_S64x16x64_S64x2048x64_1_1_2_2_0_0 none (transpose S64x16x2048 [1, 2, 0]
      (shapeCast _ v shapeCasts_S2048x1024_S2048x64x16) transposes_S2048x64x16_S64x16x2048_1_2_0) b) transposes_S64x2048x64_S2048x64x64_1_0_2) (gs u p) := by
  intro i
  pointwise
  exact Finset.sum_congr rfl fun k _ => congrArg₂ _ (hv _) (hb _)
theorem d_im {b : FVec Ideal S64x16x64 .f32} {v : FVec Ideal S2048x1024 .f32} {p : ℕ → ℕ → ℕ → EReal} {u : ℕ → ℕ → EReal} (hb : T3 b p) (hv : Mt v u) :
    T3 (transpose S2048x64x64 [1, 0, 2] (Host.dotGeneral (F := Ideal) dot_S64x16x2048_S64x16x64_S64x2048x64_1_1_2_2_0_0 none (transpose S64x16x2048 [1, 2, 0]
      (Host.negf (F := Ideal) (shapeCast _ v shapeCasts_S2048x1024_S2048x64x16)) transposes_S2048x64x16_S64x16x2048_1_2_0) b) transposes_S64x2048x64_S2048x64x64_1_0_2)
      (gs u fun g a n => -p g a n) := by
  intro i
  pointwise
  refine Finset.sum_congr rfl fun k _ => ?_
  refine Eq.trans (b := -u (i 0).val ((i 1).val * 16 + k.val) * p (i 1).val k.val (i 2).val) (congrArg₂ _ (congrArg Neg.neg (hv _)) (hb _)) ?_
  rw [neg_mul, ← mul_neg]

end Cert.Reference10Ideal.Own

namespace Cert.Proof

open Idealize.ShloMosaic Idealize.ShloMosaic.TcCoe Idealize.ShloMosaic.Tactic Idealize.SL.Sem
open Cert.Mat

section
open Cert.Pre_finite10
instance sub10 : Subsingleton Cert.Pre_finite10.S_.Idx := ⟨fun a b => funext fun k => k.elim0⟩
theorem inf_s (i : S2048x64x64.Idx) : (broadcastInDim S2048x64x64 ![] Cert.Pre_finite10.Gen.facts.bcast_S_S2048x64x64 (constant (F := Ideal) S_ .f32 0x7F800000#32) i : EReal) = ⊤ := by
  pointwise
  simp [Ideal.ofBits, Ideal.ieee]
theorem inf_c (i : S64x16x64.Idx) : (broadcastInDim S64x16x64 ![] Cert.Pre_finite10.Gen.facts.bcast_S_S64x16x64 (constant (F := Ideal) S_ .f32 0x7F800000#32) i : EReal) = ⊤ := by
  pointwise
  simp [Ideal.ofBits, Ideal.ieee]
/-- The precondition says that the imaginary parts are real numbers. -/
theorem reals10 {s t : FVec Ideal S2048x64x64 .f32} {p q : FVec Ideal S64x16x64 .f32} {ct : FVec Ideal S2048x1024 .f32}
    (h : @Cert.Pre_finite10.fn Cert.Pre_finite10.Gen.facts Ideal _ s t p q ct = fun _ => 1#1) : (∀ i, IsR (t i)) ∧ (∀ i, IsR (q i)) := by
  have e := congrFun h (Shape.Idx.first Cert.Pre_finite10.Gen.facts.h_S_)
  simp only [Cert.Pre_finite10.fn, Cert.Pre_finite10.fn_part1, andi_apply, IntOp.andi_eq_one] at e
  obtain ⟨⟨⟨⟨h0, h1⟩, h2⟩, h3⟩, h4⟩ := e
  exact ⟨fun i => ⟨_, real_of_lt inf_s (Host.reduce_andi_all _ _ _ _ _ h1 i)⟩, fun i => ⟨_, real_of_lt inf_c (Host.reduce_andi_all _ _ _ _ _ h3 i)⟩⟩
end

/-- Over the reals, and of real arguments, the output product of the S5 branch and its gradients into the states are the reference's. -/
theorem value10 : @Cert.algebraic_Kernel10Ideal_Reference10Ideal_pre_finite10 Cert.Kernel10Ideal.Gen.facts Cert.Reference10Ideal.Gen.facts Cert.Pre_finite10.Gen.facts := by
  intro m g m' g' hp ha
  refine ⟨fun c => Cert.Kernel10Ideal.Gen.W21 m g c (Proc.devRef .tc Cert.Kernel10Ideal.main_v37), fun c => Cert.Kernel10Ideal.Gen.W21 m g c (Proc.devRef .tc Cert.Kernel10Ideal.main_v42), fun c => Cert.Kernel10Ideal.Gen.W21 m g c (Proc.devRef .tc Cert.Kernel10Ideal.main_v44), ?_, ?_⟩
  · refine (θ_run Cert.Kernel10Ideal.defs _ _).mono (fun r h c => ?_) (Cert.Kernel10Ideal.Own.run m g)
    have k (b : Ref Cert.Kernel10Ideal.sig .tc) (hb : ¬(Proc.devRef .tc b : DevRef Cert.Kernel10Ideal.τ Cert.Kernel10Ideal.sig).isScoped = true) := h c _ (Cert.Kernel10Ideal.Gen.mem_uc b hb)
    exact ⟨k _ (by decide), k _ (by decide), k _ (by decide),
      (k _ (by decide)).trans (Cert.Kernel10Ideal.Gen.W21_main_arg0 m g c),
      (k _ (by decide)).trans (Cert.Kernel10Ideal.Gen.W21_main_arg1 m g c),
      (k _ (by decide)).trans (Cert.Kernel10Ideal.Gen.W21_main_arg2 m g c),
      (k _ (by decide)).trans (Cert.Kernel10Ideal.Gen.W21_main_arg3 m g c),
      (k _ (by decide)).trans (Cert.Kernel10Ideal.Gen.W21_main_arg4 m g c)⟩
  · refine (θ_run Cert.Reference10Ideal.defs _ _).mono (fun r h c => ?_) (Cert.Reference10Ideal.Value.run m' g')
    obtain ⟨e0, e1, e2, e3, e4⟩ := ha c
    obtain ⟨o0, o1, o2, a0, a1, a2, a3, a4⟩ := h c
    obtain ⟨r1, r3⟩ := reals10 (hp c)
    rw [e0, e1, e2, e3] at o0
    rw [e2, e4] at o1
    rw [e3, e4] at o2
    obtain ⟨k0, k1, k2⟩ := Cert.Kernel10Ideal.Own.results m g c (num_t3 _) (num_t3 _) (num_t3 _) (num_t3 _) (num_mt _)
    exact ⟨o0.trans (uniq k0 (Cert.Reference10Ideal.Own.d_y (num_t3 _) (num_t3 _) (num_t3 _) (num_t3 _) r3 r1)),
      o1.trans (k1.uniq (Cert.Reference10Ideal.Own.d_re (num_t3 _) (num_mt _))), o2.trans (k2.uniq (Cert.Reference10Ideal.Own.d_im (num_t3 _) (num_mt _))), a0, a1, a2, a3, a4⟩

end Cert.Proof

end
-- ==== Proof.B11.lean ====
module

public import proofs.«01_k».proof.Proof.B10
public import proofs.«01_k».proof.Proof.Gen.Pre_finite11
public import proofs.«01_k».proof.Proof.Gen.Kernel11Ideal.Frame
public import proofs.«01_k».proof.Proof.Gen.Reference11Ideal.Run
public import proofs.«01_k».proof.Defs
public import Idealize.ShloMosaic.Lib.Pipeline.ValueKit
public import Idealize.ShloMosaic.Lib.Pointwise.Index
public import Idealize.ShloMosaic.Lib.Pointwise.Reshape
public import Idealize.ShloMosaic.Lib.VecWindow
public import Idealize.ShloMosaic.Lib.StableHlo.ReadAt
public import Idealize.ShloMosaic.Lib.Tactic

@[expose] public section

set_option maxRecDepth 200000

noncomputable section

namespace Cert.Kernel11Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel11Ideal.Gen
open Cert.Mat
open Cert.Kernel8Ideal.Own (pk)
open Cert.Kernel10Ideal.Own (sum_neg)
open Idealize.ShloMosaic.Rounds
open Idealize.ShloMosaic.StableHlo (after)

/-! ## The call -/

theorem pay1 {x : Vec Ideal S1024x2048 .f32} {w : Vec Ideal S1024x256 .bf16} {f g : ℕ → ℕ → EReal}
    (hx : Mt x f) (hw : Mt w g) : Mt (k0_pay1 x w) (mm 1024 (tr f) g) := by
  intro i
  pointwise [k0_pay1]
  exact Finset.sum_congr rfl fun k _ => congrArg₂ _ (hx _) (hw _)
theorem pay2 {x : Vec Ideal S1024x2048 .f32} {w : Vec Ideal S1024x256 .bf16} {a : Vec Ideal S2048x256 .f32} {f g h : ℕ → ℕ → EReal}
    (hx : Mt x f) (hw : Mt w g) (ha : Mt a h) : Mt (k0_pay2 x w a) (fun i j => h i j + mm 1024 (tr f) g i j) := fun i => by
  refine Eq.trans ?_ (congrArg₂ (fun a b : EReal => a + b) (ha i) (pay1 hx hw i))
  pointwise [k0_pay2]

section
variable (m : (ℓ : Loc nD τ sig) → Buf (Elt Ideal) ℓ) (c : Dev nD)

theorem x0_0 : ∀ t : Fin cfg0.N, win0_0.index t = ![t.val % 2, t.val / 2] := (by decide +kernel : ∀ t : Fin grid0.N, _)
theorem x0_1 : ∀ t : Fin cfg0.N, win0_1.index t = ![t.val % 2, t.val / 2] := (by decide +kernel : ∀ t : Fin grid0.N, _)
theorem x0_2 : ∀ t : Fin cfg0.N, win0_2.index t = ![t.val / 2, 0] := (by decide +kernel : ∀ t : Fin grid0.N, _)
theorem odd2 : ∀ t : Fin cfg0.N, (cfg0.win 2).flush t = true → t.val % 2 = 1 := by decide +kernel
theorem b0_0 {f : ℕ → ℕ → EReal} (h : Mt (a := 2048) (b := 8192) (V m c (Pipeline.arrRef spec0 0)) f) (t : Fin cfg0.N) :
    Mt (a := 1024) (b := 2048) (iblk m c 0 t) (fun i j => f (t.val % 2 * 1024 + i) (t.val / 2 * 2048 + j)) := by
  intro y
  refine (h (((cfg0.win 0).blk t).view.emb y)).trans ?_
  blk_simp [x0_0]
theorem b0_1 {f : ℕ → ℕ → EReal} (h : Mt (a := 2048) (b := 1024) (V m c (Pipeline.arrRef spec0 1)) f) (t : Fin cfg0.N) :
    Mt (a := 1024) (b := 256) (iblk m c 1 t) (fun i j => f (t.val % 2 * 1024 + i) (t.val / 2 * 256 + j)) := by
  intro y
  refine (h (((cfg0.win 1).blk t).view.emb y)).trans ?_
  blk_simp [x0_1]
theorem even_st {f g : ℕ → ℕ → EReal} (h0 : Mt (a := 2048) (b := 8192) (V m c (Pipeline.arrRef spec0 0)) f)
    (h1 : Mt (a := 2048) (b := 1024) (V m c (Pipeline.arrRef spec0 1)) g) (t : Fin cfg0.N) (ht : t.val % 2 = 0) :
    Mt (a := 2048) (b := 256) (outsAt0 m c t.val t.isLt) (fun i q => ∑ k : Fin 1024, f k.val (t.val / 2 * 2048 + i) * g k.val (t.val / 2 * 256 + q)) := by
  rw [outsAt0_A m c t ht (by omega)]
  frame_out
  refine (pay1 (b0_0 m c h0 t) (b0_1 m c h1 t)).congr fun i j _ _ => ?_
  simp [ht, mm, tr]
theorem odd_st {f g : ℕ → ℕ → EReal} (h0 : Mt (a := 2048) (b := 8192) (V m c (Pipeline.arrRef spec0 0)) f)
    (h1 : Mt (a := 2048) (b := 1024) (V m c (Pipeline.arrRef spec0 1)) g) (t : Fin cfg0.N) (ht : t.val % 2 = 1) :
    Mt (a := 2048) (b := 256) (outsAt0 m c t.val t.isLt) (fun i q => ∑ k : Fin 2048, f k.val (t.val / 2 * 2048 + i) * g k.val (t.val / 2 * 256 + q)) := by
  have e := even_st m c h0 h1 ⟨t.val - 1, by omega⟩ (by dsimp only; omega)
  rw [outsAt0_B m c t (by omega) ht]
  frame_out
  refine (pay2 (b0_0 m c h0 t) (b0_1 m c h1 t) e).congr fun i j _ _ => ?_
  have q : (t.val - 1) / 2 = t.val / 2 := by omega
  refine Eq.trans ?_ (sum_split 1024 1024 fun k => f k (t.val / 2 * 2048 + i) * g k (t.val / 2 * 256 + j)).symm
  simp [ht, q, mm, tr]
theorem arr {f g : ℕ → ℕ → EReal} (h0 : Mt (a := 2048) (b := 8192) (V m c (Pipeline.arrRef spec0 0)) f)
    (h1 : Mt (a := 2048) (b := 1024) (V m c (Pipeline.arrRef spec0 1)) g) :
    Mt (a := 8192) (b := 256) ((dats m 0 c).arrAt 2 cfg0.N) (fun r q => ∑ k : Fin 2048, f k.val r * g k.val (r / 2048 * 256 + q)) := by
  intro i
  refine (dats m 0 c).arrAt_forall_of_covers 2 (fun (i : (⟨2, ![8192, 256]⟩ : Shape).Idx) (v : EReal) =>
    v = ∑ k : Fin 2048, f k.val (i 0).val * g k.val ((i 0).val / 2048 * 256 + (i 1).val)) (by decide +kernel) (fun t hf y => ?_) i
  blk_simp [x0_2]
  rw [after0_2]
  refine (odd_st m c h0 h1 t (odd2 t hf) y).trans ?_
  have hy : (y 0).val < 2048 := (y 0).isLt
  have e1 : (t.val / 2 * 2048 + (y 0).val) / 2048 = t.val / 2 := by omega
  rw [e1]
end

/-! ## The lines before and after it -/

section
variable (V : Valuation τ sig (Elt Ideal))
theorem h_v3 {p q : ℕ → ℕ → ℕ → EReal} (hp : T3 (a := 2048) (b := 64) (c := 64) (V (Proc.devRef .tc main_arg0)) p)
    (hq : T3 (a := 2048) (b := 64) (c := 64) (V (Proc.devRef .tc main_arg1)) q) :
    Mt (a := 2048) (b := 8192) (after hostOps0 V (Proc.devRef .tc main_v3)) (pk p q) := by
  intro i
  after_reads_at
  unfold pk
  split
  · after_reads_at
    exact hp _
  · after_reads_at
    exact hq _
theorem h_v4 {f : ℕ → ℕ → EReal} (h : Mt (a := 2048) (b := 1024) (V (Proc.devRef .tc main_arg2)) f) :
    Mt (a := 2048) (b := 1024) (after hostOps0 V (Proc.devRef .tc main_v4)) f := by
  intro i
  after_reads_at
  exact h _
abbrev Y0 : Valuation τ sig (Elt Ideal) := after hostOps1 V
abbrev Y1 : Valuation τ sig (Elt Ideal) := after hostOps1_1 (Y0 V)
abbrev Y2 : Valuation τ sig (Elt Ideal) := after hostOps1_2 (Y1 V)
abbrev Y3 : Valuation τ sig (Elt Ideal) := after hostOps1_3 (Y2 V)
abbrev Y4 : Valuation τ sig (Elt Ideal) := after hostOps1_4 (Y3 V)
abbrev Y5 : Valuation τ sig (Elt Ideal) := after hostOps1_5 (Y4 V)
abbrev Y6 : Valuation τ sig (Elt Ideal) := after hostOps1_6 (Y5 V)
abbrev Y7 : Valuation τ sig (Elt Ideal) := after hostOps1_7 (Y6 V)
abbrev Y8 : Valuation τ sig (Elt Ideal) := after hostOps1_8 (Y7 V)
abbrev Y9 : Valuation τ sig (Elt Ideal) := after hostOps1_9 (Y8 V)
abbrev Y10 : Valuation τ sig (Elt Ideal) := after hostOps1_10 (Y9 V)
abbrev Y11 : Valuation τ sig (Elt Ideal) := after hostOps1_11 (Y10 V)
abbrev Y12 : Valuation τ sig (Elt Ideal) := after hostOps1_12 (Y11 V)
theorem flat : ∀ (l : List (List (HloOp τ sig (Elt Ideal)))) (V : Valuation τ sig (Elt Ideal)), after l.flatten V = l.foldl (fun V o => after o V) V
  | [], _ => rfl
  | o :: l, V => by
    have e : ∀ (a b : List (HloOp τ sig (Elt Ideal))) (V : Valuation τ sig (Elt Ideal)), after (a ++ b) V = after b (after a V) := fun a => by
      induction a with
      | nil => exact fun _ _ => rfl
      | cons x a ih => exact fun b V => ih b _
    rw [List.flatten_cons, e, flat l]
    rfl
theorem h_v6 {f : ℕ → ℕ → EReal} (h : Mt (a := 8192) (b := 256) (V (Proc.devRef .tc main_v5)) f) (i) :
    after hostOps1 V (Proc.devRef .tc main_v6) i = f ((i 0).val * 2048 + (i 1).val * 1024 + (i 2).val) (i 3).val := by
  after_reads_at
  refine (h _).trans (congrArg₂ f ?_ rfl)
  dsimp
theorem h_v10a {f : ℕ → ℕ → EReal} (h : ∀ i, V (Proc.devRef .tc main_v6) i = f ((i 0).val * 2048 + (i 1).val * 1024 + (i 2).val) (i 3).val) :
    T3 (a := 4096) (b := 16) (c := 16) (after (hostOps1.drop 1) V (Proc.devRef .tc main_v10)) (fun r a n => f (r / 1024 * 2048 + r % 1024) (a * 16 + n)) := by
  intro i
  simp only [hostOps1, List.drop_succ_cons, List.drop_zero]
  after_reads_at
  refine (h _).trans (congrArg₂ f ?_ rfl)
  show (i 0).val / 1024 * 2048 + 0 * 1024 + (i 0).val % 1024 = _
  omega
theorem h_v10 {f : ℕ → ℕ → EReal} (h : Mt (a := 8192) (b := 256) (V (Proc.devRef .tc main_v5)) f) :
    T3 (a := 4096) (b := 16) (c := 16) (after hostOps1 V (Proc.devRef .tc main_v10)) (fun r a n => f (r / 1024 * 2048 + r % 1024) (a * 16 + n)) :=
  h_v10a (after (hostOps1.take 1) V) fun i => by
    simp only [hostOps1, List.take_succ_cons, List.take_zero]
    after_reads_at
    refine (h _).trans (congrArg₂ f ?_ rfl)
    dsimp
theorem r_v13 (i) : (Y3 V) (Proc.devRef .tc main_v13) i = BitVec.ofNat 32 ((i 0).val / 64 % 16) := by
  refine Eq.trans ?_ (fmod64 (i 0))
  after_reads_at
  rfl
theorem h_v16 {f : ℕ → ℕ → ℕ → EReal} (e9 : ∀ i, V (Proc.devRef .tc main_v13) i = BitVec.ofNat 32 ((i 0).val / 64 % 16))
    (e6 : T3 (a := 4096) (b := 16) (c := 16) (V (Proc.devRef .tc main_v10)) f) :
    T3 (a := 4096) (b := 16) (c := 16) (after hostOps1_5 (after hostOps1_4 V) (Proc.devRef .tc main_v16)) (fun r a n => if r / 64 % 16 = a then f r a n else 0) := by
  intro i
  after_reads_at
  have h0 : (i 0).val / 64 % 16 < 1024 := by omega
  have h1 : (i 1).val < 16 := (i 1).isLt
  have h1 : (i 1).val < 1024 := by omega
  exact (sel_eq (e9 _) rfl h0 h1 _ _).trans (if_congr Iff.rfl (e6 _) cast0')
theorem h_v19 {f : ℕ → ℕ → ℕ → EReal} (e : T3 (a := 4096) (b := 16) (c := 16) (V (Proc.devRef .tc main_v16)) f) :
    T3 (a := 64) (b := 16) (c := 64) (after hostOps1_6 V (Proc.devRef .tc main_v19)) (fun g a n => ∑ k : Fin 16, f (g * 64 + n) k.val a) := by
  intro i
  after_reads_at
  exact Finset.sum_congr rfl fun k _ => e _
theorem h_v23 {f : ℕ → ℕ → EReal} (h : ∀ i, V (Proc.devRef .tc main_v6) i = f ((i 0).val * 2048 + (i 1).val * 1024 + (i 2).val) (i 3).val) :
    T3 (a := 4096) (b := 16) (c := 16) (after hostOps1_6 V (Proc.devRef .tc main_v23)) (fun r a n => f (r / 1024 * 2048 + (1024 + r % 1024)) (a * 16 + n)) := by
  intro i
  after_reads_at
  refine (h _).trans (congrArg₂ f ?_ rfl)
  show (i 0).val / 1024 * 2048 + 1 * 1024 + (i 0).val % 1024 = _
  omega
theorem r_v26 (i) : (Y9 V) (Proc.devRef .tc main_v26) i = BitVec.ofNat 32 ((i 0).val / 64 % 16) := by
  refine Eq.trans ?_ (fmod64 (i 0))
  after_reads_at
  rfl
theorem h_v29 {f : ℕ → ℕ → ℕ → EReal} (e9 : ∀ i, V (Proc.devRef .tc main_v26) i = BitVec.ofNat 32 ((i 0).val / 64 % 16))
    (e6 : T3 (a := 4096) (b := 16) (c := 16) (V (Proc.devRef .tc main_v23)) f) :
    T3 (a := 4096) (b := 16) (c := 16) (after hostOps1_11 (after hostOps1_10 V) (Proc.devRef .tc main_v29)) (fun r a n => if r / 64 % 16 = a then f r a n else 0) := by
  intro i
  after_reads_at
  have h0 : (i 0).val / 64 % 16 < 1024 := by omega
  have h1 : (i 1).val < 16 := (i 1).isLt
  have h1 : (i 1).val < 1024 := by omega
  exact (sel_eq (e9 _) rfl h0 h1 _ _).trans (if_congr Iff.rfl (e6 _) cast0')
theorem h_v33 {f : ℕ → ℕ → ℕ → EReal} (e : T3 (a := 4096) (b := 16) (c := 16) (V (Proc.devRef .tc main_v29)) f) :
    T3 (a := 64) (b := 16) (c := 64) (after hostOps1_12 V (Proc.devRef .tc main_v33)) (fun g a n => -∑ k : Fin 16, f (g * 64 + n) k.val a) := by
  intro i
  after_reads_at
  exact congrArg Neg.neg (Finset.sum_congr rfl fun k _ => e _)
theorem pick {x : ℕ} (hx : x < 16) (F : ℕ → EReal) : (∑ k : Fin 16, if x = k.val then F k.val else 0) = F x := by
  rw [Fin.sum_univ_eq_sum_range fun k => if x = k then F k else 0, Finset.sum_ite_eq, if_pos (Finset.mem_range.2 hx)]
theorem res1 {f : ℕ → ℕ → EReal} (h : Mt (a := 8192) (b := 256) (V (Proc.devRef .tc main_v5)) f) :
    T3 (a := 64) (b := 16) (c := 64) (Y12 V (Proc.devRef .tc main_v19)) (fun g a n => f ((g * 64 + n) / 1024 * 2048 + (g * 64 + n) % 1024) ((g * 64 + n) / 64 % 16 * 16 + a)) :=
  (((((((h_v19 (Y5 V) (h_v16 (Y3 V) (r_v13 V) ((((h_v10 V h).eqv (StableHlo.after_of_writes_sub (r := main_v10) hostOps1_1 _ hostOps1_1_writes (by decide +kernel))).eqv (StableHlo.after_of_writes_sub (r := main_v10) hostOps1_2 _ hostOps1_2_writes (by decide +kernel))).eqv (StableHlo.after_of_writes_sub (r := main_v10) hostOps1_3 _ hostOps1_3_writes (by decide +kernel))))).eqv (StableHlo.after_of_writes_sub (r := main_v19) hostOps1_7 _ hostOps1_7_writes (by decide +kernel))).eqv (StableHlo.after_of_writes_sub (r := main_v19) hostOps1_8 _ hostOps1_8_writes (by decide +kernel))).eqv (StableHlo.after_of_writes_sub (r := main_v19) hostOps1_9 _ hostOps1_9_writes (by decide +kernel))).eqv (StableHlo.after_of_writes_sub (r := main_v19) hostOps1_10 _ hostOps1_10_writes (by decide +kernel))).eqv (StableHlo.after_of_writes_sub (r := main_v19) hostOps1_11 _ hostOps1_11_writes (by decide +kernel))).eqv (StableHlo.after_of_writes_sub (r := main_v19) hostOps1_12 _ hostOps1_12_writes (by decide +kernel))).congr
    fun g a n _ _ _ => pick (by omega) fun k => f ((g * 64 + n) / 1024 * 2048 + (g * 64 + n) % 1024) (k * 16 + a)
theorem res2 {f : ℕ → ℕ → EReal} (h : Mt (a := 8192) (b := 256) (V (Proc.devRef .tc main_v5)) f) :
    T3 (a := 64) (b := 16) (c := 64) (Y12 V (Proc.devRef .tc main_v33)) (fun g a n => -f ((g * 64 + n) / 1024 * 2048 + (1024 + (g * 64 + n) % 1024)) ((g * 64 + n) / 64 % 16 * 16 + a)) :=
  (h_v33 (Y11 V) (h_v29 (Y9 V) (r_v26 V) ((((h_v23 (Y5 V) (fun i => (congrFun (StableHlo.after_of_writes_sub (r := main_v6) hostOps1_5 _ hostOps1_5_writes (by decide +kernel)) i).trans ((congrFun (StableHlo.after_of_writes_sub (r := main_v6) hostOps1_4 _ hostOps1_4_writes (by decide +kernel)) i).trans ((congrFun (StableHlo.after_of_writes_sub (r := main_v6) hostOps1_3 _ hostOps1_3_writes (by decide +kernel)) i).trans ((congrFun (StableHlo.after_of_writes_sub (r := main_v6) hostOps1_2 _ hostOps1_2_writes (by decide +kernel)) i).trans ((congrFun (StableHlo.after_of_writes_sub (r := main_v6) hostOps1_1 _ hostOps1_1_writes (by decide +kernel)) i).trans (h_v6 V h i))))))).eqv (StableHlo.after_of_writes_sub (r := main_v23) hostOps1_7 _ hostOps1_7_writes (by decide +kernel))).eqv (StableHlo.after_of_writes_sub (r := main_v23) hostOps1_8 _ hostOps1_8_writes (by decide +kernel))).eqv (StableHlo.after_of_writes_sub (r := main_v23) hostOps1_9 _ hostOps1_9_writes (by decide +kernel))))).congr
    fun g a n _ _ _ => congrArg Neg.neg (pick (by omega) fun k => f ((g * 64 + n) / 1024 * 2048 + (1024 + (g * 64 + n) % 1024)) (k * 16 + a))
end

/-! ## The results -/

/-- The product of the rows of a group with its states. -/
def dc (u : ℕ → ℕ → EReal) (d : ℕ → ℕ → ℕ → EReal) (g a n : ℕ) : EReal := ∑ l : Fin 2048, u l.val (g * 16 + a) * d l.val g n
section
variable (m : (ℓ : Loc nD τ sig) → Buf (Elt Ideal) ℓ) (c : Dev nD)
/-- The arrays as the region leaves them. -/
abbrev U0 : Valuation τ sig (Elt Ideal) := Pipeline.withArrays (cfgs 0).spec c (V0 m c) fun w => (dats m 0 c).arrAt w (cfgs 0).N
theorem tail (b : Ref sig .tc) : Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12] c b = Y12 (U0 m c) (Proc.devRef .tc b) := by
  unfold Pipeline.afterTail₀
  rw [flat]
  rfl
theorem u0 : U0 m c (Proc.devRef .tc main_v5) = (dats m 0 c).arrAt 2 cfg0.N :=
  Pipeline.withArrays_arr (cfgs 0).spec (by decide) c _ _ 2
/-- The two results. -/
theorem results {u : ℕ → ℕ → EReal} {d e : ℕ → ℕ → ℕ → EReal} (hu : Mt (a := 2048) (b := 1024) (m ((c : Thread nD τ).loc main_arg2)) u)
    (hd : T3 (a := 2048) (b := 64) (c := 64) (m ((c : Thread nD τ).loc main_arg0)) d) (he : T3 (a := 2048) (b := 64) (c := 64) (m ((c : Thread nD τ).loc main_arg1)) e) :
    T3 (a := 64) (b := 16) (c := 64) (Y12 (U0 m c) (Proc.devRef .tc main_v19)) (dc u d)
    ∧ T3 (a := 64) (b := 16) (c := 64) (Y12 (U0 m c) (Proc.devRef .tc main_v33)) (fun g a n => -dc u e g a n) := by
  have h : Mt (a := 8192) (b := 256) (U0 m c (Proc.devRef .tc main_v5)) (fun r q => ∑ k : Fin 2048, pk d e k.val r * u k.val (r / 2048 * 256 + q)) :=
    (arr m c (h_v3 _ hd he) (h_v4 _ hu)).eqv (u0 m c)
  exact ⟨(res1 _ h).congr fun g a n hg ha hn => Finset.sum_congr rfl fun l _ => by
        unfold pk
        rw [if_pos (by omega), mul_comm, show ((g * 64 + n) / 1024 * 2048 + (g * 64 + n) % 1024) / 2048 * 16 + ((g * 64 + n) / 1024 * 2048 + (g * 64 + n) % 1024) % 2048 / 64 = g by omega, show ((g * 64 + n) / 1024 * 2048 + (g * 64 + n) % 1024) % 2048 % 64 = n by omega,
          show ((g * 64 + n) / 1024 * 2048 + (g * 64 + n) % 1024) / 2048 * 256 + ((g * 64 + n) / 64 % 16 * 16 + a) = g * 16 + a by omega],
    (res2 _ h).congr fun g a n hg ha hn => congrArg Neg.neg (Finset.sum_congr rfl fun l _ => by
        unfold pk
        rw [if_neg (by omega), mul_comm, show ((g * 64 + n) / 1024 * 2048 + (1024 + (g * 64 + n) % 1024)) / 2048 * 16 + (((g * 64 + n) / 1024 * 2048 + (1024 + (g * 64 + n) % 1024)) % 2048 - 1024) / 64 = g by omega, show (((g * 64 + n) / 1024 * 2048 + (1024 + (g * 64 + n) % 1024)) % 2048 - 1024) % 64 = n by omega,
          show ((g * 64 + n) / 1024 * 2048 + (1024 + (g * 64 + n) % 1024)) / 2048 * 256 + ((g * 64 + n) / 64 % 16 * 16 + a) = g * 16 + a by omega])⟩
end

end Cert.Kernel11Ideal.Own

namespace Cert.Reference11Ideal.Own

open Idealize.ShloMosaic Idealize.ShloMosaic.TcCoe Idealize.ShloMosaic.Tactic
open Cert.Reference11Ideal Cert.Reference11Ideal.Gen Cert.Mat Cert.Kernel11Ideal.Own

theorem d_re {s : FVec Ideal S2048x64x64 .f32} {v : FVec Ideal S2048x1024 .f32} {d : ℕ → ℕ → ℕ → EReal} {u : ℕ → ℕ → EReal} (hs : T3 s d) (hv : Mt v u) :
    T3 (Host.dotGeneral dot_S64x16x2048_S2048x64x64_S64x16x64_2_0_1_2_0_1 none (transpose S64x16x2048 [1, 2, 0] (shapeCast _ v shapeCasts_S2048x1024_S2048x64x16)
      transposes_S2048x64x16_S64x16x2048_1_2_0) s) (dc u d) := by
  intro i
  pointwise
  exact Finset.sum_congr rfl fun k _ => congrArg₂ _ (hv _) (hs _)
open Cert.Kernel10Ideal.Own (sum_neg) in
theorem d_im {s : FVec Ideal S2048x64x64 .f32} {v : FVec Ideal S2048x1024 .f32} {d : ℕ → ℕ → ℕ → EReal} {u : ℕ → ℕ → EReal} (hs : T3 s d) (hv : Mt v u)
    (rs : ∀ i, IsR (s i)) (rv : ∀ i, IsR (v i)) :
    T3 (Host.dotGeneral (F := Ideal) dot_S64x16x2048_S2048x64x64_S64x16x64_2_0_1_2_0_1 none (transpose S64x16x2048 [1, 2, 0] (Host.negf (F := Ideal) (shapeCast _ v shapeCasts_S2048x1024_S2048x64x16))
      transposes_S2048x64x16_S64x16x2048_1_2_0) s) (fun g a n => -dc u d g a n) := by
  intro i
  refine Eq.trans ?_ ((sum_neg (f := fun k : Fin 2048 => s (ix3 k (i 0) (i 2))) (g := fun k : Fin 2048 => v (ix2 k ⟨(i 0).val * 16 + (i 1).val, by
    have := (i 0).isLt; have := (i 1).isLt; dsimp at *; omega⟩)) (fun k => rs _) (fun k => rv _)).trans
      (congrArg Neg.neg (Finset.sum_congr rfl fun k _ => (mul_comm _ _).trans (congrArg₂ (fun a b : EReal => a * b) (hv _) (hs _)))))
  pointwise
  exact Finset.sum_congr rfl fun k _ => mul_comm _ _

end Cert.Reference11Ideal.Own

namespace Cert.Proof

open Idealize.ShloMosaic Idealize.ShloMosaic.TcCoe Idealize.ShloMosaic.Tactic Idealize.SL.Sem
open Cert.Mat

section
open Cert.Pre_finite11
instance sub11 : Subsingleton Cert.Pre_finite11.S_.Idx := ⟨fun a b => funext fun k => k.elim0⟩
theorem inf11 (i : S2048x64x64.Idx) : (broadcastInDim S2048x64x64 ![] Cert.Pre_finite11.Gen.facts.bcast_S_S2048x64x64 (constant (F := Ideal) S_ .f32 0x7F800000#32) i : EReal) = ⊤ := by
  pointwise
  simp [Ideal.ofBits, Ideal.ieee]
theorem inf11' (i : S2048x1024.Idx) : (broadcastInDim S2048x1024 ![] Cert.Pre_finite11.Gen.facts.bcast_S_S2048x1024 (constant (F := Ideal) S_ .f32 0x7F800000#32) i : EReal) = ⊤ := by
  pointwise
  simp [Ideal.ofBits, Ideal.ieee]
/-- The precondition says that the imaginary parts and the gradient are real numbers. -/
theorem reals11 {s t : FVec Ideal S2048x64x64 .f32} {ct : FVec Ideal S2048x1024 .f32}
    (h : @Cert.Pre_finite11.fn Cert.Pre_finite11.Gen.facts Ideal _ s t ct = fun _ => 1#1) : (∀ i, IsR (t i)) ∧ (∀ i, IsR (ct i)) := by
  have e := congrFun h (Shape.Idx.first Cert.Pre_finite11.Gen.facts.h_S_)
  simp only [Cert.Pre_finite11.fn, andi_apply, IntOp.andi_eq_one] at e
  obtain ⟨⟨h0, h1⟩, h2⟩ := e
  exact ⟨fun i => ⟨_, real_of_lt inf11 (Host.reduce_andi_all _ _ _ _ _ h1 i)⟩, fun i => ⟨_, real_of_lt inf11' (Host.reduce_andi_all _ _ _ _ _ h2 i)⟩⟩
end

/-- Over the reals, and of real arguments, the gradient of the output matrices of the S5 branch is the reference's. -/
theorem value11 : @Cert.algebraic_Kernel11Ideal_Reference11Ideal_pre_finite11 Cert.Kernel11Ideal.Gen.facts Cert.Reference11Ideal.Gen.facts Cert.Pre_finite11.Gen.facts := by
  intro m g m' g' hp ha
  refine ⟨fun c => Cert.Kernel11Ideal.Own.Y12 (Cert.Kernel11Ideal.Own.U0 m c) (Proc.devRef .tc Cert.Kernel11Ideal.main_v19), fun c => Cert.Kernel11Ideal.Own.Y12 (Cert.Kernel11Ideal.Own.U0 m c) (Proc.devRef .tc Cert.Kernel11Ideal.main_v33), ?_, ?_⟩
  · refine (θ_run Cert.Kernel11Ideal.defs _ _).mono (fun r h c => ?_) (Cert.Kernel11Ideal.Gen.run_main m g)
    have k (b : Ref Cert.Kernel11Ideal.sig .tc) (hb : b ∈ Pipeline.restRefs Cert.Kernel11Ideal.sig (Cert.Kernel11Ideal.cfgs 0).spec) := ((h c).2 b hb).trans (Cert.Kernel11Ideal.Own.tail m c b)
    exact ⟨k _ (Pipeline.mem_restRefs_of _ (by decide) (by decide)), k _ (Pipeline.mem_restRefs_of _ (by decide) (by decide)), ((h c).2 Cert.Kernel11Ideal.main_arg0 (Pipeline.mem_restRefs_of _ (by decide) (by decide))).trans (Cert.Kernel11Ideal.Gen.W_main_arg0 m (Cert.Kernel11Ideal.Gen.dats m) c), ((h c).2 Cert.Kernel11Ideal.main_arg1 (Pipeline.mem_restRefs_of _ (by decide) (by decide))).trans (Cert.Kernel11Ideal.Gen.W_main_arg1 m (Cert.Kernel11Ideal.Gen.dats m) c), ((h c).2 Cert.Kernel11Ideal.main_arg2 (Pipeline.mem_restRefs_of _ (by decide) (by decide))).trans (Cert.Kernel11Ideal.Gen.W_main_arg2 m (Cert.Kernel11Ideal.Gen.dats m) c)⟩
  · refine (θ_run Cert.Reference11Ideal.defs _ _).mono (fun r h c => ?_) (Cert.Reference11Ideal.Value.run m' g')
    obtain ⟨e0, e1, e2⟩ := ha c
    obtain ⟨o0, o1, a0, a1, a2⟩ := h c
    obtain ⟨k0, k1⟩ := Cert.Kernel11Ideal.Own.results m c (num_mt _) (num_t3 _) (num_t3 _)
    obtain ⟨r1, r2⟩ := reals11 (hp c)
    rw [e0, e2] at o0
    rw [e1, e2] at o1
    exact ⟨o0.trans (k0.uniq (Cert.Reference11Ideal.Own.d_re (num_t3 _) (num_mt _))), o1.trans (k1.uniq (Cert.Reference11Ideal.Own.d_im (num_t3 _) (num_mt _) r1 r2)), a0, a1, a2⟩

end Cert.Proof

end
-- ==== Proof.Ada.lean ====
module

public import proofs.«01_k».proof.Proof.Dia
public import Idealize.ShloMosaic.Lib.Pipeline.Value
public import Idealize.ShloMosaic.Lib.Pipeline.ValueKit
public import Idealize.ShloMosaic.Lib.Pointwise.Index
public import Idealize.ShloMosaic.Lib.Pointwise.Reshape
public import Idealize.ShloMosaic.Lib.Tactic

@[expose] public section

noncomputable section

namespace Cert.Mat

open Idealize.ShloMosaic

/-! ## One step of the optimiser, of one entry -/

/-- The constant of a word. -/
abbrev wd (b : BitVec 32) : EReal := Ideal.ofBits .f32 b
/-- The new first moment. -/
def adM (m g : EReal) : EReal := wd 0x3F666666#32 * m + wd 0x3DCCCCCD#32 * g
/-- The new second moment. -/
def adV (v g : EReal) : EReal := wd 0x3F7FBE77#32 * v + wd 0x3A83126F#32 * (g * g)
/-- What is added to the weight, from the two new moments. -/
def adD (w m v : EReal) : EReal :=
  wd 0xBA83126F#32 * (Ideal.div (Ideal.div m (wd 0x3F26BD02#32)) (Ideal.sqrt (Ideal.div v (wd 0x3C231ACC#32)) + wd 0x322BCC77#32) + wd 0x3C23D70A#32 * w)
theorem adD_congr {w m v w' m' v' : EReal} (a : w = w') (b : m = m') (c : v = v') : adD w m v = adD w' m' v' := a ▸ b ▸ c ▸ rfl

/-! ## A matrix as a stack of one -/

variable {a r c : ℕ}
/-- The place in its matrix of an entry of a stack. -/
def tl (y : (⟨3, ![a, r, c]⟩ : Shape).Idx) : (⟨2, ![r, c]⟩ : Shape).Idx := fun k => y k.succ
theorem dropAt (h : (⟨3, ![1, r, c]⟩ : Shape).ShapeCasts ⟨2, ![r, c]⟩) (w : (⟨3, ![1, r, c]⟩ : Shape).Idx → EReal) (y : (⟨3, ![1, r, c]⟩ : Shape).Idx) :
    shapeCast ⟨2, ![r, c]⟩ w h (tl y) = w y := by
  refine (shapeCast_dropUnit_apply ![r, c] w h _).trans (congrArg w (funext fun k => ?_))
  refine Fin.cases ?_ (fun _ => rfl) k
  have := (y 0).isLt
  refine Fin.ext ?_
  simp at this ⊢
theorem liftAt (h : (⟨2, ![r, c]⟩ : Shape).ShapeCasts ⟨3, ![1, r, c]⟩) (x : (⟨2, ![r, c]⟩ : Shape).Idx → EReal) (y : (⟨3, ![1, r, c]⟩ : Shape).Idx) :
    shapeCast ⟨3, ![1, r, c]⟩ x h y = x (tl y) := shapeCast_addUnit_apply ![r, c] x h y

/-! ## The layer -/

/-- Two matrices in a stack. -/
def layAt (p q : (⟨2, ![r, c]⟩ : Shape).Idx → EReal) (i : (⟨3, ![2, r, c]⟩ : Shape).Idx) : EReal := if (i 0).val = 0 then p (tl i) else q (tl i)
/-- The layer of a number, chosen by whether the number is one. -/
theorem pick {x : BitVec 1} {s : Shape} {p q : s.Idx → EReal} {l n : ℕ} (h : x = if l = 0 then 0#1 else 1#1) (e : n = l) (y : s.Idx) :
    Scalar.select x q p y = if n = 0 then p y else q y := by
  rw [h, e]
  split <;> rfl
/-- The stack as the reference builds it. -/
theorem stackAt (hr : r ≠ 1) (hc : c ≠ 1) (p q : (⟨2, ![r, c]⟩ : Shape).Idx → EReal) (h h' : _) (k : _) :
    concatenate ⟨3, ![2, r, c]⟩ 0 [⟨⟨3, ![1, r, c]⟩, broadcastInDim ⟨3, ![1, r, c]⟩ ![1, 2] h p⟩, ⟨⟨3, ![1, r, c]⟩, broadcastInDim ⟨3, ![1, r, c]⟩ ![1, 2] h' q⟩] k = layAt p q := by
  have P := num_mt p
  have Q := num_mt q
  funext i
  pointwise
  unfold layAt
  by_cases h : (i 0).val < 1
  · rw [dif_pos h, if_pos (by omega)]
    exact ((P _).trans (congrArg₂ (num p) (by simp [Shape.Idx.norm, hr]; rfl) (by simp [Shape.Idx.norm, hc]; rfl))).trans (P (tl i)).symm
  · rw [dif_neg h, if_neg (by omega)]
    exact ((Q _).trans (congrArg₂ (num q) (by simp [Shape.Idx.norm, hr]; rfl) (by simp [Shape.Idx.norm, hc]; rfl))).trans (Q (tl i)).symm

end Cert.Mat

end
-- ==== Proof.O12.lean ====
module

public import proofs.«01_k».proof.Defs
public import proofs.«01_k».proof.Proof.Ada
public import proofs.«01_k».proof.Proof.Gen.Kernel12Ideal.Value
public import proofs.«01_k».proof.Proof.Gen.Reference12Ideal.Run

@[expose] public section

set_option maxRecDepth 16384

noncomputable section

namespace Cert.Kernel12Ideal.Own

open Idealize.ShloMosaic Idealize.ShloMosaic.TcCoe Idealize.ShloMosaic.Tactic
open Cert.Kernel12Ideal.Gen Cert.Mat

/-! The optimiser's call of 704 rows to a layer. -/

theorem sel : ∀ t : Fin cfg0.N, Scalar.cmpi .eq (BitVec.ofNat 32 (grid0.coords t 0).val) 1#32 = if t.val / 4 = 0 then 0#1 else 1#1 :=
  (by decide +kernel : ∀ t : Fin grid0.N, _)
theorem x3 : ∀ t : Fin cfg0.N, win0_0.index t = ![t.val / 4, t.val % 4, 0] := (by decide +kernel : ∀ t : Fin grid0.N, _)

variable (m : (ℓ : Loc nD τ sig) → Buf (Elt Ideal) ℓ) (c : Dev nD)

/-- The gradients, both layers'. -/
def G : S2x704x1024.Idx → EReal := layAt (m ((c : Thread nD τ).loc main_arg1)) (m ((c : Thread nD τ).loc main_arg2))
/-- A block takes its own layer's. -/
theorem grad (t : Fin cfg0.N) (y : S1x176x1024.Idx) : k0_pay5 (grid0.coords t) (iblk m c 1 t) (iblk m c 2 t) (tl y) = G m c (((cfg0.win 0).blk t).view.emb y) := by
  have e : ((((cfg0.win 0).blk t).view.emb y) 0).val = t.val / 4 := by blk_simp [x3]
  exact pick (sel t) e (tl y)
theorem arr5 : ∀ i, (dats m 0 c).arrAt 5 cfg0.N i = G m c i :=
  (dats m 0 c).arrAt_forall_of_covers 5 (fun i (v : EReal) => v = G m c i) (by decide +kernel) fun t _ y => by
    rw [after0_5]
    unfold out0_5
    frame_out
    exact (liftAt shapeCasts_S176x1024_S1x176x1024 _ y).trans (grad m c t y)
theorem arr6 : ∀ i, (dats m 0 c).arrAt 6 cfg0.N i = adD (m ((c : Thread nD τ).loc main_arg0) i) (adM (m ((c : Thread nD τ).loc main_arg3) i) (G m c i)) (adV (m ((c : Thread nD τ).loc main_arg4) i) (G m c i)) :=
  (dats m 0 c).arrAt_forall_of_covers 6 (fun i (v : EReal) => v = adD (m ((c : Thread nD τ).loc main_arg0) i) (adM (m ((c : Thread nD τ).loc main_arg3) i) (G m c i)) (adV (m ((c : Thread nD τ).loc main_arg4) i) (G m c i))) (by decide +kernel) fun t _ y => by
    rw [after0_6]
    unfold out0_6
    frame_out
    exact (liftAt shapeCasts_S176x1024_S1x176x1024 (k0_pay8 (grid0.coords t) (iblk m c 1 t) (iblk m c 2 t) (iblk m c 0 t) (iblk m c 3 t) (iblk m c 4 t)) y).trans (adD_congr (dropAt shapeCasts_S1x176x1024_S176x1024 _ y) (congrArg₂ adM (dropAt shapeCasts_S1x176x1024_S176x1024 _ y) (grad m c t y)) (congrArg₂ adV (dropAt shapeCasts_S1x176x1024_S176x1024 _ y) (grad m c t y)))
theorem arr7 : ∀ i, (dats m 0 c).arrAt 7 cfg0.N i = adM (m ((c : Thread nD τ).loc main_arg3) i) (G m c i) :=
  (dats m 0 c).arrAt_forall_of_covers 7 (fun i (v : EReal) => v = adM (m ((c : Thread nD τ).loc main_arg3) i) (G m c i)) (by decide +kernel) fun t _ y => by
    rw [after0_7]
    unfold out0_7
    frame_out
    exact (liftAt shapeCasts_S176x1024_S1x176x1024 (k0_pay6 (grid0.coords t) (iblk m c 1 t) (iblk m c 2 t) (iblk m c 3 t)) y).trans (congrArg₂ adM (dropAt shapeCasts_S1x176x1024_S176x1024 _ y) (grad m c t y))
theorem arr8 : ∀ i, (dats m 0 c).arrAt 8 cfg0.N i = adV (m ((c : Thread nD τ).loc main_arg4) i) (G m c i) :=
  (dats m 0 c).arrAt_forall_of_covers 8 (fun i (v : EReal) => v = adV (m ((c : Thread nD τ).loc main_arg4) i) (G m c i)) (by decide +kernel) fun t _ y => by
    rw [after0_8]
    unfold out0_8
    frame_out
    exact (liftAt shapeCasts_S176x1024_S1x176x1024 (k0_pay7 (grid0.coords t) (iblk m c 1 t) (iblk m c 2 t) (iblk m c 4 t)) y).trans (congrArg₂ adV (dropAt shapeCasts_S1x176x1024_S176x1024 _ y) (grad m c t y))

end Cert.Kernel12Ideal.Own

namespace Cert.Proof
open Idealize.ShloMosaic Idealize.ShloMosaic.TcCoe Idealize.SL.Sem Cert.Mat Cert.Kernel12Ideal.Own

/-- Over the reals, the optimiser's call of 704 rows to a layer is the reference. -/
theorem value12 : @Cert.algebraic_Kernel12Ideal_Reference12Ideal Cert.Kernel12Ideal.Gen.facts Cert.Reference12Ideal.Gen.facts := by
  intro m g m' g' hp ha
  refine ⟨_, _, _, _, Cert.Kernel12Ideal.Value.run_blocks m g, ?_⟩
  refine (θ_run Cert.Reference12Ideal.defs _ _).mono (fun r h c => ?_) (Cert.Reference12Ideal.Value.run m' g')
  obtain ⟨e0, e1, e2, e3, e4⟩ := ha c
  obtain ⟨o0, o1, o2, o3, a⟩ := h c
  rw [e1, e2] at o0
  rw [e0, e1, e2, e3, e4] at o1
  rw [e1, e2, e3] at o2
  rw [e1, e2, e4] at o3
  have S := stackAt (by decide : 704 ≠ 1) (by decide : 1024 ≠ 1) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))
    Cert.Reference12Ideal.Gen.bcast_S704x1024_S1x704x1024_1_2 Cert.Reference12Ideal.Gen.bcast_S704x1024_S1x704x1024_1_2 Cert.Reference12Ideal.Gen.concatenates_S1x704x1024_S1x704x1024_S2x704x1024_d0
  rw [S] at o0 o1 o2 o3
  exact ⟨o0.trans (funext fun i => (arr5 m c i).symm), o1.trans (funext fun i => (arr6 m c i).symm), o2.trans (funext fun i => (arr7 m c i).symm), o3.trans (funext fun i => (arr8 m c i).symm), a⟩
end Cert.Proof
-- ==== Proof.O13.lean ====
module

public import proofs.«01_k».proof.Defs
public import proofs.«01_k».proof.Proof.Ada
public import proofs.«01_k».proof.Proof.Gen.Kernel13Ideal.Value
public import proofs.«01_k».proof.Proof.Gen.Reference13Ideal.Run

@[expose] public section

set_option maxRecDepth 16384

noncomputable section

namespace Cert.Kernel13Ideal.Own

open Idealize.ShloMosaic Idealize.ShloMosaic.TcCoe Idealize.ShloMosaic.Tactic
open Cert.Kernel13Ideal.Gen Cert.Mat

/-! The optimiser's call of 512 rows to a layer. -/

theorem sel : ∀ t : Fin cfg0.N, Scalar.cmpi .eq (BitVec.ofNat 32 (grid0.coords t 0).val) 1#32 = if t.val / 2 = 0 then 0#1 else 1#1 :=
  (by decide +kernel : ∀ t : Fin grid0.N, _)
theorem x3 : ∀ t : Fin cfg0.N, win0_0.index t = ![t.val / 2, t.val % 2, 0] := (by decide +kernel : ∀ t : Fin grid0.N, _)

variable (m : (ℓ : Loc nD τ sig) → Buf (Elt Ideal) ℓ) (c : Dev nD)

/-- The gradients, both layers'. -/
def G : S2x512x1024.Idx → EReal := layAt (m ((c : Thread nD τ).loc main_arg1)) (m ((c : Thread nD τ).loc main_arg2))
/-- A block takes its own layer's. -/
theorem grad (t : Fin cfg0.N) (y : S1x256x1024.Idx) : k0_pay5 (grid0.coords t) (iblk m c 1 t) (iblk m c 2 t) (tl y) = G m c (((cfg0.win 0).blk t).view.emb y) := by
  have e : ((((cfg0.win 0).blk t).view.emb y) 0).val = t.val / 2 := by blk_simp [x3]
  exact pick (sel t) e (tl y)
theorem arr5 : ∀ i, (dats m 0 c).arrAt 5 cfg0.N i = G m c i :=
  (dats m 0 c).arrAt_forall_of_covers 5 (fun i (v : EReal) => v = G m c i) (by decide +kernel) fun t _ y => by
    rw [after0_5]
    unfold out0_5
    frame_out
    exact (liftAt shapeCasts_S256x1024_S1x256x1024 _ y).trans (grad m c t y)
theorem arr6 : ∀ i, (dats m 0 c).arrAt 6 cfg0.N i = adD (m ((c : Thread nD τ).loc main_arg0) i) (adM (m ((c : Thread nD τ).loc main_arg3) i) (G m c i)) (adV (m ((c : Thread nD τ).loc main_arg4) i) (G m c i)) :=
  (dats m 0 c).arrAt_forall_of_covers 6 (fun i (v : EReal) => v = adD (m ((c : Thread nD τ).loc main_arg0) i) (adM (m ((c : Thread nD τ).loc main_arg3) i) (G m c i)) (adV (m ((c : Thread nD τ).loc main_arg4) i) (G m c i))) (by decide +kernel) fun t _ y => by
    rw [after0_6]
    unfold out0_6
    frame_out
    exact (liftAt shapeCasts_S256x1024_S1x256x1024 (k0_pay8 (grid0.coords t) (iblk m c 1 t) (iblk m c 2 t) (iblk m c 0 t) (iblk m c 3 t) (iblk m c 4 t)) y).trans (adD_congr (dropAt shapeCasts_S1x256x1024_S256x1024 _ y) (congrArg₂ adM (dropAt shapeCasts_S1x256x1024_S256x1024 _ y) (grad m c t y)) (congrArg₂ adV (dropAt shapeCasts_S1x256x1024_S256x1024 _ y) (grad m c t y)))
theorem arr7 : ∀ i, (dats m 0 c).arrAt 7 cfg0.N i = adM (m ((c : Thread nD τ).loc main_arg3) i) (G m c i) :=
  (dats m 0 c).arrAt_forall_of_covers 7 (fun i (v : EReal) => v = adM (m ((c : Thread nD τ).loc main_arg3) i) (G m c i)) (by decide +kernel) fun t _ y => by
    rw [after0_7]
    unfold out0_7
    frame_out
    exact (liftAt shapeCasts_S256x1024_S1x256x1024 (k0_pay6 (grid0.coords t) (iblk m c 1 t) (iblk m c 2 t) (iblk m c 3 t)) y).trans (congrArg₂ adM (dropAt shapeCasts_S1x256x1024_S256x1024 _ y) (grad m c t y))
theorem arr8 : ∀ i, (dats m 0 c).arrAt 8 cfg0.N i = adV (m ((c : Thread nD τ).loc main_arg4) i) (G m c i) :=
  (dats m 0 c).arrAt_forall_of_covers 8 (fun i (v : EReal) => v = adV (m ((c : Thread nD τ).loc main_arg4) i) (G m c i)) (by decide +kernel) fun t _ y => by
    rw [after0_8]
    unfold out0_8
    frame_out
    exact (liftAt shapeCasts_S256x1024_S1x256x1024 (k0_pay7 (grid0.coords t) (iblk m c 1 t) (iblk m c 2 t) (iblk m c 4 t)) y).trans (congrArg₂ adV (dropAt shapeCasts_S1x256x1024_S256x1024 _ y) (grad m c t y))

end Cert.Kernel13Ideal.Own

namespace Cert.Proof
open Idealize.ShloMosaic Idealize.ShloMosaic.TcCoe Idealize.SL.Sem Cert.Mat Cert.Kernel13Ideal.Own

/-- Over the reals, the optimiser's call of 512 rows to a layer is the reference. -/
theorem value13 : @Cert.algebraic_Kernel13Ideal_Reference13Ideal Cert.Kernel13Ideal.Gen.facts Cert.Reference13Ideal.Gen.facts := by
  intro m g m' g' hp ha
  refine ⟨_, _, _, _, Cert.Kernel13Ideal.Value.run_blocks m g, ?_⟩
  refine (θ_run Cert.Reference13Ideal.defs _ _).mono (fun r h c => ?_) (Cert.Reference13Ideal.Value.run m' g')
  obtain ⟨e0, e1, e2, e3, e4⟩ := ha c
  obtain ⟨o0, o1, o2, o3, a⟩ := h c
  rw [e1, e2] at o0
  rw [e0, e1, e2, e3, e4] at o1
  rw [e1, e2, e3] at o2
  rw [e1, e2, e4] at o3
  have S := stackAt (by decide : 512 ≠ 1) (by decide : 1024 ≠ 1) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))
    Cert.Reference13Ideal.Gen.bcast_S512x1024_S1x512x1024_1_2 Cert.Reference13Ideal.Gen.bcast_S512x1024_S1x512x1024_1_2 Cert.Reference13Ideal.Gen.concatenates_S1x512x1024_S1x512x1024_S2x512x1024_d0
  rw [S] at o0 o1 o2 o3
  exact ⟨o0.trans (funext fun i => (arr5 m c i).symm), o1.trans (funext fun i => (arr6 m c i).symm), o2.trans (funext fun i => (arr7 m c i).symm), o3.trans (funext fun i => (arr8 m c i).symm), a⟩
end Cert.Proof
-- ==== Proof.O14.lean ====
module

public import proofs.«01_k».proof.Defs
public import proofs.«01_k».proof.Proof.Ada
public import proofs.«01_k».proof.Proof.Gen.Kernel14Ideal.Value
public import proofs.«01_k».proof.Proof.Gen.Reference14Ideal.Run

@[expose] public section

set_option maxRecDepth 16384

noncomputable section

namespace Cert.Kernel14Ideal.Own

open Idealize.ShloMosaic Idealize.ShloMosaic.TcCoe Idealize.ShloMosaic.Tactic
open Cert.Kernel14Ideal.Gen Cert.Mat

/-! The optimiser's call of 256 rows to a layer. -/

theorem sel : ∀ t : Fin cfg0.N, Scalar.cmpi .eq (BitVec.ofNat 32 (grid0.coords t 0).val) 1#32 = if t.val / 1 = 0 then 0#1 else 1#1 :=
  (by decide +kernel : ∀ t : Fin grid0.N, _)
theorem x3 : ∀ t : Fin cfg0.N, win0_0.index t = ![t.val / 1, 0, 0] := (by decide +kernel : ∀ t : Fin grid0.N, _)

variable (m : (ℓ : Loc nD τ sig) → Buf (Elt Ideal) ℓ) (c : Dev nD)

/-- The gradients, both layers'. -/
def G : S2x256x1024.Idx → EReal := layAt (m ((c : Thread nD τ).loc main_arg1)) (m ((c : Thread nD τ).loc main_arg2))
/-- A block takes its own layer's. -/
theorem grad (t : Fin cfg0.N) (y : S1x256x1024.Idx) : k0_pay5 (grid0.coords t) (iblk m c 1 t) (iblk m c 2 t) (tl y) = G m c (((cfg0.win 0).blk t).view.emb y) := by
  have e : ((((cfg0.win 0).blk t).view.emb y) 0).val = t.val / 1 := by blk_simp [x3]
  exact pick (sel t) e (tl y)
theorem arr5 : ∀ i, (dats m 0 c).arrAt 5 cfg0.N i = G m c i :=
  (dats m 0 c).arrAt_forall_of_covers 5 (fun i (v : EReal) => v = G m c i) (by decide +kernel) fun t _ y => by
    rw [after0_5]
    unfold out0_5
    frame_out
    exact (liftAt shapeCasts_S256x1024_S1x256x1024 _ y).trans (grad m c t y)
theorem arr6 : ∀ i, (dats m 0 c).arrAt 6 cfg0.N i = adD (m ((c : Thread nD τ).loc main_arg0) i) (adM (m ((c : Thread nD τ).loc main_arg3) i) (G m c i)) (adV (m ((c : Thread nD τ).loc main_arg4) i) (G m c i)) :=
  (dats m 0 c).arrAt_forall_of_covers 6 (fun i (v : EReal) => v = adD (m ((c : Thread nD τ).loc main_arg0) i) (adM (m ((c : Thread nD τ).loc main_arg3) i) (G m c i)) (adV (m ((c : Thread nD τ).loc main_arg4) i) (G m c i))) (by decide +kernel) fun t _ y => by
    rw [after0_6]
    unfold out0_6
    frame_out
    exact (liftAt shapeCasts_S256x1024_S1x256x1024 (k0_pay8 (grid0.coords t) (iblk m c 1 t) (iblk m c 2 t) (iblk m c 0 t) (iblk m c 3 t) (iblk m c 4 t)) y).trans (adD_congr (dropAt shapeCasts_S1x256x1024_S256x1024 _ y) (congrArg₂ adM (dropAt shapeCasts_S1x256x1024_S256x1024 _ y) (grad m c t y)) (congrArg₂ adV (dropAt shapeCasts_S1x256x1024_S256x1024 _ y) (grad m c t y)))
theorem arr7 : ∀ i, (dats m 0 c).arrAt 7 cfg0.N i = adM (m ((c : Thread nD τ).loc main_arg3) i) (G m c i) :=
  (dats m 0 c).arrAt_forall_of_covers 7 (fun i (v : EReal) => v = adM (m ((c : Thread nD τ).loc main_arg3) i) (G m c i)) (by decide +kernel) fun t _ y => by
    rw [after0_7]
    unfold out0_7
    frame_out
    exact (liftAt shapeCasts_S256x1024_S1x256x1024 (k0_pay6 (grid0.coords t) (iblk m c 1 t) (iblk m c 2 t) (iblk m c 3 t)) y).trans (congrArg₂ adM (dropAt shapeCasts_S1x256x1024_S256x1024 _ y) (grad m c t y))
theorem arr8 : ∀ i, (dats m 0 c).arrAt 8 cfg0.N i = adV (m ((c : Thread nD τ).loc main_arg4) i) (G m c i) :=
  (dats m 0 c).arrAt_forall_of_covers 8 (fun i (v : EReal) => v = adV (m ((c : Thread nD τ).loc main_arg4) i) (G m c i)) (by decide +kernel) fun t _ y => by
    rw [after0_8]
    unfold out0_8
    frame_out
    exact (liftAt shapeCasts_S256x1024_S1x256x1024 (k0_pay7 (grid0.coords t) (iblk m c 1 t) (iblk m c 2 t) (iblk m c 4 t)) y).trans (congrArg₂ adV (dropAt shapeCasts_S1x256x1024_S256x1024 _ y) (grad m c t y))

end Cert.Kernel14Ideal.Own

namespace Cert.Proof
open Idealize.ShloMosaic Idealize.ShloMosaic.TcCoe Idealize.SL.Sem Cert.Mat Cert.Kernel14Ideal.Own

/-- Over the reals, the optimiser's call of 256 rows to a layer is the reference. -/
theorem value14 : @Cert.algebraic_Kernel14Ideal_Reference14Ideal Cert.Kernel14Ideal.Gen.facts Cert.Reference14Ideal.Gen.facts := by
  intro m g m' g' hp ha
  refine ⟨_, _, _, _, Cert.Kernel14Ideal.Value.run_blocks m g, ?_⟩
  refine (θ_run Cert.Reference14Ideal.defs _ _).mono (fun r h c => ?_) (Cert.Reference14Ideal.Value.run m' g')
  obtain ⟨e0, e1, e2, e3, e4⟩ := ha c
  obtain ⟨o0, o1, o2, o3, a⟩ := h c
  rw [e1, e2] at o0
  rw [e0, e1, e2, e3, e4] at o1
  rw [e1, e2, e3] at o2
  rw [e1, e2, e4] at o3
  have S := stackAt (by decide : 256 ≠ 1) (by decide : 1024 ≠ 1) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))
    Cert.Reference14Ideal.Gen.bcast_S256x1024_S1x256x1024_1_2 Cert.Reference14Ideal.Gen.bcast_S256x1024_S1x256x1024_1_2 Cert.Reference14Ideal.Gen.concatenates_S1x256x1024_S1x256x1024_S2x256x1024_d0
  rw [S] at o0 o1 o2 o3
  exact ⟨o0.trans (funext fun i => (arr5 m c i).symm), o1.trans (funext fun i => (arr6 m c i).symm), o2.trans (funext fun i => (arr7 m c i).symm), o3.trans (funext fun i => (arr8 m c i).symm), a⟩
end Cert.Proof
-- ==== Proof.O15.lean ====
module

public import proofs.«01_k».proof.Defs
public import proofs.«01_k».proof.Proof.Ada
public import proofs.«01_k».proof.Proof.Gen.Kernel15Ideal.Value
public import proofs.«01_k».proof.Proof.Gen.Reference15Ideal.Run

@[expose] public section

set_option maxRecDepth 16384

noncomputable section

namespace Cert.Kernel15Ideal.Own

open Idealize.ShloMosaic Idealize.ShloMosaic.TcCoe Idealize.ShloMosaic.Tactic
open Cert.Kernel15Ideal.Gen Cert.Mat

/-! The optimiser's call of 2056 rows to a layer. -/

theorem sel : ∀ t : Fin cfg0.N, Scalar.cmpi .eq (BitVec.ofNat 32 (grid0.coords t 0).val) 1#32 = if t.val / 8 = 0 then 0#1 else 1#1 :=
  (by decide +kernel : ∀ t : Fin grid0.N, _)
theorem x3 : ∀ t : Fin cfg0.N, win0_0.index t = ![t.val / 8, 0, t.val % 8] := (by decide +kernel : ∀ t : Fin grid0.N, _)

variable (m : (ℓ : Loc nD τ sig) → Buf (Elt Ideal) ℓ) (c : Dev nD)

/-- The gradients, both layers'. -/
def G : S2x2056x1024.Idx → EReal := layAt (m ((c : Thread nD τ).loc main_arg1)) (m ((c : Thread nD τ).loc main_arg2))
/-- A block takes its own layer's. -/
theorem grad (t : Fin cfg0.N) (y : S1x2056x128.Idx) : k0_pay5 (grid0.coords t) (iblk m c 1 t) (iblk m c 2 t) (tl y) = G m c (((cfg0.win 0).blk t).view.emb y) := by
  have e : ((((cfg0.win 0).blk t).view.emb y) 0).val = t.val / 8 := by blk_simp [x3]
  exact pick (sel t) e (tl y)
theorem arr5 : ∀ i, (dats m 0 c).arrAt 5 cfg0.N i = G m c i :=
  (dats m 0 c).arrAt_forall_of_covers 5 (fun i (v : EReal) => v = G m c i) (by decide +kernel) fun t _ y => by
    rw [after0_5]
    unfold out0_5
    frame_out
    exact (liftAt shapeCasts_S2056x128_S1x2056x128 _ y).trans (grad m c t y)
theorem arr6 : ∀ i, (dats m 0 c).arrAt 6 cfg0.N i = adD (m ((c : Thread nD τ).loc main_arg0) i) (adM (m ((c : Thread nD τ).loc main_arg3) i) (G m c i)) (adV (m ((c : Thread nD τ).loc main_arg4) i) (G m c i)) :=
  (dats m 0 c).arrAt_forall_of_covers 6 (fun i (v : EReal) => v = adD (m ((c : Thread nD τ).loc main_arg0) i) (adM (m ((c : Thread nD τ).loc main_arg3) i) (G m c i)) (adV (m ((c : Thread nD τ).loc main_arg4) i) (G m c i))) (by decide +kernel) fun t _ y => by
    rw [after0_6]
    unfold out0_6
    frame_out
    exact (liftAt shapeCasts_S2056x128_S1x2056x128 (k0_pay8 (grid0.coords t) (iblk m c 1 t) (iblk m c 2 t) (iblk m c 0 t) (iblk m c 3 t) (iblk m c 4 t)) y).trans (adD_congr (dropAt shapeCasts_S1x2056x128_S2056x128 _ y) (congrArg₂ adM (dropAt shapeCasts_S1x2056x128_S2056x128 _ y) (grad m c t y)) (congrArg₂ adV (dropAt shapeCasts_S1x2056x128_S2056x128 _ y) (grad m c t y)))
theorem arr7 : ∀ i, (dats m 0 c).arrAt 7 cfg0.N i = adM (m ((c : Thread nD τ).loc main_arg3) i) (G m c i) :=
  (dats m 0 c).arrAt_forall_of_covers 7 (fun i (v : EReal) => v = adM (m ((c : Thread nD τ).loc main_arg3) i) (G m c i)) (by decide +kernel) fun t _ y => by
    rw [after0_7]
    unfold out0_7
    frame_out
    exact (liftAt shapeCasts_S2056x128_S1x2056x128 (k0_pay6 (grid0.coords t) (iblk m c 1 t) (iblk m c 2 t) (iblk m c 3 t)) y).trans (congrArg₂ adM (dropAt shapeCasts_S1x2056x128_S2056x128 _ y) (grad m c t y))
theorem arr8 : ∀ i, (dats m 0 c).arrAt 8 cfg0.N i = adV (m ((c : Thread nD τ).loc main_arg4) i) (G m c i) :=
  (dats m 0 c).arrAt_forall_of_covers 8 (fun i (v : EReal) => v = adV (m ((c : Thread nD τ).loc main_arg4) i) (G m c i)) (by decide +kernel) fun t _ y => by
    rw [after0_8]
    unfold out0_8
    frame_out
    exact (liftAt shapeCasts_S2056x128_S1x2056x128 (k0_pay7 (grid0.coords t) (iblk m c 1 t) (iblk m c 2 t) (iblk m c 4 t)) y).trans (congrArg₂ adV (dropAt shapeCasts_S1x2056x128_S2056x128 _ y) (grad m c t y))

end Cert.Kernel15Ideal.Own

namespace Cert.Proof
open Idealize.ShloMosaic Idealize.ShloMosaic.TcCoe Idealize.SL.Sem Cert.Mat Cert.Kernel15Ideal.Own

/-- Over the reals, the optimiser's call of 2056 rows to a layer is the reference. -/
theorem value15 : @Cert.algebraic_Kernel15Ideal_Reference15Ideal Cert.Kernel15Ideal.Gen.facts Cert.Reference15Ideal.Gen.facts := by
  intro m g m' g' hp ha
  refine ⟨_, _, _, _, Cert.Kernel15Ideal.Value.run_blocks m g, ?_⟩
  refine (θ_run Cert.Reference15Ideal.defs _ _).mono (fun r h c => ?_) (Cert.Reference15Ideal.Value.run m' g')
  obtain ⟨e0, e1, e2, e3, e4⟩ := ha c
  obtain ⟨o0, o1, o2, o3, a⟩ := h c
  rw [e1, e2] at o0
  rw [e0, e1, e2, e3, e4] at o1
  rw [e1, e2, e3] at o2
  rw [e1, e2, e4] at o3
  have S := stackAt (by decide : 2056 ≠ 1) (by decide : 1024 ≠ 1) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))
    Cert.Reference15Ideal.Gen.bcast_S2056x1024_S1x2056x1024_1_2 Cert.Reference15Ideal.Gen.bcast_S2056x1024_S1x2056x1024_1_2 Cert.Reference15Ideal.Gen.concatenates_S1x2056x1024_S1x2056x1024_S2x2056x1024_d0
  rw [S] at o0 o1 o2 o3
  exact ⟨o0.trans (funext fun i => (arr5 m c i).symm), o1.trans (funext fun i => (arr6 m c i).symm), o2.trans (funext fun i => (arr7 m c i).symm), o3.trans (funext fun i => (arr8 m c i).symm), a⟩
end Cert.Proof
-- ==== Proof.O16.lean ====
module

public import proofs.«01_k».proof.Defs
public import proofs.«01_k».proof.Proof.Ada
public import proofs.«01_k».proof.Proof.Gen.Kernel16Ideal.Value
public import proofs.«01_k».proof.Proof.Gen.Reference16Ideal.Run

@[expose] public section

set_option maxRecDepth 16384

noncomputable section

namespace Cert.Kernel16Ideal.Own

open Idealize.ShloMosaic Idealize.ShloMosaic.TcCoe Idealize.ShloMosaic.Tactic
open Cert.Kernel16Ideal.Gen Cert.Mat

variable (m : (ℓ : Loc nD τ sig) → Buf (Elt Ideal) ℓ) (c : Dev nD)

/-! Every entry of the results is the step of the entries at its place. -/

theorem arr4 : ∀ i, (dats m 0 c).arrAt 4 cfg0.N i = adD (m ((c : Thread nD τ).loc main_arg0) i) (adM (m ((c : Thread nD τ).loc main_arg2) i) (m ((c : Thread nD τ).loc main_arg1) i)) (adV (m ((c : Thread nD τ).loc main_arg3) i) (m ((c : Thread nD τ).loc main_arg1) i)) :=
  (dats m 0 c).arrAt_forall_of_covers 4 (fun i (v : EReal) => v = adD (m ((c : Thread nD τ).loc main_arg0) i) (adM (m ((c : Thread nD τ).loc main_arg2) i) (m ((c : Thread nD τ).loc main_arg1) i)) (adV (m ((c : Thread nD τ).loc main_arg3) i) (m ((c : Thread nD τ).loc main_arg1) i))) (by decide +kernel) fun t _ y => by
    rw [after0_4]
    unfold out0_4
    frame_out
    rfl
theorem arr5 : ∀ i, (dats m 0 c).arrAt 5 cfg0.N i = adM (m ((c : Thread nD τ).loc main_arg2) i) (m ((c : Thread nD τ).loc main_arg1) i) :=
  (dats m 0 c).arrAt_forall_of_covers 5 (fun i (v : EReal) => v = adM (m ((c : Thread nD τ).loc main_arg2) i) (m ((c : Thread nD τ).loc main_arg1) i)) (by decide +kernel) fun t _ y => by
    rw [after0_5]
    unfold out0_5
    frame_out
    rfl
theorem arr6 : ∀ i, (dats m 0 c).arrAt 6 cfg0.N i = adV (m ((c : Thread nD τ).loc main_arg3) i) (m ((c : Thread nD τ).loc main_arg1) i) :=
  (dats m 0 c).arrAt_forall_of_covers 6 (fun i (v : EReal) => v = adV (m ((c : Thread nD τ).loc main_arg3) i) (m ((c : Thread nD τ).loc main_arg1) i)) (by decide +kernel) fun t _ y => by
    rw [after0_6]
    unfold out0_6
    frame_out
    rfl

end Cert.Kernel16Ideal.Own

namespace Cert.Proof
open Idealize.ShloMosaic Idealize.ShloMosaic.TcCoe Idealize.SL.Sem Cert.Mat Cert.Kernel16Ideal.Own

/-- Over the reals, the optimiser's call of the packed small weights is the reference. -/
theorem value16 : @Cert.algebraic_Kernel16Ideal_Reference16Ideal Cert.Kernel16Ideal.Gen.facts Cert.Reference16Ideal.Gen.facts := by
  intro m g m' g' hp ha
  refine ⟨_, _, _, Cert.Kernel16Ideal.Value.run_blocks m g, ?_⟩
  refine (θ_run Cert.Reference16Ideal.defs _ _).mono (fun r h c => ?_) (Cert.Reference16Ideal.Value.run m' g')
  obtain ⟨e0, e1, e2, e3⟩ := ha c
  obtain ⟨o0, o1, o2, a⟩ := h c
  rw [e0, e1, e2, e3] at o0
  rw [e1, e2] at o1
  rw [e1, e3] at o2
  exact ⟨o0.trans (funext fun i => (arr4 m c i).symm), o1.trans (funext fun i => (arr5 m c i).symm), o2.trans (funext fun i => (arr6 m c i).symm), a⟩
end Cert.Proof
-- ==== Proof.O17.lean ====
module

public import proofs.«01_k».proof.Defs
public import proofs.«01_k».proof.Proof.Ada
public import proofs.«01_k».proof.Proof.Gen.Kernel17Ideal.Value
public import proofs.«01_k».proof.Proof.Gen.Reference17Ideal.Run

@[expose] public section

set_option maxRecDepth 16384

noncomputable section

namespace Cert.Kernel17Ideal.Own

open Idealize.ShloMosaic Idealize.ShloMosaic.TcCoe Idealize.ShloMosaic.Tactic
open Cert.Kernel17Ideal.Gen Cert.Mat

variable (m : (ℓ : Loc nD τ sig) → Buf (Elt Ideal) ℓ) (c : Dev nD)

/-! Every entry of the results is the step of the entries at its place. -/

theorem arr4 : ∀ i, (dats m 0 c).arrAt 4 cfg0.N i = adD (m ((c : Thread nD τ).loc main_arg0) i) (adM (m ((c : Thread nD τ).loc main_arg2) i) (m ((c : Thread nD τ).loc main_arg1) i)) (adV (m ((c : Thread nD τ).loc main_arg3) i) (m ((c : Thread nD τ).loc main_arg1) i)) :=
  (dats m 0 c).arrAt_forall_of_covers 4 (fun i (v : EReal) => v = adD (m ((c : Thread nD τ).loc main_arg0) i) (adM (m ((c : Thread nD τ).loc main_arg2) i) (m ((c : Thread nD τ).loc main_arg1) i)) (adV (m ((c : Thread nD τ).loc main_arg3) i) (m ((c : Thread nD τ).loc main_arg1) i))) (by decide +kernel) fun t _ y => by
    rw [after0_4]
    unfold out0_4
    frame_out
    rfl
theorem arr5 : ∀ i, (dats m 0 c).arrAt 5 cfg0.N i = adM (m ((c : Thread nD τ).loc main_arg2) i) (m ((c : Thread nD τ).loc main_arg1) i) :=
  (dats m 0 c).arrAt_forall_of_covers 5 (fun i (v : EReal) => v = adM (m ((c : Thread nD τ).loc main_arg2) i) (m ((c : Thread nD τ).loc main_arg1) i)) (by decide +kernel) fun t _ y => by
    rw [after0_5]
    unfold out0_5
    frame_out
    rfl
theorem arr6 : ∀ i, (dats m 0 c).arrAt 6 cfg0.N i = adV (m ((c : Thread nD τ).loc main_arg3) i) (m ((c : Thread nD τ).loc main_arg1) i) :=
  (dats m 0 c).arrAt_forall_of_covers 6 (fun i (v : EReal) => v = adV (m ((c : Thread nD τ).loc main_arg3) i) (m ((c : Thread nD τ).loc main_arg1) i)) (by decide +kernel) fun t _ y => by
    rw [after0_6]
    unfold out0_6
    frame_out
    rfl

end Cert.Kernel17Ideal.Own

namespace Cert.Proof
open Idealize.ShloMosaic Idealize.ShloMosaic.TcCoe Idealize.SL.Sem Cert.Mat Cert.Kernel17Ideal.Own

/-- Over the reals, the optimiser's call of the convolution's weight is the reference. -/
theorem value17 : @Cert.algebraic_Kernel17Ideal_Reference17Ideal Cert.Kernel17Ideal.Gen.facts Cert.Reference17Ideal.Gen.facts := by
  intro m g m' g' hp ha
  refine ⟨_, _, _, Cert.Kernel17Ideal.Value.run_blocks m g, ?_⟩
  refine (θ_run Cert.Reference17Ideal.defs _ _).mono (fun r h c => ?_) (Cert.Reference17Ideal.Value.run m' g')
  obtain ⟨e0, e1, e2, e3⟩ := ha c
  obtain ⟨o0, o1, o2, a⟩ := h c
  rw [e0, e1, e2, e3] at o0
  rw [e1, e2] at o1
  rw [e1, e3] at o2
  exact ⟨o0.trans (funext fun i => (arr4 m c i).symm), o1.trans (funext fun i => (arr5 m c i).symm), o2.trans (funext fun i => (arr6 m c i).symm), a⟩
end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Pre_finite
public import proofs.«01_k».proof.Proof.Gen.Pre_finite2
public import proofs.«01_k».proof.Proof.Gen.Pre_finite10
public import proofs.«01_k».proof.Proof.Gen.Pre_finite11
public import Idealize.ShloMosaic.Adequacy
public import Idealize.ShloMosaic.Init
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Kernel7Ideal.Value
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Kernel12Ideal.Value
public import proofs.«01_k».proof.Proof.Gen.Kernel13Ideal.Value
public import proofs.«01_k».proof.Proof.Gen.Kernel14Ideal.Value
public import proofs.«01_k».proof.Proof.Gen.Kernel15Ideal.Value
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Run
public import proofs.«01_k».proof.Proof.Same
public import proofs.«01_k».proof.Proof.RefRun
public import proofs.«01_k».proof.Proof.Fin
public import proofs.«01_k».proof.Proof.RFin
public import proofs.«01_k».proof.Proof.FFin
public import proofs.«01_k».proof.Proof.XVal
public import proofs.«01_k».proof.Proof.IFin
public import proofs.«01_k».proof.Proof.MFin
public import proofs.«01_k».proof.Proof.GFin
public import proofs.«01_k».proof.Proof.DVal
public import proofs.«01_k».proof.Proof.B8
public import proofs.«01_k».proof.Proof.B9
public import proofs.«01_k».proof.Proof.B10
public import proofs.«01_k».proof.Proof.B11
public import proofs.«01_k».proof.Proof.O12
public import proofs.«01_k».proof.Proof.O13
public import proofs.«01_k».proof.Proof.O14
public import proofs.«01_k».proof.Proof.O15
public import proofs.«01_k».proof.Proof.O16
public import proofs.«01_k».proof.Proof.O17

@[expose] public section

noncomputable section

namespace Cert.Proof

open Idealize.ShloMosaic Idealize.SL.Sem Cert.Kernel

/-- The same as `frame_kernel`, over the reals. -/
theorem frame_ideal : Cert.quiescent_KernelIdeal := fun m ρ _ => Cert.KernelIdeal.Own.frame m ρ

/-- The same of the reference. -/
theorem frame_reference : Cert.quiescent_ReferenceIdeal := fun m ρ _ => Cert.ReferenceIdeal.Own.frame m ρ

/-- Over the reals, and of real arguments, the kernel and the reference end with the same gradients. -/
theorem value : @Cert.algebraic_KernelIdeal_ReferenceIdeal_pre_finite Cert.KernelIdeal.Gen.facts Cert.ReferenceIdeal.Gen.facts Cert.Pre_finite.Gen.facts := by
  intro m g m' g' hp ha
  have hR : ∀ c, Cert.KernelIdeal.Own.Reals m c := fun c =>
    let ⟨h0, h1, h2, h3, h4, h5⟩ := reals (hp c)
    ⟨h0, h1, h2, h3, h4, h5⟩
  refine ⟨fun c => Cert.KernelIdeal.Own.E5 m c (Proc.devRef .tc Cert.KernelIdeal.main_v19), fun c => Cert.KernelIdeal.Own.E5 m c (Proc.devRef .tc Cert.KernelIdeal.main_v22), fun c => Cert.KernelIdeal.Own.E5 m c (Proc.devRef .tc Cert.KernelIdeal.main_v26), fun c => Cert.KernelIdeal.Own.E5 m c (Proc.devRef .tc Cert.KernelIdeal.main_v30), ?_, ?_⟩
  · refine (θ_run Cert.KernelIdeal.defs _ _).mono (fun r h c => ?_) (Cert.KernelIdeal.Own.run m g)
    exact ⟨h.1 c Cert.KernelIdeal.main_v19 (by decide), h.1 c Cert.KernelIdeal.main_v22 (by decide), h.1 c Cert.KernelIdeal.main_v26 (by decide), h.1 c Cert.KernelIdeal.main_v30 (by decide),
      (h.1 c Cert.KernelIdeal.main_arg0 (by decide)).trans (Cert.KernelIdeal.Own.E5_args m c _ (by decide)),
      (h.1 c Cert.KernelIdeal.main_arg1 (by decide)).trans (Cert.KernelIdeal.Own.E5_args m c _ (by decide)),
      (h.1 c Cert.KernelIdeal.main_arg2 (by decide)).trans (Cert.KernelIdeal.Own.E5_args m c _ (by decide)),
      (h.1 c Cert.KernelIdeal.main_arg3 (by decide)).trans (Cert.KernelIdeal.Own.E5_args m c _ (by decide)),
      (h.1 c Cert.KernelIdeal.main_arg4 (by decide)).trans (Cert.KernelIdeal.Own.E5_args m c _ (by decide)),
      (h.1 c Cert.KernelIdeal.main_arg5 (by decide)).trans (Cert.KernelIdeal.Own.E5_args m c _ (by decide))⟩
  · refine (θ_run Cert.ReferenceIdeal.defs _ _).mono (fun r h c => ?_) (Cert.ReferenceIdeal.Own.run m' g')
    obtain ⟨e0, e1, e2, e3, e4, e5⟩ := ha c
    have q := hR c
    have w0 : Cert.ReferenceIdeal.Own.B1 m' c (Proc.devRef .tc Cert.ReferenceIdeal.main_v14_11) = Cert.KernelIdeal.Own.E5 m c (Proc.devRef .tc Cert.KernelIdeal.main_v19) := funext fun i => (Cert.ReferenceIdeal.Own.res0 m' c q.a0 q.a1 q.a2 q.a3 q.a4 q.a5 e0 e1 e2 e3 e4 e5 i).trans (Cert.KernelIdeal.Own.res0 m c q i).symm
    have w1 : Cert.ReferenceIdeal.Own.B1 m' c (Proc.devRef .tc Cert.ReferenceIdeal.main_v14_12) = Cert.KernelIdeal.Own.E5 m c (Proc.devRef .tc Cert.KernelIdeal.main_v22) := funext fun i => (Cert.ReferenceIdeal.Own.res1 m' c q.a0 q.a1 q.a2 q.a3 q.a4 q.a5 e0 e1 e2 e3 e4 e5 i).trans (Cert.KernelIdeal.Own.res1 m c q i).symm
    have w2 : Cert.ReferenceIdeal.Own.B1 m' c (Proc.devRef .tc Cert.ReferenceIdeal.main_v14_7) = Cert.KernelIdeal.Own.E5 m c (Proc.devRef .tc Cert.KernelIdeal.main_v26) := funext fun i => (Cert.ReferenceIdeal.Own.res2 m' c q.a0 q.a1 q.a2 q.a3 q.a4 q.a5 e0 e1 e2 e3 e4 e5 i).trans ((congrArg (fun z : ℂ => ((z.re : ℝ) : EReal)) (Cert.KernelIdeal.Own.Dl_eq _ _ _ _).symm).trans (Cert.KernelIdeal.Own.res2 m c q i).symm)
    have w3 : Cert.ReferenceIdeal.Own.B1 m' c (Proc.devRef .tc Cert.ReferenceIdeal.main_v14_8) = Cert.KernelIdeal.Own.E5 m c (Proc.devRef .tc Cert.KernelIdeal.main_v30) := funext fun i => (Cert.ReferenceIdeal.Own.res3 m' c q.a0 q.a1 q.a2 q.a3 q.a4 q.a5 e0 e1 e2 e3 e4 e5 i).trans ((congrArg (fun z : ℂ => ((z.im : ℝ) : EReal)) (Cert.KernelIdeal.Own.Dl_eq _ _ _ _).symm).trans (Cert.KernelIdeal.Own.res3 m c q i).symm)
    exact ⟨(h.1 c Cert.ReferenceIdeal.main_v14_11 (by decide)).trans w0, (h.1 c Cert.ReferenceIdeal.main_v14_12 (by decide)).trans w1, (h.1 c Cert.ReferenceIdeal.main_v14_7 (by decide)).trans w2, (h.1 c Cert.ReferenceIdeal.main_v14_8 (by decide)).trans w3,
      (h.1 c Cert.ReferenceIdeal.main_arg0 (by decide)).trans (Cert.ReferenceIdeal.Own.B1_arg m' c _ (by decide)),
      (h.1 c Cert.ReferenceIdeal.main_arg1 (by decide)).trans (Cert.ReferenceIdeal.Own.B1_arg m' c _ (by decide)),
      (h.1 c Cert.ReferenceIdeal.main_arg2 (by decide)).trans (Cert.ReferenceIdeal.Own.B1_arg m' c _ (by decide)),
      (h.1 c Cert.ReferenceIdeal.main_arg3 (by decide)).trans (Cert.ReferenceIdeal.Own.B1_arg m' c _ (by decide)),
      (h.1 c Cert.ReferenceIdeal.main_arg4 (by decide)).trans (Cert.ReferenceIdeal.Own.B1_arg m' c _ (by decide)),
      (h.1 c Cert.ReferenceIdeal.main_arg5 (by decide)).trans (Cert.ReferenceIdeal.Own.B1_arg m' c _ (by decide))⟩

/-- The references of straight lines keep their arguments; they have no counters. -/
theorem frame_reference2 : Cert.quiescent_Reference2Ideal := fun m ρ _ =>
  (θ_run Cert.Reference2Ideal.defs _ _).mono (fun r h => ⟨fun c => (h c).2.2.2.2, sem_eq_zero_of_no_sems (by decide) r.2⟩) (Cert.Reference2Ideal.Value.run m ρ)

/-- The same of the reference of the gradient into the normalised rows. -/
theorem frame_reference3 : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

/-- The same of the reference of the input product of the mixer. -/
theorem frame_reference4 : Cert.quiescent_Reference4Ideal := fun m ρ _ =>
  (θ_run Cert.Reference4Ideal.defs _ _).mono (fun r h => ⟨fun c => (h c).2.2, sem_eq_zero_of_no_sems (by decide) r.2⟩) (Cert.Reference4Ideal.Value.run m ρ)

/-- The same of the reference of the merge. -/
theorem frame_reference5 : Cert.quiescent_Reference5Ideal := fun m ρ _ =>
  (θ_run Cert.Reference5Ideal.defs _ _).mono (fun r h => ⟨fun c => (h c).2.2.2.2.2.2.2.2, sem_eq_zero_of_no_sems (by decide) r.2⟩) (Cert.Reference5Ideal.Value.run m ρ)

/-- The same of the reference of the gated linear unit. -/
theorem frame_reference6 : Cert.quiescent_Reference6Ideal := fun m ρ _ =>
  (θ_run Cert.Reference6Ideal.defs _ _).mono (fun r h => ⟨fun c => (h c).2.2.2, sem_eq_zero_of_no_sems (by decide) r.2⟩) (Cert.Reference6Ideal.Value.run m ρ)

/-- The same of the reference of the gradient into the input of the mixer. -/
theorem frame_reference7 : Cert.quiescent_Reference7Ideal := fun m ρ _ =>
  (θ_run Cert.Reference7Ideal.defs _ _).mono (fun r h => ⟨fun c => (h c).2, sem_eq_zero_of_no_sems (by decide) r.2⟩) (Cert.Reference7Ideal.Value.run m ρ)

/-- The same of the reference of the input product of the S5 branch. -/
theorem frame_reference8 : Cert.quiescent_Reference8Ideal := fun m ρ _ =>
  (θ_run Cert.Reference8Ideal.defs _ _).mono (fun r h => ⟨fun c => (h c).2.2.2, sem_eq_zero_of_no_sems (by decide) r.2⟩) (Cert.Reference8Ideal.Value.run m ρ)

/-- The same of the reference of the gradient of its input matrices. -/
theorem frame_reference9 : Cert.quiescent_Reference9Ideal := fun m ρ _ =>
  (θ_run Cert.Reference9Ideal.defs _ _).mono (fun r h => ⟨fun c => (h c).2.2, sem_eq_zero_of_no_sems (by decide) r.2⟩) (Cert.Reference9Ideal.Value.run m ρ)

/-- The same of the reference of the output product of the S5 branch. -/
theorem frame_reference10 : Cert.quiescent_Reference10Ideal := fun m ρ _ =>
  (θ_run Cert.Reference10Ideal.defs _ _).mono (fun r h => ⟨fun c => (h c).2.2.2, sem_eq_zero_of_no_sems (by decide) r.2⟩) (Cert.Reference10Ideal.Value.run m ρ)

/-- The same of the reference of the gradient of its output matrices. -/
theorem frame_reference11 : Cert.quiescent_Reference11Ideal := fun m ρ _ =>
  (θ_run Cert.Reference11Ideal.defs _ _).mono (fun r h => ⟨fun c => (h c).2.2, sem_eq_zero_of_no_sems (by decide) r.2⟩) (Cert.Reference11Ideal.Value.run m ρ)

/-- The same of the references of the optimiser. -/
theorem frame_reference12 : Cert.quiescent_Reference12Ideal := fun m ρ _ =>
  (θ_run Cert.Reference12Ideal.defs _ _).mono (fun r h => ⟨fun c => (h c).2.2.2.2, sem_eq_zero_of_no_sems (by decide) r.2⟩) (Cert.Reference12Ideal.Value.run m ρ)
theorem frame_reference13 : Cert.quiescent_Reference13Ideal := fun m ρ _ =>
  (θ_run Cert.Reference13Ideal.defs _ _).mono (fun r h => ⟨fun c => (h c).2.2.2.2, sem_eq_zero_of_no_sems (by decide) r.2⟩) (Cert.Reference13Ideal.Value.run m ρ)
theorem frame_reference14 : Cert.quiescent_Reference14Ideal := fun m ρ _ =>
  (θ_run Cert.Reference14Ideal.defs _ _).mono (fun r h => ⟨fun c => (h c).2.2.2.2, sem_eq_zero_of_no_sems (by decide) r.2⟩) (Cert.Reference14Ideal.Value.run m ρ)
theorem frame_reference15 : Cert.quiescent_Reference15Ideal := fun m ρ _ =>
  (θ_run Cert.Reference15Ideal.defs _ _).mono (fun r h => ⟨fun c => (h c).2.2.2.2, sem_eq_zero_of_no_sems (by decide) r.2⟩) (Cert.Reference15Ideal.Value.run m ρ)
theorem frame_reference16 : Cert.quiescent_Reference16Ideal := fun m ρ _ =>
  (θ_run Cert.Reference16Ideal.defs _ _).mono (fun r h => ⟨fun c => (h c).2.2.2, sem_eq_zero_of_no_sems (by decide) r.2⟩) (Cert.Reference16Ideal.Value.run m ρ)
theorem frame_reference17 : Cert.quiescent_Reference17Ideal := fun m ρ _ =>
  (θ_run Cert.Reference17Ideal.defs _ _).mono (fun r h => ⟨fun c => (h c).2.2.2, sem_eq_zero_of_no_sems (by decide) r.2⟩) (Cert.Reference17Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Pre_finite.Gen.facts, Cert.Pre_finite2.Gen.facts, Cert.Pre_finite10.Gen.facts, Cert.Pre_finite11.Gen.facts, by
  exact ⟨frame_kernel, frame_ideal, fun m ρ _ => frame_ideal m ρ trivial, frame_reference, fun m ρ _ => frame_reference m ρ trivial,
    fun m ρ _ => Cert.Kernel2.Gen.frame m ρ, fun m ρ _ => Cert.Kernel2Ideal.Gen.frame m ρ, fun m ρ _ => Cert.Kernel2Ideal.Gen.frame m ρ,
    frame_reference2, fun m ρ _ => frame_reference2 m ρ trivial,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, fun m ρ _ => Cert.Kernel10Ideal.Gen.frame m ρ, frame_reference10, fun m ρ _ => frame_reference10 m ρ trivial,
    fun m ρ _ => Cert.Kernel11.Gen.frame m ρ, fun m ρ _ => Cert.Kernel11Ideal.Gen.frame m ρ, fun m ρ _ => Cert.Kernel11Ideal.Gen.frame m ρ, frame_reference11, fun m ρ _ => frame_reference11 m ρ trivial,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    trivial, value, trivial, value2, trivial, value3, trivial, value4, trivial, value5, trivial, value6, trivial, value7,
    trivial, value8, trivial, value9, trivial, value10, trivial, value11, trivial, value12, trivial, value13, trivial, value14, trivial, value15, trivial, value16, trivial, value17⟩⟩

end Cert.Proof

end
